-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_finite4 [hPre_finite4 : Cert.Pre_finite4.Facts] (m : (ℓ : Loc Cert.RouterIdeal.nD Cert.RouterIdeal.τ Cert.RouterIdeal.sig) → Buf (Elt Ideal) ℓ) : Prop :=
  ∀ c : Dev Cert.RouterIdeal.nD,
    (Cert.Pre_finite4.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5)) (m ((c.tc : Thread Cert.RouterIdeal.nD Cert.RouterIdeal.τ).loc Cert.RouterIdeal.main_arg6)) (m ((c.tc : Thread Cert.RouterIdeal.nD Cert.RouterIdeal.τ).loc Cert.RouterIdeal.main_arg7)) (m ((c.tc : Thread Cert.RouterIdeal.nD Cert.RouterIdeal.τ).loc Cert.RouterIdeal.main_arg8))).1 = (fun _ => 1#1)
    ∧ (Cert.Pre_finite4.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5)) (m ((c.tc : Thread Cert.RouterIdeal.nD Cert.RouterIdeal.τ).loc Cert.RouterIdeal.main_arg6)) (m ((c.tc : Thread Cert.RouterIdeal.nD Cert.RouterIdeal.τ).loc Cert.RouterIdeal.main_arg7)) (m ((c.tc : Thread Cert.RouterIdeal.nD Cert.RouterIdeal.τ).loc Cert.RouterIdeal.main_arg8))).2.1 = (fun _ => 1#1)
    ∧ (Cert.Pre_finite4.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5)) (m ((c.tc : Thread Cert.RouterIdeal.nD Cert.RouterIdeal.τ).loc Cert.RouterIdeal.main_arg6)) (m ((c.tc : Thread Cert.RouterIdeal.nD Cert.RouterIdeal.τ).loc Cert.RouterIdeal.main_arg7)) (m ((c.tc : Thread Cert.RouterIdeal.nD Cert.RouterIdeal.τ).loc Cert.RouterIdeal.main_arg8))).2.2.1 = (fun _ => 1#1)
    ∧ (Cert.Pre_finite4.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5)) (m ((c.tc : Thread Cert.RouterIdeal.nD Cert.RouterIdeal.τ).loc Cert.RouterIdeal.main_arg6)) (m ((c.tc : Thread Cert.RouterIdeal.nD Cert.RouterIdeal.τ).loc Cert.RouterIdeal.main_arg7)) (m ((c.tc : Thread Cert.RouterIdeal.nD Cert.RouterIdeal.τ).loc Cert.RouterIdeal.main_arg8))).2.2.2.1 = (fun _ => 1#1)
    ∧ (Cert.Pre_finite4.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5)) (m ((c.tc : Thread Cert.RouterIdeal.nD Cert.RouterIdeal.τ).loc Cert.RouterIdeal.main_arg6)) (m ((c.tc : Thread Cert.RouterIdeal.nD Cert.RouterIdeal.τ).loc Cert.RouterIdeal.main_arg7)) (m ((c.tc : Thread Cert.RouterIdeal.nD Cert.RouterIdeal.τ).loc Cert.RouterIdeal.main_arg8))).2.2.2.2 = (fun _ => 1#1)

def Pre_RouterRefIdeal (m : (ℓ : Loc Cert.RouterRefIdeal.nD Cert.RouterRefIdeal.τ Cert.RouterRefIdeal.sig) → Buf (Elt Ideal) ℓ) : Prop :=
  True

def Pre_RouterRefIdeal_finite4 [hPre_finite4 : Cert.Pre_finite4.Facts] (m : (ℓ : Loc Cert.RouterRefIdeal.nD Cert.RouterRefIdeal.τ Cert.RouterRefIdeal.sig) → Buf (Elt Ideal) ℓ) : Prop :=
  ∀ c : Dev Cert.RouterRefIdeal.nD,
    (Cert.Pre_finite4.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1)) (m ((c.tc : Thread Cert.RouterRefIdeal.nD Cert.RouterRefIdeal.τ).loc Cert.RouterRefIdeal.main_arg2)) (m ((c.tc : Thread Cert.RouterRefIdeal.nD Cert.RouterRefIdeal.τ).loc Cert.RouterRefIdeal.main_arg3)) (m ((c.tc : Thread Cert.RouterRefIdeal.nD Cert.RouterRefIdeal.τ).loc Cert.RouterRefIdeal.main_arg4)) (m ((c.tc : Thread Cert.RouterRefIdeal.nD Cert.RouterRefIdeal.τ).loc Cert.RouterRefIdeal.main_arg5)) (m ((c.tc : Thread Cert.RouterRefIdeal.nD Cert.RouterRefIdeal.τ).loc Cert.RouterRefIdeal.main_arg6)) (m ((c.tc : Thread Cert.RouterRefIdeal.nD Cert.RouterRefIdeal.τ).loc Cert.RouterRefIdeal.main_arg7)) (m ((c.tc : Thread Cert.RouterRefIdeal.nD Cert.RouterRefIdeal.τ).loc Cert.RouterRefIdeal.main_arg8))).1 = (fun _ => 1#1)
    ∧ (Cert.Pre_finite4.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1)) (m ((c.tc : Thread Cert.RouterRefIdeal.nD Cert.RouterRefIdeal.τ).loc Cert.RouterRefIdeal.main_arg2)) (m ((c.tc : Thread Cert.RouterRefIdeal.nD Cert.RouterRefIdeal.τ).loc Cert.RouterRefIdeal.main_arg3)) (m ((c.tc : Thread Cert.RouterRefIdeal.nD Cert.RouterRefIdeal.τ).loc Cert.RouterRefIdeal.main_arg4)) (m ((c.tc : Thread Cert.RouterRefIdeal.nD Cert.RouterRefIdeal.τ).loc Cert.RouterRefIdeal.main_arg5)) (m ((c.tc : Thread Cert.RouterRefIdeal.nD Cert.RouterRefIdeal.τ).loc Cert.RouterRefIdeal.main_arg6)) (m ((c.tc : Thread Cert.RouterRefIdeal.nD Cert.RouterRefIdeal.τ).loc Cert.RouterRefIdeal.main_arg7)) (m ((c.tc : Thread Cert.RouterRefIdeal.nD Cert.RouterRefIdeal.τ).loc Cert.RouterRefIdeal.main_arg8))).2.1 = (fun _ => 1#1)
    ∧ (Cert.Pre_finite4.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1)) (m ((c.tc : Thread Cert.RouterRefIdeal.nD Cert.RouterRefIdeal.τ).loc Cert.RouterRefIdeal.main_arg2)) (m ((c.tc : Thread Cert.RouterRefIdeal.nD Cert.RouterRefIdeal.τ).loc Cert.RouterRefIdeal.main_arg3)) (m ((c.tc : Thread Cert.RouterRefIdeal.nD Cert.RouterRefIdeal.τ).loc Cert.RouterRefIdeal.main_arg4)) (m ((c.tc : Thread Cert.RouterRefIdeal.nD Cert.RouterRefIdeal.τ).loc Cert.RouterRefIdeal.main_arg5)) (m ((c.tc : Thread Cert.RouterRefIdeal.nD Cert.RouterRefIdeal.τ).loc Cert.RouterRefIdeal.main_arg6)) (m ((c.tc : Thread Cert.RouterRefIdeal.nD Cert.RouterRefIdeal.τ).loc Cert.RouterRefIdeal.main_arg7)) (m ((c.tc : Thread Cert.RouterRefIdeal.nD Cert.RouterRefIdeal.τ).loc Cert.RouterRefIdeal.main_arg8))).2.2.1 = (fun _ => 1#1)
    ∧ (Cert.Pre_finite4.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1)) (m ((c.tc : Thread Cert.RouterRefIdeal.nD Cert.RouterRefIdeal.τ).loc Cert.RouterRefIdeal.main_arg2)) (m ((c.tc : Thread Cert.RouterRefIdeal.nD Cert.RouterRefIdeal.τ).loc Cert.RouterRefIdeal.main_arg3)) (m ((c.tc : Thread Cert.RouterRefIdeal.nD Cert.RouterRefIdeal.τ).loc Cert.RouterRefIdeal.main_arg4)) (m ((c.tc : Thread Cert.RouterRefIdeal.nD Cert.RouterRefIdeal.τ).loc Cert.RouterRefIdeal.main_arg5)) (m ((c.tc : Thread Cert.RouterRefIdeal.nD Cert.RouterRefIdeal.τ).loc Cert.RouterRefIdeal.main_arg6)) (m ((c.tc : Thread Cert.RouterRefIdeal.nD Cert.RouterRefIdeal.τ).loc Cert.RouterRefIdeal.main_arg7)) (m ((c.tc : Thread Cert.RouterRefIdeal.nD Cert.RouterRefIdeal.τ).loc Cert.RouterRefIdeal.main_arg8))).2.2.2.1 = (fun _ => 1#1)
    ∧ (Cert.Pre_finite4.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1)) (m ((c.tc : Thread Cert.RouterRefIdeal.nD Cert.RouterRefIdeal.τ).loc Cert.RouterRefIdeal.main_arg2)) (m ((c.tc : Thread Cert.RouterRefIdeal.nD Cert.RouterRefIdeal.τ).loc Cert.RouterRefIdeal.main_arg3)) (m ((c.tc : Thread Cert.RouterRefIdeal.nD Cert.RouterRefIdeal.τ).loc Cert.RouterRefIdeal.main_arg4)) (m ((c.tc : Thread Cert.RouterRefIdeal.nD Cert.RouterRefIdeal.τ).loc Cert.RouterRefIdeal.main_arg5)) (m ((c.tc : Thread Cert.RouterRefIdeal.nD Cert.RouterRefIdeal.τ).loc Cert.RouterRefIdeal.main_arg6)) (m ((c.tc : Thread Cert.RouterRefIdeal.nD Cert.RouterRefIdeal.τ).loc Cert.RouterRefIdeal.main_arg7)) (m ((c.tc : Thread Cert.RouterRefIdeal.nD Cert.RouterRefIdeal.τ).loc Cert.RouterRefIdeal.main_arg8))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3)
      ∧ r.2.mem ((c.tc : Thread Cert.Router.nD Cert.Router.τ).loc Cert.Router.main_arg4) = m ((c.tc : Thread Cert.Router.nD Cert.Router.τ).loc Cert.Router.main_arg4)
      ∧ r.2.mem ((c.tc : Thread Cert.Router.nD Cert.Router.τ).loc Cert.Router.main_arg5) = m ((c.tc : Thread Cert.Router.nD Cert.Router.τ).loc Cert.Router.main_arg5)
      ∧ r.2.mem ((c.tc : Thread Cert.Router.nD Cert.Router.τ).loc Cert.Router.main_arg6) = m ((c.tc : Thread Cert.Router.nD Cert.Router.τ).loc Cert.Router.main_arg6)
      ∧ r.2.mem ((c.tc : Thread Cert.Router.nD Cert.Router.τ).loc Cert.Router.main_arg7) = m ((c.tc : Thread Cert.Router.nD Cert.Router.τ).loc Cert.Router.main_arg7)
      ∧ r.2.mem ((c.tc : Thread Cert.Router.nD Cert.Router.τ).loc Cert.Router.main_arg8) = m ((c.tc : Thread Cert.Router.nD Cert.Router.τ).loc Cert.Router.main_arg8))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5)
      ∧ r.2.mem ((c.tc : Thread Cert.RouterIdeal.nD Cert.RouterIdeal.τ).loc Cert.RouterIdeal.main_arg6) = m ((c.tc : Thread Cert.RouterIdeal.nD Cert.RouterIdeal.τ).loc Cert.RouterIdeal.main_arg6)
      ∧ r.2.mem ((c.tc : Thread Cert.RouterIdeal.nD Cert.RouterIdeal.τ).loc Cert.RouterIdeal.main_arg7) = m ((c.tc : Thread Cert.RouterIdeal.nD Cert.RouterIdeal.τ).loc Cert.RouterIdeal.main_arg7)
      ∧ r.2.mem ((c.tc : Thread Cert.RouterIdeal.nD Cert.RouterIdeal.τ).loc Cert.RouterIdeal.main_arg8) = m ((c.tc : Thread Cert.RouterIdeal.nD Cert.RouterIdeal.τ).loc Cert.RouterIdeal.main_arg8))
      ∧ r.2.sem = fun _ => 0)

def quiescent_RouterIdeal_pre_finite4 [hRouterIdeal : Cert.RouterIdeal.Facts] [hPre_finite4 : Cert.Pre_finite4.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_finite4 m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5)
      ∧ r.2.mem ((c.tc : Thread Cert.RouterIdeal.nD Cert.RouterIdeal.τ).loc Cert.RouterIdeal.main_arg6) = m ((c.tc : Thread Cert.RouterIdeal.nD Cert.RouterIdeal.τ).loc Cert.RouterIdeal.main_arg6)
      ∧ r.2.mem ((c.tc : Thread Cert.RouterIdeal.nD Cert.RouterIdeal.τ).loc Cert.RouterIdeal.main_arg7) = m ((c.tc : Thread Cert.RouterIdeal.nD Cert.RouterIdeal.τ).loc Cert.RouterIdeal.main_arg7)
      ∧ r.2.mem ((c.tc : Thread Cert.RouterIdeal.nD Cert.RouterIdeal.τ).loc Cert.RouterIdeal.main_arg8) = m ((c.tc : Thread Cert.RouterIdeal.nD Cert.RouterIdeal.τ).loc Cert.RouterIdeal.main_arg8))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3)
      ∧ r.2.mem ((c.tc : Thread Cert.RouterRefIdeal.nD Cert.RouterRefIdeal.τ).loc Cert.RouterRefIdeal.main_arg4) = m ((c.tc : Thread Cert.RouterRefIdeal.nD Cert.RouterRefIdeal.τ).loc Cert.RouterRefIdeal.main_arg4)
      ∧ r.2.mem ((c.tc : Thread Cert.RouterRefIdeal.nD Cert.RouterRefIdeal.τ).loc Cert.RouterRefIdeal.main_arg5) = m ((c.tc : Thread Cert.RouterRefIdeal.nD Cert.RouterRefIdeal.τ).loc Cert.RouterRefIdeal.main_arg5)
      ∧ r.2.mem ((c.tc : Thread Cert.RouterRefIdeal.nD Cert.RouterRefIdeal.τ).loc Cert.RouterRefIdeal.main_arg6) = m ((c.tc : Thread Cert.RouterRefIdeal.nD Cert.RouterRefIdeal.τ).loc Cert.RouterRefIdeal.main_arg6)
      ∧ r.2.mem ((c.tc : Thread Cert.RouterRefIdeal.nD Cert.RouterRefIdeal.τ).loc Cert.RouterRefIdeal.main_arg7) = m ((c.tc : Thread Cert.RouterRefIdeal.nD Cert.RouterRefIdeal.τ).loc Cert.RouterRefIdeal.main_arg7)
      ∧ r.2.mem ((c.tc : Thread Cert.RouterRefIdeal.nD Cert.RouterRefIdeal.τ).loc Cert.RouterRefIdeal.main_arg8) = m ((c.tc : Thread Cert.RouterRefIdeal.nD Cert.RouterRefIdeal.τ).loc Cert.RouterRefIdeal.main_arg8))
      ∧ r.2.sem = fun _ => 0)

def quiescent_RouterRefIdeal_pre_finite4 [hRouterRefIdeal : Cert.RouterRefIdeal.Facts] [hPre_finite4 : Cert.Pre_finite4.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal_finite4 m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3)
      ∧ r.2.mem ((c.tc : Thread Cert.RouterRefIdeal.nD Cert.RouterRefIdeal.τ).loc Cert.RouterRefIdeal.main_arg4) = m ((c.tc : Thread Cert.RouterRefIdeal.nD Cert.RouterRefIdeal.τ).loc Cert.RouterRefIdeal.main_arg4)
      ∧ r.2.mem ((c.tc : Thread Cert.RouterRefIdeal.nD Cert.RouterRefIdeal.τ).loc Cert.RouterRefIdeal.main_arg5) = m ((c.tc : Thread Cert.RouterRefIdeal.nD Cert.RouterRefIdeal.τ).loc Cert.RouterRefIdeal.main_arg5)
      ∧ r.2.mem ((c.tc : Thread Cert.RouterRefIdeal.nD Cert.RouterRefIdeal.τ).loc Cert.RouterRefIdeal.main_arg6) = m ((c.tc : Thread Cert.RouterRefIdeal.nD Cert.RouterRefIdeal.τ).loc Cert.RouterRefIdeal.main_arg6)
      ∧ r.2.mem ((c.tc : Thread Cert.RouterRefIdeal.nD Cert.RouterRefIdeal.τ).loc Cert.RouterRefIdeal.main_arg7) = m ((c.tc : Thread Cert.RouterRefIdeal.nD Cert.RouterRefIdeal.τ).loc Cert.RouterRefIdeal.main_arg7)
      ∧ r.2.mem ((c.tc : Thread Cert.RouterRefIdeal.nD Cert.RouterRefIdeal.τ).loc Cert.RouterRefIdeal.main_arg8) = m ((c.tc : Thread Cert.RouterRefIdeal.nD Cert.RouterRefIdeal.τ).loc Cert.RouterRefIdeal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v1_0)) (v1 : (c : Dev Cert.InProjIdeal.nD) → Buf (Elt Ideal) ((c.tc : Thread Cert.InProjIdeal.nD Cert.InProjIdeal.τ).loc Cert.InProjIdeal.main_v1_1)) (v2 : (c : Dev Cert.InProjIdeal.nD) → Buf (Elt Ideal) ((c.tc : Thread Cert.InProjIdeal.nD Cert.InProjIdeal.τ).loc Cert.InProjIdeal.main_v1_2)) (v3 : (c : Dev Cert.InProjIdeal.nD) → Buf (Elt Ideal) ((c.tc : Thread Cert.InProjIdeal.nD Cert.InProjIdeal.τ).loc Cert.InProjIdeal.main_v1_3)) (v4 : (c : Dev Cert.InProjIdeal.nD) → Buf (Elt Ideal) ((c.tc : Thread Cert.InProjIdeal.nD Cert.InProjIdeal.τ).loc Cert.InProjIdeal.main_v1_4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1_0) = v0 c
          ∧ r.2.mem ((c.tc : Thread Cert.InProjIdeal.nD Cert.InProjIdeal.τ).loc Cert.InProjIdeal.main_v1_1) = v1 c
          ∧ r.2.mem ((c.tc : Thread Cert.InProjIdeal.nD Cert.InProjIdeal.τ).loc Cert.InProjIdeal.main_v1_2) = v2 c
          ∧ r.2.mem ((c.tc : Thread Cert.InProjIdeal.nD Cert.InProjIdeal.τ).loc Cert.InProjIdeal.main_v1_3) = v3 c
          ∧ r.2.mem ((c.tc : Thread Cert.InProjIdeal.nD Cert.InProjIdeal.τ).loc Cert.InProjIdeal.main_v1_4) = v4 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v14) = v0 c
          ∧ r.2.mem ((c.tc : Thread Cert.InProjRefIdeal.nD Cert.InProjRefIdeal.τ).loc Cert.InProjRefIdeal.main_v15) = v1 c
          ∧ r.2.mem ((c.tc : Thread Cert.InProjRefIdeal.nD Cert.InProjRefIdeal.τ).loc Cert.InProjRefIdeal.main_v21) = v2 c
          ∧ r.2.mem ((c.tc : Thread Cert.InProjRefIdeal.nD Cert.InProjRefIdeal.τ).loc Cert.InProjRefIdeal.main_v22) = v3 c
          ∧ r.2.mem ((c.tc : Thread Cert.InProjRefIdeal.nD Cert.InProjRefIdeal.τ).loc Cert.InProjRefIdeal.main_v23) = v4 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)
      ∧ m' ((c.tc : Thread Cert.OutProjRefIdeal.nD Cert.OutProjRefIdeal.τ).loc Cert.OutProjRefIdeal.main_arg8) = m ((c.tc : Thread Cert.OutProjIdeal.nD Cert.OutProjIdeal.τ).loc Cert.OutProjIdeal.main_arg8)) →
    ∃ (v0 : (c : Dev Cert.OutProjIdeal.nD) → Buf (Elt Ideal) ((c.tc : Thread Cert.OutProjIdeal.nD Cert.OutProjIdeal.τ).loc Cert.OutProjIdeal.main_v14_0)) (v1 : (c : Dev Cert.OutProjIdeal.nD) → Buf (Elt Ideal) ((c.tc : Thread Cert.OutProjIdeal.nD Cert.OutProjIdeal.τ).loc Cert.OutProjIdeal.main_v14_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v14_0) = v0 c
          ∧ r.2.mem ((c.tc : Thread Cert.OutProjIdeal.nD Cert.OutProjIdeal.τ).loc Cert.OutProjIdeal.main_v14_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v4) = v0 c
          ∧ r.2.mem ((c.tc : Thread Cert.OutProjRefIdeal.nD Cert.OutProjRefIdeal.τ).loc Cert.OutProjRefIdeal.main_v18) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7)
          ∧ r.2.mem ((c.tc : Thread Cert.OutProjRefIdeal.nD Cert.OutProjRefIdeal.τ).loc Cert.OutProjRefIdeal.main_arg8) = m' ((c.tc : Thread Cert.OutProjRefIdeal.nD Cert.OutProjRefIdeal.τ).loc Cert.OutProjRefIdeal.main_arg8))

def preserves_Router_RouterIdeal : Prop :=
  True

def algebraic_RouterIdeal_RouterRefIdeal_pre_finite4 [hRouterIdeal : Cert.RouterIdeal.Facts] [hRouterRefIdeal : Cert.RouterRefIdeal.Facts] [hPre_finite4 : Cert.Pre_finite4.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterIdeal_finite4 m →
    (∀ c : Dev Cert.RouterIdeal.nD,
      m' ((c.tc : Thread Cert.RouterRefIdeal.nD Cert.RouterRefIdeal.τ).loc Cert.RouterRefIdeal.main_arg0) = m ((c.tc : Thread Cert.RouterIdeal.nD Cert.RouterIdeal.τ).loc Cert.RouterIdeal.main_arg0)
      ∧ m' ((c.tc : Thread Cert.RouterRefIdeal.nD Cert.RouterRefIdeal.τ).loc Cert.RouterRefIdeal.main_arg1) = m ((c.tc : Thread Cert.RouterIdeal.nD Cert.RouterIdeal.τ).loc Cert.RouterIdeal.main_arg1)
      ∧ m' ((c.tc : Thread Cert.RouterRefIdeal.nD Cert.RouterRefIdeal.τ).loc Cert.RouterRefIdeal.main_arg2) = m ((c.tc : Thread Cert.RouterIdeal.nD Cert.RouterIdeal.τ).loc Cert.RouterIdeal.main_arg2)
      ∧ m' ((c.tc : Thread Cert.RouterRefIdeal.nD Cert.RouterRefIdeal.τ).loc Cert.RouterRefIdeal.main_arg3) = m ((c.tc : Thread Cert.RouterIdeal.nD Cert.RouterIdeal.τ).loc Cert.RouterIdeal.main_arg3)
      ∧ m' ((c.tc : Thread Cert.RouterRefIdeal.nD Cert.RouterRefIdeal.τ).loc Cert.RouterRefIdeal.main_arg4) = m ((c.tc : Thread Cert.RouterIdeal.nD Cert.RouterIdeal.τ).loc Cert.RouterIdeal.main_arg4)
      ∧ m' ((c.tc : Thread Cert.RouterRefIdeal.nD Cert.RouterRefIdeal.τ).loc Cert.RouterRefIdeal.main_arg5) = m ((c.tc : Thread Cert.RouterIdeal.nD Cert.RouterIdeal.τ).loc Cert.RouterIdeal.main_arg5)
      ∧ m' ((c.tc : Thread Cert.RouterRefIdeal.nD Cert.RouterRefIdeal.τ).loc Cert.RouterRefIdeal.main_arg6) = m ((c.tc : Thread Cert.RouterIdeal.nD Cert.RouterIdeal.τ).loc Cert.RouterIdeal.main_arg6)
      ∧ m' ((c.tc : Thread Cert.RouterRefIdeal.nD Cert.RouterRefIdeal.τ).loc Cert.RouterRefIdeal.main_arg7) = m ((c.tc : Thread Cert.RouterIdeal.nD Cert.RouterIdeal.τ).loc Cert.RouterIdeal.main_arg7)
      ∧ m' ((c.tc : Thread Cert.RouterRefIdeal.nD Cert.RouterRefIdeal.τ).loc Cert.RouterRefIdeal.main_arg8) = m ((c.tc : Thread Cert.RouterIdeal.nD Cert.RouterIdeal.τ).loc Cert.RouterIdeal.main_arg8)) →
    ∃ (v0 : (c : Dev Cert.RouterIdeal.nD) → Buf (Elt Ideal) ((c.tc : Thread Cert.RouterIdeal.nD Cert.RouterIdeal.τ).loc Cert.RouterIdeal.main_v14_2)) (v1 : (c : Dev Cert.RouterIdeal.nD) → Buf (Elt Ideal) ((c.tc : Thread Cert.RouterIdeal.nD Cert.RouterIdeal.τ).loc Cert.RouterIdeal.main_v14_3)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v14_2) = v0 c
          ∧ r.2.mem ((c.tc : Thread Cert.RouterIdeal.nD Cert.RouterIdeal.τ).loc Cert.RouterIdeal.main_v14_3) = v1 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
          ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
          ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5)
          ∧ r.2.mem ((c.tc : Thread Cert.RouterIdeal.nD Cert.RouterIdeal.τ).loc Cert.RouterIdeal.main_arg6) = m ((c.tc : Thread Cert.RouterIdeal.nD Cert.RouterIdeal.τ).loc Cert.RouterIdeal.main_arg6)
          ∧ r.2.mem ((c.tc : Thread Cert.RouterIdeal.nD Cert.RouterIdeal.τ).loc Cert.RouterIdeal.main_arg7) = m ((c.tc : Thread Cert.RouterIdeal.nD Cert.RouterIdeal.τ).loc Cert.RouterIdeal.main_arg7)
          ∧ r.2.mem ((c.tc : Thread Cert.RouterIdeal.nD Cert.RouterIdeal.τ).loc Cert.RouterIdeal.main_arg8) = m ((c.tc : Thread Cert.RouterIdeal.nD Cert.RouterIdeal.τ).loc Cert.RouterIdeal.main_arg8))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          r.2.mem ((c.tc : Thread Cert.RouterRefIdeal.nD Cert.RouterRefIdeal.τ).loc Cert.RouterRefIdeal.main_v62) = v0 c
          ∧ r.2.mem ((c.tc : Thread Cert.RouterRefIdeal.nD Cert.RouterRefIdeal.τ).loc Cert.RouterRefIdeal.main_v63) = v1 c
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1)
          ∧ r.2.mem ((c.tc : Thread Cert.RouterRefIdeal.nD Cert.RouterRefIdeal.τ).loc Cert.RouterRefIdeal.main_arg2) = m' ((c.tc : Thread Cert.RouterRefIdeal.nD Cert.RouterRefIdeal.τ).loc Cert.RouterRefIdeal.main_arg2)
          ∧ r.2.mem ((c.tc : Thread Cert.RouterRefIdeal.nD Cert.RouterRefIdeal.τ).loc Cert.RouterRefIdeal.main_arg3) = m' ((c.tc : Thread Cert.RouterRefIdeal.nD Cert.RouterRefIdeal.τ).loc Cert.RouterRefIdeal.main_arg3)
          ∧ r.2.mem ((c.tc : Thread Cert.RouterRefIdeal.nD Cert.RouterRefIdeal.τ).loc Cert.RouterRefIdeal.main_arg4) = m' ((c.tc : Thread Cert.RouterRefIdeal.nD Cert.RouterRefIdeal.τ).loc Cert.RouterRefIdeal.main_arg4)
          ∧ r.2.mem ((c.tc : Thread Cert.RouterRefIdeal.nD Cert.RouterRefIdeal.τ).loc Cert.RouterRefIdeal.main_arg5) = m' ((c.tc : Thread Cert.RouterRefIdeal.nD Cert.RouterRefIdeal.τ).loc Cert.RouterRefIdeal.main_arg5)
          ∧ r.2.mem ((c.tc : Thread Cert.RouterRefIdeal.nD Cert.RouterRefIdeal.τ).loc Cert.RouterRefIdeal.main_arg6) = m' ((c.tc : Thread Cert.RouterRefIdeal.nD Cert.RouterRefIdeal.τ).loc Cert.RouterRefIdeal.main_arg6)
          ∧ r.2.mem ((c.tc : Thread Cert.RouterRefIdeal.nD Cert.RouterRefIdeal.τ).loc Cert.RouterRefIdeal.main_arg7) = m' ((c.tc : Thread Cert.RouterRefIdeal.nD Cert.RouterRefIdeal.τ).loc Cert.RouterRefIdeal.main_arg7)
          ∧ r.2.mem ((c.tc : Thread Cert.RouterRefIdeal.nD Cert.RouterRefIdeal.τ).loc Cert.RouterRefIdeal.main_arg8) = m' ((c.tc : Thread Cert.RouterRefIdeal.nD Cert.RouterRefIdeal.τ).loc Cert.RouterRefIdeal.main_arg8))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hRouter : Cert.Router.Facts) (hRouterIdeal : Cert.RouterIdeal.Facts) (hRouterRefIdeal : Cert.RouterRefIdeal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Router (hRouter := hRouter)
    ∧ quiescent_RouterIdeal (hRouterIdeal := hRouterIdeal)
    ∧ quiescent_RouterIdeal_pre_finite4 (hRouterIdeal := hRouterIdeal) (hPre_finite4 := hPre_finite4)
    ∧ quiescent_RouterRefIdeal (hRouterRefIdeal := hRouterRefIdeal)
    ∧ quiescent_RouterRefIdeal_pre_finite4 (hRouterRefIdeal := hRouterRefIdeal) (hPre_finite4 := hPre_finite4)
    ∧ preserves_Kernel_KernelIdeal
    ∧ algebraic_KernelIdeal_ReferenceIdeal_pre_finite (hKernelIdeal := hKernelIdeal) (hReferenceIdeal := hReferenceIdeal) (hPre_finite := hPre_finite)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_Router_RouterIdeal
    ∧ algebraic_RouterIdeal_RouterRefIdeal_pre_finite4 (hRouterIdeal := hRouterIdeal) (hRouterRefIdeal := hRouterRefIdeal) (hPre_finite4 := hPre_finite4)
-- ==== Pre_finite.lean ====
abbrev S8192x1024 : Shape := ⟨2, ![8192, 1024]⟩
abbrev S16x257 : Shape := ⟨2, ![16, 257]⟩
abbrev S_ : Shape := ⟨0, ![]⟩

class Facts : Prop where
  bcast_S_S8192x1024 : S_.BroadcastsInDim S8192x1024 (![] : Fin 0 → Fin S8192x1024.rank)
  bcast_S_S16x257 : S_.BroadcastsInDim S16x257 (![] : Fin 0 → Fin S16x257.rank)

variable [Facts]

def fn {F : FTy → Type} [FloatOps F] (main_arg0 : FVec F S8192x1024 .f32) (main_arg1 : FVec F S8192x1024 .f32) (main_arg2 : FVec F S8192x1024 .f32) (main_arg3 : FVec F S16x257 .f32) : IVec S8192x1024 1 × IVec S8192x1024 1 × IVec S16x257 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S16x257 .f32 := Host.absf main_arg3
  let main_cst_1 : FVec F S_ .f32 := constant S_ .f32 0x7F800000#32
  let main_v7 : FVec F S16x257 .f32 := broadcastInDim S16x257 ![] bcast_S_S16x257 main_cst_1
  let main_v8 : IVec S16x257 1 := cmpf .olt main_v6 main_v7
  (main_v2, main_v5, main_v8)
-- ==== Pre_finite4.lean ====
abbrev S8192x2048 : Shape := ⟨2, ![8192, 2048]⟩
abbrev S8192x1024 : Shape := ⟨2, ![8192, 1024]⟩
abbrev S2048x2048 : Shape := ⟨2, ![2048, 2048]⟩
abbrev S2048 : Shape := ⟨1, ![2048]⟩
abbrev S2048x8 : Shape := ⟨2, ![2048, 8]⟩
abbrev S8 : Shape := ⟨1, ![8]⟩
abbrev S2048x64 : Shape := ⟨2, ![2048, 64]⟩
abbrev S64 : Shape := ⟨1, ![64]⟩
abbrev S_ : Shape := ⟨0, ![]⟩

class Facts : Prop where
  bcast_S_S2048 : S_.BroadcastsInDim S2048 (![] : Fin 0 → Fin S2048.rank)
  bcast_S_S2048x8 : S_.BroadcastsInDim S2048x8 (![] : Fin 0 → Fin S2048x8.rank)
  bcast_S_S8 : S_.BroadcastsInDim S8 (![] : Fin 0 → Fin S8.rank)
  bcast_S_S2048x64 : S_.BroadcastsInDim S2048x64 (![] : Fin 0 → Fin S2048x64.rank)
  bcast_S_S64 : S_.BroadcastsInDim S64 (![] : Fin 0 → Fin S64.rank)

variable [Facts]

def fn {F : FTy → Type} [FloatOps F] (main_arg0 : FVec F S8192x2048 .f32) (main_arg1 : FVec F S8192x1024 .bf16) (main_arg2 : FVec F S8192x1024 .bf16) (main_arg3 : FVec F S2048x2048 .f32) (main_arg4 : FVec F S2048 .f32) (main_arg5 : FVec F S2048x8 .f32) (main_arg6 : FVec F S8 .f32) (main_arg7 : FVec F S2048x64 .f32) (main_arg8 : FVec F S64 .f32) : IVec S2048 1 × IVec S2048x8 1 × IVec S8 1 × IVec S2048x64 1 × IVec S64 1 :=
  let main_v0 : FVec F S2048 .f32 := Host.absf main_arg4
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_v3 : FVec F S2048x8 .f32 := Host.absf main_arg5
  let main_cst_0 : FVec F S_ .f32 := constant S_ .f32 0x7F800000#32
  let main_v4 : FVec F S2048x8 .f32 := broadcastInDim S2048x8 ![] bcast_S_S2048x8 main_cst_0
  let main_v5 : IVec S2048x8 1 := cmpf .olt main_v3 main_v4
  let main_v6 : FVec F S8 .f32 := Host.absf main_arg6
  let main_cst_1 : FVec F S_ .f32 := constant S_ .f32 0x7F800000#32
  let main_v7 : FVec F S8 .f32 := broadcastInDim S8 ![] bcast_S_S8 main_cst_1
  let main_v8 : IVec S8 1 := cmpf .olt main_v6 main_v7
  let main_v9 : FVec F S2048x64 .f32 := Host.absf main_arg7
  let main_cst_2 : FVec F S_ .f32 := constant S_ .f32 0x7F800000#32
  let main_v10 : FVec F S2048x64 .f32 := broadcastInDim S2048x64 ![] bcast_S_S2048x64 main_cst_2
  let main_v11 : IVec S2048x64 1 := cmpf .olt main_v9 main_v10
  let main_v12 : FVec F S64 .f32 := Host.absf main_arg8
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  (main_v2, main_v5, main_v8, main_v11, main_v14)
-- ==== Kernel.lean ====
abbrev S8192x1024 : Shape := ⟨2, ![8192, 1024]⟩
abbrev S16x257 : Shape := ⟨2, ![16, 257]⟩
abbrev S_ : Shape := ⟨0, ![]⟩
abbrev S16x1 : Shape := ⟨2, ![16, 1]⟩
abbrev S16x191 : Shape := ⟨2, ![16, 191]⟩
abbrev S16x1x385 : Shape := ⟨3, ![16, 1, 385]⟩
abbrev S16x385 : Shape := ⟨2, ![16, 385]⟩
abbrev S16x1x64 : Shape := ⟨3, ![16, 1, 64]⟩
abbrev S16x64 : Shape := ⟨2, ![16, 64]⟩
abbrev S16x640 : Shape := ⟨2, ![16, 640]⟩
abbrev S16x1x640 : Shape := ⟨3, ![16, 1, 640]⟩
abbrev S2048x128 : Shape := ⟨2, ![2048, 128]⟩
abbrev S8192x128 : Shape := ⟨2, ![8192, 128]⟩
abbrev S2x1x640 : Shape := ⟨3, ![2, 1, 640]⟩
abbrev S2x128x640 : Shape := ⟨3, ![2, 128, 640]⟩
abbrev S32x128x640 : Shape := ⟨3, ![32, 128, 640]⟩
abbrev S8x640 : Shape := ⟨2, ![8, 640]⟩
abbrev S1x1x640 : Shape := ⟨3, ![1, 1, 640]⟩
abbrev S1x640 : Shape := ⟨2, ![1, 640]⟩
abbrev S1x8x640 : Shape := ⟨3, ![1, 8, 640]⟩
abbrev S128x128 : Shape := ⟨2, ![128, 128]⟩
abbrev S256x128 : Shape := ⟨2, ![256, 128]⟩
abbrev S384x128 : Shape := ⟨2, ![384, 128]⟩
abbrev S512x128 : Shape := ⟨2, ![512, 128]⟩
abbrev S640x128 : Shape := ⟨2, ![640, 128]⟩
abbrev S1x128x128 : Shape := ⟨3, ![1, 128, 128]⟩
abbrev S128x256 : Shape := ⟨2, ![128, 256]⟩
abbrev S1x128x256 : Shape := ⟨3, ![1, 128, 256]⟩
abbrev S1x64x128 : Shape := ⟨3, ![1, 64, 128]⟩
abbrev S64x128 : Shape := ⟨2, ![64, 128]⟩
abbrev S64 : Shape := ⟨1, ![64]⟩
abbrev S64x1 : Shape := ⟨2, ![64, 1]⟩
abbrev S128x1 : Shape := ⟨2, ![128, 1]⟩
abbrev S128x384 : Shape := ⟨2, ![128, 384]⟩
abbrev S1x128x384 : Shape := ⟨3, ![1, 128, 384]⟩
abbrev S1x64x256 : Shape := ⟨3, ![1, 64, 256]⟩
abbrev S64x256 : Shape := ⟨2, ![64, 256]⟩
abbrev S128x512 : Shape := ⟨2, ![128, 512]⟩
abbrev S1x128x512 : Shape := ⟨3, ![1, 128, 512]⟩
abbrev S1x64x384 : Shape := ⟨3, ![1, 64, 384]⟩
abbrev S64x384 : Shape := ⟨2, ![64, 384]⟩
abbrev S128x640 : Shape := ⟨2, ![128, 640]⟩
abbrev S1x128x640 : Shape := ⟨3, ![1, 128, 640]⟩
abbrev S1x64x512 : Shape := ⟨3, ![1, 64, 512]⟩
abbrev S64x512 : Shape := ⟨2, ![64, 512]⟩
abbrev S1x64x640 : Shape := ⟨3, ![1, 64, 640]⟩
abbrev S64x640 : Shape := ⟨2, ![64, 640]⟩

abbrev nBuf : Space → Nat
  | .hbm => 20
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S16x257, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .bf16⟩
  | .hbm, ⟨8, _⟩ => ⟨S8192x1024, .bf16⟩
  | .hbm, ⟨9, _⟩ => ⟨S8192x1024, .bf16⟩
  | .hbm, ⟨10, _⟩ => ⟨S16x1, .f32⟩
  | .hbm, ⟨11, _⟩ => ⟨S16x191, .f32⟩
  | .hbm, ⟨12, _⟩ => ⟨S16x191, .f32⟩
  | .hbm, ⟨13, _⟩ => ⟨S16x1x385, .f32⟩
  | .hbm, ⟨14, _⟩ => ⟨S16x385, .f32⟩
  | .hbm, ⟨15, _⟩ => ⟨S16x1x64, .f32⟩
  | .hbm, ⟨16, _⟩ => ⟨S16x64, .f32⟩
  | .hbm, ⟨17, _⟩ => ⟨S16x640, .f32⟩
  | .hbm, ⟨18, _⟩ => ⟨S16x1x640, .f32⟩
  | .hbm, ⟨19, _⟩ => ⟨S8192x1024, .bf16⟩
  | .local _ .vmem, ⟨0, _⟩ => ⟨S2048x128, .bf16⟩
  | .local _ .vmem, ⟨1, _⟩ => ⟨S2048x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S2x1x640, .f32⟩
  | .local _ .vmem, ⟨7, _⟩ => ⟨S2x1x640, .f32⟩
  | .local _ .vmem, ⟨8, _⟩ => ⟨S2048x128, .bf16⟩
  | .local _ .vmem, ⟨9, _⟩ => ⟨S2048x128, .bf16⟩
  | .local _ .vmem, ⟨10, _⟩ => ⟨S2x128x640, .f32⟩
  | .local _ .vmem, ⟨11, _⟩ => ⟨S32x128x640, .f32⟩
  | .local _ .vmem, ⟨12, _⟩ => ⟨S32x128x640, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c0_i32_3 : BitVec 32 := 0#32
  let v6 : BitVec 1 := Scalar.cmpi .sgt arg1 c0_i32_3
  let v7 : BitVec 32 := Scalar.extui v6
  let c0_i32_4 : BitVec 32 := 0#32
  let v8 : BitVec 1 := Scalar.cmpi .ne v7 c0_i32_4
  v8

def k0_mult1 (i : grid0.Coords) : BitVec 32 :=
  let arg1 : BitVec 32 := BitVec.ofNat 32 (i 1).val
  let c16_i32 : BitVec 32 := 16#32
  let v9 : BitVec 32 := Scalar.muli arg1 c16_i32
  let c0_i32_5 : BitVec 32 := 0#32
  let v10 : BitVec 32 := Scalar.addi v9 c0_i32_5
  let c128_i32 : BitVec 32 := 128#32
  let v11 : BitVec 32 := Scalar.muli v10 c128_i32
  let c512_i32 : BitVec 32 := 512#32
  let v12 : BitVec 32 := Scalar.subi v11 c512_i32
  v12
def k0_off1 (i : grid0.Coords) (c0_i32_5 : BitVec 32) : Fin 2 → Nat :=
  let arg1 : BitVec 32 := BitVec.ofNat 32 (i 1).val
  let c16_i32 : BitVec 32 := 16#32
  let v9 : BitVec 32 := Scalar.muli arg1 c16_i32
  let v10 : BitVec 32 := Scalar.addi v9 c0_i32_5
  let c128_i32 : BitVec 32 := 128#32
  let v11 : BitVec 32 := Scalar.muli v10 c128_i32
  let c512_i32 : BitVec 32 := 512#32
  let v12 : BitVec 32 := Scalar.subi v11 c512_i32
  let v13 : BitVec 32 := v12
  let v14 : Index := Scalar.indexCast v13
  let c0 : Index := 0#32
  ![v14.toNat, 0]
def k0_mult2 (i : grid0.Coords) : BitVec 32 :=
  let arg1 : BitVec 32 := BitVec.ofNat 32 (i 1).val
  let c16_i32_7 : BitVec 32 := 16#32
  let v20 : BitVec 32 := Scalar.muli arg1 c16_i32_7
  let c1_i32 : BitVec 32 := 1#32
  let v21 : BitVec 32 := Scalar.addi v20 c1_i32
  let c128_i32_8 : BitVec 32 := 128#32
  let v22 : BitVec 32 := Scalar.muli v21 c128_i32_8
  let c512_i32_9 : BitVec 32 := 512#32
  let v23 : BitVec 32 := Scalar.subi v22 c512_i32_9
  v23
def k0_mult3 (i : grid0.Coords) : BitVec 32 :=
  let arg1 : BitVec 32 := BitVec.ofNat 32 (i 1).val
  let c16_i32_12 : BitVec 32 := 16#32
  let v31 : BitVec 32 := Scalar.muli arg1 c16_i32_12
  let c2_i32 : BitVec 32 := 2#32
  let v32 : BitVec 32 := Scalar.addi v31 c2_i32
  let c128_i32_13 : BitVec 32 := 128#32
  let v33 : BitVec 32 := Scalar.muli v32 c128_i32_13
  let c512_i32_14 : BitVec 32 := 512#32
  let v34 : BitVec 32 := Scalar.subi v33 c512_i32_14
  v34
def k0_mult4 (i : grid0.Coords) : BitVec 32 :=
  let arg1 : BitVec 32 := BitVec.ofNat 32 (i 1).val
  let c16_i32_17 : BitVec 32 := 16#32
  let v42 : BitVec 32 := Scalar.muli arg1 c16_i32_17
  let c3_i32 : BitVec 32 := 3#32
  let v43 : BitVec 32 := Scalar.addi v42 c3_i32
  let c128_i32_18 : BitVec 32 := 128#32
  let v44 : BitVec 32 := Scalar.muli v43 c128_i32_18
  let c512_i32_19 : BitVec 32 := 512#32
  let v45 : BitVec 32 := Scalar.subi v44 c512_i32_19
  v45
def k0_mult5 (i : grid0.Coords) : BitVec 32 :=
  let arg1 : BitVec 32 := BitVec.ofNat 32 (i 1).val
  let c16_i32_22 : BitVec 32 := 16#32
  let v53 : BitVec 32 := Scalar.muli arg1 c16_i32_22
  let c4_i32 : BitVec 32 := 4#32
  let v54 : BitVec 32 := Scalar.addi v53 c4_i32
  let c128_i32_23 : BitVec 32 := 128#32
  let v55 : BitVec 32 := Scalar.muli v54 c128_i32_23
  let c512_i32_24 : BitVec 32 := 512#32
  let v56 : BitVec 32 := Scalar.subi v55 c512_i32_24
  v56
def k0_mult6 (i : grid0.Coords) : BitVec 32 :=
  let arg1 : BitVec 32 := BitVec.ofNat 32 (i 1).val
  let c16_i32_27 : BitVec 32 := 16#32
  let v64 : BitVec 32 := Scalar.muli arg1 c16_i32_27
  let c5_i32 : BitVec 32 := 5#32
  let v65 : BitVec 32 := Scalar.addi v64 c5_i32
  let c128_i32_28 : BitVec 32 := 128#32
  let v66 : BitVec 32 := Scalar.muli v65 c128_i32_28
  let c512_i32_29 : BitVec 32 := 512#32
  let v67 : BitVec 32 := Scalar.subi v66 c512_i32_29
  v67
def k0_mult7 (i : grid0.Coords) : BitVec 32 :=
  let arg1 : BitVec 32 := BitVec.ofNat 32 (i 1).val
  let c16_i32_32 : BitVec 32 := 16#32
  let v75 : BitVec 32 := Scalar.muli arg1 c16_i32_32
  let c6_i32 : BitVec 32 := 6#32
  let v76 : BitVec 32 := Scalar.addi v75 c6_i32
  let c128_i32_33 : BitVec 32 := 128#32
  let v77 : BitVec 32 := Scalar.muli v76 c128_i32_33
  let c512_i32_34 : BitVec 32 := 512#32
  let v78 : BitVec 32 := Scalar.subi v77 c512_i32_34
  v78
def k0_mult8 (i : grid0.Coords) : BitVec 32 :=
  let arg1 : BitVec 32 := BitVec.ofNat 32 (i 1).val
  let c16_i32_37 : BitVec 32 := 16#32
  let v86 : BitVec 32 := Scalar.muli arg1 c16_i32_37
  let c7_i32 : BitVec 32 := 7#32
  let v87 : BitVec 32 := Scalar.addi v86 c7_i32
  let c128_i32_38 : BitVec 32 := 128#32
  let v88 : BitVec 32 := Scalar.muli v87 c128_i32_38
  let c512_i32_39 : BitVec 32 := 512#32
  let v89 : BitVec 32 := Scalar.subi v88 c512_i32_39
  v89
def k0_mult9 (i : grid0.Coords) : BitVec 32 :=
  let arg1 : BitVec 32 := BitVec.ofNat 32 (i 1).val
  let c16_i32_42 : BitVec 32 := 16#32
  let v97 : BitVec 32 := Scalar.muli arg1 c16_i32_42
  let c8_i32 : BitVec 32 := 8#32
  let v98 : BitVec 32 := Scalar.addi v97 c8_i32
  let c128_i32_43 : BitVec 32 := 128#32
  let v99 : BitVec 32 := Scalar.muli v98 c128_i32_43
  let c512_i32_44 : BitVec 32 := 512#32
  let v100 : BitVec 32 := Scalar.subi v99 c512_i32_44
  v100
def k0_mult10 (i : grid0.Coords) : BitVec 32 :=
  let arg1 : BitVec 32 := BitVec.ofNat 32 (i 1).val
  let c16_i32_47 : BitVec 32 := 16#32
  let v108 : BitVec 32 := Scalar.muli arg1 c16_i32_47
  let c9_i32 : BitVec 32 := 9#32
  let v109 : BitVec 32 := Scalar.addi v108 c9_i32
  let c128_i32_48 : BitVec 32 := 128#32
  let v110 : BitVec 32 := Scalar.muli v109 c128_i32_48
  let c512_i32_49 : BitVec 32 := 512#32
  let v111 : BitVec 32 := Scalar.subi v110 c512_i32_49
  v111
def k0_mult11 (i : grid0.Coords) : BitVec 32 :=
  let arg1 : BitVec 32 := BitVec.ofNat 32 (i 1).val
  let c16_i32_52 : BitVec 32 := 16#32
  let v119 : BitVec 32 := Scalar.muli arg1 c16_i32_52
  let c10_i32 : BitVec 32 := 10#32
  let v120 : BitVec 32 := Scalar.addi v119 c10_i32
  let c128_i32_53 : BitVec 32 := 128#32
  let v121 : BitVec 32 := Scalar.muli v120 c128_i32_53
  let c512_i32_54 : BitVec 32 := 512#32
  let v122 : BitVec 32 := Scalar.subi v121 c512_i32_54
  v122
def k0_mult12 (i : grid0.Coords) : BitVec 32 :=
  let arg1 : BitVec 32 := BitVec.ofNat 32 (i 1).val
  let c16_i32_57 : BitVec 32 := 16#32
  let v130 : BitVec 32 := Scalar.muli arg1 c16_i32_57
  let c11_i32 : BitVec 32 := 11#32
  let v131 : BitVec 32 := Scalar.addi v130 c11_i32
  let c128_i32_58 : BitVec 32 := 128#32
  let v132 : BitVec 32 := Scalar.muli v131 c128_i32_58
  let c512_i32_59 : BitVec 32 := 512#32
  let v133 : BitVec 32 := Scalar.subi v132 c512_i32_59
  v133
def k0_mult13 (i : grid0.Coords) : BitVec 32 :=
  let arg1 : BitVec 32 := BitVec.ofNat 32 (i 1).val
  let c16_i32_62 : BitVec 32 := 16#32
  let v141 : BitVec 32 := Scalar.muli arg1 c16_i32_62
  let c12_i32 : BitVec 32 := 12#32
  let v142 : BitVec 32 := Scalar.addi v141 c12_i32
  let c128_i32_63 : BitVec 32 := 128#32
  let v143 : BitVec 32 := Scalar.muli v142 c128_i32_63
  let c512_i32_64 : BitVec 32 := 512#32
  let v144 : BitVec 32 := Scalar.subi v143 c512_i32_64
  v144
def k0_mult14 (i : grid0.Coords) : BitVec 32 :=
  let arg1 : BitVec 32 := BitVec.ofNat 32 (i 1).val
  let c16_i32_67 : BitVec 32 := 16#32
  let v152 : BitVec 32 := Scalar.muli arg1 c16_i32_67
  let c13_i32 : BitVec 32 := 13#32
  let v153 : BitVec 32 := Scalar.addi v152 c13_i32
  let c128_i32_68 : BitVec 32 := 128#32
  let v154 : BitVec 32 := Scalar.muli v153 c128_i32_68
  let c512_i32_69 : BitVec 32 := 512#32
  let v155 : BitVec 32 := Scalar.subi v154 c512_i32_69
  v155
def k0_mult15 (i : grid0.Coords) : BitVec 32 :=
  let arg1 : BitVec 32 := BitVec.ofNat 32 (i 1).val
  let c16_i32_72 : BitVec 32 := 16#32
  let v163 : BitVec 32 := Scalar.muli arg1 c16_i32_72
  let c14_i32 : BitVec 32 := 14#32
  let v164 : BitVec 32 := Scalar.addi v163 c14_i32
  let c128_i32_73 : BitVec 32 := 128#32
  let v165 : BitVec 32 := Scalar.muli v164 c128_i32_73
  let c512_i32_74 : BitVec 32 := 512#32
  let v166 : BitVec 32 := Scalar.subi v165 c512_i32_74
  v166
def k0_mult16 (i : grid0.Coords) : BitVec 32 :=
  let arg1 : BitVec 32 := BitVec.ofNat 32 (i 1).val
  let c16_i32_77 : BitVec 32 := 16#32
  let v174 : BitVec 32 := Scalar.muli arg1 c16_i32_77
  let c15_i32 : BitVec 32 := 15#32
  let v175 : BitVec 32 := Scalar.addi v174 c15_i32
  let c128_i32_78 : BitVec 32 := 128#32
  let v176 : BitVec 32 := Scalar.muli v175 c128_i32_78
  let c512_i32_79 : BitVec 32 := 512#32
  let v177 : BitVec 32 := Scalar.subi v176 c512_i32_79
  v177
def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x1024 : Shape := ⟨2, ![8192, 1024]⟩
abbrev S16x257 : Shape := ⟨2, ![16, 257]⟩
abbrev S1x128x64x16x64 : Shape := ⟨5, ![1, 128, 64, 16, 64]⟩
abbrev S1x8192x16x64 : Shape := ⟨4, ![1, 8192, 16, 64]⟩
abbrev S_ : Shape := ⟨0, ![]⟩
abbrev S1x8704x16x64 : Shape := ⟨4, ![1, 8704, 16, 64]⟩
abbrev S1x136x64x16x64 : Shape := ⟨5, ![1, 136, 64, 16, 64]⟩
abbrev S1x128x576x16x64 : Shape := ⟨5, ![1, 128, 576, 16, 64]⟩
abbrev S1x128x16x64x576 : Shape := ⟨5, ![1, 128, 16, 64, 576]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S128 : Shape := ⟨1, ![128]⟩
abbrev S128x1 : Shape := ⟨2, ![128, 1]⟩
abbrev S128x576 : Shape := ⟨2, ![128, 576]⟩
abbrev S1x128x1x1x576 : Shape := ⟨5, ![1, 128, 1, 1, 576]⟩
abbrev S1x1x16x64x576 : Shape := ⟨5, ![1, 1, 16, 64, 576]⟩
abbrev S1x128x16x64 : Shape := ⟨4, ![1, 128, 16, 64]⟩
abbrev S1x128x16x64x1 : Shape := ⟨5, ![1, 128, 16, 64, 1]⟩
abbrev S1x128x16x64x64 : Shape := ⟨5, ![1, 128, 16, 64, 64]⟩

abbrev nBuf : Space → Nat
  | .hbm => 112
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S16x257, .f32⟩
  | .hbm, ⟨4, _⟩ => ⟨S1x128x64x16x64, .f32⟩
  | .hbm, ⟨5, _⟩ => ⟨S1x8192x16x64, .f32⟩
  | .hbm, ⟨6, _⟩ => ⟨S_, .i32⟩
  | .hbm, ⟨7, _⟩ => ⟨S_, .f32⟩
  | .hbm, ⟨8, _⟩ => ⟨S1x8704x16x64, .f32⟩
  | .hbm, ⟨9, _⟩ => ⟨S1x136x64x16x64, .f32⟩
  | .hbm, ⟨10, _⟩ => ⟨S1x128x64x16x64, .f32⟩
  | .hbm, ⟨11, _⟩ => ⟨S1x128x64x16x64, .f32⟩
  | .hbm, ⟨12, _⟩ => ⟨S1x128x64x16x64, .f32⟩
  | .hbm, ⟨13, _⟩ => ⟨S1x128x64x16x64, .f32⟩
  | .hbm, ⟨14, _⟩ => ⟨S1x128x64x16x64, .f32⟩
  | .hbm, ⟨15, _⟩ => ⟨S1x128x64x16x64, .f32⟩
  | .hbm, ⟨16, _⟩ => ⟨S1x128x64x16x64, .f32⟩
  | .hbm, ⟨17, _⟩ => ⟨S1x128x64x16x64, .f32⟩
  | .hbm, ⟨18, _⟩ => ⟨S1x128x64x16x64, .f32⟩
  | .hbm, ⟨19, _⟩ => ⟨S1x128x576x16x64, .f32⟩
  | .hbm, ⟨20, _⟩ => ⟨S1x8192x16x64, .f32⟩
  | .hbm, ⟨21, _⟩ => ⟨S_, .i32⟩
  | .hbm, ⟨22, _⟩ => ⟨S_, .f32⟩
  | .hbm, ⟨23, _⟩ => ⟨S1x8704x16x64, .f32⟩
  | .hbm, ⟨24, _⟩ => ⟨S1x136x64x16x64, .f32⟩
  | .hbm, ⟨25, _⟩ => ⟨S1x128x64x16x64, .f32⟩
  | .hbm, ⟨26, _⟩ => ⟨S1x128x64x16x64, .f32⟩
  | .hbm, ⟨27, _⟩ => ⟨S1x128x64x16x64, .f32⟩
  | .hbm, ⟨28, _⟩ => ⟨S1x128x64x16x64, .f32⟩
  | .hbm, ⟨29, _⟩ => ⟨S1x128x64x16x64, .f32⟩
  | .hbm, ⟨30, _⟩ => ⟨S1x128x64x16x64, .f32⟩
  | .hbm, ⟨31, _⟩ => ⟨S1x128x64x16x64, .f32⟩
  | .hbm, ⟨32, _⟩ => ⟨S1x128x64x16x64, .f32⟩
  | .hbm, ⟨33, _⟩ => ⟨S1x128x64x16x64, .f32⟩
  | .hbm, ⟨34, _⟩ => ⟨S1x128x576x16x64, .f32⟩
  | .hbm, ⟨35, _⟩ => ⟨S1x128x16x64x576, .f32⟩
  | .hbm, ⟨36, _⟩ => ⟨S_, .f32⟩
  | .hbm, ⟨37, _⟩ => ⟨S1x128x16x64x576, .f32⟩
  | .hbm, ⟨38, _⟩ => ⟨S1x128x16x64x576, .f32⟩
  | .hbm, ⟨39, _⟩ => ⟨S64, .i32⟩
  | .hbm, ⟨40, _⟩ => ⟨S64x1, .i32⟩
  | .hbm, ⟨41, _⟩ => ⟨S576, .i32⟩
  | .hbm, ⟨42, _⟩ => ⟨S1x576, .i32⟩
  | .hbm, ⟨43, _⟩ => ⟨S_, .i32⟩
  | .hbm, ⟨44, _⟩ => ⟨S64x1, .i32⟩
  | .hbm, ⟨45, _⟩ => ⟨S64x1, .i32⟩
  | .hbm, ⟨46, _⟩ => ⟨S64x576, .i32⟩
  | .hbm, ⟨47, _⟩ => ⟨S64x576, .i32⟩
  | .hbm, ⟨48, _⟩ => ⟨S64x576, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S64x576, .i32⟩
  | .hbm, ⟨53, _⟩ => ⟨S64x576, .i32⟩
  | .hbm, ⟨54, _⟩ => ⟨S_, .i32⟩
  | .hbm, ⟨55, _⟩ => ⟨S64x576, .i32⟩
  | .hbm, ⟨56, _⟩ => ⟨S64x576, .i32⟩
  | .hbm, ⟨57, _⟩ => ⟨S_, .i32⟩
  | .hbm, ⟨58, _⟩ => ⟨S64x576, .i32⟩
  | .hbm, ⟨59, _⟩ => ⟨S64x576, .i32⟩
  | .hbm, ⟨60, _⟩ => ⟨S_, .i32⟩
  | .hbm, ⟨61, _⟩ => ⟨S64x576, .i32⟩
  | .hbm, ⟨62, _⟩ => ⟨S64x576, .i1⟩
  | .hbm, ⟨63, _⟩ => ⟨S_, .i32⟩
  | .hbm, ⟨64, _⟩ => ⟨S64x576, .i32⟩
  | .hbm, ⟨65, _⟩ => ⟨S64x576, .i32⟩
  | .hbm, ⟨66, _⟩ => ⟨S64x576, .i32⟩
  | .hbm, ⟨67, _⟩ => ⟨S64x576x1, .i32⟩
  | .hbm, ⟨68, _⟩ => ⟨S16x64x576, .f32⟩
  | .hbm, ⟨69, _⟩ => ⟨S128, .i32⟩
  | .hbm, ⟨70, _⟩ => ⟨S128x1, .i32⟩
  | .hbm, ⟨71, _⟩ => ⟨S_, .i32⟩
  | .hbm, ⟨72, _⟩ => ⟨S128x1, .i32⟩
  | .hbm, ⟨73, _⟩ => ⟨S128x1, .i32⟩
  | .hbm, ⟨74, _⟩ => ⟨S_, .i32⟩
  | .hbm, ⟨75, _⟩ => ⟨S128x1, .i32⟩
  | .hbm, ⟨76, _⟩ => ⟨S128x1, .i32⟩
  | .hbm, ⟨77, _⟩ => ⟨S576, .i32⟩
  | .hbm, ⟨78, _⟩ => ⟨S1x576, .i32⟩
  | .hbm, ⟨79, _⟩ => ⟨S128x576, .i32⟩
  | .hbm, ⟨80, _⟩ => ⟨S128x576, .i32⟩
  | .hbm, ⟨81, _⟩ => ⟨S128x576, .i32⟩
  | .hbm, ⟨82, _⟩ => ⟨S_, .i32⟩
  | .hbm, ⟨83, _⟩ => ⟨S128x576, .i32⟩
  | .hbm, ⟨84, _⟩ => ⟨S128x576, .i1⟩
  | .hbm, ⟨85, _⟩ => ⟨S1x128x1x1x576, .i1⟩
  | .hbm, ⟨86, _⟩ => ⟨S1x1x16x64x576, .f32⟩
  | .hbm, ⟨87, _⟩ => ⟨S1x128x16x64x576, .f32⟩
  | .hbm, ⟨88, _⟩ => ⟨S1x128x16x64x576, .f32⟩
  | .hbm, ⟨89, _⟩ => ⟨S_, .f32⟩
  | .hbm, ⟨90, _⟩ => ⟨S_, .f32⟩
  | .hbm, ⟨91, _⟩ => ⟨S1x128x16x64x576, .i1⟩
  | .hbm, ⟨92, _⟩ => ⟨S1x128x16x64x576, .f32⟩
  | .hbm, ⟨93, _⟩ => ⟨S1x128x16x64x576, .f32⟩
  | .hbm, ⟨94, _⟩ => ⟨S_, .f32⟩
  | .hbm, ⟨95, _⟩ => ⟨S1x128x16x64, .f32⟩
  | .hbm, ⟨96, _⟩ => ⟨S_, .f32⟩
  | .hbm, ⟨97, _⟩ => ⟨S1x128x16x64, .f32⟩
  | .hbm, ⟨98, _⟩ => ⟨S1x128x16x64, .f32⟩
  | .hbm, ⟨99, _⟩ => ⟨S1x128x16x64x1, .f32⟩
  | .hbm, ⟨100, _⟩ => ⟨S1x128x16x64x576, .f32⟩
  | .hbm, ⟨101, _⟩ => ⟨S1x128x16x64x576, .f32⟩
  | .hbm, ⟨102, _⟩ => ⟨S1x128x16x64x576, .f32⟩
  | .hbm, ⟨103, _⟩ => ⟨S_, .f32⟩
  | .hbm, ⟨104, _⟩ => ⟨S1x128x16x64, .f32⟩
  | .hbm, ⟨105, _⟩ => ⟨S1x128x16x64x1, .f32⟩
  | .hbm, ⟨106, _⟩ => ⟨S1x128x16x64x576, .f32⟩
  | .hbm, ⟨107, _⟩ => ⟨S1x128x16x64x576, .f32⟩
  | .hbm, ⟨108, _⟩ => ⟨S1x128x16x64x64, .f32⟩
  | .hbm, ⟨109, _⟩ => ⟨S1x128x64x16x64, .f32⟩
  | .hbm, ⟨110, _⟩ => ⟨S8192x1024, .f32⟩
  | .hbm, ⟨111, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_call1_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c_1 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c_2 : Ref sig .tc := ⟨.hbm, 49, rfl⟩
abbrev main_c_3 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_v39 : Ref sig .tc := ⟨.hbm, 56, rfl⟩
abbrev main_c_4 : Ref sig .tc := ⟨.hbm, 57, rfl⟩
abbrev main_v40 : Ref sig .tc := ⟨.hbm, 58, rfl⟩
abbrev main_v41 : Ref sig .tc := ⟨.hbm, 59, rfl⟩
abbrev main_c_5 : Ref sig .tc := ⟨.hbm, 60, rfl⟩
abbrev main_v42 : Ref sig .tc := ⟨.hbm, 61, rfl⟩
abbrev main_v43 : Ref sig .tc := ⟨.hbm, 62, rfl⟩
abbrev main_c_6 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_7 : Ref sig .tc := ⟨.hbm, 71, rfl⟩
abbrev main_v51 : Ref sig .tc := ⟨.hbm, 72, rfl⟩
abbrev main_v52 : Ref sig .tc := ⟨.hbm, 73, rfl⟩
abbrev main_c_8 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_9 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_10 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v66 : Ref sig .tc := ⟨.hbm, 93, rfl⟩
abbrev main_cst_11 : Ref sig .tc := ⟨.hbm, 94, rfl⟩
abbrev main_v67 : Ref sig .tc := ⟨.hbm, 95, rfl⟩
abbrev main_cst_12 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_13 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩

abbrev nD : Nat := 1
abbrev τ : Topo := Topo.v7x

variable {F : FTy → Type} [FloatOps F]
-- ==== InProj.lean ====
abbrev S8192x2048 : Shape := ⟨2, ![8192, 2048]⟩
abbrev S2048 : Shape := ⟨1, ![2048]⟩
abbrev S2048x5120 : Shape := ⟨2, ![2048, 5120]⟩
abbrev S1x2048 : Shape := ⟨2, ![1, 2048]⟩
abbrev S8192x1024 : Shape := ⟨2, ![8192, 1024]⟩
abbrev S256x2048 : Shape := ⟨2, ![256, 2048]⟩
abbrev S256x1024 : Shape := ⟨2, ![256, 1024]⟩
abbrev S2x2048x512 : Shape := ⟨3, ![2, 2048, 512]⟩
abbrev S2 : Shape := ⟨1, ![2]⟩
abbrev S1 : Shape := ⟨1, ![1]⟩
abbrev S_ : Shape := ⟨0, ![]⟩
abbrev S1x2048x512 : Shape := ⟨3, ![1, 2048, 512]⟩
abbrev S2048x512 : Shape := ⟨2, ![2048, 512]⟩
abbrev S256 : Shape := ⟨1, ![256]⟩
abbrev S256x1 : Shape := ⟨2, ![256, 1]⟩
abbrev S2048x1024 : Shape := ⟨2, ![2048, 1024]⟩

abbrev nBuf : Space → Nat
  | .hbm => 9
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5120, .f32⟩
  | .hbm, ⟨3, _⟩ => ⟨S1x2048, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S8192x1024, .bf16⟩
  | .hbm, ⟨8, _⟩ => ⟨S8192x1024, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S2048x5120, .bf16⟩
  | .local _ .vmem, ⟨14, _⟩ => ⟨S2x2048x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InProjRefIdeal.lean ====
abbrev S8192x2048 : Shape := ⟨2, ![8192, 2048]⟩
abbrev S2048 : Shape := ⟨1, ![2048]⟩
abbrev S2048x5120 : Shape := ⟨2, ![2048, 5120]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x5120 : Shape := ⟨2, ![8192, 5120]⟩
abbrev S8192x1024 : Shape := ⟨2, ![8192, 1024]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5120, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x5120, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .bf16⟩
  | .hbm, ⟨29, _⟩ => ⟨S8192x1024, .bf16⟩
  | .hbm, ⟨30, _⟩ => ⟨S8192x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== OutProj.lean ====
abbrev S8192x2048 : Shape := ⟨2, ![8192, 2048]⟩
abbrev S8192x1024 : Shape := ⟨2, ![8192, 1024]⟩
abbrev S2048x2048 : Shape := ⟨2, ![2048, 2048]⟩
abbrev S2048 : Shape := ⟨1, ![2048]⟩
abbrev S2048x8 : Shape := ⟨2, ![2048, 8]⟩
abbrev S8 : Shape := ⟨1, ![8]⟩
abbrev S2048x64 : Shape := ⟨2, ![2048, 64]⟩
abbrev S64 : Shape := ⟨1, ![64]⟩
abbrev S2048x72 : Shape := ⟨2, ![2048, 72]⟩
abbrev S_ : Shape := ⟨0, ![]⟩
abbrev S2048x128 : Shape := ⟨2, ![2048, 128]⟩
abbrev S2048x256 : Shape := ⟨2, ![2048, 256]⟩
abbrev S128x1 : Shape := ⟨2, ![128, 1]⟩
abbrev S72 : Shape := ⟨1, ![72]⟩
abbrev S1 : Shape := ⟨1, ![1]⟩
abbrev S2 : Shape := ⟨1, ![2]⟩
abbrev S1x2048 : Shape := ⟨2, ![1, 2048]⟩
abbrev S131072x128 : Shape := ⟨2, ![131072, 128]⟩
abbrev S2x8192 : Shape := ⟨2, ![2, 8192]⟩
abbrev S8192x128 : Shape := ⟨2, ![8192, 128]⟩
abbrev S512x2048 : Shape := ⟨2, ![512, 2048]⟩
abbrev S512x1024 : Shape := ⟨2, ![512, 1024]⟩
abbrev S2x512 : Shape := ⟨2, ![2, 512]⟩
abbrev S512x128 : Shape := ⟨2, ![512, 128]⟩
abbrev S2x2048x512 : Shape := ⟨3, ![2, 2048, 512]⟩
abbrev S1x2048x512 : Shape := ⟨3, ![1, 2048, 512]⟩
abbrev S2048x512 : Shape := ⟨2, ![2048, 512]⟩
abbrev S1024x2048 : Shape := ⟨2, ![1024, 2048]⟩
abbrev S512 : Shape := ⟨1, ![512]⟩
abbrev S512x1 : Shape := ⟨2, ![512, 1]⟩
abbrev S512x256 : Shape := ⟨2, ![512, 256]⟩
abbrev S128x512 : Shape := ⟨2, ![128, 512]⟩
abbrev S8x512 : Shape := ⟨2, ![8, 512]⟩
abbrev S1x512 : Shape := ⟨2, ![1, 512]⟩

abbrev nBuf : Space → Nat
  | .hbm => 32
  | .vmem => 19
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S2048x2048, .f32⟩
  | .hbm, ⟨4, _⟩ => ⟨S2048, .f32⟩
  | .hbm, ⟨5, _⟩ => ⟨S2048x8, .f32⟩
  | .hbm, ⟨6, _⟩ => ⟨S8, .f32⟩
  | .hbm, ⟨7, _⟩ => ⟨S2048x64, .f32⟩
  | .hbm, ⟨8, _⟩ => ⟨S64, .f32⟩
  | .hbm, ⟨9, _⟩ => ⟨S2048x72, .f32⟩
  | .hbm, ⟨10, _⟩ => ⟨S_, .i32⟩
  | .hbm, ⟨11, _⟩ => ⟨S_, .f32⟩
  | .hbm, ⟨12, _⟩ => ⟨S2048x128, .f32⟩
  | .hbm, ⟨13, _⟩ => ⟨S2048x128, .bf16⟩
  | .hbm, ⟨14, _⟩ => ⟨S2048x128, .f32⟩
  | .hbm, ⟨15, _⟩ => ⟨S2048x128, .f32⟩
  | .hbm, ⟨16, _⟩ => ⟨S2048x128, .bf16⟩
  | .hbm, ⟨17, _⟩ => ⟨S2048x256, .bf16⟩
  | .hbm, ⟨18, _⟩ => ⟨S_, .f32⟩
  | .hbm, ⟨19, _⟩ => ⟨S128x1, .f32⟩
  | .hbm, ⟨20, _⟩ => ⟨S72, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S128x1, .f32⟩
  | .hbm, ⟨27, _⟩ => ⟨S1x2048, .f32⟩
  | .hbm, ⟨28, _⟩ => ⟨S8192x2048, .f32⟩
  | .hbm, ⟨29, _⟩ => ⟨S131072x128, .f32⟩
  | .hbm, ⟨30, _⟩ => ⟨S2x8192, .i32⟩
  | .hbm, ⟨31, _⟩ => ⟨S8192x128, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x2048, .f32⟩
  | .local _ .vmem, ⟨7, _⟩ => ⟨S2048x256, .bf16⟩
  | .local _ .vmem, ⟨8, _⟩ => ⟨S128x1, .f32⟩
  | .local _ .vmem, ⟨9, _⟩ => ⟨S512x2048, .f32⟩
  | .local _ .vmem, ⟨10, _⟩ => ⟨S512x2048, .f32⟩
  | .local _ .vmem, ⟨11, _⟩ => ⟨S8192x128, .f32⟩
  | .local _ .vmem, ⟨12, _⟩ => ⟨S8192x128, .f32⟩
  | .local _ .vmem, ⟨13, _⟩ => ⟨S2x512, .i32⟩
  | .local _ .vmem, ⟨14, _⟩ => ⟨S2x512, .i32⟩
  | .local _ .vmem, ⟨15, _⟩ => ⟨S512x128, .f32⟩
  | .local _ .vmem, ⟨16, _⟩ => ⟨S512x128, .f32⟩
  | .local _ .vmem, ⟨17, _⟩ => ⟨S2048x2048, .bf16⟩
  | .local _ .vmem, ⟨18, _⟩ => ⟨S2x2048x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_c_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14_0 : Ref sig .tc := ⟨.hbm, 28, rfl⟩
abbrev main_v14_1 : Ref sig .tc := ⟨.hbm, 29, rfl⟩
abbrev main_v14_2 : Ref sig .tc := ⟨.hbm, 30, rfl⟩
abbrev main_v14_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x512 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutProjRefIdeal.lean ====
abbrev S8192x2048 : Shape := ⟨2, ![8192, 2048]⟩
abbrev S8192x1024 : Shape := ⟨2, ![8192, 1024]⟩
abbrev S2048x2048 : Shape := ⟨2, ![2048, 2048]⟩
abbrev S2048 : Shape := ⟨1, ![2048]⟩
abbrev S2048x8 : Shape := ⟨2, ![2048, 8]⟩
abbrev S8 : Shape := ⟨1, ![8]⟩
abbrev S2048x64 : Shape := ⟨2, ![2048, 64]⟩
abbrev S64 : Shape := ⟨1, ![64]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S131072x128 : Shape := ⟨2, ![131072, 128]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S2048x2048, .f32⟩
  | .hbm, ⟨4, _⟩ => ⟨S2048, .f32⟩
  | .hbm, ⟨5, _⟩ => ⟨S2048x8, .f32⟩
  | .hbm, ⟨6, _⟩ => ⟨S8, .f32⟩
  | .hbm, ⟨7, _⟩ => ⟨S2048x64, .f32⟩
  | .hbm, ⟨8, _⟩ => ⟨S64, .f32⟩
  | .hbm, ⟨9, _⟩ => ⟨S8192x1024, .f32⟩
  | .hbm, ⟨10, _⟩ => ⟨S8192x1024, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x2048, .f32⟩
  | .hbm, ⟨26, _⟩ => ⟨S8192x2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S131072x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]
-- ==== Router.lean ====
abbrev S8192x2048 : Shape := ⟨2, ![8192, 2048]⟩
abbrev S8192x1024 : Shape := ⟨2, ![8192, 1024]⟩
abbrev S2048x2048 : Shape := ⟨2, ![2048, 2048]⟩
abbrev S2048 : Shape := ⟨1, ![2048]⟩
abbrev S2048x8 : Shape := ⟨2, ![2048, 8]⟩
abbrev S8 : Shape := ⟨1, ![8]⟩
abbrev S2048x64 : Shape := ⟨2, ![2048, 64]⟩
abbrev S64 : Shape := ⟨1, ![64]⟩
abbrev S2048x72 : Shape := ⟨2, ![2048, 72]⟩
abbrev S_ : Shape := ⟨0, ![]⟩
abbrev S2048x128 : Shape := ⟨2, ![2048, 128]⟩
abbrev S2048x256 : Shape := ⟨2, ![2048, 256]⟩
abbrev S128x1 : Shape := ⟨2, ![128, 1]⟩
abbrev S72 : Shape := ⟨1, ![72]⟩
abbrev S1 : Shape := ⟨1, ![1]⟩
abbrev S2 : Shape := ⟨1, ![2]⟩
abbrev S1x2048 : Shape := ⟨2, ![1, 2048]⟩
abbrev S131072x128 : Shape := ⟨2, ![131072, 128]⟩
abbrev S2x8192 : Shape := ⟨2, ![2, 8192]⟩
abbrev S8192x128 : Shape := ⟨2, ![8192, 128]⟩
abbrev S512x2048 : Shape := ⟨2, ![512, 2048]⟩
abbrev S512x1024 : Shape := ⟨2, ![512, 1024]⟩
abbrev S2x512 : Shape := ⟨2, ![2, 512]⟩
abbrev S512x128 : Shape := ⟨2, ![512, 128]⟩
abbrev S2x2048x512 : Shape := ⟨3, ![2, 2048, 512]⟩
abbrev S1x2048x512 : Shape := ⟨3, ![1, 2048, 512]⟩
abbrev S2048x512 : Shape := ⟨2, ![2048, 512]⟩
abbrev S1024x2048 : Shape := ⟨2, ![1024, 2048]⟩
abbrev S512 : Shape := ⟨1, ![512]⟩
abbrev S512x1 : Shape := ⟨2, ![512, 1]⟩
abbrev S512x256 : Shape := ⟨2, ![512, 256]⟩
abbrev S128x512 : Shape := ⟨2, ![128, 512]⟩
abbrev S8x512 : Shape := ⟨2, ![8, 512]⟩
abbrev S1x512 : Shape := ⟨2, ![1, 512]⟩

abbrev nBuf : Space → Nat
  | .hbm => 32
  | .vmem => 19
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S2048x2048, .f32⟩
  | .hbm, ⟨4, _⟩ => ⟨S2048, .f32⟩
  | .hbm, ⟨5, _⟩ => ⟨S2048x8, .f32⟩
  | .hbm, ⟨6, _⟩ => ⟨S8, .f32⟩
  | .hbm, ⟨7, _⟩ => ⟨S2048x64, .f32⟩
  | .hbm, ⟨8, _⟩ => ⟨S64, .f32⟩
  | .hbm, ⟨9, _⟩ => ⟨S2048x72, .f32⟩
  | .hbm, ⟨10, _⟩ => ⟨S_, .i32⟩
  | .hbm, ⟨11, _⟩ => ⟨S_, .f32⟩
  | .hbm, ⟨12, _⟩ => ⟨S2048x128, .f32⟩
  | .hbm, ⟨13, _⟩ => ⟨S2048x128, .bf16⟩
  | .hbm, ⟨14, _⟩ => ⟨S2048x128, .f32⟩
  | .hbm, ⟨15, _⟩ => ⟨S2048x128, .f32⟩
  | .hbm, ⟨16, _⟩ => ⟨S2048x128, .bf16⟩
  | .hbm, ⟨17, _⟩ => ⟨S2048x256, .bf16⟩
  | .hbm, ⟨18, _⟩ => ⟨S_, .f32⟩
  | .hbm, ⟨19, _⟩ => ⟨S128x1, .f32⟩
  | .hbm, ⟨20, _⟩ => ⟨S72, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S128x1, .f32⟩
  | .hbm, ⟨27, _⟩ => ⟨S1x2048, .f32⟩
  | .hbm, ⟨28, _⟩ => ⟨S8192x2048, .f32⟩
  | .hbm, ⟨29, _⟩ => ⟨S131072x128, .f32⟩
  | .hbm, ⟨30, _⟩ => ⟨S2x8192, .i32⟩
  | .hbm, ⟨31, _⟩ => ⟨S8192x128, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x2048, .f32⟩
  | .local _ .vmem, ⟨7, _⟩ => ⟨S2048x256, .bf16⟩
  | .local _ .vmem, ⟨8, _⟩ => ⟨S128x1, .f32⟩
  | .local _ .vmem, ⟨9, _⟩ => ⟨S512x2048, .f32⟩
  | .local _ .vmem, ⟨10, _⟩ => ⟨S512x2048, .f32⟩
  | .local _ .vmem, ⟨11, _⟩ => ⟨S8192x128, .f32⟩
  | .local _ .vmem, ⟨12, _⟩ => ⟨S8192x128, .f32⟩
  | .local _ .vmem, ⟨13, _⟩ => ⟨S2x512, .i32⟩
  | .local _ .vmem, ⟨14, _⟩ => ⟨S2x512, .i32⟩
  | .local _ .vmem, ⟨15, _⟩ => ⟨S512x128, .f32⟩
  | .local _ .vmem, ⟨16, _⟩ => ⟨S512x128, .f32⟩
  | .local _ .vmem, ⟨17, _⟩ => ⟨S2048x2048, .bf16⟩
  | .local _ .vmem, ⟨18, _⟩ => ⟨S2x2048x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_c_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14_0 : Ref sig .tc := ⟨.hbm, 28, rfl⟩
abbrev main_v14_1 : Ref sig .tc := ⟨.hbm, 29, rfl⟩
abbrev main_v14_2 : Ref sig .tc := ⟨.hbm, 30, rfl⟩
abbrev main_v14_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x512 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RouterRefIdeal.lean ====
abbrev S8192x2048 : Shape := ⟨2, ![8192, 2048]⟩
abbrev S8192x1024 : Shape := ⟨2, ![8192, 1024]⟩
abbrev S2048x2048 : Shape := ⟨2, ![2048, 2048]⟩
abbrev S2048 : Shape := ⟨1, ![2048]⟩
abbrev S2048x8 : Shape := ⟨2, ![2048, 8]⟩
abbrev S8 : Shape := ⟨1, ![8]⟩
abbrev S2048x64 : Shape := ⟨2, ![2048, 64]⟩
abbrev S64 : Shape := ⟨1, ![64]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x8 : Shape := ⟨2, ![8192, 8]⟩
abbrev S1x8 : Shape := ⟨2, ![1, 8]⟩
abbrev S8192x1x1 : Shape := ⟨3, ![8192, 1, 1]⟩
abbrev S1 : Shape := ⟨1, ![1]⟩
abbrev S1x1x1 : Shape := ⟨3, ![1, 1, 1]⟩
abbrev S8192x64 : Shape := ⟨2, ![8192, 64]⟩
abbrev S1x64 : Shape := ⟨2, ![1, 64]⟩
abbrev S8192x8x8 : Shape := ⟨3, ![8192, 8, 8]⟩
abbrev S8192x1x8 : Shape := ⟨3, ![8192, 1, 8]⟩
abbrev S8192x2 : Shape := ⟨2, ![8192, 2]⟩
abbrev S2x8192 : Shape := ⟨2, ![2, 8192]⟩
abbrev S8192x128 : Shape := ⟨2, ![8192, 128]⟩

abbrev nBuf : Space → Nat
  | .hbm => 131
  | .vmem => 0
  | .smem => 0
  | _ => 0

abbrev hbmTy0_0 (i : Nat) : BufTy := match i % 128 with
  | 0 => ⟨S8192x2048, .f32⟩
  | 1 => ⟨S8192x1024, .bf16⟩
  | 2 => ⟨S8192x1024, .bf16⟩
  | 3 => ⟨S2048x2048, .f32⟩
  | 4 => ⟨S2048, .f32⟩
  | 5 => ⟨S2048x8, .f32⟩
  | 6 => ⟨S8, .f32⟩
  | 7 => ⟨S2048x64, .f32⟩
  | 8 => ⟨S64, .f32⟩
  | 9 => ⟨S8192x1024, .f32⟩
  | 10 => ⟨S8192x1024, .f32⟩
  | 11 => ⟨S8192x2048, .f32⟩
  | 12 => ⟨S8192x2048, .f32⟩
  | 13 => ⟨S8192x2048, .f32⟩
  | 14 => ⟨S8192x2048, .f32⟩
  | 15 => ⟨S_, .f32⟩
  | 16 => ⟨S8192, .f32⟩
  | 17 => ⟨S8192x1, .f32⟩
  | 18 => ⟨S_, .f32⟩
  | 19 => ⟨S8192x1, .f32⟩
  | 20 => ⟨S8192x1, .f32⟩
  | 21 => ⟨S_, .f32⟩
  | 22 => ⟨S8192x1, .f32⟩
  | 23 => ⟨S8192x1, .f32⟩
  | 24 => ⟨S8192x1, .f32⟩
  | 25 => ⟨S8192x2048, .f32⟩
  | 26 => ⟨S8192x2048, .f32⟩
  | 27 => ⟨S1x2048, .f32⟩
  | 28 => ⟨S8192x2048, .f32⟩
  | 29 => ⟨S8192x2048, .f32⟩
  | 30 => ⟨S8192x8, .f32⟩
  | 31 => ⟨S1x8, .f32⟩
  | 32 => ⟨S8192x8, .f32⟩
  | 33 => ⟨S8192x8, .f32⟩
  | 34 => ⟨S_, .f32⟩
  | 35 => ⟨S8192, .f32⟩
  | 36 => ⟨S_, .f32⟩
  | 37 => ⟨S8192, .f32⟩
  | 38 => ⟨S8192, .f32⟩
  | 39 => ⟨S8192x1, .f32⟩
  | 40 => ⟨S8192x8, .f32⟩
  | 41 => ⟨S8192x8, .f32⟩
  | 42 => ⟨S8192x8, .f32⟩
  | 43 => ⟨S_, .f32⟩
  | 44 => ⟨S8192, .f32⟩
  | 45 => ⟨S8192x1, .f32⟩
  | 46 => ⟨S8192x8, .f32⟩
  | 47 => ⟨S8192x8, .f32⟩
  | 48 => ⟨S8192x1, .f32⟩
  | 49 => ⟨S8192x1, .i32⟩
  | 50 => ⟨S8192, .i32⟩
  | 51 => ⟨S8192x1, .i32⟩
  | 52 => ⟨S_, .i32⟩
  | 53 => ⟨S8192x1, .i32⟩
  | 54 => ⟨S8192x1, .i1⟩
  | 55 => ⟨S_, .i32⟩
  | 56 => ⟨S8192x1, .i32⟩
  | 57 => ⟨S8192x1, .i32⟩
  | 58 => ⟨S8192x1, .i32⟩
  | 59 => ⟨S8192x1x1, .i32⟩
  | 60 => ⟨S1, .i32⟩
  | 61 => ⟨S_, .i32⟩
  | 62 => ⟨S8192x1x1, .i32⟩
  | 63 => ⟨S8192x1x1, .i1⟩
  | 64 => ⟨S1x1x1, .i32⟩
  | 65 => ⟨S8192x1x1, .i32⟩
  | 66 => ⟨S8192x1x1, .i1⟩
  | 67 => ⟨S8192x1x1, .i1⟩
  | 68 => ⟨S_, .i1⟩
  | 69 => ⟨S8192x1, .i1⟩
  | 70 => ⟨S8192x1, .f32⟩
  | 71 => ⟨S_, .f32⟩
  | 72 => ⟨S8192x1, .f32⟩
  | 73 => ⟨S8192x1, .f32⟩
  | 74 => ⟨S8192x64, .f32⟩
  | 75 => ⟨S1x64, .f32⟩
  | 76 => ⟨S8192x64, .f32⟩
  | 77 => ⟨S8192x64, .f32⟩
  | 78 => ⟨S8192x8x8, .f32⟩
  | 79 => ⟨S8192x1x1, .i32⟩
  | 80 => ⟨S_, .i32⟩
  | 81 => ⟨S8192x1x1, .i32⟩
  | 82 => ⟨S8192x1x1, .i1⟩
  | 83 => ⟨S_, .i32⟩
  | 84 => ⟨S8192x1x1, .i32⟩
  | 85 => ⟨S8192x1x1, .i32⟩
  | 86 => ⟨S8192x1x1, .i32⟩
  | 87 => ⟨S1, .i32⟩
  | 88 => ⟨S_, .i32⟩
  | 89 => ⟨S8192x1x1, .i32⟩
  | 90 => ⟨S8192x1x1, .i1⟩
  | 91 => ⟨S1x1x1, .i32⟩
  | 92 => ⟨S8192x1x1, .i32⟩
  | 93 => ⟨S8192x1x1, .i1⟩
  | 94 => ⟨S8192x1x1, .i1⟩
  | 95 => ⟨S_, .i1⟩
  | 96 => ⟨S8192x1, .i1⟩
  | 97 => ⟨S8192x1x8, .f32⟩
  | 98 => ⟨S8192x1x8, .i1⟩
  | 99 => ⟨S_, .f32⟩
  | 100 => ⟨S8192x1x8, .f32⟩
  | 101 => ⟨S8192x1x8, .f32⟩
  | 102 => ⟨S8192x8, .f32⟩
  | 103 => ⟨S8192x2, .f32⟩
  | 104 => ⟨S8192x2, .i32⟩
  | 105 => ⟨S_, .f32⟩
  | 106 => ⟨S8192, .f32⟩
  | 107 => ⟨S_, .f32⟩
  | 108 => ⟨S8192, .f32⟩
  | 109 => ⟨S8192, .f32⟩
  | 110 => ⟨S8192x1, .f32⟩
  | 111 => ⟨S8192x2, .f32⟩
  | 112 => ⟨S8192x2, .f32⟩
  | 113 => ⟨S8192x2, .f32⟩
  | 114 => ⟨S_, .f32⟩
  | 115 => ⟨S8192, .f32⟩
  | 116 => ⟨S8192x1, .f32⟩
  | 117 => ⟨S8192x2, .f32⟩
  | 118 => ⟨S8192x2, .f32⟩
  | 119 => ⟨S8192x2, .f32⟩
  | 120 => ⟨S8192x2, .f32⟩
  | 121 => ⟨S8192x1, .i32⟩
  | 122 => ⟨S_, .i32⟩
  | 123 => ⟨S8192x1, .i32⟩
  | 124 => ⟨S8192x1, .i32⟩
  | 125 => ⟨S8192x2, .i32⟩
  | 126 => ⟨S8192x2, .i32⟩
  | 127 => ⟨S2x8192, .i32⟩
  | _ => ⟨S8192x2048, .f32⟩

abbrev hbmTy0_1 (i : Nat) : BufTy := match i % 128 with
  | 0 => ⟨S_, .i32⟩
  | 1 => ⟨S_, .f32⟩
  | 2 => ⟨S8192x128, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_values : Ref sig .tc := ⟨.hbm, 48, rfl⟩
abbrev main_indices : Ref sig .tc := ⟨.hbm, 49, rfl⟩
abbrev main_v33 : Ref sig .tc := ⟨.hbm, 50, rfl⟩
abbrev main_v34 : Ref sig .tc := ⟨.hbm, 51, rfl⟩
abbrev main_call0_c : Ref sig .tc := ⟨.hbm, 52, rfl⟩
abbrev main_call0_v0 : Ref sig .tc := ⟨.hbm, 53, rfl⟩
abbrev main_call0_v1 : Ref sig .tc := ⟨.hbm, 54, rfl⟩
abbrev main_call0_c_0 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_c_1 : Ref sig .tc := ⟨.hbm, 60, rfl⟩
abbrev main_call0_c_2 : Ref sig .tc := ⟨.hbm, 61, rfl⟩
abbrev main_call0_v6 : Ref sig .tc := ⟨.hbm, 62, rfl⟩
abbrev main_call0_v7 : Ref sig .tc := ⟨.hbm, 63, rfl⟩
abbrev main_call0_v8 : Ref sig .tc := ⟨.hbm, 64, rfl⟩
abbrev main_call0_v9 : Ref sig .tc := ⟨.hbm, 65, rfl⟩
abbrev main_call0_v10 : Ref sig .tc := ⟨.hbm, 66, rfl⟩
abbrev main_call0_v11 : Ref sig .tc := ⟨.hbm, 67, rfl⟩
abbrev main_call0_c_3 : Ref sig .tc := ⟨.hbm, 68, rfl⟩
abbrev main_call0_v12 : Ref sig .tc := ⟨.hbm, 69, rfl⟩
abbrev main_call0_v13 : Ref sig .tc := ⟨.hbm, 70, rfl⟩
abbrev main_call0_cst : Ref sig .tc := ⟨.hbm, 71, rfl⟩
abbrev main_call0_v14 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_call1_c : Ref sig .tc := ⟨.hbm, 80, rfl⟩
abbrev main_call1_v0 : Ref sig .tc := ⟨.hbm, 81, rfl⟩
abbrev main_call1_v1 : Ref sig .tc := ⟨.hbm, 82, rfl⟩
abbrev main_call1_c_0 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_c_1 : Ref sig .tc := ⟨.hbm, 87, rfl⟩
abbrev main_call1_c_2 : Ref sig .tc := ⟨.hbm, 88, rfl⟩
abbrev main_call1_v5 : Ref sig .tc := ⟨.hbm, 89, rfl⟩
abbrev main_call1_v6 : Ref sig .tc := ⟨.hbm, 90, rfl⟩
abbrev main_call1_v7 : Ref sig .tc := ⟨.hbm, 91, rfl⟩
abbrev main_call1_v8 : Ref sig .tc := ⟨.hbm, 92, rfl⟩
abbrev main_call1_v9 : Ref sig .tc := ⟨.hbm, 93, rfl⟩
abbrev main_call1_v10 : Ref sig .tc := ⟨.hbm, 94, rfl⟩
abbrev main_call1_c_3 : Ref sig .tc := ⟨.hbm, 95, rfl⟩
abbrev main_call1_v11 : Ref sig .tc := ⟨.hbm, 96, rfl⟩
abbrev main_call1_v12 : Ref sig .tc := ⟨.hbm, 97, rfl⟩
abbrev main_call1_v13 : Ref sig .tc := ⟨.hbm, 98, rfl⟩
abbrev main_call1_cst : Ref sig .tc := ⟨.hbm, 99, rfl⟩
abbrev main_call1_v14 : Ref sig .tc := ⟨.hbm, 100, rfl⟩
abbrev main_v42 : Ref sig .tc := ⟨.hbm, 101, rfl⟩
abbrev main_v43 : Ref sig .tc := ⟨.hbm, 102, rfl⟩
abbrev main_values_5 : Ref sig .tc := ⟨.hbm, 103, rfl⟩
abbrev main_indices_6 : Ref sig .tc := ⟨.hbm, 104, rfl⟩
abbrev main_cst_7 : Ref sig .tc := ⟨.hbm, 105, rfl⟩
abbrev main_v44 : Ref sig .tc := ⟨.hbm, 106, rfl⟩
abbrev main_cst_8 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_cst_9 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_c : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_c_10 : Ref sig .tc := ⟨.hbm, 128, rfl⟩
abbrev main_call2_v0 : Ref sig .tc := ⟨.hbm, 129, rfl⟩
abbrev main_v63 : Ref sig .tc := ⟨.hbm, 130, rfl⟩

abbrev nD : Nat := 1
abbrev τ : Topo := Topo.v7x

variable {F : FTy → Type} [FloatOps F]
-- ==== Proof.Attn.Chain.lean ====
module
public import proofs.«01_k».proof.Proof.Gen.KernelIdeal.Frame
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.Lib.IdealHost

/-! The arithmetic of one pair of query chunks, as one function of the arrays it loads, for each number of keys
that the kernel uses, and the value of that function at each element. -/

@[expose] public section
set_option maxRecDepth 16384
noncomputable section
namespace Cert.Proof
open Cert.KernelIdeal Cert.KernelIdeal.Gen Idealize.ShloMosaic Idealize.ShloMosaic.TcCoe Idealize.SL.Sem

/-- the maximum of a finite family, starting at `-∞`. -/
def mx {n : ℕ} (t : Fin n → EReal) : EReal := Finset.univ.fold max ⊥ t

/-- one head's output element: the weighted values times the reciprocal of the weights' sum. -/
def headOut {n : ℕ} (t w : Fin n → EReal) : EReal :=
  (∑ k, Ideal.exp (t k - mx t) * w k) * Ideal.div 1 (∑ k, Ideal.exp (t k - mx t))

/-- the lanes of the first head. -/
def lanes0 : IVec S128x128 1 :=
  andi (cmpi .sge (iota .tc S128x128 32 [1] (by decide)) (broadcast S128x128 0#32)) (cmpi .slt (iota .tc S128x128 32 [1] (by decide)) (broadcast S128x128 64#32))

/-- the lanes of the second head. -/
def lanes1 : IVec S128x128 1 :=
  andi (cmpi .sge (iota .tc S128x128 32 [1] (by decide)) (broadcast S128x128 64#32)) (cmpi .slt (iota .tc S128x128 32 [1] (by decide)) (broadcast S128x128 128#32))

/-- zeros. -/
def zeros : FVec Ideal S128x128 .bf16 := broadcast S128x128 (FloatOps.ofBits (F := Ideal) .bf16 0#16)

theorem neg_inf_bits : (FloatOps.ofBits (F := Ideal) .f32 0xFF800000#32 : EReal) = ⊥ := by
  show Ideal.ofBits .f32 0xFF800000#32 = ⊥
  simp [Ideal.ofBits, Ideal.ieee]

namespace N640

/-- the upper and the lower half of a head's rows in a stored block. -/
def sub0 {α : Type*} (S : S1x128x640.Idx → α) : S1x64x640.Idx → α :=
  fun j => S (ix3 (j 0) ⟨(j 1).val, lt_of_lt_of_le (j 1).isLt (by decide)⟩ (j 2))
def sub1 {α : Type*} (S : S1x128x640.Idx → α) : S1x64x640.Idx → α :=
  fun j => S (ix3 (j 0) ⟨64 + (j 1).val, Nat.add_lt_add_left (j 1).isLt 64⟩ (j 2))
/-- a block from its two halves. -/
def join {α : Type*} (A B : S1x64x640.Idx → α) : S1x128x640.Idx → α :=
  fun j => if h : (j 1).val < 64 then A (ix3 (j 0) ⟨(j 1).val, h⟩ (j 2))
    else B (ix3 (j 0) ⟨(j 1).val - 64, by have := (j 1).isLt; show (j 1).val - 64 < 64; change (j 1).val < 128 at this; omega⟩ (j 2))

/-- one head's scores of a pair. -/
def score (msk : IVec S128x128 1) (q : FVec Ideal S128x128 .bf16) (kb : FVec Ideal S640x128 .bf16) : FVec Ideal S1x128x640 .f32 :=
  shapeCast S1x128x640 (matmul dot_S128x128_S640x128_S128x640_1_1_0_0_n_n none (select msk q zeros) kb (constant S128x640 .f32 0#32)) (by decide)

/-- the biased scores of one chunk. -/
def tot (s b : FVec Ideal S1x64x640 .f32) : FVec Ideal S64x640 .f32 :=
  addf (shapeCast S64x640 s (by decide)) (shapeCast S64x640 b (by decide))

/-- the exponentials of one chunk. -/
def ex (s b : FVec Ideal S1x64x640 .f32) : FVec Ideal S64x640 .f32 :=
  exp (subf (tot s b) (broadcastTo S64x640 (shapeCast S64x1 (multiReduction .maximumf [1] S64 (tot s b) 0xFF800000#32 (by decide) (by decide) (by decide)) (by decide)) (by decide)))

/-- the reciprocals of one chunk's sums. -/
def rc (e : FVec Ideal S64x640 .f32) : FVec Ideal S64x1 .f32 :=
  divf (broadcast S64x1 (FloatOps.ofBits (F := Ideal) .f32 0x3F800000#32)) (shapeCast S64x1 (multiReduction .add [1] S64 e 0#32 (by decide) (by decide) (by decide)) (by decide))

/-- the exponentials as they are stored. -/
def st (e : FVec Ideal S64x640 .f32) : FVec Ideal S1x64x640 .bf16 :=
  shapeCast S1x64x640 (truncf .bf16 e (by decide)) (by decide)

/-- one head's outputs. -/
def head (e0 e1 : FVec Ideal S64x640 .f32) (vb : FVec Ideal S640x128 .bf16) : FVec Ideal S128x128 .f32 :=
  mulf (matmul dot_S128x640_S640x128_S128x128_1_0_0_1_n_n none (shapeCast S128x640 (join (st e0) (st e1) : FVec Ideal S1x128x640 .bf16) (by decide)) vb (constant S128x128 .f32 0#32))
    (broadcastTo S128x128 (concatenate S128x1 0 [⟨S64x1, rc e0⟩, ⟨S64x1, rc e1⟩] (show Shape.Concatenates [S64x1, S64x1] S128x1 0 by decide)) (by decide))

/-- the outputs of a pair of chunks from its queries, keys, values and biases. -/
def chain (q : FVec Ideal S128x128 .bf16) (kb vb : FVec Ideal S640x128 .bf16) (b00 b01 b10 b11 : FVec Ideal S1x64x640 .f32) :
    FVec Ideal S128x128 .bf16 :=
  truncf .bf16 (select (cmpi .slt (iota .tc S128x128 32 [1] (by decide)) (broadcast S128x128 64#32))
    (head (ex (sub0 (score lanes0 q kb)) b00) (ex (sub1 (score lanes0 q kb)) b01) vb)
    (head (ex (sub0 (score lanes1 q kb)) b10) (ex (sub1 (score lanes1 q kb)) b11) vb)) (by decide)

/-- a load of a head's upper or lower half of its scores reads the stored block. -/
theorem read_s0 {κ sp} {e : EltTy} (v : View sig κ sp S32x128x640 e) (c : ℕ) (h h') (P : S1x128x640.Idx → Elt Ideal e) (L) :
    v.readCov (Val := Elt Ideal) (⟨Rect.unit (s := S32x128x640) ![c, 0, 0] S1x128x640.size h, P⟩ :: L) (Rect.unit (s := S32x128x640) ![c, 0, 0] S1x64x640.size h').toLoadRect = sub0 P := by
  rw [View.readCov_eq_canon']
  funext j
  refine Eq.trans ?_ (View.canon_cons_emb (Rect.unit (s := S32x128x640) ![c, 0, 0] S1x128x640.size h) P L (ix3 (j 0) ⟨(j 1).val, lt_of_lt_of_le (j 1).isLt (show (64:ℕ) ≤ 128 by decide)⟩ (j 2)))
  refine congrArg (View.canon _) ?_
  funext a
  match a with
  | ⟨0, _⟩ => exact Fin.ext rfl
  | ⟨1, _⟩ => exact Fin.ext rfl
  | ⟨2, _⟩ => exact Fin.ext rfl

theorem read_s1 {κ sp} {e : EltTy} (v : View sig κ sp S32x128x640 e) (c : ℕ) (h h') (P : S1x128x640.Idx → Elt Ideal e) (L) :
    v.readCov (Val := Elt Ideal) (⟨Rect.unit (s := S32x128x640) ![c, 0, 0] S1x128x640.size h, P⟩ :: L) (Rect.unit (s := S32x128x640) ![c, 64, 0] S1x64x640.size h').toLoadRect = sub1 P := by
  rw [View.readCov_eq_canon']
  funext j
  refine Eq.trans ?_ (View.canon_cons_emb (Rect.unit (s := S32x128x640) ![c, 0, 0] S1x128x640.size h) P L (ix3 (j 0) ⟨64 + (j 1).val, Nat.add_lt_add_left (show (j 1).val < 64 from (j 1).isLt) 64⟩ (j 2)))
  refine congrArg (View.canon _) ?_
  funext a
  match a with
  | ⟨0, _⟩ => exact Fin.ext rfl
  | ⟨1, _⟩ => exact Fin.ext (show 64 + 1 * (j 1).val = 0 + 1 * (64 + (j 1).val) by omega)
  | ⟨2, _⟩ => exact Fin.ext rfl

/-- a load of a head's stored exponentials reads its two halves. -/
theorem read_e {κ sp} {e : EltTy} (v : View sig κ sp S32x128x640 e) (c : ℕ) (h0 h1 h') (A B : S1x64x640.Idx → Elt Ideal e) (L) :
    v.readCov (Val := Elt Ideal) (⟨Rect.unit (s := S32x128x640) ![c, 64, 0] S1x64x640.size h1, B⟩ :: ⟨Rect.unit (s := S32x128x640) ![c, 0, 0] S1x64x640.size h0, A⟩ :: L)
      (Rect.unit (s := S32x128x640) ![c, 0, 0] S1x128x640.size h').toLoadRect = join A B := by
  rw [View.readCov_eq_canon']
  funext j
  by_cases hj : (j 1).val < 64
  · rw [View.canon_cons_of_not_mem]
    · refine Eq.trans ?_ ((View.canon_cons_emb (Rect.unit (s := S32x128x640) ![c, 0, 0] S1x64x640.size h0) A L (ix3 (j 0) ⟨(j 1).val, hj⟩ (j 2))).trans ?_)
      · refine congrArg (View.canon _) ?_
        funext a
        match a with
        | ⟨0, _⟩ => exact Fin.ext rfl
        | ⟨1, _⟩ => exact Fin.ext rfl
        | ⟨2, _⟩ => exact Fin.ext rfl
      · simp only [join, hj, dif_pos]
    · intro hm
      have h : 64 ≤ 0 + 1 * (j 1).val := ((Rect.mem_set_unit (inb := h1).1 hm) 1).1
      omega
  · have hk : (j 1).val < 128 := (j 1).isLt
    refine Eq.trans ?_ ((View.canon_cons_emb (Rect.unit (s := S32x128x640) ![c, 64, 0] S1x64x640.size h1) B (⟨Rect.unit (s := S32x128x640) ![c, 0, 0] S1x64x640.size h0, A⟩ :: L) (ix3 (j 0) ⟨(j 1).val - 64, by show (j 1).val - 64 < 64; omega⟩ (j 2))).trans ?_)
    · refine congrArg (View.canon _) ?_
      funext a
      match a with
      | ⟨0, _⟩ => exact Fin.ext rfl
      | ⟨1, _⟩ => exact Fin.ext (show 0 + 1 * (j 1).val = 64 + 1 * ((j 1).val - 64) by omega)
      | ⟨2, _⟩ => exact Fin.ext rfl
    · simp only [join, hj, dif_neg, not_false_eq_true]

end N640

namespace N128

/-- the upper and the lower half of a head's rows in a stored block. -/
def sub0 {α : Type*} (S : S1x128x128.Idx → α) : S1x64x128.Idx → α :=
  fun j => S (ix3 (j 0) ⟨(j 1).val, lt_of_lt_of_le (j 1).isLt (by decide)⟩ (j 2))
def sub1 {α : Type*} (S : S1x128x128.Idx → α) : S1x64x128.Idx → α :=
  fun j => S (ix3 (j 0) ⟨64 + (j 1).val, Nat.add_lt_add_left (j 1).isLt 64⟩ (j 2))
/-- a block from its two halves. -/
def join {α : Type*} (A B : S1x64x128.Idx → α) : S1x128x128.Idx → α :=
  fun j => if h : (j 1).val < 64 then A (ix3 (j 0) ⟨(j 1).val, h⟩ (j 2))
    else B (ix3 (j 0) ⟨(j 1).val - 64, by have := (j 1).isLt; show (j 1).val - 64 < 64; change (j 1).val < 128 at this; omega⟩ (j 2))

/-- one head's scores of a pair. -/
def score (msk : IVec S128x128 1) (q : FVec Ideal S128x128 .bf16) (kb : FVec Ideal S128x128 .bf16) : FVec Ideal S1x128x128 .f32 :=
  shapeCast S1x128x128 (matmul dot_S128x128_S128x128_S128x128_1_1_0_0_n_n none (select msk q zeros) kb (constant S128x128 .f32 0#32)) (by decide)

/-- the biased scores of one chunk. -/
def tot (s b : FVec Ideal S1x64x128 .f32) : FVec Ideal S64x128 .f32 :=
  addf (shapeCast S64x128 s (by decide)) (shapeCast S64x128 b (by decide))

/-- the exponentials of one chunk. -/
def ex (s b : FVec Ideal S1x64x128 .f32) : FVec Ideal S64x128 .f32 :=
  exp (subf (tot s b) (broadcastTo S64x128 (shapeCast S64x1 (multiReduction .maximumf [1] S64 (tot s b) 0xFF800000#32 (by decide) (by decide) (by decide)) (by decide)) (by decide)))

/-- the reciprocals of one chunk's sums. -/
def rc (e : FVec Ideal S64x128 .f32) : FVec Ideal S64x1 .f32 :=
  divf (broadcast S64x1 (FloatOps.ofBits (F := Ideal) .f32 0x3F800000#32)) (shapeCast S64x1 (multiReduction .add [1] S64 e 0#32 (by decide) (by decide) (by decide)) (by decide))

/-- the exponentials as they are stored. -/
def st (e : FVec Ideal S64x128 .f32) : FVec Ideal S1x64x128 .bf16 :=
  shapeCast S1x64x128 (truncf .bf16 e (by decide)) (by decide)

/-- one head's outputs. -/
def head (e0 e1 : FVec Ideal S64x128 .f32) (vb : FVec Ideal S128x128 .bf16) : FVec Ideal S128x128 .f32 :=
  mulf (matmul dot_S128x128_S128x128_S128x128_1_0_0_1_n_n none (shapeCast S128x128 (join (st e0) (st e1) : FVec Ideal S1x128x128 .bf16) (by decide)) vb (constant S128x128 .f32 0#32))
    (broadcastTo S128x128 (concatenate S128x1 0 [⟨S64x1, rc e0⟩, ⟨S64x1, rc e1⟩] (show Shape.Concatenates [S64x1, S64x1] S128x1 0 by decide)) (by decide))

/-- the outputs of a pair of chunks from its queries, keys, values and biases. -/
def chain (q : FVec Ideal S128x128 .bf16) (kb vb : FVec Ideal S128x128 .bf16) (b00 b01 b10 b11 : FVec Ideal S1x64x128 .f32) :
    FVec Ideal S128x128 .bf16 :=
  truncf .bf16 (select (cmpi .slt (iota .tc S128x128 32 [1] (by decide)) (broadcast S128x128 64#32))
    (head (ex (sub0 (score lanes0 q kb)) b00) (ex (sub1 (score lanes0 q kb)) b01) vb)
    (head (ex (sub0 (score lanes1 q kb)) b10) (ex (sub1 (score lanes1 q kb)) b11) vb)) (by decide)

/-- a load of a head's upper or lower half of its scores reads the stored block. -/
theorem read_s0 {κ sp} {e : EltTy} (v : View sig κ sp S32x128x640 e) (c : ℕ) (h h') (P : S1x128x128.Idx → Elt Ideal e) (L) :
    v.readCov (Val := Elt Ideal) (⟨Rect.unit (s := S32x128x640) ![c, 0, 0] S1x128x128.size h, P⟩ :: L) (Rect.unit (s := S32x128x640) ![c, 0, 0] S1x64x128.size h').toLoadRect = sub0 P := by
  rw [View.readCov_eq_canon']
  funext j
  refine Eq.trans ?_ (View.canon_cons_emb (Rect.unit (s := S32x128x640) ![c, 0, 0] S1x128x128.size h) P L (ix3 (j 0) ⟨(j 1).val, lt_of_lt_of_le (j 1).isLt (show (64:ℕ) ≤ 128 by decide)⟩ (j 2)))
  refine congrArg (View.canon _) ?_
  funext a
  match a with
  | ⟨0, _⟩ => exact Fin.ext rfl
  | ⟨1, _⟩ => exact Fin.ext rfl
  | ⟨2, _⟩ => exact Fin.ext rfl

theorem read_s1 {κ sp} {e : EltTy} (v : View sig κ sp S32x128x640 e) (c : ℕ) (h h') (P : S1x128x128.Idx → Elt Ideal e) (L) :
    v.readCov (Val := Elt Ideal) (⟨Rect.unit (s := S32x128x640) ![c, 0, 0] S1x128x128.size h, P⟩ :: L) (Rect.unit (s := S32x128x640) ![c, 64, 0] S1x64x128.size h').toLoadRect = sub1 P := by
  rw [View.readCov_eq_canon']
  funext j
  refine Eq.trans ?_ (View.canon_cons_emb (Rect.unit (s := S32x128x640) ![c, 0, 0] S1x128x128.size h) P L (ix3 (j 0) ⟨64 + (j 1).val, Nat.add_lt_add_left (show (j 1).val < 64 from (j 1).isLt) 64⟩ (j 2)))
  refine congrArg (View.canon _) ?_
  funext a
  match a with
  | ⟨0, _⟩ => exact Fin.ext rfl
  | ⟨1, _⟩ => exact Fin.ext (show 64 + 1 * (j 1).val = 0 + 1 * (64 + (j 1).val) by omega)
  | ⟨2, _⟩ => exact Fin.ext rfl

/-- a load of a head's stored exponentials reads its two halves. -/
theorem read_e {κ sp} {e : EltTy} (v : View sig κ sp S32x128x640 e) (c : ℕ) (h0 h1 h') (A B : S1x64x128.Idx → Elt Ideal e) (L) :
    v.readCov (Val := Elt Ideal) (⟨Rect.unit (s := S32x128x640) ![c, 64, 0] S1x64x128.size h1, B⟩ :: ⟨Rect.unit (s := S32x128x640) ![c, 0, 0] S1x64x128.size h0, A⟩ :: L)
      (Rect.unit (s := S32x128x640) ![c, 0, 0] S1x128x128.size h').toLoadRect = join A B := by
  rw [View.readCov_eq_canon']
  funext j
  by_cases hj : (j 1).val < 64
  · rw [View.canon_cons_of_not_mem]
    · refine Eq.trans ?_ ((View.canon_cons_emb (Rect.unit (s := S32x128x640) ![c, 0, 0] S1x64x128.size h0) A L (ix3 (j 0) ⟨(j 1).val, hj⟩ (j 2))).trans ?_)
      · refine congrArg (View.canon _) ?_
        funext a
        match a with
        | ⟨0, _⟩ => exact Fin.ext rfl
        | ⟨1, _⟩ => exact Fin.ext rfl
        | ⟨2, _⟩ => exact Fin.ext rfl
      · simp only [join, hj, dif_pos]
    · intro hm
      have h : 64 ≤ 0 + 1 * (j 1).val := ((Rect.mem_set_unit (inb := h1).1 hm) 1).1
      omega
  · have hk : (j 1).val < 128 := (j 1).isLt
    refine Eq.trans ?_ ((View.canon_cons_emb (Rect.unit (s := S32x128x640) ![c, 64, 0] S1x64x128.size h1) B (⟨Rect.unit (s := S32x128x640) ![c, 0, 0] S1x64x128.size h0, A⟩ :: L) (ix3 (j 0) ⟨(j 1).val - 64, by show (j 1).val - 64 < 64; omega⟩ (j 2))).trans ?_)
    · refine congrArg (View.canon _) ?_
      funext a
      match a with
      | ⟨0, _⟩ => exact Fin.ext rfl
      | ⟨1, _⟩ => exact Fin.ext (show 0 + 1 * (j 1).val = 64 + 1 * ((j 1).val - 64) by omega)
      | ⟨2, _⟩ => exact Fin.ext rfl
    · simp only [join, hj, dif_neg, not_false_eq_true]

end N128

namespace N256

/-- the upper and the lower half of a head's rows in a stored block. -/
def sub0 {α : Type*} (S : S1x128x256.Idx → α) : S1x64x256.Idx → α :=
  fun j => S (ix3 (j 0) ⟨(j 1).val, lt_of_lt_of_le (j 1).isLt (by decide)⟩ (j 2))
def sub1 {α : Type*} (S : S1x128x256.Idx → α) : S1x64x256.Idx → α :=
  fun j => S (ix3 (j 0) ⟨64 + (j 1).val, Nat.add_lt_add_left (j 1).isLt 64⟩ (j 2))
/-- a block from its two halves. -/
def join {α : Type*} (A B : S1x64x256.Idx → α) : S1x128x256.Idx → α :=
  fun j => if h : (j 1).val < 64 then A (ix3 (j 0) ⟨(j 1).val, h⟩ (j 2))
    else B (ix3 (j 0) ⟨(j 1).val - 64, by have := (j 1).isLt; show (j 1).val - 64 < 64; change (j 1).val < 128 at this; omega⟩ (j 2))

/-- one head's scores of a pair. -/
def score (msk : IVec S128x128 1) (q : FVec Ideal S128x128 .bf16) (kb : FVec Ideal S256x128 .bf16) : FVec Ideal S1x128x256 .f32 :=
  shapeCast S1x128x256 (matmul dot_S128x128_S256x128_S128x256_1_1_0_0_n_n none (select msk q zeros) kb (constant S128x256 .f32 0#32)) (by decide)

/-- the biased scores of one chunk. -/
def tot (s b : FVec Ideal S1x64x256 .f32) : FVec Ideal S64x256 .f32 :=
  addf (shapeCast S64x256 s (by decide)) (shapeCast S64x256 b (by decide))

/-- the exponentials of one chunk. -/
def ex (s b : FVec Ideal S1x64x256 .f32) : FVec Ideal S64x256 .f32 :=
  exp (subf (tot s b) (broadcastTo S64x256 (shapeCast S64x1 (multiReduction .maximumf [1] S64 (tot s b) 0xFF800000#32 (by decide) (by decide) (by decide)) (by decide)) (by decide)))

/-- the reciprocals of one chunk's sums. -/
def rc (e : FVec Ideal S64x256 .f32) : FVec Ideal S64x1 .f32 :=
  divf (broadcast S64x1 (FloatOps.ofBits (F := Ideal) .f32 0x3F800000#32)) (shapeCast S64x1 (multiReduction .add [1] S64 e 0#32 (by decide) (by decide) (by decide)) (by decide))

/-- the exponentials as they are stored. -/
def st (e : FVec Ideal S64x256 .f32) : FVec Ideal S1x64x256 .bf16 :=
  shapeCast S1x64x256 (truncf .bf16 e (by decide)) (by decide)

/-- one head's outputs. -/
def head (e0 e1 : FVec Ideal S64x256 .f32) (vb : FVec Ideal S256x128 .bf16) : FVec Ideal S128x128 .f32 :=
  mulf (matmul dot_S128x256_S256x128_S128x128_1_0_0_1_n_n none (shapeCast S128x256 (join (st e0) (st e1) : FVec Ideal S1x128x256 .bf16) (by decide)) vb (constant S128x128 .f32 0#32))
    (broadcastTo S128x128 (concatenate S128x1 0 [⟨S64x1, rc e0⟩, ⟨S64x1, rc e1⟩] (show Shape.Concatenates [S64x1, S64x1] S128x1 0 by decide)) (by decide))

/-- the outputs of a pair of chunks from its queries, keys, values and biases. -/
def chain (q : FVec Ideal S128x128 .bf16) (kb vb : FVec Ideal S256x128 .bf16) (b00 b01 b10 b11 : FVec Ideal S1x64x256 .f32) :
    FVec Ideal S128x128 .bf16 :=
  truncf .bf16 (select (cmpi .slt (iota .tc S128x128 32 [1] (by decide)) (broadcast S128x128 64#32))
    (head (ex (sub0 (score lanes0 q kb)) b00) (ex (sub1 (score lanes0 q kb)) b01) vb)
    (head (ex (sub0 (score lanes1 q kb)) b10) (ex (sub1 (score lanes1 q kb)) b11) vb)) (by decide)

/-- a load of a head's upper or lower half of its scores reads the stored block. -/
theorem read_s0 {κ sp} {e : EltTy} (v : View sig κ sp S32x128x640 e) (c : ℕ) (h h') (P : S1x128x256.Idx → Elt Ideal e) (L) :
    v.readCov (Val := Elt Ideal) (⟨Rect.unit (s := S32x128x640) ![c, 0, 0] S1x128x256.size h, P⟩ :: L) (Rect.unit (s := S32x128x640) ![c, 0, 0] S1x64x256.size h').toLoadRect = sub0 P := by
  rw [View.readCov_eq_canon']
  funext j
  refine Eq.trans ?_ (View.canon_cons_emb (Rect.unit (s := S32x128x640) ![c, 0, 0] S1x128x256.size h) P L (ix3 (j 0) ⟨(j 1).val, lt_of_lt_of_le (j 1).isLt (show (64:ℕ) ≤ 128 by decide)⟩ (j 2)))
  refine congrArg (View.canon _) ?_
  funext a
  match a with
  | ⟨0, _⟩ => exact Fin.ext rfl
  | ⟨1, _⟩ => exact Fin.ext rfl
  | ⟨2, _⟩ => exact Fin.ext rfl

theorem read_s1 {κ sp} {e : EltTy} (v : View sig κ sp S32x128x640 e) (c : ℕ) (h h') (P : S1x128x256.Idx → Elt Ideal e) (L) :
    v.readCov (Val := Elt Ideal) (⟨Rect.unit (s := S32x128x640) ![c, 0, 0] S1x128x256.size h, P⟩ :: L) (Rect.unit (s := S32x128x640) ![c, 64, 0] S1x64x256.size h').toLoadRect = sub1 P := by
  rw [View.readCov_eq_canon']
  funext j
  refine Eq.trans ?_ (View.canon_cons_emb (Rect.unit (s := S32x128x640) ![c, 0, 0] S1x128x256.size h) P L (ix3 (j 0) ⟨64 + (j 1).val, Nat.add_lt_add_left (show (j 1).val < 64 from (j 1).isLt) 64⟩ (j 2)))
  refine congrArg (View.canon _) ?_
  funext a
  match a with
  | ⟨0, _⟩ => exact Fin.ext rfl
  | ⟨1, _⟩ => exact Fin.ext (show 64 + 1 * (j 1).val = 0 + 1 * (64 + (j 1).val) by omega)
  | ⟨2, _⟩ => exact Fin.ext rfl

/-- a load of a head's stored exponentials reads its two halves. -/
theorem read_e {κ sp} {e : EltTy} (v : View sig κ sp S32x128x640 e) (c : ℕ) (h0 h1 h') (A B : S1x64x256.Idx → Elt Ideal e) (L) :
    v.readCov (Val := Elt Ideal) (⟨Rect.unit (s := S32x128x640) ![c, 64, 0] S1x64x256.size h1, B⟩ :: ⟨Rect.unit (s := S32x128x640) ![c, 0, 0] S1x64x256.size h0, A⟩ :: L)
      (Rect.unit (s := S32x128x640) ![c, 0, 0] S1x128x256.size h').toLoadRect = join A B := by
  rw [View.readCov_eq_canon']
  funext j
  by_cases hj : (j 1).val < 64
  · rw [View.canon_cons_of_not_mem]
    · refine Eq.trans ?_ ((View.canon_cons_emb (Rect.unit (s := S32x128x640) ![c, 0, 0] S1x64x256.size h0) A L (ix3 (j 0) ⟨(j 1).val, hj⟩ (j 2))).trans ?_)
      · refine congrArg (View.canon _) ?_
        funext a
        match a with
        | ⟨0, _⟩ => exact Fin.ext rfl
        | ⟨1, _⟩ => exact Fin.ext rfl
        | ⟨2, _⟩ => exact Fin.ext rfl
      · simp only [join, hj, dif_pos]
    · intro hm
      have h : 64 ≤ 0 + 1 * (j 1).val := ((Rect.mem_set_unit (inb := h1).1 hm) 1).1
      omega
  · have hk : (j 1).val < 128 := (j 1).isLt
    refine Eq.trans ?_ ((View.canon_cons_emb (Rect.unit (s := S32x128x640) ![c, 64, 0] S1x64x256.size h1) B (⟨Rect.unit (s := S32x128x640) ![c, 0, 0] S1x64x256.size h0, A⟩ :: L) (ix3 (j 0) ⟨(j 1).val - 64, by show (j 1).val - 64 < 64; omega⟩ (j 2))).trans ?_)
    · refine congrArg (View.canon _) ?_
      funext a
      match a with
      | ⟨0, _⟩ => exact Fin.ext rfl
      | ⟨1, _⟩ => exact Fin.ext (show 0 + 1 * (j 1).val = 64 + 1 * ((j 1).val - 64) by omega)
      | ⟨2, _⟩ => exact Fin.ext rfl
    · simp only [join, hj, dif_neg, not_false_eq_true]

end N256

namespace N384

/-- the upper and the lower half of a head's rows in a stored block. -/
def sub0 {α : Type*} (S : S1x128x384.Idx → α) : S1x64x384.Idx → α :=
  fun j => S (ix3 (j 0) ⟨(j 1).val, lt_of_lt_of_le (j 1).isLt (by decide)⟩ (j 2))
def sub1 {α : Type*} (S : S1x128x384.Idx → α) : S1x64x384.Idx → α :=
  fun j => S (ix3 (j 0) ⟨64 + (j 1).val, Nat.add_lt_add_left (j 1).isLt 64⟩ (j 2))
/-- a block from its two halves. -/
def join {α : Type*} (A B : S1x64x384.Idx → α) : S1x128x384.Idx → α :=
  fun j => if h : (j 1).val < 64 then A (ix3 (j 0) ⟨(j 1).val, h⟩ (j 2))
    else B (ix3 (j 0) ⟨(j 1).val - 64, by have := (j 1).isLt; show (j 1).val - 64 < 64; change (j 1).val < 128 at this; omega⟩ (j 2))

/-- one head's scores of a pair. -/
def score (msk : IVec S128x128 1) (q : FVec Ideal S128x128 .bf16) (kb : FVec Ideal S384x128 .bf16) : FVec Ideal S1x128x384 .f32 :=
  shapeCast S1x128x384 (matmul dot_S128x128_S384x128_S128x384_1_1_0_0_n_n none (select msk q zeros) kb (constant S128x384 .f32 0#32)) (by decide)

/-- the biased scores of one chunk. -/
def tot (s b : FVec Ideal S1x64x384 .f32) : FVec Ideal S64x384 .f32 :=
  addf (shapeCast S64x384 s (by decide)) (shapeCast S64x384 b (by decide))

/-- the exponentials of one chunk. -/
def ex (s b : FVec Ideal S1x64x384 .f32) : FVec Ideal S64x384 .f32 :=
  exp (subf (tot s b) (broadcastTo S64x384 (shapeCast S64x1 (multiReduction .maximumf [1] S64 (tot s b) 0xFF800000#32 (by decide) (by decide) (by decide)) (by decide)) (by decide)))

/-- the reciprocals of one chunk's sums. -/
def rc (e : FVec Ideal S64x384 .f32) : FVec Ideal S64x1 .f32 :=
  divf (broadcast S64x1 (FloatOps.ofBits (F := Ideal) .f32 0x3F800000#32)) (shapeCast S64x1 (multiReduction .add [1] S64 e 0#32 (by decide) (by decide) (by decide)) (by decide))

/-- the exponentials as they are stored. -/
def st (e : FVec Ideal S64x384 .f32) : FVec Ideal S1x64x384 .bf16 :=
  shapeCast S1x64x384 (truncf .bf16 e (by decide)) (by decide)

/-- one head's outputs. -/
def head (e0 e1 : FVec Ideal S64x384 .f32) (vb : FVec Ideal S384x128 .bf16) : FVec Ideal S128x128 .f32 :=
  mulf (matmul dot_S128x384_S384x128_S128x128_1_0_0_1_n_n none (shapeCast S128x384 (join (st e0) (st e1) : FVec Ideal S1x128x384 .bf16) (by decide)) vb (constant S128x128 .f32 0#32))
    (broadcastTo S128x128 (concatenate S128x1 0 [⟨S64x1, rc e0⟩, ⟨S64x1, rc e1⟩] (show Shape.Concatenates [S64x1, S64x1] S128x1 0 by decide)) (by decide))

/-- the outputs of a pair of chunks from its queries, keys, values and biases. -/
def chain (q : FVec Ideal S128x128 .bf16) (kb vb : FVec Ideal S384x128 .bf16) (b00 b01 b10 b11 : FVec Ideal S1x64x384 .f32) :
    FVec Ideal S128x128 .bf16 :=
  truncf .bf16 (select (cmpi .slt (iota .tc S128x128 32 [1] (by decide)) (broadcast S128x128 64#32))
    (head (ex (sub0 (score lanes0 q kb)) b00) (ex (sub1 (score lanes0 q kb)) b01) vb)
    (head (ex (sub0 (score lanes1 q kb)) b10) (ex (sub1 (score lanes1 q kb)) b11) vb)) (by decide)

/-- a load of a head's upper or lower half of its scores reads the stored block. -/
theorem read_s0 {κ sp} {e : EltTy} (v : View sig κ sp S32x128x640 e) (c : ℕ) (h h') (P : S1x128x384.Idx → Elt Ideal e) (L) :
    v.readCov (Val := Elt Ideal) (⟨Rect.unit (s := S32x128x640) ![c, 0, 0] S1x128x384.size h, P⟩ :: L) (Rect.unit (s := S32x128x640) ![c, 0, 0] S1x64x384.size h').toLoadRect = sub0 P := by
  rw [View.readCov_eq_canon']
  funext j
  refine Eq.trans ?_ (View.canon_cons_emb (Rect.unit (s := S32x128x640) ![c, 0, 0] S1x128x384.size h) P L (ix3 (j 0) ⟨(j 1).val, lt_of_lt_of_le (j 1).isLt (show (64:ℕ) ≤ 128 by decide)⟩ (j 2)))
  refine congrArg (View.canon _) ?_
  funext a
  match a with
  | ⟨0, _⟩ => exact Fin.ext rfl
  | ⟨1, _⟩ => exact Fin.ext rfl
  | ⟨2, _⟩ => exact Fin.ext rfl

theorem read_s1 {κ sp} {e : EltTy} (v : View sig κ sp S32x128x640 e) (c : ℕ) (h h') (P : S1x128x384.Idx → Elt Ideal e) (L) :
    v.readCov (Val := Elt Ideal) (⟨Rect.unit (s := S32x128x640) ![c, 0, 0] S1x128x384.size h, P⟩ :: L) (Rect.unit (s := S32x128x640) ![c, 64, 0] S1x64x384.size h').toLoadRect = sub1 P := by
  rw [View.readCov_eq_canon']
  funext j
  refine Eq.trans ?_ (View.canon_cons_emb (Rect.unit (s := S32x128x640) ![c, 0, 0] S1x128x384.size h) P L (ix3 (j 0) ⟨64 + (j 1).val, Nat.add_lt_add_left (show (j 1).val < 64 from (j 1).isLt) 64⟩ (j 2)))
  refine congrArg (View.canon _) ?_
  funext a
  match a with
  | ⟨0, _⟩ => exact Fin.ext rfl
  | ⟨1, _⟩ => exact Fin.ext (show 64 + 1 * (j 1).val = 0 + 1 * (64 + (j 1).val) by omega)
  | ⟨2, _⟩ => exact Fin.ext rfl

/-- a load of a head's stored exponentials reads its two halves. -/
theorem read_e {κ sp} {e : EltTy} (v : View sig κ sp S32x128x640 e) (c : ℕ) (h0 h1 h') (A B : S1x64x384.Idx → Elt Ideal e) (L) :
    v.readCov (Val := Elt Ideal) (⟨Rect.unit (s := S32x128x640) ![c, 64, 0] S1x64x384.size h1, B⟩ :: ⟨Rect.unit (s := S32x128x640) ![c, 0, 0] S1x64x384.size h0, A⟩ :: L)
      (Rect.unit (s := S32x128x640) ![c, 0, 0] S1x128x384.size h').toLoadRect = join A B := by
  rw [View.readCov_eq_canon']
  funext j
  by_cases hj : (j 1).val < 64
  · rw [View.canon_cons_of_not_mem]
    · refine Eq.trans ?_ ((View.canon_cons_emb (Rect.unit (s := S32x128x640) ![c, 0, 0] S1x64x384.size h0) A L (ix3 (j 0) ⟨(j 1).val, hj⟩ (j 2))).trans ?_)
      · refine congrArg (View.canon _) ?_
        funext a
        match a with
        | ⟨0, _⟩ => exact Fin.ext rfl
        | ⟨1, _⟩ => exact Fin.ext rfl
        | ⟨2, _⟩ => exact Fin.ext rfl
      · simp only [join, hj, dif_pos]
    · intro hm
      have h : 64 ≤ 0 + 1 * (j 1).val := ((Rect.mem_set_unit (inb := h1).1 hm) 1).1
      omega
  · have hk : (j 1).val < 128 := (j 1).isLt
    refine Eq.trans ?_ ((View.canon_cons_emb (Rect.unit (s := S32x128x640) ![c, 64, 0] S1x64x384.size h1) B (⟨Rect.unit (s := S32x128x640) ![c, 0, 0] S1x64x384.size h0, A⟩ :: L) (ix3 (j 0) ⟨(j 1).val - 64, by show (j 1).val - 64 < 64; omega⟩ (j 2))).trans ?_)
    · refine congrArg (View.canon _) ?_
      funext a
      match a with
      | ⟨0, _⟩ => exact Fin.ext rfl
      | ⟨1, _⟩ => exact Fin.ext (show 0 + 1 * (j 1).val = 64 + 1 * ((j 1).val - 64) by omega)
      | ⟨2, _⟩ => exact Fin.ext rfl
    · simp only [join, hj, dif_neg, not_false_eq_true]

end N384

namespace N512

/-- the upper and the lower half of a head's rows in a stored block. -/
def sub0 {α : Type*} (S : S1x128x512.Idx → α) : S1x64x512.Idx → α :=
  fun j => S (ix3 (j 0) ⟨(j 1).val, lt_of_lt_of_le (j 1).isLt (by decide)⟩ (j 2))
def sub1 {α : Type*} (S : S1x128x512.Idx → α) : S1x64x512.Idx → α :=
  fun j => S (ix3 (j 0) ⟨64 + (j 1).val, Nat.add_lt_add_left (j 1).isLt 64⟩ (j 2))
/-- a block from its two halves. -/
def join {α : Type*} (A B : S1x64x512.Idx → α) : S1x128x512.Idx → α :=
  fun j => if h : (j 1).val < 64 then A (ix3 (j 0) ⟨(j 1).val, h⟩ (j 2))
    else B (ix3 (j 0) ⟨(j 1).val - 64, by have := (j 1).isLt; show (j 1).val - 64 < 64; change (j 1).val < 128 at this; omega⟩ (j 2))

/-- one head's scores of a pair. -/
def score (msk : IVec S128x128 1) (q : FVec Ideal S128x128 .bf16) (kb : FVec Ideal S512x128 .bf16) : FVec Ideal S1x128x512 .f32 :=
  shapeCast S1x128x512 (matmul dot_S128x128_S512x128_S128x512_1_1_0_0_n_n none (select msk q zeros) kb (constant S128x512 .f32 0#32)) (by decide)

/-- the biased scores of one chunk. -/
def tot (s b : FVec Ideal S1x64x512 .f32) : FVec Ideal S64x512 .f32 :=
  addf (shapeCast S64x512 s (by decide)) (shapeCast S64x512 b (by decide))

/-- the exponentials of one chunk. -/
def ex (s b : FVec Ideal S1x64x512 .f32) : FVec Ideal S64x512 .f32 :=
  exp (subf (tot s b) (broadcastTo S64x512 (shapeCast S64x1 (multiReduction .maximumf [1] S64 (tot s b) 0xFF800000#32 (by decide) (by decide) (by decide)) (by decide)) (by decide)))

/-- the reciprocals of one chunk's sums. -/
def rc (e : FVec Ideal S64x512 .f32) : FVec Ideal S64x1 .f32 :=
  divf (broadcast S64x1 (FloatOps.ofBits (F := Ideal) .f32 0x3F800000#32)) (shapeCast S64x1 (multiReduction .add [1] S64 e 0#32 (by decide) (by decide) (by decide)) (by decide))

/-- the exponentials as they are stored. -/
def st (e : FVec Ideal S64x512 .f32) : FVec Ideal S1x64x512 .bf16 :=
  shapeCast S1x64x512 (truncf .bf16 e (by decide)) (by decide)

/-- one head's outputs. -/
def head (e0 e1 : FVec Ideal S64x512 .f32) (vb : FVec Ideal S512x128 .bf16) : FVec Ideal S128x128 .f32 :=
  mulf (matmul dot_S128x512_S512x128_S128x128_1_0_0_1_n_n none (shapeCast S128x512 (join (st e0) (st e1) : FVec Ideal S1x128x512 .bf16) (by decide)) vb (constant S128x128 .f32 0#32))
    (broadcastTo S128x128 (concatenate S128x1 0 [⟨S64x1, rc e0⟩, ⟨S64x1, rc e1⟩] (show Shape.Concatenates [S64x1, S64x1] S128x1 0 by decide)) (by decide))

/-- the outputs of a pair of chunks from its queries, keys, values and biases. -/
def chain (q : FVec Ideal S128x128 .bf16) (kb vb : FVec Ideal S512x128 .bf16) (b00 b01 b10 b11 : FVec Ideal S1x64x512 .f32) :
    FVec Ideal S128x128 .bf16 :=
  truncf .bf16 (select (cmpi .slt (iota .tc S128x128 32 [1] (by decide)) (broadcast S128x128 64#32))
    (head (ex (sub0 (score lanes0 q kb)) b00) (ex (sub1 (score lanes0 q kb)) b01) vb)
    (head (ex (sub0 (score lanes1 q kb)) b10) (ex (sub1 (score lanes1 q kb)) b11) vb)) (by decide)

/-- a load of a head's upper or lower half of its scores reads the stored block. -/
theorem read_s0 {κ sp} {e : EltTy} (v : View sig κ sp S32x128x640 e) (c : ℕ) (h h') (P : S1x128x512.Idx → Elt Ideal e) (L) :
    v.readCov (Val := Elt Ideal) (⟨Rect.unit (s := S32x128x640) ![c, 0, 0] S1x128x512.size h, P⟩ :: L) (Rect.unit (s := S32x128x640) ![c, 0, 0] S1x64x512.size h').toLoadRect = sub0 P := by
  rw [View.readCov_eq_canon']
  funext j
  refine Eq.trans ?_ (View.canon_cons_emb (Rect.unit (s := S32x128x640) ![c, 0, 0] S1x128x512.size h) P L (ix3 (j 0) ⟨(j 1).val, lt_of_lt_of_le (j 1).isLt (show (64:ℕ) ≤ 128 by decide)⟩ (j 2)))
  refine congrArg (View.canon _) ?_
  funext a
  match a with
  | ⟨0, _⟩ => exact Fin.ext rfl
  | ⟨1, _⟩ => exact Fin.ext rfl
  | ⟨2, _⟩ => exact Fin.ext rfl

theorem read_s1 {κ sp} {e : EltTy} (v : View sig κ sp S32x128x640 e) (c : ℕ) (h h') (P : S1x128x512.Idx → Elt Ideal e) (L) :
    v.readCov (Val := Elt Ideal) (⟨Rect.unit (s := S32x128x640) ![c, 0, 0] S1x128x512.size h, P⟩ :: L) (Rect.unit (s := S32x128x640) ![c, 64, 0] S1x64x512.size h').toLoadRect = sub1 P := by
  rw [View.readCov_eq_canon']
  funext j
  refine Eq.trans ?_ (View.canon_cons_emb (Rect.unit (s := S32x128x640) ![c, 0, 0] S1x128x512.size h) P L (ix3 (j 0) ⟨64 + (j 1).val, Nat.add_lt_add_left (show (j 1).val < 64 from (j 1).isLt) 64⟩ (j 2)))
  refine congrArg (View.canon _) ?_
  funext a
  match a with
  | ⟨0, _⟩ => exact Fin.ext rfl
  | ⟨1, _⟩ => exact Fin.ext (show 64 + 1 * (j 1).val = 0 + 1 * (64 + (j 1).val) by omega)
  | ⟨2, _⟩ => exact Fin.ext rfl

/-- a load of a head's stored exponentials reads its two halves. -/
theorem read_e {κ sp} {e : EltTy} (v : View sig κ sp S32x128x640 e) (c : ℕ) (h0 h1 h') (A B : S1x64x512.Idx → Elt Ideal e) (L) :
    v.readCov (Val := Elt Ideal) (⟨Rect.unit (s := S32x128x640) ![c, 64, 0] S1x64x512.size h1, B⟩ :: ⟨Rect.unit (s := S32x128x640) ![c, 0, 0] S1x64x512.size h0, A⟩ :: L)
      (Rect.unit (s := S32x128x640) ![c, 0, 0] S1x128x512.size h').toLoadRect = join A B := by
  rw [View.readCov_eq_canon']
  funext j
  by_cases hj : (j 1).val < 64
  · rw [View.canon_cons_of_not_mem]
    · refine Eq.trans ?_ ((View.canon_cons_emb (Rect.unit (s := S32x128x640) ![c, 0, 0] S1x64x512.size h0) A L (ix3 (j 0) ⟨(j 1).val, hj⟩ (j 2))).trans ?_)
      · refine congrArg (View.canon _) ?_
        funext a
        match a with
        | ⟨0, _⟩ => exact Fin.ext rfl
        | ⟨1, _⟩ => exact Fin.ext rfl
        | ⟨2, _⟩ => exact Fin.ext rfl
      · simp only [join, hj, dif_pos]
    · intro hm
      have h : 64 ≤ 0 + 1 * (j 1).val := ((Rect.mem_set_unit (inb := h1).1 hm) 1).1
      omega
  · have hk : (j 1).val < 128 := (j 1).isLt
    refine Eq.trans ?_ ((View.canon_cons_emb (Rect.unit (s := S32x128x640) ![c, 64, 0] S1x64x512.size h1) B (⟨Rect.unit (s := S32x128x640) ![c, 0, 0] S1x64x512.size h0, A⟩ :: L) (ix3 (j 0) ⟨(j 1).val - 64, by show (j 1).val - 64 < 64; omega⟩ (j 2))).trans ?_)
    · refine congrArg (View.canon _) ?_
      funext a
      match a with
      | ⟨0, _⟩ => exact Fin.ext rfl
      | ⟨1, _⟩ => exact Fin.ext (show 0 + 1 * (j 1).val = 64 + 1 * ((j 1).val - 64) by omega)
      | ⟨2, _⟩ => exact Fin.ext rfl
    · simp only [join, hj, dif_neg, not_false_eq_true]

end N512

end Cert.Proof
-- ==== Proof.Attn.PairsA1.lean ====
module
public import proofs.«01_k».proof.Proof.Attn.Chain

/-! What each pair of chunks stores at a first block of a head pair: the pair function of its loads. -/

@[expose] public section
set_option maxRecDepth 16384
noncomputable section
namespace Cert.Proof
open Cert.KernelIdeal Cert.KernelIdeal.Gen Idealize.ShloMosaic Idealize.ShloMosaic.TcCoe Idealize.SL.Sem

variable (c : Dev nD) (i : grid0.Coords)
  (arg2 : Memref sig .tc .vmem S2048x128 .bf16) (harg2 : arg2.IsWhole)
  (arg3 : Memref sig .tc .vmem S8192x128 .bf16) (harg3 : arg3.IsWhole)
  (arg4 : Memref sig .tc .vmem S8192x128 .bf16) (harg4 : arg4.IsWhole)
  (arg5 : Memref sig .tc .vmem S2x1x640 .f32) (harg5 : arg5.IsWhole)
  (arg7 : Memref sig .tc .vmem S2x128x640 .f32) (harg7 : arg7.IsWhole)
  (arg8 : Memref sig .tc .vmem S32x128x640 .f32) (arg9 : Memref sig .tc .vmem S32x128x640 .bf16)
  (hc0 : cond0_0 i) (hc1 : cond0_1 i) (hc2 : ¬cond0_2 i)
  (x0 : Vec Ideal S2048x128 .bf16) (x1 x2 : Vec Ideal S8192x128 .bf16) (x3 : Vec Ideal S2x1x640 .f32)
  (xs0 : Vec Ideal S2x128x640 .f32)

theorem pieceA_0 : kernelRun0_A.sl.v307 (F := Ideal) c arg2 harg2 arg3 harg3 arg4 harg4 arg5 harg5 arg7 arg8 arg9 x0 x1 x2 x3 =
    N128.chain (kernelRun0_A.sl.v75 (F := Ideal) c arg2 harg2 x0) (kernelRun0_A.sl.v10_1 (F := Ideal) c arg3 harg3 x1) (kernelRun0_A.sl.v12 (F := Ideal) c arg4 harg4 x2)
      (arg7.view.readCov (kernelRun0_A.sl.HS0_32 (F := Ideal) c arg5 harg5 x3) (Rect.unit (s := S2x128x640) ![0, 0, 512] S1x64x128.size (by decide)).toLoadRect) (arg7.view.readCov (kernelRun0_A.sl.HS0_32 (F := Ideal) c arg5 harg5 x3) (Rect.unit (s := S2x128x640) ![0, 64, 512] S1x64x128.size (by decide)).toLoadRect)
      (arg7.view.readCov (kernelRun0_A.sl.HS0_32 (F := Ideal) c arg5 harg5 x3) (Rect.unit (s := S2x128x640) ![1, 0, 512] S1x64x128.size (by decide)).toLoadRect) (arg7.view.readCov (kernelRun0_A.sl.HS0_32 (F := Ideal) c arg5 harg5 x3) (Rect.unit (s := S2x128x640) ![1, 64, 512] S1x64x128.size (by decide)).toLoadRect) := by
  have sc0 : (kernelRun0_A.sl.v86 (F := Ideal) c arg2 harg2 arg3 harg3 x0 x1) = N128.score lanes0 (kernelRun0_A.sl.v75 (F := Ideal) c arg2 harg2 x0) (kernelRun0_A.sl.v10_1 (F := Ideal) c arg3 harg3 x1) := rfl
  have x00 : (kernelRun0_A.sl.v131 (F := Ideal) c arg2 harg2 arg3 harg3 arg5 harg5 arg7 arg8 x0 x1 x3) = N128.ex (N128.sub0 (N128.score lanes0 (kernelRun0_A.sl.v75 (F := Ideal) c arg2 harg2 x0) (kernelRun0_A.sl.v10_1 (F := Ideal) c arg3 harg3 x1))) (arg7.view.readCov (kernelRun0_A.sl.HS0_32 (F := Ideal) c arg5 harg5 x3) (Rect.unit (s := S2x128x640) ![0, 0, 512] S1x64x128.size (by decide)).toLoadRect) := by
    have e : (kernelRun0_A.sl.v122 (F := Ideal) c arg2 harg2 arg3 harg3 arg8 x0 x1) = N128.sub0 (kernelRun0_A.sl.v86 (F := Ideal) c arg2 harg2 arg3 harg3 x0 x1) := by
      simp (disch := decide) only [kernelRun0_A.sl.v122, ↓View.readCov_skip, kernelRun0_A.sl.HS1_4]
      apply N128.read_s0
    rw [← sc0, ← e]
    rfl
  have x01 : (kernelRun0_A.sl.v149 (F := Ideal) c arg2 harg2 arg3 harg3 arg5 harg5 arg7 arg8 x0 x1 x3) = N128.ex (N128.sub1 (N128.score lanes0 (kernelRun0_A.sl.v75 (F := Ideal) c arg2 harg2 x0) (kernelRun0_A.sl.v10_1 (F := Ideal) c arg3 harg3 x1))) (arg7.view.readCov (kernelRun0_A.sl.HS0_32 (F := Ideal) c arg5 harg5 x3) (Rect.unit (s := S2x128x640) ![0, 64, 512] S1x64x128.size (by decide)).toLoadRect) := by
    have e : (kernelRun0_A.sl.v140 (F := Ideal) c arg2 harg2 arg3 harg3 arg8 x0 x1) = N128.sub1 (kernelRun0_A.sl.v86 (F := Ideal) c arg2 harg2 arg3 harg3 x0 x1) := by
      simp (disch := decide) only [kernelRun0_A.sl.v140, ↓View.readCov_skip, kernelRun0_A.sl.HS1_4]
      apply N128.read_s1
    rw [← sc0, ← e]
    rfl
  have j0 : (kernelRun0_A.sl.v294 (F := Ideal) c arg2 harg2 arg3 harg3 arg5 harg5 arg7 arg8 arg9 x0 x1 x3) = N128.join (N128.st (kernelRun0_A.sl.v131 (F := Ideal) c arg2 harg2 arg3 harg3 arg5 harg5 arg7 arg8 x0 x1 x3)) (N128.st (kernelRun0_A.sl.v149 (F := Ideal) c arg2 harg2 arg3 harg3 arg5 harg5 arg7 arg8 x0 x1 x3)) := by
    simp (disch := decide) only [kernelRun0_A.sl.v294, ↓View.readCov_skip, kernelRun0_A.sl.HS2_8]
    apply N128.read_e
  have sc1 : (kernelRun0_A.sl.v97 (F := Ideal) c arg2 harg2 arg3 harg3 x0 x1) = N128.score lanes1 (kernelRun0_A.sl.v75 (F := Ideal) c arg2 harg2 x0) (kernelRun0_A.sl.v10_1 (F := Ideal) c arg3 harg3 x1) := rfl
  have x10 : (kernelRun0_A.sl.v168 (F := Ideal) c arg2 harg2 arg3 harg3 arg5 harg5 arg7 arg8 x0 x1 x3) = N128.ex (N128.sub0 (N128.score lanes1 (kernelRun0_A.sl.v75 (F := Ideal) c arg2 harg2 x0) (kernelRun0_A.sl.v10_1 (F := Ideal) c arg3 harg3 x1))) (arg7.view.readCov (kernelRun0_A.sl.HS0_32 (F := Ideal) c arg5 harg5 x3) (Rect.unit (s := S2x128x640) ![1, 0, 512] S1x64x128.size (by decide)).toLoadRect) := by
    have e : (kernelRun0_A.sl.v159 (F := Ideal) c arg2 harg2 arg3 harg3 arg8 x0 x1) = N128.sub0 (kernelRun0_A.sl.v97 (F := Ideal) c arg2 harg2 arg3 harg3 x0 x1) := by
      simp (disch := decide) only [kernelRun0_A.sl.v159, ↓View.readCov_skip, kernelRun0_A.sl.HS1_4]
      apply N128.read_s0
    rw [← sc1, ← e]
    rfl
  have x11 : (kernelRun0_A.sl.v186 (F := Ideal) c arg2 harg2 arg3 harg3 arg5 harg5 arg7 arg8 x0 x1 x3) = N128.ex (N128.sub1 (N128.score lanes1 (kernelRun0_A.sl.v75 (F := Ideal) c arg2 harg2 x0) (kernelRun0_A.sl.v10_1 (F := Ideal) c arg3 harg3 x1))) (arg7.view.readCov (kernelRun0_A.sl.HS0_32 (F := Ideal) c arg5 harg5 x3) (Rect.unit (s := S2x128x640) ![1, 64, 512] S1x64x128.size (by decide)).toLoadRect) := by
    have e : (kernelRun0_A.sl.v177 (F := Ideal) c arg2 harg2 arg3 harg3 arg8 x0 x1) = N128.sub1 (kernelRun0_A.sl.v97 (F := Ideal) c arg2 harg2 arg3 harg3 x0 x1) := by
      simp (disch := decide) only [kernelRun0_A.sl.v177, ↓View.readCov_skip, kernelRun0_A.sl.HS1_4]
      apply N128.read_s1
    rw [← sc1, ← e]
    rfl
  have j1 : (kernelRun0_A.sl.v299 (F := Ideal) c arg2 harg2 arg3 harg3 arg5 harg5 arg7 arg8 arg9 x0 x1 x3) = N128.join (N128.st (kernelRun0_A.sl.v168 (F := Ideal) c arg2 harg2 arg3 harg3 arg5 harg5 arg7 arg8 x0 x1 x3)) (N128.st (kernelRun0_A.sl.v186 (F := Ideal) c arg2 harg2 arg3 harg3 arg5 harg5 arg7 arg8 x0 x1 x3)) := by
    simp (disch := decide) only [kernelRun0_A.sl.v299, ↓View.readCov_skip, kernelRun0_A.sl.HS2_8]
    apply N128.read_e
  unfold N128.chain
  rw [← x00, ← x01, ← x10, ← x11]
  unfold N128.head
  rw [← j0, ← j1]
  rfl

theorem pieceA_1 : kernelRun0_A.sl.v420 (F := Ideal) c arg2 harg2 arg3 harg3 arg4 harg4 arg5 harg5 arg7 arg8 arg9 x0 x1 x2 x3 =
    N256.chain (kernelRun0_A.sl.v99 (F := Ideal) c arg2 harg2 x0) (kernelRun0_A.sl.v14 (F := Ideal) c arg3 harg3 x1) (kernelRun0_A.sl.v16 (F := Ideal) c arg4 harg4 x2)
      (arg7.view.readCov (kernelRun0_A.sl.HS0_32 (F := Ideal) c arg5 harg5 x3) (Rect.unit (s := S2x128x640) ![0, 0, 384] S1x64x256.size (by decide)).toLoadRect) (arg7.view.readCov (kernelRun0_A.sl.HS0_32 (F := Ideal) c arg5 harg5 x3) (Rect.unit (s := S2x128x640) ![0, 64, 384] S1x64x256.size (by decide)).toLoadRect)
      (arg7.view.readCov (kernelRun0_A.sl.HS0_32 (F := Ideal) c arg5 harg5 x3) (Rect.unit (s := S2x128x640) ![1, 0, 384] S1x64x256.size (by decide)).toLoadRect) (arg7.view.readCov (kernelRun0_A.sl.HS0_32 (F := Ideal) c arg5 harg5 x3) (Rect.unit (s := S2x128x640) ![1, 64, 384] S1x64x256.size (by decide)).toLoadRect) := by
  have sc0 : (kernelRun0_A.sl.v110 (F := Ideal) c arg2 harg2 arg3 harg3 x0 x1) = N256.score lanes0 (kernelRun0_A.sl.v99 (F := Ideal) c arg2 harg2 x0) (kernelRun0_A.sl.v14 (F := Ideal) c arg3 harg3 x1) := rfl
  have x00 : (kernelRun0_A.sl.v229 (F := Ideal) c arg2 harg2 arg3 harg3 arg5 harg5 arg7 arg8 x0 x1 x3) = N256.ex (N256.sub0 (N256.score lanes0 (kernelRun0_A.sl.v99 (F := Ideal) c arg2 harg2 x0) (kernelRun0_A.sl.v14 (F := Ideal) c arg3 harg3 x1))) (arg7.view.readCov (kernelRun0_A.sl.HS0_32 (F := Ideal) c arg5 harg5 x3) (Rect.unit (s := S2x128x640) ![0, 0, 384] S1x64x256.size (by decide)).toLoadRect) := by
    have e : (kernelRun0_A.sl.v220 (F := Ideal) c arg2 harg2 arg3 harg3 arg8 x0 x1) = N256.sub0 (kernelRun0_A.sl.v110 (F := Ideal) c arg2 harg2 arg3 harg3 x0 x1) := by
      simp (disch := decide) only [kernelRun0_A.sl.v220, ↓View.readCov_skip, kernelRun0_A.sl.HS1_6, kernelRun0_A.sl.HS1_4]
      apply N256.read_s0
    rw [← sc0, ← e]
    rfl
  have x01 : (kernelRun0_A.sl.v247 (F := Ideal) c arg2 harg2 arg3 harg3 arg5 harg5 arg7 arg8 x0 x1 x3) = N256.ex (N256.sub1 (N256.score lanes0 (kernelRun0_A.sl.v99 (F := Ideal) c arg2 harg2 x0) (kernelRun0_A.sl.v14 (F := Ideal) c arg3 harg3 x1))) (arg7.view.readCov (kernelRun0_A.sl.HS0_32 (F := Ideal) c arg5 harg5 x3) (Rect.unit (s := S2x128x640) ![0, 64, 384] S1x64x256.size (by decide)).toLoadRect) := by
    have e : (kernelRun0_A.sl.v238 (F := Ideal) c arg2 harg2 arg3 harg3 arg8 x0 x1) = N256.sub1 (kernelRun0_A.sl.v110 (F := Ideal) c arg2 harg2 arg3 harg3 x0 x1) := by
      simp (disch := decide) only [kernelRun0_A.sl.v238, ↓View.readCov_skip, kernelRun0_A.sl.HS1_6, kernelRun0_A.sl.HS1_4]
      apply N256.read_s1
    rw [← sc0, ← e]
    rfl
  have j0 : (kernelRun0_A.sl.v407 (F := Ideal) c arg2 harg2 arg3 harg3 arg5 harg5 arg7 arg8 arg9 x0 x1 x3) = N256.join (N256.st (kernelRun0_A.sl.v229 (F := Ideal) c arg2 harg2 arg3 harg3 arg5 harg5 arg7 arg8 x0 x1 x3)) (N256.st (kernelRun0_A.sl.v247 (F := Ideal) c arg2 harg2 arg3 harg3 arg5 harg5 arg7 arg8 x0 x1 x3)) := by
    simp (disch := decide) only [kernelRun0_A.sl.v407, ↓View.readCov_skip, kernelRun0_A.sl.HS2_12, kernelRun0_A.sl.HS2_8]
    apply N256.read_e
  have sc1 : (kernelRun0_A.sl.v121 (F := Ideal) c arg2 harg2 arg3 harg3 x0 x1) = N256.score lanes1 (kernelRun0_A.sl.v99 (F := Ideal) c arg2 harg2 x0) (kernelRun0_A.sl.v14 (F := Ideal) c arg3 harg3 x1) := rfl
  have x10 : (kernelRun0_A.sl.v266 (F := Ideal) c arg2 harg2 arg3 harg3 arg5 harg5 arg7 arg8 x0 x1 x3) = N256.ex (N256.sub0 (N256.score lanes1 (kernelRun0_A.sl.v99 (F := Ideal) c arg2 harg2 x0) (kernelRun0_A.sl.v14 (F := Ideal) c arg3 harg3 x1))) (arg7.view.readCov (kernelRun0_A.sl.HS0_32 (F := Ideal) c arg5 harg5 x3) (Rect.unit (s := S2x128x640) ![1, 0, 384] S1x64x256.size (by decide)).toLoadRect) := by
    have e : (kernelRun0_A.sl.v257 (F := Ideal) c arg2 harg2 arg3 harg3 arg8 x0 x1) = N256.sub0 (kernelRun0_A.sl.v121 (F := Ideal) c arg2 harg2 arg3 harg3 x0 x1) := by
      simp (disch := decide) only [kernelRun0_A.sl.v257, ↓View.readCov_skip, kernelRun0_A.sl.HS1_6, kernelRun0_A.sl.HS1_4]
      apply N256.read_s0
    rw [← sc1, ← e]
    rfl
  have x11 : (kernelRun0_A.sl.v284 (F := Ideal) c arg2 harg2 arg3 harg3 arg5 harg5 arg7 arg8 x0 x1 x3) = N256.ex (N256.sub1 (N256.score lanes1 (kernelRun0_A.sl.v99 (F := Ideal) c arg2 harg2 x0) (kernelRun0_A.sl.v14 (F := Ideal) c arg3 harg3 x1))) (arg7.view.readCov (kernelRun0_A.sl.HS0_32 (F := Ideal) c arg5 harg5 x3) (Rect.unit (s := S2x128x640) ![1, 64, 384] S1x64x256.size (by decide)).toLoadRect) := by
    have e : (kernelRun0_A.sl.v275 (F := Ideal) c arg2 harg2 arg3 harg3 arg8 x0 x1) = N256.sub1 (kernelRun0_A.sl.v121 (F := Ideal) c arg2 harg2 arg3 harg3 x0 x1) := by
      simp (disch := decide) only [kernelRun0_A.sl.v275, ↓View.readCov_skip, kernelRun0_A.sl.HS1_6, kernelRun0_A.sl.HS1_4]
      apply N256.read_s1
    rw [← sc1, ← e]
    rfl
  have j1 : (kernelRun0_A.sl.v412 (F := Ideal) c arg2 harg2 arg3 harg3 arg5 harg5 arg7 arg8 arg9 x0 x1 x3) = N256.join (N256.st (kernelRun0_A.sl.v266 (F := Ideal) c arg2 harg2 arg3 harg3 arg5 harg5 arg7 arg8 x0 x1 x3)) (N256.st (kernelRun0_A.sl.v284 (F := Ideal) c arg2 harg2 arg3 harg3 arg5 harg5 arg7 arg8 x0 x1 x3)) := by
    simp (disch := decide) only [kernelRun0_A.sl.v412, ↓View.readCov_skip, kernelRun0_A.sl.HS2_12, kernelRun0_A.sl.HS2_8]
    apply N256.read_e
  unfold N256.chain
  rw [← x00, ← x01, ← x10, ← x11]
  unfold N256.head
  rw [← j0, ← j1]
  rfl

theorem pieceA_2 : kernelRun0_A.sl.v533 (F := Ideal) c arg2 harg2 arg3 harg3 arg4 harg4 arg5 harg5 arg7 arg8 arg9 x0 x1 x2 x3 =
    N384.chain (kernelRun0_A.sl.v197 (F := Ideal) c arg2 harg2 x0) (kernelRun0_A.sl.v18 (F := Ideal) c arg3 harg3 x1) (kernelRun0_A.sl.v20 (F := Ideal) c arg4 harg4 x2)
      (arg7.view.readCov (kernelRun0_A.sl.HS0_32 (F := Ideal) c arg5 harg5 x3) (Rect.unit (s := S2x128x640) ![0, 0, 256] S1x64x384.size (by decide)).toLoadRect) (arg7.view.readCov (kernelRun0_A.sl.HS0_32 (F := Ideal) c arg5 harg5 x3) (Rect.unit (s := S2x128x640) ![0, 64, 256] S1x64x384.size (by decide)).toLoadRect)
      (arg7.view.readCov (kernelRun0_A.sl.HS0_32 (F := Ideal) c arg5 harg5 x3) (Rect.unit (s := S2x128x640) ![1, 0, 256] S1x64x384.size (by decide)).toLoadRect) (arg7.view.readCov (kernelRun0_A.sl.HS0_32 (F := Ideal) c arg5 harg5 x3) (Rect.unit (s := S2x128x640) ![1, 64, 256] S1x64x384.size (by decide)).toLoadRect) := by
  have sc0 : (kernelRun0_A.sl.v208 (F := Ideal) c arg2 harg2 arg3 harg3 x0 x1) = N384.score lanes0 (kernelRun0_A.sl.v197 (F := Ideal) c arg2 harg2 x0) (kernelRun0_A.sl.v18 (F := Ideal) c arg3 harg3 x1) := rfl
  have x00 : (kernelRun0_A.sl.v342 (F := Ideal) c arg2 harg2 arg3 harg3 arg5 harg5 arg7 arg8 x0 x1 x3) = N384.ex (N384.sub0 (N384.score lanes0 (kernelRun0_A.sl.v197 (F := Ideal) c arg2 harg2 x0) (kernelRun0_A.sl.v18 (F := Ideal) c arg3 harg3 x1))) (arg7.view.readCov (kernelRun0_A.sl.HS0_32 (F := Ideal) c arg5 harg5 x3) (Rect.unit (s := S2x128x640) ![0, 0, 256] S1x64x384.size (by decide)).toLoadRect) := by
    have e : (kernelRun0_A.sl.v333 (F := Ideal) c arg2 harg2 arg3 harg3 arg8 x0 x1) = N384.sub0 (kernelRun0_A.sl.v208 (F := Ideal) c arg2 harg2 arg3 harg3 x0 x1) := by
      simp (disch := decide) only [kernelRun0_A.sl.v333, ↓View.readCov_skip, kernelRun0_A.sl.HS1_8, kernelRun0_A.sl.HS1_6, kernelRun0_A.sl.HS1_4]
      apply N384.read_s0
    rw [← sc0, ← e]
    rfl
  have x01 : (kernelRun0_A.sl.v360 (F := Ideal) c arg2 harg2 arg3 harg3 arg5 harg5 arg7 arg8 x0 x1 x3) = N384.ex (N384.sub1 (N384.score lanes0 (kernelRun0_A.sl.v197 (F := Ideal) c arg2 harg2 x0) (kernelRun0_A.sl.v18 (F := Ideal) c arg3 harg3 x1))) (arg7.view.readCov (kernelRun0_A.sl.HS0_32 (F := Ideal) c arg5 harg5 x3) (Rect.unit (s := S2x128x640) ![0, 64, 256] S1x64x384.size (by decide)).toLoadRect) := by
    have e : (kernelRun0_A.sl.v351 (F := Ideal) c arg2 harg2 arg3 harg3 arg8 x0 x1) = N384.sub1 (kernelRun0_A.sl.v208 (F := Ideal) c arg2 harg2 arg3 harg3 x0 x1) := by
      simp (disch := decide) only [kernelRun0_A.sl.v351, ↓View.readCov_skip, kernelRun0_A.sl.HS1_8, kernelRun0_A.sl.HS1_6, kernelRun0_A.sl.HS1_4]
      apply N384.read_s1
    rw [← sc0, ← e]
    rfl
  have j0 : (kernelRun0_A.sl.v520 (F := Ideal) c arg2 harg2 arg3 harg3 arg5 harg5 arg7 arg8 arg9 x0 x1 x3) = N384.join (N384.st (kernelRun0_A.sl.v342 (F := Ideal) c arg2 harg2 arg3 harg3 arg5 harg5 arg7 arg8 x0 x1 x3)) (N384.st (kernelRun0_A.sl.v360 (F := Ideal) c arg2 harg2 arg3 harg3 arg5 harg5 arg7 arg8 x0 x1 x3)) := by
    simp (disch := decide) only [kernelRun0_A.sl.v520, ↓View.readCov_skip, kernelRun0_A.sl.HS2_16, kernelRun0_A.sl.HS2_12, kernelRun0_A.sl.HS2_8]
    apply N384.read_e
  have sc1 : (kernelRun0_A.sl.v219 (F := Ideal) c arg2 harg2 arg3 harg3 x0 x1) = N384.score lanes1 (kernelRun0_A.sl.v197 (F := Ideal) c arg2 harg2 x0) (kernelRun0_A.sl.v18 (F := Ideal) c arg3 harg3 x1) := rfl
  have x10 : (kernelRun0_A.sl.v379 (F := Ideal) c arg2 harg2 arg3 harg3 arg5 harg5 arg7 arg8 x0 x1 x3) = N384.ex (N384.sub0 (N384.score lanes1 (kernelRun0_A.sl.v197 (F := Ideal) c arg2 harg2 x0) (kernelRun0_A.sl.v18 (F := Ideal) c arg3 harg3 x1))) (arg7.view.readCov (kernelRun0_A.sl.HS0_32 (F := Ideal) c arg5 harg5 x3) (Rect.unit (s := S2x128x640) ![1, 0, 256] S1x64x384.size (by decide)).toLoadRect) := by
    have e : (kernelRun0_A.sl.v370 (F := Ideal) c arg2 harg2 arg3 harg3 arg8 x0 x1) = N384.sub0 (kernelRun0_A.sl.v219 (F := Ideal) c arg2 harg2 arg3 harg3 x0 x1) := by
      simp (disch := decide) only [kernelRun0_A.sl.v370, ↓View.readCov_skip, kernelRun0_A.sl.HS1_8, kernelRun0_A.sl.HS1_6, kernelRun0_A.sl.HS1_4]
      apply N384.read_s0
    rw [← sc1, ← e]
    rfl
  have x11 : (kernelRun0_A.sl.v397 (F := Ideal) c arg2 harg2 arg3 harg3 arg5 harg5 arg7 arg8 x0 x1 x3) = N384.ex (N384.sub1 (N384.score lanes1 (kernelRun0_A.sl.v197 (F := Ideal) c arg2 harg2 x0) (kernelRun0_A.sl.v18 (F := Ideal) c arg3 harg3 x1))) (arg7.view.readCov (kernelRun0_A.sl.HS0_32 (F := Ideal) c arg5 harg5 x3) (Rect.unit (s := S2x128x640) ![1, 64, 256] S1x64x384.size (by decide)).toLoadRect) := by
    have e : (kernelRun0_A.sl.v388 (F := Ideal) c arg2 harg2 arg3 harg3 arg8 x0 x1) = N384.sub1 (kernelRun0_A.sl.v219 (F := Ideal) c arg2 harg2 arg3 harg3 x0 x1) := by
      simp (disch := decide) only [kernelRun0_A.sl.v388, ↓View.readCov_skip, kernelRun0_A.sl.HS1_8, kernelRun0_A.sl.HS1_6, kernelRun0_A.sl.HS1_4]
      apply N384.read_s1
    rw [← sc1, ← e]
    rfl
  have j1 : (kernelRun0_A.sl.v525 (F := Ideal) c arg2 harg2 arg3 harg3 arg5 harg5 arg7 arg8 arg9 x0 x1 x3) = N384.join (N384.st (kernelRun0_A.sl.v379 (F := Ideal) c arg2 harg2 arg3 harg3 arg5 harg5 arg7 arg8 x0 x1 x3)) (N384.st (kernelRun0_A.sl.v397 (F := Ideal) c arg2 harg2 arg3 harg3 arg5 harg5 arg7 arg8 x0 x1 x3)) := by
    simp (disch := decide) only [kernelRun0_A.sl.v525, ↓View.readCov_skip, kernelRun0_A.sl.HS2_16, kernelRun0_A.sl.HS2_12, kernelRun0_A.sl.HS2_8]
    apply N384.read_e
  unfold N384.chain
  rw [← x00, ← x01, ← x10, ← x11]
  unfold N384.head
  rw [← j0, ← j1]
  rfl

theorem pieceA_3 : kernelRun0_A.sl.v646 (F := Ideal) c arg2 harg2 arg3 harg3 arg4 harg4 arg5 harg5 arg7 arg8 arg9 x0 x1 x2 x3 =
    N512.chain (kernelRun0_A.sl.v310 (F := Ideal) c arg2 harg2 x0) (kernelRun0_A.sl.v22 (F := Ideal) c arg3 harg3 x1) (kernelRun0_A.sl.v24 (F := Ideal) c arg4 harg4 x2)
      (arg7.view.readCov (kernelRun0_A.sl.HS0_32 (F := Ideal) c arg5 harg5 x3) (Rect.unit (s := S2x128x640) ![0, 0, 128] S1x64x512.size (by decide)).toLoadRect) (arg7.view.readCov (kernelRun0_A.sl.HS0_32 (F := Ideal) c arg5 harg5 x3) (Rect.unit (s := S2x128x640) ![0, 64, 128] S1x64x512.size (by decide)).toLoadRect)
      (arg7.view.readCov (kernelRun0_A.sl.HS0_32 (F := Ideal) c arg5 harg5 x3) (Rect.unit (s := S2x128x640) ![1, 0, 128] S1x64x512.size (by decide)).toLoadRect) (arg7.view.readCov (kernelRun0_A.sl.HS0_32 (F := Ideal) c arg5 harg5 x3) (Rect.unit (s := S2x128x640) ![1, 64, 128] S1x64x512.size (by decide)).toLoadRect) := by
  have sc0 : (kernelRun0_A.sl.v321 (F := Ideal) c arg2 harg2 arg3 harg3 x0 x1) = N512.score lanes0 (kernelRun0_A.sl.v310 (F := Ideal) c arg2 harg2 x0) (kernelRun0_A.sl.v22 (F := Ideal) c arg3 harg3 x1) := rfl
  have x00 : (kernelRun0_A.sl.v455 (F := Ideal) c arg2 harg2 arg3 harg3 arg5 harg5 arg7 arg8 x0 x1 x3) = N512.ex (N512.sub0 (N512.score lanes0 (kernelRun0_A.sl.v310 (F := Ideal) c arg2 harg2 x0) (kernelRun0_A.sl.v22 (F := Ideal) c arg3 harg3 x1))) (arg7.view.readCov (kernelRun0_A.sl.HS0_32 (F := Ideal) c arg5 harg5 x3) (Rect.unit (s := S2x128x640) ![0, 0, 128] S1x64x512.size (by decide)).toLoadRect) := by
    have e : (kernelRun0_A.sl.v446 (F := Ideal) c arg2 harg2 arg3 harg3 arg8 x0 x1) = N512.sub0 (kernelRun0_A.sl.v321 (F := Ideal) c arg2 harg2 arg3 harg3 x0 x1) := by
      simp (disch := decide) only [kernelRun0_A.sl.v446, ↓View.readCov_skip, kernelRun0_A.sl.HS1_10, kernelRun0_A.sl.HS1_8, kernelRun0_A.sl.HS1_6]
      apply N512.read_s0
    rw [← sc0, ← e]
    rfl
  have x01 : (kernelRun0_A.sl.v473 (F := Ideal) c arg2 harg2 arg3 harg3 arg5 harg5 arg7 arg8 x0 x1 x3) = N512.ex (N512.sub1 (N512.score lanes0 (kernelRun0_A.sl.v310 (F := Ideal) c arg2 harg2 x0) (kernelRun0_A.sl.v22 (F := Ideal) c arg3 harg3 x1))) (arg7.view.readCov (kernelRun0_A.sl.HS0_32 (F := Ideal) c arg5 harg5 x3) (Rect.unit (s := S2x128x640) ![0, 64, 128] S1x64x512.size (by decide)).toLoadRect) := by
    have e : (kernelRun0_A.sl.v464 (F := Ideal) c arg2 harg2 arg3 harg3 arg8 x0 x1) = N512.sub1 (kernelRun0_A.sl.v321 (F := Ideal) c arg2 harg2 arg3 harg3 x0 x1) := by
      simp (disch := decide) only [kernelRun0_A.sl.v464, ↓View.readCov_skip, kernelRun0_A.sl.HS1_10, kernelRun0_A.sl.HS1_8, kernelRun0_A.sl.HS1_6]
      apply N512.read_s1
    rw [← sc0, ← e]
    rfl
  have j0 : (kernelRun0_A.sl.v633 (F := Ideal) c arg2 harg2 arg3 harg3 arg5 harg5 arg7 arg8 arg9 x0 x1 x3) = N512.join (N512.st (kernelRun0_A.sl.v455 (F := Ideal) c arg2 harg2 arg3 harg3 arg5 harg5 arg7 arg8 x0 x1 x3)) (N512.st (kernelRun0_A.sl.v473 (F := Ideal) c arg2 harg2 arg3 harg3 arg5 harg5 arg7 arg8 x0 x1 x3)) := by
    simp (disch := decide) only [kernelRun0_A.sl.v633, ↓View.readCov_skip, kernelRun0_A.sl.HS2_20, kernelRun0_A.sl.HS2_16, kernelRun0_A.sl.HS2_12]
    apply N512.read_e
  have sc1 : (kernelRun0_A.sl.v332 (F := Ideal) c arg2 harg2 arg3 harg3 x0 x1) = N512.score lanes1 (kernelRun0_A.sl.v310 (F := Ideal) c arg2 harg2 x0) (kernelRun0_A.sl.v22 (F := Ideal) c arg3 harg3 x1) := rfl
  have x10 : (kernelRun0_A.sl.v492 (F := Ideal) c arg2 harg2 arg3 harg3 arg5 harg5 arg7 arg8 x0 x1 x3) = N512.ex (N512.sub0 (N512.score lanes1 (kernelRun0_A.sl.v310 (F := Ideal) c arg2 harg2 x0) (kernelRun0_A.sl.v22 (F := Ideal) c arg3 harg3 x1))) (arg7.view.readCov (kernelRun0_A.sl.HS0_32 (F := Ideal) c arg5 harg5 x3) (Rect.unit (s := S2x128x640) ![1, 0, 128] S1x64x512.size (by decide)).toLoadRect) := by
    have e : (kernelRun0_A.sl.v483 (F := Ideal) c arg2 harg2 arg3 harg3 arg8 x0 x1) = N512.sub0 (kernelRun0_A.sl.v332 (F := Ideal) c arg2 harg2 arg3 harg3 x0 x1) := by
      simp (disch := decide) only [kernelRun0_A.sl.v483, ↓View.readCov_skip, kernelRun0_A.sl.HS1_10, kernelRun0_A.sl.HS1_8, kernelRun0_A.sl.HS1_6]
      apply N512.read_s0
    rw [← sc1, ← e]
    rfl
  have x11 : (kernelRun0_A.sl.v510 (F := Ideal) c arg2 harg2 arg3 harg3 arg5 harg5 arg7 arg8 x0 x1 x3) = N512.ex (N512.sub1 (N512.score lanes1 (kernelRun0_A.sl.v310 (F := Ideal) c arg2 harg2 x0) (kernelRun0_A.sl.v22 (F := Ideal) c arg3 harg3 x1))) (arg7.view.readCov (kernelRun0_A.sl.HS0_32 (F := Ideal) c arg5 harg5 x3) (Rect.unit (s := S2x128x640) ![1, 64, 128] S1x64x512.size (by decide)).toLoadRect) := by
    have e : (kernelRun0_A.sl.v501 (F := Ideal) c arg2 harg2 arg3 harg3 arg8 x0 x1) = N512.sub1 (kernelRun0_A.sl.v332 (F := Ideal) c arg2 harg2 arg3 harg3 x0 x1) := by
      simp (disch := decide) only [kernelRun0_A.sl.v501, ↓View.readCov_skip, kernelRun0_A.sl.HS1_10, kernelRun0_A.sl.HS1_8, kernelRun0_A.sl.HS1_6]
      apply N512.read_s1
    rw [← sc1, ← e]
    rfl
  have j1 : (kernelRun0_A.sl.v638 (F := Ideal) c arg2 harg2 arg3 harg3 arg5 harg5 arg7 arg8 arg9 x0 x1 x3) = N512.join (N512.st (kernelRun0_A.sl.v492 (F := Ideal) c arg2 harg2 arg3 harg3 arg5 harg5 arg7 arg8 x0 x1 x3)) (N512.st (kernelRun0_A.sl.v510 (F := Ideal) c arg2 harg2 arg3 harg3 arg5 harg5 arg7 arg8 x0 x1 x3)) := by
    simp (disch := decide) only [kernelRun0_A.sl.v638, ↓View.readCov_skip, kernelRun0_A.sl.HS2_20, kernelRun0_A.sl.HS2_16, kernelRun0_A.sl.HS2_12]
    apply N512.read_e
  unfold N512.chain
  rw [← x00, ← x01, ← x10, ← x11]
  unfold N512.head
  rw [← j0, ← j1]
  rfl

theorem pieceA_4 : kernelRun0_A.sl.v759 (F := Ideal) c arg2 harg2 arg3 harg3 arg4 harg4 arg5 harg5 arg7 arg8 arg9 x0 x1 x2 x3 =
    N640.chain (kernelRun0_A.sl.v423 (F := Ideal) c arg2 harg2 x0) (kernelRun0_A.sl.v26 (F := Ideal) c arg3 harg3 x1) (kernelRun0_A.sl.v28 (F := Ideal) c arg4 harg4 x2)
      (arg7.view.readCov (kernelRun0_A.sl.HS0_32 (F := Ideal) c arg5 harg5 x3) (Rect.unit (s := S2x128x640) ![0, 0, 0] S1x64x640.size (by decide)).toLoadRect) (arg7.view.readCov (kernelRun0_A.sl.HS0_32 (F := Ideal) c arg5 harg5 x3) (Rect.unit (s := S2x128x640) ![0, 64, 0] S1x64x640.size (by decide)).toLoadRect)
      (arg7.view.readCov (kernelRun0_A.sl.HS0_32 (F := Ideal) c arg5 harg5 x3) (Rect.unit (s := S2x128x640) ![1, 0, 0] S1x64x640.size (by decide)).toLoadRect) (arg7.view.readCov (kernelRun0_A.sl.HS0_32 (F := Ideal) c arg5 harg5 x3) (Rect.unit (s := S2x128x640) ![1, 64, 0] S1x64x640.size (by decide)).toLoadRect) := by
  have sc0 : (kernelRun0_A.sl.v434 (F := Ideal) c arg2 harg2 arg3 harg3 x0 x1) = N640.score lanes0 (kernelRun0_A.sl.v423 (F := Ideal) c arg2 harg2 x0) (kernelRun0_A.sl.v26 (F := Ideal) c arg3 harg3 x1) := rfl
  have x00 : (kernelRun0_A.sl.v568 (F := Ideal) c arg2 harg2 arg3 harg3 arg5 harg5 arg7 arg8 x0 x1 x3) = N640.ex (N640.sub0 (N640.score lanes0 (kernelRun0_A.sl.v423 (F := Ideal) c arg2 harg2 x0) (kernelRun0_A.sl.v26 (F := Ideal) c arg3 harg3 x1))) (arg7.view.readCov (kernelRun0_A.sl.HS0_32 (F := Ideal) c arg5 harg5 x3) (Rect.unit (s := S2x128x640) ![0, 0, 0] S1x64x640.size (by decide)).toLoadRect) := by
    have e : (kernelRun0_A.sl.v559 (F := Ideal) c arg2 harg2 arg3 harg3 arg8 x0 x1) = N640.sub0 (kernelRun0_A.sl.v434 (F := Ideal) c arg2 harg2 arg3 harg3 x0 x1) := by
      simp (disch := decide) only [kernelRun0_A.sl.v559, ↓View.readCov_skip, kernelRun0_A.sl.HS1_12, kernelRun0_A.sl.HS1_10, kernelRun0_A.sl.HS1_8]
      apply N640.read_s0
    rw [← sc0, ← e]
    rfl
  have x01 : (kernelRun0_A.sl.v586 (F := Ideal) c arg2 harg2 arg3 harg3 arg5 harg5 arg7 arg8 x0 x1 x3) = N640.ex (N640.sub1 (N640.score lanes0 (kernelRun0_A.sl.v423 (F := Ideal) c arg2 harg2 x0) (kernelRun0_A.sl.v26 (F := Ideal) c arg3 harg3 x1))) (arg7.view.readCov (kernelRun0_A.sl.HS0_32 (F := Ideal) c arg5 harg5 x3) (Rect.unit (s := S2x128x640) ![0, 64, 0] S1x64x640.size (by decide)).toLoadRect) := by
    have e : (kernelRun0_A.sl.v577 (F := Ideal) c arg2 harg2 arg3 harg3 arg8 x0 x1) = N640.sub1 (kernelRun0_A.sl.v434 (F := Ideal) c arg2 harg2 arg3 harg3 x0 x1) := by
      simp (disch := decide) only [kernelRun0_A.sl.v577, ↓View.readCov_skip, kernelRun0_A.sl.HS1_12, kernelRun0_A.sl.HS1_10, kernelRun0_A.sl.HS1_8]
      apply N640.read_s1
    rw [← sc0, ← e]
    rfl
  have j0 : (kernelRun0_A.sl.v746 (F := Ideal) c arg2 harg2 arg3 harg3 arg5 harg5 arg7 arg8 arg9 x0 x1 x3) = N640.join (N640.st (kernelRun0_A.sl.v568 (F := Ideal) c arg2 harg2 arg3 harg3 arg5 harg5 arg7 arg8 x0 x1 x3)) (N640.st (kernelRun0_A.sl.v586 (F := Ideal) c arg2 harg2 arg3 harg3 arg5 harg5 arg7 arg8 x0 x1 x3)) := by
    simp (disch := decide) only [kernelRun0_A.sl.v746, ↓View.readCov_skip, kernelRun0_A.sl.HS2_24, kernelRun0_A.sl.HS2_20, kernelRun0_A.sl.HS2_16]
    apply N640.read_e
  have sc1 : (kernelRun0_A.sl.v445 (F := Ideal) c arg2 harg2 arg3 harg3 x0 x1) = N640.score lanes1 (kernelRun0_A.sl.v423 (F := Ideal) c arg2 harg2 x0) (kernelRun0_A.sl.v26 (F := Ideal) c arg3 harg3 x1) := rfl
  have x10 : (kernelRun0_A.sl.v605 (F := Ideal) c arg2 harg2 arg3 harg3 arg5 harg5 arg7 arg8 x0 x1 x3) = N640.ex (N640.sub0 (N640.score lanes1 (kernelRun0_A.sl.v423 (F := Ideal) c arg2 harg2 x0) (kernelRun0_A.sl.v26 (F := Ideal) c arg3 harg3 x1))) (arg7.view.readCov (kernelRun0_A.sl.HS0_32 (F := Ideal) c arg5 harg5 x3) (Rect.unit (s := S2x128x640) ![1, 0, 0] S1x64x640.size (by decide)).toLoadRect) := by
    have e : (kernelRun0_A.sl.v596 (F := Ideal) c arg2 harg2 arg3 harg3 arg8 x0 x1) = N640.sub0 (kernelRun0_A.sl.v445 (F := Ideal) c arg2 harg2 arg3 harg3 x0 x1) := by
      simp (disch := decide) only [kernelRun0_A.sl.v596, ↓View.readCov_skip, kernelRun0_A.sl.HS1_12, kernelRun0_A.sl.HS1_10, kernelRun0_A.sl.HS1_8]
      apply N640.read_s0
    rw [← sc1, ← e]
    rfl
  have x11 : (kernelRun0_A.sl.v623 (F := Ideal) c arg2 harg2 arg3 harg3 arg5 harg5 arg7 arg8 x0 x1 x3) = N640.ex (N640.sub1 (N640.score lanes1 (kernelRun0_A.sl.v423 (F := Ideal) c arg2 harg2 x0) (kernelRun0_A.sl.v26 (F := Ideal) c arg3 harg3 x1))) (arg7.view.readCov (kernelRun0_A.sl.HS0_32 (F := Ideal) c arg5 harg5 x3) (Rect.unit (s := S2x128x640) ![1, 64, 0] S1x64x640.size (by decide)).toLoadRect) := by
    have e : (kernelRun0_A.sl.v614 (F := Ideal) c arg2 harg2 arg3 harg3 arg8 x0 x1) = N640.sub1 (kernelRun0_A.sl.v445 (F := Ideal) c arg2 harg2 arg3 harg3 x0 x1) := by
      simp (disch := decide) only [kernelRun0_A.sl.v614, ↓View.readCov_skip, kernelRun0_A.sl.HS1_12, kernelRun0_A.sl.HS1_10, kernelRun0_A.sl.HS1_8]
      apply N640.read_s1
    rw [← sc1, ← e]
    rfl
  have j1 : (kernelRun0_A.sl.v751 (F := Ideal) c arg2 harg2 arg3 harg3 arg5 harg5 arg7 arg8 arg9 x0 x1 x3) = N640.join (N640.st (kernelRun0_A.sl.v605 (F := Ideal) c arg2 harg2 arg3 harg3 arg5 harg5 arg7 arg8 x0 x1 x3)) (N640.st (kernelRun0_A.sl.v623 (F := Ideal) c arg2 harg2 arg3 harg3 arg5 harg5 arg7 arg8 x0 x1 x3)) := by
    simp (disch := decide) only [kernelRun0_A.sl.v751, ↓View.readCov_skip, kernelRun0_A.sl.HS2_24, kernelRun0_A.sl.HS2_20, kernelRun0_A.sl.HS2_16]
    apply N640.read_e
  unfold N640.chain
  rw [← x00, ← x01, ← x10, ← x11]
  unfold N640.head
  rw [← j0, ← j1]
  rfl

theorem pieceA_5 : kernelRun0_A.sl.v872 (F := Ideal) c arg2 harg2 arg3 harg3 arg4 harg4 arg5 harg5 arg7 arg8 arg9 x0 x1 x2 x3 =
    N640.chain (kernelRun0_A.sl.v536 (F := Ideal) c arg2 harg2 x0) (kernelRun0_A.sl.v30 (F := Ideal) c arg3 harg3 x1) (kernelRun0_A.sl.v32 (F := Ideal) c arg4 harg4 x2)
      (arg7.view.readCov (kernelRun0_A.sl.HS0_32 (F := Ideal) c arg5 harg5 x3) (Rect.unit (s := S2x128x640) ![0, 0, 0] S1x64x640.size (by decide)).toLoadRect) (arg7.view.readCov (kernelRun0_A.sl.HS0_32 (F := Ideal) c arg5 harg5 x3) (Rect.unit (s := S2x128x640) ![0, 64, 0] S1x64x640.size (by decide)).toLoadRect)
      (arg7.view.readCov (kernelRun0_A.sl.HS0_32 (F := Ideal) c arg5 harg5 x3) (Rect.unit (s := S2x128x640) ![1, 0, 0] S1x64x640.size (by decide)).toLoadRect) (arg7.view.readCov (kernelRun0_A.sl.HS0_32 (F := Ideal) c arg5 harg5 x3) (Rect.unit (s := S2x128x640) ![1, 64, 0] S1x64x640.size (by decide)).toLoadRect) := by
  have sc0 : (kernelRun0_A.sl.v547 (F := Ideal) c arg2 harg2 arg3 harg3 x0 x1) = N640.score lanes0 (kernelRun0_A.sl.v536 (F := Ideal) c arg2 harg2 x0) (kernelRun0_A.sl.v30 (F := Ideal) c arg3 harg3 x1) := rfl
  have x00 : (kernelRun0_A.sl.v681 (F := Ideal) c arg2 harg2 arg3 harg3 arg5 harg5 arg7 arg8 x0 x1 x3) = N640.ex (N640.sub0 (N640.score lanes0 (kernelRun0_A.sl.v536 (F := Ideal) c arg2 harg2 x0) (kernelRun0_A.sl.v30 (F := Ideal) c arg3 harg3 x1))) (arg7.view.readCov (kernelRun0_A.sl.HS0_32 (F := Ideal) c arg5 harg5 x3) (Rect.unit (s := S2x128x640) ![0, 0, 0] S1x64x640.size (by decide)).toLoadRect) := by
    have e : (kernelRun0_A.sl.v672 (F := Ideal) c arg2 harg2 arg3 harg3 arg8 x0 x1) = N640.sub0 (kernelRun0_A.sl.v547 (F := Ideal) c arg2 harg2 arg3 harg3 x0 x1) := by
      simp (disch := decide) only [kernelRun0_A.sl.v672, ↓View.readCov_skip, kernelRun0_A.sl.HS1_14, kernelRun0_A.sl.HS1_12, kernelRun0_A.sl.HS1_10]
      apply N640.read_s0
    rw [← sc0, ← e]
    rfl
  have x01 : (kernelRun0_A.sl.v699 (F := Ideal) c arg2 harg2 arg3 harg3 arg5 harg5 arg7 arg8 x0 x1 x3) = N640.ex (N640.sub1 (N640.score lanes0 (kernelRun0_A.sl.v536 (F := Ideal) c arg2 harg2 x0) (kernelRun0_A.sl.v30 (F := Ideal) c arg3 harg3 x1))) (arg7.view.readCov (kernelRun0_A.sl.HS0_32 (F := Ideal) c arg5 harg5 x3) (Rect.unit (s := S2x128x640) ![0, 64, 0] S1x64x640.size (by decide)).toLoadRect) := by
    have e : (kernelRun0_A.sl.v690 (F := Ideal) c arg2 harg2 arg3 harg3 arg8 x0 x1) = N640.sub1 (kernelRun0_A.sl.v547 (F := Ideal) c arg2 harg2 arg3 harg3 x0 x1) := by
      simp (disch := decide) only [kernelRun0_A.sl.v690, ↓View.readCov_skip, kernelRun0_A.sl.HS1_14, kernelRun0_A.sl.HS1_12, kernelRun0_A.sl.HS1_10]
      apply N640.read_s1
    rw [← sc0, ← e]
    rfl
  have j0 : (kernelRun0_A.sl.v859 (F := Ideal) c arg2 harg2 arg3 harg3 arg5 harg5 arg7 arg8 arg9 x0 x1 x3) = N640.join (N640.st (kernelRun0_A.sl.v681 (F := Ideal) c arg2 harg2 arg3 harg3 arg5 harg5 arg7 arg8 x0 x1 x3)) (N640.st (kernelRun0_A.sl.v699 (F := Ideal) c arg2 harg2 arg3 harg3 arg5 harg5 arg7 arg8 x0 x1 x3)) := by
    simp (disch := decide) only [kernelRun0_A.sl.v859, ↓View.readCov_skip, kernelRun0_A.sl.HS2_28, kernelRun0_A.sl.HS2_24, kernelRun0_A.sl.HS2_20]
    apply N640.read_e
  have sc1 : (kernelRun0_A.sl.v558 (F := Ideal) c arg2 harg2 arg3 harg3 x0 x1) = N640.score lanes1 (kernelRun0_A.sl.v536 (F := Ideal) c arg2 harg2 x0) (kernelRun0_A.sl.v30 (F := Ideal) c arg3 harg3 x1) := rfl
  have x10 : (kernelRun0_A.sl.v718 (F := Ideal) c arg2 harg2 arg3 harg3 arg5 harg5 arg7 arg8 x0 x1 x3) = N640.ex (N640.sub0 (N640.score lanes1 (kernelRun0_A.sl.v536 (F := Ideal) c arg2 harg2 x0) (kernelRun0_A.sl.v30 (F := Ideal) c arg3 harg3 x1))) (arg7.view.readCov (kernelRun0_A.sl.HS0_32 (F := Ideal) c arg5 harg5 x3) (Rect.unit (s := S2x128x640) ![1, 0, 0] S1x64x640.size (by decide)).toLoadRect) := by
    have e : (kernelRun0_A.sl.v709 (F := Ideal) c arg2 harg2 arg3 harg3 arg8 x0 x1) = N640.sub0 (kernelRun0_A.sl.v558 (F := Ideal) c arg2 harg2 arg3 harg3 x0 x1) := by
      simp (disch := decide) only [kernelRun0_A.sl.v709, ↓View.readCov_skip, kernelRun0_A.sl.HS1_14, kernelRun0_A.sl.HS1_12, kernelRun0_A.sl.HS1_10]
      apply N640.read_s0
    rw [← sc1, ← e]
    rfl
  have x11 : (kernelRun0_A.sl.v736 (F := Ideal) c arg2 harg2 arg3 harg3 arg5 harg5 arg7 arg8 x0 x1 x3) = N640.ex (N640.sub1 (N640.score lanes1 (kernelRun0_A.sl.v536 (F := Ideal) c arg2 harg2 x0) (kernelRun0_A.sl.v30 (F := Ideal) c arg3 harg3 x1))) (arg7.view.readCov (kernelRun0_A.sl.HS0_32 (F := Ideal) c arg5 harg5 x3) (Rect.unit (s := S2x128x640) ![1, 64, 0] S1x64x640.size (by decide)).toLoadRect) := by
    have e : (kernelRun0_A.sl.v727 (F := Ideal) c arg2 harg2 arg3 harg3 arg8 x0 x1) = N640.sub1 (kernelRun0_A.sl.v558 (F := Ideal) c arg2 harg2 arg3 harg3 x0 x1) := by
      simp (disch := decide) only [kernelRun0_A.sl.v727, ↓View.readCov_skip, kernelRun0_A.sl.HS1_14, kernelRun0_A.sl.HS1_12, kernelRun0_A.sl.HS1_10]
      apply N640.read_s1
    rw [← sc1, ← e]
    rfl
  have j1 : (kernelRun0_A.sl.v864 (F := Ideal) c arg2 harg2 arg3 harg3 arg5 harg5 arg7 arg8 arg9 x0 x1 x3) = N640.join (N640.st (kernelRun0_A.sl.v718 (F := Ideal) c arg2 harg2 arg3 harg3 arg5 harg5 arg7 arg8 x0 x1 x3)) (N640.st (kernelRun0_A.sl.v736 (F := Ideal) c arg2 harg2 arg3 harg3 arg5 harg5 arg7 arg8 x0 x1 x3)) := by
    simp (disch := decide) only [kernelRun0_A.sl.v864, ↓View.readCov_skip, kernelRun0_A.sl.HS2_28, kernelRun0_A.sl.HS2_24, kernelRun0_A.sl.HS2_20]
    apply N640.read_e
  unfold N640.chain
  rw [← x00, ← x01, ← x10, ← x11]
  unfold N640.head
  rw [← j0, ← j1]
  rfl

theorem pieceA_6 : kernelRun0_A.sl.v985 (F := Ideal) c arg2 harg2 arg3 harg3 arg4 harg4 arg5 harg5 arg7 arg8 arg9 x0 x1 x2 x3 =
    N640.chain (kernelRun0_A.sl.v649 (F := Ideal) c arg2 harg2 x0) (kernelRun0_A.sl.v34 (F := Ideal) c arg3 harg3 x1) (kernelRun0_A.sl.v36 (F := Ideal) c arg4 harg4 x2)
      (arg7.view.readCov (kernelRun0_A.sl.HS0_32 (F := Ideal) c arg5 harg5 x3) (Rect.unit (s := S2x128x640) ![0, 0, 0] S1x64x640.size (by decide)).toLoadRect) (arg7.view.readCov (kernelRun0_A.sl.HS0_32 (F := Ideal) c arg5 harg5 x3) (Rect.unit (s := S2x128x640) ![0, 64, 0] S1x64x640.size (by decide)).toLoadRect)
      (arg7.view.readCov (kernelRun0_A.sl.HS0_32 (F := Ideal) c arg5 harg5 x3) (Rect.unit (s := S2x128x640) ![1, 0, 0] S1x64x640.size (by decide)).toLoadRect) (arg7.view.readCov (kernelRun0_A.sl.HS0_32 (F := Ideal) c arg5 harg5 x3) (Rect.unit (s := S2x128x640) ![1, 64, 0] S1x64x640.size (by decide)).toLoadRect) := by
  have sc0 : (kernelRun0_A.sl.v660 (F := Ideal) c arg2 harg2 arg3 harg3 x0 x1) = N640.score lanes0 (kernelRun0_A.sl.v649 (F := Ideal) c arg2 harg2 x0) (kernelRun0_A.sl.v34 (F := Ideal) c arg3 harg3 x1) := rfl
  have x00 : (kernelRun0_A.sl.v794 (F := Ideal) c arg2 harg2 arg3 harg3 arg5 harg5 arg7 arg8 x0 x1 x3) = N640.ex (N640.sub0 (N640.score lanes0 (kernelRun0_A.sl.v649 (F := Ideal) c arg2 harg2 x0) (kernelRun0_A.sl.v34 (F := Ideal) c arg3 harg3 x1))) (arg7.view.readCov (kernelRun0_A.sl.HS0_32 (F := Ideal) c arg5 harg5 x3) (Rect.unit (s := S2x128x640) ![0, 0, 0] S1x64x640.size (by decide)).toLoadRect) := by
    have e : (kernelRun0_A.sl.v785 (F := Ideal) c arg2 harg2 arg3 harg3 arg8 x0 x1) = N640.sub0 (kernelRun0_A.sl.v660 (F := Ideal) c arg2 harg2 arg3 harg3 x0 x1) := by
      simp (disch := decide) only [kernelRun0_A.sl.v785, ↓View.readCov_skip, kernelRun0_A.sl.HS1_16, kernelRun0_A.sl.HS1_14, kernelRun0_A.sl.HS1_12]
      apply N640.read_s0
    rw [← sc0, ← e]
    rfl
  have x01 : (kernelRun0_A.sl.v812 (F := Ideal) c arg2 harg2 arg3 harg3 arg5 harg5 arg7 arg8 x0 x1 x3) = N640.ex (N640.sub1 (N640.score lanes0 (kernelRun0_A.sl.v649 (F := Ideal) c arg2 harg2 x0) (kernelRun0_A.sl.v34 (F := Ideal) c arg3 harg3 x1))) (arg7.view.readCov (kernelRun0_A.sl.HS0_32 (F := Ideal) c arg5 harg5 x3) (Rect.unit (s := S2x128x640) ![0, 64, 0] S1x64x640.size (by decide)).toLoadRect) := by
    have e : (kernelRun0_A.sl.v803 (F := Ideal) c arg2 harg2 arg3 harg3 arg8 x0 x1) = N640.sub1 (kernelRun0_A.sl.v660 (F := Ideal) c arg2 harg2 arg3 harg3 x0 x1) := by
      simp (disch := decide) only [kernelRun0_A.sl.v803, ↓View.readCov_skip, kernelRun0_A.sl.HS1_16, kernelRun0_A.sl.HS1_14, kernelRun0_A.sl.HS1_12]
      apply N640.read_s1
    rw [← sc0, ← e]
    rfl
  have j0 : (kernelRun0_A.sl.v972 (F := Ideal) c arg2 harg2 arg3 harg3 arg5 harg5 arg7 arg8 arg9 x0 x1 x3) = N640.join (N640.st (kernelRun0_A.sl.v794 (F := Ideal) c arg2 harg2 arg3 harg3 arg5 harg5 arg7 arg8 x0 x1 x3)) (N640.st (kernelRun0_A.sl.v812 (F := Ideal) c arg2 harg2 arg3 harg3 arg5 harg5 arg7 arg8 x0 x1 x3)) := by
    simp (disch := decide) only [kernelRun0_A.sl.v972, ↓View.readCov_skip, kernelRun0_A.sl.HS2_32, kernelRun0_A.sl.HS2_28, kernelRun0_A.sl.HS2_24]
    apply N640.read_e
  have sc1 : (kernelRun0_A.sl.v671 (F := Ideal) c arg2 harg2 arg3 harg3 x0 x1) = N640.score lanes1 (kernelRun0_A.sl.v649 (F := Ideal) c arg2 harg2 x0) (kernelRun0_A.sl.v34 (F := Ideal) c arg3 harg3 x1) := rfl
  have x10 : (kernelRun0_A.sl.v831 (F := Ideal) c arg2 harg2 arg3 harg3 arg5 harg5 arg7 arg8 x0 x1 x3) = N640.ex (N640.sub0 (N640.score lanes1 (kernelRun0_A.sl.v649 (F := Ideal) c arg2 harg2 x0) (kernelRun0_A.sl.v34 (F := Ideal) c arg3 harg3 x1))) (arg7.view.readCov (kernelRun0_A.sl.HS0_32 (F := Ideal) c arg5 harg5 x3) (Rect.unit (s := S2x128x640) ![1, 0, 0] S1x64x640.size (by decide)).toLoadRect) := by
    have e : (kernelRun0_A.sl.v822 (F := Ideal) c arg2 harg2 arg3 harg3 arg8 x0 x1) = N640.sub0 (kernelRun0_A.sl.v671 (F := Ideal) c arg2 harg2 arg3 harg3 x0 x1) := by
      simp (disch := decide) only [kernelRun0_A.sl.v822, ↓View.readCov_skip, kernelRun0_A.sl.HS1_16, kernelRun0_A.sl.HS1_14, kernelRun0_A.sl.HS1_12]
      apply N640.read_s0
    rw [← sc1, ← e]
    rfl
  have x11 : (kernelRun0_A.sl.v849 (F := Ideal) c arg2 harg2 arg3 harg3 arg5 harg5 arg7 arg8 x0 x1 x3) = N640.ex (N640.sub1 (N640.score lanes1 (kernelRun0_A.sl.v649 (F := Ideal) c arg2 harg2 x0) (kernelRun0_A.sl.v34 (F := Ideal) c arg3 harg3 x1))) (arg7.view.readCov (kernelRun0_A.sl.HS0_32 (F := Ideal) c arg5 harg5 x3) (Rect.unit (s := S2x128x640) ![1, 64, 0] S1x64x640.size (by decide)).toLoadRect) := by
    have e : (kernelRun0_A.sl.v840 (F := Ideal) c arg2 harg2 arg3 harg3 arg8 x0 x1) = N640.sub1 (kernelRun0_A.sl.v671 (F := Ideal) c arg2 harg2 arg3 harg3 x0 x1) := by
      simp (disch := decide) only [kernelRun0_A.sl.v840, ↓View.readCov_skip, kernelRun0_A.sl.HS1_16, kernelRun0_A.sl.HS1_14, kernelRun0_A.sl.HS1_12]
      apply N640.read_s1
    rw [← sc1, ← e]
    rfl
  have j1 : (kernelRun0_A.sl.v977 (F := Ideal) c arg2 harg2 arg3 harg3 arg5 harg5 arg7 arg8 arg9 x0 x1 x3) = N640.join (N640.st (kernelRun0_A.sl.v831 (F := Ideal) c arg2 harg2 arg3 harg3 arg5 harg5 arg7 arg8 x0 x1 x3)) (N640.st (kernelRun0_A.sl.v849 (F := Ideal) c arg2 harg2 arg3 harg3 arg5 harg5 arg7 arg8 x0 x1 x3)) := by
    simp (disch := decide) only [kernelRun0_A.sl.v977, ↓View.readCov_skip, kernelRun0_A.sl.HS2_32, kernelRun0_A.sl.HS2_28, kernelRun0_A.sl.HS2_24]
    apply N640.read_e
  unfold N640.chain
  rw [← x00, ← x01, ← x10, ← x11]
  unfold N640.head
  rw [← j0, ← j1]
  rfl

theorem pieceA_7 : kernelRun0_A.sl.v1098 (F := Ideal) c arg2 harg2 arg3 harg3 arg4 harg4 arg5 harg5 arg7 arg8 arg9 x0 x1 x2 x3 =
    N640.chain (kernelRun0_A.sl.v762 (F := Ideal) c arg2 harg2 x0) (kernelRun0_A.sl.v38 (F := Ideal) c arg3 harg3 x1) (kernelRun0_A.sl.v40 (F := Ideal) c arg4 harg4 x2)
      (arg7.view.readCov (kernelRun0_A.sl.HS0_32 (F := Ideal) c arg5 harg5 x3) (Rect.unit (s := S2x128x640) ![0, 0, 0] S1x64x640.size (by decide)).toLoadRect) (arg7.view.readCov (kernelRun0_A.sl.HS0_32 (F := Ideal) c arg5 harg5 x3) (Rect.unit (s := S2x128x640) ![0, 64, 0] S1x64x640.size (by decide)).toLoadRect)
      (arg7.view.readCov (kernelRun0_A.sl.HS0_32 (F := Ideal) c arg5 harg5 x3) (Rect.unit (s := S2x128x640) ![1, 0, 0] S1x64x640.size (by decide)).toLoadRect) (arg7.view.readCov (kernelRun0_A.sl.HS0_32 (F := Ideal) c arg5 harg5 x3) (Rect.unit (s := S2x128x640) ![1, 64, 0] S1x64x640.size (by decide)).toLoadRect) := by
  have sc0 : (kernelRun0_A.sl.v773 (F := Ideal) c arg2 harg2 arg3 harg3 x0 x1) = N640.score lanes0 (kernelRun0_A.sl.v762 (F := Ideal) c arg2 harg2 x0) (kernelRun0_A.sl.v38 (F := Ideal) c arg3 harg3 x1) := rfl
  have x00 : (kernelRun0_A.sl.v907 (F := Ideal) c arg2 harg2 arg3 harg3 arg5 harg5 arg7 arg8 x0 x1 x3) = N640.ex (N640.sub0 (N640.score lanes0 (kernelRun0_A.sl.v762 (F := Ideal) c arg2 harg2 x0) (kernelRun0_A.sl.v38 (F := Ideal) c arg3 harg3 x1))) (arg7.view.readCov (kernelRun0_A.sl.HS0_32 (F := Ideal) c arg5 harg5 x3) (Rect.unit (s := S2x128x640) ![0, 0, 0] S1x64x640.size (by decide)).toLoadRect) := by
    have e : (kernelRun0_A.sl.v898 (F := Ideal) c arg2 harg2 arg3 harg3 arg8 x0 x1) = N640.sub0 (kernelRun0_A.sl.v773 (F := Ideal) c arg2 harg2 arg3 harg3 x0 x1) := by
      simp (disch := decide) only [kernelRun0_A.sl.v898, ↓View.readCov_skip, kernelRun0_A.sl.HS1_18, kernelRun0_A.sl.HS1_16, kernelRun0_A.sl.HS1_14]
      apply N640.read_s0
    rw [← sc0, ← e]
    rfl
  have x01 : (kernelRun0_A.sl.v925 (F := Ideal) c arg2 harg2 arg3 harg3 arg5 harg5 arg7 arg8 x0 x1 x3) = N640.ex (N640.sub1 (N640.score lanes0 (kernelRun0_A.sl.v762 (F := Ideal) c arg2 harg2 x0) (kernelRun0_A.sl.v38 (F := Ideal) c arg3 harg3 x1))) (arg7.view.readCov (kernelRun0_A.sl.HS0_32 (F := Ideal) c arg5 harg5 x3) (Rect.unit (s := S2x128x640) ![0, 64, 0] S1x64x640.size (by decide)).toLoadRect) := by
    have e : (kernelRun0_A.sl.v916 (F := Ideal) c arg2 harg2 arg3 harg3 arg8 x0 x1) = N640.sub1 (kernelRun0_A.sl.v773 (F := Ideal) c arg2 harg2 arg3 harg3 x0 x1) := by
      simp (disch := decide) only [kernelRun0_A.sl.v916, ↓View.readCov_skip, kernelRun0_A.sl.HS1_18, kernelRun0_A.sl.HS1_16, kernelRun0_A.sl.HS1_14]
      apply N640.read_s1
    rw [← sc0, ← e]
    rfl
  have j0 : (kernelRun0_A.sl.v1085 (F := Ideal) c arg2 harg2 arg3 harg3 arg5 harg5 arg7 arg8 arg9 x0 x1 x3) = N640.join (N640.st (kernelRun0_A.sl.v907 (F := Ideal) c arg2 harg2 arg3 harg3 arg5 harg5 arg7 arg8 x0 x1 x3)) (N640.st (kernelRun0_A.sl.v925 (F := Ideal) c arg2 harg2 arg3 harg3 arg5 harg5 arg7 arg8 x0 x1 x3)) := by
    simp (disch := decide) only [kernelRun0_A.sl.v1085, ↓View.readCov_skip, kernelRun0_A.sl.HS2_36, kernelRun0_A.sl.HS2_32, kernelRun0_A.sl.HS2_28]
    apply N640.read_e
  have sc1 : (kernelRun0_A.sl.v784 (F := Ideal) c arg2 harg2 arg3 harg3 x0 x1) = N640.score lanes1 (kernelRun0_A.sl.v762 (F := Ideal) c arg2 harg2 x0) (kernelRun0_A.sl.v38 (F := Ideal) c arg3 harg3 x1) := rfl
  have x10 : (kernelRun0_A.sl.v944 (F := Ideal) c arg2 harg2 arg3 harg3 arg5 harg5 arg7 arg8 x0 x1 x3) = N640.ex (N640.sub0 (N640.score lanes1 (kernelRun0_A.sl.v762 (F := Ideal) c arg2 harg2 x0) (kernelRun0_A.sl.v38 (F := Ideal) c arg3 harg3 x1))) (arg7.view.readCov (kernelRun0_A.sl.HS0_32 (F := Ideal) c arg5 harg5 x3) (Rect.unit (s := S2x128x640) ![1, 0, 0] S1x64x640.size (by decide)).toLoadRect) := by
    have e : (kernelRun0_A.sl.v935 (F := Ideal) c arg2 harg2 arg3 harg3 arg8 x0 x1) = N640.sub0 (kernelRun0_A.sl.v784 (F := Ideal) c arg2 harg2 arg3 harg3 x0 x1) := by
      simp (disch := decide) only [kernelRun0_A.sl.v935, ↓View.readCov_skip, kernelRun0_A.sl.HS1_18, kernelRun0_A.sl.HS1_16, kernelRun0_A.sl.HS1_14]
      apply N640.read_s0
    rw [← sc1, ← e]
    rfl
  have x11 : (kernelRun0_A.sl.v962 (F := Ideal) c arg2 harg2 arg3 harg3 arg5 harg5 arg7 arg8 x0 x1 x3) = N640.ex (N640.sub1 (N640.score lanes1 (kernelRun0_A.sl.v762 (F := Ideal) c arg2 harg2 x0) (kernelRun0_A.sl.v38 (F := Ideal) c arg3 harg3 x1))) (arg7.view.readCov (kernelRun0_A.sl.HS0_32 (F := Ideal) c arg5 harg5 x3) (Rect.unit (s := S2x128x640) ![1, 64, 0] S1x64x640.size (by decide)).toLoadRect) := by
    have e : (kernelRun0_A.sl.v953 (F := Ideal) c arg2 harg2 arg3 harg3 arg8 x0 x1) = N640.sub1 (kernelRun0_A.sl.v784 (F := Ideal) c arg2 harg2 arg3 harg3 x0 x1) := by
      simp (disch := decide) only [kernelRun0_A.sl.v953, ↓View.readCov_skip, kernelRun0_A.sl.HS1_18, kernelRun0_A.sl.HS1_16, kernelRun0_A.sl.HS1_14]
      apply N640.read_s1
    rw [← sc1, ← e]
    rfl
  have j1 : (kernelRun0_A.sl.v1090 (F := Ideal) c arg2 harg2 arg3 harg3 arg5 harg5 arg7 arg8 arg9 x0 x1 x3) = N640.join (N640.st (kernelRun0_A.sl.v944 (F := Ideal) c arg2 harg2 arg3 harg3 arg5 harg5 arg7 arg8 x0 x1 x3)) (N640.st (kernelRun0_A.sl.v962 (F := Ideal) c arg2 harg2 arg3 harg3 arg5 harg5 arg7 arg8 x0 x1 x3)) := by
    simp (disch := decide) only [kernelRun0_A.sl.v1090, ↓View.readCov_skip, kernelRun0_A.sl.HS2_36, kernelRun0_A.sl.HS2_32, kernelRun0_A.sl.HS2_28]
    apply N640.read_e
  unfold N640.chain
  rw [← x00, ← x01, ← x10, ← x11]
  unfold N640.head
  rw [← j0, ← j1]
  rfl

end Cert.Proof
-- ==== Proof.Attn.PairsA2.lean ====
module
public import proofs.«01_k».proof.Proof.Attn.Chain

/-! What each pair of chunks stores at a first block of a head pair: the pair function of its loads. -/

@[expose] public section
set_option maxRecDepth 16384
noncomputable section
namespace Cert.Proof
open Cert.KernelIdeal Cert.KernelIdeal.Gen Idealize.ShloMosaic Idealize.ShloMosaic.TcCoe Idealize.SL.Sem

variable (c : Dev nD) (i : grid0.Coords)
  (arg2 : Memref sig .tc .vmem S2048x128 .bf16) (harg2 : arg2.IsWhole)
  (arg3 : Memref sig .tc .vmem S8192x128 .bf16) (harg3 : arg3.IsWhole)
  (arg4 : Memref sig .tc .vmem S8192x128 .bf16) (harg4 : arg4.IsWhole)
  (arg5 : Memref sig .tc .vmem S2x1x640 .f32) (harg5 : arg5.IsWhole)
  (arg7 : Memref sig .tc .vmem S2x128x640 .f32) (harg7 : arg7.IsWhole)
  (arg8 : Memref sig .tc .vmem S32x128x640 .f32) (arg9 : Memref sig .tc .vmem S32x128x640 .bf16)
  (hc0 : cond0_0 i) (hc1 : cond0_1 i) (hc2 : ¬cond0_2 i)
  (x0 : Vec Ideal S2048x128 .bf16) (x1 x2 : Vec Ideal S8192x128 .bf16) (x3 : Vec Ideal S2x1x640 .f32)
  (xs0 : Vec Ideal S2x128x640 .f32)

theorem pieceA_8 : kernelRun0_A.sl.v1211 (F := Ideal) c arg2 harg2 arg3 harg3 arg4 harg4 arg5 harg5 arg7 arg8 arg9 x0 x1 x2 x3 =
    N640.chain (kernelRun0_A.sl.v875 (F := Ideal) c arg2 harg2 x0) (kernelRun0_A.sl.v42 (F := Ideal) c arg3 harg3 x1) (kernelRun0_A.sl.v44 (F := Ideal) c arg4 harg4 x2)
      (arg7.view.readCov (kernelRun0_A.sl.HS0_32 (F := Ideal) c arg5 harg5 x3) (Rect.unit (s := S2x128x640) ![0, 0, 0] S1x64x640.size (by decide)).toLoadRect) (arg7.view.readCov (kernelRun0_A.sl.HS0_32 (F := Ideal) c arg5 harg5 x3) (Rect.unit (s := S2x128x640) ![0, 64, 0] S1x64x640.size (by decide)).toLoadRect)
      (arg7.view.readCov (kernelRun0_A.sl.HS0_32 (F := Ideal) c arg5 harg5 x3) (Rect.unit (s := S2x128x640) ![1, 0, 0] S1x64x640.size (by decide)).toLoadRect) (arg7.view.readCov (kernelRun0_A.sl.HS0_32 (F := Ideal) c arg5 harg5 x3) (Rect.unit (s := S2x128x640) ![1, 64, 0] S1x64x640.size (by decide)).toLoadRect) := by
  have sc0 : (kernelRun0_A.sl.v886 (F := Ideal) c arg2 harg2 arg3 harg3 x0 x1) = N640.score lanes0 (kernelRun0_A.sl.v875 (F := Ideal) c arg2 harg2 x0) (kernelRun0_A.sl.v42 (F := Ideal) c arg3 harg3 x1) := rfl
  have x00 : (kernelRun0_A.sl.v1020 (F := Ideal) c arg2 harg2 arg3 harg3 arg5 harg5 arg7 arg8 x0 x1 x3) = N640.ex (N640.sub0 (N640.score lanes0 (kernelRun0_A.sl.v875 (F := Ideal) c arg2 harg2 x0) (kernelRun0_A.sl.v42 (F := Ideal) c arg3 harg3 x1))) (arg7.view.readCov (kernelRun0_A.sl.HS0_32 (F := Ideal) c arg5 harg5 x3) (Rect.unit (s := S2x128x640) ![0, 0, 0] S1x64x640.size (by decide)).toLoadRect) := by
    have e : (kernelRun0_A.sl.v1011 (F := Ideal) c arg2 harg2 arg3 harg3 arg8 x0 x1) = N640.sub0 (kernelRun0_A.sl.v886 (F := Ideal) c arg2 harg2 arg3 harg3 x0 x1) := by
      simp (disch := decide) only [kernelRun0_A.sl.v1011, ↓View.readCov_skip, kernelRun0_A.sl.HS1_20, kernelRun0_A.sl.HS1_18, kernelRun0_A.sl.HS1_16]
      apply N640.read_s0
    rw [← sc0, ← e]
    rfl
  have x01 : (kernelRun0_A.sl.v1038 (F := Ideal) c arg2 harg2 arg3 harg3 arg5 harg5 arg7 arg8 x0 x1 x3) = N640.ex (N640.sub1 (N640.score lanes0 (kernelRun0_A.sl.v875 (F := Ideal) c arg2 harg2 x0) (kernelRun0_A.sl.v42 (F := Ideal) c arg3 harg3 x1))) (arg7.view.readCov (kernelRun0_A.sl.HS0_32 (F := Ideal) c arg5 harg5 x3) (Rect.unit (s := S2x128x640) ![0, 64, 0] S1x64x640.size (by decide)).toLoadRect) := by
    have e : (kernelRun0_A.sl.v1029 (F := Ideal) c arg2 harg2 arg3 harg3 arg8 x0 x1) = N640.sub1 (kernelRun0_A.sl.v886 (F := Ideal) c arg2 harg2 arg3 harg3 x0 x1) := by
      simp (disch := decide) only [kernelRun0_A.sl.v1029, ↓View.readCov_skip, kernelRun0_A.sl.HS1_20, kernelRun0_A.sl.HS1_18, kernelRun0_A.sl.HS1_16]
      apply N640.read_s1
    rw [← sc0, ← e]
    rfl
  have j0 : (kernelRun0_A.sl.v1198 (F := Ideal) c arg2 harg2 arg3 harg3 arg5 harg5 arg7 arg8 arg9 x0 x1 x3) = N640.join (N640.st (kernelRun0_A.sl.v1020 (F := Ideal) c arg2 harg2 arg3 harg3 arg5 harg5 arg7 arg8 x0 x1 x3)) (N640.st (kernelRun0_A.sl.v1038 (F := Ideal) c arg2 harg2 arg3 harg3 arg5 harg5 arg7 arg8 x0 x1 x3)) := by
    simp (disch := decide) only [kernelRun0_A.sl.v1198, ↓View.readCov_skip, kernelRun0_A.sl.HS2_40, kernelRun0_A.sl.HS2_36, kernelRun0_A.sl.HS2_32]
    apply N640.read_e
  have sc1 : (kernelRun0_A.sl.v897 (F := Ideal) c arg2 harg2 arg3 harg3 x0 x1) = N640.score lanes1 (kernelRun0_A.sl.v875 (F := Ideal) c arg2 harg2 x0) (kernelRun0_A.sl.v42 (F := Ideal) c arg3 harg3 x1) := rfl
  have x10 : (kernelRun0_A.sl.v1057 (F := Ideal) c arg2 harg2 arg3 harg3 arg5 harg5 arg7 arg8 x0 x1 x3) = N640.ex (N640.sub0 (N640.score lanes1 (kernelRun0_A.sl.v875 (F := Ideal) c arg2 harg2 x0) (kernelRun0_A.sl.v42 (F := Ideal) c arg3 harg3 x1))) (arg7.view.readCov (kernelRun0_A.sl.HS0_32 (F := Ideal) c arg5 harg5 x3) (Rect.unit (s := S2x128x640) ![1, 0, 0] S1x64x640.size (by decide)).toLoadRect) := by
    have e : (kernelRun0_A.sl.v1048 (F := Ideal) c arg2 harg2 arg3 harg3 arg8 x0 x1) = N640.sub0 (kernelRun0_A.sl.v897 (F := Ideal) c arg2 harg2 arg3 harg3 x0 x1) := by
      simp (disch := decide) only [kernelRun0_A.sl.v1048, ↓View.readCov_skip, kernelRun0_A.sl.HS1_20, kernelRun0_A.sl.HS1_18, kernelRun0_A.sl.HS1_16]
      apply N640.read_s0
    rw [← sc1, ← e]
    rfl
  have x11 : (kernelRun0_A.sl.v1075 (F := Ideal) c arg2 harg2 arg3 harg3 arg5 harg5 arg7 arg8 x0 x1 x3) = N640.ex (N640.sub1 (N640.score lanes1 (kernelRun0_A.sl.v875 (F := Ideal) c arg2 harg2 x0) (kernelRun0_A.sl.v42 (F := Ideal) c arg3 harg3 x1))) (arg7.view.readCov (kernelRun0_A.sl.HS0_32 (F := Ideal) c arg5 harg5 x3) (Rect.unit (s := S2x128x640) ![1, 64, 0] S1x64x640.size (by decide)).toLoadRect) := by
    have e : (kernelRun0_A.sl.v1066 (F := Ideal) c arg2 harg2 arg3 harg3 arg8 x0 x1) = N640.sub1 (kernelRun0_A.sl.v897 (F := Ideal) c arg2 harg2 arg3 harg3 x0 x1) := by
      simp (disch := decide) only [kernelRun0_A.sl.v1066, ↓View.readCov_skip, kernelRun0_A.sl.HS1_20, kernelRun0_A.sl.HS1_18, kernelRun0_A.sl.HS1_16]
      apply N640.read_s1
    rw [← sc1, ← e]
    rfl
  have j1 : (kernelRun0_A.sl.v1203 (F := Ideal) c arg2 harg2 arg3 harg3 arg5 harg5 arg7 arg8 arg9 x0 x1 x3) = N640.join (N640.st (kernelRun0_A.sl.v1057 (F := Ideal) c arg2 harg2 arg3 harg3 arg5 harg5 arg7 arg8 x0 x1 x3)) (N640.st (kernelRun0_A.sl.v1075 (F := Ideal) c arg2 harg2 arg3 harg3 arg5 harg5 arg7 arg8 x0 x1 x3)) := by
    simp (disch := decide) only [kernelRun0_A.sl.v1203, ↓View.readCov_skip, kernelRun0_A.sl.HS2_40, kernelRun0_A.sl.HS2_36, kernelRun0_A.sl.HS2_32]
    apply N640.read_e
  unfold N640.chain
  rw [← x00, ← x01, ← x10, ← x11]
  unfold N640.head
  rw [← j0, ← j1]
  rfl

theorem pieceA_9 : kernelRun0_A.sl.v1324 (F := Ideal) c arg2 harg2 arg3 harg3 arg4 harg4 arg5 harg5 arg7 arg8 arg9 x0 x1 x2 x3 =
    N640.chain (kernelRun0_A.sl.v988 (F := Ideal) c arg2 harg2 x0) (kernelRun0_A.sl.v46 (F := Ideal) c arg3 harg3 x1) (kernelRun0_A.sl.v48 (F := Ideal) c arg4 harg4 x2)
      (arg7.view.readCov (kernelRun0_A.sl.HS0_32 (F := Ideal) c arg5 harg5 x3) (Rect.unit (s := S2x128x640) ![0, 0, 0] S1x64x640.size (by decide)).toLoadRect) (arg7.view.readCov (kernelRun0_A.sl.HS0_32 (F := Ideal) c arg5 harg5 x3) (Rect.unit (s := S2x128x640) ![0, 64, 0] S1x64x640.size (by decide)).toLoadRect)
      (arg7.view.readCov (kernelRun0_A.sl.HS0_32 (F := Ideal) c arg5 harg5 x3) (Rect.unit (s := S2x128x640) ![1, 0, 0] S1x64x640.size (by decide)).toLoadRect) (arg7.view.readCov (kernelRun0_A.sl.HS0_32 (F := Ideal) c arg5 harg5 x3) (Rect.unit (s := S2x128x640) ![1, 64, 0] S1x64x640.size (by decide)).toLoadRect) := by
  have sc0 : (kernelRun0_A.sl.v999 (F := Ideal) c arg2 harg2 arg3 harg3 x0 x1) = N640.score lanes0 (kernelRun0_A.sl.v988 (F := Ideal) c arg2 harg2 x0) (kernelRun0_A.sl.v46 (F := Ideal) c arg3 harg3 x1) := rfl
  have x00 : (kernelRun0_A.sl.v1133 (F := Ideal) c arg2 harg2 arg3 harg3 arg5 harg5 arg7 arg8 x0 x1 x3) = N640.ex (N640.sub0 (N640.score lanes0 (kernelRun0_A.sl.v988 (F := Ideal) c arg2 harg2 x0) (kernelRun0_A.sl.v46 (F := Ideal) c arg3 harg3 x1))) (arg7.view.readCov (kernelRun0_A.sl.HS0_32 (F := Ideal) c arg5 harg5 x3) (Rect.unit (s := S2x128x640) ![0, 0, 0] S1x64x640.size (by decide)).toLoadRect) := by
    have e : (kernelRun0_A.sl.v1124 (F := Ideal) c arg2 harg2 arg3 harg3 arg8 x0 x1) = N640.sub0 (kernelRun0_A.sl.v999 (F := Ideal) c arg2 harg2 arg3 harg3 x0 x1) := by
      simp (disch := decide) only [kernelRun0_A.sl.v1124, ↓View.readCov_skip, kernelRun0_A.sl.HS1_22, kernelRun0_A.sl.HS1_20, kernelRun0_A.sl.HS1_18]
      apply N640.read_s0
    rw [← sc0, ← e]
    rfl
  have x01 : (kernelRun0_A.sl.v1151 (F := Ideal) c arg2 harg2 arg3 harg3 arg5 harg5 arg7 arg8 x0 x1 x3) = N640.ex (N640.sub1 (N640.score lanes0 (kernelRun0_A.sl.v988 (F := Ideal) c arg2 harg2 x0) (kernelRun0_A.sl.v46 (F := Ideal) c arg3 harg3 x1))) (arg7.view.readCov (kernelRun0_A.sl.HS0_32 (F := Ideal) c arg5 harg5 x3) (Rect.unit (s := S2x128x640) ![0, 64, 0] S1x64x640.size (by decide)).toLoadRect) := by
    have e : (kernelRun0_A.sl.v1142 (F := Ideal) c arg2 harg2 arg3 harg3 arg8 x0 x1) = N640.sub1 (kernelRun0_A.sl.v999 (F := Ideal) c arg2 harg2 arg3 harg3 x0 x1) := by
      simp (disch := decide) only [kernelRun0_A.sl.v1142, ↓View.readCov_skip, kernelRun0_A.sl.HS1_22, kernelRun0_A.sl.HS1_20, kernelRun0_A.sl.HS1_18]
      apply N640.read_s1
    rw [← sc0, ← e]
    rfl
  have j0 : (kernelRun0_A.sl.v1311 (F := Ideal) c arg2 harg2 arg3 harg3 arg5 harg5 arg7 arg8 arg9 x0 x1 x3) = N640.join (N640.st (kernelRun0_A.sl.v1133 (F := Ideal) c arg2 harg2 arg3 harg3 arg5 harg5 arg7 arg8 x0 x1 x3)) (N640.st (kernelRun0_A.sl.v1151 (F := Ideal) c arg2 harg2 arg3 harg3 arg5 harg5 arg7 arg8 x0 x1 x3)) := by
    simp (disch := decide) only [kernelRun0_A.sl.v1311, ↓View.readCov_skip, kernelRun0_A.sl.HS2_44, kernelRun0_A.sl.HS2_40, kernelRun0_A.sl.HS2_36]
    apply N640.read_e
  have sc1 : (kernelRun0_A.sl.v1010 (F := Ideal) c arg2 harg2 arg3 harg3 x0 x1) = N640.score lanes1 (kernelRun0_A.sl.v988 (F := Ideal) c arg2 harg2 x0) (kernelRun0_A.sl.v46 (F := Ideal) c arg3 harg3 x1) := rfl
  have x10 : (kernelRun0_A.sl.v1170 (F := Ideal) c arg2 harg2 arg3 harg3 arg5 harg5 arg7 arg8 x0 x1 x3) = N640.ex (N640.sub0 (N640.score lanes1 (kernelRun0_A.sl.v988 (F := Ideal) c arg2 harg2 x0) (kernelRun0_A.sl.v46 (F := Ideal) c arg3 harg3 x1))) (arg7.view.readCov (kernelRun0_A.sl.HS0_32 (F := Ideal) c arg5 harg5 x3) (Rect.unit (s := S2x128x640) ![1, 0, 0] S1x64x640.size (by decide)).toLoadRect) := by
    have e : (kernelRun0_A.sl.v1161 (F := Ideal) c arg2 harg2 arg3 harg3 arg8 x0 x1) = N640.sub0 (kernelRun0_A.sl.v1010 (F := Ideal) c arg2 harg2 arg3 harg3 x0 x1) := by
      simp (disch := decide) only [kernelRun0_A.sl.v1161, ↓View.readCov_skip, kernelRun0_A.sl.HS1_22, kernelRun0_A.sl.HS1_20, kernelRun0_A.sl.HS1_18]
      apply N640.read_s0
    rw [← sc1, ← e]
    rfl
  have x11 : (kernelRun0_A.sl.v1188 (F := Ideal) c arg2 harg2 arg3 harg3 arg5 harg5 arg7 arg8 x0 x1 x3) = N640.ex (N640.sub1 (N640.score lanes1 (kernelRun0_A.sl.v988 (F := Ideal) c arg2 harg2 x0) (kernelRun0_A.sl.v46 (F := Ideal) c arg3 harg3 x1))) (arg7.view.readCov (kernelRun0_A.sl.HS0_32 (F := Ideal) c arg5 harg5 x3) (Rect.unit (s := S2x128x640) ![1, 64, 0] S1x64x640.size (by decide)).toLoadRect) := by
    have e : (kernelRun0_A.sl.v1179 (F := Ideal) c arg2 harg2 arg3 harg3 arg8 x0 x1) = N640.sub1 (kernelRun0_A.sl.v1010 (F := Ideal) c arg2 harg2 arg3 harg3 x0 x1) := by
      simp (disch := decide) only [kernelRun0_A.sl.v1179, ↓View.readCov_skip, kernelRun0_A.sl.HS1_22, kernelRun0_A.sl.HS1_20, kernelRun0_A.sl.HS1_18]
      apply N640.read_s1
    rw [← sc1, ← e]
    rfl
  have j1 : (kernelRun0_A.sl.v1316 (F := Ideal) c arg2 harg2 arg3 harg3 arg5 harg5 arg7 arg8 arg9 x0 x1 x3) = N640.join (N640.st (kernelRun0_A.sl.v1170 (F := Ideal) c arg2 harg2 arg3 harg3 arg5 harg5 arg7 arg8 x0 x1 x3)) (N640.st (kernelRun0_A.sl.v1188 (F := Ideal) c arg2 harg2 arg3 harg3 arg5 harg5 arg7 arg8 x0 x1 x3)) := by
    simp (disch := decide) only [kernelRun0_A.sl.v1316, ↓View.readCov_skip, kernelRun0_A.sl.HS2_44, kernelRun0_A.sl.HS2_40, kernelRun0_A.sl.HS2_36]
    apply N640.read_e
  unfold N640.chain
  rw [← x00, ← x01, ← x10, ← x11]
  unfold N640.head
  rw [← j0, ← j1]
  rfl

theorem pieceA_10 : kernelRun0_A.sl.v1437 (F := Ideal) c arg2 harg2 arg3 harg3 arg4 harg4 arg5 harg5 arg7 arg8 arg9 x0 x1 x2 x3 =
    N640.chain (kernelRun0_A.sl.v1101 (F := Ideal) c arg2 harg2 x0) (kernelRun0_A.sl.v50 (F := Ideal) c arg3 harg3 x1) (kernelRun0_A.sl.v52 (F := Ideal) c arg4 harg4 x2)
      (arg7.view.readCov (kernelRun0_A.sl.HS0_32 (F := Ideal) c arg5 harg5 x3) (Rect.unit (s := S2x128x640) ![0, 0, 0] S1x64x640.size (by decide)).toLoadRect) (arg7.view.readCov (kernelRun0_A.sl.HS0_32 (F := Ideal) c arg5 harg5 x3) (Rect.unit (s := S2x128x640) ![0, 64, 0] S1x64x640.size (by decide)).toLoadRect)
      (arg7.view.readCov (kernelRun0_A.sl.HS0_32 (F := Ideal) c arg5 harg5 x3) (Rect.unit (s := S2x128x640) ![1, 0, 0] S1x64x640.size (by decide)).toLoadRect) (arg7.view.readCov (kernelRun0_A.sl.HS0_32 (F := Ideal) c arg5 harg5 x3) (Rect.unit (s := S2x128x640) ![1, 64, 0] S1x64x640.size (by decide)).toLoadRect) := by
  have sc0 : (kernelRun0_A.sl.v1112 (F := Ideal) c arg2 harg2 arg3 harg3 x0 x1) = N640.score lanes0 (kernelRun0_A.sl.v1101 (F := Ideal) c arg2 harg2 x0) (kernelRun0_A.sl.v50 (F := Ideal) c arg3 harg3 x1) := rfl
  have x00 : (kernelRun0_A.sl.v1246 (F := Ideal) c arg2 harg2 arg3 harg3 arg5 harg5 arg7 arg8 x0 x1 x3) = N640.ex (N640.sub0 (N640.score lanes0 (kernelRun0_A.sl.v1101 (F := Ideal) c arg2 harg2 x0) (kernelRun0_A.sl.v50 (F := Ideal) c arg3 harg3 x1))) (arg7.view.readCov (kernelRun0_A.sl.HS0_32 (F := Ideal) c arg5 harg5 x3) (Rect.unit (s := S2x128x640) ![0, 0, 0] S1x64x640.size (by decide)).toLoadRect) := by
    have e : (kernelRun0_A.sl.v1237 (F := Ideal) c arg2 harg2 arg3 harg3 arg8 x0 x1) = N640.sub0 (kernelRun0_A.sl.v1112 (F := Ideal) c arg2 harg2 arg3 harg3 x0 x1) := by
      simp (disch := decide) only [kernelRun0_A.sl.v1237, ↓View.readCov_skip, kernelRun0_A.sl.HS1_24, kernelRun0_A.sl.HS1_22, kernelRun0_A.sl.HS1_20]
      apply N640.read_s0
    rw [← sc0, ← e]
    rfl
  have x01 : (kernelRun0_A.sl.v1264 (F := Ideal) c arg2 harg2 arg3 harg3 arg5 harg5 arg7 arg8 x0 x1 x3) = N640.ex (N640.sub1 (N640.score lanes0 (kernelRun0_A.sl.v1101 (F := Ideal) c arg2 harg2 x0) (kernelRun0_A.sl.v50 (F := Ideal) c arg3 harg3 x1))) (arg7.view.readCov (kernelRun0_A.sl.HS0_32 (F := Ideal) c arg5 harg5 x3) (Rect.unit (s := S2x128x640) ![0, 64, 0] S1x64x640.size (by decide)).toLoadRect) := by
    have e : (kernelRun0_A.sl.v1255 (F := Ideal) c arg2 harg2 arg3 harg3 arg8 x0 x1) = N640.sub1 (kernelRun0_A.sl.v1112 (F := Ideal) c arg2 harg2 arg3 harg3 x0 x1) := by
      simp (disch := decide) only [kernelRun0_A.sl.v1255, ↓View.readCov_skip, kernelRun0_A.sl.HS1_24, kernelRun0_A.sl.HS1_22, kernelRun0_A.sl.HS1_20]
      apply N640.read_s1
    rw [← sc0, ← e]
    rfl
  have j0 : (kernelRun0_A.sl.v1424 (F := Ideal) c arg2 harg2 arg3 harg3 arg5 harg5 arg7 arg8 arg9 x0 x1 x3) = N640.join (N640.st (kernelRun0_A.sl.v1246 (F := Ideal) c arg2 harg2 arg3 harg3 arg5 harg5 arg7 arg8 x0 x1 x3)) (N640.st (kernelRun0_A.sl.v1264 (F := Ideal) c arg2 harg2 arg3 harg3 arg5 harg5 arg7 arg8 x0 x1 x3)) := by
    simp (disch := decide) only [kernelRun0_A.sl.v1424, ↓View.readCov_skip, kernelRun0_A.sl.HS2_48, kernelRun0_A.sl.HS2_44, kernelRun0_A.sl.HS2_40]
    apply N640.read_e
  have sc1 : (kernelRun0_A.sl.v1123 (F := Ideal) c arg2 harg2 arg3 harg3 x0 x1) = N640.score lanes1 (kernelRun0_A.sl.v1101 (F := Ideal) c arg2 harg2 x0) (kernelRun0_A.sl.v50 (F := Ideal) c arg3 harg3 x1) := rfl
  have x10 : (kernelRun0_A.sl.v1283 (F := Ideal) c arg2 harg2 arg3 harg3 arg5 harg5 arg7 arg8 x0 x1 x3) = N640.ex (N640.sub0 (N640.score lanes1 (kernelRun0_A.sl.v1101 (F := Ideal) c arg2 harg2 x0) (kernelRun0_A.sl.v50 (F := Ideal) c arg3 harg3 x1))) (arg7.view.readCov (kernelRun0_A.sl.HS0_32 (F := Ideal) c arg5 harg5 x3) (Rect.unit (s := S2x128x640) ![1, 0, 0] S1x64x640.size (by decide)).toLoadRect) := by
    have e : (kernelRun0_A.sl.v1274 (F := Ideal) c arg2 harg2 arg3 harg3 arg8 x0 x1) = N640.sub0 (kernelRun0_A.sl.v1123 (F := Ideal) c arg2 harg2 arg3 harg3 x0 x1) := by
      simp (disch := decide) only [kernelRun0_A.sl.v1274, ↓View.readCov_skip, kernelRun0_A.sl.HS1_24, kernelRun0_A.sl.HS1_22, kernelRun0_A.sl.HS1_20]
      apply N640.read_s0
    rw [← sc1, ← e]
    rfl
  have x11 : (kernelRun0_A.sl.v1301 (F := Ideal) c arg2 harg2 arg3 harg3 arg5 harg5 arg7 arg8 x0 x1 x3) = N640.ex (N640.sub1 (N640.score lanes1 (kernelRun0_A.sl.v1101 (F := Ideal) c arg2 harg2 x0) (kernelRun0_A.sl.v50 (F := Ideal) c arg3 harg3 x1))) (arg7.view.readCov (kernelRun0_A.sl.HS0_32 (F := Ideal) c arg5 harg5 x3) (Rect.unit (s := S2x128x640) ![1, 64, 0] S1x64x640.size (by decide)).toLoadRect) := by
    have e : (kernelRun0_A.sl.v1292 (F := Ideal) c arg2 harg2 arg3 harg3 arg8 x0 x1) = N640.sub1 (kernelRun0_A.sl.v1123 (F := Ideal) c arg2 harg2 arg3 harg3 x0 x1) := by
      simp (disch := decide) only [kernelRun0_A.sl.v1292, ↓View.readCov_skip, kernelRun0_A.sl.HS1_24, kernelRun0_A.sl.HS1_22, kernelRun0_A.sl.HS1_20]
      apply N640.read_s1
    rw [← sc1, ← e]
    rfl
  have j1 : (kernelRun0_A.sl.v1429 (F := Ideal) c arg2 harg2 arg3 harg3 arg5 harg5 arg7 arg8 arg9 x0 x1 x3) = N640.join (N640.st (kernelRun0_A.sl.v1283 (F := Ideal) c arg2 harg2 arg3 harg3 arg5 harg5 arg7 arg8 x0 x1 x3)) (N640.st (kernelRun0_A.sl.v1301 (F := Ideal) c arg2 harg2 arg3 harg3 arg5 harg5 arg7 arg8 x0 x1 x3)) := by
    simp (disch := decide) only [kernelRun0_A.sl.v1429, ↓View.readCov_skip, kernelRun0_A.sl.HS2_48, kernelRun0_A.sl.HS2_44, kernelRun0_A.sl.HS2_40]
    apply N640.read_e
  unfold N640.chain
  rw [← x00, ← x01, ← x10, ← x11]
  unfold N640.head
  rw [← j0, ← j1]
  rfl

theorem pieceA_11 : kernelRun0_A.sl.v1550 (F := Ideal) c arg2 harg2 arg3 harg3 arg4 harg4 arg5 harg5 arg7 arg8 arg9 x0 x1 x2 x3 =
    N640.chain (kernelRun0_A.sl.v1214 (F := Ideal) c arg2 harg2 x0) (kernelRun0_A.sl.v54 (F := Ideal) c arg3 harg3 x1) (kernelRun0_A.sl.v56 (F := Ideal) c arg4 harg4 x2)
      (arg7.view.readCov (kernelRun0_A.sl.HS0_32 (F := Ideal) c arg5 harg5 x3) (Rect.unit (s := S2x128x640) ![0, 0, 0] S1x64x640.size (by decide)).toLoadRect) (arg7.view.readCov (kernelRun0_A.sl.HS0_32 (F := Ideal) c arg5 harg5 x3) (Rect.unit (s := S2x128x640) ![0, 64, 0] S1x64x640.size (by decide)).toLoadRect)
      (arg7.view.readCov (kernelRun0_A.sl.HS0_32 (F := Ideal) c arg5 harg5 x3) (Rect.unit (s := S2x128x640) ![1, 0, 0] S1x64x640.size (by decide)).toLoadRect) (arg7.view.readCov (kernelRun0_A.sl.HS0_32 (F := Ideal) c arg5 harg5 x3) (Rect.unit (s := S2x128x640) ![1, 64, 0] S1x64x640.size (by decide)).toLoadRect) := by
  have sc0 : (kernelRun0_A.sl.v1225 (F := Ideal) c arg2 harg2 arg3 harg3 x0 x1) = N640.score lanes0 (kernelRun0_A.sl.v1214 (F := Ideal) c arg2 harg2 x0) (kernelRun0_A.sl.v54 (F := Ideal) c arg3 harg3 x1) := rfl
  have x00 : (kernelRun0_A.sl.v1359 (F := Ideal) c arg2 harg2 arg3 harg3 arg5 harg5 arg7 arg8 x0 x1 x3) = N640.ex (N640.sub0 (N640.score lanes0 (kernelRun0_A.sl.v1214 (F := Ideal) c arg2 harg2 x0) (kernelRun0_A.sl.v54 (F := Ideal) c arg3 harg3 x1))) (arg7.view.readCov (kernelRun0_A.sl.HS0_32 (F := Ideal) c arg5 harg5 x3) (Rect.unit (s := S2x128x640) ![0, 0, 0] S1x64x640.size (by decide)).toLoadRect) := by
    have e : (kernelRun0_A.sl.v1350 (F := Ideal) c arg2 harg2 arg3 harg3 arg8 x0 x1) = N640.sub0 (kernelRun0_A.sl.v1225 (F := Ideal) c arg2 harg2 arg3 harg3 x0 x1) := by
      simp (disch := decide) only [kernelRun0_A.sl.v1350, ↓View.readCov_skip, kernelRun0_A.sl.HS1_26, kernelRun0_A.sl.HS1_24, kernelRun0_A.sl.HS1_22]
      apply N640.read_s0
    rw [← sc0, ← e]
    rfl
  have x01 : (kernelRun0_A.sl.v1377 (F := Ideal) c arg2 harg2 arg3 harg3 arg5 harg5 arg7 arg8 x0 x1 x3) = N640.ex (N640.sub1 (N640.score lanes0 (kernelRun0_A.sl.v1214 (F := Ideal) c arg2 harg2 x0) (kernelRun0_A.sl.v54 (F := Ideal) c arg3 harg3 x1))) (arg7.view.readCov (kernelRun0_A.sl.HS0_32 (F := Ideal) c arg5 harg5 x3) (Rect.unit (s := S2x128x640) ![0, 64, 0] S1x64x640.size (by decide)).toLoadRect) := by
    have e : (kernelRun0_A.sl.v1368 (F := Ideal) c arg2 harg2 arg3 harg3 arg8 x0 x1) = N640.sub1 (kernelRun0_A.sl.v1225 (F := Ideal) c arg2 harg2 arg3 harg3 x0 x1) := by
      simp (disch := decide) only [kernelRun0_A.sl.v1368, ↓View.readCov_skip, kernelRun0_A.sl.HS1_26, kernelRun0_A.sl.HS1_24, kernelRun0_A.sl.HS1_22]
      apply N640.read_s1
    rw [← sc0, ← e]
    rfl
  have j0 : (kernelRun0_A.sl.v1537 (F := Ideal) c arg2 harg2 arg3 harg3 arg5 harg5 arg7 arg8 arg9 x0 x1 x3) = N640.join (N640.st (kernelRun0_A.sl.v1359 (F := Ideal) c arg2 harg2 arg3 harg3 arg5 harg5 arg7 arg8 x0 x1 x3)) (N640.st (kernelRun0_A.sl.v1377 (F := Ideal) c arg2 harg2 arg3 harg3 arg5 harg5 arg7 arg8 x0 x1 x3)) := by
    simp (disch := decide) only [kernelRun0_A.sl.v1537, ↓View.readCov_skip, kernelRun0_A.sl.HS2_52, kernelRun0_A.sl.HS2_48, kernelRun0_A.sl.HS2_44]
    apply N640.read_e
  have sc1 : (kernelRun0_A.sl.v1236 (F := Ideal) c arg2 harg2 arg3 harg3 x0 x1) = N640.score lanes1 (kernelRun0_A.sl.v1214 (F := Ideal) c arg2 harg2 x0) (kernelRun0_A.sl.v54 (F := Ideal) c arg3 harg3 x1) := rfl
  have x10 : (kernelRun0_A.sl.v1396 (F := Ideal) c arg2 harg2 arg3 harg3 arg5 harg5 arg7 arg8 x0 x1 x3) = N640.ex (N640.sub0 (N640.score lanes1 (kernelRun0_A.sl.v1214 (F := Ideal) c arg2 harg2 x0) (kernelRun0_A.sl.v54 (F := Ideal) c arg3 harg3 x1))) (arg7.view.readCov (kernelRun0_A.sl.HS0_32 (F := Ideal) c arg5 harg5 x3) (Rect.unit (s := S2x128x640) ![1, 0, 0] S1x64x640.size (by decide)).toLoadRect) := by
    have e : (kernelRun0_A.sl.v1387 (F := Ideal) c arg2 harg2 arg3 harg3 arg8 x0 x1) = N640.sub0 (kernelRun0_A.sl.v1236 (F := Ideal) c arg2 harg2 arg3 harg3 x0 x1) := by
      simp (disch := decide) only [kernelRun0_A.sl.v1387, ↓View.readCov_skip, kernelRun0_A.sl.HS1_26, kernelRun0_A.sl.HS1_24, kernelRun0_A.sl.HS1_22]
      apply N640.read_s0
    rw [← sc1, ← e]
    rfl
  have x11 : (kernelRun0_A.sl.v1414 (F := Ideal) c arg2 harg2 arg3 harg3 arg5 harg5 arg7 arg8 x0 x1 x3) = N640.ex (N640.sub1 (N640.score lanes1 (kernelRun0_A.sl.v1214 (F := Ideal) c arg2 harg2 x0) (kernelRun0_A.sl.v54 (F := Ideal) c arg3 harg3 x1))) (arg7.view.readCov (kernelRun0_A.sl.HS0_32 (F := Ideal) c arg5 harg5 x3) (Rect.unit (s := S2x128x640) ![1, 64, 0] S1x64x640.size (by decide)).toLoadRect) := by
    have e : (kernelRun0_A.sl.v1405 (F := Ideal) c arg2 harg2 arg3 harg3 arg8 x0 x1) = N640.sub1 (kernelRun0_A.sl.v1236 (F := Ideal) c arg2 harg2 arg3 harg3 x0 x1) := by
      simp (disch := decide) only [kernelRun0_A.sl.v1405, ↓View.readCov_skip, kernelRun0_A.sl.HS1_26, kernelRun0_A.sl.HS1_24, kernelRun0_A.sl.HS1_22]
      apply N640.read_s1
    rw [← sc1, ← e]
    rfl
  have j1 : (kernelRun0_A.sl.v1542 (F := Ideal) c arg2 harg2 arg3 harg3 arg5 harg5 arg7 arg8 arg9 x0 x1 x3) = N640.join (N640.st (kernelRun0_A.sl.v1396 (F := Ideal) c arg2 harg2 arg3 harg3 arg5 harg5 arg7 arg8 x0 x1 x3)) (N640.st (kernelRun0_A.sl.v1414 (F := Ideal) c arg2 harg2 arg3 harg3 arg5 harg5 arg7 arg8 x0 x1 x3)) := by
    simp (disch := decide) only [kernelRun0_A.sl.v1542, ↓View.readCov_skip, kernelRun0_A.sl.HS2_52, kernelRun0_A.sl.HS2_48, kernelRun0_A.sl.HS2_44]
    apply N640.read_e
  unfold N640.chain
  rw [← x00, ← x01, ← x10, ← x11]
  unfold N640.head
  rw [← j0, ← j1]
  rfl

theorem pieceA_12 : kernelRun0_A.sl.v1663 (F := Ideal) c arg2 harg2 arg3 harg3 arg4 harg4 arg5 harg5 arg7 arg8 arg9 x0 x1 x2 x3 =
    N640.chain (kernelRun0_A.sl.v1327 (F := Ideal) c arg2 harg2 x0) (kernelRun0_A.sl.v58 (F := Ideal) c arg3 harg3 x1) (kernelRun0_A.sl.v60 (F := Ideal) c arg4 harg4 x2)
      (arg7.view.readCov (kernelRun0_A.sl.HS0_32 (F := Ideal) c arg5 harg5 x3) (Rect.unit (s := S2x128x640) ![0, 0, 0] S1x64x640.size (by decide)).toLoadRect) (arg7.view.readCov (kernelRun0_A.sl.HS0_32 (F := Ideal) c arg5 harg5 x3) (Rect.unit (s := S2x128x640) ![0, 64, 0] S1x64x640.size (by decide)).toLoadRect)
      (arg7.view.readCov (kernelRun0_A.sl.HS0_32 (F := Ideal) c arg5 harg5 x3) (Rect.unit (s := S2x128x640) ![1, 0, 0] S1x64x640.size (by decide)).toLoadRect) (arg7.view.readCov (kernelRun0_A.sl.HS0_32 (F := Ideal) c arg5 harg5 x3) (Rect.unit (s := S2x128x640) ![1, 64, 0] S1x64x640.size (by decide)).toLoadRect) := by
  have sc0 : (kernelRun0_A.sl.v1338 (F := Ideal) c arg2 harg2 arg3 harg3 x0 x1) = N640.score lanes0 (kernelRun0_A.sl.v1327 (F := Ideal) c arg2 harg2 x0) (kernelRun0_A.sl.v58 (F := Ideal) c arg3 harg3 x1) := rfl
  have x00 : (kernelRun0_A.sl.v1472 (F := Ideal) c arg2 harg2 arg3 harg3 arg5 harg5 arg7 arg8 x0 x1 x3) = N640.ex (N640.sub0 (N640.score lanes0 (kernelRun0_A.sl.v1327 (F := Ideal) c arg2 harg2 x0) (kernelRun0_A.sl.v58 (F := Ideal) c arg3 harg3 x1))) (arg7.view.readCov (kernelRun0_A.sl.HS0_32 (F := Ideal) c arg5 harg5 x3) (Rect.unit (s := S2x128x640) ![0, 0, 0] S1x64x640.size (by decide)).toLoadRect) := by
    have e : (kernelRun0_A.sl.v1463 (F := Ideal) c arg2 harg2 arg3 harg3 arg8 x0 x1) = N640.sub0 (kernelRun0_A.sl.v1338 (F := Ideal) c arg2 harg2 arg3 harg3 x0 x1) := by
      simp (disch := decide) only [kernelRun0_A.sl.v1463, ↓View.readCov_skip, kernelRun0_A.sl.HS1_28, kernelRun0_A.sl.HS1_26, kernelRun0_A.sl.HS1_24]
      apply N640.read_s0
    rw [← sc0, ← e]
    rfl
  have x01 : (kernelRun0_A.sl.v1490 (F := Ideal) c arg2 harg2 arg3 harg3 arg5 harg5 arg7 arg8 x0 x1 x3) = N640.ex (N640.sub1 (N640.score lanes0 (kernelRun0_A.sl.v1327 (F := Ideal) c arg2 harg2 x0) (kernelRun0_A.sl.v58 (F := Ideal) c arg3 harg3 x1))) (arg7.view.readCov (kernelRun0_A.sl.HS0_32 (F := Ideal) c arg5 harg5 x3) (Rect.unit (s := S2x128x640) ![0, 64, 0] S1x64x640.size (by decide)).toLoadRect) := by
    have e : (kernelRun0_A.sl.v1481 (F := Ideal) c arg2 harg2 arg3 harg3 arg8 x0 x1) = N640.sub1 (kernelRun0_A.sl.v1338 (F := Ideal) c arg2 harg2 arg3 harg3 x0 x1) := by
      simp (disch := decide) only [kernelRun0_A.sl.v1481, ↓View.readCov_skip, kernelRun0_A.sl.HS1_28, kernelRun0_A.sl.HS1_26, kernelRun0_A.sl.HS1_24]
      apply N640.read_s1
    rw [← sc0, ← e]
    rfl
  have j0 : (kernelRun0_A.sl.v1650 (F := Ideal) c arg2 harg2 arg3 harg3 arg5 harg5 arg7 arg8 arg9 x0 x1 x3) = N640.join (N640.st (kernelRun0_A.sl.v1472 (F := Ideal) c arg2 harg2 arg3 harg3 arg5 harg5 arg7 arg8 x0 x1 x3)) (N640.st (kernelRun0_A.sl.v1490 (F := Ideal) c arg2 harg2 arg3 harg3 arg5 harg5 arg7 arg8 x0 x1 x3)) := by
    simp (disch := decide) only [kernelRun0_A.sl.v1650, ↓View.readCov_skip, kernelRun0_A.sl.HS2_56, kernelRun0_A.sl.HS2_52, kernelRun0_A.sl.HS2_48]
    apply N640.read_e
  have sc1 : (kernelRun0_A.sl.v1349 (F := Ideal) c arg2 harg2 arg3 harg3 x0 x1) = N640.score lanes1 (kernelRun0_A.sl.v1327 (F := Ideal) c arg2 harg2 x0) (kernelRun0_A.sl.v58 (F := Ideal) c arg3 harg3 x1) := rfl
  have x10 : (kernelRun0_A.sl.v1509 (F := Ideal) c arg2 harg2 arg3 harg3 arg5 harg5 arg7 arg8 x0 x1 x3) = N640.ex (N640.sub0 (N640.score lanes1 (kernelRun0_A.sl.v1327 (F := Ideal) c arg2 harg2 x0) (kernelRun0_A.sl.v58 (F := Ideal) c arg3 harg3 x1))) (arg7.view.readCov (kernelRun0_A.sl.HS0_32 (F := Ideal) c arg5 harg5 x3) (Rect.unit (s := S2x128x640) ![1, 0, 0] S1x64x640.size (by decide)).toLoadRect) := by
    have e : (kernelRun0_A.sl.v1500 (F := Ideal) c arg2 harg2 arg3 harg3 arg8 x0 x1) = N640.sub0 (kernelRun0_A.sl.v1349 (F := Ideal) c arg2 harg2 arg3 harg3 x0 x1) := by
      simp (disch := decide) only [kernelRun0_A.sl.v1500, ↓View.readCov_skip, kernelRun0_A.sl.HS1_28, kernelRun0_A.sl.HS1_26, kernelRun0_A.sl.HS1_24]
      apply N640.read_s0
    rw [← sc1, ← e]
    rfl
  have x11 : (kernelRun0_A.sl.v1527 (F := Ideal) c arg2 harg2 arg3 harg3 arg5 harg5 arg7 arg8 x0 x1 x3) = N640.ex (N640.sub1 (N640.score lanes1 (kernelRun0_A.sl.v1327 (F := Ideal) c arg2 harg2 x0) (kernelRun0_A.sl.v58 (F := Ideal) c arg3 harg3 x1))) (arg7.view.readCov (kernelRun0_A.sl.HS0_32 (F := Ideal) c arg5 harg5 x3) (Rect.unit (s := S2x128x640) ![1, 64, 0] S1x64x640.size (by decide)).toLoadRect) := by
    have e : (kernelRun0_A.sl.v1518 (F := Ideal) c arg2 harg2 arg3 harg3 arg8 x0 x1) = N640.sub1 (kernelRun0_A.sl.v1349 (F := Ideal) c arg2 harg2 arg3 harg3 x0 x1) := by
      simp (disch := decide) only [kernelRun0_A.sl.v1518, ↓View.readCov_skip, kernelRun0_A.sl.HS1_28, kernelRun0_A.sl.HS1_26, kernelRun0_A.sl.HS1_24]
      apply N640.read_s1
    rw [← sc1, ← e]
    rfl
  have j1 : (kernelRun0_A.sl.v1655 (F := Ideal) c arg2 harg2 arg3 harg3 arg5 harg5 arg7 arg8 arg9 x0 x1 x3) = N640.join (N640.st (kernelRun0_A.sl.v1509 (F := Ideal) c arg2 harg2 arg3 harg3 arg5 harg5 arg7 arg8 x0 x1 x3)) (N640.st (kernelRun0_A.sl.v1527 (F := Ideal) c arg2 harg2 arg3 harg3 arg5 harg5 arg7 arg8 x0 x1 x3)) := by
    simp (disch := decide) only [kernelRun0_A.sl.v1655, ↓View.readCov_skip, kernelRun0_A.sl.HS2_56, kernelRun0_A.sl.HS2_52, kernelRun0_A.sl.HS2_48]
    apply N640.read_e
  unfold N640.chain
  rw [← x00, ← x01, ← x10, ← x11]
  unfold N640.head
  rw [← j0, ← j1]
  rfl

theorem pieceA_13 : kernelRun0_A.sl.v1776 (F := Ideal) c arg2 harg2 arg3 harg3 arg4 harg4 arg5 harg5 arg7 arg8 arg9 x0 x1 x2 x3 =
    N640.chain (kernelRun0_A.sl.v1440 (F := Ideal) c arg2 harg2 x0) (kernelRun0_A.sl.v62 (F := Ideal) c arg3 harg3 x1) (kernelRun0_A.sl.v64 (F := Ideal) c arg4 harg4 x2)
      (arg7.view.readCov (kernelRun0_A.sl.HS0_32 (F := Ideal) c arg5 harg5 x3) (Rect.unit (s := S2x128x640) ![0, 0, 0] S1x64x640.size (by decide)).toLoadRect) (arg7.view.readCov (kernelRun0_A.sl.HS0_32 (F := Ideal) c arg5 harg5 x3) (Rect.unit (s := S2x128x640) ![0, 64, 0] S1x64x640.size (by decide)).toLoadRect)
      (arg7.view.readCov (kernelRun0_A.sl.HS0_32 (F := Ideal) c arg5 harg5 x3) (Rect.unit (s := S2x128x640) ![1, 0, 0] S1x64x640.size (by decide)).toLoadRect) (arg7.view.readCov (kernelRun0_A.sl.HS0_32 (F := Ideal) c arg5 harg5 x3) (Rect.unit (s := S2x128x640) ![1, 64, 0] S1x64x640.size (by decide)).toLoadRect) := by
  have sc0 : (kernelRun0_A.sl.v1451 (F := Ideal) c arg2 harg2 arg3 harg3 x0 x1) = N640.score lanes0 (kernelRun0_A.sl.v1440 (F := Ideal) c arg2 harg2 x0) (kernelRun0_A.sl.v62 (F := Ideal) c arg3 harg3 x1) := rfl
  have x00 : (kernelRun0_A.sl.v1585 (F := Ideal) c arg2 harg2 arg3 harg3 arg5 harg5 arg7 arg8 x0 x1 x3) = N640.ex (N640.sub0 (N640.score lanes0 (kernelRun0_A.sl.v1440 (F := Ideal) c arg2 harg2 x0) (kernelRun0_A.sl.v62 (F := Ideal) c arg3 harg3 x1))) (arg7.view.readCov (kernelRun0_A.sl.HS0_32 (F := Ideal) c arg5 harg5 x3) (Rect.unit (s := S2x128x640) ![0, 0, 0] S1x64x640.size (by decide)).toLoadRect) := by
    have e : (kernelRun0_A.sl.v1576 (F := Ideal) c arg2 harg2 arg3 harg3 arg8 x0 x1) = N640.sub0 (kernelRun0_A.sl.v1451 (F := Ideal) c arg2 harg2 arg3 harg3 x0 x1) := by
      simp (disch := decide) only [kernelRun0_A.sl.v1576, ↓View.readCov_skip, kernelRun0_A.sl.HS1_30, kernelRun0_A.sl.HS1_28, kernelRun0_A.sl.HS1_26]
      apply N640.read_s0
    rw [← sc0, ← e]
    rfl
  have x01 : (kernelRun0_A.sl.v1603 (F := Ideal) c arg2 harg2 arg3 harg3 arg5 harg5 arg7 arg8 x0 x1 x3) = N640.ex (N640.sub1 (N640.score lanes0 (kernelRun0_A.sl.v1440 (F := Ideal) c arg2 harg2 x0) (kernelRun0_A.sl.v62 (F := Ideal) c arg3 harg3 x1))) (arg7.view.readCov (kernelRun0_A.sl.HS0_32 (F := Ideal) c arg5 harg5 x3) (Rect.unit (s := S2x128x640) ![0, 64, 0] S1x64x640.size (by decide)).toLoadRect) := by
    have e : (kernelRun0_A.sl.v1594 (F := Ideal) c arg2 harg2 arg3 harg3 arg8 x0 x1) = N640.sub1 (kernelRun0_A.sl.v1451 (F := Ideal) c arg2 harg2 arg3 harg3 x0 x1) := by
      simp (disch := decide) only [kernelRun0_A.sl.v1594, ↓View.readCov_skip, kernelRun0_A.sl.HS1_30, kernelRun0_A.sl.HS1_28, kernelRun0_A.sl.HS1_26]
      apply N640.read_s1
    rw [← sc0, ← e]
    rfl
  have j0 : (kernelRun0_A.sl.v1763 (F := Ideal) c arg2 harg2 arg3 harg3 arg5 harg5 arg7 arg8 arg9 x0 x1 x3) = N640.join (N640.st (kernelRun0_A.sl.v1585 (F := Ideal) c arg2 harg2 arg3 harg3 arg5 harg5 arg7 arg8 x0 x1 x3)) (N640.st (kernelRun0_A.sl.v1603 (F := Ideal) c arg2 harg2 arg3 harg3 arg5 harg5 arg7 arg8 x0 x1 x3)) := by
    simp (disch := decide) only [kernelRun0_A.sl.v1763, ↓View.readCov_skip, kernelRun0_A.sl.HS2_60, kernelRun0_A.sl.HS2_56, kernelRun0_A.sl.HS2_52]
    apply N640.read_e
  have sc1 : (kernelRun0_A.sl.v1462 (F := Ideal) c arg2 harg2 arg3 harg3 x0 x1) = N640.score lanes1 (kernelRun0_A.sl.v1440 (F := Ideal) c arg2 harg2 x0) (kernelRun0_A.sl.v62 (F := Ideal) c arg3 harg3 x1) := rfl
  have x10 : (kernelRun0_A.sl.v1622 (F := Ideal) c arg2 harg2 arg3 harg3 arg5 harg5 arg7 arg8 x0 x1 x3) = N640.ex (N640.sub0 (N640.score lanes1 (kernelRun0_A.sl.v1440 (F := Ideal) c arg2 harg2 x0) (kernelRun0_A.sl.v62 (F := Ideal) c arg3 harg3 x1))) (arg7.view.readCov (kernelRun0_A.sl.HS0_32 (F := Ideal) c arg5 harg5 x3) (Rect.unit (s := S2x128x640) ![1, 0, 0] S1x64x640.size (by decide)).toLoadRect) := by
    have e : (kernelRun0_A.sl.v1613 (F := Ideal) c arg2 harg2 arg3 harg3 arg8 x0 x1) = N640.sub0 (kernelRun0_A.sl.v1462 (F := Ideal) c arg2 harg2 arg3 harg3 x0 x1) := by
      simp (disch := decide) only [kernelRun0_A.sl.v1613, ↓View.readCov_skip, kernelRun0_A.sl.HS1_30, kernelRun0_A.sl.HS1_28, kernelRun0_A.sl.HS1_26]
      apply N640.read_s0
    rw [← sc1, ← e]
    rfl
  have x11 : (kernelRun0_A.sl.v1640 (F := Ideal) c arg2 harg2 arg3 harg3 arg5 harg5 arg7 arg8 x0 x1 x3) = N640.ex (N640.sub1 (N640.score lanes1 (kernelRun0_A.sl.v1440 (F := Ideal) c arg2 harg2 x0) (kernelRun0_A.sl.v62 (F := Ideal) c arg3 harg3 x1))) (arg7.view.readCov (kernelRun0_A.sl.HS0_32 (F := Ideal) c arg5 harg5 x3) (Rect.unit (s := S2x128x640) ![1, 64, 0] S1x64x640.size (by decide)).toLoadRect) := by
    have e : (kernelRun0_A.sl.v1631 (F := Ideal) c arg2 harg2 arg3 harg3 arg8 x0 x1) = N640.sub1 (kernelRun0_A.sl.v1462 (F := Ideal) c arg2 harg2 arg3 harg3 x0 x1) := by
      simp (disch := decide) only [kernelRun0_A.sl.v1631, ↓View.readCov_skip, kernelRun0_A.sl.HS1_30, kernelRun0_A.sl.HS1_28, kernelRun0_A.sl.HS1_26]
      apply N640.read_s1
    rw [← sc1, ← e]
    rfl
  have j1 : (kernelRun0_A.sl.v1768 (F := Ideal) c arg2 harg2 arg3 harg3 arg5 harg5 arg7 arg8 arg9 x0 x1 x3) = N640.join (N640.st (kernelRun0_A.sl.v1622 (F := Ideal) c arg2 harg2 arg3 harg3 arg5 harg5 arg7 arg8 x0 x1 x3)) (N640.st (kernelRun0_A.sl.v1640 (F := Ideal) c arg2 harg2 arg3 harg3 arg5 harg5 arg7 arg8 x0 x1 x3)) := by
    simp (disch := decide) only [kernelRun0_A.sl.v1768, ↓View.readCov_skip, kernelRun0_A.sl.HS2_60, kernelRun0_A.sl.HS2_56, kernelRun0_A.sl.HS2_52]
    apply N640.read_e
  unfold N640.chain
  rw [← x00, ← x01, ← x10, ← x11]
  unfold N640.head
  rw [← j0, ← j1]
  rfl

theorem pieceA_14 : kernelRun0_A.sl.v1865 (F := Ideal) c arg2 harg2 arg3 harg3 arg4 harg4 arg5 harg5 arg7 arg8 arg9 x0 x1 x2 x3 =
    N640.chain (kernelRun0_A.sl.v1553 (F := Ideal) c arg2 harg2 x0) (kernelRun0_A.sl.v66 (F := Ideal) c arg3 harg3 x1) (kernelRun0_A.sl.v68 (F := Ideal) c arg4 harg4 x2)
      (arg7.view.readCov (kernelRun0_A.sl.HS0_32 (F := Ideal) c arg5 harg5 x3) (Rect.unit (s := S2x128x640) ![0, 0, 0] S1x64x640.size (by decide)).toLoadRect) (arg7.view.readCov (kernelRun0_A.sl.HS0_32 (F := Ideal) c arg5 harg5 x3) (Rect.unit (s := S2x128x640) ![0, 64, 0] S1x64x640.size (by decide)).toLoadRect)
      (arg7.view.readCov (kernelRun0_A.sl.HS0_32 (F := Ideal) c arg5 harg5 x3) (Rect.unit (s := S2x128x640) ![1, 0, 0] S1x64x640.size (by decide)).toLoadRect) (arg7.view.readCov (kernelRun0_A.sl.HS0_32 (F := Ideal) c arg5 harg5 x3) (Rect.unit (s := S2x128x640) ![1, 64, 0] S1x64x640.size (by decide)).toLoadRect) := by
  have sc0 : (kernelRun0_A.sl.v1564 (F := Ideal) c arg2 harg2 arg3 harg3 x0 x1) = N640.score lanes0 (kernelRun0_A.sl.v1553 (F := Ideal) c arg2 harg2 x0) (kernelRun0_A.sl.v66 (F := Ideal) c arg3 harg3 x1) := rfl
  have x00 : (kernelRun0_A.sl.v1698 (F := Ideal) c arg2 harg2 arg3 harg3 arg5 harg5 arg7 arg8 x0 x1 x3) = N640.ex (N640.sub0 (N640.score lanes0 (kernelRun0_A.sl.v1553 (F := Ideal) c arg2 harg2 x0) (kernelRun0_A.sl.v66 (F := Ideal) c arg3 harg3 x1))) (arg7.view.readCov (kernelRun0_A.sl.HS0_32 (F := Ideal) c arg5 harg5 x3) (Rect.unit (s := S2x128x640) ![0, 0, 0] S1x64x640.size (by decide)).toLoadRect) := by
    have e : (kernelRun0_A.sl.v1689 (F := Ideal) c arg2 harg2 arg3 harg3 arg8 x0 x1) = N640.sub0 (kernelRun0_A.sl.v1564 (F := Ideal) c arg2 harg2 arg3 harg3 x0 x1) := by
      simp (disch := decide) only [kernelRun0_A.sl.v1689, ↓View.readCov_skip, kernelRun0_A.sl.HS1_32, kernelRun0_A.sl.HS1_30, kernelRun0_A.sl.HS1_28]
      apply N640.read_s0
    rw [← sc0, ← e]
    rfl
  have x01 : (kernelRun0_A.sl.v1716 (F := Ideal) c arg2 harg2 arg3 harg3 arg5 harg5 arg7 arg8 x0 x1 x3) = N640.ex (N640.sub1 (N640.score lanes0 (kernelRun0_A.sl.v1553 (F := Ideal) c arg2 harg2 x0) (kernelRun0_A.sl.v66 (F := Ideal) c arg3 harg3 x1))) (arg7.view.readCov (kernelRun0_A.sl.HS0_32 (F := Ideal) c arg5 harg5 x3) (Rect.unit (s := S2x128x640) ![0, 64, 0] S1x64x640.size (by decide)).toLoadRect) := by
    have e : (kernelRun0_A.sl.v1707 (F := Ideal) c arg2 harg2 arg3 harg3 arg8 x0 x1) = N640.sub1 (kernelRun0_A.sl.v1564 (F := Ideal) c arg2 harg2 arg3 harg3 x0 x1) := by
      simp (disch := decide) only [kernelRun0_A.sl.v1707, ↓View.readCov_skip, kernelRun0_A.sl.HS1_32, kernelRun0_A.sl.HS1_30, kernelRun0_A.sl.HS1_28]
      apply N640.read_s1
    rw [← sc0, ← e]
    rfl
  have j0 : (kernelRun0_A.sl.v1852 (F := Ideal) c arg2 harg2 arg3 harg3 arg5 harg5 arg7 arg8 arg9 x0 x1 x3) = N640.join (N640.st (kernelRun0_A.sl.v1698 (F := Ideal) c arg2 harg2 arg3 harg3 arg5 harg5 arg7 arg8 x0 x1 x3)) (N640.st (kernelRun0_A.sl.v1716 (F := Ideal) c arg2 harg2 arg3 harg3 arg5 harg5 arg7 arg8 x0 x1 x3)) := by
    simp (disch := decide) only [kernelRun0_A.sl.v1852, ↓View.readCov_skip, kernelRun0_A.sl.HS2_64, kernelRun0_A.sl.HS2_60, kernelRun0_A.sl.HS2_56]
    apply N640.read_e
  have sc1 : (kernelRun0_A.sl.v1575 (F := Ideal) c arg2 harg2 arg3 harg3 x0 x1) = N640.score lanes1 (kernelRun0_A.sl.v1553 (F := Ideal) c arg2 harg2 x0) (kernelRun0_A.sl.v66 (F := Ideal) c arg3 harg3 x1) := rfl
  have x10 : (kernelRun0_A.sl.v1735 (F := Ideal) c arg2 harg2 arg3 harg3 arg5 harg5 arg7 arg8 x0 x1 x3) = N640.ex (N640.sub0 (N640.score lanes1 (kernelRun0_A.sl.v1553 (F := Ideal) c arg2 harg2 x0) (kernelRun0_A.sl.v66 (F := Ideal) c arg3 harg3 x1))) (arg7.view.readCov (kernelRun0_A.sl.HS0_32 (F := Ideal) c arg5 harg5 x3) (Rect.unit (s := S2x128x640) ![1, 0, 0] S1x64x640.size (by decide)).toLoadRect) := by
    have e : (kernelRun0_A.sl.v1726 (F := Ideal) c arg2 harg2 arg3 harg3 arg8 x0 x1) = N640.sub0 (kernelRun0_A.sl.v1575 (F := Ideal) c arg2 harg2 arg3 harg3 x0 x1) := by
      simp (disch := decide) only [kernelRun0_A.sl.v1726, ↓View.readCov_skip, kernelRun0_A.sl.HS1_32, kernelRun0_A.sl.HS1_30, kernelRun0_A.sl.HS1_28]
      apply N640.read_s0
    rw [← sc1, ← e]
    rfl
  have x11 : (kernelRun0_A.sl.v1753 (F := Ideal) c arg2 harg2 arg3 harg3 arg5 harg5 arg7 arg8 x0 x1 x3) = N640.ex (N640.sub1 (N640.score lanes1 (kernelRun0_A.sl.v1553 (F := Ideal) c arg2 harg2 x0) (kernelRun0_A.sl.v66 (F := Ideal) c arg3 harg3 x1))) (arg7.view.readCov (kernelRun0_A.sl.HS0_32 (F := Ideal) c arg5 harg5 x3) (Rect.unit (s := S2x128x640) ![1, 64, 0] S1x64x640.size (by decide)).toLoadRect) := by
    have e : (kernelRun0_A.sl.v1744 (F := Ideal) c arg2 harg2 arg3 harg3 arg8 x0 x1) = N640.sub1 (kernelRun0_A.sl.v1575 (F := Ideal) c arg2 harg2 arg3 harg3 x0 x1) := by
      simp (disch := decide) only [kernelRun0_A.sl.v1744, ↓View.readCov_skip, kernelRun0_A.sl.HS1_32, kernelRun0_A.sl.HS1_30, kernelRun0_A.sl.HS1_28]
      apply N640.read_s1
    rw [← sc1, ← e]
    rfl
  have j1 : (kernelRun0_A.sl.v1857 (F := Ideal) c arg2 harg2 arg3 harg3 arg5 harg5 arg7 arg8 arg9 x0 x1 x3) = N640.join (N640.st (kernelRun0_A.sl.v1735 (F := Ideal) c arg2 harg2 arg3 harg3 arg5 harg5 arg7 arg8 x0 x1 x3)) (N640.st (kernelRun0_A.sl.v1753 (F := Ideal) c arg2 harg2 arg3 harg3 arg5 harg5 arg7 arg8 x0 x1 x3)) := by
    simp (disch := decide) only [kernelRun0_A.sl.v1857, ↓View.readCov_skip, kernelRun0_A.sl.HS2_64, kernelRun0_A.sl.HS2_60, kernelRun0_A.sl.HS2_56]
    apply N640.read_e
  unfold N640.chain
  rw [← x00, ← x01, ← x10, ← x11]
  unfold N640.head
  rw [← j0, ← j1]
  rfl

theorem pieceA_15 : kernelRun0_A.sl.r_9 (F := Ideal) c arg2 harg2 arg3 harg3 arg4 harg4 arg5 harg5 arg7 arg8 arg9 x0 x1 x2 x3 =
    N640.chain (kernelRun0_A.sl.v1666 (F := Ideal) c arg2 harg2 x0) (kernelRun0_A.sl.v70 (F := Ideal) c arg3 harg3 x1) (kernelRun0_A.sl.v72 (F := Ideal) c arg4 harg4 x2)
      (arg7.view.readCov (kernelRun0_A.sl.HS0_32 (F := Ideal) c arg5 harg5 x3) (Rect.unit (s := S2x128x640) ![0, 0, 0] S1x64x640.size (by decide)).toLoadRect) (arg7.view.readCov (kernelRun0_A.sl.HS0_32 (F := Ideal) c arg5 harg5 x3) (Rect.unit (s := S2x128x640) ![0, 64, 0] S1x64x640.size (by decide)).toLoadRect)
      (arg7.view.readCov (kernelRun0_A.sl.HS0_32 (F := Ideal) c arg5 harg5 x3) (Rect.unit (s := S2x128x640) ![1, 0, 0] S1x64x640.size (by decide)).toLoadRect) (arg7.view.readCov (kernelRun0_A.sl.HS0_32 (F := Ideal) c arg5 harg5 x3) (Rect.unit (s := S2x128x640) ![1, 64, 0] S1x64x640.size (by decide)).toLoadRect) := by
  have sc0 : (kernelRun0_A.sl.v1677 (F := Ideal) c arg2 harg2 arg3 harg3 x0 x1) = N640.score lanes0 (kernelRun0_A.sl.v1666 (F := Ideal) c arg2 harg2 x0) (kernelRun0_A.sl.v70 (F := Ideal) c arg3 harg3 x1) := rfl
  have x00 : (kernelRun0_A.sl.v1787 (F := Ideal) c arg2 harg2 arg3 harg3 arg5 harg5 arg7 arg8 x0 x1 x3) = N640.ex (N640.sub0 (N640.score lanes0 (kernelRun0_A.sl.v1666 (F := Ideal) c arg2 harg2 x0) (kernelRun0_A.sl.v70 (F := Ideal) c arg3 harg3 x1))) (arg7.view.readCov (kernelRun0_A.sl.HS0_32 (F := Ideal) c arg5 harg5 x3) (Rect.unit (s := S2x128x640) ![0, 0, 0] S1x64x640.size (by decide)).toLoadRect) := by
    have e : (kernelRun0_A.sl.v1778 (F := Ideal) c arg2 harg2 arg3 harg3 arg8 x0 x1) = N640.sub0 (kernelRun0_A.sl.v1677 (F := Ideal) c arg2 harg2 arg3 harg3 x0 x1) := by
      simp (disch := decide) only [kernelRun0_A.sl.v1778, ↓View.readCov_skip, kernelRun0_A.sl.HS1_32, kernelRun0_A.sl.HS1_30]
      apply N640.read_s0
    rw [← sc0, ← e]
    rfl
  have x01 : (kernelRun0_A.sl.v1805 (F := Ideal) c arg2 harg2 arg3 harg3 arg5 harg5 arg7 arg8 x0 x1 x3) = N640.ex (N640.sub1 (N640.score lanes0 (kernelRun0_A.sl.v1666 (F := Ideal) c arg2 harg2 x0) (kernelRun0_A.sl.v70 (F := Ideal) c arg3 harg3 x1))) (arg7.view.readCov (kernelRun0_A.sl.HS0_32 (F := Ideal) c arg5 harg5 x3) (Rect.unit (s := S2x128x640) ![0, 64, 0] S1x64x640.size (by decide)).toLoadRect) := by
    have e : (kernelRun0_A.sl.v1796 (F := Ideal) c arg2 harg2 arg3 harg3 arg8 x0 x1) = N640.sub1 (kernelRun0_A.sl.v1677 (F := Ideal) c arg2 harg2 arg3 harg3 x0 x1) := by
      simp (disch := decide) only [kernelRun0_A.sl.v1796, ↓View.readCov_skip, kernelRun0_A.sl.HS1_32, kernelRun0_A.sl.HS1_30]
      apply N640.read_s1
    rw [← sc0, ← e]
    rfl
  have j0 : (kernelRun0_A.sl.v1867 (F := Ideal) c arg2 harg2 arg3 harg3 arg5 harg5 arg7 arg8 arg9 x0 x1 x3) = N640.join (N640.st (kernelRun0_A.sl.v1787 (F := Ideal) c arg2 harg2 arg3 harg3 arg5 harg5 arg7 arg8 x0 x1 x3)) (N640.st (kernelRun0_A.sl.v1805 (F := Ideal) c arg2 harg2 arg3 harg3 arg5 harg5 arg7 arg8 x0 x1 x3)) := by
    simp (disch := decide) only [kernelRun0_A.sl.v1867, ↓View.readCov_skip, kernelRun0_A.sl.HS2_64, kernelRun0_A.sl.HS2_60]
    apply N640.read_e
  have sc1 : (kernelRun0_A.sl.v1688 (F := Ideal) c arg2 harg2 arg3 harg3 x0 x1) = N640.score lanes1 (kernelRun0_A.sl.v1666 (F := Ideal) c arg2 harg2 x0) (kernelRun0_A.sl.v70 (F := Ideal) c arg3 harg3 x1) := rfl
  have x10 : (kernelRun0_A.sl.v1824 (F := Ideal) c arg2 harg2 arg3 harg3 arg5 harg5 arg7 arg8 x0 x1 x3) = N640.ex (N640.sub0 (N640.score lanes1 (kernelRun0_A.sl.v1666 (F := Ideal) c arg2 harg2 x0) (kernelRun0_A.sl.v70 (F := Ideal) c arg3 harg3 x1))) (arg7.view.readCov (kernelRun0_A.sl.HS0_32 (F := Ideal) c arg5 harg5 x3) (Rect.unit (s := S2x128x640) ![1, 0, 0] S1x64x640.size (by decide)).toLoadRect) := by
    have e : (kernelRun0_A.sl.v1815 (F := Ideal) c arg2 harg2 arg3 harg3 arg8 x0 x1) = N640.sub0 (kernelRun0_A.sl.v1688 (F := Ideal) c arg2 harg2 arg3 harg3 x0 x1) := by
      simp (disch := decide) only [kernelRun0_A.sl.v1815, ↓View.readCov_skip, kernelRun0_A.sl.HS1_32, kernelRun0_A.sl.HS1_30]
      apply N640.read_s0
    rw [← sc1, ← e]
    rfl
  have x11 : (kernelRun0_A.sl.v1842 (F := Ideal) c arg2 harg2 arg3 harg3 arg5 harg5 arg7 arg8 x0 x1 x3) = N640.ex (N640.sub1 (N640.score lanes1 (kernelRun0_A.sl.v1666 (F := Ideal) c arg2 harg2 x0) (kernelRun0_A.sl.v70 (F := Ideal) c arg3 harg3 x1))) (arg7.view.readCov (kernelRun0_A.sl.HS0_32 (F := Ideal) c arg5 harg5 x3) (Rect.unit (s := S2x128x640) ![1, 64, 0] S1x64x640.size (by decide)).toLoadRect) := by
    have e : (kernelRun0_A.sl.v1833 (F := Ideal) c arg2 harg2 arg3 harg3 arg8 x0 x1) = N640.sub1 (kernelRun0_A.sl.v1688 (F := Ideal) c arg2 harg2 arg3 harg3 x0 x1) := by
      simp (disch := decide) only [kernelRun0_A.sl.v1833, ↓View.readCov_skip, kernelRun0_A.sl.HS1_32, kernelRun0_A.sl.HS1_30]
      apply N640.read_s1
    rw [← sc1, ← e]
    rfl
  have j1 : (kernelRun0_A.sl.v1872 (F := Ideal) c arg2 harg2 arg3 harg3 arg5 harg5 arg7 arg8 arg9 x0 x1 x3) = N640.join (N640.st (kernelRun0_A.sl.v1824 (F := Ideal) c arg2 harg2 arg3 harg3 arg5 harg5 arg7 arg8 x0 x1 x3)) (N640.st (kernelRun0_A.sl.v1842 (F := Ideal) c arg2 harg2 arg3 harg3 arg5 harg5 arg7 arg8 x0 x1 x3)) := by
    simp (disch := decide) only [kernelRun0_A.sl.v1872, ↓View.readCov_skip, kernelRun0_A.sl.HS2_64, kernelRun0_A.sl.HS2_60]
    apply N640.read_e
  unfold N640.chain
  rw [← x00, ← x01, ← x10, ← x11]
  unfold N640.head
  rw [← j0, ← j1]
  rfl

end Cert.Proof
-- ==== Proof.Attn.Apply.lean ====
module
public import proofs.«01_k».proof.Proof.Attn.Chain
public import Idealize.ShloMosaic.Lib.Tactic.WordOmega
/-! The pair function at each element: one row of the softmax over the loaded keys. -/

@[expose] public section
set_option maxRecDepth 16384
noncomputable section
namespace Cert.Proof
open Cert.KernelIdeal Cert.KernelIdeal.Gen Idealize.ShloMosaic Idealize.ShloMosaic.TcCoe Idealize.SL.Sem

/-- the lane comparisons as comparisons of numbers. -/
theorem lt_word (a : Fin 128) (n : ℕ) (hn : n ≤ 128) : IntOp.cmpi .slt (BitVec.ofNat 32 a.val) (BitVec.ofNat 32 n) = if a.val < n then 1#1 else 0#1 := by
  have := a.isLt
  word_omega

theorem ge_word (a : Fin 128) (n : ℕ) (hn : n ≤ 128) : IntOp.cmpi .sge (BitVec.ofNat 32 a.val) (BitVec.ofNat 32 n) = if n ≤ a.val then 1#1 else 0#1 := by
  have := a.isLt
  word_omega

/-- the lane masks at an element. -/
theorem lanes0_apply (r l : Fin 128) : lanes0 (ix2 r l) = if l.val < 64 then 1#1 else 0#1 := by
  unfold lanes0
  pointwise
  rw [show (0#32) = BitVec.ofNat 32 0 from rfl, show (64#32) = BitVec.ofNat 32 64 from rfl, ge_word _ _ (by decide), lt_word _ _ (by decide)]
  by_cases h : l.val < 64 <;> simp [h, IntOp.andi]
theorem lanes1_apply (r l : Fin 128) : lanes1 (ix2 r l) = if 64 ≤ l.val then 1#1 else 0#1 := by
  unfold lanes1
  pointwise
  rw [show (128#32) = BitVec.ofNat 32 128 from rfl, show (64#32) = BitVec.ofNat 32 64 from rfl, ge_word _ _ (by decide), lt_word _ _ (by decide)]
  by_cases h : 64 ≤ l.val <;> simp [h, IntOp.andi]
namespace N640
/-- a score is the dot product over the lanes of the head. -/
theorem score_apply (msk q kb) (r : Fin 128) (k : Fin 640) : score msk q kb (ix3 0 r k) =
    ∑ d : Fin 128, (if msk (ix2 r d) = 1#1 then q (ix2 r d) else 0) * kb (ix2 k d) := by
  unfold score zeros
  pointwise
  refine Finset.sum_congr rfl fun d _ => ?_
  by_cases h : msk (ix2 r d) = 1#1 <;> simp [Scalar.select, h]
theorem tot_apply (s b) (r : Fin 64) (k : Fin 640) : tot s b (ix2 r k) = s (ix3 0 r k) + b (ix3 0 r k) := by
  unfold tot
  pointwise
theorem ex_apply (s b) (r : Fin 64) (k : Fin 640) : ex s b (ix2 r k) = Ideal.exp (tot s b (ix2 r k) - mx (fun k => tot s b (ix2 r k))) := by
  unfold ex mx
  pointwise
  rw [show Ideal.ofBits .f32 4286578688#32 = (⊥:EReal) from neg_inf_bits]
theorem rc_apply (e) (r : Fin 64) : rc e (ix2 r 0) = Ideal.div 1 (∑ k, e (ix2 r k)) := by
  unfold rc
  pointwise
theorem st_apply (e) (r : Fin 64) (k : Fin 640) : st e (ix3 0 r k) = e (ix2 r k) := by
  unfold st
  pointwise
theorem join_lo {α : Type*} (A B : S1x64x640.Idx → α) (r : Fin 128) (k : Fin 640) (h : r.val < 64) : join A B (ix3 0 r k) = A (ix3 0 ⟨r.val, h⟩ k) := dif_pos h
theorem join_hi {α : Type*} (A B : S1x64x640.Idx → α) (r : Fin 128) (k : Fin 640) (h : ¬ r.val < 64) : join A B (ix3 0 r k) = B (ix3 0 ⟨r.val - 64, by omega⟩ k) := dif_neg h
theorem head_lo (e0 e1 vb) (r l : Fin 128) (h : r.val < 64) : head e0 e1 vb (ix2 r l) =
    (∑ k, e0 (ix2 ⟨r.val, h⟩ k) * vb (ix2 k l)) * Ideal.div 1 (∑ k, e0 (ix2 ⟨r.val, h⟩ k)) := by
  have e : ∀ k, join (st e0) (st e1) (ix3 0 r k) = e0 (ix2 ⟨r.val, h⟩ k) := fun k =>
    (join_lo (st e0) (st e1) r k h).trans (st_apply e0 _ _)
  unfold head
  pointwise
  simp only [e, h, dif_pos, rc_apply]
theorem head_hi (e0 e1 vb) (r l : Fin 128) (h : ¬ r.val < 64) : head e0 e1 vb (ix2 r l) =
    (∑ k, e1 (ix2 ⟨r.val - 64, by omega⟩ k) * vb (ix2 k l)) * Ideal.div 1 (∑ k, e1 (ix2 ⟨r.val - 64, by omega⟩ k)) := by
  have e : ∀ k, join (st e0) (st e1) (ix3 0 r k) = e1 (ix2 ⟨r.val - 64, by omega⟩ k) := fun k =>
    (join_hi (st e0) (st e1) r k h).trans (st_apply e1 _ _)
  unfold head
  pointwise
  simp only [e, h, dif_neg, not_false_eq_true, rc_apply]
/-- one row of a head's biased scores, over a mask of the lanes. -/
def row (m : Fin 128 → Prop) [DecidablePred m] (q : FVec Ideal S128x128 .bf16) (kb : FVec Ideal S640x128 .bf16) (b0 b1 : FVec Ideal S1x64x640 .f32) (r : Fin 128) (k : Fin 640) : EReal :=
  (∑ d : Fin 128, (if m d then q (ix2 r d) else 0) * kb (ix2 k d)) + join (α := EReal) b0 b1 (ix3 0 r k)
/-- a head's output at an element. -/
theorem headrow (m : Fin 128 → Prop) [DecidablePred m] (msk q kb b0 b1 vb) (hm : ∀ r d, msk (ix2 r d) = 1#1 ↔ m d) (r l : Fin 128) :
    head (ex (sub0 (score msk q kb)) b0) (ex (sub1 (score msk q kb)) b1) vb (ix2 r l) = headOut (row m q kb b0 b1 r) (fun k => vb (ix2 k l)) := by
  by_cases h : r.val < 64
  · have t : ∀ k, tot (sub0 (score msk q kb)) b0 (ix2 ⟨r.val, h⟩ k) = row m q kb b0 b1 r k := fun k => by
      rw [tot_apply]
      refine congrArg₂ (· + ·) ?_ (join_lo b0 b1 r k h).symm
      refine (score_apply msk q kb r k).trans ?_
      simp only [hm]
    rw [head_lo _ _ _ _ _ h]
    simp only [ex_apply, t, headOut]
  · have t : ∀ k, tot (sub1 (score msk q kb)) b1 (ix2 ⟨r.val - 64, by omega⟩ k) = row m q kb b0 b1 r k := fun k => by
      rw [tot_apply]
      refine congrArg₂ (· + ·) ?_ (join_hi b0 b1 r k h).symm
      refine Eq.trans ?_ ((score_apply msk q kb r k).trans ?_)
      · unfold sub1
        exact congrArg (score msk q kb) (congrArg (fun x => ix3 0 x k) (Fin.ext (show 64 + (r.val - 64) = r.val by omega)))
      · simp only [hm]
    rw [head_hi _ _ _ _ _ h]
    simp only [ex_apply, t, headOut]
/-- the pair function at an element. -/
theorem chain_apply (q kb vb b00 b01 b10 b11) (r l : Fin 128) : chain q kb vb b00 b01 b10 b11 (ix2 r l) =
    if l.val < 64 then headOut (row (fun d => d.val < 64) q kb b00 b01 r) (fun k => vb (ix2 k l))
    else headOut (row (fun d => 64 ≤ d.val) q kb b10 b11 r) (fun k => vb (ix2 k l)) := by
  rw [← headrow (fun d => d.val < 64) lanes0, ← headrow (fun d => 64 ≤ d.val) lanes1]
  · unfold chain
    pointwise
    rw [show (64#32) = BitVec.ofNat 32 64 from rfl, lt_word _ _ (by decide)]
    by_cases h : l.val < 64 <;> simp [Scalar.select, h]
  · intro r d; rw [lanes1_apply]; by_cases h : 64 ≤ d.val <;> simp [h]
  · intro r d; rw [lanes0_apply]; by_cases h : d.val < 64 <;> simp [h]
end N640

namespace N128
/-- a score is the dot product over the lanes of the head. -/
theorem score_apply (msk q kb) (r : Fin 128) (k : Fin 128) : score msk q kb (ix3 0 r k) =
    ∑ d : Fin 128, (if msk (ix2 r d) = 1#1 then q (ix2 r d) else 0) * kb (ix2 k d) := by
  unfold score zeros
  pointwise
  refine Finset.sum_congr rfl fun d _ => ?_
  by_cases h : msk (ix2 r d) = 1#1 <;> simp [Scalar.select, h]
theorem tot_apply (s b) (r : Fin 64) (k : Fin 128) : tot s b (ix2 r k) = s (ix3 0 r k) + b (ix3 0 r k) := by
  unfold tot
  pointwise
theorem ex_apply (s b) (r : Fin 64) (k : Fin 128) : ex s b (ix2 r k) = Ideal.exp (tot s b (ix2 r k) - mx (fun k => tot s b (ix2 r k))) := by
  unfold ex mx
  pointwise
  rw [show Ideal.ofBits .f32 4286578688#32 = (⊥:EReal) from neg_inf_bits]
theorem rc_apply (e) (r : Fin 64) : rc e (ix2 r 0) = Ideal.div 1 (∑ k, e (ix2 r k)) := by
  unfold rc
  pointwise
theorem st_apply (e) (r : Fin 64) (k : Fin 128) : st e (ix3 0 r k) = e (ix2 r k) := by
  unfold st
  pointwise
theorem join_lo {α : Type*} (A B : S1x64x128.Idx → α) (r : Fin 128) (k : Fin 128) (h : r.val < 64) : join A B (ix3 0 r k) = A (ix3 0 ⟨r.val, h⟩ k) := dif_pos h
theorem join_hi {α : Type*} (A B : S1x64x128.Idx → α) (r : Fin 128) (k : Fin 128) (h : ¬ r.val < 64) : join A B (ix3 0 r k) = B (ix3 0 ⟨r.val - 64, by omega⟩ k) := dif_neg h
theorem head_lo (e0 e1 vb) (r l : Fin 128) (h : r.val < 64) : head e0 e1 vb (ix2 r l) =
    (∑ k, e0 (ix2 ⟨r.val, h⟩ k) * vb (ix2 k l)) * Ideal.div 1 (∑ k, e0 (ix2 ⟨r.val, h⟩ k)) := by
  have e : ∀ k, join (st e0) (st e1) (ix3 0 r k) = e0 (ix2 ⟨r.val, h⟩ k) := fun k =>
    (join_lo (st e0) (st e1) r k h).trans (st_apply e0 _ _)
  unfold head
  pointwise
  simp only [e, h, dif_pos, rc_apply]
theorem head_hi (e0 e1 vb) (r l : Fin 128) (h : ¬ r.val < 64) : head e0 e1 vb (ix2 r l) =
    (∑ k, e1 (ix2 ⟨r.val - 64, by omega⟩ k) * vb (ix2 k l)) * Ideal.div 1 (∑ k, e1 (ix2 ⟨r.val - 64, by omega⟩ k)) := by
  have e : ∀ k, join (st e0) (st e1) (ix3 0 r k) = e1 (ix2 ⟨r.val - 64, by omega⟩ k) := fun k =>
    (join_hi (st e0) (st e1) r k h).trans (st_apply e1 _ _)
  unfold head
  pointwise
  simp only [e, h, dif_neg, not_false_eq_true, rc_apply]
/-- one row of a head's biased scores, over a mask of the lanes. -/
def row (m : Fin 128 → Prop) [DecidablePred m] (q : FVec Ideal S128x128 .bf16) (kb : FVec Ideal S128x128 .bf16) (b0 b1 : FVec Ideal S1x64x128 .f32) (r : Fin 128) (k : Fin 128) : EReal :=
  (∑ d : Fin 128, (if m d then q (ix2 r d) else 0) * kb (ix2 k d)) + join (α := EReal) b0 b1 (ix3 0 r k)
/-- a head's output at an element. -/
theorem headrow (m : Fin 128 → Prop) [DecidablePred m] (msk q kb b0 b1 vb) (hm : ∀ r d, msk (ix2 r d) = 1#1 ↔ m d) (r l : Fin 128) :
    head (ex (sub0 (score msk q kb)) b0) (ex (sub1 (score msk q kb)) b1) vb (ix2 r l) = headOut (row m q kb b0 b1 r) (fun k => vb (ix2 k l)) := by
  by_cases h : r.val < 64
  · have t : ∀ k, tot (sub0 (score msk q kb)) b0 (ix2 ⟨r.val, h⟩ k) = row m q kb b0 b1 r k := fun k => by
      rw [tot_apply]
      refine congrArg₂ (· + ·) ?_ (join_lo b0 b1 r k h).symm
      refine (score_apply msk q kb r k).trans ?_
      simp only [hm]
    rw [head_lo _ _ _ _ _ h]
    simp only [ex_apply, t, headOut]
  · have t : ∀ k, tot (sub1 (score msk q kb)) b1 (ix2 ⟨r.val - 64, by omega⟩ k) = row m q kb b0 b1 r k := fun k => by
      rw [tot_apply]
      refine congrArg₂ (· + ·) ?_ (join_hi b0 b1 r k h).symm
      refine Eq.trans ?_ ((score_apply msk q kb r k).trans ?_)
      · unfold sub1
        exact congrArg (score msk q kb) (congrArg (fun x => ix3 0 x k) (Fin.ext (show 64 + (r.val - 64) = r.val by omega)))
      · simp only [hm]
    rw [head_hi _ _ _ _ _ h]
    simp only [ex_apply, t, headOut]
/-- the pair function at an element. -/
theorem chain_apply (q kb vb b00 b01 b10 b11) (r l : Fin 128) : chain q kb vb b00 b01 b10 b11 (ix2 r l) =
    if l.val < 64 then headOut (row (fun d => d.val < 64) q kb b00 b01 r) (fun k => vb (ix2 k l))
    else headOut (row (fun d => 64 ≤ d.val) q kb b10 b11 r) (fun k => vb (ix2 k l)) := by
  rw [← headrow (fun d => d.val < 64) lanes0, ← headrow (fun d => 64 ≤ d.val) lanes1]
  · unfold chain
    pointwise
    rw [show (64#32) = BitVec.ofNat 32 64 from rfl, lt_word _ _ (by decide)]
    by_cases h : l.val < 64 <;> simp [Scalar.select, h]
  · intro r d; rw [lanes1_apply]; by_cases h : 64 ≤ d.val <;> simp [h]
  · intro r d; rw [lanes0_apply]; by_cases h : d.val < 64 <;> simp [h]
end N128

namespace N256
/-- a score is the dot product over the lanes of the head. -/
theorem score_apply (msk q kb) (r : Fin 128) (k : Fin 256) : score msk q kb (ix3 0 r k) =
    ∑ d : Fin 128, (if msk (ix2 r d) = 1#1 then q (ix2 r d) else 0) * kb (ix2 k d) := by
  unfold score zeros
  pointwise
  refine Finset.sum_congr rfl fun d _ => ?_
  by_cases h : msk (ix2 r d) = 1#1 <;> simp [Scalar.select, h]
theorem tot_apply (s b) (r : Fin 64) (k : Fin 256) : tot s b (ix2 r k) = s (ix3 0 r k) + b (ix3 0 r k) := by
  unfold tot
  pointwise
theorem ex_apply (s b) (r : Fin 64) (k : Fin 256) : ex s b (ix2 r k) = Ideal.exp (tot s b (ix2 r k) - mx (fun k => tot s b (ix2 r k))) := by
  unfold ex mx
  pointwise
  rw [show Ideal.ofBits .f32 4286578688#32 = (⊥:EReal) from neg_inf_bits]
theorem rc_apply (e) (r : Fin 64) : rc e (ix2 r 0) = Ideal.div 1 (∑ k, e (ix2 r k)) := by
  unfold rc
  pointwise
theorem st_apply (e) (r : Fin 64) (k : Fin 256) : st e (ix3 0 r k) = e (ix2 r k) := by
  unfold st
  pointwise
theorem join_lo {α : Type*} (A B : S1x64x256.Idx → α) (r : Fin 128) (k : Fin 256) (h : r.val < 64) : join A B (ix3 0 r k) = A (ix3 0 ⟨r.val, h⟩ k) := dif_pos h
theorem join_hi {α : Type*} (A B : S1x64x256.Idx → α) (r : Fin 128) (k : Fin 256) (h : ¬ r.val < 64) : join A B (ix3 0 r k) = B (ix3 0 ⟨r.val - 64, by omega⟩ k) := dif_neg h
theorem head_lo (e0 e1 vb) (r l : Fin 128) (h : r.val < 64) : head e0 e1 vb (ix2 r l) =
    (∑ k, e0 (ix2 ⟨r.val, h⟩ k) * vb (ix2 k l)) * Ideal.div 1 (∑ k, e0 (ix2 ⟨r.val, h⟩ k)) := by
  have e : ∀ k, join (st e0) (st e1) (ix3 0 r k) = e0 (ix2 ⟨r.val, h⟩ k) := fun k =>
    (join_lo (st e0) (st e1) r k h).trans (st_apply e0 _ _)
  unfold head
  pointwise
  simp only [e, h, dif_pos, rc_apply]
theorem head_hi (e0 e1 vb) (r l : Fin 128) (h : ¬ r.val < 64) : head e0 e1 vb (ix2 r l) =
    (∑ k, e1 (ix2 ⟨r.val - 64, by omega⟩ k) * vb (ix2 k l)) * Ideal.div 1 (∑ k, e1 (ix2 ⟨r.val - 64, by omega⟩ k)) := by
  have e : ∀ k, join (st e0) (st e1) (ix3 0 r k) = e1 (ix2 ⟨r.val - 64, by omega⟩ k) := fun k =>
    (join_hi (st e0) (st e1) r k h).trans (st_apply e1 _ _)
  unfold head
  pointwise
  simp only [e, h, dif_neg, not_false_eq_true, rc_apply]
/-- one row of a head's biased scores, over a mask of the lanes. -/
def row (m : Fin 128 → Prop) [DecidablePred m] (q : FVec Ideal S128x128 .bf16) (kb : FVec Ideal S256x128 .bf16) (b0 b1 : FVec Ideal S1x64x256 .f32) (r : Fin 128) (k : Fin 256) : EReal :=
  (∑ d : Fin 128, (if m d then q (ix2 r d) else 0) * kb (ix2 k d)) + join (α := EReal) b0 b1 (ix3 0 r k)
/-- a head's output at an element. -/
theorem headrow (m : Fin 128 → Prop) [DecidablePred m] (msk q kb b0 b1 vb) (hm : ∀ r d, msk (ix2 r d) = 1#1 ↔ m d) (r l : Fin 128) :
    head (ex (sub0 (score msk q kb)) b0) (ex (sub1 (score msk q kb)) b1) vb (ix2 r l) = headOut (row m q kb b0 b1 r) (fun k => vb (ix2 k l)) := by
  by_cases h : r.val < 64
  · have t : ∀ k, tot (sub0 (score msk q kb)) b0 (ix2 ⟨r.val, h⟩ k) = row m q kb b0 b1 r k := fun k => by
      rw [tot_apply]
      refine congrArg₂ (· + ·) ?_ (join_lo b0 b1 r k h).symm
      refine (score_apply msk q kb r k).trans ?_
      simp only [hm]
    rw [head_lo _ _ _ _ _ h]
    simp only [ex_apply, t, headOut]
  · have t : ∀ k, tot (sub1 (score msk q kb)) b1 (ix2 ⟨r.val - 64, by omega⟩ k) = row m q kb b0 b1 r k := fun k => by
      rw [tot_apply]
      refine congrArg₂ (· + ·) ?_ (join_hi b0 b1 r k h).symm
      refine Eq.trans ?_ ((score_apply msk q kb r k).trans ?_)
      · unfold sub1
        exact congrArg (score msk q kb) (congrArg (fun x => ix3 0 x k) (Fin.ext (show 64 + (r.val - 64) = r.val by omega)))
      · simp only [hm]
    rw [head_hi _ _ _ _ _ h]
    simp only [ex_apply, t, headOut]
/-- the pair function at an element. -/
theorem chain_apply (q kb vb b00 b01 b10 b11) (r l : Fin 128) : chain q kb vb b00 b01 b10 b11 (ix2 r l) =
    if l.val < 64 then headOut (row (fun d => d.val < 64) q kb b00 b01 r) (fun k => vb (ix2 k l))
    else headOut (row (fun d => 64 ≤ d.val) q kb b10 b11 r) (fun k => vb (ix2 k l)) := by
  rw [← headrow (fun d => d.val < 64) lanes0, ← headrow (fun d => 64 ≤ d.val) lanes1]
  · unfold chain
    pointwise
    rw [show (64#32) = BitVec.ofNat 32 64 from rfl, lt_word _ _ (by decide)]
    by_cases h : l.val < 64 <;> simp [Scalar.select, h]
  · intro r d; rw [lanes1_apply]; by_cases h : 64 ≤ d.val <;> simp [h]
  · intro r d; rw [lanes0_apply]; by_cases h : d.val < 64 <;> simp [h]
end N256

namespace N384
/-- a score is the dot product over the lanes of the head. -/
theorem score_apply (msk q kb) (r : Fin 128) (k : Fin 384) : score msk q kb (ix3 0 r k) =
    ∑ d : Fin 128, (if msk (ix2 r d) = 1#1 then q (ix2 r d) else 0) * kb (ix2 k d) := by
  unfold score zeros
  pointwise
  refine Finset.sum_congr rfl fun d _ => ?_
  by_cases h : msk (ix2 r d) = 1#1 <;> simp [Scalar.select, h]
theorem tot_apply (s b) (r : Fin 64) (k : Fin 384) : tot s b (ix2 r k) = s (ix3 0 r k) + b (ix3 0 r k) := by
  unfold tot
  pointwise
theorem ex_apply (s b) (r : Fin 64) (k : Fin 384) : ex s b (ix2 r k) = Ideal.exp (tot s b (ix2 r k) - mx (fun k => tot s b (ix2 r k))) := by
  unfold ex mx
  pointwise
  rw [show Ideal.ofBits .f32 4286578688#32 = (⊥:EReal) from neg_inf_bits]
theorem rc_apply (e) (r : Fin 64) : rc e (ix2 r 0) = Ideal.div 1 (∑ k, e (ix2 r k)) := by
  unfold rc
  pointwise
theorem st_apply (e) (r : Fin 64) (k : Fin 384) : st e (ix3 0 r k) = e (ix2 r k) := by
  unfold st
  pointwise
theorem join_lo {α : Type*} (A B : S1x64x384.Idx → α) (r : Fin 128) (k : Fin 384) (h : r.val < 64) : join A B (ix3 0 r k) = A (ix3 0 ⟨r.val, h⟩ k) := dif_pos h
theorem join_hi {α : Type*} (A B : S1x64x384.Idx → α) (r : Fin 128) (k : Fin 384) (h : ¬ r.val < 64) : join A B (ix3 0 r k) = B (ix3 0 ⟨r.val - 64, by omega⟩ k) := dif_neg h
theorem head_lo (e0 e1 vb) (r l : Fin 128) (h : r.val < 64) : head e0 e1 vb (ix2 r l) =
    (∑ k, e0 (ix2 ⟨r.val, h⟩ k) * vb (ix2 k l)) * Ideal.div 1 (∑ k, e0 (ix2 ⟨r.val, h⟩ k)) := by
  have e : ∀ k, join (st e0) (st e1) (ix3 0 r k) = e0 (ix2 ⟨r.val, h⟩ k) := fun k =>
    (join_lo (st e0) (st e1) r k h).trans (st_apply e0 _ _)
  unfold head
  pointwise
  simp only [e, h, dif_pos, rc_apply]
theorem head_hi (e0 e1 vb) (r l : Fin 128) (h : ¬ r.val < 64) : head e0 e1 vb (ix2 r l) =
    (∑ k, e1 (ix2 ⟨r.val - 64, by omega⟩ k) * vb (ix2 k l)) * Ideal.div 1 (∑ k, e1 (ix2 ⟨r.val - 64, by omega⟩ k)) := by
  have e : ∀ k, join (st e0) (st e1) (ix3 0 r k) = e1 (ix2 ⟨r.val - 64, by omega⟩ k) := fun k =>
    (join_hi (st e0) (st e1) r k h).trans (st_apply e1 _ _)
  unfold head
  pointwise
  simp only [e, h, dif_neg, not_false_eq_true, rc_apply]
/-- one row of a head's biased scores, over a mask of the lanes. -/
def row (m : Fin 128 → Prop) [DecidablePred m] (q : FVec Ideal S128x128 .bf16) (kb : FVec Ideal S384x128 .bf16) (b0 b1 : FVec Ideal S1x64x384 .f32) (r : Fin 128) (k : Fin 384) : EReal :=
  (∑ d : Fin 128, (if m d then q (ix2 r d) else 0) * kb (ix2 k d)) + join (α := EReal) b0 b1 (ix3 0 r k)
/-- a head's output at an element. -/
theorem headrow (m : Fin 128 → Prop) [DecidablePred m] (msk q kb b0 b1 vb) (hm : ∀ r d, msk (ix2 r d) = 1#1 ↔ m d) (r l : Fin 128) :
    head (ex (sub0 (score msk q kb)) b0) (ex (sub1 (score msk q kb)) b1) vb (ix2 r l) = headOut (row m q kb b0 b1 r) (fun k => vb (ix2 k l)) := by
  by_cases h : r.val < 64
  · have t : ∀ k, tot (sub0 (score msk q kb)) b0 (ix2 ⟨r.val, h⟩ k) = row m q kb b0 b1 r k := fun k => by
      rw [tot_apply]
      refine congrArg₂ (· + ·) ?_ (join_lo b0 b1 r k h).symm
      refine (score_apply msk q kb r k).trans ?_
      simp only [hm]
    rw [head_lo _ _ _ _ _ h]
    simp only [ex_apply, t, headOut]
  · have t : ∀ k, tot (sub1 (score msk q kb)) b1 (ix2 ⟨r.val - 64, by omega⟩ k) = row m q kb b0 b1 r k := fun k => by
      rw [tot_apply]
      refine congrArg₂ (· + ·) ?_ (join_hi b0 b1 r k h).symm
      refine Eq.trans ?_ ((score_apply msk q kb r k).trans ?_)
      · unfold sub1
        exact congrArg (score msk q kb) (congrArg (fun x => ix3 0 x k) (Fin.ext (show 64 + (r.val - 64) = r.val by omega)))
      · simp only [hm]
    rw [head_hi _ _ _ _ _ h]
    simp only [ex_apply, t, headOut]
/-- the pair function at an element. -/
theorem chain_apply (q kb vb b00 b01 b10 b11) (r l : Fin 128) : chain q kb vb b00 b01 b10 b11 (ix2 r l) =
    if l.val < 64 then headOut (row (fun d => d.val < 64) q kb b00 b01 r) (fun k => vb (ix2 k l))
    else headOut (row (fun d => 64 ≤ d.val) q kb b10 b11 r) (fun k => vb (ix2 k l)) := by
  rw [← headrow (fun d => d.val < 64) lanes0, ← headrow (fun d => 64 ≤ d.val) lanes1]
  · unfold chain
    pointwise
    rw [show (64#32) = BitVec.ofNat 32 64 from rfl, lt_word _ _ (by decide)]
    by_cases h : l.val < 64 <;> simp [Scalar.select, h]
  · intro r d; rw [lanes1_apply]; by_cases h : 64 ≤ d.val <;> simp [h]
  · intro r d; rw [lanes0_apply]; by_cases h : d.val < 64 <;> simp [h]
end N384

namespace N512
/-- a score is the dot product over the lanes of the head. -/
theorem score_apply (msk q kb) (r : Fin 128) (k : Fin 512) : score msk q kb (ix3 0 r k) =
    ∑ d : Fin 128, (if msk (ix2 r d) = 1#1 then q (ix2 r d) else 0) * kb (ix2 k d) := by
  unfold score zeros
  pointwise
  refine Finset.sum_congr rfl fun d _ => ?_
  by_cases h : msk (ix2 r d) = 1#1 <;> simp [Scalar.select, h]
theorem tot_apply (s b) (r : Fin 64) (k : Fin 512) : tot s b (ix2 r k) = s (ix3 0 r k) + b (ix3 0 r k) := by
  unfold tot
  pointwise
theorem ex_apply (s b) (r : Fin 64) (k : Fin 512) : ex s b (ix2 r k) = Ideal.exp (tot s b (ix2 r k) - mx (fun k => tot s b (ix2 r k))) := by
  unfold ex mx
  pointwise
  rw [show Ideal.ofBits .f32 4286578688#32 = (⊥:EReal) from neg_inf_bits]
theorem rc_apply (e) (r : Fin 64) : rc e (ix2 r 0) = Ideal.div 1 (∑ k, e (ix2 r k)) := by
  unfold rc
  pointwise
theorem st_apply (e) (r : Fin 64) (k : Fin 512) : st e (ix3 0 r k) = e (ix2 r k) := by
  unfold st
  pointwise
theorem join_lo {α : Type*} (A B : S1x64x512.Idx → α) (r : Fin 128) (k : Fin 512) (h : r.val < 64) : join A B (ix3 0 r k) = A (ix3 0 ⟨r.val, h⟩ k) := dif_pos h
theorem join_hi {α : Type*} (A B : S1x64x512.Idx → α) (r : Fin 128) (k : Fin 512) (h : ¬ r.val < 64) : join A B (ix3 0 r k) = B (ix3 0 ⟨r.val - 64, by omega⟩ k) := dif_neg h
theorem head_lo (e0 e1 vb) (r l : Fin 128) (h : r.val < 64) : head e0 e1 vb (ix2 r l) =
    (∑ k, e0 (ix2 ⟨r.val, h⟩ k) * vb (ix2 k l)) * Ideal.div 1 (∑ k, e0 (ix2 ⟨r.val, h⟩ k)) := by
  have e : ∀ k, join (st e0) (st e1) (ix3 0 r k) = e0 (ix2 ⟨r.val, h⟩ k) := fun k =>
    (join_lo (st e0) (st e1) r k h).trans (st_apply e0 _ _)
  unfold head
  pointwise
  simp only [e, h, dif_pos, rc_apply]
theorem head_hi (e0 e1 vb) (r l : Fin 128) (h : ¬ r.val < 64) : head e0 e1 vb (ix2 r l) =
    (∑ k, e1 (ix2 ⟨r.val - 64, by omega⟩ k) * vb (ix2 k l)) * Ideal.div 1 (∑ k, e1 (ix2 ⟨r.val - 64, by omega⟩ k)) := by
  have e : ∀ k, join (st e0) (st e1) (ix3 0 r k) = e1 (ix2 ⟨r.val - 64, by omega⟩ k) := fun k =>
    (join_hi (st e0) (st e1) r k h).trans (st_apply e1 _ _)
  unfold head
  pointwise
  simp only [e, h, dif_neg, not_false_eq_true, rc_apply]
/-- one row of a head's biased scores, over a mask of the lanes. -/
def row (m : Fin 128 → Prop) [DecidablePred m] (q : FVec Ideal S128x128 .bf16) (kb : FVec Ideal S512x128 .bf16) (b0 b1 : FVec Ideal S1x64x512 .f32) (r : Fin 128) (k : Fin 512) : EReal :=
  (∑ d : Fin 128, (if m d then q (ix2 r d) else 0) * kb (ix2 k d)) + join (α := EReal) b0 b1 (ix3 0 r k)
/-- a head's output at an element. -/
theorem headrow (m : Fin 128 → Prop) [DecidablePred m] (msk q kb b0 b1 vb) (hm : ∀ r d, msk (ix2 r d) = 1#1 ↔ m d) (r l : Fin 128) :
    head (ex (sub0 (score msk q kb)) b0) (ex (sub1 (score msk q kb)) b1) vb (ix2 r l) = headOut (row m q kb b0 b1 r) (fun k => vb (ix2 k l)) := by
  by_cases h : r.val < 64
  · have t : ∀ k, tot (sub0 (score msk q kb)) b0 (ix2 ⟨r.val, h⟩ k) = row m q kb b0 b1 r k := fun k => by
      rw [tot_apply]
      refine congrArg₂ (· + ·) ?_ (join_lo b0 b1 r k h).symm
      refine (score_apply msk q kb r k).trans ?_
      simp only [hm]
    rw [head_lo _ _ _ _ _ h]
    simp only [ex_apply, t, headOut]
  · have t : ∀ k, tot (sub1 (score msk q kb)) b1 (ix2 ⟨r.val - 64, by omega⟩ k) = row m q kb b0 b1 r k := fun k => by
      rw [tot_apply]
      refine congrArg₂ (· + ·) ?_ (join_hi b0 b1 r k h).symm
      refine Eq.trans ?_ ((score_apply msk q kb r k).trans ?_)
      · unfold sub1
        exact congrArg (score msk q kb) (congrArg (fun x => ix3 0 x k) (Fin.ext (show 64 + (r.val - 64) = r.val by omega)))
      · simp only [hm]
    rw [head_hi _ _ _ _ _ h]
    simp only [ex_apply, t, headOut]
/-- the pair function at an element. -/
theorem chain_apply (q kb vb b00 b01 b10 b11) (r l : Fin 128) : chain q kb vb b00 b01 b10 b11 (ix2 r l) =
    if l.val < 64 then headOut (row (fun d => d.val < 64) q kb b00 b01 r) (fun k => vb (ix2 k l))
    else headOut (row (fun d => 64 ≤ d.val) q kb b10 b11 r) (fun k => vb (ix2 k l)) := by
  rw [← headrow (fun d => d.val < 64) lanes0, ← headrow (fun d => 64 ≤ d.val) lanes1]
  · unfold chain
    pointwise
    rw [show (64#32) = BitVec.ofNat 32 64 from rfl, lt_word _ _ (by decide)]
    by_cases h : l.val < 64 <;> simp [Scalar.select, h]
  · intro r d; rw [lanes1_apply]; by_cases h : 64 ≤ d.val <;> simp [h]
  · intro r d; rw [lanes0_apply]; by_cases h : d.val < 64 <;> simp [h]
end N512

end Cert.Proof
-- ==== Proof.Attn.Bias.lean ====
module
public import proofs.«01_k».proof.Proof.Attn.Apply

/-! The bias block that the first point of a head pair builds: each row is the row of the one before rotated by one
lane, and the lanes outside the row's band of keys hold `-∞`. -/

@[expose] public section
set_option maxRecDepth 16384
noncomputable section
namespace Cert.Proof
open Cert.KernelIdeal Cert.KernelIdeal.Gen Idealize.ShloMosaic Idealize.ShloMosaic.TcCoe Idealize.SL.Sem

/-- the lane index that row `r` of a pair reads at lane `l`. -/
def back (r l : ℕ) : Fin 640 := ⟨(l + 640 - r % 640) % 640, Nat.mod_lt _ (by decide)⟩

/-- a rotation along the lanes. -/
def rot (n : BitVec 32) (v : FVec Ideal S8x640 .f32) : FVec Ideal S8x640 .f32 := dynamicRotate 1 n none v (by decide)

theorem rot_apply (n : BitVec 32) (v : FVec Ideal S8x640 .f32) (s : Fin 8) (l : Fin 640) :
    rot n v (ix2 s l) = v (ix2 s (back n.toNat l.val)) := by
  unfold rot dynamicRotate
  refine congrArg v (funext fun b => ?_)
  match b with
  | ⟨0, _⟩ => rfl
  | ⟨1, _⟩ => rfl

/-- one row of distances, repeated in eight rows. -/
def rep (row : Vec Ideal S1x1x640 .f32) : FVec Ideal S8x640 .f32 :=
  broadcastTo S8x640 (shapeCast S1x640 (shapeCast S1x640 row (by decide) : FVec Ideal S1x640 .f32) (by decide)) (by decide)

theorem rep_apply (row : Vec Ideal S1x1x640 .f32) (s : Fin 8) (l : Fin 640) : rep row (ix2 s l) = row (ix3 0 0 l) := by
  unfold rep
  pointwise

/-- a rotation of the rows with one bit of their number set. -/
def bitRot (b : BitVec 32) (v : FVec Ideal S8x640 .f32) : FVec Ideal S8x640 .f32 :=
  select (cmpi .ne (andi (iota .tc S8x640 32 [0] (by decide)) (broadcast S8x640 b)) (broadcast S8x640 0#32)) (rot b v) v

theorem bitRot_apply (b : BitVec 32) (v : FVec Ideal S8x640 .f32) (s : Fin 8) (l : Fin 640) :
    bitRot b v (ix2 s l) = if BitVec.ofNat 32 s.val &&& b = 0#32 then v (ix2 s l) else v (ix2 s (back b.toNat l.val)) := by
  unfold bitRot
  pointwise
  rw [rot_apply]
  by_cases h : BitVec.ofNat 32 s.val &&& b = 0#32
  · simp [Scalar.select, IntOp.cmpi, IntOp.andi, h]
  · have e : (BitVec.ofNat 32 s.val &&& b != 0#32) = true := bne_iff_ne.2 h
    simp [Scalar.select, IntOp.cmpi, IntOp.andi, h, e]

theorem pay3_eq (row : Vec Ideal S1x1x640 .f32) : k0_pay3 row = bitRot 4#32 (bitRot 2#32 (bitRot 1#32 (rep row))) := rfl

theorem back_back (a b l : ℕ) (h : a + b < 640) : back a (back b l).val = back (a + b) l := by
  apply Fin.ext
  show ((l + 640 - b % 640) % 640 + 640 - a % 640) % 640 = (l + 640 - (a + b) % 640) % 640
  omega

theorem back_zero (l : Fin 640) : back 0 l.val = l := by
  apply Fin.ext
  show (l.val + 640 - 0 % 640) % 640 = l.val
  have := l.isLt
  omega

/-- eight rows of distances: row `s` is rotated by `s`. -/
theorem pay3_apply (row : Vec Ideal S1x1x640 .f32) (s : Fin 8) (l : Fin 640) :
    k0_pay3 row (ix2 s l) = row (ix3 0 0 (back s.val l.val)) := by
  rw [pay3_eq]
  simp only [bitRot_apply, rep_apply]
  fin_cases s <;> simp [back_back, back_zero]

/-- a group of eight rows with the lanes outside the band at `-∞`. -/
def brow (lo hi : BitVec 32) (x : FVec Ideal S8x640 .f32) : FVec Ideal S1x8x640 .f32 :=
  shapeCast S1x8x640 (select (andi (cmpi .sge (iota .tc S8x640 32 [1] (by decide)) (broadcast S8x640 lo)) (cmpi .slt (iota .tc S8x640 32 [1] (by decide)) (broadcast S8x640 hi)))
    x (broadcast S8x640 (Named.named (F := Ideal) κ "mask" 0xF149F2CA#32))) (by decide)

theorem mask_val : Named.named (F := Ideal) (φ := .f32) κ "mask" 0xF149F2CA#32 = (⊥ : EReal) :=
  IdealRules.named_const.ideal_named_scalar _ _ _ _ rfl

theorem lt_word640 (a : Fin 640) (n : ℕ) (hn : n ≤ 640) : IntOp.cmpi .slt (BitVec.ofNat 32 a.val) (BitVec.ofNat 32 n) = if a.val < n then 1#1 else 0#1 := by
  have := a.isLt
  word_omega

theorem ge_word640 (a : Fin 640) (n : ℕ) (hn : n ≤ 640) : IntOp.cmpi .sge (BitVec.ofNat 32 a.val) (BitVec.ofNat 32 n) = if n ≤ a.val then 1#1 else 0#1 := by
  have := a.isLt
  word_omega

theorem brow_apply (lo hi : ℕ) (hl : lo ≤ 640) (hh : hi ≤ 640) (x : FVec Ideal S8x640 .f32) (s : Fin 8) (l : Fin 640) :
    brow (BitVec.ofNat 32 lo) (BitVec.ofNat 32 hi) x (ix3 0 s l) = if lo ≤ l.val ∧ l.val < hi then x (ix2 s l) else ⊥ := by
  unfold brow
  pointwise
  rw [mask_val, lt_word640 _ _ hh, ge_word640 _ _ hl]
  by_cases h : lo ≤ l.val <;> by_cases h' : l.val < hi <;> simp [h, h', IntOp.andi, Scalar.select]

/-- the bias of row `r` of a pair and key lane `l`, from the distances of its head. -/
def biasVal (x3 : Vec Ideal S2x1x640 .f32) (h : Fin 2) (r : Fin 128) (l : Fin 640) : EReal :=
  if 64 * (r.val / 64) ≤ l.val ∧ l.val < 64 * (r.val / 64) + 576 then x3 (ix3 h 0 (back r.val l.val)) else ⊥

theorem piece_bias (x3 : Vec Ideal S2x1x640 .f32) (row : Vec Ideal S1x1x640 .f32) (h : Fin 2) (r0 lo hi : ℕ) (hrow : ∀ l, row (ix3 0 0 l) = x3 (ix3 h 0 l))
    (hr : r0 ≤ 120) (h8 : r0 % 8 = 0) (hlo : lo = 64 * (r0 / 64)) (hhi : hi = lo + 576) (y : S2x128x640.Idx) (x : S1x8x640.Idx)
    (h0 : (y 0).val = h.val + (x 0).val) (h1 : (y 1).val = r0 + (x 1).val) (h2 : (y 2).val = (x 2).val) :
    brow (BitVec.ofNat 32 lo) (BitVec.ofNat 32 hi) (rot (BitVec.ofNat 32 r0) (k0_pay3 row)) x = biasVal x3 (y 0) (y 1) (y 2) := by
  idx_vars x
  idx_vars y
  change y0.val = h.val + x0.val at h0
  change y1.val = r0 + x1.val at h1
  change y2.val = x2.val at h2
  obtain rfl : x0 = 0 := Subsingleton.elim _ _
  obtain rfl : y0 = h := Fin.ext (by simpa using h0)
  obtain rfl : y2 = x2 := Fin.ext h2
  have b : 64 * (y1.val / 64) = lo := by have := x1.isLt; omega
  have e : back (BitVec.ofNat 32 r0).toNat y2.val = back r0 y2.val := by
    rw [BitVec.toNat_ofNat, Nat.mod_eq_of_lt (by omega)]
  change brow (BitVec.ofNat 32 lo) (BitVec.ofNat 32 hi) (rot (BitVec.ofNat 32 r0) (k0_pay3 row)) (ix3 0 x1 y2) = biasVal x3 y0 y1 y2
  rw [brow_apply _ _ (by omega) (by omega), rot_apply, pay3_apply, hrow, e, back_back _ _ _ (by have := x1.isLt; omega)]
  unfold biasVal
  rw [b, ← hhi, h1, Nat.add_comm r0]

theorem piece_bias0 (x3 : Vec Ideal S2x1x640 .f32) (row : Vec Ideal S1x1x640 .f32) (h : Fin 2) (lo hi : ℕ) (hrow : ∀ l, row (ix3 0 0 l) = x3 (ix3 h 0 l))
    (hlo : lo = 0) (hhi : hi = 576) (y : S2x128x640.Idx) (x : S1x8x640.Idx)
    (h0 : (y 0).val = h.val + (x 0).val) (h1 : (y 1).val = (x 1).val) (h2 : (y 2).val = (x 2).val) :
    brow (BitVec.ofNat 32 lo) (BitVec.ofNat 32 hi) (k0_pay3 row) x = biasVal x3 (y 0) (y 1) (y 2) := by
  have e : rot (BitVec.ofNat 32 0) (k0_pay3 row) = k0_pay3 row := by
    funext j
    idx_vars j
    rw [rot_apply]
    exact congrArg (fun l => k0_pay3 row (ix2 j0 l)) (back_zero j1)
  have := piece_bias x3 row h 0 lo hi hrow (by decide) (by decide) (by omega) (by omega) y x h0 (by omega) h2
  rwa [e] at this

/-- a row of distances as it is loaded. -/
theorem row_read (arg5 : Memref sig .tc .vmem S2x1x640 .f32) (harg5 : arg5.IsWhole) (x3 : Vec Ideal S2x1x640 .f32) (h : Fin 2) (o : Fin 3 → ℕ) (ho : o = ![h.val, 0, 0]) (inb) (l : Fin 640) :
    View.readAt (Elt Ideal) arg5.view (Rect.unit (s := S2x1x640) o S1x1x640.size inb).toLoadRect (harg5.unread x3) (ix3 0 0 l) = x3 (ix3 h 0 l) := by
  subst ho
  refine (congrFun (harg5.read_unread x3) _).trans (congrArg x3 (funext fun a => ?_))
  match a with
  | ⟨0, _⟩ => exact Fin.ext rfl
  | ⟨1, _⟩ => exact Fin.ext rfl
  | ⟨2, _⟩ => exact Fin.ext (show 0 + 1 * l.val = l.val by omega)

/-- what the first point of a head pair leaves in the bias block. -/
theorem scratch_eq (c : Dev nD) (arg5 : Memref sig .tc .vmem S2x1x640 .f32) (harg5 : arg5.IsWhole) (x3 : Vec Ideal S2x1x640 .f32) (y : S2x128x640.Idx) :
    View.canon (kernelRun0_A.sl.HS0_32 (F := Ideal) c arg5 harg5 x3) y = biasVal x3 (y 0) (y 1) (y 2) := by
  unfold kernelRun0_A.sl.HS0_32
  canon_tiles x h
  · exact piece_bias x3 _ 1 120 64 640 (row_read arg5 harg5 x3 1 _ rfl _) (by decide) (by decide) (by decide) (by decide) y x (by simpa using h0) (by simpa using h1) (by simpa using h2)
  · exact piece_bias x3 _ 1 112 64 640 (row_read arg5 harg5 x3 1 _ rfl _) (by decide) (by decide) (by decide) (by decide) y x (by simpa using h0) (by simpa using h1) (by simpa using h2)
  · exact piece_bias x3 _ 1 104 64 640 (row_read arg5 harg5 x3 1 _ rfl _) (by decide) (by decide) (by decide) (by decide) y x (by simpa using h0) (by simpa using h1) (by simpa using h2)
  · exact piece_bias x3 _ 1 96 64 640 (row_read arg5 harg5 x3 1 _ rfl _) (by decide) (by decide) (by decide) (by decide) y x (by simpa using h0) (by simpa using h1) (by simpa using h2)
  · exact piece_bias x3 _ 1 88 64 640 (row_read arg5 harg5 x3 1 _ rfl _) (by decide) (by decide) (by decide) (by decide) y x (by simpa using h0) (by simpa using h1) (by simpa using h2)
  · exact piece_bias x3 _ 1 80 64 640 (row_read arg5 harg5 x3 1 _ rfl _) (by decide) (by decide) (by decide) (by decide) y x (by simpa using h0) (by simpa using h1) (by simpa using h2)
  · exact piece_bias x3 _ 1 72 64 640 (row_read arg5 harg5 x3 1 _ rfl _) (by decide) (by decide) (by decide) (by decide) y x (by simpa using h0) (by simpa using h1) (by simpa using h2)
  · exact piece_bias x3 _ 1 64 64 640 (row_read arg5 harg5 x3 1 _ rfl _) (by decide) (by decide) (by decide) (by decide) y x (by simpa using h0) (by simpa using h1) (by simpa using h2)
  · exact piece_bias x3 _ 1 56 0 576 (row_read arg5 harg5 x3 1 _ rfl _) (by decide) (by decide) (by decide) (by decide) y x (by simpa using h0) (by simpa using h1) (by simpa using h2)
  · exact piece_bias x3 _ 1 48 0 576 (row_read arg5 harg5 x3 1 _ rfl _) (by decide) (by decide) (by decide) (by decide) y x (by simpa using h0) (by simpa using h1) (by simpa using h2)
  · exact piece_bias x3 _ 1 40 0 576 (row_read arg5 harg5 x3 1 _ rfl _) (by decide) (by decide) (by decide) (by decide) y x (by simpa using h0) (by simpa using h1) (by simpa using h2)
  · exact piece_bias x3 _ 1 32 0 576 (row_read arg5 harg5 x3 1 _ rfl _) (by decide) (by decide) (by decide) (by decide) y x (by simpa using h0) (by simpa using h1) (by simpa using h2)
  · exact piece_bias x3 _ 1 24 0 576 (row_read arg5 harg5 x3 1 _ rfl _) (by decide) (by decide) (by decide) (by decide) y x (by simpa using h0) (by simpa using h1) (by simpa using h2)
  · exact piece_bias x3 _ 1 16 0 576 (row_read arg5 harg5 x3 1 _ rfl _) (by decide) (by decide) (by decide) (by decide) y x (by simpa using h0) (by simpa using h1) (by simpa using h2)
  · exact piece_bias x3 _ 1 8 0 576 (row_read arg5 harg5 x3 1 _ rfl _) (by decide) (by decide) (by decide) (by decide) y x (by simpa using h0) (by simpa using h1) (by simpa using h2)
  · exact piece_bias0 x3 _ 1 0 576 (row_read arg5 harg5 x3 1 _ rfl _) (by decide) (by decide) y x (by simpa using h0) (by simpa using h1) (by simpa using h2)
  · exact piece_bias x3 _ 0 120 64 640 (row_read arg5 harg5 x3 0 _ rfl _) (by decide) (by decide) (by decide) (by decide) y x (by simpa using h0) (by simpa using h1) (by simpa using h2)
  · exact piece_bias x3 _ 0 112 64 640 (row_read arg5 harg5 x3 0 _ rfl _) (by decide) (by decide) (by decide) (by decide) y x (by simpa using h0) (by simpa using h1) (by simpa using h2)
  · exact piece_bias x3 _ 0 104 64 640 (row_read arg5 harg5 x3 0 _ rfl _) (by decide) (by decide) (by decide) (by decide) y x (by simpa using h0) (by simpa using h1) (by simpa using h2)
  · exact piece_bias x3 _ 0 96 64 640 (row_read arg5 harg5 x3 0 _ rfl _) (by decide) (by decide) (by decide) (by decide) y x (by simpa using h0) (by simpa using h1) (by simpa using h2)
  · exact piece_bias x3 _ 0 88 64 640 (row_read arg5 harg5 x3 0 _ rfl _) (by decide) (by decide) (by decide) (by decide) y x (by simpa using h0) (by simpa using h1) (by simpa using h2)
  · exact piece_bias x3 _ 0 80 64 640 (row_read arg5 harg5 x3 0 _ rfl _) (by decide) (by decide) (by decide) (by decide) y x (by simpa using h0) (by simpa using h1) (by simpa using h2)
  · exact piece_bias x3 _ 0 72 64 640 (row_read arg5 harg5 x3 0 _ rfl _) (by decide) (by decide) (by decide) (by decide) y x (by simpa using h0) (by simpa using h1) (by simpa using h2)
  · exact piece_bias x3 _ 0 64 64 640 (row_read arg5 harg5 x3 0 _ rfl _) (by decide) (by decide) (by decide) (by decide) y x (by simpa using h0) (by simpa using h1) (by simpa using h2)
  · exact piece_bias x3 _ 0 56 0 576 (row_read arg5 harg5 x3 0 _ rfl _) (by decide) (by decide) (by decide) (by decide) y x (by simpa using h0) (by simpa using h1) (by simpa using h2)
  · exact piece_bias x3 _ 0 48 0 576 (row_read arg5 harg5 x3 0 _ rfl _) (by decide) (by decide) (by decide) (by decide) y x (by simpa using h0) (by simpa using h1) (by simpa using h2)
  · exact piece_bias x3 _ 0 40 0 576 (row_read arg5 harg5 x3 0 _ rfl _) (by decide) (by decide) (by decide) (by decide) y x (by simpa using h0) (by simpa using h1) (by simpa using h2)
  · exact piece_bias x3 _ 0 32 0 576 (row_read arg5 harg5 x3 0 _ rfl _) (by decide) (by decide) (by decide) (by decide) y x (by simpa using h0) (by simpa using h1) (by simpa using h2)
  · exact piece_bias x3 _ 0 24 0 576 (row_read arg5 harg5 x3 0 _ rfl _) (by decide) (by decide) (by decide) (by decide) y x (by simpa using h0) (by simpa using h1) (by simpa using h2)
  · exact piece_bias x3 _ 0 16 0 576 (row_read arg5 harg5 x3 0 _ rfl _) (by decide) (by decide) (by decide) (by decide) y x (by simpa using h0) (by simpa using h1) (by simpa using h2)
  · exact piece_bias x3 _ 0 8 0 576 (row_read arg5 harg5 x3 0 _ rfl _) (by decide) (by decide) (by decide) (by decide) y x (by simpa using h0) (by simpa using h1) (by simpa using h2)
  · exact piece_bias0 x3 _ 0 0 576 (row_read arg5 harg5 x3 0 _ rfl _) (by decide) (by decide) y x (by simpa using h0) (by simpa using h1) (by simpa using h2)

end Cert.Proof
-- ==== Proof.Attn.Softmax.lean ====
module
public import proofs.«01_k».proof.Proof.Attn.Chain

/-! The softmax over a set of keys, and the two ways of computing it that the programs use: over a longer row whose
other entries are `-∞`, dividing once at the end or dividing each weight. -/

@[expose] public section
noncomputable section
namespace Cert.Proof
open Idealize.ShloMosaic

/-- the softmax-weighted sum of `W` over the keys `s` with scores `F`. -/
def att {ι : Type*} (s : Finset ι) (F W : ι → EReal) : EReal :=
  (∑ k ∈ s, Ideal.exp (F k - s.sup F) * W k) * Ideal.div 1 (∑ k ∈ s, Ideal.exp (F k - s.sup F))

/-- the same with each weight divided by the sum. -/
def headDiv {n : ℕ} (t w : Fin n → EReal) : EReal :=
  ∑ k, w k * Ideal.div (Ideal.exp (t k - mx t)) (∑ k, Ideal.exp (t k - mx t))

theorem mx_eq {n : ℕ} (t : Fin n → EReal) : mx t = Finset.univ.sup t := rfl

theorem exp_bot : Ideal.exp ⊥ = 0 := rfl

/-- a row of which the entries outside `P` are `-∞` is the family over the keys that `P` names. -/
structure Spread {ι : Type*} {n : ℕ} (t w : Fin n → EReal) (s : Finset ι) (F W : ι → EReal) where
  P : Fin n → Prop
  e : Fin n → ι
  mem : ∀ k, P k → e k ∈ s
  inj : ∀ k k', P k → P k' → e k = e k' → k = k'
  onto : ∀ x ∈ s, ∃ k, P k ∧ e k = x
  score : ∀ k, P k → t k = F (e k)
  value : ∀ k, P k → w k = W (e k)
  out : ∀ k, ¬ P k → t k = ⊥

variable {ι : Type*} {n : ℕ} {t w : Fin n → EReal} {s : Finset ι} {F W : ι → EReal}

theorem Spread.mx_eq (S : Spread t w s F W) : mx t = s.sup F := by
  rw [Cert.Proof.mx_eq]
  apply le_antisymm
  · refine Finset.sup_le fun k _ => ?_
    by_cases h : S.P k
    · rw [S.score k h]; exact Finset.le_sup (S.mem k h)
    · rw [S.out k h]; exact bot_le
  · refine Finset.sup_le fun x hx => ?_
    obtain ⟨k, hk, rfl⟩ := S.onto x hx
    rw [← S.score k hk]; exact Finset.le_sup (Finset.mem_univ k)

theorem Spread.sum_eq (S : Spread t w s F W) (f : Fin n → EReal) (g : ι → EReal) (h1 : ∀ k, S.P k → f k = g (S.e k))
    (h0 : ∀ k, ¬ S.P k → f k = 0) : ∑ k, f k = ∑ x ∈ s, g x := by
  classical
  have a : ∑ k, f k = ∑ k ∈ Finset.univ.filter S.P, f k := by
    refine (Finset.sum_subset (Finset.filter_subset _ _) fun k _ hk => h0 k ?_).symm
    simpa using hk
  rw [a]
  refine Finset.sum_bij (fun k _ => S.e k) (fun k hk => S.mem k (by simpa using hk))
    (fun k hk k' hk' h => S.inj k k' (by simpa using hk) (by simpa using hk') h) (fun x hx => ?_)
    (fun k hk => h1 k (by simpa using hk))
  obtain ⟨k, hk, e⟩ := S.onto x hx
  exact ⟨k, by simpa using hk, e⟩

theorem Spread.den_eq (S : Spread t w s F W) :
    ∑ k, Ideal.exp (t k - mx t) = ∑ x ∈ s, Ideal.exp (F x - s.sup F) :=
  S.sum_eq _ _ (fun k hk => by rw [S.mx_eq, S.score k hk]) (fun k hk => by rw [S.out k hk, EReal.bot_sub]; rfl)

/-- the division at the end. -/
theorem Spread.headOut_eq (S : Spread t w s F W) : headOut t w = att s F W := by
  unfold headOut att
  rw [S.den_eq]
  refine congrArg (· * _) (S.sum_eq _ _ (fun k hk => by rw [S.mx_eq, S.score k hk, S.value k hk]) (fun k hk => ?_))
  rw [S.out k hk, EReal.bot_sub, exp_bot, zero_mul]

theorem exp_coe (x : ℝ) : Ideal.exp (x : EReal) = ((Real.exp x : ℝ) : EReal) := rfl

theorem sum_mul_real {κ : Type*} (s : Finset κ) (f : κ → EReal) (c : ℝ) (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- a finite sum of reals is real. -/
theorem sum_coe {κ : Type*} (s : Finset κ) (f : κ → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- the maximum of finitely many real scores is real. -/
theorem sup_real (hs : s.Nonempty) (hF : ∀ x ∈ s, ∃ r : ℝ, F x = r) : ∃ r : ℝ, s.sup F = r := by
  obtain ⟨x, hx, e⟩ := Finset.exists_mem_eq_sup s hs F
  rw [e]; exact hF x hx

/-- the sum of the weights is a positive real. -/
theorem den_real (hs : s.Nonempty) (hF : ∀ x ∈ s, ∃ r : ℝ, F x = r) :
    ∃ r : ℝ, 0 < r ∧ ∑ x ∈ s, Ideal.exp (F x - s.sup F) = (r : EReal) := by
  obtain ⟨m, hm⟩ := sup_real hs hF
  choose! f hf using hF
  refine ⟨∑ x ∈ s, Real.exp (f x - m), Finset.sum_pos (fun _ _ => Real.exp_pos _) hs, ?_⟩
  rw [hm, ← sum_coe]
  refine Finset.sum_congr rfl fun x hx => ?_
  rw [hf x hx, ← EReal.coe_sub, exp_coe]

theorem div_real (x : EReal) (r : ℝ) (hr : 0 < r) : Ideal.div x (r : EReal) = x * ((r⁻¹ : ℝ) : EReal) := by
  unfold Ideal.div
  rw [if_neg (by exact_mod_cast hr.ne'), EReal.coe_inv]

/-- the division of each weight, with real scores. -/
theorem Spread.headDiv_eq (S : Spread t w s F W) (hs : s.Nonempty) (hF : ∀ x ∈ s, ∃ r : ℝ, F x = r) :
    headDiv t w = att s F W := by
  unfold headDiv att
  rw [S.den_eq]
  obtain ⟨r, hr, hd⟩ := den_real hs hF
  rw [hd, div_real _ _ hr, one_mul, sum_mul_real _ _ _ (inv_nonneg.2 hr.le)]
  refine S.sum_eq _ _ (fun k hk => ?_) (fun k hk => ?_)
  · rw [S.mx_eq, S.score k hk, S.value k hk, div_real _ _ hr, ← mul_assoc, mul_comm (W _)]
  · rw [S.out k hk, EReal.bot_sub, exp_bot, div_real _ _ hr, zero_mul, mul_zero]

end Cert.Proof
-- ==== Proof.Attn.Block.lean ====
module
public import proofs.«01_k».proof.Proof.Attn.Bias
public import proofs.«01_k».proof.Proof.Attn.Softmax

/-! What a pair of chunks stores: for each query the softmax over its band of keys. -/

@[expose] public section
set_option maxRecDepth 16384
noncomputable section
namespace Cert.Proof
open Cert.KernelIdeal Cert.KernelIdeal.Gen Idealize.ShloMosaic Idealize.ShloMosaic.TcCoe Idealize.SL.Sem

/-- the keys that query `q` attends to: its own chunk of 64 and the eight before. -/
def keys (q : ℕ) : Finset (Fin 8192) :=
  Finset.univ.filter fun k => 64 * (q / 64) ≤ k.val + 512 ∧ k.val < 64 * (q / 64) + 64

/-- the place of the bias for query `q` and key `k` in a row of distances. -/
def dist (q k : ℕ) : Fin 640 := ⟨(k + 13312 - q) % 640, Nat.mod_lt _ (by decide)⟩

/-- the lanes of a head of the pair. -/
def inHead (h : Fin 2) (d : Fin 128) : Prop := if h = 0 then d.val < 64 else 64 ≤ d.val

instance (h : Fin 2) : DecidablePred (inHead h) := fun d => by unfold inHead; infer_instance

/-- the score of a query of a block against a key. -/
def scoreBlk (x0 : Vec Ideal S2048x128 .bf16) (x1 : Vec Ideal S8192x128 .bf16) (x3 : Vec Ideal S2x1x640 .f32) (st : ℕ) (h : Fin 2)
    (r : Fin 2048) (k : Fin 8192) : EReal :=
  (∑ d : Fin 128, (if inHead h d then x0 (ix2 r d) else (0 : EReal)) * x1 (ix2 k d)) + x3 (ix3 h 0 (dist (2048 * st + r.val) k.val))

/-- the head of a lane. -/
def headOf (l : Fin 128) : Fin 2 := if l.val < 64 then 0 else 1

/-- the output of a block at a row and a lane. -/
def blkVal (x0 : Vec Ideal S2048x128 .bf16) (x1 x2 : Vec Ideal S8192x128 .bf16) (x3 : Vec Ideal S2x1x640 .f32) (st : ℕ)
    (r : Fin 2048) (l : Fin 128) : EReal :=
  att (keys (2048 * st + r.val)) (scoreBlk x0 x1 x3 st (headOf l) r) (fun k => x2 (ix2 k l))

theorem biasVal_congr (x3 : Vec Ideal S2x1x640 .f32) {h h' : Fin 2} {r r' : Fin 128} {l l' : Fin 640} (e : h = h') (e1 : r = r') (e2 : l = l') :
    biasVal x3 h r l = biasVal x3 h' r' l' := by
  rw [e, e1, e2]

/-- a pair's row of scores is the row over the keys, with `-∞` outside the band. -/
theorem row_att {n : ℕ} (x0 : Vec Ideal S2048x128 .bf16) (x1 x2 : Vec Ideal S8192x128 .bf16) (x3 : Vec Ideal S2x1x640 .f32) (st u k0 col : ℕ)
    (h : Fin 2) (r : Fin 128) (l : Fin 128) (hst : st < 4) (hu : u < 16) (hk : k0 + n ≤ 8192) (hc : col + n = 640)
    (ha : k0 + 512 = 2048 * st + 128 * u + col) (hz : col = 0 ∨ k0 = 0) (t w : Fin n → EReal)
    (ht : ∀ k : Fin n, t k = (∑ d : Fin 128, (if inHead h d then x0 (ix2 ⟨128 * u + r.val, by omega⟩ d) else (0 : EReal)) * x1 (ix2 ⟨k0 + k.val, by omega⟩ d))
      + biasVal x3 h r ⟨col + k.val, by omega⟩)
    (hw : ∀ k : Fin n, w k = x2 (ix2 ⟨k0 + k.val, by omega⟩ l)) :
    headOut t w = att (keys (2048 * st + (128 * u + r.val))) (scoreBlk x0 x1 x3 st h ⟨128 * u + r.val, by omega⟩) (fun k => x2 (ix2 k l)) := by
  have hr := r.isLt
  refine Spread.headOut_eq ⟨fun k => 64 * (r.val / 64) ≤ col + k.val ∧ col + k.val < 64 * (r.val / 64) + 576, fun k => ⟨k0 + k.val, by omega⟩,
    fun k hP => ?_, fun k k' _ _ e => ?_, fun x hx => ?_, fun k hP => ?_, fun k _ => hw k, fun k hP => ?_⟩
  · rw [keys, Finset.mem_filter]
    refine ⟨Finset.mem_univ _, ?_, ?_⟩
    · show 64 * ((2048 * st + (128 * u + r.val)) / 64) ≤ k0 + k.val + 512
      omega
    · show k0 + k.val < 64 * ((2048 * st + (128 * u + r.val)) / 64) + 64
      omega
  · have := congrArg Fin.val e
    exact Fin.ext (by simpa using this)
  · rw [keys, Finset.mem_filter] at hx
    obtain ⟨_, h1, h2⟩ := hx
    refine ⟨⟨x.val - k0, by omega⟩, ⟨?_, ?_⟩, Fin.ext ?_⟩
    · show 64 * (r.val / 64) ≤ col + (x.val - k0)
      omega
    · show col + (x.val - k0) < 64 * (r.val / 64) + 576
      omega
    · show k0 + (x.val - k0) = x.val
      omega
  · rw [ht, biasVal, if_pos hP, scoreBlk]
    refine congrArg (fun i => _ + x3 (ix3 h 0 i)) (Fin.ext ?_)
    show (col + k.val + 640 - r.val % 640) % 640 = (k0 + k.val + 13312 - (2048 * st + (128 * u + r.val))) % 640
    omega
  · rw [ht, biasVal, if_neg hP, EReal.add_bot]

namespace N640

theorem pair_val (x0 : Vec Ideal S2048x128 .bf16) (x1 x2 : Vec Ideal S8192x128 .bf16) (x3 : Vec Ideal S2x1x640 .f32) (st u k0 col : ℕ)
    (hst : st < 4) (hu : u < 16) (hk : k0 + 640 ≤ 8192) (hc : col + 640 = 640)
    (ha : k0 + 512 = 2048 * st + 128 * u + col) (hz : col = 0 ∨ k0 = 0)
    (q : FVec Ideal S128x128 .bf16) (kb vb : FVec Ideal S640x128 .bf16) (b00 b01 b10 b11 : FVec Ideal S1x64x640 .f32)
    (hq : ∀ (r d : Fin 128), q (ix2 r d) = x0 (ix2 ⟨128 * u + r.val, by omega⟩ d))
    (hkb : ∀ (k : Fin 640) (d : Fin 128), kb (ix2 k d) = x1 (ix2 ⟨k0 + k.val, by omega⟩ d))
    (hvb : ∀ (k : Fin 640) (d : Fin 128), vb (ix2 k d) = x2 (ix2 ⟨k0 + k.val, by omega⟩ d))
    (h00 : ∀ (r : Fin 64) (k : Fin 640), b00 (ix3 0 r k) = biasVal x3 0 ⟨0 + r.val, by omega⟩ ⟨col + k.val, by omega⟩)
    (h01 : ∀ (r : Fin 64) (k : Fin 640), b01 (ix3 0 r k) = biasVal x3 0 ⟨64 + r.val, by omega⟩ ⟨col + k.val, by omega⟩)
    (h10 : ∀ (r : Fin 64) (k : Fin 640), b10 (ix3 0 r k) = biasVal x3 1 ⟨0 + r.val, by omega⟩ ⟨col + k.val, by omega⟩)
    (h11 : ∀ (r : Fin 64) (k : Fin 640), b11 (ix3 0 r k) = biasVal x3 1 ⟨64 + r.val, by omega⟩ ⟨col + k.val, by omega⟩)
    (z : S128x128.Idx) (y : S2048x128.Idx) (hy0 : (y 0).val = 128 * u + (z 0).val) (hy1 : (y 1).val = (z 1).val) :
    chain q kb vb b00 b01 b10 b11 z = blkVal x0 x1 x2 x3 st (y 0) (y 1) := by
  idx_vars z
  idx_vars y
  change y0.val = 128 * u + z0.val at hy0
  change y1.val = z1.val at hy1
  obtain rfl : y1 = z1 := Fin.ext hy1
  obtain ⟨yv, yl⟩ := y0
  change yv = 128 * u + z0.val at hy0
  subst hy0
  change chain q kb vb b00 b01 b10 b11 (ix2 z0 y1) = blkVal x0 x1 x2 x3 st ⟨128 * u + z0.val, _⟩ y1
  have j : ∀ (b0 b1 : FVec Ideal S1x64x640 .f32) (h : Fin 2) (k : Fin 640)
      (e0 : ∀ (r : Fin 64) (k : Fin 640), b0 (ix3 0 r k) = biasVal x3 h ⟨0 + r.val, by omega⟩ ⟨col + k.val, by omega⟩)
      (e1 : ∀ (r : Fin 64) (k : Fin 640), b1 (ix3 0 r k) = biasVal x3 h ⟨64 + r.val, by omega⟩ ⟨col + k.val, by omega⟩),
      join (α := EReal) b0 b1 (ix3 0 z0 k) = biasVal x3 h z0 ⟨col + k.val, by omega⟩ := by
    intro b0 b1 h k e0 e1
    by_cases hr : z0.val < 64
    · rw [join_lo _ _ _ _ hr, e0]
      exact congrArg (fun r => biasVal x3 h r _) (Fin.ext (show 0 + z0.val = z0.val by omega))
    · rw [join_hi _ _ _ _ hr, e1]
      exact congrArg (fun r => biasVal x3 h r _) (Fin.ext (show 64 + (z0.val - 64) = z0.val by omega))
  rw [chain_apply]
  unfold blkVal headOf
  by_cases hl : y1.val < 64
  · rw [if_pos hl, if_pos hl]
    refine row_att x0 x1 x2 x3 st u k0 col 0 z0 y1 hst hu hk hc ha hz _ _ (fun k => ?_) (fun k => hvb k y1)
    unfold row
    rw [j b00 b01 0 k h00 h01]
    refine congrArg (· + _) (Finset.sum_congr rfl fun d _ => ?_)
    rw [hq, hkb]
    rfl
  · rw [if_neg hl, if_neg hl]
    refine row_att x0 x1 x2 x3 st u k0 col 1 z0 y1 hst hu hk hc ha hz _ _ (fun k => ?_) (fun k => hvb k y1)
    unfold row
    rw [j b10 b11 1 k h10 h11]
    refine congrArg (· + _) (Finset.sum_congr rfl fun d _ => ?_)
    rw [hq, hkb]
    rfl

/-- a load of keys or values. -/
theorem ld_k (m : Memref sig .tc .vmem S8192x128 .bf16) (hm : m.IsWhole) (X : Vec Ideal S8192x128 .bf16) (o : Fin 2 → ℕ) (inb) (k0 : ℕ) (ho : o = ![k0, 0]) (hk : k0 + 640 ≤ 8192) (hs)
    (k : Fin 640) (d : Fin 128) :
    shapeCast S640x128 (View.readAt (Elt Ideal) m.view (Rect.unit (s := S8192x128) o S640x128.size inb).toLoadRect (hm.unread X)) hs (ix2 k d) = X (ix2 ⟨k0 + k.val, by omega⟩ d) := by
  subst ho
  pointwise
  refine (congrFun (hm.read_unread X) _).trans (congrArg X (funext fun a => ?_))
  match a with
  | ⟨0, _⟩ => exact Fin.ext (show k0 + 1 * k.val = k0 + k.val by omega)
  | ⟨1, _⟩ => exact Fin.ext (show 0 + 1 * d.val = d.val by omega)

/-- a load of the bias block, whichever way it was left there. -/
theorem ld_b (X : S2x128x640.Idx → EReal) (x3 : Vec Ideal S2x1x640 .f32) (hX : ∀ y, X y = biasVal x3 (y 0) (y 1) (y 2)) (h : Fin 2) (b col : ℕ) (o : Fin 3 → ℕ) (ho : o = ![h.val, b, col]) (inb) (hc : col + 640 ≤ 640) (hb : b + 64 ≤ 128)
    (r : Fin 64) (k : Fin 640) :
    X ((Rect.unit (s := S2x128x640) o S1x64x640.size inb).toLoadRect.idx (ix3 0 r k)) = biasVal x3 h ⟨b + r.val, by omega⟩ ⟨col + k.val, by omega⟩ := by
  subst ho
  rw [hX]
  refine biasVal_congr x3 (Fin.ext ?_) (Fin.ext ?_) (Fin.ext ?_)
  · show h.val + 1 * 0 = h.val
    omega
  · show b + 1 * r.val = b + r.val
    omega
  · show col + 1 * k.val = col + k.val
    omega

/-- a load of the bias block after it was written. -/
theorem ld_c {κ : Kind} {sp : Space} (v : View sig κ sp S2x128x640 .f32) (L : List (View.Piece (Elt Ideal) S2x128x640 .f32)) (x3 : Vec Ideal S2x1x640 .f32) (hL : ∀ y, View.canon L y = biasVal x3 (y 0) (y 1) (y 2)) (h : Fin 2) (b col : ℕ) (o : Fin 3 → ℕ) (ho : o = ![h.val, b, col]) (inb) (hc : col + 640 ≤ 640) (hb : b + 64 ≤ 128)
    (r : Fin 64) (k : Fin 640) :
    v.readCov L (Rect.unit (s := S2x128x640) o S1x64x640.size inb).toLoadRect (ix3 0 r k) = biasVal x3 h ⟨b + r.val, by omega⟩ ⟨col + k.val, by omega⟩ := by
  rw [View.readCov_eq_canon']
  exact ld_b _ x3 hL h b col o ho inb hc hb r k

/-- a load of the bias block carried from the block before. -/
theorem ld_x (m : Memref sig .tc .vmem S2x128x640 .f32) (hm : m.IsWhole) (X : Vec Ideal S2x128x640 .f32) (x3 : Vec Ideal S2x1x640 .f32) (hX : ∀ y, X y = biasVal x3 (y 0) (y 1) (y 2)) (h : Fin 2) (b col : ℕ) (o : Fin 3 → ℕ) (ho : o = ![h.val, b, col]) (inb) (hc : col + 640 ≤ 640) (hb : b + 64 ≤ 128)
    (r : Fin 64) (k : Fin 640) :
    View.readAt (Elt Ideal) m.view (Rect.unit (s := S2x128x640) o S1x64x640.size inb).toLoadRect (hm.unread X) (ix3 0 r k) = biasVal x3 h ⟨b + r.val, by omega⟩ ⟨col + k.val, by omega⟩ :=
  (congrFun (hm.read_unread X) _).trans (ld_b X x3 hX h b col o ho inb hc hb r k)

end N640

namespace N128

theorem pair_val (x0 : Vec Ideal S2048x128 .bf16) (x1 x2 : Vec Ideal S8192x128 .bf16) (x3 : Vec Ideal S2x1x640 .f32) (st u k0 col : ℕ)
    (hst : st < 4) (hu : u < 16) (hk : k0 + 128 ≤ 8192) (hc : col + 128 = 640)
    (ha : k0 + 512 = 2048 * st + 128 * u + col) (hz : col = 0 ∨ k0 = 0)
    (q : FVec Ideal S128x128 .bf16) (kb vb : FVec Ideal S128x128 .bf16) (b00 b01 b10 b11 : FVec Ideal S1x64x128 .f32)
    (hq : ∀ (r d : Fin 128), q (ix2 r d) = x0 (ix2 ⟨128 * u + r.val, by omega⟩ d))
    (hkb : ∀ (k : Fin 128) (d : Fin 128), kb (ix2 k d) = x1 (ix2 ⟨k0 + k.val, by omega⟩ d))
    (hvb : ∀ (k : Fin 128) (d : Fin 128), vb (ix2 k d) = x2 (ix2 ⟨k0 + k.val, by omega⟩ d))
    (h00 : ∀ (r : Fin 64) (k : Fin 128), b00 (ix3 0 r k) = biasVal x3 0 ⟨0 + r.val, by omega⟩ ⟨col + k.val, by omega⟩)
    (h01 : ∀ (r : Fin 64) (k : Fin 128), b01 (ix3 0 r k) = biasVal x3 0 ⟨64 + r.val, by omega⟩ ⟨col + k.val, by omega⟩)
    (h10 : ∀ (r : Fin 64) (k : Fin 128), b10 (ix3 0 r k) = biasVal x3 1 ⟨0 + r.val, by omega⟩ ⟨col + k.val, by omega⟩)
    (h11 : ∀ (r : Fin 64) (k : Fin 128), b11 (ix3 0 r k) = biasVal x3 1 ⟨64 + r.val, by omega⟩ ⟨col + k.val, by omega⟩)
    (z : S128x128.Idx) (y : S2048x128.Idx) (hy0 : (y 0).val = 128 * u + (z 0).val) (hy1 : (y 1).val = (z 1).val) :
    chain q kb vb b00 b01 b10 b11 z = blkVal x0 x1 x2 x3 st (y 0) (y 1) := by
  idx_vars z
  idx_vars y
  change y0.val = 128 * u + z0.val at hy0
  change y1.val = z1.val at hy1
  obtain rfl : y1 = z1 := Fin.ext hy1
  obtain ⟨yv, yl⟩ := y0
  change yv = 128 * u + z0.val at hy0
  subst hy0
  change chain q kb vb b00 b01 b10 b11 (ix2 z0 y1) = blkVal x0 x1 x2 x3 st ⟨128 * u + z0.val, _⟩ y1
  have j : ∀ (b0 b1 : FVec Ideal S1x64x128 .f32) (h : Fin 2) (k : Fin 128)
      (e0 : ∀ (r : Fin 64) (k : Fin 128), b0 (ix3 0 r k) = biasVal x3 h ⟨0 + r.val, by omega⟩ ⟨col + k.val, by omega⟩)
      (e1 : ∀ (r : Fin 64) (k : Fin 128), b1 (ix3 0 r k) = biasVal x3 h ⟨64 + r.val, by omega⟩ ⟨col + k.val, by omega⟩),
      join (α := EReal) b0 b1 (ix3 0 z0 k) = biasVal x3 h z0 ⟨col + k.val, by omega⟩ := by
    intro b0 b1 h k e0 e1
    by_cases hr : z0.val < 64
    · rw [join_lo _ _ _ _ hr, e0]
      exact congrArg (fun r => biasVal x3 h r _) (Fin.ext (show 0 + z0.val = z0.val by omega))
    · rw [join_hi _ _ _ _ hr, e1]
      exact congrArg (fun r => biasVal x3 h r _) (Fin.ext (show 64 + (z0.val - 64) = z0.val by omega))
  rw [chain_apply]
  unfold blkVal headOf
  by_cases hl : y1.val < 64
  · rw [if_pos hl, if_pos hl]
    refine row_att x0 x1 x2 x3 st u k0 col 0 z0 y1 hst hu hk hc ha hz _ _ (fun k => ?_) (fun k => hvb k y1)
    unfold row
    rw [j b00 b01 0 k h00 h01]
    refine congrArg (· + _) (Finset.sum_congr rfl fun d _ => ?_)
    rw [hq, hkb]
    rfl
  · rw [if_neg hl, if_neg hl]
    refine row_att x0 x1 x2 x3 st u k0 col 1 z0 y1 hst hu hk hc ha hz _ _ (fun k => ?_) (fun k => hvb k y1)
    unfold row
    rw [j b10 b11 1 k h10 h11]
    refine congrArg (· + _) (Finset.sum_congr rfl fun d _ => ?_)
    rw [hq, hkb]
    rfl

/-- a load of keys or values. -/
theorem ld_k (m : Memref sig .tc .vmem S8192x128 .bf16) (hm : m.IsWhole) (X : Vec Ideal S8192x128 .bf16) (o : Fin 2 → ℕ) (inb) (k0 : ℕ) (ho : o = ![k0, 0]) (hk : k0 + 128 ≤ 8192) (hs)
    (k : Fin 128) (d : Fin 128) :
    shapeCast S128x128 (View.readAt (Elt Ideal) m.view (Rect.unit (s := S8192x128) o S128x128.size inb).toLoadRect (hm.unread X)) hs (ix2 k d) = X (ix2 ⟨k0 + k.val, by omega⟩ d) := by
  subst ho
  pointwise
  refine (congrFun (hm.read_unread X) _).trans (congrArg X (funext fun a => ?_))
  match a with
  | ⟨0, _⟩ => exact Fin.ext (show k0 + 1 * k.val = k0 + k.val by omega)
  | ⟨1, _⟩ => exact Fin.ext (show 0 + 1 * d.val = d.val by omega)

/-- a load of the bias block, whichever way it was left there. -/
theorem ld_b (X : S2x128x640.Idx → EReal) (x3 : Vec Ideal S2x1x640 .f32) (hX : ∀ y, X y = biasVal x3 (y 0) (y 1) (y 2)) (h : Fin 2) (b col : ℕ) (o : Fin 3 → ℕ) (ho : o = ![h.val, b, col]) (inb) (hc : col + 128 ≤ 640) (hb : b + 64 ≤ 128)
    (r : Fin 64) (k : Fin 128) :
    X ((Rect.unit (s := S2x128x640) o S1x64x128.size inb).toLoadRect.idx (ix3 0 r k)) = biasVal x3 h ⟨b + r.val, by omega⟩ ⟨col + k.val, by omega⟩ := by
  subst ho
  rw [hX]
  refine biasVal_congr x3 (Fin.ext ?_) (Fin.ext ?_) (Fin.ext ?_)
  · show h.val + 1 * 0 = h.val
    omega
  · show b + 1 * r.val = b + r.val
    omega
  · show col + 1 * k.val = col + k.val
    omega

/-- a load of the bias block after it was written. -/
theorem ld_c {κ : Kind} {sp : Space} (v : View sig κ sp S2x128x640 .f32) (L : List (View.Piece (Elt Ideal) S2x128x640 .f32)) (x3 : Vec Ideal S2x1x640 .f32) (hL : ∀ y, View.canon L y = biasVal x3 (y 0) (y 1) (y 2)) (h : Fin 2) (b col : ℕ) (o : Fin 3 → ℕ) (ho : o = ![h.val, b, col]) (inb) (hc : col + 128 ≤ 640) (hb : b + 64 ≤ 128)
    (r : Fin 64) (k : Fin 128) :
    v.readCov L (Rect.unit (s := S2x128x640) o S1x64x128.size inb).toLoadRect (ix3 0 r k) = biasVal x3 h ⟨b + r.val, by omega⟩ ⟨col + k.val, by omega⟩ := by
  rw [View.readCov_eq_canon']
  exact ld_b _ x3 hL h b col o ho inb hc hb r k

/-- a load of the bias block carried from the block before. -/
theorem ld_x (m : Memref sig .tc .vmem S2x128x640 .f32) (hm : m.IsWhole) (X : Vec Ideal S2x128x640 .f32) (x3 : Vec Ideal S2x1x640 .f32) (hX : ∀ y, X y = biasVal x3 (y 0) (y 1) (y 2)) (h : Fin 2) (b col : ℕ) (o : Fin 3 → ℕ) (ho : o = ![h.val, b, col]) (inb) (hc : col + 128 ≤ 640) (hb : b + 64 ≤ 128)
    (r : Fin 64) (k : Fin 128) :
    View.readAt (Elt Ideal) m.view (Rect.unit (s := S2x128x640) o S1x64x128.size inb).toLoadRect (hm.unread X) (ix3 0 r k) = biasVal x3 h ⟨b + r.val, by omega⟩ ⟨col + k.val, by omega⟩ :=
  (congrFun (hm.read_unread X) _).trans (ld_b X x3 hX h b col o ho inb hc hb r k)

end N128

namespace N256

theorem pair_val (x0 : Vec Ideal S2048x128 .bf16) (x1 x2 : Vec Ideal S8192x128 .bf16) (x3 : Vec Ideal S2x1x640 .f32) (st u k0 col : ℕ)
    (hst : st < 4) (hu : u < 16) (hk : k0 + 256 ≤ 8192) (hc : col + 256 = 640)
    (ha : k0 + 512 = 2048 * st + 128 * u + col) (hz : col = 0 ∨ k0 = 0)
    (q : FVec Ideal S128x128 .bf16) (kb vb : FVec Ideal S256x128 .bf16) (b00 b01 b10 b11 : FVec Ideal S1x64x256 .f32)
    (hq : ∀ (r d : Fin 128), q (ix2 r d) = x0 (ix2 ⟨128 * u + r.val, by omega⟩ d))
    (hkb : ∀ (k : Fin 256) (d : Fin 128), kb (ix2 k d) = x1 (ix2 ⟨k0 + k.val, by omega⟩ d))
    (hvb : ∀ (k : Fin 256) (d : Fin 128), vb (ix2 k d) = x2 (ix2 ⟨k0 + k.val, by omega⟩ d))
    (h00 : ∀ (r : Fin 64) (k : Fin 256), b00 (ix3 0 r k) = biasVal x3 0 ⟨0 + r.val, by omega⟩ ⟨col + k.val, by omega⟩)
    (h01 : ∀ (r : Fin 64) (k : Fin 256), b01 (ix3 0 r k) = biasVal x3 0 ⟨64 + r.val, by omega⟩ ⟨col + k.val, by omega⟩)
    (h10 : ∀ (r : Fin 64) (k : Fin 256), b10 (ix3 0 r k) = biasVal x3 1 ⟨0 + r.val, by omega⟩ ⟨col + k.val, by omega⟩)
    (h11 : ∀ (r : Fin 64) (k : Fin 256), b11 (ix3 0 r k) = biasVal x3 1 ⟨64 + r.val, by omega⟩ ⟨col + k.val, by omega⟩)
    (z : S128x128.Idx) (y : S2048x128.Idx) (hy0 : (y 0).val = 128 * u + (z 0).val) (hy1 : (y 1).val = (z 1).val) :
    chain q kb vb b00 b01 b10 b11 z = blkVal x0 x1 x2 x3 st (y 0) (y 1) := by
  idx_vars z
  idx_vars y
  change y0.val = 128 * u + z0.val at hy0
  change y1.val = z1.val at hy1
  obtain rfl : y1 = z1 := Fin.ext hy1
  obtain ⟨yv, yl⟩ := y0
  change yv = 128 * u + z0.val at hy0
  subst hy0
  change chain q kb vb b00 b01 b10 b11 (ix2 z0 y1) = blkVal x0 x1 x2 x3 st ⟨128 * u + z0.val, _⟩ y1
  have j : ∀ (b0 b1 : FVec Ideal S1x64x256 .f32) (h : Fin 2) (k : Fin 256)
      (e0 : ∀ (r : Fin 64) (k : Fin 256), b0 (ix3 0 r k) = biasVal x3 h ⟨0 + r.val, by omega⟩ ⟨col + k.val, by omega⟩)
      (e1 : ∀ (r : Fin 64) (k : Fin 256), b1 (ix3 0 r k) = biasVal x3 h ⟨64 + r.val, by omega⟩ ⟨col + k.val, by omega⟩),
      join (α := EReal) b0 b1 (ix3 0 z0 k) = biasVal x3 h z0 ⟨col + k.val, by omega⟩ := by
    intro b0 b1 h k e0 e1
    by_cases hr : z0.val < 64
    · rw [join_lo _ _ _ _ hr, e0]
      exact congrArg (fun r => biasVal x3 h r _) (Fin.ext (show 0 + z0.val = z0.val by omega))
    · rw [join_hi _ _ _ _ hr, e1]
      exact congrArg (fun r => biasVal x3 h r _) (Fin.ext (show 64 + (z0.val - 64) = z0.val by omega))
  rw [chain_apply]
  unfold blkVal headOf
  by_cases hl : y1.val < 64
  · rw [if_pos hl, if_pos hl]
    refine row_att x0 x1 x2 x3 st u k0 col 0 z0 y1 hst hu hk hc ha hz _ _ (fun k => ?_) (fun k => hvb k y1)
    unfold row
    rw [j b00 b01 0 k h00 h01]
    refine congrArg (· + _) (Finset.sum_congr rfl fun d _ => ?_)
    rw [hq, hkb]
    rfl
  · rw [if_neg hl, if_neg hl]
    refine row_att x0 x1 x2 x3 st u k0 col 1 z0 y1 hst hu hk hc ha hz _ _ (fun k => ?_) (fun k => hvb k y1)
    unfold row
    rw [j b10 b11 1 k h10 h11]
    refine congrArg (· + _) (Finset.sum_congr rfl fun d _ => ?_)
    rw [hq, hkb]
    rfl

/-- a load of keys or values. -/
theorem ld_k (m : Memref sig .tc .vmem S8192x128 .bf16) (hm : m.IsWhole) (X : Vec Ideal S8192x128 .bf16) (o : Fin 2 → ℕ) (inb) (k0 : ℕ) (ho : o = ![k0, 0]) (hk : k0 + 256 ≤ 8192) (hs)
    (k : Fin 256) (d : Fin 128) :
    shapeCast S256x128 (View.readAt (Elt Ideal) m.view (Rect.unit (s := S8192x128) o S256x128.size inb).toLoadRect (hm.unread X)) hs (ix2 k d) = X (ix2 ⟨k0 + k.val, by omega⟩ d) := by
  subst ho
  pointwise
  refine (congrFun (hm.read_unread X) _).trans (congrArg X (funext fun a => ?_))
  match a with
  | ⟨0, _⟩ => exact Fin.ext (show k0 + 1 * k.val = k0 + k.val by omega)
  | ⟨1, _⟩ => exact Fin.ext (show 0 + 1 * d.val = d.val by omega)

/-- a load of the bias block, whichever way it was left there. -/
theorem ld_b (X : S2x128x640.Idx → EReal) (x3 : Vec Ideal S2x1x640 .f32) (hX : ∀ y, X y = biasVal x3 (y 0) (y 1) (y 2)) (h : Fin 2) (b col : ℕ) (o : Fin 3 → ℕ) (ho : o = ![h.val, b, col]) (inb) (hc : col + 256 ≤ 640) (hb : b + 64 ≤ 128)
    (r : Fin 64) (k : Fin 256) :
    X ((Rect.unit (s := S2x128x640) o S1x64x256.size inb).toLoadRect.idx (ix3 0 r k)) = biasVal x3 h ⟨b + r.val, by omega⟩ ⟨col + k.val, by omega⟩ := by
  subst ho
  rw [hX]
  refine biasVal_congr x3 (Fin.ext ?_) (Fin.ext ?_) (Fin.ext ?_)
  · show h.val + 1 * 0 = h.val
    omega
  · show b + 1 * r.val = b + r.val
    omega
  · show col + 1 * k.val = col + k.val
    omega

/-- a load of the bias block after it was written. -/
theorem ld_c {κ : Kind} {sp : Space} (v : View sig κ sp S2x128x640 .f32) (L : List (View.Piece (Elt Ideal) S2x128x640 .f32)) (x3 : Vec Ideal S2x1x640 .f32) (hL : ∀ y, View.canon L y = biasVal x3 (y 0) (y 1) (y 2)) (h : Fin 2) (b col : ℕ) (o : Fin 3 → ℕ) (ho : o = ![h.val, b, col]) (inb) (hc : col + 256 ≤ 640) (hb : b + 64 ≤ 128)
    (r : Fin 64) (k : Fin 256) :
    v.readCov L (Rect.unit (s := S2x128x640) o S1x64x256.size inb).toLoadRect (ix3 0 r k) = biasVal x3 h ⟨b + r.val, by omega⟩ ⟨col + k.val, by omega⟩ := by
  rw [View.readCov_eq_canon']
  exact ld_b _ x3 hL h b col o ho inb hc hb r k

/-- a load of the bias block carried from the block before. -/
theorem ld_x (m : Memref sig .tc .vmem S2x128x640 .f32) (hm : m.IsWhole) (X : Vec Ideal S2x128x640 .f32) (x3 : Vec Ideal S2x1x640 .f32) (hX : ∀ y, X y = biasVal x3 (y 0) (y 1) (y 2)) (h : Fin 2) (b col : ℕ) (o : Fin 3 → ℕ) (ho : o = ![h.val, b, col]) (inb) (hc : col + 256 ≤ 640) (hb : b + 64 ≤ 128)
    (r : Fin 64) (k : Fin 256) :
    View.readAt (Elt Ideal) m.view (Rect.unit (s := S2x128x640) o S1x64x256.size inb).toLoadRect (hm.unread X) (ix3 0 r k) = biasVal x3 h ⟨b + r.val, by omega⟩ ⟨col + k.val, by omega⟩ :=
  (congrFun (hm.read_unread X) _).trans (ld_b X x3 hX h b col o ho inb hc hb r k)

end N256

namespace N384

theorem pair_val (x0 : Vec Ideal S2048x128 .bf16) (x1 x2 : Vec Ideal S8192x128 .bf16) (x3 : Vec Ideal S2x1x640 .f32) (st u k0 col : ℕ)
    (hst : st < 4) (hu : u < 16) (hk : k0 + 384 ≤ 8192) (hc : col + 384 = 640)
    (ha : k0 + 512 = 2048 * st + 128 * u + col) (hz : col = 0 ∨ k0 = 0)
    (q : FVec Ideal S128x128 .bf16) (kb vb : FVec Ideal S384x128 .bf16) (b00 b01 b10 b11 : FVec Ideal S1x64x384 .f32)
    (hq : ∀ (r d : Fin 128), q (ix2 r d) = x0 (ix2 ⟨128 * u + r.val, by omega⟩ d))
    (hkb : ∀ (k : Fin 384) (d : Fin 128), kb (ix2 k d) = x1 (ix2 ⟨k0 + k.val, by omega⟩ d))
    (hvb : ∀ (k : Fin 384) (d : Fin 128), vb (ix2 k d) = x2 (ix2 ⟨k0 + k.val, by omega⟩ d))
    (h00 : ∀ (r : Fin 64) (k : Fin 384), b00 (ix3 0 r k) = biasVal x3 0 ⟨0 + r.val, by omega⟩ ⟨col + k.val, by omega⟩)
    (h01 : ∀ (r : Fin 64) (k : Fin 384), b01 (ix3 0 r k) = biasVal x3 0 ⟨64 + r.val, by omega⟩ ⟨col + k.val, by omega⟩)
    (h10 : ∀ (r : Fin 64) (k : Fin 384), b10 (ix3 0 r k) = biasVal x3 1 ⟨0 + r.val, by omega⟩ ⟨col + k.val, by omega⟩)
    (h11 : ∀ (r : Fin 64) (k : Fin 384), b11 (ix3 0 r k) = biasVal x3 1 ⟨64 + r.val, by omega⟩ ⟨col + k.val, by omega⟩)
    (z : S128x128.Idx) (y : S2048x128.Idx) (hy0 : (y 0).val = 128 * u + (z 0).val) (hy1 : (y 1).val = (z 1).val) :
    chain q kb vb b00 b01 b10 b11 z = blkVal x0 x1 x2 x3 st (y 0) (y 1) := by
  idx_vars z
  idx_vars y
  change y0.val = 128 * u + z0.val at hy0
  change y1.val = z1.val at hy1
  obtain rfl : y1 = z1 := Fin.ext hy1
  obtain ⟨yv, yl⟩ := y0
  change yv = 128 * u + z0.val at hy0
  subst hy0
  change chain q kb vb b00 b01 b10 b11 (ix2 z0 y1) = blkVal x0 x1 x2 x3 st ⟨128 * u + z0.val, _⟩ y1
  have j : ∀ (b0 b1 : FVec Ideal S1x64x384 .f32) (h : Fin 2) (k : Fin 384)
      (e0 : ∀ (r : Fin 64) (k : Fin 384), b0 (ix3 0 r k) = biasVal x3 h ⟨0 + r.val, by omega⟩ ⟨col + k.val, by omega⟩)
      (e1 : ∀ (r : Fin 64) (k : Fin 384), b1 (ix3 0 r k) = biasVal x3 h ⟨64 + r.val, by omega⟩ ⟨col + k.val, by omega⟩),
      join (α := EReal) b0 b1 (ix3 0 z0 k) = biasVal x3 h z0 ⟨col + k.val, by omega⟩ := by
    intro b0 b1 h k e0 e1
    by_cases hr : z0.val < 64
    · rw [join_lo _ _ _ _ hr, e0]
      exact congrArg (fun r => biasVal x3 h r _) (Fin.ext (show 0 + z0.val = z0.val by omega))
    · rw [join_hi _ _ _ _ hr, e1]
      exact congrArg (fun r => biasVal x3 h r _) (Fin.ext (show 64 + (z0.val - 64) = z0.val by omega))
  rw [chain_apply]
  unfold blkVal headOf
  by_cases hl : y1.val < 64
  · rw [if_pos hl, if_pos hl]
    refine row_att x0 x1 x2 x3 st u k0 col 0 z0 y1 hst hu hk hc ha hz _ _ (fun k => ?_) (fun k => hvb k y1)
    unfold row
    rw [j b00 b01 0 k h00 h01]
    refine congrArg (· + _) (Finset.sum_congr rfl fun d _ => ?_)
    rw [hq, hkb]
    rfl
  · rw [if_neg hl, if_neg hl]
    refine row_att x0 x1 x2 x3 st u k0 col 1 z0 y1 hst hu hk hc ha hz _ _ (fun k => ?_) (fun k => hvb k y1)
    unfold row
    rw [j b10 b11 1 k h10 h11]
    refine congrArg (· + _) (Finset.sum_congr rfl fun d _ => ?_)
    rw [hq, hkb]
    rfl

/-- a load of keys or values. -/
theorem ld_k (m : Memref sig .tc .vmem S8192x128 .bf16) (hm : m.IsWhole) (X : Vec Ideal S8192x128 .bf16) (o : Fin 2 → ℕ) (inb) (k0 : ℕ) (ho : o = ![k0, 0]) (hk : k0 + 384 ≤ 8192) (hs)
    (k : Fin 384) (d : Fin 128) :
    shapeCast S384x128 (View.readAt (Elt Ideal) m.view (Rect.unit (s := S8192x128) o S384x128.size inb).toLoadRect (hm.unread X)) hs (ix2 k d) = X (ix2 ⟨k0 + k.val, by omega⟩ d) := by
  subst ho
  pointwise
  refine (congrFun (hm.read_unread X) _).trans (congrArg X (funext fun a => ?_))
  match a with
  | ⟨0, _⟩ => exact Fin.ext (show k0 + 1 * k.val = k0 + k.val by omega)
  | ⟨1, _⟩ => exact Fin.ext (show 0 + 1 * d.val = d.val by omega)

/-- a load of the bias block, whichever way it was left there. -/
theorem ld_b (X : S2x128x640.Idx → EReal) (x3 : Vec Ideal S2x1x640 .f32) (hX : ∀ y, X y = biasVal x3 (y 0) (y 1) (y 2)) (h : Fin 2) (b col : ℕ) (o : Fin 3 → ℕ) (ho : o = ![h.val, b, col]) (inb) (hc : col + 384 ≤ 640) (hb : b + 64 ≤ 128)
    (r : Fin 64) (k : Fin 384) :
    X ((Rect.unit (s := S2x128x640) o S1x64x384.size inb).toLoadRect.idx (ix3 0 r k)) = biasVal x3 h ⟨b + r.val, by omega⟩ ⟨col + k.val, by omega⟩ := by
  subst ho
  rw [hX]
  refine biasVal_congr x3 (Fin.ext ?_) (Fin.ext ?_) (Fin.ext ?_)
  · show h.val + 1 * 0 = h.val
    omega
  · show b + 1 * r.val = b + r.val
    omega
  · show col + 1 * k.val = col + k.val
    omega

/-- a load of the bias block after it was written. -/
theorem ld_c {κ : Kind} {sp : Space} (v : View sig κ sp S2x128x640 .f32) (L : List (View.Piece (Elt Ideal) S2x128x640 .f32)) (x3 : Vec Ideal S2x1x640 .f32) (hL : ∀ y, View.canon L y = biasVal x3 (y 0) (y 1) (y 2)) (h : Fin 2) (b col : ℕ) (o : Fin 3 → ℕ) (ho : o = ![h.val, b, col]) (inb) (hc : col + 384 ≤ 640) (hb : b + 64 ≤ 128)
    (r : Fin 64) (k : Fin 384) :
    v.readCov L (Rect.unit (s := S2x128x640) o S1x64x384.size inb).toLoadRect (ix3 0 r k) = biasVal x3 h ⟨b + r.val, by omega⟩ ⟨col + k.val, by omega⟩ := by
  rw [View.readCov_eq_canon']
  exact ld_b _ x3 hL h b col o ho inb hc hb r k

/-- a load of the bias block carried from the block before. -/
theorem ld_x (m : Memref sig .tc .vmem S2x128x640 .f32) (hm : m.IsWhole) (X : Vec Ideal S2x128x640 .f32) (x3 : Vec Ideal S2x1x640 .f32) (hX : ∀ y, X y = biasVal x3 (y 0) (y 1) (y 2)) (h : Fin 2) (b col : ℕ) (o : Fin 3 → ℕ) (ho : o = ![h.val, b, col]) (inb) (hc : col + 384 ≤ 640) (hb : b + 64 ≤ 128)
    (r : Fin 64) (k : Fin 384) :
    View.readAt (Elt Ideal) m.view (Rect.unit (s := S2x128x640) o S1x64x384.size inb).toLoadRect (hm.unread X) (ix3 0 r k) = biasVal x3 h ⟨b + r.val, by omega⟩ ⟨col + k.val, by omega⟩ :=
  (congrFun (hm.read_unread X) _).trans (ld_b X x3 hX h b col o ho inb hc hb r k)

end N384

namespace N512

theorem pair_val (x0 : Vec Ideal S2048x128 .bf16) (x1 x2 : Vec Ideal S8192x128 .bf16) (x3 : Vec Ideal S2x1x640 .f32) (st u k0 col : ℕ)
    (hst : st < 4) (hu : u < 16) (hk : k0 + 512 ≤ 8192) (hc : col + 512 = 640)
    (ha : k0 + 512 = 2048 * st + 128 * u + col) (hz : col = 0 ∨ k0 = 0)
    (q : FVec Ideal S128x128 .bf16) (kb vb : FVec Ideal S512x128 .bf16) (b00 b01 b10 b11 : FVec Ideal S1x64x512 .f32)
    (hq : ∀ (r d : Fin 128), q (ix2 r d) = x0 (ix2 ⟨128 * u + r.val, by omega⟩ d))
    (hkb : ∀ (k : Fin 512) (d : Fin 128), kb (ix2 k d) = x1 (ix2 ⟨k0 + k.val, by omega⟩ d))
    (hvb : ∀ (k : Fin 512) (d : Fin 128), vb (ix2 k d) = x2 (ix2 ⟨k0 + k.val, by omega⟩ d))
    (h00 : ∀ (r : Fin 64) (k : Fin 512), b00 (ix3 0 r k) = biasVal x3 0 ⟨0 + r.val, by omega⟩ ⟨col + k.val, by omega⟩)
    (h01 : ∀ (r : Fin 64) (k : Fin 512), b01 (ix3 0 r k) = biasVal x3 0 ⟨64 + r.val, by omega⟩ ⟨col + k.val, by omega⟩)
    (h10 : ∀ (r : Fin 64) (k : Fin 512), b10 (ix3 0 r k) = biasVal x3 1 ⟨0 + r.val, by omega⟩ ⟨col + k.val, by omega⟩)
    (h11 : ∀ (r : Fin 64) (k : Fin 512), b11 (ix3 0 r k) = biasVal x3 1 ⟨64 + r.val, by omega⟩ ⟨col + k.val, by omega⟩)
    (z : S128x128.Idx) (y : S2048x128.Idx) (hy0 : (y 0).val = 128 * u + (z 0).val) (hy1 : (y 1).val = (z 1).val) :
    chain q kb vb b00 b01 b10 b11 z = blkVal x0 x1 x2 x3 st (y 0) (y 1) := by
  idx_vars z
  idx_vars y
  change y0.val = 128 * u + z0.val at hy0
  change y1.val = z1.val at hy1
  obtain rfl : y1 = z1 := Fin.ext hy1
  obtain ⟨yv, yl⟩ := y0
  change yv = 128 * u + z0.val at hy0
  subst hy0
  change chain q kb vb b00 b01 b10 b11 (ix2 z0 y1) = blkVal x0 x1 x2 x3 st ⟨128 * u + z0.val, _⟩ y1
  have j : ∀ (b0 b1 : FVec Ideal S1x64x512 .f32) (h : Fin 2) (k : Fin 512)
      (e0 : ∀ (r : Fin 64) (k : Fin 512), b0 (ix3 0 r k) = biasVal x3 h ⟨0 + r.val, by omega⟩ ⟨col + k.val, by omega⟩)
      (e1 : ∀ (r : Fin 64) (k : Fin 512), b1 (ix3 0 r k) = biasVal x3 h ⟨64 + r.val, by omega⟩ ⟨col + k.val, by omega⟩),
      join (α := EReal) b0 b1 (ix3 0 z0 k) = biasVal x3 h z0 ⟨col + k.val, by omega⟩ := by
    intro b0 b1 h k e0 e1
    by_cases hr : z0.val < 64
    · rw [join_lo _ _ _ _ hr, e0]
      exact congrArg (fun r => biasVal x3 h r _) (Fin.ext (show 0 + z0.val = z0.val by omega))
    · rw [join_hi _ _ _ _ hr, e1]
      exact congrArg (fun r => biasVal x3 h r _) (Fin.ext (show 64 + (z0.val - 64) = z0.val by omega))
  rw [chain_apply]
  unfold blkVal headOf
  by_cases hl : y1.val < 64
  · rw [if_pos hl, if_pos hl]
    refine row_att x0 x1 x2 x3 st u k0 col 0 z0 y1 hst hu hk hc ha hz _ _ (fun k => ?_) (fun k => hvb k y1)
    unfold row
    rw [j b00 b01 0 k h00 h01]
    refine congrArg (· + _) (Finset.sum_congr rfl fun d _ => ?_)
    rw [hq, hkb]
    rfl
  · rw [if_neg hl, if_neg hl]
    refine row_att x0 x1 x2 x3 st u k0 col 1 z0 y1 hst hu hk hc ha hz _ _ (fun k => ?_) (fun k => hvb k y1)
    unfold row
    rw [j b10 b11 1 k h10 h11]
    refine congrArg (· + _) (Finset.sum_congr rfl fun d _ => ?_)
    rw [hq, hkb]
    rfl

/-- a load of keys or values. -/
theorem ld_k (m : Memref sig .tc .vmem S8192x128 .bf16) (hm : m.IsWhole) (X : Vec Ideal S8192x128 .bf16) (o : Fin 2 → ℕ) (inb) (k0 : ℕ) (ho : o = ![k0, 0]) (hk : k0 + 512 ≤ 8192) (hs)
    (k : Fin 512) (d : Fin 128) :
    shapeCast S512x128 (View.readAt (Elt Ideal) m.view (Rect.unit (s := S8192x128) o S512x128.size inb).toLoadRect (hm.unread X)) hs (ix2 k d) = X (ix2 ⟨k0 + k.val, by omega⟩ d) := by
  subst ho
  pointwise
  refine (congrFun (hm.read_unread X) _).trans (congrArg X (funext fun a => ?_))
  match a with
  | ⟨0, _⟩ => exact Fin.ext (show k0 + 1 * k.val = k0 + k.val by omega)
  | ⟨1, _⟩ => exact Fin.ext (show 0 + 1 * d.val = d.val by omega)

/-- a load of the bias block, whichever way it was left there. -/
theorem ld_b (X : S2x128x640.Idx → EReal) (x3 : Vec Ideal S2x1x640 .f32) (hX : ∀ y, X y = biasVal x3 (y 0) (y 1) (y 2)) (h : Fin 2) (b col : ℕ) (o : Fin 3 → ℕ) (ho : o = ![h.val, b, col]) (inb) (hc : col + 512 ≤ 640) (hb : b + 64 ≤ 128)
    (r : Fin 64) (k : Fin 512) :
    X ((Rect.unit (s := S2x128x640) o S1x64x512.size inb).toLoadRect.idx (ix3 0 r k)) = biasVal x3 h ⟨b + r.val, by omega⟩ ⟨col + k.val, by omega⟩ := by
  subst ho
  rw [hX]
  refine biasVal_congr x3 (Fin.ext ?_) (Fin.ext ?_) (Fin.ext ?_)
  · show h.val + 1 * 0 = h.val
    omega
  · show b + 1 * r.val = b + r.val
    omega
  · show col + 1 * k.val = col + k.val
    omega

/-- a load of the bias block after it was written. -/
theorem ld_c {κ : Kind} {sp : Space} (v : View sig κ sp S2x128x640 .f32) (L : List (View.Piece (Elt Ideal) S2x128x640 .f32)) (x3 : Vec Ideal S2x1x640 .f32) (hL : ∀ y, View.canon L y = biasVal x3 (y 0) (y 1) (y 2)) (h : Fin 2) (b col : ℕ) (o : Fin 3 → ℕ) (ho : o = ![h.val, b, col]) (inb) (hc : col + 512 ≤ 640) (hb : b + 64 ≤ 128)
    (r : Fin 64) (k : Fin 512) :
    v.readCov L (Rect.unit (s := S2x128x640) o S1x64x512.size inb).toLoadRect (ix3 0 r k) = biasVal x3 h ⟨b + r.val, by omega⟩ ⟨col + k.val, by omega⟩ := by
  rw [View.readCov_eq_canon']
  exact ld_b _ x3 hL h b col o ho inb hc hb r k

/-- a load of the bias block carried from the block before. -/
theorem ld_x (m : Memref sig .tc .vmem S2x128x640 .f32) (hm : m.IsWhole) (X : Vec Ideal S2x128x640 .f32) (x3 : Vec Ideal S2x1x640 .f32) (hX : ∀ y, X y = biasVal x3 (y 0) (y 1) (y 2)) (h : Fin 2) (b col : ℕ) (o : Fin 3 → ℕ) (ho : o = ![h.val, b, col]) (inb) (hc : col + 512 ≤ 640) (hb : b + 64 ≤ 128)
    (r : Fin 64) (k : Fin 512) :
    View.readAt (Elt Ideal) m.view (Rect.unit (s := S2x128x640) o S1x64x512.size inb).toLoadRect (hm.unread X) (ix3 0 r k) = biasVal x3 h ⟨b + r.val, by omega⟩ ⟨col + k.val, by omega⟩ :=
  (congrFun (hm.read_unread X) _).trans (ld_b X x3 hX h b col o ho inb hc hb r k)

end N512

/-- a load of queries. -/
theorem ld_q (m : Memref sig .tc .vmem S2048x128 .bf16) (hm : m.IsWhole) (X : Vec Ideal S2048x128 .bf16) (o : ℕ) (ho : o + 128 ≤ 2048) (inb) (hs)
    (r d : Fin 128) :
    shapeCast S128x128 (View.readAt (Elt Ideal) m.view (Rect.unit (s := S2048x128) ![o, 0] S128x128.size inb).toLoadRect (hm.unread X)) hs (ix2 r d) = X (ix2 ⟨o + r.val, by omega⟩ d) := by
  pointwise
  refine (congrFun (hm.read_unread X) _).trans (congrArg X (funext fun a => ?_))
  match a with
  | ⟨0, _⟩ => exact Fin.ext (show o + 1 * r.val = o + r.val by omega)
  | ⟨1, _⟩ => exact Fin.ext (show 0 + 1 * d.val = d.val by omega)

end Cert.Proof
-- ==== Proof.Attn.OutA.lean ====
module
public import proofs.«01_k».proof.Proof.Attn.PairsA1
public import proofs.«01_k».proof.Proof.Attn.PairsA2
public import proofs.«01_k».proof.Proof.Attn.Block

/-! The output of a first block of a head pair. -/

@[expose] public section
set_option maxRecDepth 16384
noncomputable section
namespace Cert.Proof
open Cert.KernelIdeal Cert.KernelIdeal.Gen Idealize.ShloMosaic Idealize.ShloMosaic.TcCoe Idealize.SL.Sem

variable (c : Dev nD) (i : grid0.Coords)
  (arg2 : Memref sig .tc .vmem S2048x128 .bf16) (harg2 : arg2.IsWhole)
  (arg3 : Memref sig .tc .vmem S8192x128 .bf16) (harg3 : arg3.IsWhole)
  (arg4 : Memref sig .tc .vmem S8192x128 .bf16) (harg4 : arg4.IsWhole)
  (arg5 : Memref sig .tc .vmem S2x1x640 .f32) (harg5 : arg5.IsWhole)
  (arg7 : Memref sig .tc .vmem S2x128x640 .f32) (harg7 : arg7.IsWhole)
  (arg8 : Memref sig .tc .vmem S32x128x640 .f32) (arg9 : Memref sig .tc .vmem S32x128x640 .bf16)
  (hc0 : cond0_0 i) (hc1 : cond0_1 i) (hc2 : ¬cond0_2 i)
  (x0 : Vec Ideal S2048x128 .bf16) (x1 x2 : Vec Ideal S8192x128 .bf16) (x3 : Vec Ideal S2x1x640 .f32)
  (xs0 : Vec Ideal S2x128x640 .f32)

theorem valA_0 (z : S128x128.Idx) (y : S2048x128.Idx) (hy0 : (y 0).val = 128 * 0 + (z 0).val) (hy1 : (y 1).val = (z 1).val) :
    (kernelRun0_A.sl.v307 (F := Ideal) c arg2 harg2 arg3 harg3 arg4 harg4 arg5 harg5 arg7 arg8 arg9 x0 x1 x2 x3) z = blkVal x0 x1 x2 x3 0 (y 0) (y 1) := by
  refine (congrFun (pieceA_0 ..) z).trans (N128.pair_val x0 x1 x2 x3 0 0 0 512 (by omega) (by omega) (by omega) (by omega) (by omega) (by omega) _ _ _ _ _ _ _
    (fun r d => ld_q arg2 harg2 x0 (128 * 0) (by omega) _ _ r d)
    (fun k d => N128.ld_k arg3 harg3 x1 _ _ 0 rfl (by omega) _ k d)
    (fun k d => N128.ld_k arg4 harg4 x2 _ _ 0 rfl (by omega) _ k d)
    ?_ ?_ ?_ ?_ z y hy0 hy1)
  · exact (fun r k => N128.ld_c arg7.view _ x3 (scratch_eq c arg5 harg5 x3) 0 0 512 _ rfl _ (by omega) (by omega) r k)
  · exact (fun r k => N128.ld_c arg7.view _ x3 (scratch_eq c arg5 harg5 x3) 0 64 512 _ rfl _ (by omega) (by omega) r k)
  · exact (fun r k => N128.ld_c arg7.view _ x3 (scratch_eq c arg5 harg5 x3) 1 0 512 _ rfl _ (by omega) (by omega) r k)
  · exact (fun r k => N128.ld_c arg7.view _ x3 (scratch_eq c arg5 harg5 x3) 1 64 512 _ rfl _ (by omega) (by omega) r k)

theorem valA_1 (z : S128x128.Idx) (y : S2048x128.Idx) (hy0 : (y 0).val = 128 * 1 + (z 0).val) (hy1 : (y 1).val = (z 1).val) :
    (kernelRun0_A.sl.v420 (F := Ideal) c arg2 harg2 arg3 harg3 arg4 harg4 arg5 harg5 arg7 arg8 arg9 x0 x1 x2 x3) z = blkVal x0 x1 x2 x3 0 (y 0) (y 1) := by
  refine (congrFun (pieceA_1 ..) z).trans (N256.pair_val x0 x1 x2 x3 0 1 0 384 (by omega) (by omega) (by omega) (by omega) (by omega) (by omega) _ _ _ _ _ _ _
    (fun r d => ld_q arg2 harg2 x0 (128 * 1) (by omega) _ _ r d)
    (fun k d => N256.ld_k arg3 harg3 x1 _ _ 0 rfl (by omega) _ k d)
    (fun k d => N256.ld_k arg4 harg4 x2 _ _ 0 rfl (by omega) _ k d)
    ?_ ?_ ?_ ?_ z y hy0 hy1)
  · exact (fun r k => N256.ld_c arg7.view _ x3 (scratch_eq c arg5 harg5 x3) 0 0 384 _ rfl _ (by omega) (by omega) r k)
  · exact (fun r k => N256.ld_c arg7.view _ x3 (scratch_eq c arg5 harg5 x3) 0 64 384 _ rfl _ (by omega) (by omega) r k)
  · exact (fun r k => N256.ld_c arg7.view _ x3 (scratch_eq c arg5 harg5 x3) 1 0 384 _ rfl _ (by omega) (by omega) r k)
  · exact (fun r k => N256.ld_c arg7.view _ x3 (scratch_eq c arg5 harg5 x3) 1 64 384 _ rfl _ (by omega) (by omega) r k)

theorem valA_2 (z : S128x128.Idx) (y : S2048x128.Idx) (hy0 : (y 0).val = 128 * 2 + (z 0).val) (hy1 : (y 1).val = (z 1).val) :
    (kernelRun0_A.sl.v533 (F := Ideal) c arg2 harg2 arg3 harg3 arg4 harg4 arg5 harg5 arg7 arg8 arg9 x0 x1 x2 x3) z = blkVal x0 x1 x2 x3 0 (y 0) (y 1) := by
  refine (congrFun (pieceA_2 ..) z).trans (N384.pair_val x0 x1 x2 x3 0 2 0 256 (by omega) (by omega) (by omega) (by omega) (by omega) (by omega) _ _ _ _ _ _ _
    (fun r d => ld_q arg2 harg2 x0 (128 * 2) (by omega) _ _ r d)
    (fun k d => N384.ld_k arg3 harg3 x1 _ _ 0 rfl (by omega) _ k d)
    (fun k d => N384.ld_k arg4 harg4 x2 _ _ 0 rfl (by omega) _ k d)
    ?_ ?_ ?_ ?_ z y hy0 hy1)
  · exact (fun r k => N384.ld_c arg7.view _ x3 (scratch_eq c arg5 harg5 x3) 0 0 256 _ rfl _ (by omega) (by omega) r k)
  · exact (fun r k => N384.ld_c arg7.view _ x3 (scratch_eq c arg5 harg5 x3) 0 64 256 _ rfl _ (by omega) (by omega) r k)
  · exact (fun r k => N384.ld_c arg7.view _ x3 (scratch_eq c arg5 harg5 x3) 1 0 256 _ rfl _ (by omega) (by omega) r k)
  · exact (fun r k => N384.ld_c arg7.view _ x3 (scratch_eq c arg5 harg5 x3) 1 64 256 _ rfl _ (by omega) (by omega) r k)

theorem valA_3 (z : S128x128.Idx) (y : S2048x128.Idx) (hy0 : (y 0).val = 128 * 3 + (z 0).val) (hy1 : (y 1).val = (z 1).val) :
    (kernelRun0_A.sl.v646 (F := Ideal) c arg2 harg2 arg3 harg3 arg4 harg4 arg5 harg5 arg7 arg8 arg9 x0 x1 x2 x3) z = blkVal x0 x1 x2 x3 0 (y 0) (y 1) := by
  refine (congrFun (pieceA_3 ..) z).trans (N512.pair_val x0 x1 x2 x3 0 3 0 128 (by omega) (by omega) (by omega) (by omega) (by omega) (by omega) _ _ _ _ _ _ _
    (fun r d => ld_q arg2 harg2 x0 (128 * 3) (by omega) _ _ r d)
    (fun k d => N512.ld_k arg3 harg3 x1 _ _ 0 rfl (by omega) _ k d)
    (fun k d => N512.ld_k arg4 harg4 x2 _ _ 0 rfl (by omega) _ k d)
    ?_ ?_ ?_ ?_ z y hy0 hy1)
  · exact (fun r k => N512.ld_c arg7.view _ x3 (scratch_eq c arg5 harg5 x3) 0 0 128 _ rfl _ (by omega) (by omega) r k)
  · exact (fun r k => N512.ld_c arg7.view _ x3 (scratch_eq c arg5 harg5 x3) 0 64 128 _ rfl _ (by omega) (by omega) r k)
  · exact (fun r k => N512.ld_c arg7.view _ x3 (scratch_eq c arg5 harg5 x3) 1 0 128 _ rfl _ (by omega) (by omega) r k)
  · exact (fun r k => N512.ld_c arg7.view _ x3 (scratch_eq c arg5 harg5 x3) 1 64 128 _ rfl _ (by omega) (by omega) r k)

theorem valA_4 (z : S128x128.Idx) (y : S2048x128.Idx) (hy0 : (y 0).val = 128 * 4 + (z 0).val) (hy1 : (y 1).val = (z 1).val) :
    (kernelRun0_A.sl.v759 (F := Ideal) c arg2 harg2 arg3 harg3 arg4 harg4 arg5 harg5 arg7 arg8 arg9 x0 x1 x2 x3) z = blkVal x0 x1 x2 x3 0 (y 0) (y 1) := by
  refine (congrFun (pieceA_4 ..) z).trans (N640.pair_val x0 x1 x2 x3 0 4 0 0 (by omega) (by omega) (by omega) (by omega) (by omega) (by omega) _ _ _ _ _ _ _
    (fun r d => ld_q arg2 harg2 x0 (128 * 4) (by omega) _ _ r d)
    (fun k d => N640.ld_k arg3 harg3 x1 _ _ 0 rfl (by omega) _ k d)
    (fun k d => N640.ld_k arg4 harg4 x2 _ _ 0 rfl (by omega) _ k d)
    ?_ ?_ ?_ ?_ z y hy0 hy1)
  · exact (fun r k => N640.ld_c arg7.view _ x3 (scratch_eq c arg5 harg5 x3) 0 0 0 _ rfl _ (by omega) (by omega) r k)
  · exact (fun r k => N640.ld_c arg7.view _ x3 (scratch_eq c arg5 harg5 x3) 0 64 0 _ rfl _ (by omega) (by omega) r k)
  · exact (fun r k => N640.ld_c arg7.view _ x3 (scratch_eq c arg5 harg5 x3) 1 0 0 _ rfl _ (by omega) (by omega) r k)
  · exact (fun r k => N640.ld_c arg7.view _ x3 (scratch_eq c arg5 harg5 x3) 1 64 0 _ rfl _ (by omega) (by omega) r k)

theorem valA_5 (z : S128x128.Idx) (y : S2048x128.Idx) (hy0 : (y 0).val = 128 * 5 + (z 0).val) (hy1 : (y 1).val = (z 1).val) :
    (kernelRun0_A.sl.v872 (F := Ideal) c arg2 harg2 arg3 harg3 arg4 harg4 arg5 harg5 arg7 arg8 arg9 x0 x1 x2 x3) z = blkVal x0 x1 x2 x3 0 (y 0) (y 1) := by
  refine (congrFun (pieceA_5 ..) z).trans (N640.pair_val x0 x1 x2 x3 0 5 128 0 (by omega) (by omega) (by omega) (by omega) (by omega) (by omega) _ _ _ _ _ _ _
    (fun r d => ld_q arg2 harg2 x0 (128 * 5) (by omega) _ _ r d)
    (fun k d => N640.ld_k arg3 harg3 x1 _ _ 128 rfl (by omega) _ k d)
    (fun k d => N640.ld_k arg4 harg4 x2 _ _ 128 rfl (by omega) _ k d)
    ?_ ?_ ?_ ?_ z y hy0 hy1)
  · exact (fun r k => N640.ld_c arg7.view _ x3 (scratch_eq c arg5 harg5 x3) 0 0 0 _ rfl _ (by omega) (by omega) r k)
  · exact (fun r k => N640.ld_c arg7.view _ x3 (scratch_eq c arg5 harg5 x3) 0 64 0 _ rfl _ (by omega) (by omega) r k)
  · exact (fun r k => N640.ld_c arg7.view _ x3 (scratch_eq c arg5 harg5 x3) 1 0 0 _ rfl _ (by omega) (by omega) r k)
  · exact (fun r k => N640.ld_c arg7.view _ x3 (scratch_eq c arg5 harg5 x3) 1 64 0 _ rfl _ (by omega) (by omega) r k)

theorem valA_6 (z : S128x128.Idx) (y : S2048x128.Idx) (hy0 : (y 0).val = 128 * 6 + (z 0).val) (hy1 : (y 1).val = (z 1).val) :
    (kernelRun0_A.sl.v985 (F := Ideal) c arg2 harg2 arg3 harg3 arg4 harg4 arg5 harg5 arg7 arg8 arg9 x0 x1 x2 x3) z = blkVal x0 x1 x2 x3 0 (y 0) (y 1) := by
  refine (congrFun (pieceA_6 ..) z).trans (N640.pair_val x0 x1 x2 x3 0 6 256 0 (by omega) (by omega) (by omega) (by omega) (by omega) (by omega) _ _ _ _ _ _ _
    (fun r d => ld_q arg2 harg2 x0 (128 * 6) (by omega) _ _ r d)
    (fun k d => N640.ld_k arg3 harg3 x1 _ _ 256 rfl (by omega) _ k d)
    (fun k d => N640.ld_k arg4 harg4 x2 _ _ 256 rfl (by omega) _ k d)
    ?_ ?_ ?_ ?_ z y hy0 hy1)
  · exact (fun r k => N640.ld_c arg7.view _ x3 (scratch_eq c arg5 harg5 x3) 0 0 0 _ rfl _ (by omega) (by omega) r k)
  · exact (fun r k => N640.ld_c arg7.view _ x3 (scratch_eq c arg5 harg5 x3) 0 64 0 _ rfl _ (by omega) (by omega) r k)
  · exact (fun r k => N640.ld_c arg7.view _ x3 (scratch_eq c arg5 harg5 x3) 1 0 0 _ rfl _ (by omega) (by omega) r k)
  · exact (fun r k => N640.ld_c arg7.view _ x3 (scratch_eq c arg5 harg5 x3) 1 64 0 _ rfl _ (by omega) (by omega) r k)

theorem valA_7 (z : S128x128.Idx) (y : S2048x128.Idx) (hy0 : (y 0).val = 128 * 7 + (z 0).val) (hy1 : (y 1).val = (z 1).val) :
    (kernelRun0_A.sl.v1098 (F := Ideal) c arg2 harg2 arg3 harg3 arg4 harg4 arg5 harg5 arg7 arg8 arg9 x0 x1 x2 x3) z = blkVal x0 x1 x2 x3 0 (y 0) (y 1) := by
  refine (congrFun (pieceA_7 ..) z).trans (N640.pair_val x0 x1 x2 x3 0 7 384 0 (by omega) (by omega) (by omega) (by omega) (by omega) (by omega) _ _ _ _ _ _ _
    (fun r d => ld_q arg2 harg2 x0 (128 * 7) (by omega) _ _ r d)
    (fun k d => N640.ld_k arg3 harg3 x1 _ _ 384 rfl (by omega) _ k d)
    (fun k d => N640.ld_k arg4 harg4 x2 _ _ 384 rfl (by omega) _ k d)
    ?_ ?_ ?_ ?_ z y hy0 hy1)
  · exact (fun r k => N640.ld_c arg7.view _ x3 (scratch_eq c arg5 harg5 x3) 0 0 0 _ rfl _ (by omega) (by omega) r k)
  · exact (fun r k => N640.ld_c arg7.view _ x3 (scratch_eq c arg5 harg5 x3) 0 64 0 _ rfl _ (by omega) (by omega) r k)
  · exact (fun r k => N640.ld_c arg7.view _ x3 (scratch_eq c arg5 harg5 x3) 1 0 0 _ rfl _ (by omega) (by omega) r k)
  · exact (fun r k => N640.ld_c arg7.view _ x3 (scratch_eq c arg5 harg5 x3) 1 64 0 _ rfl _ (by omega) (by omega) r k)

theorem valA_8 (z : S128x128.Idx) (y : S2048x128.Idx) (hy0 : (y 0).val = 128 * 8 + (z 0).val) (hy1 : (y 1).val = (z 1).val) :
    (kernelRun0_A.sl.v1211 (F := Ideal) c arg2 harg2 arg3 harg3 arg4 harg4 arg5 harg5 arg7 arg8 arg9 x0 x1 x2 x3) z = blkVal x0 x1 x2 x3 0 (y 0) (y 1) := by
  refine (congrFun (pieceA_8 ..) z).trans (N640.pair_val x0 x1 x2 x3 0 8 512 0 (by omega) (by omega) (by omega) (by omega) (by omega) (by omega) _ _ _ _ _ _ _
    (fun r d => ld_q arg2 harg2 x0 (128 * 8) (by omega) _ _ r d)
    (fun k d => N640.ld_k arg3 harg3 x1 _ _ 512 rfl (by omega) _ k d)
    (fun k d => N640.ld_k arg4 harg4 x2 _ _ 512 rfl (by omega) _ k d)
    ?_ ?_ ?_ ?_ z y hy0 hy1)
  · exact (fun r k => N640.ld_c arg7.view _ x3 (scratch_eq c arg5 harg5 x3) 0 0 0 _ rfl _ (by omega) (by omega) r k)
  · exact (fun r k => N640.ld_c arg7.view _ x3 (scratch_eq c arg5 harg5 x3) 0 64 0 _ rfl _ (by omega) (by omega) r k)
  · exact (fun r k => N640.ld_c arg7.view _ x3 (scratch_eq c arg5 harg5 x3) 1 0 0 _ rfl _ (by omega) (by omega) r k)
  · exact (fun r k => N640.ld_c arg7.view _ x3 (scratch_eq c arg5 harg5 x3) 1 64 0 _ rfl _ (by omega) (by omega) r k)

theorem valA_9 (z : S128x128.Idx) (y : S2048x128.Idx) (hy0 : (y 0).val = 128 * 9 + (z 0).val) (hy1 : (y 1).val = (z 1).val) :
    (kernelRun0_A.sl.v1324 (F := Ideal) c arg2 harg2 arg3 harg3 arg4 harg4 arg5 harg5 arg7 arg8 arg9 x0 x1 x2 x3) z = blkVal x0 x1 x2 x3 0 (y 0) (y 1) := by
  refine (congrFun (pieceA_9 ..) z).trans (N640.pair_val x0 x1 x2 x3 0 9 640 0 (by omega) (by omega) (by omega) (by omega) (by omega) (by omega) _ _ _ _ _ _ _
    (fun r d => ld_q arg2 harg2 x0 (128 * 9) (by omega) _ _ r d)
    (fun k d => N640.ld_k arg3 harg3 x1 _ _ 640 rfl (by omega) _ k d)
    (fun k d => N640.ld_k arg4 harg4 x2 _ _ 640 rfl (by omega) _ k d)
    ?_ ?_ ?_ ?_ z y hy0 hy1)
  · exact (fun r k => N640.ld_c arg7.view _ x3 (scratch_eq c arg5 harg5 x3) 0 0 0 _ rfl _ (by omega) (by omega) r k)
  · exact (fun r k => N640.ld_c arg7.view _ x3 (scratch_eq c arg5 harg5 x3) 0 64 0 _ rfl _ (by omega) (by omega) r k)
  · exact (fun r k => N640.ld_c arg7.view _ x3 (scratch_eq c arg5 harg5 x3) 1 0 0 _ rfl _ (by omega) (by omega) r k)
  · exact (fun r k => N640.ld_c arg7.view _ x3 (scratch_eq c arg5 harg5 x3) 1 64 0 _ rfl _ (by omega) (by omega) r k)

theorem valA_10 (z : S128x128.Idx) (y : S2048x128.Idx) (hy0 : (y 0).val = 128 * 10 + (z 0).val) (hy1 : (y 1).val = (z 1).val) :
    (kernelRun0_A.sl.v1437 (F := Ideal) c arg2 harg2 arg3 harg3 arg4 harg4 arg5 harg5 arg7 arg8 arg9 x0 x1 x2 x3) z = blkVal x0 x1 x2 x3 0 (y 0) (y 1) := by
  refine (congrFun (pieceA_10 ..) z).trans (N640.pair_val x0 x1 x2 x3 0 10 768 0 (by omega) (by omega) (by omega) (by omega) (by omega) (by omega) _ _ _ _ _ _ _
    (fun r d => ld_q arg2 harg2 x0 (128 * 10) (by omega) _ _ r d)
    (fun k d => N640.ld_k arg3 harg3 x1 _ _ 768 rfl (by omega) _ k d)
    (fun k d => N640.ld_k arg4 harg4 x2 _ _ 768 rfl (by omega) _ k d)
    ?_ ?_ ?_ ?_ z y hy0 hy1)
  · exact (fun r k => N640.ld_c arg7.view _ x3 (scratch_eq c arg5 harg5 x3) 0 0 0 _ rfl _ (by omega) (by omega) r k)
  · exact (fun r k => N640.ld_c arg7.view _ x3 (scratch_eq c arg5 harg5 x3) 0 64 0 _ rfl _ (by omega) (by omega) r k)
  · exact (fun r k => N640.ld_c arg7.view _ x3 (scratch_eq c arg5 harg5 x3) 1 0 0 _ rfl _ (by omega) (by omega) r k)
  · exact (fun r k => N640.ld_c arg7.view _ x3 (scratch_eq c arg5 harg5 x3) 1 64 0 _ rfl _ (by omega) (by omega) r k)

theorem valA_11 (z : S128x128.Idx) (y : S2048x128.Idx) (hy0 : (y 0).val = 128 * 11 + (z 0).val) (hy1 : (y 1).val = (z 1).val) :
    (kernelRun0_A.sl.v1550 (F := Ideal) c arg2 harg2 arg3 harg3 arg4 harg4 arg5 harg5 arg7 arg8 arg9 x0 x1 x2 x3) z = blkVal x0 x1 x2 x3 0 (y 0) (y 1) := by
  refine (congrFun (pieceA_11 ..) z).trans (N640.pair_val x0 x1 x2 x3 0 11 896 0 (by omega) (by omega) (by omega) (by omega) (by omega) (by omega) _ _ _ _ _ _ _
    (fun r d => ld_q arg2 harg2 x0 (128 * 11) (by omega) _ _ r d)
    (fun k d => N640.ld_k arg3 harg3 x1 _ _ 896 rfl (by omega) _ k d)
    (fun k d => N640.ld_k arg4 harg4 x2 _ _ 896 rfl (by omega) _ k d)
    ?_ ?_ ?_ ?_ z y hy0 hy1)
  · exact (fun r k => N640.ld_c arg7.view _ x3 (scratch_eq c arg5 harg5 x3) 0 0 0 _ rfl _ (by omega) (by omega) r k)
  · exact (fun r k => N640.ld_c arg7.view _ x3 (scratch_eq c arg5 harg5 x3) 0 64 0 _ rfl _ (by omega) (by omega) r k)
  · exact (fun r k => N640.ld_c arg7.view _ x3 (scratch_eq c arg5 harg5 x3) 1 0 0 _ rfl _ (by omega) (by omega) r k)
  · exact (fun r k => N640.ld_c arg7.view _ x3 (scratch_eq c arg5 harg5 x3) 1 64 0 _ rfl _ (by omega) (by omega) r k)

theorem valA_12 (z : S128x128.Idx) (y : S2048x128.Idx) (hy0 : (y 0).val = 128 * 12 + (z 0).val) (hy1 : (y 1).val = (z 1).val) :
    (kernelRun0_A.sl.v1663 (F := Ideal) c arg2 harg2 arg3 harg3 arg4 harg4 arg5 harg5 arg7 arg8 arg9 x0 x1 x2 x3) z = blkVal x0 x1 x2 x3 0 (y 0) (y 1) := by
  refine (congrFun (pieceA_12 ..) z).trans (N640.pair_val x0 x1 x2 x3 0 12 1024 0 (by omega) (by omega) (by omega) (by omega) (by omega) (by omega) _ _ _ _ _ _ _
    (fun r d => ld_q arg2 harg2 x0 (128 * 12) (by omega) _ _ r d)
    (fun k d => N640.ld_k arg3 harg3 x1 _ _ 1024 rfl (by omega) _ k d)
    (fun k d => N640.ld_k arg4 harg4 x2 _ _ 1024 rfl (by omega) _ k d)
    ?_ ?_ ?_ ?_ z y hy0 hy1)
  · exact (fun r k => N640.ld_c arg7.view _ x3 (scratch_eq c arg5 harg5 x3) 0 0 0 _ rfl _ (by omega) (by omega) r k)
  · exact (fun r k => N640.ld_c arg7.view _ x3 (scratch_eq c arg5 harg5 x3) 0 64 0 _ rfl _ (by omega) (by omega) r k)
  · exact (fun r k => N640.ld_c arg7.view _ x3 (scratch_eq c arg5 harg5 x3) 1 0 0 _ rfl _ (by omega) (by omega) r k)
  · exact (fun r k => N640.ld_c arg7.view _ x3 (scratch_eq c arg5 harg5 x3) 1 64 0 _ rfl _ (by omega) (by omega) r k)

theorem valA_13 (z : S128x128.Idx) (y : S2048x128.Idx) (hy0 : (y 0).val = 128 * 13 + (z 0).val) (hy1 : (y 1).val = (z 1).val) :
    (kernelRun0_A.sl.v1776 (F := Ideal) c arg2 harg2 arg3 harg3 arg4 harg4 arg5 harg5 arg7 arg8 arg9 x0 x1 x2 x3) z = blkVal x0 x1 x2 x3 0 (y 0) (y 1) := by
  refine (congrFun (pieceA_13 ..) z).trans (N640.pair_val x0 x1 x2 x3 0 13 1152 0 (by omega) (by omega) (by omega) (by omega) (by omega) (by omega) _ _ _ _ _ _ _
    (fun r d => ld_q arg2 harg2 x0 (128 * 13) (by omega) _ _ r d)
    (fun k d => N640.ld_k arg3 harg3 x1 _ _ 1152 rfl (by omega) _ k d)
    (fun k d => N640.ld_k arg4 harg4 x2 _ _ 1152 rfl (by omega) _ k d)
    ?_ ?_ ?_ ?_ z y hy0 hy1)
  · exact (fun r k => N640.ld_c arg7.view _ x3 (scratch_eq c arg5 harg5 x3) 0 0 0 _ rfl _ (by omega) (by omega) r k)
  · exact (fun r k => N640.ld_c arg7.view _ x3 (scratch_eq c arg5 harg5 x3) 0 64 0 _ rfl _ (by omega) (by omega) r k)
  · exact (fun r k => N640.ld_c arg7.view _ x3 (scratch_eq c arg5 harg5 x3) 1 0 0 _ rfl _ (by omega) (by omega) r k)
  · exact (fun r k => N640.ld_c arg7.view _ x3 (scratch_eq c arg5 harg5 x3) 1 64 0 _ rfl _ (by omega) (by omega) r k)

theorem valA_14 (z : S128x128.Idx) (y : S2048x128.Idx) (hy0 : (y 0).val = 128 * 14 + (z 0).val) (hy1 : (y 1).val = (z 1).val) :
    (kernelRun0_A.sl.v1865 (F := Ideal) c arg2 harg2 arg3 harg3 arg4 harg4 arg5 harg5 arg7 arg8 arg9 x0 x1 x2 x3) z = blkVal x0 x1 x2 x3 0 (y 0) (y 1) := by
  refine (congrFun (pieceA_14 ..) z).trans (N640.pair_val x0 x1 x2 x3 0 14 1280 0 (by omega) (by omega) (by omega) (by omega) (by omega) (by omega) _ _ _ _ _ _ _
    (fun r d => ld_q arg2 harg2 x0 (128 * 14) (by omega) _ _ r d)
    (fun k d => N640.ld_k arg3 harg3 x1 _ _ 1280 rfl (by omega) _ k d)
    (fun k d => N640.ld_k arg4 harg4 x2 _ _ 1280 rfl (by omega) _ k d)
    ?_ ?_ ?_ ?_ z y hy0 hy1)
  · exact (fun r k => N640.ld_c arg7.view _ x3 (scratch_eq c arg5 harg5 x3) 0 0 0 _ rfl _ (by omega) (by omega) r k)
  · exact (fun r k => N640.ld_c arg7.view _ x3 (scratch_eq c arg5 harg5 x3) 0 64 0 _ rfl _ (by omega) (by omega) r k)
  · exact (fun r k => N640.ld_c arg7.view _ x3 (scratch_eq c arg5 harg5 x3) 1 0 0 _ rfl _ (by omega) (by omega) r k)
  · exact (fun r k => N640.ld_c arg7.view _ x3 (scratch_eq c arg5 harg5 x3) 1 64 0 _ rfl _ (by omega) (by omega) r k)

theorem valA_15 (z : S128x128.Idx) (y : S2048x128.Idx) (hy0 : (y 0).val = 128 * 15 + (z 0).val) (hy1 : (y 1).val = (z 1).val) :
    (kernelRun0_A.sl.r_9 (F := Ideal) c arg2 harg2 arg3 harg3 arg4 harg4 arg5 harg5 arg7 arg8 arg9 x0 x1 x2 x3) z = blkVal x0 x1 x2 x3 0 (y 0) (y 1) := by
  refine (congrFun (pieceA_15 ..) z).trans (N640.pair_val x0 x1 x2 x3 0 15 1408 0 (by omega) (by omega) (by omega) (by omega) (by omega) (by omega) _ _ _ _ _ _ _
    (fun r d => ld_q arg2 harg2 x0 (128 * 15) (by omega) _ _ r d)
    (fun k d => N640.ld_k arg3 harg3 x1 _ _ 1408 rfl (by omega) _ k d)
    (fun k d => N640.ld_k arg4 harg4 x2 _ _ 1408 rfl (by omega) _ k d)
    ?_ ?_ ?_ ?_ z y hy0 hy1)
  · exact (fun r k => N640.ld_c arg7.view _ x3 (scratch_eq c arg5 harg5 x3) 0 0 0 _ rfl _ (by omega) (by omega) r k)
  · exact (fun r k => N640.ld_c arg7.view _ x3 (scratch_eq c arg5 harg5 x3) 0 64 0 _ rfl _ (by omega) (by omega) r k)
  · exact (fun r k => N640.ld_c arg7.view _ x3 (scratch_eq c arg5 harg5 x3) 1 0 0 _ rfl _ (by omega) (by omega) r k)
  · exact (fun r k => N640.ld_c arg7.view _ x3 (scratch_eq c arg5 harg5 x3) 1 64 0 _ rfl _ (by omega) (by omega) r k)

theorem outA (arg6 : Memref sig .tc .vmem S2048x128 .bf16) (harg6 : arg6.IsWhole) (harg8 : arg8.IsWhole) (harg9 : arg9.IsWhole) (y : S2048x128.Idx) :
    out0_A_4 (F := Ideal) c i arg2 harg2 arg3 harg3 arg4 harg4 arg5 harg5 arg6 harg6 arg7 harg7 arg8 harg8 arg9 harg9 hc0 hc1 hc2 x0 x1 x2 x3 y = blkVal x0 x1 x2 x3 0 (y 0) (y 1) := by
  unfold out0_A_4
  rw [View.read_writes_junk_eq_canon]
  unfold kernelRun0_A
  dsimp only
  canon_tiles x h
  case piece15 => exact valA_0 (hy0 := by omega) (hy1 := h1) ..
  case piece14 => exact valA_1 (hy0 := by omega) (hy1 := h1) ..
  case piece13 => exact valA_2 (hy0 := by omega) (hy1 := h1) ..
  case piece12 => exact valA_3 (hy0 := by omega) (hy1 := h1) ..
  case piece11 => exact valA_4 (hy0 := by omega) (hy1 := h1) ..
  case piece10 => exact valA_5 (hy0 := by omega) (hy1 := h1) ..
  case piece9 => exact valA_6 (hy0 := by omega) (hy1 := h1) ..
  case piece8 => exact valA_7 (hy0 := by omega) (hy1 := h1) ..
  case piece7 => exact valA_8 (hy0 := by omega) (hy1 := h1) ..
  case piece6 => exact valA_9 (hy0 := by omega) (hy1 := h1) ..
  case piece5 => exact valA_10 (hy0 := by omega) (hy1 := h1) ..
  case piece4 => exact valA_11 (hy0 := by omega) (hy1 := h1) ..
  case piece3 => exact valA_12 (hy0 := by omega) (hy1 := h1) ..
  case piece2 => exact valA_13 (hy0 := by omega) (hy1 := h1) ..
  case piece1 => exact valA_14 (hy0 := by omega) (hy1 := h1) ..
  case piece0 => exact valA_15 (hy0 := by omega) (hy1 := h1) ..

end Cert.Proof
-- ==== Proof.Attn.PairsB1.lean ====
module
public import proofs.«01_k».proof.Proof.Attn.Chain

/-! What each pair of chunks stores at a later block of a head pair: the pair function of its loads. -/

@[expose] public section
set_option maxRecDepth 16384
noncomputable section
namespace Cert.Proof
open Cert.KernelIdeal Cert.KernelIdeal.Gen Idealize.ShloMosaic Idealize.ShloMosaic.TcCoe Idealize.SL.Sem

variable (c : Dev nD) (i : grid0.Coords)
  (arg2 : Memref sig .tc .vmem S2048x128 .bf16) (harg2 : arg2.IsWhole)
  (arg3 : Memref sig .tc .vmem S8192x128 .bf16) (harg3 : arg3.IsWhole)
  (arg4 : Memref sig .tc .vmem S8192x128 .bf16) (harg4 : arg4.IsWhole)
  (arg5 : Memref sig .tc .vmem S2x1x640 .f32) (harg5 : arg5.IsWhole)
  (arg7 : Memref sig .tc .vmem S2x128x640 .f32) (harg7 : arg7.IsWhole)
  (arg8 : Memref sig .tc .vmem S32x128x640 .f32) (arg9 : Memref sig .tc .vmem S32x128x640 .bf16)
  (hc0 : ¬cond0_0 i) (hc1 : ¬cond0_1 i) (hc2 : cond0_2 i)
  (x0 : Vec Ideal S2048x128 .bf16) (x1 x2 : Vec Ideal S8192x128 .bf16) (x3 : Vec Ideal S2x1x640 .f32)
  (xs0 : Vec Ideal S2x128x640 .f32)

theorem pieceB_0 : kernelRun0_B.sl.v419 (F := Ideal) c i arg2 harg2 arg3 harg3 arg4 harg4 arg7 harg7 arg8 arg9 hc2 x0 x1 x2 xs0 =
    N640.chain (kernelRun0_B.sl.v187 (F := Ideal) c arg2 harg2 x0) (kernelRun0_B.sl.v16 (F := Ideal) c i arg3 harg3 hc2 x1) (kernelRun0_B.sl.v19 (F := Ideal) c i arg4 harg4 hc2 x2)
      (View.readAt (Elt Ideal) arg7.view (Rect.unit (s := S2x128x640) ![0, 0, 0] S1x64x640.size (by decide)).toLoadRect (harg7.unread xs0)) (View.readAt (Elt Ideal) arg7.view (Rect.unit (s := S2x128x640) ![0, 64, 0] S1x64x640.size (by decide)).toLoadRect (harg7.unread xs0))
      (View.readAt (Elt Ideal) arg7.view (Rect.unit (s := S2x128x640) ![1, 0, 0] S1x64x640.size (by decide)).toLoadRect (harg7.unread xs0)) (View.readAt (Elt Ideal) arg7.view (Rect.unit (s := S2x128x640) ![1, 64, 0] S1x64x640.size (by decide)).toLoadRect (harg7.unread xs0)) := by
  have sc0 : (kernelRun0_B.sl.v198 (F := Ideal) c i arg2 harg2 arg3 harg3 hc2 x0 x1) = N640.score lanes0 (kernelRun0_B.sl.v187 (F := Ideal) c arg2 harg2 x0) (kernelRun0_B.sl.v16 (F := Ideal) c i arg3 harg3 hc2 x1) := rfl
  have x00 : (kernelRun0_B.sl.v243 (F := Ideal) c i arg2 harg2 arg3 harg3 arg7 harg7 arg8 hc2 x0 x1 xs0) = N640.ex (N640.sub0 (N640.score lanes0 (kernelRun0_B.sl.v187 (F := Ideal) c arg2 harg2 x0) (kernelRun0_B.sl.v16 (F := Ideal) c i arg3 harg3 hc2 x1))) (View.readAt (Elt Ideal) arg7.view (Rect.unit (s := S2x128x640) ![0, 0, 0] S1x64x640.size (by decide)).toLoadRect (harg7.unread xs0)) := by
    have e : (kernelRun0_B.sl.v234 (F := Ideal) c i arg2 harg2 arg3 harg3 arg8 hc2 x0 x1) = N640.sub0 (kernelRun0_B.sl.v198 (F := Ideal) c i arg2 harg2 arg3 harg3 hc2 x0 x1) := by
      simp (disch := decide) only [kernelRun0_B.sl.v234, ↓View.readCov_skip, kernelRun0_B.sl.HS1_4]
      apply N640.read_s0
    rw [← sc0, ← e]
    rfl
  have x01 : (kernelRun0_B.sl.v261 (F := Ideal) c i arg2 harg2 arg3 harg3 arg7 harg7 arg8 hc2 x0 x1 xs0) = N640.ex (N640.sub1 (N640.score lanes0 (kernelRun0_B.sl.v187 (F := Ideal) c arg2 harg2 x0) (kernelRun0_B.sl.v16 (F := Ideal) c i arg3 harg3 hc2 x1))) (View.readAt (Elt Ideal) arg7.view (Rect.unit (s := S2x128x640) ![0, 64, 0] S1x64x640.size (by decide)).toLoadRect (harg7.unread xs0)) := by
    have e : (kernelRun0_B.sl.v252 (F := Ideal) c i arg2 harg2 arg3 harg3 arg8 hc2 x0 x1) = N640.sub1 (kernelRun0_B.sl.v198 (F := Ideal) c i arg2 harg2 arg3 harg3 hc2 x0 x1) := by
      simp (disch := decide) only [kernelRun0_B.sl.v252, ↓View.readCov_skip, kernelRun0_B.sl.HS1_4]
      apply N640.read_s1
    rw [← sc0, ← e]
    rfl
  have j0 : (kernelRun0_B.sl.v406 (F := Ideal) c i arg2 harg2 arg3 harg3 arg7 harg7 arg8 arg9 hc2 x0 x1 xs0) = N640.join (N640.st (kernelRun0_B.sl.v243 (F := Ideal) c i arg2 harg2 arg3 harg3 arg7 harg7 arg8 hc2 x0 x1 xs0)) (N640.st (kernelRun0_B.sl.v261 (F := Ideal) c i arg2 harg2 arg3 harg3 arg7 harg7 arg8 hc2 x0 x1 xs0)) := by
    simp (disch := decide) only [kernelRun0_B.sl.v406, ↓View.readCov_skip, kernelRun0_B.sl.HS2_8]
    apply N640.read_e
  have sc1 : (kernelRun0_B.sl.v209 (F := Ideal) c i arg2 harg2 arg3 harg3 hc2 x0 x1) = N640.score lanes1 (kernelRun0_B.sl.v187 (F := Ideal) c arg2 harg2 x0) (kernelRun0_B.sl.v16 (F := Ideal) c i arg3 harg3 hc2 x1) := rfl
  have x10 : (kernelRun0_B.sl.v280 (F := Ideal) c i arg2 harg2 arg3 harg3 arg7 harg7 arg8 hc2 x0 x1 xs0) = N640.ex (N640.sub0 (N640.score lanes1 (kernelRun0_B.sl.v187 (F := Ideal) c arg2 harg2 x0) (kernelRun0_B.sl.v16 (F := Ideal) c i arg3 harg3 hc2 x1))) (View.readAt (Elt Ideal) arg7.view (Rect.unit (s := S2x128x640) ![1, 0, 0] S1x64x640.size (by decide)).toLoadRect (harg7.unread xs0)) := by
    have e : (kernelRun0_B.sl.v271 (F := Ideal) c i arg2 harg2 arg3 harg3 arg8 hc2 x0 x1) = N640.sub0 (kernelRun0_B.sl.v209 (F := Ideal) c i arg2 harg2 arg3 harg3 hc2 x0 x1) := by
      simp (disch := decide) only [kernelRun0_B.sl.v271, ↓View.readCov_skip, kernelRun0_B.sl.HS1_4]
      apply N640.read_s0
    rw [← sc1, ← e]
    rfl
  have x11 : (kernelRun0_B.sl.v298 (F := Ideal) c i arg2 harg2 arg3 harg3 arg7 harg7 arg8 hc2 x0 x1 xs0) = N640.ex (N640.sub1 (N640.score lanes1 (kernelRun0_B.sl.v187 (F := Ideal) c arg2 harg2 x0) (kernelRun0_B.sl.v16 (F := Ideal) c i arg3 harg3 hc2 x1))) (View.readAt (Elt Ideal) arg7.view (Rect.unit (s := S2x128x640) ![1, 64, 0] S1x64x640.size (by decide)).toLoadRect (harg7.unread xs0)) := by
    have e : (kernelRun0_B.sl.v289 (F := Ideal) c i arg2 harg2 arg3 harg3 arg8 hc2 x0 x1) = N640.sub1 (kernelRun0_B.sl.v209 (F := Ideal) c i arg2 harg2 arg3 harg3 hc2 x0 x1) := by
      simp (disch := decide) only [kernelRun0_B.sl.v289, ↓View.readCov_skip, kernelRun0_B.sl.HS1_4]
      apply N640.read_s1
    rw [← sc1, ← e]
    rfl
  have j1 : (kernelRun0_B.sl.v411 (F := Ideal) c i arg2 harg2 arg3 harg3 arg7 harg7 arg8 arg9 hc2 x0 x1 xs0) = N640.join (N640.st (kernelRun0_B.sl.v280 (F := Ideal) c i arg2 harg2 arg3 harg3 arg7 harg7 arg8 hc2 x0 x1 xs0)) (N640.st (kernelRun0_B.sl.v298 (F := Ideal) c i arg2 harg2 arg3 harg3 arg7 harg7 arg8 hc2 x0 x1 xs0)) := by
    simp (disch := decide) only [kernelRun0_B.sl.v411, ↓View.readCov_skip, kernelRun0_B.sl.HS2_8]
    apply N640.read_e
  unfold N640.chain
  rw [← x00, ← x01, ← x10, ← x11]
  unfold N640.head
  rw [← j0, ← j1]
  rfl

theorem pieceB_1 : kernelRun0_B.sl.v532 (F := Ideal) c i arg2 harg2 arg3 harg3 arg4 harg4 arg7 harg7 arg8 arg9 hc2 x0 x1 x2 xs0 =
    N640.chain (kernelRun0_B.sl.v211 (F := Ideal) c arg2 harg2 x0) (kernelRun0_B.sl.v27 (F := Ideal) c i arg3 harg3 hc2 x1) (kernelRun0_B.sl.v30 (F := Ideal) c i arg4 harg4 hc2 x2)
      (View.readAt (Elt Ideal) arg7.view (Rect.unit (s := S2x128x640) ![0, 0, 0] S1x64x640.size (by decide)).toLoadRect (harg7.unread xs0)) (View.readAt (Elt Ideal) arg7.view (Rect.unit (s := S2x128x640) ![0, 64, 0] S1x64x640.size (by decide)).toLoadRect (harg7.unread xs0))
      (View.readAt (Elt Ideal) arg7.view (Rect.unit (s := S2x128x640) ![1, 0, 0] S1x64x640.size (by decide)).toLoadRect (harg7.unread xs0)) (View.readAt (Elt Ideal) arg7.view (Rect.unit (s := S2x128x640) ![1, 64, 0] S1x64x640.size (by decide)).toLoadRect (harg7.unread xs0)) := by
  have sc0 : (kernelRun0_B.sl.v222 (F := Ideal) c i arg2 harg2 arg3 harg3 hc2 x0 x1) = N640.score lanes0 (kernelRun0_B.sl.v211 (F := Ideal) c arg2 harg2 x0) (kernelRun0_B.sl.v27 (F := Ideal) c i arg3 harg3 hc2 x1) := rfl
  have x00 : (kernelRun0_B.sl.v341 (F := Ideal) c i arg2 harg2 arg3 harg3 arg7 harg7 arg8 hc2 x0 x1 xs0) = N640.ex (N640.sub0 (N640.score lanes0 (kernelRun0_B.sl.v211 (F := Ideal) c arg2 harg2 x0) (kernelRun0_B.sl.v27 (F := Ideal) c i arg3 harg3 hc2 x1))) (View.readAt (Elt Ideal) arg7.view (Rect.unit (s := S2x128x640) ![0, 0, 0] S1x64x640.size (by decide)).toLoadRect (harg7.unread xs0)) := by
    have e : (kernelRun0_B.sl.v332 (F := Ideal) c i arg2 harg2 arg3 harg3 arg8 hc2 x0 x1) = N640.sub0 (kernelRun0_B.sl.v222 (F := Ideal) c i arg2 harg2 arg3 harg3 hc2 x0 x1) := by
      simp (disch := decide) only [kernelRun0_B.sl.v332, ↓View.readCov_skip, kernelRun0_B.sl.HS1_6, kernelRun0_B.sl.HS1_4]
      apply N640.read_s0
    rw [← sc0, ← e]
    rfl
  have x01 : (kernelRun0_B.sl.v359 (F := Ideal) c i arg2 harg2 arg3 harg3 arg7 harg7 arg8 hc2 x0 x1 xs0) = N640.ex (N640.sub1 (N640.score lanes0 (kernelRun0_B.sl.v211 (F := Ideal) c arg2 harg2 x0) (kernelRun0_B.sl.v27 (F := Ideal) c i arg3 harg3 hc2 x1))) (View.readAt (Elt Ideal) arg7.view (Rect.unit (s := S2x128x640) ![0, 64, 0] S1x64x640.size (by decide)).toLoadRect (harg7.unread xs0)) := by
    have e : (kernelRun0_B.sl.v350 (F := Ideal) c i arg2 harg2 arg3 harg3 arg8 hc2 x0 x1) = N640.sub1 (kernelRun0_B.sl.v222 (F := Ideal) c i arg2 harg2 arg3 harg3 hc2 x0 x1) := by
      simp (disch := decide) only [kernelRun0_B.sl.v350, ↓View.readCov_skip, kernelRun0_B.sl.HS1_6, kernelRun0_B.sl.HS1_4]
      apply N640.read_s1
    rw [← sc0, ← e]
    rfl
  have j0 : (kernelRun0_B.sl.v519 (F := Ideal) c i arg2 harg2 arg3 harg3 arg7 harg7 arg8 arg9 hc2 x0 x1 xs0) = N640.join (N640.st (kernelRun0_B.sl.v341 (F := Ideal) c i arg2 harg2 arg3 harg3 arg7 harg7 arg8 hc2 x0 x1 xs0)) (N640.st (kernelRun0_B.sl.v359 (F := Ideal) c i arg2 harg2 arg3 harg3 arg7 harg7 arg8 hc2 x0 x1 xs0)) := by
    simp (disch := decide) only [kernelRun0_B.sl.v519, ↓View.readCov_skip, kernelRun0_B.sl.HS2_12, kernelRun0_B.sl.HS2_8]
    apply N640.read_e
  have sc1 : (kernelRun0_B.sl.v233 (F := Ideal) c i arg2 harg2 arg3 harg3 hc2 x0 x1) = N640.score lanes1 (kernelRun0_B.sl.v211 (F := Ideal) c arg2 harg2 x0) (kernelRun0_B.sl.v27 (F := Ideal) c i arg3 harg3 hc2 x1) := rfl
  have x10 : (kernelRun0_B.sl.v378 (F := Ideal) c i arg2 harg2 arg3 harg3 arg7 harg7 arg8 hc2 x0 x1 xs0) = N640.ex (N640.sub0 (N640.score lanes1 (kernelRun0_B.sl.v211 (F := Ideal) c arg2 harg2 x0) (kernelRun0_B.sl.v27 (F := Ideal) c i arg3 harg3 hc2 x1))) (View.readAt (Elt Ideal) arg7.view (Rect.unit (s := S2x128x640) ![1, 0, 0] S1x64x640.size (by decide)).toLoadRect (harg7.unread xs0)) := by
    have e : (kernelRun0_B.sl.v369 (F := Ideal) c i arg2 harg2 arg3 harg3 arg8 hc2 x0 x1) = N640.sub0 (kernelRun0_B.sl.v233 (F := Ideal) c i arg2 harg2 arg3 harg3 hc2 x0 x1) := by
      simp (disch := decide) only [kernelRun0_B.sl.v369, ↓View.readCov_skip, kernelRun0_B.sl.HS1_6, kernelRun0_B.sl.HS1_4]
      apply N640.read_s0
    rw [← sc1, ← e]
    rfl
  have x11 : (kernelRun0_B.sl.v396 (F := Ideal) c i arg2 harg2 arg3 harg3 arg7 harg7 arg8 hc2 x0 x1 xs0) = N640.ex (N640.sub1 (N640.score lanes1 (kernelRun0_B.sl.v211 (F := Ideal) c arg2 harg2 x0) (kernelRun0_B.sl.v27 (F := Ideal) c i arg3 harg3 hc2 x1))) (View.readAt (Elt Ideal) arg7.view (Rect.unit (s := S2x128x640) ![1, 64, 0] S1x64x640.size (by decide)).toLoadRect (harg7.unread xs0)) := by
    have e : (kernelRun0_B.sl.v387 (F := Ideal) c i arg2 harg2 arg3 harg3 arg8 hc2 x0 x1) = N640.sub1 (kernelRun0_B.sl.v233 (F := Ideal) c i arg2 harg2 arg3 harg3 hc2 x0 x1) := by
      simp (disch := decide) only [kernelRun0_B.sl.v387, ↓View.readCov_skip, kernelRun0_B.sl.HS1_6, kernelRun0_B.sl.HS1_4]
      apply N640.read_s1
    rw [← sc1, ← e]
    rfl
  have j1 : (kernelRun0_B.sl.v524 (F := Ideal) c i arg2 harg2 arg3 harg3 arg7 harg7 arg8 arg9 hc2 x0 x1 xs0) = N640.join (N640.st (kernelRun0_B.sl.v378 (F := Ideal) c i arg2 harg2 arg3 harg3 arg7 harg7 arg8 hc2 x0 x1 xs0)) (N640.st (kernelRun0_B.sl.v396 (F := Ideal) c i arg2 harg2 arg3 harg3 arg7 harg7 arg8 hc2 x0 x1 xs0)) := by
    simp (disch := decide) only [kernelRun0_B.sl.v524, ↓View.readCov_skip, kernelRun0_B.sl.HS2_12, kernelRun0_B.sl.HS2_8]
    apply N640.read_e
  unfold N640.chain
  rw [← x00, ← x01, ← x10, ← x11]
  unfold N640.head
  rw [← j0, ← j1]
  rfl

theorem pieceB_2 : kernelRun0_B.sl.v645 (F := Ideal) c i arg2 harg2 arg3 harg3 arg4 harg4 arg7 harg7 arg8 arg9 hc2 x0 x1 x2 xs0 =
    N640.chain (kernelRun0_B.sl.v309 (F := Ideal) c arg2 harg2 x0) (kernelRun0_B.sl.v38 (F := Ideal) c i arg3 harg3 hc2 x1) (kernelRun0_B.sl.v41 (F := Ideal) c i arg4 harg4 hc2 x2)
      (View.readAt (Elt Ideal) arg7.view (Rect.unit (s := S2x128x640) ![0, 0, 0] S1x64x640.size (by decide)).toLoadRect (harg7.unread xs0)) (View.readAt (Elt Ideal) arg7.view (Rect.unit (s := S2x128x640) ![0, 64, 0] S1x64x640.size (by decide)).toLoadRect (harg7.unread xs0))
      (View.readAt (Elt Ideal) arg7.view (Rect.unit (s := S2x128x640) ![1, 0, 0] S1x64x640.size (by decide)).toLoadRect (harg7.unread xs0)) (View.readAt (Elt Ideal) arg7.view (Rect.unit (s := S2x128x640) ![1, 64, 0] S1x64x640.size (by decide)).toLoadRect (harg7.unread xs0)) := by
  have sc0 : (kernelRun0_B.sl.v320 (F := Ideal) c i arg2 harg2 arg3 harg3 hc2 x0 x1) = N640.score lanes0 (kernelRun0_B.sl.v309 (F := Ideal) c arg2 harg2 x0) (kernelRun0_B.sl.v38 (F := Ideal) c i arg3 harg3 hc2 x1) := rfl
  have x00 : (kernelRun0_B.sl.v454 (F := Ideal) c i arg2 harg2 arg3 harg3 arg7 harg7 arg8 hc2 x0 x1 xs0) = N640.ex (N640.sub0 (N640.score lanes0 (kernelRun0_B.sl.v309 (F := Ideal) c arg2 harg2 x0) (kernelRun0_B.sl.v38 (F := Ideal) c i arg3 harg3 hc2 x1))) (View.readAt (Elt Ideal) arg7.view (Rect.unit (s := S2x128x640) ![0, 0, 0] S1x64x640.size (by decide)).toLoadRect (harg7.unread xs0)) := by
    have e : (kernelRun0_B.sl.v445 (F := Ideal) c i arg2 harg2 arg3 harg3 arg8 hc2 x0 x1) = N640.sub0 (kernelRun0_B.sl.v320 (F := Ideal) c i arg2 harg2 arg3 harg3 hc2 x0 x1) := by
      simp (disch := decide) only [kernelRun0_B.sl.v445, ↓View.readCov_skip, kernelRun0_B.sl.HS1_8, kernelRun0_B.sl.HS1_6, kernelRun0_B.sl.HS1_4]
      apply N640.read_s0
    rw [← sc0, ← e]
    rfl
  have x01 : (kernelRun0_B.sl.v472 (F := Ideal) c i arg2 harg2 arg3 harg3 arg7 harg7 arg8 hc2 x0 x1 xs0) = N640.ex (N640.sub1 (N640.score lanes0 (kernelRun0_B.sl.v309 (F := Ideal) c arg2 harg2 x0) (kernelRun0_B.sl.v38 (F := Ideal) c i arg3 harg3 hc2 x1))) (View.readAt (Elt Ideal) arg7.view (Rect.unit (s := S2x128x640) ![0, 64, 0] S1x64x640.size (by decide)).toLoadRect (harg7.unread xs0)) := by
    have e : (kernelRun0_B.sl.v463 (F := Ideal) c i arg2 harg2 arg3 harg3 arg8 hc2 x0 x1) = N640.sub1 (kernelRun0_B.sl.v320 (F := Ideal) c i arg2 harg2 arg3 harg3 hc2 x0 x1) := by
      simp (disch := decide) only [kernelRun0_B.sl.v463, ↓View.readCov_skip, kernelRun0_B.sl.HS1_8, kernelRun0_B.sl.HS1_6, kernelRun0_B.sl.HS1_4]
      apply N640.read_s1
    rw [← sc0, ← e]
    rfl
  have j0 : (kernelRun0_B.sl.v632 (F := Ideal) c i arg2 harg2 arg3 harg3 arg7 harg7 arg8 arg9 hc2 x0 x1 xs0) = N640.join (N640.st (kernelRun0_B.sl.v454 (F := Ideal) c i arg2 harg2 arg3 harg3 arg7 harg7 arg8 hc2 x0 x1 xs0)) (N640.st (kernelRun0_B.sl.v472 (F := Ideal) c i arg2 harg2 arg3 harg3 arg7 harg7 arg8 hc2 x0 x1 xs0)) := by
    simp (disch := decide) only [kernelRun0_B.sl.v632, ↓View.readCov_skip, kernelRun0_B.sl.HS2_16, kernelRun0_B.sl.HS2_12, kernelRun0_B.sl.HS2_8]
    apply N640.read_e
  have sc1 : (kernelRun0_B.sl.v331 (F := Ideal) c i arg2 harg2 arg3 harg3 hc2 x0 x1) = N640.score lanes1 (kernelRun0_B.sl.v309 (F := Ideal) c arg2 harg2 x0) (kernelRun0_B.sl.v38 (F := Ideal) c i arg3 harg3 hc2 x1) := rfl
  have x10 : (kernelRun0_B.sl.v491 (F := Ideal) c i arg2 harg2 arg3 harg3 arg7 harg7 arg8 hc2 x0 x1 xs0) = N640.ex (N640.sub0 (N640.score lanes1 (kernelRun0_B.sl.v309 (F := Ideal) c arg2 harg2 x0) (kernelRun0_B.sl.v38 (F := Ideal) c i arg3 harg3 hc2 x1))) (View.readAt (Elt Ideal) arg7.view (Rect.unit (s := S2x128x640) ![1, 0, 0] S1x64x640.size (by decide)).toLoadRect (harg7.unread xs0)) := by
    have e : (kernelRun0_B.sl.v482 (F := Ideal) c i arg2 harg2 arg3 harg3 arg8 hc2 x0 x1) = N640.sub0 (kernelRun0_B.sl.v331 (F := Ideal) c i arg2 harg2 arg3 harg3 hc2 x0 x1) := by
      simp (disch := decide) only [kernelRun0_B.sl.v482, ↓View.readCov_skip, kernelRun0_B.sl.HS1_8, kernelRun0_B.sl.HS1_6, kernelRun0_B.sl.HS1_4]
      apply N640.read_s0
    rw [← sc1, ← e]
    rfl
  have x11 : (kernelRun0_B.sl.v509 (F := Ideal) c i arg2 harg2 arg3 harg3 arg7 harg7 arg8 hc2 x0 x1 xs0) = N640.ex (N640.sub1 (N640.score lanes1 (kernelRun0_B.sl.v309 (F := Ideal) c arg2 harg2 x0) (kernelRun0_B.sl.v38 (F := Ideal) c i arg3 harg3 hc2 x1))) (View.readAt (Elt Ideal) arg7.view (Rect.unit (s := S2x128x640) ![1, 64, 0] S1x64x640.size (by decide)).toLoadRect (harg7.unread xs0)) := by
    have e : (kernelRun0_B.sl.v500 (F := Ideal) c i arg2 harg2 arg3 harg3 arg8 hc2 x0 x1) = N640.sub1 (kernelRun0_B.sl.v331 (F := Ideal) c i arg2 harg2 arg3 harg3 hc2 x0 x1) := by
      simp (disch := decide) only [kernelRun0_B.sl.v500, ↓View.readCov_skip, kernelRun0_B.sl.HS1_8, kernelRun0_B.sl.HS1_6, kernelRun0_B.sl.HS1_4]
      apply N640.read_s1
    rw [← sc1, ← e]
    rfl
  have j1 : (kernelRun0_B.sl.v637 (F := Ideal) c i arg2 harg2 arg3 harg3 arg7 harg7 arg8 arg9 hc2 x0 x1 xs0) = N640.join (N640.st (kernelRun0_B.sl.v491 (F := Ideal) c i arg2 harg2 arg3 harg3 arg7 harg7 arg8 hc2 x0 x1 xs0)) (N640.st (kernelRun0_B.sl.v509 (F := Ideal) c i arg2 harg2 arg3 harg3 arg7 harg7 arg8 hc2 x0 x1 xs0)) := by
    simp (disch := decide) only [kernelRun0_B.sl.v637, ↓View.readCov_skip, kernelRun0_B.sl.HS2_16, kernelRun0_B.sl.HS2_12, kernelRun0_B.sl.HS2_8]
    apply N640.read_e
  unfold N640.chain
  rw [← x00, ← x01, ← x10, ← x11]
  unfold N640.head
  rw [← j0, ← j1]
  rfl

theorem pieceB_3 : kernelRun0_B.sl.v758 (F := Ideal) c i arg2 harg2 arg3 harg3 arg4 harg4 arg7 harg7 arg8 arg9 hc2 x0 x1 x2 xs0 =
    N640.chain (kernelRun0_B.sl.v422 (F := Ideal) c arg2 harg2 x0) (kernelRun0_B.sl.v49 (F := Ideal) c i arg3 harg3 hc2 x1) (kernelRun0_B.sl.v52 (F := Ideal) c i arg4 harg4 hc2 x2)
      (View.readAt (Elt Ideal) arg7.view (Rect.unit (s := S2x128x640) ![0, 0, 0] S1x64x640.size (by decide)).toLoadRect (harg7.unread xs0)) (View.readAt (Elt Ideal) arg7.view (Rect.unit (s := S2x128x640) ![0, 64, 0] S1x64x640.size (by decide)).toLoadRect (harg7.unread xs0))
      (View.readAt (Elt Ideal) arg7.view (Rect.unit (s := S2x128x640) ![1, 0, 0] S1x64x640.size (by decide)).toLoadRect (harg7.unread xs0)) (View.readAt (Elt Ideal) arg7.view (Rect.unit (s := S2x128x640) ![1, 64, 0] S1x64x640.size (by decide)).toLoadRect (harg7.unread xs0)) := by
  have sc0 : (kernelRun0_B.sl.v433 (F := Ideal) c i arg2 harg2 arg3 harg3 hc2 x0 x1) = N640.score lanes0 (kernelRun0_B.sl.v422 (F := Ideal) c arg2 harg2 x0) (kernelRun0_B.sl.v49 (F := Ideal) c i arg3 harg3 hc2 x1) := rfl
  have x00 : (kernelRun0_B.sl.v567 (F := Ideal) c i arg2 harg2 arg3 harg3 arg7 harg7 arg8 hc2 x0 x1 xs0) = N640.ex (N640.sub0 (N640.score lanes0 (kernelRun0_B.sl.v422 (F := Ideal) c arg2 harg2 x0) (kernelRun0_B.sl.v49 (F := Ideal) c i arg3 harg3 hc2 x1))) (View.readAt (Elt Ideal) arg7.view (Rect.unit (s := S2x128x640) ![0, 0, 0] S1x64x640.size (by decide)).toLoadRect (harg7.unread xs0)) := by
    have e : (kernelRun0_B.sl.v558 (F := Ideal) c i arg2 harg2 arg3 harg3 arg8 hc2 x0 x1) = N640.sub0 (kernelRun0_B.sl.v433 (F := Ideal) c i arg2 harg2 arg3 harg3 hc2 x0 x1) := by
      simp (disch := decide) only [kernelRun0_B.sl.v558, ↓View.readCov_skip, kernelRun0_B.sl.HS1_10, kernelRun0_B.sl.HS1_8, kernelRun0_B.sl.HS1_6]
      apply N640.read_s0
    rw [← sc0, ← e]
    rfl
  have x01 : (kernelRun0_B.sl.v585 (F := Ideal) c i arg2 harg2 arg3 harg3 arg7 harg7 arg8 hc2 x0 x1 xs0) = N640.ex (N640.sub1 (N640.score lanes0 (kernelRun0_B.sl.v422 (F := Ideal) c arg2 harg2 x0) (kernelRun0_B.sl.v49 (F := Ideal) c i arg3 harg3 hc2 x1))) (View.readAt (Elt Ideal) arg7.view (Rect.unit (s := S2x128x640) ![0, 64, 0] S1x64x640.size (by decide)).toLoadRect (harg7.unread xs0)) := by
    have e : (kernelRun0_B.sl.v576 (F := Ideal) c i arg2 harg2 arg3 harg3 arg8 hc2 x0 x1) = N640.sub1 (kernelRun0_B.sl.v433 (F := Ideal) c i arg2 harg2 arg3 harg3 hc2 x0 x1) := by
      simp (disch := decide) only [kernelRun0_B.sl.v576, ↓View.readCov_skip, kernelRun0_B.sl.HS1_10, kernelRun0_B.sl.HS1_8, kernelRun0_B.sl.HS1_6]
      apply N640.read_s1
    rw [← sc0, ← e]
    rfl
  have j0 : (kernelRun0_B.sl.v745 (F := Ideal) c i arg2 harg2 arg3 harg3 arg7 harg7 arg8 arg9 hc2 x0 x1 xs0) = N640.join (N640.st (kernelRun0_B.sl.v567 (F := Ideal) c i arg2 harg2 arg3 harg3 arg7 harg7 arg8 hc2 x0 x1 xs0)) (N640.st (kernelRun0_B.sl.v585 (F := Ideal) c i arg2 harg2 arg3 harg3 arg7 harg7 arg8 hc2 x0 x1 xs0)) := by
    simp (disch := decide) only [kernelRun0_B.sl.v745, ↓View.readCov_skip, kernelRun0_B.sl.HS2_20, kernelRun0_B.sl.HS2_16, kernelRun0_B.sl.HS2_12]
    apply N640.read_e
  have sc1 : (kernelRun0_B.sl.v444 (F := Ideal) c i arg2 harg2 arg3 harg3 hc2 x0 x1) = N640.score lanes1 (kernelRun0_B.sl.v422 (F := Ideal) c arg2 harg2 x0) (kernelRun0_B.sl.v49 (F := Ideal) c i arg3 harg3 hc2 x1) := rfl
  have x10 : (kernelRun0_B.sl.v604 (F := Ideal) c i arg2 harg2 arg3 harg3 arg7 harg7 arg8 hc2 x0 x1 xs0) = N640.ex (N640.sub0 (N640.score lanes1 (kernelRun0_B.sl.v422 (F := Ideal) c arg2 harg2 x0) (kernelRun0_B.sl.v49 (F := Ideal) c i arg3 harg3 hc2 x1))) (View.readAt (Elt Ideal) arg7.view (Rect.unit (s := S2x128x640) ![1, 0, 0] S1x64x640.size (by decide)).toLoadRect (harg7.unread xs0)) := by
    have e : (kernelRun0_B.sl.v595 (F := Ideal) c i arg2 harg2 arg3 harg3 arg8 hc2 x0 x1) = N640.sub0 (kernelRun0_B.sl.v444 (F := Ideal) c i arg2 harg2 arg3 harg3 hc2 x0 x1) := by
      simp (disch := decide) only [kernelRun0_B.sl.v595, ↓View.readCov_skip, kernelRun0_B.sl.HS1_10, kernelRun0_B.sl.HS1_8, kernelRun0_B.sl.HS1_6]
      apply N640.read_s0
    rw [← sc1, ← e]
    rfl
  have x11 : (kernelRun0_B.sl.v622 (F := Ideal) c i arg2 harg2 arg3 harg3 arg7 harg7 arg8 hc2 x0 x1 xs0) = N640.ex (N640.sub1 (N640.score lanes1 (kernelRun0_B.sl.v422 (F := Ideal) c arg2 harg2 x0) (kernelRun0_B.sl.v49 (F := Ideal) c i arg3 harg3 hc2 x1))) (View.readAt (Elt Ideal) arg7.view (Rect.unit (s := S2x128x640) ![1, 64, 0] S1x64x640.size (by decide)).toLoadRect (harg7.unread xs0)) := by
    have e : (kernelRun0_B.sl.v613 (F := Ideal) c i arg2 harg2 arg3 harg3 arg8 hc2 x0 x1) = N640.sub1 (kernelRun0_B.sl.v444 (F := Ideal) c i arg2 harg2 arg3 harg3 hc2 x0 x1) := by
      simp (disch := decide) only [kernelRun0_B.sl.v613, ↓View.readCov_skip, kernelRun0_B.sl.HS1_10, kernelRun0_B.sl.HS1_8, kernelRun0_B.sl.HS1_6]
      apply N640.read_s1
    rw [← sc1, ← e]
    rfl
  have j1 : (kernelRun0_B.sl.v750 (F := Ideal) c i arg2 harg2 arg3 harg3 arg7 harg7 arg8 arg9 hc2 x0 x1 xs0) = N640.join (N640.st (kernelRun0_B.sl.v604 (F := Ideal) c i arg2 harg2 arg3 harg3 arg7 harg7 arg8 hc2 x0 x1 xs0)) (N640.st (kernelRun0_B.sl.v622 (F := Ideal) c i arg2 harg2 arg3 harg3 arg7 harg7 arg8 hc2 x0 x1 xs0)) := by
    simp (disch := decide) only [kernelRun0_B.sl.v750, ↓View.readCov_skip, kernelRun0_B.sl.HS2_20, kernelRun0_B.sl.HS2_16, kernelRun0_B.sl.HS2_12]
    apply N640.read_e
  unfold N640.chain
  rw [← x00, ← x01, ← x10, ← x11]
  unfold N640.head
  rw [← j0, ← j1]
  rfl

theorem pieceB_4 : kernelRun0_B.sl.v871 (F := Ideal) c i arg2 harg2 arg3 harg3 arg4 harg4 arg7 harg7 arg8 arg9 hc2 x0 x1 x2 xs0 =
    N640.chain (kernelRun0_B.sl.v535 (F := Ideal) c arg2 harg2 x0) (kernelRun0_B.sl.v60 (F := Ideal) c i arg3 harg3 hc2 x1) (kernelRun0_B.sl.v63 (F := Ideal) c i arg4 harg4 hc2 x2)
      (View.readAt (Elt Ideal) arg7.view (Rect.unit (s := S2x128x640) ![0, 0, 0] S1x64x640.size (by decide)).toLoadRect (harg7.unread xs0)) (View.readAt (Elt Ideal) arg7.view (Rect.unit (s := S2x128x640) ![0, 64, 0] S1x64x640.size (by decide)).toLoadRect (harg7.unread xs0))
      (View.readAt (Elt Ideal) arg7.view (Rect.unit (s := S2x128x640) ![1, 0, 0] S1x64x640.size (by decide)).toLoadRect (harg7.unread xs0)) (View.readAt (Elt Ideal) arg7.view (Rect.unit (s := S2x128x640) ![1, 64, 0] S1x64x640.size (by decide)).toLoadRect (harg7.unread xs0)) := by
  have sc0 : (kernelRun0_B.sl.v546 (F := Ideal) c i arg2 harg2 arg3 harg3 hc2 x0 x1) = N640.score lanes0 (kernelRun0_B.sl.v535 (F := Ideal) c arg2 harg2 x0) (kernelRun0_B.sl.v60 (F := Ideal) c i arg3 harg3 hc2 x1) := rfl
  have x00 : (kernelRun0_B.sl.v680 (F := Ideal) c i arg2 harg2 arg3 harg3 arg7 harg7 arg8 hc2 x0 x1 xs0) = N640.ex (N640.sub0 (N640.score lanes0 (kernelRun0_B.sl.v535 (F := Ideal) c arg2 harg2 x0) (kernelRun0_B.sl.v60 (F := Ideal) c i arg3 harg3 hc2 x1))) (View.readAt (Elt Ideal) arg7.view (Rect.unit (s := S2x128x640) ![0, 0, 0] S1x64x640.size (by decide)).toLoadRect (harg7.unread xs0)) := by
    have e : (kernelRun0_B.sl.v671 (F := Ideal) c i arg2 harg2 arg3 harg3 arg8 hc2 x0 x1) = N640.sub0 (kernelRun0_B.sl.v546 (F := Ideal) c i arg2 harg2 arg3 harg3 hc2 x0 x1) := by
      simp (disch := decide) only [kernelRun0_B.sl.v671, ↓View.readCov_skip, kernelRun0_B.sl.HS1_12, kernelRun0_B.sl.HS1_10, kernelRun0_B.sl.HS1_8]
      apply N640.read_s0
    rw [← sc0, ← e]
    rfl
  have x01 : (kernelRun0_B.sl.v698 (F := Ideal) c i arg2 harg2 arg3 harg3 arg7 harg7 arg8 hc2 x0 x1 xs0) = N640.ex (N640.sub1 (N640.score lanes0 (kernelRun0_B.sl.v535 (F := Ideal) c arg2 harg2 x0) (kernelRun0_B.sl.v60 (F := Ideal) c i arg3 harg3 hc2 x1))) (View.readAt (Elt Ideal) arg7.view (Rect.unit (s := S2x128x640) ![0, 64, 0] S1x64x640.size (by decide)).toLoadRect (harg7.unread xs0)) := by
    have e : (kernelRun0_B.sl.v689 (F := Ideal) c i arg2 harg2 arg3 harg3 arg8 hc2 x0 x1) = N640.sub1 (kernelRun0_B.sl.v546 (F := Ideal) c i arg2 harg2 arg3 harg3 hc2 x0 x1) := by
      simp (disch := decide) only [kernelRun0_B.sl.v689, ↓View.readCov_skip, kernelRun0_B.sl.HS1_12, kernelRun0_B.sl.HS1_10, kernelRun0_B.sl.HS1_8]
      apply N640.read_s1
    rw [← sc0, ← e]
    rfl
  have j0 : (kernelRun0_B.sl.v858 (F := Ideal) c i arg2 harg2 arg3 harg3 arg7 harg7 arg8 arg9 hc2 x0 x1 xs0) = N640.join (N640.st (kernelRun0_B.sl.v680 (F := Ideal) c i arg2 harg2 arg3 harg3 arg7 harg7 arg8 hc2 x0 x1 xs0)) (N640.st (kernelRun0_B.sl.v698 (F := Ideal) c i arg2 harg2 arg3 harg3 arg7 harg7 arg8 hc2 x0 x1 xs0)) := by
    simp (disch := decide) only [kernelRun0_B.sl.v858, ↓View.readCov_skip, kernelRun0_B.sl.HS2_24, kernelRun0_B.sl.HS2_20, kernelRun0_B.sl.HS2_16]
    apply N640.read_e
  have sc1 : (kernelRun0_B.sl.v557 (F := Ideal) c i arg2 harg2 arg3 harg3 hc2 x0 x1) = N640.score lanes1 (kernelRun0_B.sl.v535 (F := Ideal) c arg2 harg2 x0) (kernelRun0_B.sl.v60 (F := Ideal) c i arg3 harg3 hc2 x1) := rfl
  have x10 : (kernelRun0_B.sl.v717 (F := Ideal) c i arg2 harg2 arg3 harg3 arg7 harg7 arg8 hc2 x0 x1 xs0) = N640.ex (N640.sub0 (N640.score lanes1 (kernelRun0_B.sl.v535 (F := Ideal) c arg2 harg2 x0) (kernelRun0_B.sl.v60 (F := Ideal) c i arg3 harg3 hc2 x1))) (View.readAt (Elt Ideal) arg7.view (Rect.unit (s := S2x128x640) ![1, 0, 0] S1x64x640.size (by decide)).toLoadRect (harg7.unread xs0)) := by
    have e : (kernelRun0_B.sl.v708 (F := Ideal) c i arg2 harg2 arg3 harg3 arg8 hc2 x0 x1) = N640.sub0 (kernelRun0_B.sl.v557 (F := Ideal) c i arg2 harg2 arg3 harg3 hc2 x0 x1) := by
      simp (disch := decide) only [kernelRun0_B.sl.v708, ↓View.readCov_skip, kernelRun0_B.sl.HS1_12, kernelRun0_B.sl.HS1_10, kernelRun0_B.sl.HS1_8]
      apply N640.read_s0
    rw [← sc1, ← e]
    rfl
  have x11 : (kernelRun0_B.sl.v735 (F := Ideal) c i arg2 harg2 arg3 harg3 arg7 harg7 arg8 hc2 x0 x1 xs0) = N640.ex (N640.sub1 (N640.score lanes1 (kernelRun0_B.sl.v535 (F := Ideal) c arg2 harg2 x0) (kernelRun0_B.sl.v60 (F := Ideal) c i arg3 harg3 hc2 x1))) (View.readAt (Elt Ideal) arg7.view (Rect.unit (s := S2x128x640) ![1, 64, 0] S1x64x640.size (by decide)).toLoadRect (harg7.unread xs0)) := by
    have e : (kernelRun0_B.sl.v726 (F := Ideal) c i arg2 harg2 arg3 harg3 arg8 hc2 x0 x1) = N640.sub1 (kernelRun0_B.sl.v557 (F := Ideal) c i arg2 harg2 arg3 harg3 hc2 x0 x1) := by
      simp (disch := decide) only [kernelRun0_B.sl.v726, ↓View.readCov_skip, kernelRun0_B.sl.HS1_12, kernelRun0_B.sl.HS1_10, kernelRun0_B.sl.HS1_8]
      apply N640.read_s1
    rw [← sc1, ← e]
    rfl
  have j1 : (kernelRun0_B.sl.v863 (F := Ideal) c i arg2 harg2 arg3 harg3 arg7 harg7 arg8 arg9 hc2 x0 x1 xs0) = N640.join (N640.st (kernelRun0_B.sl.v717 (F := Ideal) c i arg2 harg2 arg3 harg3 arg7 harg7 arg8 hc2 x0 x1 xs0)) (N640.st (kernelRun0_B.sl.v735 (F := Ideal) c i arg2 harg2 arg3 harg3 arg7 harg7 arg8 hc2 x0 x1 xs0)) := by
    simp (disch := decide) only [kernelRun0_B.sl.v863, ↓View.readCov_skip, kernelRun0_B.sl.HS2_24, kernelRun0_B.sl.HS2_20, kernelRun0_B.sl.HS2_16]
    apply N640.read_e
  unfold N640.chain
  rw [← x00, ← x01, ← x10, ← x11]
  unfold N640.head
  rw [← j0, ← j1]
  rfl

theorem pieceB_5 : kernelRun0_B.sl.v984 (F := Ideal) c i arg2 harg2 arg3 harg3 arg4 harg4 arg7 harg7 arg8 arg9 hc2 x0 x1 x2 xs0 =
    N640.chain (kernelRun0_B.sl.v648 (F := Ideal) c arg2 harg2 x0) (kernelRun0_B.sl.v71 (F := Ideal) c i arg3 harg3 hc2 x1) (kernelRun0_B.sl.v74 (F := Ideal) c i arg4 harg4 hc2 x2)
      (View.readAt (Elt Ideal) arg7.view (Rect.unit (s := S2x128x640) ![0, 0, 0] S1x64x640.size (by decide)).toLoadRect (harg7.unread xs0)) (View.readAt (Elt Ideal) arg7.view (Rect.unit (s := S2x128x640) ![0, 64, 0] S1x64x640.size (by decide)).toLoadRect (harg7.unread xs0))
      (View.readAt (Elt Ideal) arg7.view (Rect.unit (s := S2x128x640) ![1, 0, 0] S1x64x640.size (by decide)).toLoadRect (harg7.unread xs0)) (View.readAt (Elt Ideal) arg7.view (Rect.unit (s := S2x128x640) ![1, 64, 0] S1x64x640.size (by decide)).toLoadRect (harg7.unread xs0)) := by
  have sc0 : (kernelRun0_B.sl.v659 (F := Ideal) c i arg2 harg2 arg3 harg3 hc2 x0 x1) = N640.score lanes0 (kernelRun0_B.sl.v648 (F := Ideal) c arg2 harg2 x0) (kernelRun0_B.sl.v71 (F := Ideal) c i arg3 harg3 hc2 x1) := rfl
  have x00 : (kernelRun0_B.sl.v793 (F := Ideal) c i arg2 harg2 arg3 harg3 arg7 harg7 arg8 hc2 x0 x1 xs0) = N640.ex (N640.sub0 (N640.score lanes0 (kernelRun0_B.sl.v648 (F := Ideal) c arg2 harg2 x0) (kernelRun0_B.sl.v71 (F := Ideal) c i arg3 harg3 hc2 x1))) (View.readAt (Elt Ideal) arg7.view (Rect.unit (s := S2x128x640) ![0, 0, 0] S1x64x640.size (by decide)).toLoadRect (harg7.unread xs0)) := by
    have e : (kernelRun0_B.sl.v784 (F := Ideal) c i arg2 harg2 arg3 harg3 arg8 hc2 x0 x1) = N640.sub0 (kernelRun0_B.sl.v659 (F := Ideal) c i arg2 harg2 arg3 harg3 hc2 x0 x1) := by
      simp (disch := decide) only [kernelRun0_B.sl.v784, ↓View.readCov_skip, kernelRun0_B.sl.HS1_14, kernelRun0_B.sl.HS1_12, kernelRun0_B.sl.HS1_10]
      apply N640.read_s0
    rw [← sc0, ← e]
    rfl
  have x01 : (kernelRun0_B.sl.v811 (F := Ideal) c i arg2 harg2 arg3 harg3 arg7 harg7 arg8 hc2 x0 x1 xs0) = N640.ex (N640.sub1 (N640.score lanes0 (kernelRun0_B.sl.v648 (F := Ideal) c arg2 harg2 x0) (kernelRun0_B.sl.v71 (F := Ideal) c i arg3 harg3 hc2 x1))) (View.readAt (Elt Ideal) arg7.view (Rect.unit (s := S2x128x640) ![0, 64, 0] S1x64x640.size (by decide)).toLoadRect (harg7.unread xs0)) := by
    have e : (kernelRun0_B.sl.v802 (F := Ideal) c i arg2 harg2 arg3 harg3 arg8 hc2 x0 x1) = N640.sub1 (kernelRun0_B.sl.v659 (F := Ideal) c i arg2 harg2 arg3 harg3 hc2 x0 x1) := by
      simp (disch := decide) only [kernelRun0_B.sl.v802, ↓View.readCov_skip, kernelRun0_B.sl.HS1_14, kernelRun0_B.sl.HS1_12, kernelRun0_B.sl.HS1_10]
      apply N640.read_s1
    rw [← sc0, ← e]
    rfl
  have j0 : (kernelRun0_B.sl.v971 (F := Ideal) c i arg2 harg2 arg3 harg3 arg7 harg7 arg8 arg9 hc2 x0 x1 xs0) = N640.join (N640.st (kernelRun0_B.sl.v793 (F := Ideal) c i arg2 harg2 arg3 harg3 arg7 harg7 arg8 hc2 x0 x1 xs0)) (N640.st (kernelRun0_B.sl.v811 (F := Ideal) c i arg2 harg2 arg3 harg3 arg7 harg7 arg8 hc2 x0 x1 xs0)) := by
    simp (disch := decide) only [kernelRun0_B.sl.v971, ↓View.readCov_skip, kernelRun0_B.sl.HS2_28, kernelRun0_B.sl.HS2_24, kernelRun0_B.sl.HS2_20]
    apply N640.read_e
  have sc1 : (kernelRun0_B.sl.v670 (F := Ideal) c i arg2 harg2 arg3 harg3 hc2 x0 x1) = N640.score lanes1 (kernelRun0_B.sl.v648 (F := Ideal) c arg2 harg2 x0) (kernelRun0_B.sl.v71 (F := Ideal) c i arg3 harg3 hc2 x1) := rfl
  have x10 : (kernelRun0_B.sl.v830 (F := Ideal) c i arg2 harg2 arg3 harg3 arg7 harg7 arg8 hc2 x0 x1 xs0) = N640.ex (N640.sub0 (N640.score lanes1 (kernelRun0_B.sl.v648 (F := Ideal) c arg2 harg2 x0) (kernelRun0_B.sl.v71 (F := Ideal) c i arg3 harg3 hc2 x1))) (View.readAt (Elt Ideal) arg7.view (Rect.unit (s := S2x128x640) ![1, 0, 0] S1x64x640.size (by decide)).toLoadRect (harg7.unread xs0)) := by
    have e : (kernelRun0_B.sl.v821 (F := Ideal) c i arg2 harg2 arg3 harg3 arg8 hc2 x0 x1) = N640.sub0 (kernelRun0_B.sl.v670 (F := Ideal) c i arg2 harg2 arg3 harg3 hc2 x0 x1) := by
      simp (disch := decide) only [kernelRun0_B.sl.v821, ↓View.readCov_skip, kernelRun0_B.sl.HS1_14, kernelRun0_B.sl.HS1_12, kernelRun0_B.sl.HS1_10]
      apply N640.read_s0
    rw [← sc1, ← e]
    rfl
  have x11 : (kernelRun0_B.sl.v848 (F := Ideal) c i arg2 harg2 arg3 harg3 arg7 harg7 arg8 hc2 x0 x1 xs0) = N640.ex (N640.sub1 (N640.score lanes1 (kernelRun0_B.sl.v648 (F := Ideal) c arg2 harg2 x0) (kernelRun0_B.sl.v71 (F := Ideal) c i arg3 harg3 hc2 x1))) (View.readAt (Elt Ideal) arg7.view (Rect.unit (s := S2x128x640) ![1, 64, 0] S1x64x640.size (by decide)).toLoadRect (harg7.unread xs0)) := by
    have e : (kernelRun0_B.sl.v839 (F := Ideal) c i arg2 harg2 arg3 harg3 arg8 hc2 x0 x1) = N640.sub1 (kernelRun0_B.sl.v670 (F := Ideal) c i arg2 harg2 arg3 harg3 hc2 x0 x1) := by
      simp (disch := decide) only [kernelRun0_B.sl.v839, ↓View.readCov_skip, kernelRun0_B.sl.HS1_14, kernelRun0_B.sl.HS1_12, kernelRun0_B.sl.HS1_10]
      apply N640.read_s1
    rw [← sc1, ← e]
    rfl
  have j1 : (kernelRun0_B.sl.v976 (F := Ideal) c i arg2 harg2 arg3 harg3 arg7 harg7 arg8 arg9 hc2 x0 x1 xs0) = N640.join (N640.st (kernelRun0_B.sl.v830 (F := Ideal) c i arg2 harg2 arg3 harg3 arg7 harg7 arg8 hc2 x0 x1 xs0)) (N640.st (kernelRun0_B.sl.v848 (F := Ideal) c i arg2 harg2 arg3 harg3 arg7 harg7 arg8 hc2 x0 x1 xs0)) := by
    simp (disch := decide) only [kernelRun0_B.sl.v976, ↓View.readCov_skip, kernelRun0_B.sl.HS2_28, kernelRun0_B.sl.HS2_24, kernelRun0_B.sl.HS2_20]
    apply N640.read_e
  unfold N640.chain
  rw [← x00, ← x01, ← x10, ← x11]
  unfold N640.head
  rw [← j0, ← j1]
  rfl

theorem pieceB_6 : kernelRun0_B.sl.v1097 (F := Ideal) c i arg2 harg2 arg3 harg3 arg4 harg4 arg7 harg7 arg8 arg9 hc2 x0 x1 x2 xs0 =
    N640.chain (kernelRun0_B.sl.v761 (F := Ideal) c arg2 harg2 x0) (kernelRun0_B.sl.v82 (F := Ideal) c i arg3 harg3 hc2 x1) (kernelRun0_B.sl.v85 (F := Ideal) c i arg4 harg4 hc2 x2)
      (View.readAt (Elt Ideal) arg7.view (Rect.unit (s := S2x128x640) ![0, 0, 0] S1x64x640.size (by decide)).toLoadRect (harg7.unread xs0)) (View.readAt (Elt Ideal) arg7.view (Rect.unit (s := S2x128x640) ![0, 64, 0] S1x64x640.size (by decide)).toLoadRect (harg7.unread xs0))
      (View.readAt (Elt Ideal) arg7.view (Rect.unit (s := S2x128x640) ![1, 0, 0] S1x64x640.size (by decide)).toLoadRect (harg7.unread xs0)) (View.readAt (Elt Ideal) arg7.view (Rect.unit (s := S2x128x640) ![1, 64, 0] S1x64x640.size (by decide)).toLoadRect (harg7.unread xs0)) := by
  have sc0 : (kernelRun0_B.sl.v772 (F := Ideal) c i arg2 harg2 arg3 harg3 hc2 x0 x1) = N640.score lanes0 (kernelRun0_B.sl.v761 (F := Ideal) c arg2 harg2 x0) (kernelRun0_B.sl.v82 (F := Ideal) c i arg3 harg3 hc2 x1) := rfl
  have x00 : (kernelRun0_B.sl.v906 (F := Ideal) c i arg2 harg2 arg3 harg3 arg7 harg7 arg8 hc2 x0 x1 xs0) = N640.ex (N640.sub0 (N640.score lanes0 (kernelRun0_B.sl.v761 (F := Ideal) c arg2 harg2 x0) (kernelRun0_B.sl.v82 (F := Ideal) c i arg3 harg3 hc2 x1))) (View.readAt (Elt Ideal) arg7.view (Rect.unit (s := S2x128x640) ![0, 0, 0] S1x64x640.size (by decide)).toLoadRect (harg7.unread xs0)) := by
    have e : (kernelRun0_B.sl.v897 (F := Ideal) c i arg2 harg2 arg3 harg3 arg8 hc2 x0 x1) = N640.sub0 (kernelRun0_B.sl.v772 (F := Ideal) c i arg2 harg2 arg3 harg3 hc2 x0 x1) := by
      simp (disch := decide) only [kernelRun0_B.sl.v897, ↓View.readCov_skip, kernelRun0_B.sl.HS1_16, kernelRun0_B.sl.HS1_14, kernelRun0_B.sl.HS1_12]
      apply N640.read_s0
    rw [← sc0, ← e]
    rfl
  have x01 : (kernelRun0_B.sl.v924 (F := Ideal) c i arg2 harg2 arg3 harg3 arg7 harg7 arg8 hc2 x0 x1 xs0) = N640.ex (N640.sub1 (N640.score lanes0 (kernelRun0_B.sl.v761 (F := Ideal) c arg2 harg2 x0) (kernelRun0_B.sl.v82 (F := Ideal) c i arg3 harg3 hc2 x1))) (View.readAt (Elt Ideal) arg7.view (Rect.unit (s := S2x128x640) ![0, 64, 0] S1x64x640.size (by decide)).toLoadRect (harg7.unread xs0)) := by
    have e : (kernelRun0_B.sl.v915 (F := Ideal) c i arg2 harg2 arg3 harg3 arg8 hc2 x0 x1) = N640.sub1 (kernelRun0_B.sl.v772 (F := Ideal) c i arg2 harg2 arg3 harg3 hc2 x0 x1) := by
      simp (disch := decide) only [kernelRun0_B.sl.v915, ↓View.readCov_skip, kernelRun0_B.sl.HS1_16, kernelRun0_B.sl.HS1_14, kernelRun0_B.sl.HS1_12]
      apply N640.read_s1
    rw [← sc0, ← e]
    rfl
  have j0 : (kernelRun0_B.sl.v1084 (F := Ideal) c i arg2 harg2 arg3 harg3 arg7 harg7 arg8 arg9 hc2 x0 x1 xs0) = N640.join (N640.st (kernelRun0_B.sl.v906 (F := Ideal) c i arg2 harg2 arg3 harg3 arg7 harg7 arg8 hc2 x0 x1 xs0)) (N640.st (kernelRun0_B.sl.v924 (F := Ideal) c i arg2 harg2 arg3 harg3 arg7 harg7 arg8 hc2 x0 x1 xs0)) := by
    simp (disch := decide) only [kernelRun0_B.sl.v1084, ↓View.readCov_skip, kernelRun0_B.sl.HS2_32, kernelRun0_B.sl.HS2_28, kernelRun0_B.sl.HS2_24]
    apply N640.read_e
  have sc1 : (kernelRun0_B.sl.v783 (F := Ideal) c i arg2 harg2 arg3 harg3 hc2 x0 x1) = N640.score lanes1 (kernelRun0_B.sl.v761 (F := Ideal) c arg2 harg2 x0) (kernelRun0_B.sl.v82 (F := Ideal) c i arg3 harg3 hc2 x1) := rfl
  have x10 : (kernelRun0_B.sl.v943 (F := Ideal) c i arg2 harg2 arg3 harg3 arg7 harg7 arg8 hc2 x0 x1 xs0) = N640.ex (N640.sub0 (N640.score lanes1 (kernelRun0_B.sl.v761 (F := Ideal) c arg2 harg2 x0) (kernelRun0_B.sl.v82 (F := Ideal) c i arg3 harg3 hc2 x1))) (View.readAt (Elt Ideal) arg7.view (Rect.unit (s := S2x128x640) ![1, 0, 0] S1x64x640.size (by decide)).toLoadRect (harg7.unread xs0)) := by
    have e : (kernelRun0_B.sl.v934 (F := Ideal) c i arg2 harg2 arg3 harg3 arg8 hc2 x0 x1) = N640.sub0 (kernelRun0_B.sl.v783 (F := Ideal) c i arg2 harg2 arg3 harg3 hc2 x0 x1) := by
      simp (disch := decide) only [kernelRun0_B.sl.v934, ↓View.readCov_skip, kernelRun0_B.sl.HS1_16, kernelRun0_B.sl.HS1_14, kernelRun0_B.sl.HS1_12]
      apply N640.read_s0
    rw [← sc1, ← e]
    rfl
  have x11 : (kernelRun0_B.sl.v961 (F := Ideal) c i arg2 harg2 arg3 harg3 arg7 harg7 arg8 hc2 x0 x1 xs0) = N640.ex (N640.sub1 (N640.score lanes1 (kernelRun0_B.sl.v761 (F := Ideal) c arg2 harg2 x0) (kernelRun0_B.sl.v82 (F := Ideal) c i arg3 harg3 hc2 x1))) (View.readAt (Elt Ideal) arg7.view (Rect.unit (s := S2x128x640) ![1, 64, 0] S1x64x640.size (by decide)).toLoadRect (harg7.unread xs0)) := by
    have e : (kernelRun0_B.sl.v952 (F := Ideal) c i arg2 harg2 arg3 harg3 arg8 hc2 x0 x1) = N640.sub1 (kernelRun0_B.sl.v783 (F := Ideal) c i arg2 harg2 arg3 harg3 hc2 x0 x1) := by
      simp (disch := decide) only [kernelRun0_B.sl.v952, ↓View.readCov_skip, kernelRun0_B.sl.HS1_16, kernelRun0_B.sl.HS1_14, kernelRun0_B.sl.HS1_12]
      apply N640.read_s1
    rw [← sc1, ← e]
    rfl
  have j1 : (kernelRun0_B.sl.v1089 (F := Ideal) c i arg2 harg2 arg3 harg3 arg7 harg7 arg8 arg9 hc2 x0 x1 xs0) = N640.join (N640.st (kernelRun0_B.sl.v943 (F := Ideal) c i arg2 harg2 arg3 harg3 arg7 harg7 arg8 hc2 x0 x1 xs0)) (N640.st (kernelRun0_B.sl.v961 (F := Ideal) c i arg2 harg2 arg3 harg3 arg7 harg7 arg8 hc2 x0 x1 xs0)) := by
    simp (disch := decide) only [kernelRun0_B.sl.v1089, ↓View.readCov_skip, kernelRun0_B.sl.HS2_32, kernelRun0_B.sl.HS2_28, kernelRun0_B.sl.HS2_24]
    apply N640.read_e
  unfold N640.chain
  rw [← x00, ← x01, ← x10, ← x11]
  unfold N640.head
  rw [← j0, ← j1]
  rfl

theorem pieceB_7 : kernelRun0_B.sl.v1210 (F := Ideal) c i arg2 harg2 arg3 harg3 arg4 harg4 arg7 harg7 arg8 arg9 hc2 x0 x1 x2 xs0 =
    N640.chain (kernelRun0_B.sl.v874 (F := Ideal) c arg2 harg2 x0) (kernelRun0_B.sl.v93 (F := Ideal) c i arg3 harg3 hc2 x1) (kernelRun0_B.sl.v96 (F := Ideal) c i arg4 harg4 hc2 x2)
      (View.readAt (Elt Ideal) arg7.view (Rect.unit (s := S2x128x640) ![0, 0, 0] S1x64x640.size (by decide)).toLoadRect (harg7.unread xs0)) (View.readAt (Elt Ideal) arg7.view (Rect.unit (s := S2x128x640) ![0, 64, 0] S1x64x640.size (by decide)).toLoadRect (harg7.unread xs0))
      (View.readAt (Elt Ideal) arg7.view (Rect.unit (s := S2x128x640) ![1, 0, 0] S1x64x640.size (by decide)).toLoadRect (harg7.unread xs0)) (View.readAt (Elt Ideal) arg7.view (Rect.unit (s := S2x128x640) ![1, 64, 0] S1x64x640.size (by decide)).toLoadRect (harg7.unread xs0)) := by
  have sc0 : (kernelRun0_B.sl.v885 (F := Ideal) c i arg2 harg2 arg3 harg3 hc2 x0 x1) = N640.score lanes0 (kernelRun0_B.sl.v874 (F := Ideal) c arg2 harg2 x0) (kernelRun0_B.sl.v93 (F := Ideal) c i arg3 harg3 hc2 x1) := rfl
  have x00 : (kernelRun0_B.sl.v1019 (F := Ideal) c i arg2 harg2 arg3 harg3 arg7 harg7 arg8 hc2 x0 x1 xs0) = N640.ex (N640.sub0 (N640.score lanes0 (kernelRun0_B.sl.v874 (F := Ideal) c arg2 harg2 x0) (kernelRun0_B.sl.v93 (F := Ideal) c i arg3 harg3 hc2 x1))) (View.readAt (Elt Ideal) arg7.view (Rect.unit (s := S2x128x640) ![0, 0, 0] S1x64x640.size (by decide)).toLoadRect (harg7.unread xs0)) := by
    have e : (kernelRun0_B.sl.v1010 (F := Ideal) c i arg2 harg2 arg3 harg3 arg8 hc2 x0 x1) = N640.sub0 (kernelRun0_B.sl.v885 (F := Ideal) c i arg2 harg2 arg3 harg3 hc2 x0 x1) := by
      simp (disch := decide) only [kernelRun0_B.sl.v1010, ↓View.readCov_skip, kernelRun0_B.sl.HS1_18, kernelRun0_B.sl.HS1_16, kernelRun0_B.sl.HS1_14]
      apply N640.read_s0
    rw [← sc0, ← e]
    rfl
  have x01 : (kernelRun0_B.sl.v1037 (F := Ideal) c i arg2 harg2 arg3 harg3 arg7 harg7 arg8 hc2 x0 x1 xs0) = N640.ex (N640.sub1 (N640.score lanes0 (kernelRun0_B.sl.v874 (F := Ideal) c arg2 harg2 x0) (kernelRun0_B.sl.v93 (F := Ideal) c i arg3 harg3 hc2 x1))) (View.readAt (Elt Ideal) arg7.view (Rect.unit (s := S2x128x640) ![0, 64, 0] S1x64x640.size (by decide)).toLoadRect (harg7.unread xs0)) := by
    have e : (kernelRun0_B.sl.v1028 (F := Ideal) c i arg2 harg2 arg3 harg3 arg8 hc2 x0 x1) = N640.sub1 (kernelRun0_B.sl.v885 (F := Ideal) c i arg2 harg2 arg3 harg3 hc2 x0 x1) := by
      simp (disch := decide) only [kernelRun0_B.sl.v1028, ↓View.readCov_skip, kernelRun0_B.sl.HS1_18, kernelRun0_B.sl.HS1_16, kernelRun0_B.sl.HS1_14]
      apply N640.read_s1
    rw [← sc0, ← e]
    rfl
  have j0 : (kernelRun0_B.sl.v1197 (F := Ideal) c i arg2 harg2 arg3 harg3 arg7 harg7 arg8 arg9 hc2 x0 x1 xs0) = N640.join (N640.st (kernelRun0_B.sl.v1019 (F := Ideal) c i arg2 harg2 arg3 harg3 arg7 harg7 arg8 hc2 x0 x1 xs0)) (N640.st (kernelRun0_B.sl.v1037 (F := Ideal) c i arg2 harg2 arg3 harg3 arg7 harg7 arg8 hc2 x0 x1 xs0)) := by
    simp (disch := decide) only [kernelRun0_B.sl.v1197, ↓View.readCov_skip, kernelRun0_B.sl.HS2_36, kernelRun0_B.sl.HS2_32, kernelRun0_B.sl.HS2_28]
    apply N640.read_e
  have sc1 : (kernelRun0_B.sl.v896 (F := Ideal) c i arg2 harg2 arg3 harg3 hc2 x0 x1) = N640.score lanes1 (kernelRun0_B.sl.v874 (F := Ideal) c arg2 harg2 x0) (kernelRun0_B.sl.v93 (F := Ideal) c i arg3 harg3 hc2 x1) := rfl
  have x10 : (kernelRun0_B.sl.v1056 (F := Ideal) c i arg2 harg2 arg3 harg3 arg7 harg7 arg8 hc2 x0 x1 xs0) = N640.ex (N640.sub0 (N640.score lanes1 (kernelRun0_B.sl.v874 (F := Ideal) c arg2 harg2 x0) (kernelRun0_B.sl.v93 (F := Ideal) c i arg3 harg3 hc2 x1))) (View.readAt (Elt Ideal) arg7.view (Rect.unit (s := S2x128x640) ![1, 0, 0] S1x64x640.size (by decide)).toLoadRect (harg7.unread xs0)) := by
    have e : (kernelRun0_B.sl.v1047 (F := Ideal) c i arg2 harg2 arg3 harg3 arg8 hc2 x0 x1) = N640.sub0 (kernelRun0_B.sl.v896 (F := Ideal) c i arg2 harg2 arg3 harg3 hc2 x0 x1) := by
      simp (disch := decide) only [kernelRun0_B.sl.v1047, ↓View.readCov_skip, kernelRun0_B.sl.HS1_18, kernelRun0_B.sl.HS1_16, kernelRun0_B.sl.HS1_14]
      apply N640.read_s0
    rw [← sc1, ← e]
    rfl
  have x11 : (kernelRun0_B.sl.v1074 (F := Ideal) c i arg2 harg2 arg3 harg3 arg7 harg7 arg8 hc2 x0 x1 xs0) = N640.ex (N640.sub1 (N640.score lanes1 (kernelRun0_B.sl.v874 (F := Ideal) c arg2 harg2 x0) (kernelRun0_B.sl.v93 (F := Ideal) c i arg3 harg3 hc2 x1))) (View.readAt (Elt Ideal) arg7.view (Rect.unit (s := S2x128x640) ![1, 64, 0] S1x64x640.size (by decide)).toLoadRect (harg7.unread xs0)) := by
    have e : (kernelRun0_B.sl.v1065 (F := Ideal) c i arg2 harg2 arg3 harg3 arg8 hc2 x0 x1) = N640.sub1 (kernelRun0_B.sl.v896 (F := Ideal) c i arg2 harg2 arg3 harg3 hc2 x0 x1) := by
      simp (disch := decide) only [kernelRun0_B.sl.v1065, ↓View.readCov_skip, kernelRun0_B.sl.HS1_18, kernelRun0_B.sl.HS1_16, kernelRun0_B.sl.HS1_14]
      apply N640.read_s1
    rw [← sc1, ← e]
    rfl
  have j1 : (kernelRun0_B.sl.v1202 (F := Ideal) c i arg2 harg2 arg3 harg3 arg7 harg7 arg8 arg9 hc2 x0 x1 xs0) = N640.join (N640.st (kernelRun0_B.sl.v1056 (F := Ideal) c i arg2 harg2 arg3 harg3 arg7 harg7 arg8 hc2 x0 x1 xs0)) (N640.st (kernelRun0_B.sl.v1074 (F := Ideal) c i arg2 harg2 arg3 harg3 arg7 harg7 arg8 hc2 x0 x1 xs0)) := by
    simp (disch := decide) only [kernelRun0_B.sl.v1202, ↓View.readCov_skip, kernelRun0_B.sl.HS2_36, kernelRun0_B.sl.HS2_32, kernelRun0_B.sl.HS2_28]
    apply N640.read_e
  unfold N640.chain
  rw [← x00, ← x01, ← x10, ← x11]
  unfold N640.head
  rw [← j0, ← j1]
  rfl

end Cert.Proof
-- ==== Proof.Attn.PairsB2.lean ====
module
public import proofs.«01_k».proof.Proof.Attn.Chain

/-! What each pair of chunks stores at a later block of a head pair: the pair function of its loads. -/

@[expose] public section
set_option maxRecDepth 16384
noncomputable section
namespace Cert.Proof
open Cert.KernelIdeal Cert.KernelIdeal.Gen Idealize.ShloMosaic Idealize.ShloMosaic.TcCoe Idealize.SL.Sem

variable (c : Dev nD) (i : grid0.Coords)
  (arg2 : Memref sig .tc .vmem S2048x128 .bf16) (harg2 : arg2.IsWhole)
  (arg3 : Memref sig .tc .vmem S8192x128 .bf16) (harg3 : arg3.IsWhole)
  (arg4 : Memref sig .tc .vmem S8192x128 .bf16) (harg4 : arg4.IsWhole)
  (arg5 : Memref sig .tc .vmem S2x1x640 .f32) (harg5 : arg5.IsWhole)
  (arg7 : Memref sig .tc .vmem S2x128x640 .f32) (harg7 : arg7.IsWhole)
  (arg8 : Memref sig .tc .vmem S32x128x640 .f32) (arg9 : Memref sig .tc .vmem S32x128x640 .bf16)
  (hc0 : ¬cond0_0 i) (hc1 : ¬cond0_1 i) (hc2 : cond0_2 i)
  (x0 : Vec Ideal S2048x128 .bf16) (x1 x2 : Vec Ideal S8192x128 .bf16) (x3 : Vec Ideal S2x1x640 .f32)
  (xs0 : Vec Ideal S2x128x640 .f32)

theorem pieceB_8 : kernelRun0_B.sl.v1323 (F := Ideal) c i arg2 harg2 arg3 harg3 arg4 harg4 arg7 harg7 arg8 arg9 hc2 x0 x1 x2 xs0 =
    N640.chain (kernelRun0_B.sl.v987 (F := Ideal) c arg2 harg2 x0) (kernelRun0_B.sl.v104 (F := Ideal) c i arg3 harg3 hc2 x1) (kernelRun0_B.sl.v107 (F := Ideal) c i arg4 harg4 hc2 x2)
      (View.readAt (Elt Ideal) arg7.view (Rect.unit (s := S2x128x640) ![0, 0, 0] S1x64x640.size (by decide)).toLoadRect (harg7.unread xs0)) (View.readAt (Elt Ideal) arg7.view (Rect.unit (s := S2x128x640) ![0, 64, 0] S1x64x640.size (by decide)).toLoadRect (harg7.unread xs0))
      (View.readAt (Elt Ideal) arg7.view (Rect.unit (s := S2x128x640) ![1, 0, 0] S1x64x640.size (by decide)).toLoadRect (harg7.unread xs0)) (View.readAt (Elt Ideal) arg7.view (Rect.unit (s := S2x128x640) ![1, 64, 0] S1x64x640.size (by decide)).toLoadRect (harg7.unread xs0)) := by
  have sc0 : (kernelRun0_B.sl.v998 (F := Ideal) c i arg2 harg2 arg3 harg3 hc2 x0 x1) = N640.score lanes0 (kernelRun0_B.sl.v987 (F := Ideal) c arg2 harg2 x0) (kernelRun0_B.sl.v104 (F := Ideal) c i arg3 harg3 hc2 x1) := rfl
  have x00 : (kernelRun0_B.sl.v1132 (F := Ideal) c i arg2 harg2 arg3 harg3 arg7 harg7 arg8 hc2 x0 x1 xs0) = N640.ex (N640.sub0 (N640.score lanes0 (kernelRun0_B.sl.v987 (F := Ideal) c arg2 harg2 x0) (kernelRun0_B.sl.v104 (F := Ideal) c i arg3 harg3 hc2 x1))) (View.readAt (Elt Ideal) arg7.view (Rect.unit (s := S2x128x640) ![0, 0, 0] S1x64x640.size (by decide)).toLoadRect (harg7.unread xs0)) := by
    have e : (kernelRun0_B.sl.v1123 (F := Ideal) c i arg2 harg2 arg3 harg3 arg8 hc2 x0 x1) = N640.sub0 (kernelRun0_B.sl.v998 (F := Ideal) c i arg2 harg2 arg3 harg3 hc2 x0 x1) := by
      simp (disch := decide) only [kernelRun0_B.sl.v1123, ↓View.readCov_skip, kernelRun0_B.sl.HS1_20, kernelRun0_B.sl.HS1_18, kernelRun0_B.sl.HS1_16]
      apply N640.read_s0
    rw [← sc0, ← e]
    rfl
  have x01 : (kernelRun0_B.sl.v1150 (F := Ideal) c i arg2 harg2 arg3 harg3 arg7 harg7 arg8 hc2 x0 x1 xs0) = N640.ex (N640.sub1 (N640.score lanes0 (kernelRun0_B.sl.v987 (F := Ideal) c arg2 harg2 x0) (kernelRun0_B.sl.v104 (F := Ideal) c i arg3 harg3 hc2 x1))) (View.readAt (Elt Ideal) arg7.view (Rect.unit (s := S2x128x640) ![0, 64, 0] S1x64x640.size (by decide)).toLoadRect (harg7.unread xs0)) := by
    have e : (kernelRun0_B.sl.v1141 (F := Ideal) c i arg2 harg2 arg3 harg3 arg8 hc2 x0 x1) = N640.sub1 (kernelRun0_B.sl.v998 (F := Ideal) c i arg2 harg2 arg3 harg3 hc2 x0 x1) := by
      simp (disch := decide) only [kernelRun0_B.sl.v1141, ↓View.readCov_skip, kernelRun0_B.sl.HS1_20, kernelRun0_B.sl.HS1_18, kernelRun0_B.sl.HS1_16]
      apply N640.read_s1
    rw [← sc0, ← e]
    rfl
  have j0 : (kernelRun0_B.sl.v1310 (F := Ideal) c i arg2 harg2 arg3 harg3 arg7 harg7 arg8 arg9 hc2 x0 x1 xs0) = N640.join (N640.st (kernelRun0_B.sl.v1132 (F := Ideal) c i arg2 harg2 arg3 harg3 arg7 harg7 arg8 hc2 x0 x1 xs0)) (N640.st (kernelRun0_B.sl.v1150 (F := Ideal) c i arg2 harg2 arg3 harg3 arg7 harg7 arg8 hc2 x0 x1 xs0)) := by
    simp (disch := decide) only [kernelRun0_B.sl.v1310, ↓View.readCov_skip, kernelRun0_B.sl.HS2_40, kernelRun0_B.sl.HS2_36, kernelRun0_B.sl.HS2_32]
    apply N640.read_e
  have sc1 : (kernelRun0_B.sl.v1009 (F := Ideal) c i arg2 harg2 arg3 harg3 hc2 x0 x1) = N640.score lanes1 (kernelRun0_B.sl.v987 (F := Ideal) c arg2 harg2 x0) (kernelRun0_B.sl.v104 (F := Ideal) c i arg3 harg3 hc2 x1) := rfl
  have x10 : (kernelRun0_B.sl.v1169 (F := Ideal) c i arg2 harg2 arg3 harg3 arg7 harg7 arg8 hc2 x0 x1 xs0) = N640.ex (N640.sub0 (N640.score lanes1 (kernelRun0_B.sl.v987 (F := Ideal) c arg2 harg2 x0) (kernelRun0_B.sl.v104 (F := Ideal) c i arg3 harg3 hc2 x1))) (View.readAt (Elt Ideal) arg7.view (Rect.unit (s := S2x128x640) ![1, 0, 0] S1x64x640.size (by decide)).toLoadRect (harg7.unread xs0)) := by
    have e : (kernelRun0_B.sl.v1160 (F := Ideal) c i arg2 harg2 arg3 harg3 arg8 hc2 x0 x1) = N640.sub0 (kernelRun0_B.sl.v1009 (F := Ideal) c i arg2 harg2 arg3 harg3 hc2 x0 x1) := by
      simp (disch := decide) only [kernelRun0_B.sl.v1160, ↓View.readCov_skip, kernelRun0_B.sl.HS1_20, kernelRun0_B.sl.HS1_18, kernelRun0_B.sl.HS1_16]
      apply N640.read_s0
    rw [← sc1, ← e]
    rfl
  have x11 : (kernelRun0_B.sl.v1187 (F := Ideal) c i arg2 harg2 arg3 harg3 arg7 harg7 arg8 hc2 x0 x1 xs0) = N640.ex (N640.sub1 (N640.score lanes1 (kernelRun0_B.sl.v987 (F := Ideal) c arg2 harg2 x0) (kernelRun0_B.sl.v104 (F := Ideal) c i arg3 harg3 hc2 x1))) (View.readAt (Elt Ideal) arg7.view (Rect.unit (s := S2x128x640) ![1, 64, 0] S1x64x640.size (by decide)).toLoadRect (harg7.unread xs0)) := by
    have e : (kernelRun0_B.sl.v1178 (F := Ideal) c i arg2 harg2 arg3 harg3 arg8 hc2 x0 x1) = N640.sub1 (kernelRun0_B.sl.v1009 (F := Ideal) c i arg2 harg2 arg3 harg3 hc2 x0 x1) := by
      simp (disch := decide) only [kernelRun0_B.sl.v1178, ↓View.readCov_skip, kernelRun0_B.sl.HS1_20, kernelRun0_B.sl.HS1_18, kernelRun0_B.sl.HS1_16]
      apply N640.read_s1
    rw [← sc1, ← e]
    rfl
  have j1 : (kernelRun0_B.sl.v1315 (F := Ideal) c i arg2 harg2 arg3 harg3 arg7 harg7 arg8 arg9 hc2 x0 x1 xs0) = N640.join (N640.st (kernelRun0_B.sl.v1169 (F := Ideal) c i arg2 harg2 arg3 harg3 arg7 harg7 arg8 hc2 x0 x1 xs0)) (N640.st (kernelRun0_B.sl.v1187 (F := Ideal) c i arg2 harg2 arg3 harg3 arg7 harg7 arg8 hc2 x0 x1 xs0)) := by
    simp (disch := decide) only [kernelRun0_B.sl.v1315, ↓View.readCov_skip, kernelRun0_B.sl.HS2_40, kernelRun0_B.sl.HS2_36, kernelRun0_B.sl.HS2_32]
    apply N640.read_e
  unfold N640.chain
  rw [← x00, ← x01, ← x10, ← x11]
  unfold N640.head
  rw [← j0, ← j1]
  rfl

theorem pieceB_9 : kernelRun0_B.sl.v1436 (F := Ideal) c i arg2 harg2 arg3 harg3 arg4 harg4 arg7 harg7 arg8 arg9 hc2 x0 x1 x2 xs0 =
    N640.chain (kernelRun0_B.sl.v1100 (F := Ideal) c arg2 harg2 x0) (kernelRun0_B.sl.v115 (F := Ideal) c i arg3 harg3 hc2 x1) (kernelRun0_B.sl.v118 (F := Ideal) c i arg4 harg4 hc2 x2)
      (View.readAt (Elt Ideal) arg7.view (Rect.unit (s := S2x128x640) ![0, 0, 0] S1x64x640.size (by decide)).toLoadRect (harg7.unread xs0)) (View.readAt (Elt Ideal) arg7.view (Rect.unit (s := S2x128x640) ![0, 64, 0] S1x64x640.size (by decide)).toLoadRect (harg7.unread xs0))
      (View.readAt (Elt Ideal) arg7.view (Rect.unit (s := S2x128x640) ![1, 0, 0] S1x64x640.size (by decide)).toLoadRect (harg7.unread xs0)) (View.readAt (Elt Ideal) arg7.view (Rect.unit (s := S2x128x640) ![1, 64, 0] S1x64x640.size (by decide)).toLoadRect (harg7.unread xs0)) := by
  have sc0 : (kernelRun0_B.sl.v1111 (F := Ideal) c i arg2 harg2 arg3 harg3 hc2 x0 x1) = N640.score lanes0 (kernelRun0_B.sl.v1100 (F := Ideal) c arg2 harg2 x0) (kernelRun0_B.sl.v115 (F := Ideal) c i arg3 harg3 hc2 x1) := rfl
  have x00 : (kernelRun0_B.sl.v1245 (F := Ideal) c i arg2 harg2 arg3 harg3 arg7 harg7 arg8 hc2 x0 x1 xs0) = N640.ex (N640.sub0 (N640.score lanes0 (kernelRun0_B.sl.v1100 (F := Ideal) c arg2 harg2 x0) (kernelRun0_B.sl.v115 (F := Ideal) c i arg3 harg3 hc2 x1))) (View.readAt (Elt Ideal) arg7.view (Rect.unit (s := S2x128x640) ![0, 0, 0] S1x64x640.size (by decide)).toLoadRect (harg7.unread xs0)) := by
    have e : (kernelRun0_B.sl.v1236 (F := Ideal) c i arg2 harg2 arg3 harg3 arg8 hc2 x0 x1) = N640.sub0 (kernelRun0_B.sl.v1111 (F := Ideal) c i arg2 harg2 arg3 harg3 hc2 x0 x1) := by
      simp (disch := decide) only [kernelRun0_B.sl.v1236, ↓View.readCov_skip, kernelRun0_B.sl.HS1_22, kernelRun0_B.sl.HS1_20, kernelRun0_B.sl.HS1_18]
      apply N640.read_s0
    rw [← sc0, ← e]
    rfl
  have x01 : (kernelRun0_B.sl.v1263 (F := Ideal) c i arg2 harg2 arg3 harg3 arg7 harg7 arg8 hc2 x0 x1 xs0) = N640.ex (N640.sub1 (N640.score lanes0 (kernelRun0_B.sl.v1100 (F := Ideal) c arg2 harg2 x0) (kernelRun0_B.sl.v115 (F := Ideal) c i arg3 harg3 hc2 x1))) (View.readAt (Elt Ideal) arg7.view (Rect.unit (s := S2x128x640) ![0, 64, 0] S1x64x640.size (by decide)).toLoadRect (harg7.unread xs0)) := by
    have e : (kernelRun0_B.sl.v1254 (F := Ideal) c i arg2 harg2 arg3 harg3 arg8 hc2 x0 x1) = N640.sub1 (kernelRun0_B.sl.v1111 (F := Ideal) c i arg2 harg2 arg3 harg3 hc2 x0 x1) := by
      simp (disch := decide) only [kernelRun0_B.sl.v1254, ↓View.readCov_skip, kernelRun0_B.sl.HS1_22, kernelRun0_B.sl.HS1_20, kernelRun0_B.sl.HS1_18]
      apply N640.read_s1
    rw [← sc0, ← e]
    rfl
  have j0 : (kernelRun0_B.sl.v1423 (F := Ideal) c i arg2 harg2 arg3 harg3 arg7 harg7 arg8 arg9 hc2 x0 x1 xs0) = N640.join (N640.st (kernelRun0_B.sl.v1245 (F := Ideal) c i arg2 harg2 arg3 harg3 arg7 harg7 arg8 hc2 x0 x1 xs0)) (N640.st (kernelRun0_B.sl.v1263 (F := Ideal) c i arg2 harg2 arg3 harg3 arg7 harg7 arg8 hc2 x0 x1 xs0)) := by
    simp (disch := decide) only [kernelRun0_B.sl.v1423, ↓View.readCov_skip, kernelRun0_B.sl.HS2_44, kernelRun0_B.sl.HS2_40, kernelRun0_B.sl.HS2_36]
    apply N640.read_e
  have sc1 : (kernelRun0_B.sl.v1122 (F := Ideal) c i arg2 harg2 arg3 harg3 hc2 x0 x1) = N640.score lanes1 (kernelRun0_B.sl.v1100 (F := Ideal) c arg2 harg2 x0) (kernelRun0_B.sl.v115 (F := Ideal) c i arg3 harg3 hc2 x1) := rfl
  have x10 : (kernelRun0_B.sl.v1282 (F := Ideal) c i arg2 harg2 arg3 harg3 arg7 harg7 arg8 hc2 x0 x1 xs0) = N640.ex (N640.sub0 (N640.score lanes1 (kernelRun0_B.sl.v1100 (F := Ideal) c arg2 harg2 x0) (kernelRun0_B.sl.v115 (F := Ideal) c i arg3 harg3 hc2 x1))) (View.readAt (Elt Ideal) arg7.view (Rect.unit (s := S2x128x640) ![1, 0, 0] S1x64x640.size (by decide)).toLoadRect (harg7.unread xs0)) := by
    have e : (kernelRun0_B.sl.v1273 (F := Ideal) c i arg2 harg2 arg3 harg3 arg8 hc2 x0 x1) = N640.sub0 (kernelRun0_B.sl.v1122 (F := Ideal) c i arg2 harg2 arg3 harg3 hc2 x0 x1) := by
      simp (disch := decide) only [kernelRun0_B.sl.v1273, ↓View.readCov_skip, kernelRun0_B.sl.HS1_22, kernelRun0_B.sl.HS1_20, kernelRun0_B.sl.HS1_18]
      apply N640.read_s0
    rw [← sc1, ← e]
    rfl
  have x11 : (kernelRun0_B.sl.v1300 (F := Ideal) c i arg2 harg2 arg3 harg3 arg7 harg7 arg8 hc2 x0 x1 xs0) = N640.ex (N640.sub1 (N640.score lanes1 (kernelRun0_B.sl.v1100 (F := Ideal) c arg2 harg2 x0) (kernelRun0_B.sl.v115 (F := Ideal) c i arg3 harg3 hc2 x1))) (View.readAt (Elt Ideal) arg7.view (Rect.unit (s := S2x128x640) ![1, 64, 0] S1x64x640.size (by decide)).toLoadRect (harg7.unread xs0)) := by
    have e : (kernelRun0_B.sl.v1291 (F := Ideal) c i arg2 harg2 arg3 harg3 arg8 hc2 x0 x1) = N640.sub1 (kernelRun0_B.sl.v1122 (F := Ideal) c i arg2 harg2 arg3 harg3 hc2 x0 x1) := by
      simp (disch := decide) only [kernelRun0_B.sl.v1291, ↓View.readCov_skip, kernelRun0_B.sl.HS1_22, kernelRun0_B.sl.HS1_20, kernelRun0_B.sl.HS1_18]
      apply N640.read_s1
    rw [← sc1, ← e]
    rfl
  have j1 : (kernelRun0_B.sl.v1428 (F := Ideal) c i arg2 harg2 arg3 harg3 arg7 harg7 arg8 arg9 hc2 x0 x1 xs0) = N640.join (N640.st (kernelRun0_B.sl.v1282 (F := Ideal) c i arg2 harg2 arg3 harg3 arg7 harg7 arg8 hc2 x0 x1 xs0)) (N640.st (kernelRun0_B.sl.v1300 (F := Ideal) c i arg2 harg2 arg3 harg3 arg7 harg7 arg8 hc2 x0 x1 xs0)) := by
    simp (disch := decide) only [kernelRun0_B.sl.v1428, ↓View.readCov_skip, kernelRun0_B.sl.HS2_44, kernelRun0_B.sl.HS2_40, kernelRun0_B.sl.HS2_36]
    apply N640.read_e
  unfold N640.chain
  rw [← x00, ← x01, ← x10, ← x11]
  unfold N640.head
  rw [← j0, ← j1]
  rfl

theorem pieceB_10 : kernelRun0_B.sl.v1549 (F := Ideal) c i arg2 harg2 arg3 harg3 arg4 harg4 arg7 harg7 arg8 arg9 hc2 x0 x1 x2 xs0 =
    N640.chain (kernelRun0_B.sl.v1213 (F := Ideal) c arg2 harg2 x0) (kernelRun0_B.sl.v126 (F := Ideal) c i arg3 harg3 hc2 x1) (kernelRun0_B.sl.v129 (F := Ideal) c i arg4 harg4 hc2 x2)
      (View.readAt (Elt Ideal) arg7.view (Rect.unit (s := S2x128x640) ![0, 0, 0] S1x64x640.size (by decide)).toLoadRect (harg7.unread xs0)) (View.readAt (Elt Ideal) arg7.view (Rect.unit (s := S2x128x640) ![0, 64, 0] S1x64x640.size (by decide)).toLoadRect (harg7.unread xs0))
      (View.readAt (Elt Ideal) arg7.view (Rect.unit (s := S2x128x640) ![1, 0, 0] S1x64x640.size (by decide)).toLoadRect (harg7.unread xs0)) (View.readAt (Elt Ideal) arg7.view (Rect.unit (s := S2x128x640) ![1, 64, 0] S1x64x640.size (by decide)).toLoadRect (harg7.unread xs0)) := by
  have sc0 : (kernelRun0_B.sl.v1224 (F := Ideal) c i arg2 harg2 arg3 harg3 hc2 x0 x1) = N640.score lanes0 (kernelRun0_B.sl.v1213 (F := Ideal) c arg2 harg2 x0) (kernelRun0_B.sl.v126 (F := Ideal) c i arg3 harg3 hc2 x1) := rfl
  have x00 : (kernelRun0_B.sl.v1358 (F := Ideal) c i arg2 harg2 arg3 harg3 arg7 harg7 arg8 hc2 x0 x1 xs0) = N640.ex (N640.sub0 (N640.score lanes0 (kernelRun0_B.sl.v1213 (F := Ideal) c arg2 harg2 x0) (kernelRun0_B.sl.v126 (F := Ideal) c i arg3 harg3 hc2 x1))) (View.readAt (Elt Ideal) arg7.view (Rect.unit (s := S2x128x640) ![0, 0, 0] S1x64x640.size (by decide)).toLoadRect (harg7.unread xs0)) := by
    have e : (kernelRun0_B.sl.v1349 (F := Ideal) c i arg2 harg2 arg3 harg3 arg8 hc2 x0 x1) = N640.sub0 (kernelRun0_B.sl.v1224 (F := Ideal) c i arg2 harg2 arg3 harg3 hc2 x0 x1) := by
      simp (disch := decide) only [kernelRun0_B.sl.v1349, ↓View.readCov_skip, kernelRun0_B.sl.HS1_24, kernelRun0_B.sl.HS1_22, kernelRun0_B.sl.HS1_20]
      apply N640.read_s0
    rw [← sc0, ← e]
    rfl
  have x01 : (kernelRun0_B.sl.v1376 (F := Ideal) c i arg2 harg2 arg3 harg3 arg7 harg7 arg8 hc2 x0 x1 xs0) = N640.ex (N640.sub1 (N640.score lanes0 (kernelRun0_B.sl.v1213 (F := Ideal) c arg2 harg2 x0) (kernelRun0_B.sl.v126 (F := Ideal) c i arg3 harg3 hc2 x1))) (View.readAt (Elt Ideal) arg7.view (Rect.unit (s := S2x128x640) ![0, 64, 0] S1x64x640.size (by decide)).toLoadRect (harg7.unread xs0)) := by
    have e : (kernelRun0_B.sl.v1367 (F := Ideal) c i arg2 harg2 arg3 harg3 arg8 hc2 x0 x1) = N640.sub1 (kernelRun0_B.sl.v1224 (F := Ideal) c i arg2 harg2 arg3 harg3 hc2 x0 x1) := by
      simp (disch := decide) only [kernelRun0_B.sl.v1367, ↓View.readCov_skip, kernelRun0_B.sl.HS1_24, kernelRun0_B.sl.HS1_22, kernelRun0_B.sl.HS1_20]
      apply N640.read_s1
    rw [← sc0, ← e]
    rfl
  have j0 : (kernelRun0_B.sl.v1536 (F := Ideal) c i arg2 harg2 arg3 harg3 arg7 harg7 arg8 arg9 hc2 x0 x1 xs0) = N640.join (N640.st (kernelRun0_B.sl.v1358 (F := Ideal) c i arg2 harg2 arg3 harg3 arg7 harg7 arg8 hc2 x0 x1 xs0)) (N640.st (kernelRun0_B.sl.v1376 (F := Ideal) c i arg2 harg2 arg3 harg3 arg7 harg7 arg8 hc2 x0 x1 xs0)) := by
    simp (disch := decide) only [kernelRun0_B.sl.v1536, ↓View.readCov_skip, kernelRun0_B.sl.HS2_48, kernelRun0_B.sl.HS2_44, kernelRun0_B.sl.HS2_40]
    apply N640.read_e
  have sc1 : (kernelRun0_B.sl.v1235 (F := Ideal) c i arg2 harg2 arg3 harg3 hc2 x0 x1) = N640.score lanes1 (kernelRun0_B.sl.v1213 (F := Ideal) c arg2 harg2 x0) (kernelRun0_B.sl.v126 (F := Ideal) c i arg3 harg3 hc2 x1) := rfl
  have x10 : (kernelRun0_B.sl.v1395 (F := Ideal) c i arg2 harg2 arg3 harg3 arg7 harg7 arg8 hc2 x0 x1 xs0) = N640.ex (N640.sub0 (N640.score lanes1 (kernelRun0_B.sl.v1213 (F := Ideal) c arg2 harg2 x0) (kernelRun0_B.sl.v126 (F := Ideal) c i arg3 harg3 hc2 x1))) (View.readAt (Elt Ideal) arg7.view (Rect.unit (s := S2x128x640) ![1, 0, 0] S1x64x640.size (by decide)).toLoadRect (harg7.unread xs0)) := by
    have e : (kernelRun0_B.sl.v1386 (F := Ideal) c i arg2 harg2 arg3 harg3 arg8 hc2 x0 x1) = N640.sub0 (kernelRun0_B.sl.v1235 (F := Ideal) c i arg2 harg2 arg3 harg3 hc2 x0 x1) := by
      simp (disch := decide) only [kernelRun0_B.sl.v1386, ↓View.readCov_skip, kernelRun0_B.sl.HS1_24, kernelRun0_B.sl.HS1_22, kernelRun0_B.sl.HS1_20]
      apply N640.read_s0
    rw [← sc1, ← e]
    rfl
  have x11 : (kernelRun0_B.sl.v1413 (F := Ideal) c i arg2 harg2 arg3 harg3 arg7 harg7 arg8 hc2 x0 x1 xs0) = N640.ex (N640.sub1 (N640.score lanes1 (kernelRun0_B.sl.v1213 (F := Ideal) c arg2 harg2 x0) (kernelRun0_B.sl.v126 (F := Ideal) c i arg3 harg3 hc2 x1))) (View.readAt (Elt Ideal) arg7.view (Rect.unit (s := S2x128x640) ![1, 64, 0] S1x64x640.size (by decide)).toLoadRect (harg7.unread xs0)) := by
    have e : (kernelRun0_B.sl.v1404 (F := Ideal) c i arg2 harg2 arg3 harg3 arg8 hc2 x0 x1) = N640.sub1 (kernelRun0_B.sl.v1235 (F := Ideal) c i arg2 harg2 arg3 harg3 hc2 x0 x1) := by
      simp (disch := decide) only [kernelRun0_B.sl.v1404, ↓View.readCov_skip, kernelRun0_B.sl.HS1_24, kernelRun0_B.sl.HS1_22, kernelRun0_B.sl.HS1_20]
      apply N640.read_s1
    rw [← sc1, ← e]
    rfl
  have j1 : (kernelRun0_B.sl.v1541 (F := Ideal) c i arg2 harg2 arg3 harg3 arg7 harg7 arg8 arg9 hc2 x0 x1 xs0) = N640.join (N640.st (kernelRun0_B.sl.v1395 (F := Ideal) c i arg2 harg2 arg3 harg3 arg7 harg7 arg8 hc2 x0 x1 xs0)) (N640.st (kernelRun0_B.sl.v1413 (F := Ideal) c i arg2 harg2 arg3 harg3 arg7 harg7 arg8 hc2 x0 x1 xs0)) := by
    simp (disch := decide) only [kernelRun0_B.sl.v1541, ↓View.readCov_skip, kernelRun0_B.sl.HS2_48, kernelRun0_B.sl.HS2_44, kernelRun0_B.sl.HS2_40]
    apply N640.read_e
  unfold N640.chain
  rw [← x00, ← x01, ← x10, ← x11]
  unfold N640.head
  rw [← j0, ← j1]
  rfl

theorem pieceB_11 : kernelRun0_B.sl.v1662 (F := Ideal) c i arg2 harg2 arg3 harg3 arg4 harg4 arg7 harg7 arg8 arg9 hc2 x0 x1 x2 xs0 =
    N640.chain (kernelRun0_B.sl.v1326 (F := Ideal) c arg2 harg2 x0) (kernelRun0_B.sl.v137 (F := Ideal) c i arg3 harg3 hc2 x1) (kernelRun0_B.sl.v140 (F := Ideal) c i arg4 harg4 hc2 x2)
      (View.readAt (Elt Ideal) arg7.view (Rect.unit (s := S2x128x640) ![0, 0, 0] S1x64x640.size (by decide)).toLoadRect (harg7.unread xs0)) (View.readAt (Elt Ideal) arg7.view (Rect.unit (s := S2x128x640) ![0, 64, 0] S1x64x640.size (by decide)).toLoadRect (harg7.unread xs0))
      (View.readAt (Elt Ideal) arg7.view (Rect.unit (s := S2x128x640) ![1, 0, 0] S1x64x640.size (by decide)).toLoadRect (harg7.unread xs0)) (View.readAt (Elt Ideal) arg7.view (Rect.unit (s := S2x128x640) ![1, 64, 0] S1x64x640.size (by decide)).toLoadRect (harg7.unread xs0)) := by
  have sc0 : (kernelRun0_B.sl.v1337 (F := Ideal) c i arg2 harg2 arg3 harg3 hc2 x0 x1) = N640.score lanes0 (kernelRun0_B.sl.v1326 (F := Ideal) c arg2 harg2 x0) (kernelRun0_B.sl.v137 (F := Ideal) c i arg3 harg3 hc2 x1) := rfl
  have x00 : (kernelRun0_B.sl.v1471 (F := Ideal) c i arg2 harg2 arg3 harg3 arg7 harg7 arg8 hc2 x0 x1 xs0) = N640.ex (N640.sub0 (N640.score lanes0 (kernelRun0_B.sl.v1326 (F := Ideal) c arg2 harg2 x0) (kernelRun0_B.sl.v137 (F := Ideal) c i arg3 harg3 hc2 x1))) (View.readAt (Elt Ideal) arg7.view (Rect.unit (s := S2x128x640) ![0, 0, 0] S1x64x640.size (by decide)).toLoadRect (harg7.unread xs0)) := by
    have e : (kernelRun0_B.sl.v1462 (F := Ideal) c i arg2 harg2 arg3 harg3 arg8 hc2 x0 x1) = N640.sub0 (kernelRun0_B.sl.v1337 (F := Ideal) c i arg2 harg2 arg3 harg3 hc2 x0 x1) := by
      simp (disch := decide) only [kernelRun0_B.sl.v1462, ↓View.readCov_skip, kernelRun0_B.sl.HS1_26, kernelRun0_B.sl.HS1_24, kernelRun0_B.sl.HS1_22]
      apply N640.read_s0
    rw [← sc0, ← e]
    rfl
  have x01 : (kernelRun0_B.sl.v1489 (F := Ideal) c i arg2 harg2 arg3 harg3 arg7 harg7 arg8 hc2 x0 x1 xs0) = N640.ex (N640.sub1 (N640.score lanes0 (kernelRun0_B.sl.v1326 (F := Ideal) c arg2 harg2 x0) (kernelRun0_B.sl.v137 (F := Ideal) c i arg3 harg3 hc2 x1))) (View.readAt (Elt Ideal) arg7.view (Rect.unit (s := S2x128x640) ![0, 64, 0] S1x64x640.size (by decide)).toLoadRect (harg7.unread xs0)) := by
    have e : (kernelRun0_B.sl.v1480 (F := Ideal) c i arg2 harg2 arg3 harg3 arg8 hc2 x0 x1) = N640.sub1 (kernelRun0_B.sl.v1337 (F := Ideal) c i arg2 harg2 arg3 harg3 hc2 x0 x1) := by
      simp (disch := decide) only [kernelRun0_B.sl.v1480, ↓View.readCov_skip, kernelRun0_B.sl.HS1_26, kernelRun0_B.sl.HS1_24, kernelRun0_B.sl.HS1_22]
      apply N640.read_s1
    rw [← sc0, ← e]
    rfl
  have j0 : (kernelRun0_B.sl.v1649 (F := Ideal) c i arg2 harg2 arg3 harg3 arg7 harg7 arg8 arg9 hc2 x0 x1 xs0) = N640.join (N640.st (kernelRun0_B.sl.v1471 (F := Ideal) c i arg2 harg2 arg3 harg3 arg7 harg7 arg8 hc2 x0 x1 xs0)) (N640.st (kernelRun0_B.sl.v1489 (F := Ideal) c i arg2 harg2 arg3 harg3 arg7 harg7 arg8 hc2 x0 x1 xs0)) := by
    simp (disch := decide) only [kernelRun0_B.sl.v1649, ↓View.readCov_skip, kernelRun0_B.sl.HS2_52, kernelRun0_B.sl.HS2_48, kernelRun0_B.sl.HS2_44]
    apply N640.read_e
  have sc1 : (kernelRun0_B.sl.v1348 (F := Ideal) c i arg2 harg2 arg3 harg3 hc2 x0 x1) = N640.score lanes1 (kernelRun0_B.sl.v1326 (F := Ideal) c arg2 harg2 x0) (kernelRun0_B.sl.v137 (F := Ideal) c i arg3 harg3 hc2 x1) := rfl
  have x10 : (kernelRun0_B.sl.v1508 (F := Ideal) c i arg2 harg2 arg3 harg3 arg7 harg7 arg8 hc2 x0 x1 xs0) = N640.ex (N640.sub0 (N640.score lanes1 (kernelRun0_B.sl.v1326 (F := Ideal) c arg2 harg2 x0) (kernelRun0_B.sl.v137 (F := Ideal) c i arg3 harg3 hc2 x1))) (View.readAt (Elt Ideal) arg7.view (Rect.unit (s := S2x128x640) ![1, 0, 0] S1x64x640.size (by decide)).toLoadRect (harg7.unread xs0)) := by
    have e : (kernelRun0_B.sl.v1499 (F := Ideal) c i arg2 harg2 arg3 harg3 arg8 hc2 x0 x1) = N640.sub0 (kernelRun0_B.sl.v1348 (F := Ideal) c i arg2 harg2 arg3 harg3 hc2 x0 x1) := by
      simp (disch := decide) only [kernelRun0_B.sl.v1499, ↓View.readCov_skip, kernelRun0_B.sl.HS1_26, kernelRun0_B.sl.HS1_24, kernelRun0_B.sl.HS1_22]
      apply N640.read_s0
    rw [← sc1, ← e]
    rfl
  have x11 : (kernelRun0_B.sl.v1526 (F := Ideal) c i arg2 harg2 arg3 harg3 arg7 harg7 arg8 hc2 x0 x1 xs0) = N640.ex (N640.sub1 (N640.score lanes1 (kernelRun0_B.sl.v1326 (F := Ideal) c arg2 harg2 x0) (kernelRun0_B.sl.v137 (F := Ideal) c i arg3 harg3 hc2 x1))) (View.readAt (Elt Ideal) arg7.view (Rect.unit (s := S2x128x640) ![1, 64, 0] S1x64x640.size (by decide)).toLoadRect (harg7.unread xs0)) := by
    have e : (kernelRun0_B.sl.v1517 (F := Ideal) c i arg2 harg2 arg3 harg3 arg8 hc2 x0 x1) = N640.sub1 (kernelRun0_B.sl.v1348 (F := Ideal) c i arg2 harg2 arg3 harg3 hc2 x0 x1) := by
      simp (disch := decide) only [kernelRun0_B.sl.v1517, ↓View.readCov_skip, kernelRun0_B.sl.HS1_26, kernelRun0_B.sl.HS1_24, kernelRun0_B.sl.HS1_22]
      apply N640.read_s1
    rw [← sc1, ← e]
    rfl
  have j1 : (kernelRun0_B.sl.v1654 (F := Ideal) c i arg2 harg2 arg3 harg3 arg7 harg7 arg8 arg9 hc2 x0 x1 xs0) = N640.join (N640.st (kernelRun0_B.sl.v1508 (F := Ideal) c i arg2 harg2 arg3 harg3 arg7 harg7 arg8 hc2 x0 x1 xs0)) (N640.st (kernelRun0_B.sl.v1526 (F := Ideal) c i arg2 harg2 arg3 harg3 arg7 harg7 arg8 hc2 x0 x1 xs0)) := by
    simp (disch := decide) only [kernelRun0_B.sl.v1654, ↓View.readCov_skip, kernelRun0_B.sl.HS2_52, kernelRun0_B.sl.HS2_48, kernelRun0_B.sl.HS2_44]
    apply N640.read_e
  unfold N640.chain
  rw [← x00, ← x01, ← x10, ← x11]
  unfold N640.head
  rw [← j0, ← j1]
  rfl

theorem pieceB_12 : kernelRun0_B.sl.v1775 (F := Ideal) c i arg2 harg2 arg3 harg3 arg4 harg4 arg7 harg7 arg8 arg9 hc2 x0 x1 x2 xs0 =
    N640.chain (kernelRun0_B.sl.v1439 (F := Ideal) c arg2 harg2 x0) (kernelRun0_B.sl.v148 (F := Ideal) c i arg3 harg3 hc2 x1) (kernelRun0_B.sl.v151 (F := Ideal) c i arg4 harg4 hc2 x2)
      (View.readAt (Elt Ideal) arg7.view (Rect.unit (s := S2x128x640) ![0, 0, 0] S1x64x640.size (by decide)).toLoadRect (harg7.unread xs0)) (View.readAt (Elt Ideal) arg7.view (Rect.unit (s := S2x128x640) ![0, 64, 0] S1x64x640.size (by decide)).toLoadRect (harg7.unread xs0))
      (View.readAt (Elt Ideal) arg7.view (Rect.unit (s := S2x128x640) ![1, 0, 0] S1x64x640.size (by decide)).toLoadRect (harg7.unread xs0)) (View.readAt (Elt Ideal) arg7.view (Rect.unit (s := S2x128x640) ![1, 64, 0] S1x64x640.size (by decide)).toLoadRect (harg7.unread xs0)) := by
  have sc0 : (kernelRun0_B.sl.v1450 (F := Ideal) c i arg2 harg2 arg3 harg3 hc2 x0 x1) = N640.score lanes0 (kernelRun0_B.sl.v1439 (F := Ideal) c arg2 harg2 x0) (kernelRun0_B.sl.v148 (F := Ideal) c i arg3 harg3 hc2 x1) := rfl
  have x00 : (kernelRun0_B.sl.v1584 (F := Ideal) c i arg2 harg2 arg3 harg3 arg7 harg7 arg8 hc2 x0 x1 xs0) = N640.ex (N640.sub0 (N640.score lanes0 (kernelRun0_B.sl.v1439 (F := Ideal) c arg2 harg2 x0) (kernelRun0_B.sl.v148 (F := Ideal) c i arg3 harg3 hc2 x1))) (View.readAt (Elt Ideal) arg7.view (Rect.unit (s := S2x128x640) ![0, 0, 0] S1x64x640.size (by decide)).toLoadRect (harg7.unread xs0)) := by
    have e : (kernelRun0_B.sl.v1575 (F := Ideal) c i arg2 harg2 arg3 harg3 arg8 hc2 x0 x1) = N640.sub0 (kernelRun0_B.sl.v1450 (F := Ideal) c i arg2 harg2 arg3 harg3 hc2 x0 x1) := by
      simp (disch := decide) only [kernelRun0_B.sl.v1575, ↓View.readCov_skip, kernelRun0_B.sl.HS1_28, kernelRun0_B.sl.HS1_26, kernelRun0_B.sl.HS1_24]
      apply N640.read_s0
    rw [← sc0, ← e]
    rfl
  have x01 : (kernelRun0_B.sl.v1602 (F := Ideal) c i arg2 harg2 arg3 harg3 arg7 harg7 arg8 hc2 x0 x1 xs0) = N640.ex (N640.sub1 (N640.score lanes0 (kernelRun0_B.sl.v1439 (F := Ideal) c arg2 harg2 x0) (kernelRun0_B.sl.v148 (F := Ideal) c i arg3 harg3 hc2 x1))) (View.readAt (Elt Ideal) arg7.view (Rect.unit (s := S2x128x640) ![0, 64, 0] S1x64x640.size (by decide)).toLoadRect (harg7.unread xs0)) := by
    have e : (kernelRun0_B.sl.v1593 (F := Ideal) c i arg2 harg2 arg3 harg3 arg8 hc2 x0 x1) = N640.sub1 (kernelRun0_B.sl.v1450 (F := Ideal) c i arg2 harg2 arg3 harg3 hc2 x0 x1) := by
      simp (disch := decide) only [kernelRun0_B.sl.v1593, ↓View.readCov_skip, kernelRun0_B.sl.HS1_28, kernelRun0_B.sl.HS1_26, kernelRun0_B.sl.HS1_24]
      apply N640.read_s1
    rw [← sc0, ← e]
    rfl
  have j0 : (kernelRun0_B.sl.v1762 (F := Ideal) c i arg2 harg2 arg3 harg3 arg7 harg7 arg8 arg9 hc2 x0 x1 xs0) = N640.join (N640.st (kernelRun0_B.sl.v1584 (F := Ideal) c i arg2 harg2 arg3 harg3 arg7 harg7 arg8 hc2 x0 x1 xs0)) (N640.st (kernelRun0_B.sl.v1602 (F := Ideal) c i arg2 harg2 arg3 harg3 arg7 harg7 arg8 hc2 x0 x1 xs0)) := by
    simp (disch := decide) only [kernelRun0_B.sl.v1762, ↓View.readCov_skip, kernelRun0_B.sl.HS2_56, kernelRun0_B.sl.HS2_52, kernelRun0_B.sl.HS2_48]
    apply N640.read_e
  have sc1 : (kernelRun0_B.sl.v1461 (F := Ideal) c i arg2 harg2 arg3 harg3 hc2 x0 x1) = N640.score lanes1 (kernelRun0_B.sl.v1439 (F := Ideal) c arg2 harg2 x0) (kernelRun0_B.sl.v148 (F := Ideal) c i arg3 harg3 hc2 x1) := rfl
  have x10 : (kernelRun0_B.sl.v1621 (F := Ideal) c i arg2 harg2 arg3 harg3 arg7 harg7 arg8 hc2 x0 x1 xs0) = N640.ex (N640.sub0 (N640.score lanes1 (kernelRun0_B.sl.v1439 (F := Ideal) c arg2 harg2 x0) (kernelRun0_B.sl.v148 (F := Ideal) c i arg3 harg3 hc2 x1))) (View.readAt (Elt Ideal) arg7.view (Rect.unit (s := S2x128x640) ![1, 0, 0] S1x64x640.size (by decide)).toLoadRect (harg7.unread xs0)) := by
    have e : (kernelRun0_B.sl.v1612 (F := Ideal) c i arg2 harg2 arg3 harg3 arg8 hc2 x0 x1) = N640.sub0 (kernelRun0_B.sl.v1461 (F := Ideal) c i arg2 harg2 arg3 harg3 hc2 x0 x1) := by
      simp (disch := decide) only [kernelRun0_B.sl.v1612, ↓View.readCov_skip, kernelRun0_B.sl.HS1_28, kernelRun0_B.sl.HS1_26, kernelRun0_B.sl.HS1_24]
      apply N640.read_s0
    rw [← sc1, ← e]
    rfl
  have x11 : (kernelRun0_B.sl.v1639 (F := Ideal) c i arg2 harg2 arg3 harg3 arg7 harg7 arg8 hc2 x0 x1 xs0) = N640.ex (N640.sub1 (N640.score lanes1 (kernelRun0_B.sl.v1439 (F := Ideal) c arg2 harg2 x0) (kernelRun0_B.sl.v148 (F := Ideal) c i arg3 harg3 hc2 x1))) (View.readAt (Elt Ideal) arg7.view (Rect.unit (s := S2x128x640) ![1, 64, 0] S1x64x640.size (by decide)).toLoadRect (harg7.unread xs0)) := by
    have e : (kernelRun0_B.sl.v1630 (F := Ideal) c i arg2 harg2 arg3 harg3 arg8 hc2 x0 x1) = N640.sub1 (kernelRun0_B.sl.v1461 (F := Ideal) c i arg2 harg2 arg3 harg3 hc2 x0 x1) := by
      simp (disch := decide) only [kernelRun0_B.sl.v1630, ↓View.readCov_skip, kernelRun0_B.sl.HS1_28, kernelRun0_B.sl.HS1_26, kernelRun0_B.sl.HS1_24]
      apply N640.read_s1
    rw [← sc1, ← e]
    rfl
  have j1 : (kernelRun0_B.sl.v1767 (F := Ideal) c i arg2 harg2 arg3 harg3 arg7 harg7 arg8 arg9 hc2 x0 x1 xs0) = N640.join (N640.st (kernelRun0_B.sl.v1621 (F := Ideal) c i arg2 harg2 arg3 harg3 arg7 harg7 arg8 hc2 x0 x1 xs0)) (N640.st (kernelRun0_B.sl.v1639 (F := Ideal) c i arg2 harg2 arg3 harg3 arg7 harg7 arg8 hc2 x0 x1 xs0)) := by
    simp (disch := decide) only [kernelRun0_B.sl.v1767, ↓View.readCov_skip, kernelRun0_B.sl.HS2_56, kernelRun0_B.sl.HS2_52, kernelRun0_B.sl.HS2_48]
    apply N640.read_e
  unfold N640.chain
  rw [← x00, ← x01, ← x10, ← x11]
  unfold N640.head
  rw [← j0, ← j1]
  rfl

theorem pieceB_13 : kernelRun0_B.sl.v1888 (F := Ideal) c i arg2 harg2 arg3 harg3 arg4 harg4 arg7 harg7 arg8 arg9 hc2 x0 x1 x2 xs0 =
    N640.chain (kernelRun0_B.sl.v1552 (F := Ideal) c arg2 harg2 x0) (kernelRun0_B.sl.v159 (F := Ideal) c i arg3 harg3 hc2 x1) (kernelRun0_B.sl.v162 (F := Ideal) c i arg4 harg4 hc2 x2)
      (View.readAt (Elt Ideal) arg7.view (Rect.unit (s := S2x128x640) ![0, 0, 0] S1x64x640.size (by decide)).toLoadRect (harg7.unread xs0)) (View.readAt (Elt Ideal) arg7.view (Rect.unit (s := S2x128x640) ![0, 64, 0] S1x64x640.size (by decide)).toLoadRect (harg7.unread xs0))
      (View.readAt (Elt Ideal) arg7.view (Rect.unit (s := S2x128x640) ![1, 0, 0] S1x64x640.size (by decide)).toLoadRect (harg7.unread xs0)) (View.readAt (Elt Ideal) arg7.view (Rect.unit (s := S2x128x640) ![1, 64, 0] S1x64x640.size (by decide)).toLoadRect (harg7.unread xs0)) := by
  have sc0 : (kernelRun0_B.sl.v1563 (F := Ideal) c i arg2 harg2 arg3 harg3 hc2 x0 x1) = N640.score lanes0 (kernelRun0_B.sl.v1552 (F := Ideal) c arg2 harg2 x0) (kernelRun0_B.sl.v159 (F := Ideal) c i arg3 harg3 hc2 x1) := rfl
  have x00 : (kernelRun0_B.sl.v1697 (F := Ideal) c i arg2 harg2 arg3 harg3 arg7 harg7 arg8 hc2 x0 x1 xs0) = N640.ex (N640.sub0 (N640.score lanes0 (kernelRun0_B.sl.v1552 (F := Ideal) c arg2 harg2 x0) (kernelRun0_B.sl.v159 (F := Ideal) c i arg3 harg3 hc2 x1))) (View.readAt (Elt Ideal) arg7.view (Rect.unit (s := S2x128x640) ![0, 0, 0] S1x64x640.size (by decide)).toLoadRect (harg7.unread xs0)) := by
    have e : (kernelRun0_B.sl.v1688 (F := Ideal) c i arg2 harg2 arg3 harg3 arg8 hc2 x0 x1) = N640.sub0 (kernelRun0_B.sl.v1563 (F := Ideal) c i arg2 harg2 arg3 harg3 hc2 x0 x1) := by
      simp (disch := decide) only [kernelRun0_B.sl.v1688, ↓View.readCov_skip, kernelRun0_B.sl.HS1_30, kernelRun0_B.sl.HS1_28, kernelRun0_B.sl.HS1_26]
      apply N640.read_s0
    rw [← sc0, ← e]
    rfl
  have x01 : (kernelRun0_B.sl.v1715 (F := Ideal) c i arg2 harg2 arg3 harg3 arg7 harg7 arg8 hc2 x0 x1 xs0) = N640.ex (N640.sub1 (N640.score lanes0 (kernelRun0_B.sl.v1552 (F := Ideal) c arg2 harg2 x0) (kernelRun0_B.sl.v159 (F := Ideal) c i arg3 harg3 hc2 x1))) (View.readAt (Elt Ideal) arg7.view (Rect.unit (s := S2x128x640) ![0, 64, 0] S1x64x640.size (by decide)).toLoadRect (harg7.unread xs0)) := by
    have e : (kernelRun0_B.sl.v1706 (F := Ideal) c i arg2 harg2 arg3 harg3 arg8 hc2 x0 x1) = N640.sub1 (kernelRun0_B.sl.v1563 (F := Ideal) c i arg2 harg2 arg3 harg3 hc2 x0 x1) := by
      simp (disch := decide) only [kernelRun0_B.sl.v1706, ↓View.readCov_skip, kernelRun0_B.sl.HS1_30, kernelRun0_B.sl.HS1_28, kernelRun0_B.sl.HS1_26]
      apply N640.read_s1
    rw [← sc0, ← e]
    rfl
  have j0 : (kernelRun0_B.sl.v1875 (F := Ideal) c i arg2 harg2 arg3 harg3 arg7 harg7 arg8 arg9 hc2 x0 x1 xs0) = N640.join (N640.st (kernelRun0_B.sl.v1697 (F := Ideal) c i arg2 harg2 arg3 harg3 arg7 harg7 arg8 hc2 x0 x1 xs0)) (N640.st (kernelRun0_B.sl.v1715 (F := Ideal) c i arg2 harg2 arg3 harg3 arg7 harg7 arg8 hc2 x0 x1 xs0)) := by
    simp (disch := decide) only [kernelRun0_B.sl.v1875, ↓View.readCov_skip, kernelRun0_B.sl.HS2_60, kernelRun0_B.sl.HS2_56, kernelRun0_B.sl.HS2_52]
    apply N640.read_e
  have sc1 : (kernelRun0_B.sl.v1574 (F := Ideal) c i arg2 harg2 arg3 harg3 hc2 x0 x1) = N640.score lanes1 (kernelRun0_B.sl.v1552 (F := Ideal) c arg2 harg2 x0) (kernelRun0_B.sl.v159 (F := Ideal) c i arg3 harg3 hc2 x1) := rfl
  have x10 : (kernelRun0_B.sl.v1734 (F := Ideal) c i arg2 harg2 arg3 harg3 arg7 harg7 arg8 hc2 x0 x1 xs0) = N640.ex (N640.sub0 (N640.score lanes1 (kernelRun0_B.sl.v1552 (F := Ideal) c arg2 harg2 x0) (kernelRun0_B.sl.v159 (F := Ideal) c i arg3 harg3 hc2 x1))) (View.readAt (Elt Ideal) arg7.view (Rect.unit (s := S2x128x640) ![1, 0, 0] S1x64x640.size (by decide)).toLoadRect (harg7.unread xs0)) := by
    have e : (kernelRun0_B.sl.v1725 (F := Ideal) c i arg2 harg2 arg3 harg3 arg8 hc2 x0 x1) = N640.sub0 (kernelRun0_B.sl.v1574 (F := Ideal) c i arg2 harg2 arg3 harg3 hc2 x0 x1) := by
      simp (disch := decide) only [kernelRun0_B.sl.v1725, ↓View.readCov_skip, kernelRun0_B.sl.HS1_30, kernelRun0_B.sl.HS1_28, kernelRun0_B.sl.HS1_26]
      apply N640.read_s0
    rw [← sc1, ← e]
    rfl
  have x11 : (kernelRun0_B.sl.v1752 (F := Ideal) c i arg2 harg2 arg3 harg3 arg7 harg7 arg8 hc2 x0 x1 xs0) = N640.ex (N640.sub1 (N640.score lanes1 (kernelRun0_B.sl.v1552 (F := Ideal) c arg2 harg2 x0) (kernelRun0_B.sl.v159 (F := Ideal) c i arg3 harg3 hc2 x1))) (View.readAt (Elt Ideal) arg7.view (Rect.unit (s := S2x128x640) ![1, 64, 0] S1x64x640.size (by decide)).toLoadRect (harg7.unread xs0)) := by
    have e : (kernelRun0_B.sl.v1743 (F := Ideal) c i arg2 harg2 arg3 harg3 arg8 hc2 x0 x1) = N640.sub1 (kernelRun0_B.sl.v1574 (F := Ideal) c i arg2 harg2 arg3 harg3 hc2 x0 x1) := by
      simp (disch := decide) only [kernelRun0_B.sl.v1743, ↓View.readCov_skip, kernelRun0_B.sl.HS1_30, kernelRun0_B.sl.HS1_28, kernelRun0_B.sl.HS1_26]
      apply N640.read_s1
    rw [← sc1, ← e]
    rfl
  have j1 : (kernelRun0_B.sl.v1880 (F := Ideal) c i arg2 harg2 arg3 harg3 arg7 harg7 arg8 arg9 hc2 x0 x1 xs0) = N640.join (N640.st (kernelRun0_B.sl.v1734 (F := Ideal) c i arg2 harg2 arg3 harg3 arg7 harg7 arg8 hc2 x0 x1 xs0)) (N640.st (kernelRun0_B.sl.v1752 (F := Ideal) c i arg2 harg2 arg3 harg3 arg7 harg7 arg8 hc2 x0 x1 xs0)) := by
    simp (disch := decide) only [kernelRun0_B.sl.v1880, ↓View.readCov_skip, kernelRun0_B.sl.HS2_60, kernelRun0_B.sl.HS2_56, kernelRun0_B.sl.HS2_52]
    apply N640.read_e
  unfold N640.chain
  rw [← x00, ← x01, ← x10, ← x11]
  unfold N640.head
  rw [← j0, ← j1]
  rfl

theorem pieceB_14 : kernelRun0_B.sl.r (F := Ideal) c i arg2 harg2 arg3 harg3 arg4 harg4 arg7 harg7 arg8 arg9 hc2 x0 x1 x2 xs0 =
    N640.chain (kernelRun0_B.sl.v1665 (F := Ideal) c arg2 harg2 x0) (kernelRun0_B.sl.v170 (F := Ideal) c i arg3 harg3 hc2 x1) (kernelRun0_B.sl.v173 (F := Ideal) c i arg4 harg4 hc2 x2)
      (View.readAt (Elt Ideal) arg7.view (Rect.unit (s := S2x128x640) ![0, 0, 0] S1x64x640.size (by decide)).toLoadRect (harg7.unread xs0)) (View.readAt (Elt Ideal) arg7.view (Rect.unit (s := S2x128x640) ![0, 64, 0] S1x64x640.size (by decide)).toLoadRect (harg7.unread xs0))
      (View.readAt (Elt Ideal) arg7.view (Rect.unit (s := S2x128x640) ![1, 0, 0] S1x64x640.size (by decide)).toLoadRect (harg7.unread xs0)) (View.readAt (Elt Ideal) arg7.view (Rect.unit (s := S2x128x640) ![1, 64, 0] S1x64x640.size (by decide)).toLoadRect (harg7.unread xs0)) := by
  have sc0 : (kernelRun0_B.sl.v1676 (F := Ideal) c i arg2 harg2 arg3 harg3 hc2 x0 x1) = N640.score lanes0 (kernelRun0_B.sl.v1665 (F := Ideal) c arg2 harg2 x0) (kernelRun0_B.sl.v170 (F := Ideal) c i arg3 harg3 hc2 x1) := rfl
  have x00 : (kernelRun0_B.sl.v1810 (F := Ideal) c i arg2 harg2 arg3 harg3 arg7 harg7 arg8 hc2 x0 x1 xs0) = N640.ex (N640.sub0 (N640.score lanes0 (kernelRun0_B.sl.v1665 (F := Ideal) c arg2 harg2 x0) (kernelRun0_B.sl.v170 (F := Ideal) c i arg3 harg3 hc2 x1))) (View.readAt (Elt Ideal) arg7.view (Rect.unit (s := S2x128x640) ![0, 0, 0] S1x64x640.size (by decide)).toLoadRect (harg7.unread xs0)) := by
    have e : (kernelRun0_B.sl.v1801 (F := Ideal) c i arg2 harg2 arg3 harg3 arg8 hc2 x0 x1) = N640.sub0 (kernelRun0_B.sl.v1676 (F := Ideal) c i arg2 harg2 arg3 harg3 hc2 x0 x1) := by
      simp (disch := decide) only [kernelRun0_B.sl.v1801, ↓View.readCov_skip, kernelRun0_B.sl.HS1_32, kernelRun0_B.sl.HS1_30, kernelRun0_B.sl.HS1_28]
      apply N640.read_s0
    rw [← sc0, ← e]
    rfl
  have x01 : (kernelRun0_B.sl.v1828 (F := Ideal) c i arg2 harg2 arg3 harg3 arg7 harg7 arg8 hc2 x0 x1 xs0) = N640.ex (N640.sub1 (N640.score lanes0 (kernelRun0_B.sl.v1665 (F := Ideal) c arg2 harg2 x0) (kernelRun0_B.sl.v170 (F := Ideal) c i arg3 harg3 hc2 x1))) (View.readAt (Elt Ideal) arg7.view (Rect.unit (s := S2x128x640) ![0, 64, 0] S1x64x640.size (by decide)).toLoadRect (harg7.unread xs0)) := by
    have e : (kernelRun0_B.sl.v1819 (F := Ideal) c i arg2 harg2 arg3 harg3 arg8 hc2 x0 x1) = N640.sub1 (kernelRun0_B.sl.v1676 (F := Ideal) c i arg2 harg2 arg3 harg3 hc2 x0 x1) := by
      simp (disch := decide) only [kernelRun0_B.sl.v1819, ↓View.readCov_skip, kernelRun0_B.sl.HS1_32, kernelRun0_B.sl.HS1_30, kernelRun0_B.sl.HS1_28]
      apply N640.read_s1
    rw [← sc0, ← e]
    rfl
  have j0 : (kernelRun0_B.sl.v1964 (F := Ideal) c i arg2 harg2 arg3 harg3 arg7 harg7 arg8 arg9 hc2 x0 x1 xs0) = N640.join (N640.st (kernelRun0_B.sl.v1810 (F := Ideal) c i arg2 harg2 arg3 harg3 arg7 harg7 arg8 hc2 x0 x1 xs0)) (N640.st (kernelRun0_B.sl.v1828 (F := Ideal) c i arg2 harg2 arg3 harg3 arg7 harg7 arg8 hc2 x0 x1 xs0)) := by
    simp (disch := decide) only [kernelRun0_B.sl.v1964, ↓View.readCov_skip, kernelRun0_B.sl.HS2_64, kernelRun0_B.sl.HS2_60, kernelRun0_B.sl.HS2_56]
    apply N640.read_e
  have sc1 : (kernelRun0_B.sl.v1687 (F := Ideal) c i arg2 harg2 arg3 harg3 hc2 x0 x1) = N640.score lanes1 (kernelRun0_B.sl.v1665 (F := Ideal) c arg2 harg2 x0) (kernelRun0_B.sl.v170 (F := Ideal) c i arg3 harg3 hc2 x1) := rfl
  have x10 : (kernelRun0_B.sl.v1847 (F := Ideal) c i arg2 harg2 arg3 harg3 arg7 harg7 arg8 hc2 x0 x1 xs0) = N640.ex (N640.sub0 (N640.score lanes1 (kernelRun0_B.sl.v1665 (F := Ideal) c arg2 harg2 x0) (kernelRun0_B.sl.v170 (F := Ideal) c i arg3 harg3 hc2 x1))) (View.readAt (Elt Ideal) arg7.view (Rect.unit (s := S2x128x640) ![1, 0, 0] S1x64x640.size (by decide)).toLoadRect (harg7.unread xs0)) := by
    have e : (kernelRun0_B.sl.v1838 (F := Ideal) c i arg2 harg2 arg3 harg3 arg8 hc2 x0 x1) = N640.sub0 (kernelRun0_B.sl.v1687 (F := Ideal) c i arg2 harg2 arg3 harg3 hc2 x0 x1) := by
      simp (disch := decide) only [kernelRun0_B.sl.v1838, ↓View.readCov_skip, kernelRun0_B.sl.HS1_32, kernelRun0_B.sl.HS1_30, kernelRun0_B.sl.HS1_28]
      apply N640.read_s0
    rw [← sc1, ← e]
    rfl
  have x11 : (kernelRun0_B.sl.v1865 (F := Ideal) c i arg2 harg2 arg3 harg3 arg7 harg7 arg8 hc2 x0 x1 xs0) = N640.ex (N640.sub1 (N640.score lanes1 (kernelRun0_B.sl.v1665 (F := Ideal) c arg2 harg2 x0) (kernelRun0_B.sl.v170 (F := Ideal) c i arg3 harg3 hc2 x1))) (View.readAt (Elt Ideal) arg7.view (Rect.unit (s := S2x128x640) ![1, 64, 0] S1x64x640.size (by decide)).toLoadRect (harg7.unread xs0)) := by
    have e : (kernelRun0_B.sl.v1856 (F := Ideal) c i arg2 harg2 arg3 harg3 arg8 hc2 x0 x1) = N640.sub1 (kernelRun0_B.sl.v1687 (F := Ideal) c i arg2 harg2 arg3 harg3 hc2 x0 x1) := by
      simp (disch := decide) only [kernelRun0_B.sl.v1856, ↓View.readCov_skip, kernelRun0_B.sl.HS1_32, kernelRun0_B.sl.HS1_30, kernelRun0_B.sl.HS1_28]
      apply N640.read_s1
    rw [← sc1, ← e]
    rfl
  have j1 : (kernelRun0_B.sl.v1969 (F := Ideal) c i arg2 harg2 arg3 harg3 arg7 harg7 arg8 arg9 hc2 x0 x1 xs0) = N640.join (N640.st (kernelRun0_B.sl.v1847 (F := Ideal) c i arg2 harg2 arg3 harg3 arg7 harg7 arg8 hc2 x0 x1 xs0)) (N640.st (kernelRun0_B.sl.v1865 (F := Ideal) c i arg2 harg2 arg3 harg3 arg7 harg7 arg8 hc2 x0 x1 xs0)) := by
    simp (disch := decide) only [kernelRun0_B.sl.v1969, ↓View.readCov_skip, kernelRun0_B.sl.HS2_64, kernelRun0_B.sl.HS2_60, kernelRun0_B.sl.HS2_56]
    apply N640.read_e
  unfold N640.chain
  rw [← x00, ← x01, ← x10, ← x11]
  unfold N640.head
  rw [← j0, ← j1]
  rfl

theorem pieceB_15 : k0_pay2 (F := Ideal) (kernelRun0_B.sl.v184 (F := Ideal) c i arg4 harg4 hc2 x2) (kernelRun0_B.sl.v185 ) (kernelRun0_B.sl.v1926 (F := Ideal) c i arg2 harg2 arg3 harg3 arg7 harg7 arg8 hc2 x0 x1 xs0) (kernelRun0_B.sl.v1963 (F := Ideal) c i arg2 harg2 arg3 harg3 arg7 harg7 arg8 hc2 x0 x1 xs0) (kernelRun0_B.sl.v1979 (F := Ideal) c i arg2 harg2 arg3 harg3 arg7 harg7 arg8 arg9 hc2 x0 x1 xs0) (kernelRun0_B.sl.v1984 (F := Ideal) c i arg2 harg2 arg3 harg3 arg7 harg7 arg8 arg9 hc2 x0 x1 xs0) =
    N640.chain (kernelRun0_B.sl.v1778 (F := Ideal) c arg2 harg2 x0) (kernelRun0_B.sl.v181 (F := Ideal) c i arg3 harg3 hc2 x1) (kernelRun0_B.sl.v184 (F := Ideal) c i arg4 harg4 hc2 x2)
      (View.readAt (Elt Ideal) arg7.view (Rect.unit (s := S2x128x640) ![0, 0, 0] S1x64x640.size (by decide)).toLoadRect (harg7.unread xs0)) (View.readAt (Elt Ideal) arg7.view (Rect.unit (s := S2x128x640) ![0, 64, 0] S1x64x640.size (by decide)).toLoadRect (harg7.unread xs0))
      (View.readAt (Elt Ideal) arg7.view (Rect.unit (s := S2x128x640) ![1, 0, 0] S1x64x640.size (by decide)).toLoadRect (harg7.unread xs0)) (View.readAt (Elt Ideal) arg7.view (Rect.unit (s := S2x128x640) ![1, 64, 0] S1x64x640.size (by decide)).toLoadRect (harg7.unread xs0)) := by
  have sc0 : (kernelRun0_B.sl.v1789 (F := Ideal) c i arg2 harg2 arg3 harg3 hc2 x0 x1) = N640.score lanes0 (kernelRun0_B.sl.v1778 (F := Ideal) c arg2 harg2 x0) (kernelRun0_B.sl.v181 (F := Ideal) c i arg3 harg3 hc2 x1) := rfl
  have x00 : (kernelRun0_B.sl.v1899 (F := Ideal) c i arg2 harg2 arg3 harg3 arg7 harg7 arg8 hc2 x0 x1 xs0) = N640.ex (N640.sub0 (N640.score lanes0 (kernelRun0_B.sl.v1778 (F := Ideal) c arg2 harg2 x0) (kernelRun0_B.sl.v181 (F := Ideal) c i arg3 harg3 hc2 x1))) (View.readAt (Elt Ideal) arg7.view (Rect.unit (s := S2x128x640) ![0, 0, 0] S1x64x640.size (by decide)).toLoadRect (harg7.unread xs0)) := by
    have e : (kernelRun0_B.sl.v1890 (F := Ideal) c i arg2 harg2 arg3 harg3 arg8 hc2 x0 x1) = N640.sub0 (kernelRun0_B.sl.v1789 (F := Ideal) c i arg2 harg2 arg3 harg3 hc2 x0 x1) := by
      simp (disch := decide) only [kernelRun0_B.sl.v1890, ↓View.readCov_skip, kernelRun0_B.sl.HS1_32, kernelRun0_B.sl.HS1_30]
      apply N640.read_s0
    rw [← sc0, ← e]
    rfl
  have x01 : (kernelRun0_B.sl.v1917 (F := Ideal) c i arg2 harg2 arg3 harg3 arg7 harg7 arg8 hc2 x0 x1 xs0) = N640.ex (N640.sub1 (N640.score lanes0 (kernelRun0_B.sl.v1778 (F := Ideal) c arg2 harg2 x0) (kernelRun0_B.sl.v181 (F := Ideal) c i arg3 harg3 hc2 x1))) (View.readAt (Elt Ideal) arg7.view (Rect.unit (s := S2x128x640) ![0, 64, 0] S1x64x640.size (by decide)).toLoadRect (harg7.unread xs0)) := by
    have e : (kernelRun0_B.sl.v1908 (F := Ideal) c i arg2 harg2 arg3 harg3 arg8 hc2 x0 x1) = N640.sub1 (kernelRun0_B.sl.v1789 (F := Ideal) c i arg2 harg2 arg3 harg3 hc2 x0 x1) := by
      simp (disch := decide) only [kernelRun0_B.sl.v1908, ↓View.readCov_skip, kernelRun0_B.sl.HS1_32, kernelRun0_B.sl.HS1_30]
      apply N640.read_s1
    rw [← sc0, ← e]
    rfl
  have j0 : (kernelRun0_B.sl.v1979 (F := Ideal) c i arg2 harg2 arg3 harg3 arg7 harg7 arg8 arg9 hc2 x0 x1 xs0) = N640.join (N640.st (kernelRun0_B.sl.v1899 (F := Ideal) c i arg2 harg2 arg3 harg3 arg7 harg7 arg8 hc2 x0 x1 xs0)) (N640.st (kernelRun0_B.sl.v1917 (F := Ideal) c i arg2 harg2 arg3 harg3 arg7 harg7 arg8 hc2 x0 x1 xs0)) := by
    simp (disch := decide) only [kernelRun0_B.sl.v1979, ↓View.readCov_skip, kernelRun0_B.sl.HS2_64, kernelRun0_B.sl.HS2_60]
    apply N640.read_e
  have sc1 : (kernelRun0_B.sl.v1800 (F := Ideal) c i arg2 harg2 arg3 harg3 hc2 x0 x1) = N640.score lanes1 (kernelRun0_B.sl.v1778 (F := Ideal) c arg2 harg2 x0) (kernelRun0_B.sl.v181 (F := Ideal) c i arg3 harg3 hc2 x1) := rfl
  have x10 : (kernelRun0_B.sl.v1936 (F := Ideal) c i arg2 harg2 arg3 harg3 arg7 harg7 arg8 hc2 x0 x1 xs0) = N640.ex (N640.sub0 (N640.score lanes1 (kernelRun0_B.sl.v1778 (F := Ideal) c arg2 harg2 x0) (kernelRun0_B.sl.v181 (F := Ideal) c i arg3 harg3 hc2 x1))) (View.readAt (Elt Ideal) arg7.view (Rect.unit (s := S2x128x640) ![1, 0, 0] S1x64x640.size (by decide)).toLoadRect (harg7.unread xs0)) := by
    have e : (kernelRun0_B.sl.v1927 (F := Ideal) c i arg2 harg2 arg3 harg3 arg8 hc2 x0 x1) = N640.sub0 (kernelRun0_B.sl.v1800 (F := Ideal) c i arg2 harg2 arg3 harg3 hc2 x0 x1) := by
      simp (disch := decide) only [kernelRun0_B.sl.v1927, ↓View.readCov_skip, kernelRun0_B.sl.HS1_32, kernelRun0_B.sl.HS1_30]
      apply N640.read_s0
    rw [← sc1, ← e]
    rfl
  have x11 : (kernelRun0_B.sl.v1954 (F := Ideal) c i arg2 harg2 arg3 harg3 arg7 harg7 arg8 hc2 x0 x1 xs0) = N640.ex (N640.sub1 (N640.score lanes1 (kernelRun0_B.sl.v1778 (F := Ideal) c arg2 harg2 x0) (kernelRun0_B.sl.v181 (F := Ideal) c i arg3 harg3 hc2 x1))) (View.readAt (Elt Ideal) arg7.view (Rect.unit (s := S2x128x640) ![1, 64, 0] S1x64x640.size (by decide)).toLoadRect (harg7.unread xs0)) := by
    have e : (kernelRun0_B.sl.v1945 (F := Ideal) c i arg2 harg2 arg3 harg3 arg8 hc2 x0 x1) = N640.sub1 (kernelRun0_B.sl.v1800 (F := Ideal) c i arg2 harg2 arg3 harg3 hc2 x0 x1) := by
      simp (disch := decide) only [kernelRun0_B.sl.v1945, ↓View.readCov_skip, kernelRun0_B.sl.HS1_32, kernelRun0_B.sl.HS1_30]
      apply N640.read_s1
    rw [← sc1, ← e]
    rfl
  have j1 : (kernelRun0_B.sl.v1984 (F := Ideal) c i arg2 harg2 arg3 harg3 arg7 harg7 arg8 arg9 hc2 x0 x1 xs0) = N640.join (N640.st (kernelRun0_B.sl.v1936 (F := Ideal) c i arg2 harg2 arg3 harg3 arg7 harg7 arg8 hc2 x0 x1 xs0)) (N640.st (kernelRun0_B.sl.v1954 (F := Ideal) c i arg2 harg2 arg3 harg3 arg7 harg7 arg8 hc2 x0 x1 xs0)) := by
    simp (disch := decide) only [kernelRun0_B.sl.v1984, ↓View.readCov_skip, kernelRun0_B.sl.HS2_64, kernelRun0_B.sl.HS2_60]
    apply N640.read_e
  unfold N640.chain
  rw [← x00, ← x01, ← x10, ← x11]
  unfold N640.head
  rw [← j0, ← j1]
  rfl

end Cert.Proof
-- ==== Proof.Attn.OutB.lean ====
module
public import proofs.«01_k».proof.Proof.Attn.PairsB1
public import proofs.«01_k».proof.Proof.Attn.PairsB2
public import proofs.«01_k».proof.Proof.Attn.Block

/-! The output of a later block of a head pair. -/

@[expose] public section
set_option maxRecDepth 16384
noncomputable section
namespace Cert.Proof
open Cert.KernelIdeal Cert.KernelIdeal.Gen Idealize.ShloMosaic Idealize.ShloMosaic.TcCoe Idealize.SL.Sem

variable (c : Dev nD) (i : grid0.Coords)
  (arg2 : Memref sig .tc .vmem S2048x128 .bf16) (harg2 : arg2.IsWhole)
  (arg3 : Memref sig .tc .vmem S8192x128 .bf16) (harg3 : arg3.IsWhole)
  (arg4 : Memref sig .tc .vmem S8192x128 .bf16) (harg4 : arg4.IsWhole)
  (arg5 : Memref sig .tc .vmem S2x1x640 .f32) (harg5 : arg5.IsWhole)
  (arg7 : Memref sig .tc .vmem S2x128x640 .f32) (harg7 : arg7.IsWhole)
  (arg8 : Memref sig .tc .vmem S32x128x640 .f32) (arg9 : Memref sig .tc .vmem S32x128x640 .bf16)
  (hc0 : ¬cond0_0 i) (hc1 : ¬cond0_1 i) (hc2 : cond0_2 i)
  (x0 : Vec Ideal S2048x128 .bf16) (x1 x2 : Vec Ideal S8192x128 .bf16) (x3 : Vec Ideal S2x1x640 .f32)
  (xs0 : Vec Ideal S2x128x640 .f32)

/-- where the window of keys of a pair of chunks starts. -/
theorem off1 (i : grid0.Coords) (u : ℕ) (hu : u < 16) (h1 : 1 ≤ (i 1).val) : k0_off1 i (BitVec.ofNat 32 u) = ![2048 * (i 1).val + 128 * u - 512, 0] := by
  unfold k0_off1
  have h4 : (i 1).val < 4 := (i 1).isLt
  generalize (i 1).val = s at h1 h4
  interval_cases s <;> interval_cases u <;> rfl

theorem valB_0 (hi : 1 ≤ (i 1).val) (hX : ∀ y, xs0 y = biasVal x3 (y 0) (y 1) (y 2)) (z : S128x128.Idx) (y : S2048x128.Idx) (hy0 : (y 0).val = 128 * 0 + (z 0).val) (hy1 : (y 1).val = (z 1).val) :
    (kernelRun0_B.sl.v419 (F := Ideal) c i arg2 harg2 arg3 harg3 arg4 harg4 arg7 harg7 arg8 arg9 hc2 x0 x1 x2 xs0) z = blkVal x0 x1 x2 x3 (i 1).val (y 0) (y 1) := by
  have h4 : (i 1).val < 4 := (i 1).isLt
  refine (congrFun (pieceB_0 ..) z).trans (N640.pair_val x0 x1 x2 x3 (i 1).val 0 (2048 * (i 1).val + 128 * 0 - 512) 0 h4 (by omega) (by omega) (by omega) (by omega) (by omega) _ _ _ _ _ _ _
    (fun r d => ld_q arg2 harg2 x0 (128 * 0) (by omega) _ _ r d)
    (fun k d => N640.ld_k arg3 harg3 x1 _ _ (2048 * (i 1).val + 128 * 0 - 512) (off1 i 0 (by omega) hi) (by omega) _ k d)
    (fun k d => N640.ld_k arg4 harg4 x2 _ _ (2048 * (i 1).val + 128 * 0 - 512) (off1 i 0 (by omega) hi) (by omega) _ k d)
    ?_ ?_ ?_ ?_ z y hy0 hy1)
  · exact (fun r k => N640.ld_x arg7 harg7 xs0 x3 hX 0 0 0 _ rfl _ (by omega) (by omega) r k)
  · exact (fun r k => N640.ld_x arg7 harg7 xs0 x3 hX 0 64 0 _ rfl _ (by omega) (by omega) r k)
  · exact (fun r k => N640.ld_x arg7 harg7 xs0 x3 hX 1 0 0 _ rfl _ (by omega) (by omega) r k)
  · exact (fun r k => N640.ld_x arg7 harg7 xs0 x3 hX 1 64 0 _ rfl _ (by omega) (by omega) r k)

theorem valB_1 (hi : 1 ≤ (i 1).val) (hX : ∀ y, xs0 y = biasVal x3 (y 0) (y 1) (y 2)) (z : S128x128.Idx) (y : S2048x128.Idx) (hy0 : (y 0).val = 128 * 1 + (z 0).val) (hy1 : (y 1).val = (z 1).val) :
    (kernelRun0_B.sl.v532 (F := Ideal) c i arg2 harg2 arg3 harg3 arg4 harg4 arg7 harg7 arg8 arg9 hc2 x0 x1 x2 xs0) z = blkVal x0 x1 x2 x3 (i 1).val (y 0) (y 1) := by
  have h4 : (i 1).val < 4 := (i 1).isLt
  refine (congrFun (pieceB_1 ..) z).trans (N640.pair_val x0 x1 x2 x3 (i 1).val 1 (2048 * (i 1).val + 128 * 1 - 512) 0 h4 (by omega) (by omega) (by omega) (by omega) (by omega) _ _ _ _ _ _ _
    (fun r d => ld_q arg2 harg2 x0 (128 * 1) (by omega) _ _ r d)
    (fun k d => N640.ld_k arg3 harg3 x1 _ _ (2048 * (i 1).val + 128 * 1 - 512) (off1 i 1 (by omega) hi) (by omega) _ k d)
    (fun k d => N640.ld_k arg4 harg4 x2 _ _ (2048 * (i 1).val + 128 * 1 - 512) (off1 i 1 (by omega) hi) (by omega) _ k d)
    ?_ ?_ ?_ ?_ z y hy0 hy1)
  · exact (fun r k => N640.ld_x arg7 harg7 xs0 x3 hX 0 0 0 _ rfl _ (by omega) (by omega) r k)
  · exact (fun r k => N640.ld_x arg7 harg7 xs0 x3 hX 0 64 0 _ rfl _ (by omega) (by omega) r k)
  · exact (fun r k => N640.ld_x arg7 harg7 xs0 x3 hX 1 0 0 _ rfl _ (by omega) (by omega) r k)
  · exact (fun r k => N640.ld_x arg7 harg7 xs0 x3 hX 1 64 0 _ rfl _ (by omega) (by omega) r k)

theorem valB_2 (hi : 1 ≤ (i 1).val) (hX : ∀ y, xs0 y = biasVal x3 (y 0) (y 1) (y 2)) (z : S128x128.Idx) (y : S2048x128.Idx) (hy0 : (y 0).val = 128 * 2 + (z 0).val) (hy1 : (y 1).val = (z 1).val) :
    (kernelRun0_B.sl.v645 (F := Ideal) c i arg2 harg2 arg3 harg3 arg4 harg4 arg7 harg7 arg8 arg9 hc2 x0 x1 x2 xs0) z = blkVal x0 x1 x2 x3 (i 1).val (y 0) (y 1) := by
  have h4 : (i 1).val < 4 := (i 1).isLt
  refine (congrFun (pieceB_2 ..) z).trans (N640.pair_val x0 x1 x2 x3 (i 1).val 2 (2048 * (i 1).val + 128 * 2 - 512) 0 h4 (by omega) (by omega) (by omega) (by omega) (by omega) _ _ _ _ _ _ _
    (fun r d => ld_q arg2 harg2 x0 (128 * 2) (by omega) _ _ r d)
    (fun k d => N640.ld_k arg3 harg3 x1 _ _ (2048 * (i 1).val + 128 * 2 - 512) (off1 i 2 (by omega) hi) (by omega) _ k d)
    (fun k d => N640.ld_k arg4 harg4 x2 _ _ (2048 * (i 1).val + 128 * 2 - 512) (off1 i 2 (by omega) hi) (by omega) _ k d)
    ?_ ?_ ?_ ?_ z y hy0 hy1)
  · exact (fun r k => N640.ld_x arg7 harg7 xs0 x3 hX 0 0 0 _ rfl _ (by omega) (by omega) r k)
  · exact (fun r k => N640.ld_x arg7 harg7 xs0 x3 hX 0 64 0 _ rfl _ (by omega) (by omega) r k)
  · exact (fun r k => N640.ld_x arg7 harg7 xs0 x3 hX 1 0 0 _ rfl _ (by omega) (by omega) r k)
  · exact (fun r k => N640.ld_x arg7 harg7 xs0 x3 hX 1 64 0 _ rfl _ (by omega) (by omega) r k)

theorem valB_3 (hi : 1 ≤ (i 1).val) (hX : ∀ y, xs0 y = biasVal x3 (y 0) (y 1) (y 2)) (z : S128x128.Idx) (y : S2048x128.Idx) (hy0 : (y 0).val = 128 * 3 + (z 0).val) (hy1 : (y 1).val = (z 1).val) :
    (kernelRun0_B.sl.v758 (F := Ideal) c i arg2 harg2 arg3 harg3 arg4 harg4 arg7 harg7 arg8 arg9 hc2 x0 x1 x2 xs0) z = blkVal x0 x1 x2 x3 (i 1).val (y 0) (y 1) := by
  have h4 : (i 1).val < 4 := (i 1).isLt
  refine (congrFun (pieceB_3 ..) z).trans (N640.pair_val x0 x1 x2 x3 (i 1).val 3 (2048 * (i 1).val + 128 * 3 - 512) 0 h4 (by omega) (by omega) (by omega) (by omega) (by omega) _ _ _ _ _ _ _
    (fun r d => ld_q arg2 harg2 x0 (128 * 3) (by omega) _ _ r d)
    (fun k d => N640.ld_k arg3 harg3 x1 _ _ (2048 * (i 1).val + 128 * 3 - 512) (off1 i 3 (by omega) hi) (by omega) _ k d)
    (fun k d => N640.ld_k arg4 harg4 x2 _ _ (2048 * (i 1).val + 128 * 3 - 512) (off1 i 3 (by omega) hi) (by omega) _ k d)
    ?_ ?_ ?_ ?_ z y hy0 hy1)
  · exact (fun r k => N640.ld_x arg7 harg7 xs0 x3 hX 0 0 0 _ rfl _ (by omega) (by omega) r k)
  · exact (fun r k => N640.ld_x arg7 harg7 xs0 x3 hX 0 64 0 _ rfl _ (by omega) (by omega) r k)
  · exact (fun r k => N640.ld_x arg7 harg7 xs0 x3 hX 1 0 0 _ rfl _ (by omega) (by omega) r k)
  · exact (fun r k => N640.ld_x arg7 harg7 xs0 x3 hX 1 64 0 _ rfl _ (by omega) (by omega) r k)

theorem valB_4 (hi : 1 ≤ (i 1).val) (hX : ∀ y, xs0 y = biasVal x3 (y 0) (y 1) (y 2)) (z : S128x128.Idx) (y : S2048x128.Idx) (hy0 : (y 0).val = 128 * 4 + (z 0).val) (hy1 : (y 1).val = (z 1).val) :
    (kernelRun0_B.sl.v871 (F := Ideal) c i arg2 harg2 arg3 harg3 arg4 harg4 arg7 harg7 arg8 arg9 hc2 x0 x1 x2 xs0) z = blkVal x0 x1 x2 x3 (i 1).val (y 0) (y 1) := by
  have h4 : (i 1).val < 4 := (i 1).isLt
  refine (congrFun (pieceB_4 ..) z).trans (N640.pair_val x0 x1 x2 x3 (i 1).val 4 (2048 * (i 1).val + 128 * 4 - 512) 0 h4 (by omega) (by omega) (by omega) (by omega) (by omega) _ _ _ _ _ _ _
    (fun r d => ld_q arg2 harg2 x0 (128 * 4) (by omega) _ _ r d)
    (fun k d => N640.ld_k arg3 harg3 x1 _ _ (2048 * (i 1).val + 128 * 4 - 512) (off1 i 4 (by omega) hi) (by omega) _ k d)
    (fun k d => N640.ld_k arg4 harg4 x2 _ _ (2048 * (i 1).val + 128 * 4 - 512) (off1 i 4 (by omega) hi) (by omega) _ k d)
    ?_ ?_ ?_ ?_ z y hy0 hy1)
  · exact (fun r k => N640.ld_x arg7 harg7 xs0 x3 hX 0 0 0 _ rfl _ (by omega) (by omega) r k)
  · exact (fun r k => N640.ld_x arg7 harg7 xs0 x3 hX 0 64 0 _ rfl _ (by omega) (by omega) r k)
  · exact (fun r k => N640.ld_x arg7 harg7 xs0 x3 hX 1 0 0 _ rfl _ (by omega) (by omega) r k)
  · exact (fun r k => N640.ld_x arg7 harg7 xs0 x3 hX 1 64 0 _ rfl _ (by omega) (by omega) r k)

theorem valB_5 (hi : 1 ≤ (i 1).val) (hX : ∀ y, xs0 y = biasVal x3 (y 0) (y 1) (y 2)) (z : S128x128.Idx) (y : S2048x128.Idx) (hy0 : (y 0).val = 128 * 5 + (z 0).val) (hy1 : (y 1).val = (z 1).val) :
    (kernelRun0_B.sl.v984 (F := Ideal) c i arg2 harg2 arg3 harg3 arg4 harg4 arg7 harg7 arg8 arg9 hc2 x0 x1 x2 xs0) z = blkVal x0 x1 x2 x3 (i 1).val (y 0) (y 1) := by
  have h4 : (i 1).val < 4 := (i 1).isLt
  refine (congrFun (pieceB_5 ..) z).trans (N640.pair_val x0 x1 x2 x3 (i 1).val 5 (2048 * (i 1).val + 128 * 5 - 512) 0 h4 (by omega) (by omega) (by omega) (by omega) (by omega) _ _ _ _ _ _ _
    (fun r d => ld_q arg2 harg2 x0 (128 * 5) (by omega) _ _ r d)
    (fun k d => N640.ld_k arg3 harg3 x1 _ _ (2048 * (i 1).val + 128 * 5 - 512) (off1 i 5 (by omega) hi) (by omega) _ k d)
    (fun k d => N640.ld_k arg4 harg4 x2 _ _ (2048 * (i 1).val + 128 * 5 - 512) (off1 i 5 (by omega) hi) (by omega) _ k d)
    ?_ ?_ ?_ ?_ z y hy0 hy1)
  · exact (fun r k => N640.ld_x arg7 harg7 xs0 x3 hX 0 0 0 _ rfl _ (by omega) (by omega) r k)
  · exact (fun r k => N640.ld_x arg7 harg7 xs0 x3 hX 0 64 0 _ rfl _ (by omega) (by omega) r k)
  · exact (fun r k => N640.ld_x arg7 harg7 xs0 x3 hX 1 0 0 _ rfl _ (by omega) (by omega) r k)
  · exact (fun r k => N640.ld_x arg7 harg7 xs0 x3 hX 1 64 0 _ rfl _ (by omega) (by omega) r k)

theorem valB_6 (hi : 1 ≤ (i 1).val) (hX : ∀ y, xs0 y = biasVal x3 (y 0) (y 1) (y 2)) (z : S128x128.Idx) (y : S2048x128.Idx) (hy0 : (y 0).val = 128 * 6 + (z 0).val) (hy1 : (y 1).val = (z 1).val) :
    (kernelRun0_B.sl.v1097 (F := Ideal) c i arg2 harg2 arg3 harg3 arg4 harg4 arg7 harg7 arg8 arg9 hc2 x0 x1 x2 xs0) z = blkVal x0 x1 x2 x3 (i 1).val (y 0) (y 1) := by
  have h4 : (i 1).val < 4 := (i 1).isLt
  refine (congrFun (pieceB_6 ..) z).trans (N640.pair_val x0 x1 x2 x3 (i 1).val 6 (2048 * (i 1).val + 128 * 6 - 512) 0 h4 (by omega) (by omega) (by omega) (by omega) (by omega) _ _ _ _ _ _ _
    (fun r d => ld_q arg2 harg2 x0 (128 * 6) (by omega) _ _ r d)
    (fun k d => N640.ld_k arg3 harg3 x1 _ _ (2048 * (i 1).val + 128 * 6 - 512) (off1 i 6 (by omega) hi) (by omega) _ k d)
    (fun k d => N640.ld_k arg4 harg4 x2 _ _ (2048 * (i 1).val + 128 * 6 - 512) (off1 i 6 (by omega) hi) (by omega) _ k d)
    ?_ ?_ ?_ ?_ z y hy0 hy1)
  · exact (fun r k => N640.ld_x arg7 harg7 xs0 x3 hX 0 0 0 _ rfl _ (by omega) (by omega) r k)
  · exact (fun r k => N640.ld_x arg7 harg7 xs0 x3 hX 0 64 0 _ rfl _ (by omega) (by omega) r k)
  · exact (fun r k => N640.ld_x arg7 harg7 xs0 x3 hX 1 0 0 _ rfl _ (by omega) (by omega) r k)
  · exact (fun r k => N640.ld_x arg7 harg7 xs0 x3 hX 1 64 0 _ rfl _ (by omega) (by omega) r k)

theorem valB_7 (hi : 1 ≤ (i 1).val) (hX : ∀ y, xs0 y = biasVal x3 (y 0) (y 1) (y 2)) (z : S128x128.Idx) (y : S2048x128.Idx) (hy0 : (y 0).val = 128 * 7 + (z 0).val) (hy1 : (y 1).val = (z 1).val) :
    (kernelRun0_B.sl.v1210 (F := Ideal) c i arg2 harg2 arg3 harg3 arg4 harg4 arg7 harg7 arg8 arg9 hc2 x0 x1 x2 xs0) z = blkVal x0 x1 x2 x3 (i 1).val (y 0) (y 1) := by
  have h4 : (i 1).val < 4 := (i 1).isLt
  refine (congrFun (pieceB_7 ..) z).trans (N640.pair_val x0 x1 x2 x3 (i 1).val 7 (2048 * (i 1).val + 128 * 7 - 512) 0 h4 (by omega) (by omega) (by omega) (by omega) (by omega) _ _ _ _ _ _ _
    (fun r d => ld_q arg2 harg2 x0 (128 * 7) (by omega) _ _ r d)
    (fun k d => N640.ld_k arg3 harg3 x1 _ _ (2048 * (i 1).val + 128 * 7 - 512) (off1 i 7 (by omega) hi) (by omega) _ k d)
    (fun k d => N640.ld_k arg4 harg4 x2 _ _ (2048 * (i 1).val + 128 * 7 - 512) (off1 i 7 (by omega) hi) (by omega) _ k d)
    ?_ ?_ ?_ ?_ z y hy0 hy1)
  · exact (fun r k => N640.ld_x arg7 harg7 xs0 x3 hX 0 0 0 _ rfl _ (by omega) (by omega) r k)
  · exact (fun r k => N640.ld_x arg7 harg7 xs0 x3 hX 0 64 0 _ rfl _ (by omega) (by omega) r k)
  · exact (fun r k => N640.ld_x arg7 harg7 xs0 x3 hX 1 0 0 _ rfl _ (by omega) (by omega) r k)
  · exact (fun r k => N640.ld_x arg7 harg7 xs0 x3 hX 1 64 0 _ rfl _ (by omega) (by omega) r k)

theorem valB_8 (hi : 1 ≤ (i 1).val) (hX : ∀ y, xs0 y = biasVal x3 (y 0) (y 1) (y 2)) (z : S128x128.Idx) (y : S2048x128.Idx) (hy0 : (y 0).val = 128 * 8 + (z 0).val) (hy1 : (y 1).val = (z 1).val) :
    (kernelRun0_B.sl.v1323 (F := Ideal) c i arg2 harg2 arg3 harg3 arg4 harg4 arg7 harg7 arg8 arg9 hc2 x0 x1 x2 xs0) z = blkVal x0 x1 x2 x3 (i 1).val (y 0) (y 1) := by
  have h4 : (i 1).val < 4 := (i 1).isLt
  refine (congrFun (pieceB_8 ..) z).trans (N640.pair_val x0 x1 x2 x3 (i 1).val 8 (2048 * (i 1).val + 128 * 8 - 512) 0 h4 (by omega) (by omega) (by omega) (by omega) (by omega) _ _ _ _ _ _ _
    (fun r d => ld_q arg2 harg2 x0 (128 * 8) (by omega) _ _ r d)
    (fun k d => N640.ld_k arg3 harg3 x1 _ _ (2048 * (i 1).val + 128 * 8 - 512) (off1 i 8 (by omega) hi) (by omega) _ k d)
    (fun k d => N640.ld_k arg4 harg4 x2 _ _ (2048 * (i 1).val + 128 * 8 - 512) (off1 i 8 (by omega) hi) (by omega) _ k d)
    ?_ ?_ ?_ ?_ z y hy0 hy1)
  · exact (fun r k => N640.ld_x arg7 harg7 xs0 x3 hX 0 0 0 _ rfl _ (by omega) (by omega) r k)
  · exact (fun r k => N640.ld_x arg7 harg7 xs0 x3 hX 0 64 0 _ rfl _ (by omega) (by omega) r k)
  · exact (fun r k => N640.ld_x arg7 harg7 xs0 x3 hX 1 0 0 _ rfl _ (by omega) (by omega) r k)
  · exact (fun r k => N640.ld_x arg7 harg7 xs0 x3 hX 1 64 0 _ rfl _ (by omega) (by omega) r k)

theorem valB_9 (hi : 1 ≤ (i 1).val) (hX : ∀ y, xs0 y = biasVal x3 (y 0) (y 1) (y 2)) (z : S128x128.Idx) (y : S2048x128.Idx) (hy0 : (y 0).val = 128 * 9 + (z 0).val) (hy1 : (y 1).val = (z 1).val) :
    (kernelRun0_B.sl.v1436 (F := Ideal) c i arg2 harg2 arg3 harg3 arg4 harg4 arg7 harg7 arg8 arg9 hc2 x0 x1 x2 xs0) z = blkVal x0 x1 x2 x3 (i 1).val (y 0) (y 1) := by
  have h4 : (i 1).val < 4 := (i 1).isLt
  refine (congrFun (pieceB_9 ..) z).trans (N640.pair_val x0 x1 x2 x3 (i 1).val 9 (2048 * (i 1).val + 128 * 9 - 512) 0 h4 (by omega) (by omega) (by omega) (by omega) (by omega) _ _ _ _ _ _ _
    (fun r d => ld_q arg2 harg2 x0 (128 * 9) (by omega) _ _ r d)
    (fun k d => N640.ld_k arg3 harg3 x1 _ _ (2048 * (i 1).val + 128 * 9 - 512) (off1 i 9 (by omega) hi) (by omega) _ k d)
    (fun k d => N640.ld_k arg4 harg4 x2 _ _ (2048 * (i 1).val + 128 * 9 - 512) (off1 i 9 (by omega) hi) (by omega) _ k d)
    ?_ ?_ ?_ ?_ z y hy0 hy1)
  · exact (fun r k => N640.ld_x arg7 harg7 xs0 x3 hX 0 0 0 _ rfl _ (by omega) (by omega) r k)
  · exact (fun r k => N640.ld_x arg7 harg7 xs0 x3 hX 0 64 0 _ rfl _ (by omega) (by omega) r k)
  · exact (fun r k => N640.ld_x arg7 harg7 xs0 x3 hX 1 0 0 _ rfl _ (by omega) (by omega) r k)
  · exact (fun r k => N640.ld_x arg7 harg7 xs0 x3 hX 1 64 0 _ rfl _ (by omega) (by omega) r k)

theorem valB_10 (hi : 1 ≤ (i 1).val) (hX : ∀ y, xs0 y = biasVal x3 (y 0) (y 1) (y 2)) (z : S128x128.Idx) (y : S2048x128.Idx) (hy0 : (y 0).val = 128 * 10 + (z 0).val) (hy1 : (y 1).val = (z 1).val) :
    (kernelRun0_B.sl.v1549 (F := Ideal) c i arg2 harg2 arg3 harg3 arg4 harg4 arg7 harg7 arg8 arg9 hc2 x0 x1 x2 xs0) z = blkVal x0 x1 x2 x3 (i 1).val (y 0) (y 1) := by
  have h4 : (i 1).val < 4 := (i 1).isLt
  refine (congrFun (pieceB_10 ..) z).trans (N640.pair_val x0 x1 x2 x3 (i 1).val 10 (2048 * (i 1).val + 128 * 10 - 512) 0 h4 (by omega) (by omega) (by omega) (by omega) (by omega) _ _ _ _ _ _ _
    (fun r d => ld_q arg2 harg2 x0 (128 * 10) (by omega) _ _ r d)
    (fun k d => N640.ld_k arg3 harg3 x1 _ _ (2048 * (i 1).val + 128 * 10 - 512) (off1 i 10 (by omega) hi) (by omega) _ k d)
    (fun k d => N640.ld_k arg4 harg4 x2 _ _ (2048 * (i 1).val + 128 * 10 - 512) (off1 i 10 (by omega) hi) (by omega) _ k d)
    ?_ ?_ ?_ ?_ z y hy0 hy1)
  · exact (fun r k => N640.ld_x arg7 harg7 xs0 x3 hX 0 0 0 _ rfl _ (by omega) (by omega) r k)
  · exact (fun r k => N640.ld_x arg7 harg7 xs0 x3 hX 0 64 0 _ rfl _ (by omega) (by omega) r k)
  · exact (fun r k => N640.ld_x arg7 harg7 xs0 x3 hX 1 0 0 _ rfl _ (by omega) (by omega) r k)
  · exact (fun r k => N640.ld_x arg7 harg7 xs0 x3 hX 1 64 0 _ rfl _ (by omega) (by omega) r k)

theorem valB_11 (hi : 1 ≤ (i 1).val) (hX : ∀ y, xs0 y = biasVal x3 (y 0) (y 1) (y 2)) (z : S128x128.Idx) (y : S2048x128.Idx) (hy0 : (y 0).val = 128 * 11 + (z 0).val) (hy1 : (y 1).val = (z 1).val) :
    (kernelRun0_B.sl.v1662 (F := Ideal) c i arg2 harg2 arg3 harg3 arg4 harg4 arg7 harg7 arg8 arg9 hc2 x0 x1 x2 xs0) z = blkVal x0 x1 x2 x3 (i 1).val (y 0) (y 1) := by
  have h4 : (i 1).val < 4 := (i 1).isLt
  refine (congrFun (pieceB_11 ..) z).trans (N640.pair_val x0 x1 x2 x3 (i 1).val 11 (2048 * (i 1).val + 128 * 11 - 512) 0 h4 (by omega) (by omega) (by omega) (by omega) (by omega) _ _ _ _ _ _ _
    (fun r d => ld_q arg2 harg2 x0 (128 * 11) (by omega) _ _ r d)
    (fun k d => N640.ld_k arg3 harg3 x1 _ _ (2048 * (i 1).val + 128 * 11 - 512) (off1 i 11 (by omega) hi) (by omega) _ k d)
    (fun k d => N640.ld_k arg4 harg4 x2 _ _ (2048 * (i 1).val + 128 * 11 - 512) (off1 i 11 (by omega) hi) (by omega) _ k d)
    ?_ ?_ ?_ ?_ z y hy0 hy1)
  · exact (fun r k => N640.ld_x arg7 harg7 xs0 x3 hX 0 0 0 _ rfl _ (by omega) (by omega) r k)
  · exact (fun r k => N640.ld_x arg7 harg7 xs0 x3 hX 0 64 0 _ rfl _ (by omega) (by omega) r k)
  · exact (fun r k => N640.ld_x arg7 harg7 xs0 x3 hX 1 0 0 _ rfl _ (by omega) (by omega) r k)
  · exact (fun r k => N640.ld_x arg7 harg7 xs0 x3 hX 1 64 0 _ rfl _ (by omega) (by omega) r k)

theorem valB_12 (hi : 1 ≤ (i 1).val) (hX : ∀ y, xs0 y = biasVal x3 (y 0) (y 1) (y 2)) (z : S128x128.Idx) (y : S2048x128.Idx) (hy0 : (y 0).val = 128 * 12 + (z 0).val) (hy1 : (y 1).val = (z 1).val) :
    (kernelRun0_B.sl.v1775 (F := Ideal) c i arg2 harg2 arg3 harg3 arg4 harg4 arg7 harg7 arg8 arg9 hc2 x0 x1 x2 xs0) z = blkVal x0 x1 x2 x3 (i 1).val (y 0) (y 1) := by
  have h4 : (i 1).val < 4 := (i 1).isLt
  refine (congrFun (pieceB_12 ..) z).trans (N640.pair_val x0 x1 x2 x3 (i 1).val 12 (2048 * (i 1).val + 128 * 12 - 512) 0 h4 (by omega) (by omega) (by omega) (by omega) (by omega) _ _ _ _ _ _ _
    (fun r d => ld_q arg2 harg2 x0 (128 * 12) (by omega) _ _ r d)
    (fun k d => N640.ld_k arg3 harg3 x1 _ _ (2048 * (i 1).val + 128 * 12 - 512) (off1 i 12 (by omega) hi) (by omega) _ k d)
    (fun k d => N640.ld_k arg4 harg4 x2 _ _ (2048 * (i 1).val + 128 * 12 - 512) (off1 i 12 (by omega) hi) (by omega) _ k d)
    ?_ ?_ ?_ ?_ z y hy0 hy1)
  · exact (fun r k => N640.ld_x arg7 harg7 xs0 x3 hX 0 0 0 _ rfl _ (by omega) (by omega) r k)
  · exact (fun r k => N640.ld_x arg7 harg7 xs0 x3 hX 0 64 0 _ rfl _ (by omega) (by omega) r k)
  · exact (fun r k => N640.ld_x arg7 harg7 xs0 x3 hX 1 0 0 _ rfl _ (by omega) (by omega) r k)
  · exact (fun r k => N640.ld_x arg7 harg7 xs0 x3 hX 1 64 0 _ rfl _ (by omega) (by omega) r k)

theorem valB_13 (hi : 1 ≤ (i 1).val) (hX : ∀ y, xs0 y = biasVal x3 (y 0) (y 1) (y 2)) (z : S128x128.Idx) (y : S2048x128.Idx) (hy0 : (y 0).val = 128 * 13 + (z 0).val) (hy1 : (y 1).val = (z 1).val) :
    (kernelRun0_B.sl.v1888 (F := Ideal) c i arg2 harg2 arg3 harg3 arg4 harg4 arg7 harg7 arg8 arg9 hc2 x0 x1 x2 xs0) z = blkVal x0 x1 x2 x3 (i 1).val (y 0) (y 1) := by
  have h4 : (i 1).val < 4 := (i 1).isLt
  refine (congrFun (pieceB_13 ..) z).trans (N640.pair_val x0 x1 x2 x3 (i 1).val 13 (2048 * (i 1).val + 128 * 13 - 512) 0 h4 (by omega) (by omega) (by omega) (by omega) (by omega) _ _ _ _ _ _ _
    (fun r d => ld_q arg2 harg2 x0 (128 * 13) (by omega) _ _ r d)
    (fun k d => N640.ld_k arg3 harg3 x1 _ _ (2048 * (i 1).val + 128 * 13 - 512) (off1 i 13 (by omega) hi) (by omega) _ k d)
    (fun k d => N640.ld_k arg4 harg4 x2 _ _ (2048 * (i 1).val + 128 * 13 - 512) (off1 i 13 (by omega) hi) (by omega) _ k d)
    ?_ ?_ ?_ ?_ z y hy0 hy1)
  · exact (fun r k => N640.ld_x arg7 harg7 xs0 x3 hX 0 0 0 _ rfl _ (by omega) (by omega) r k)
  · exact (fun r k => N640.ld_x arg7 harg7 xs0 x3 hX 0 64 0 _ rfl _ (by omega) (by omega) r k)
  · exact (fun r k => N640.ld_x arg7 harg7 xs0 x3 hX 1 0 0 _ rfl _ (by omega) (by omega) r k)
  · exact (fun r k => N640.ld_x arg7 harg7 xs0 x3 hX 1 64 0 _ rfl _ (by omega) (by omega) r k)

theorem valB_14 (hi : 1 ≤ (i 1).val) (hX : ∀ y, xs0 y = biasVal x3 (y 0) (y 1) (y 2)) (z : S128x128.Idx) (y : S2048x128.Idx) (hy0 : (y 0).val = 128 * 14 + (z 0).val) (hy1 : (y 1).val = (z 1).val) :
    (kernelRun0_B.sl.r (F := Ideal) c i arg2 harg2 arg3 harg3 arg4 harg4 arg7 harg7 arg8 arg9 hc2 x0 x1 x2 xs0) z = blkVal x0 x1 x2 x3 (i 1).val (y 0) (y 1) := by
  have h4 : (i 1).val < 4 := (i 1).isLt
  refine (congrFun (pieceB_14 ..) z).trans (N640.pair_val x0 x1 x2 x3 (i 1).val 14 (2048 * (i 1).val + 128 * 14 - 512) 0 h4 (by omega) (by omega) (by omega) (by omega) (by omega) _ _ _ _ _ _ _
    (fun r d => ld_q arg2 harg2 x0 (128 * 14) (by omega) _ _ r d)
    (fun k d => N640.ld_k arg3 harg3 x1 _ _ (2048 * (i 1).val + 128 * 14 - 512) (off1 i 14 (by omega) hi) (by omega) _ k d)
    (fun k d => N640.ld_k arg4 harg4 x2 _ _ (2048 * (i 1).val + 128 * 14 - 512) (off1 i 14 (by omega) hi) (by omega) _ k d)
    ?_ ?_ ?_ ?_ z y hy0 hy1)
  · exact (fun r k => N640.ld_x arg7 harg7 xs0 x3 hX 0 0 0 _ rfl _ (by omega) (by omega) r k)
  · exact (fun r k => N640.ld_x arg7 harg7 xs0 x3 hX 0 64 0 _ rfl _ (by omega) (by omega) r k)
  · exact (fun r k => N640.ld_x arg7 harg7 xs0 x3 hX 1 0 0 _ rfl _ (by omega) (by omega) r k)
  · exact (fun r k => N640.ld_x arg7 harg7 xs0 x3 hX 1 64 0 _ rfl _ (by omega) (by omega) r k)

theorem valB_15 (hi : 1 ≤ (i 1).val) (hX : ∀ y, xs0 y = biasVal x3 (y 0) (y 1) (y 2)) (z : S128x128.Idx) (y : S2048x128.Idx) (hy0 : (y 0).val = 128 * 15 + (z 0).val) (hy1 : (y 1).val = (z 1).val) :
    (k0_pay2 (F := Ideal) (kernelRun0_B.sl.v184 (F := Ideal) c i arg4 harg4 hc2 x2) (kernelRun0_B.sl.v185 ) (kernelRun0_B.sl.v1926 (F := Ideal) c i arg2 harg2 arg3 harg3 arg7 harg7 arg8 hc2 x0 x1 xs0) (kernelRun0_B.sl.v1963 (F := Ideal) c i arg2 harg2 arg3 harg3 arg7 harg7 arg8 hc2 x0 x1 xs0) (kernelRun0_B.sl.v1979 (F := Ideal) c i arg2 harg2 arg3 harg3 arg7 harg7 arg8 arg9 hc2 x0 x1 xs0) (kernelRun0_B.sl.v1984 (F := Ideal) c i arg2 harg2 arg3 harg3 arg7 harg7 arg8 arg9 hc2 x0 x1 xs0)) z = blkVal x0 x1 x2 x3 (i 1).val (y 0) (y 1) := by
  have h4 : (i 1).val < 4 := (i 1).isLt
  refine (congrFun (pieceB_15 ..) z).trans (N640.pair_val x0 x1 x2 x3 (i 1).val 15 (2048 * (i 1).val + 128 * 15 - 512) 0 h4 (by omega) (by omega) (by omega) (by omega) (by omega) _ _ _ _ _ _ _
    (fun r d => ld_q arg2 harg2 x0 (128 * 15) (by omega) _ _ r d)
    (fun k d => N640.ld_k arg3 harg3 x1 _ _ (2048 * (i 1).val + 128 * 15 - 512) (off1 i 15 (by omega) hi) (by omega) _ k d)
    (fun k d => N640.ld_k arg4 harg4 x2 _ _ (2048 * (i 1).val + 128 * 15 - 512) (off1 i 15 (by omega) hi) (by omega) _ k d)
    ?_ ?_ ?_ ?_ z y hy0 hy1)
  · exact (fun r k => N640.ld_x arg7 harg7 xs0 x3 hX 0 0 0 _ rfl _ (by omega) (by omega) r k)
  · exact (fun r k => N640.ld_x arg7 harg7 xs0 x3 hX 0 64 0 _ rfl _ (by omega) (by omega) r k)
  · exact (fun r k => N640.ld_x arg7 harg7 xs0 x3 hX 1 0 0 _ rfl _ (by omega) (by omega) r k)
  · exact (fun r k => N640.ld_x arg7 harg7 xs0 x3 hX 1 64 0 _ rfl _ (by omega) (by omega) r k)

theorem outB (arg6 : Memref sig .tc .vmem S2048x128 .bf16) (harg6 : arg6.IsWhole) (harg8 : arg8.IsWhole) (harg9 : arg9.IsWhole) (hi : 1 ≤ (i 1).val) (hX : ∀ y, xs0 y = biasVal x3 (y 0) (y 1) (y 2)) (y : S2048x128.Idx) :
    out0_B_4 (F := Ideal) c i arg2 harg2 arg3 harg3 arg4 harg4 arg5 harg5 arg6 harg6 arg7 harg7 arg8 harg8 arg9 harg9 hc0 hc1 hc2 x0 x1 x2 x3 xs0 y = blkVal x0 x1 x2 x3 (i 1).val (y 0) (y 1) := by
  unfold out0_B_4
  rw [View.read_writes_junk_eq_canon]
  unfold kernelRun0_B
  dsimp only
  canon_tiles x h
  case piece15 => exact valB_0 (hy0 := by omega) (hy1 := h1) (hi := hi) (hX := hX) ..
  case piece14 => exact valB_1 (hy0 := by omega) (hy1 := h1) (hi := hi) (hX := hX) ..
  case piece13 => exact valB_2 (hy0 := by omega) (hy1 := h1) (hi := hi) (hX := hX) ..
  case piece12 => exact valB_3 (hy0 := by omega) (hy1 := h1) (hi := hi) (hX := hX) ..
  case piece11 => exact valB_4 (hy0 := by omega) (hy1 := h1) (hi := hi) (hX := hX) ..
  case piece10 => exact valB_5 (hy0 := by omega) (hy1 := h1) (hi := hi) (hX := hX) ..
  case piece9 => exact valB_6 (hy0 := by omega) (hy1 := h1) (hi := hi) (hX := hX) ..
  case piece8 => exact valB_7 (hy0 := by omega) (hy1 := h1) (hi := hi) (hX := hX) ..
  case piece7 => exact valB_8 (hy0 := by omega) (hy1 := h1) (hi := hi) (hX := hX) ..
  case piece6 => exact valB_9 (hy0 := by omega) (hy1 := h1) (hi := hi) (hX := hX) ..
  case piece5 => exact valB_10 (hy0 := by omega) (hy1 := h1) (hi := hi) (hX := hX) ..
  case piece4 => exact valB_11 (hy0 := by omega) (hy1 := h1) (hi := hi) (hX := hX) ..
  case piece3 => exact valB_12 (hy0 := by omega) (hy1 := h1) (hi := hi) (hX := hX) ..
  case piece2 => exact valB_13 (hy0 := by omega) (hy1 := h1) (hi := hi) (hX := hX) ..
  case piece1 => exact valB_14 (hy0 := by omega) (hy1 := h1) (hi := hi) (hX := hX) ..
  case piece0 => exact valB_15 (hy0 := by omega) (hy1 := h1) (hi := hi) (hX := hX) ..

end Cert.Proof
-- ==== Proof.Attn.Host.lean ====
module
public import proofs.«01_k».proof.Proof.Gen.KernelIdeal.Value
public import proofs.«01_k».proof.Proof.Attn.OutA
public import proofs.«01_k».proof.Proof.Attn.OutB

/-! What the kernel's windows cover: the arguments scaled and cast, and the rows of distances. -/

@[expose] public section
set_option maxRecDepth 16384
noncomputable section
namespace Cert.Proof
open Cert.KernelIdeal Cert.KernelIdeal.Gen Idealize.ShloMosaic Idealize.ShloMosaic.TcCoe Idealize.SL.Sem

variable (m : (ℓ : Loc nD τ sig) → Buf (Elt Ideal) ℓ) (c : Dev nD)

/-- an eighth. -/
abbrev eighth : EReal := FloatOps.ofBits (F := Ideal) .f32 0x3E000000#32

/-- the arguments. -/
abbrev aq : S8192x1024.Idx → EReal := m ((c.tc : Thread nD τ).loc main_arg0)
abbrev ak : S8192x1024.Idx → EReal := m ((c.tc : Thread nD τ).loc main_arg1)
abbrev av : S8192x1024.Idx → EReal := m ((c.tc : Thread nD τ).loc main_arg2)
abbrev at' : S16x257.Idx → EReal := m ((c.tc : Thread nD τ).loc main_arg3)

theorem V_q (a : Fin 8192) (b : Fin 1024) : V m c main_v2 (ix2 a b) = aq m c (ix2 a b) * eighth := by
  unfold V
  simp only [hostOps0, hostOps0_1, hostOps0_2, List.flatten_cons, List.flatten_nil, List.append_nil, List.cons_append, List.nil_append]
  entry_read
  pointwise

theorem V_k (a : Fin 8192) (b : Fin 1024) : V m c main_v3 (ix2 a b) = ak m c (ix2 a b) := by
  unfold V
  simp only [hostOps0, hostOps0_1, hostOps0_2, List.flatten_cons, List.flatten_nil, List.append_nil, List.cons_append, List.nil_append]
  entry_read
  pointwise

theorem V_v (a : Fin 8192) (b : Fin 1024) : V m c main_v4 (ix2 a b) = av m c (ix2 a b) := by
  unfold V
  simp only [hostOps0, hostOps0_1, hostOps0_2, List.flatten_cons, List.flatten_nil, List.append_nil, List.cons_append, List.nil_append]
  entry_read
  pointwise

/-- the column of the table that a place in a row of distances takes. -/
def gix (i : ℕ) : Fin 257 := if h : 385 ≤ i ∧ i < 576 then ⟨640 - i, by omega⟩ else ⟨256, by decide⟩

theorem after_g (σ : Valuation τ sig (Elt Ideal)) : StableHlo.after (hostOps0_2 (F := Ideal)) σ (Proc.devRef .tc main_v13) =
    broadcastInDim S16x1x640 ![0, 2] bcast_S16x640_S16x1x640_0_2 (concatenate S16x640 1
      [⟨S16x385, (StableHlo.after (List.take 4 (hostOps0_2 (F := Ideal))) σ (Proc.devRef .tc main_v9) : S16x385.Idx → EReal)⟩,
       ⟨S16x191, (StableHlo.after (List.take 4 (hostOps0_2 (F := Ideal))) σ (Proc.devRef .tc main_v7) : S16x191.Idx → EReal)⟩,
       ⟨S16x64, (StableHlo.after (List.take 4 (hostOps0_2 (F := Ideal))) σ (Proc.devRef .tc main_v11) : S16x64.Idx → EReal)⟩] concatenates_S16x385_S16x191_S16x64_S16x640_d1) := by
  have e : StableHlo.after (hostOps0_2 (F := Ideal)) σ = StableHlo.after (List.drop 4 (hostOps0_2 (F := Ideal))) (StableHlo.after (List.take 4 (hostOps0_2 (F := Ideal))) σ) := rfl
  rw [e]
  generalize StableHlo.after (List.take 4 (hostOps0_2 (F := Ideal))) σ = ρ
  simp only [hostOps0_2, List.drop_succ_cons, List.drop_zero, StableHlo.after_cons, StableHlo.after_nil]
  rw [StableHlo.unary_result, StableHlo.nary_result]
  rfl

theorem take_v9 (σ : Valuation τ sig (Elt Ideal)) : StableHlo.after (List.take 4 (hostOps0_2 (F := Ideal))) σ (Proc.devRef .tc main_v9) =
    shapeCast S16x385 (broadcastInDim S16x1x385 ![0, 1] bcast_S16x1_S16x1x385_0_1 (σ (Proc.devRef .tc main_v5) : S16x1.Idx → EReal)) shapeCasts_S16x1x385_S16x385 := by
  simp only [hostOps0_2, List.take_succ_cons, List.take_zero, StableHlo.after_cons, StableHlo.after_nil]
  rw [StableHlo.reshape_result_ne _ _ _ _ _ (by decide), StableHlo.unary_result_ne _ _ _ _ (by decide), StableHlo.reshape_result, StableHlo.unary_result]
  · rfl
  all_goals decide

theorem take_v7 (σ : Valuation τ sig (Elt Ideal)) : StableHlo.after (List.take 4 (hostOps0_2 (F := Ideal))) σ (Proc.devRef .tc main_v7) =
    σ (Proc.devRef .tc main_v7) := by
  simp only [hostOps0_2, List.take_succ_cons, List.take_zero, StableHlo.after_cons, StableHlo.after_nil]
  rw [StableHlo.reshape_result_ne _ _ _ _ _ (by decide), StableHlo.unary_result_ne _ _ _ _ (by decide), StableHlo.reshape_result_ne _ _ _ _ _ (by decide), StableHlo.unary_result_ne _ _ _ _ (by decide)]
  all_goals first | rfl | decide

theorem take_v11 (σ : Valuation τ sig (Elt Ideal)) : StableHlo.after (List.take 4 (hostOps0_2 (F := Ideal))) σ (Proc.devRef .tc main_v11) =
    shapeCast S16x64 (broadcastInDim S16x1x64 ![0, 1] bcast_S16x1_S16x1x64_0_1 (σ (Proc.devRef .tc main_v5) : S16x1.Idx → EReal)) shapeCasts_S16x1x64_S16x64 := by
  simp only [hostOps0_2, List.take_succ_cons, List.take_zero, StableHlo.after_cons, StableHlo.after_nil]
  rw [StableHlo.reshape_result, StableHlo.unary_result, StableHlo.reshape_result_ne _ _ _ _ _ (by decide), StableHlo.unary_result_ne _ _ _ _ (by decide)]
  all_goals first | rfl | decide

/-- what the operations before the rows' joining leave. -/
abbrev σ1 : Valuation τ sig (Elt Ideal) := StableHlo.after (hostOps0 ++ hostOps0_1) (fun b => m (c, b))

theorem σ1_v5 : (σ1 m c (Proc.devRef .tc main_v5) : S16x1.Idx → EReal) = extractStridedSlice S16x1 ![0, 256] (at' m c) slices_S16x257_S16x1_0_256 := by
  unfold σ1
  simp only [hostOps0, hostOps0_1, List.cons_append, List.nil_append]
  entry_read
  rfl

theorem σ1_v7 : (σ1 m c (Proc.devRef .tc main_v7) : S16x191.Idx → EReal) = Host.reverse [1] (extractStridedSlice S16x191 ![0, 65] (at' m c) slices_S16x257_S16x191_0_65) := by
  unfold σ1
  simp only [hostOps0, hostOps0_1, List.cons_append, List.nil_append]
  entry_read
  rfl

theorem V_g (h : Fin 16) (i : Fin 640) : V m c main_v13 (ix3 h 0 i) = at' m c (ix2 h (gix i.val)) := by
  have e : V m c main_v13 = StableHlo.after (hostOps0_2 (F := Ideal)) (σ1 m c) (Proc.devRef .tc main_v13) := congrFun ((congrArg (fun l => StableHlo.after l (fun b => m (c, b))) (show List.flatten [hostOps0, hostOps0_1, hostOps0_2] = (hostOps0 ++ hostOps0_1) ++ (hostOps0_2 (F := Ideal)) by simp only [List.flatten_cons, List.flatten_nil, List.append_nil, List.append_assoc])).trans (StableHlo.after_append _ _ _)) _
  rw [e, after_g, take_v9, take_v7, take_v11, σ1_v5, σ1_v7]
  pointwise
  split_ifs with h1 h2 h3
  · exact congrArg (fun k => at' m c (ix2 h k)) (by rw [gix, dif_neg (by omega)]; rfl)
  · exact absurd h3 (by decide)
  · refine congrArg (fun k => at' m c (ix2 h k)) ?_
    rw [gix, dif_pos (by omega)]
    refine Fin.ext ?_
    show 65 + (191 - (i.val - 385 + 1)) = 640 - i.val
    omega
  · exact congrArg (fun k => at' m c (ix2 h k)) (by rw [gix, dif_neg (by omega)]; rfl)

end Cert.Proof
-- ==== Proof.Attn.Array.lean ====
module
public import proofs.«01_k».proof.Proof.Attn.Host

/-! The kernel's result at an element: the attention over the arguments. -/

@[expose] public section
set_option maxRecDepth 16384
noncomputable section
namespace Cert.Proof
open Cert.KernelIdeal Cert.KernelIdeal.Gen Idealize.ShloMosaic Idealize.ShloMosaic.TcCoe Idealize.SL.Sem

variable (m : (ℓ : Loc nD τ sig) → Buf (Elt Ideal) ℓ) (c : Dev nD)

theorem idx0 : ∀ t : Fin cfg0.N, win0_0.index t = ![t.val % 4, t.val / 4] := by decide +kernel
theorem idx1 : ∀ t : Fin cfg0.N, win0_1.index t = ![0, t.val / 4] := by decide +kernel
theorem idx2 : ∀ t : Fin cfg0.N, win0_2.index t = ![0, t.val / 4] := by decide +kernel
theorem idx3 : ∀ t : Fin cfg0.N, win0_3.index t = ![t.val / 4, 0, 0] := by decide +kernel

theorem t_lt (t : Fin cfg0.N) : t.val < 32 := t.isLt

theorem iblk0 (t : Fin cfg0.N) (r : Fin 2048) (d : Fin 128) :
    (iblk m c 0 t : S2048x128.Idx → EReal) (ix2 r d) = V m c main_v2 (ix2 (⟨2048 * (t.val % 4) + r.val, by omega⟩ : Fin 8192) (⟨128 * (t.val / 4) + d.val, by have := t_lt t; omega⟩ : Fin 1024)) := by
  blk_ext [iblk, idx0 t]

theorem iblk1 (t : Fin cfg0.N) (r : Fin 8192) (d : Fin 128) :
    (iblk m c 1 t : S8192x128.Idx → EReal) (ix2 r d) = V m c main_v3 (ix2 r (⟨128 * (t.val / 4) + d.val, by have := t_lt t; omega⟩ : Fin 1024)) := by
  blk_ext [iblk, idx1 t]

theorem iblk2 (t : Fin cfg0.N) (r : Fin 8192) (d : Fin 128) :
    (iblk m c 2 t : S8192x128.Idx → EReal) (ix2 r d) = V m c main_v4 (ix2 r (⟨128 * (t.val / 4) + d.val, by have := t_lt t; omega⟩ : Fin 1024)) := by
  blk_ext [iblk, idx2 t]

theorem iblk3 (t : Fin cfg0.N) (h : Fin 2) (l : Fin 640) :
    (iblk m c 3 t : S2x1x640.Idx → EReal) (ix3 h 0 l) = V m c main_v13 (ix3 (⟨2 * (t.val / 4) + h.val, by have := t_lt t; omega⟩ : Fin 16) 0 l) := by
  blk_ext [iblk, idx3 t]

/-- the grid's second coordinate. -/
theorem co1 (t : Fin cfg0.N) : (grid0.coords t 1).val = t.val % 4 := by
  have e : (grid0.coords t 1).val = t.val / 1 % 4 := Pipeline.Grid.coords_val t 1 (by decide) rfl
  rw [e, Nat.div_one]

/-- the bias block depends on the head pair only. -/
theorem iblk3_congr (t t' : Fin cfg0.N) (h : t.val / 4 = t'.val / 4) : (iblk m c 3 t : S2x1x640.Idx → EReal) = iblk m c 3 t' := by
  funext j
  idx_vars j
  obtain rfl : j1 = 0 := Subsingleton.elim _ _
  change (iblk m c 3 t : S2x1x640.Idx → EReal) (ix3 j0 0 j2) = (iblk m c 3 t' : S2x1x640.Idx → EReal) (ix3 j0 0 j2)
  rw [iblk3, iblk3]
  exact congrArg (fun k => V m c main_v13 (ix3 k 0 j2)) (Fin.ext (show 2 * (t.val / 4) + j0.val = 2 * (t'.val / 4) + j0.val by rw [h]))

/-- the scratch holds the bias of its head pair after every point. -/
theorem scratch_all : ∀ (n : ℕ) (hn : n < cfg0.N) (y : S2x128x640.Idx),
    (outsAt0 m c n hn).2 y = biasVal (iblk m c 3 ⟨n, hn⟩) (y 0) (y 1) (y 2)
  | n, hn, y => by
    by_cases h0 : n % 4 = 0
    · rw [outsAt0_A m c ⟨n, hn⟩ h0 h0 (by show ¬1 ≤ n % 4; omega)]
      dsimp only
      unfold sout0_A_0
      rw [View.read_writes_junk_eq_canon]
      unfold kernelRun0_A
      dsimp only
      exact scratch_eq c _ _ _ y
    · rw [outsAt0_B m c ⟨n, hn⟩ h0 h0 (by show 1 ≤ n % 4; omega)]
      dsimp only
      unfold sout0_B_0
      have ih := scratch_all (n - 1) (Nat.lt_of_le_of_lt (Nat.sub_le _ _) hn) y
      rw [iblk3_congr m c ⟨n - 1, Nat.lt_of_le_of_lt (Nat.sub_le _ _) hn⟩ ⟨n, hn⟩ (by show (n - 1) / 4 = n / 4; omega)] at ih
      exact ih
  termination_by n => n
  decreasing_by omega

/-- what a point leaves in its block of the output. -/
theorem out_pt (t : Fin cfg0.N) (y : S2048x128.Idx) : (outsAt0 m c t.val t.isLt).1 y =
    blkVal (iblk m c 0 t) (iblk m c 1 t) (iblk m c 2 t) (iblk m c 3 t) (t.val % 4) (y 0) (y 1) := by
  by_cases h0 : t.val % 4 = 0
  · refine (congrFun (congrArg Prod.fst (outsAt0_A m c t h0 h0 (by omega))) y).trans ?_
    dsimp only
    refine (outA ..).trans ?_
    rw [h0]
  · refine (congrFun (congrArg Prod.fst (outsAt0_B m c t h0 h0 (by omega))) y).trans ?_
    dsimp only
    refine (outB (hi := by rw [co1]; omega) (hX := fun y => ?_) ..).trans ?_
    · rw [scratch_all]
      exact congrArg (fun b => biasVal b (y 0) (y 1) (y 2)) (iblk3_congr m c _ _ (by show (t.val - 1) / 4 = t.val / 4; omega))
    · rw [co1]

/-- the score of query `q` against key `k` in head `h`. -/
def kscore (h : Fin 16) (q k : Fin 8192) : EReal :=
  (∑ d : Fin 64, aq m c (ix2 q ⟨64 * h.val + d.val, by omega⟩) * eighth * ak m c (ix2 k ⟨64 * h.val + d.val, by omega⟩))
    + at' m c (ix2 h (gix (dist q.val k.val).val))

/-- the attention's result for query `q` at lane `l`. -/
def kout (q : Fin 8192) (l : Fin 1024) : EReal :=
  att (keys q.val) (kscore m c ⟨l.val / 64, by omega⟩ q) (fun k => av m c (ix2 k l))

/-- the product over a pair's lanes with those of one head kept is the product over the head. -/
theorem sum_head (h : Fin 2) (f g : Fin 128 → EReal) :
    (∑ d : Fin 128, (if inHead h d then f d else 0) * g d) = ∑ d : Fin 64, f ⟨64 * h.val + d.val, by omega⟩ * g ⟨64 * h.val + d.val, by omega⟩ := by
  refine (Fin.sum_univ_add (a := 64) (b := 64) (fun d : Fin (64 + 64) => (if inHead h d then f d else 0) * g d)).trans ?_
  match h with
  | ⟨0, _⟩ =>
    rw [Finset.sum_eq_zero (s := Finset.univ) (f := fun i : Fin 64 => (if inHead ⟨0, _⟩ (Fin.natAdd 64 i) then f (Fin.natAdd 64 i) else 0) * g (Fin.natAdd 64 i)), add_zero]
    · refine Finset.sum_congr rfl fun d _ => ?_
      rw [if_pos (by show d.val < 64; exact d.isLt)]
      exact congrArg (fun k : Fin 128 => f k * g k) (Fin.ext (show d.val = 64 * 0 + d.val by omega))
    · intro d _
      rw [if_neg (by show ¬(64 + d.val < 64); omega), zero_mul]
  | ⟨1, _⟩ =>
    rw [Finset.sum_eq_zero (s := Finset.univ) (f := fun i : Fin 64 => (if inHead ⟨1, _⟩ (Fin.castAdd 64 i) then f (Fin.castAdd 64 i) else 0) * g (Fin.castAdd 64 i)), zero_add]
    · refine Finset.sum_congr rfl fun d _ => ?_
      rw [if_pos (by show 64 ≤ 64 + d.val; omega)]
      rfl
    · intro d _
      rw [if_neg (by show ¬(64 ≤ d.val); omega), zero_mul]

theorem blk_eq (t : Fin cfg0.N) (r : Fin 2048) (l : Fin 128) :
    blkVal (iblk m c 0 t) (iblk m c 1 t) (iblk m c 2 t) (iblk m c 3 t) (t.val % 4) r l =
      kout m c ⟨2048 * (t.val % 4) + r.val, by omega⟩ ⟨128 * (t.val / 4) + l.val, by have := t_lt t; omega⟩ := by
  have ht := t_lt t
  unfold blkVal kout
  have hh : (⟨(128 * (t.val / 4) + l.val) / 64, by omega⟩ : Fin 16) = ⟨2 * (t.val / 4) + (headOf l).val, by omega⟩ := by
    refine Fin.ext ?_
    show (128 * (t.val / 4) + l.val) / 64 = 2 * (t.val / 4) + (headOf l).val
    unfold headOf
    split_ifs with h
    · show _ = 2 * (t.val / 4) + 0
      omega
    · show _ = 2 * (t.val / 4) + 1
      omega
  rw [hh]
  congr 1
  · funext k
    unfold scoreBlk kscore
    rw [sum_head, iblk3, V_g]
    congr 1
    refine Finset.sum_congr rfl fun d _ => ?_
    rw [iblk0, iblk1, V_q, V_k]
    exact congrArg (fun a : Fin 1024 => aq m c (ix2 _ a) * eighth * ak m c (ix2 k a)) (Fin.ext (show 128 * (t.val / 4) + (64 * (headOf l).val + d.val) = 64 * (2 * (t.val / 4) + (headOf l).val) + d.val by omega))
  · funext k
    rw [iblk2, V_v]

theorem result_eq (i : S8192x1024.Idx) : Value.G4 m c i = kout m c (i 0) (i 1) := by
  idx_vars i
  have hp : Value.pt4Of (ix2 i0 i1) < cfg0.N := by
    show 1 * (i0.val / 2048 - 0) + 4 * (i1.val / 128 - 0) < 32
    omega
  have e : Value.G4 m c (ix2 i0 i1) = (outsAt0 m c (Value.pt4Of (ix2 i0 i1)) hp).1 (Value.loc4Of (ix2 i0 i1)) := by
    unfold Value.G4
    rw [dif_pos hp, Value.outsAt0_sweep]
  rw [e]
  change (outsAt0 m c (⟨Value.pt4Of (ix2 i0 i1), hp⟩ : Fin cfg0.N).val _).1 _ = _
  rw [out_pt]
  refine (blk_eq m c _ _ _).trans (congrArg₂ (kout m c) (Fin.ext ?_) (Fin.ext ?_))
  · show 2048 * ((1 * (i0.val / 2048 - 0) + 4 * (i1.val / 128 - 0)) % 4) + i0.val % 2048 = i0.val
    omega
  · show 128 * ((1 * (i0.val / 2048 - 0) + 4 * (i1.val / 128 - 0)) / 4) + i1.val % 128 = i1.val
    omega

end Cert.Proof
-- ==== Proof.Attn.RefBand.lean ====
module
public import proofs.«01_k».proof.Proof.Gen.ReferenceIdeal.Read
public import Idealize.ShloMosaic.Lib.Pointwise.Tactic
public import Idealize.ShloMosaic.Lib.Pipeline.Value
public import Idealize.ShloMosaic.Lib.KernelVsHost

/-! The reference's banded keys and values: place `j` of chunk `c` is row `64 c + j - 512` of the array, and zero before
the first row. -/

@[expose] public section
set_option maxRecDepth 16384
noncomputable section
namespace Cert.Proof.Ref
open Cert.ReferenceIdeal Cert.ReferenceIdeal.Gen Idealize.ShloMosaic Idealize.ShloMosaic.TcCoe Idealize.SL.Sem
open Cert.ReferenceIdeal.Read

/-- row `n - 512` of an array, zero outside it. -/
def bnd (x : S8192x1024.Idx → EReal) (n : ℕ) (l : Fin 1024) : EReal :=
  if h : 512 ≤ n ∧ n < 8704 then x (ix2 ⟨n - 512, by omega⟩ l) else 0

theorem lane_lt {a b : ℕ} (ha : a < 16) (hb : b < 64) : 64 * a + b < 1024 := by omega

theorem pad_val (i : S_.Idx) : val_main_call0_v0 (F := Ideal) i = 0 := by
  rw [val_main_call0_v0_apply]
  show ((((0#32 : BitVec 32).toInt : ℝ)) : EReal) = 0
  simp

theorem v2_eq (x : S8192x1024.Idx → EReal) (i : S1x8704x16x64.Idx) :
    val_main_v2 (F := Ideal) x i = bnd x (i 1).val ⟨64 * (i 2).val + (i 3).val, lane_lt (i 2).isLt (i 3).isLt⟩ := by
  unfold bnd
  have h1 : (i 1).val < 8704 := (i 1).isLt
  have h2 : (i 2).val < 16 := (i 2).isLt
  have h3 : (i 3).val < 64 := (i 3).isLt
  have h0 : (i 0).val < 1 := (i 0).isLt
  split_ifs with h
  · refine (pad_apply_of_inside _ _ _ _ _ _ _ i
      (fun a => match a with | ⟨0, _⟩ => ⟨0, Nat.one_pos⟩ | ⟨1, _⟩ => ⟨(i 1).val - 512, by show _ < 8192; omega⟩ | ⟨2, _⟩ => ⟨(i 2).val, h2⟩ | ⟨3, _⟩ => ⟨(i 3).val, h3⟩) ?_).trans ?_
    · intro a
      match a with
      | ⟨0, _⟩ => show (i 0).val = 0 + 0 * 1; omega
      | ⟨1, _⟩ => show (i 1).val = 512 + ((i 1).val - 512) * 1; omega
      | ⟨2, _⟩ => show (i 2).val = 0 + (i 2).val * 1; omega
      | ⟨3, _⟩ => show (i 3).val = 0 + (i 3).val * 1; omega
    · rw [val_main_v1_apply]
      refine congrArg x (funext fun a => Fin.ext ?_)
      match a with
      | ⟨0, _⟩ => show (((0 * 8192 + ((i 1).val - 512)) * 16 + (i 2).val) * 64 + (i 3).val) / 1024 = (i 1).val - 512; omega
      | ⟨1, _⟩ => show (((0 * 8192 + ((i 1).val - 512)) * 16 + (i 2).val) * 64 + (i 3).val) % 1024 = 64 * (i 2).val + (i 3).val; omega
  · refine (pad_apply_of_not_inside _ _ _ _ _ _ _ i 1 ?_).trans (pad_val _)
    show ¬ (512 ≤ (i 1).val ∧ _)
    rintro ⟨h5, -⟩
    omega

theorem v3_eq (x : S8192x1024.Idx → EReal) (i : S1x136x64x16x64.Idx) :
    val_main_v3 (F := Ideal) x i = bnd x (64 * (i 1).val + (i 2).val) ⟨64 * (i 3).val + (i 4).val, lane_lt (i 3).isLt (i 4).isLt⟩ := by
  have h0 : (i 0).val < 1 := (i 0).isLt
  have h1 : (i 1).val < 136 := (i 1).isLt
  have h2 : (i 2).val < 64 := (i 2).isLt
  have h3 : (i 3).val < 16 := (i 3).isLt
  have h4 : (i 4).val < 64 := (i 4).isLt
  rw [val_main_v3_apply, v2_eq]
  congr 1
  · show (((((i 0).val * 136 + (i 1).val) * 64 + (i 2).val) * 16 + (i 3).val) * 64 + (i 4).val) / 1024 % 8704 = _; omega
  · refine Fin.ext ?_
    show 64 * ((((((i 0).val * 136 + (i 1).val) * 64 + (i 2).val) * 16 + (i 3).val) * 64 + (i 4).val) / 64 % 16) + (((((i 0).val * 136 + (i 1).val) * 64 + (i 2).val) * 16 + (i 3).val) * 64 + (i 4).val) % 64 = _
    show _ = 64 * (i 3).val + (i 4).val
    omega

theorem v13_eq (x : S8192x1024.Idx → EReal) (i : S1x128x576x16x64.Idx) :
    val_main_v13 (F := Ideal) x i = bnd x (64 * (i 1).val + (i 2).val) ⟨64 * (i 3).val + (i 4).val, lane_lt (i 3).isLt (i 4).isLt⟩ := by
  have h0 : (i 0).val < 1 := (i 0).isLt
  have h1 : (i 1).val < 128 := (i 1).isLt
  have h2 : (i 2).val < 576 := (i 2).isLt
  have h3 : (i 3).val < 16 := (i 3).isLt
  have h4 : (i 4).val < 64 := (i 4).isLt
  have key : ∀ (k : ℕ) (hk : k < 9) (y : S1x128x64x16x64.Idx → EReal)
      (hy : ∀ i' : S1x128x64x16x64.Idx, y i' = bnd x (64 * (k + (i' 1).val) + (i' 2).val) ⟨64 * (i' 3).val + (i' 4).val, lane_lt (i' 3).isLt (i' 4).isLt⟩)
      (hg : ([⟨S1x128x64x16x64, val_main_v4 (F := Ideal) x⟩, ⟨S1x128x64x16x64, val_main_v5 (F := Ideal) x⟩, ⟨S1x128x64x16x64, val_main_v6 (F := Ideal) x⟩, ⟨S1x128x64x16x64, val_main_v7 (F := Ideal) x⟩, ⟨S1x128x64x16x64, val_main_v8 (F := Ideal) x⟩, ⟨S1x128x64x16x64, val_main_v9 (F := Ideal) x⟩, ⟨S1x128x64x16x64, val_main_v10 (F := Ideal) x⟩, ⟨S1x128x64x16x64, val_main_v11 (F := Ideal) x⟩, ⟨S1x128x64x16x64, val_main_v12 (F := Ideal) x⟩] : List ((s : Shape) × (s.Idx → EReal)))[k]'hk = ⟨S1x128x64x16x64, y⟩)
      (hpre : (((([⟨S1x128x64x16x64, val_main_v4 (F := Ideal) x⟩, ⟨S1x128x64x16x64, val_main_v5 (F := Ideal) x⟩, ⟨S1x128x64x16x64, val_main_v6 (F := Ideal) x⟩, ⟨S1x128x64x16x64, val_main_v7 (F := Ideal) x⟩, ⟨S1x128x64x16x64, val_main_v8 (F := Ideal) x⟩, ⟨S1x128x64x16x64, val_main_v9 (F := Ideal) x⟩, ⟨S1x128x64x16x64, val_main_v10 (F := Ideal) x⟩, ⟨S1x128x64x16x64, val_main_v11 (F := Ideal) x⟩, ⟨S1x128x64x16x64, val_main_v12 (F := Ideal) x⟩] : List ((s : Shape) × (s.Idx → EReal))).take k).map (·.1)).map fun s => if h : s.rank = S1x128x576x16x64.rank then s.size ((2 : Fin S1x128x576x16x64.rank).cast h.symm) else 0).sum = 64 * k)
      (hr : 64 * k ≤ (i 2).val ∧ (i 2).val < 64 * k + 64),
      val_main_v13 (F := Ideal) x i = bnd x (64 * (i 1).val + (i 2).val) ⟨64 * (i 3).val + (i 4).val, lane_lt (i 3).isLt (i 4).isLt⟩ := by
    intro k hk y hy hg hpre hr
    unfold val_main_v13
    refine (concatenate_apply_piece _ _ _ i k (by exact hk) S1x128x64x16x64 y (by exact hg) rfl (64 * k) (by exact hpre)
      (fun a => match a with | ⟨0, _⟩ => ⟨(i 0).val, h0⟩ | ⟨1, _⟩ => ⟨(i 1).val, h1⟩ | ⟨2, _⟩ => ⟨(i 2).val - 64 * k, by show _ < 64; omega⟩ | ⟨3, _⟩ => ⟨(i 3).val, h3⟩ | ⟨4, _⟩ => ⟨(i 4).val, h4⟩) ?_ ?_).trans ?_
    · intro b hb
      match b, hb with
      | ⟨0, _⟩, _ => rfl
      | ⟨1, _⟩, _ => rfl
      | ⟨2, _⟩, hb => exact absurd rfl hb
      | ⟨3, _⟩, _ => rfl
      | ⟨4, _⟩, _ => rfl
    · show 64 * k + ((i 2).val - 64 * k) = (i 2).val; omega
    · rw [hy]
      congr 1
      show 64 * (k + (i 1).val) + ((i 2).val - 64 * k) = _
      omega
  have hk : (i 2).val / 64 < 9 := by omega
  obtain ⟨k, hkk⟩ : ∃ k, k = (i 2).val / 64 := ⟨_, rfl⟩
  have hr : 64 * k ≤ (i 2).val ∧ (i 2).val < 64 * k + 64 := by omega
  have hk9 : k < 9 := by omega
  match k, hk9, hr with
  | 0, hk9, hr => exact key 0 hk9 _ (fun i' => by rw [val_main_v4_apply, v3_eq]; congr 1; show 64 * (i' 1).val + (i' 2).val = _; omega) rfl rfl hr
  | 1, hk9, hr => exact key 1 hk9 _ (fun i' => by rw [val_main_v5_apply, v3_eq]) rfl rfl hr
  | 2, hk9, hr => exact key 2 hk9 _ (fun i' => by rw [val_main_v6_apply, v3_eq]) rfl rfl hr
  | 3, hk9, hr => exact key 3 hk9 _ (fun i' => by rw [val_main_v7_apply, v3_eq]) rfl rfl hr
  | 4, hk9, hr => exact key 4 hk9 _ (fun i' => by rw [val_main_v8_apply, v3_eq]) rfl rfl hr
  | 5, hk9, hr => exact key 5 hk9 _ (fun i' => by rw [val_main_v9_apply, v3_eq]) rfl rfl hr
  | 6, hk9, hr => exact key 6 hk9 _ (fun i' => by rw [val_main_v10_apply, v3_eq]) rfl rfl hr
  | 7, hk9, hr => exact key 7 hk9 _ (fun i' => by rw [val_main_v11_apply, v3_eq]) rfl rfl hr
  | 8, hk9, hr => exact key 8 hk9 _ (fun i' => by rw [val_main_v12_apply, v3_eq]) rfl rfl hr
  | k + 9, hk9, hr => omega

theorem v26_eq (x : S8192x1024.Idx → EReal) : val_main_v26 (F := Ideal) x = val_main_v13 (F := Ideal) x := rfl

end Cert.Proof.Ref
-- ==== Proof.Attn.RefScore.lean ====
module
public import proofs.«01_k».proof.Proof.Attn.RefBand
public import proofs.«01_k».proof.Proof.Attn.Host
public import Idealize.ShloMosaic.Lib.Tactic.WordOmega

/-! The reference's score of query `64 c + r` and place `j` of its band. -/

@[expose] public section
set_option maxRecDepth 16384
noncomputable section
namespace Cert.Proof.Ref
open Cert.ReferenceIdeal Cert.ReferenceIdeal.Gen Idealize.ShloMosaic Idealize.ShloMosaic.TcCoe Idealize.SL.Sem
open Cert.ReferenceIdeal.Read

/-- the clipped difference plus `128`. -/
def clipW (r j : ℕ) : BitVec 32 :=
  IntOp.addi (IntOp.minsi 128#32 (IntOp.maxsi 4294967168#32 (IntOp.subi (IntOp.addi 512#32 (BitVec.ofNat 32 r)) (BitVec.ofNat 32 j)))) 128#32

theorem word_gix : ∀ (r : Fin 64) (j : Fin 576),
    Scalar.select (IntOp.cmpi .slt (clipW r.val j.val) 0#32) (IntOp.addi (clipW r.val j.val) 257#32) (clipW r.val j.val)
    = BitVec.ofNat 32 (gix ((j.val + 12800 - r.val) % 640)).val := by
  decide +kernel

theorem v46_eq (i : S64x576.Idx) : val_main_v46 (F := Ideal) i = BitVec.ofNat 32 (gix (((i 1).val + 12800 - (i 0).val) % 640)).val := by
  exact word_gix (i 0) (i 1)

theorem v48_eq (x : S16x257.Idx → EReal) (i : S16x64x576.Idx) :
    val_main_v48 (F := Ideal) x i = x (ix2 (i 0) (gix (((i 2).val + 12800 - (i 1).val) % 640))) := by
  unfold val_main_v48 Host.gather
  refine congrArg x (funext fun a => Fin.ext ?_)
  let D := gather_S16x257_S64x576x1_S16x64x576_0_1_n_n_1_2_161
  show D.start i _ a + D.batchCoord i a + D.offCoord i a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start
    rw [dif_neg (show (0 : Fin 2) ∉ D.startIndexMap by decide)]
    unfold GatherDims.offCoord
    rw [dif_pos (show (0 : Fin 2) ∈ D.sKept by decide)]
    show 0 + 0 + (i 0).val = (i 0).val
    omega
  · rw [GatherDims.offCoord_eq_zero _ _ _ (fun h => ((GatherDims.mem_sKept _ _).mp h).1 (List.mem_singleton.mpr rfl))]
    unfold GatherDims.start
    rw [dif_pos (show (1 : Fin 2) ∈ D.startIndexMap from List.mem_singleton.mpr rfl)]
    rw [val_main_v47_apply, v46_eq]
    have hs0 : (i 1).val < 64 := (i 1).isLt
    have g := (gix (((i 2).val + 12800 - (i 1).val) % 640)).isLt
    show min (BitVec.ofNat 32 (gix (((i 2).val + 12800 - (i 1).val) % 640)).val).toInt.toNat (257 - 1) + 0 + 0 = (gix (((i 2).val + 12800 - (i 1).val) % 640)).val
    rw [BitVec.toInt_ofNat']
    simp only [Int.bmod]
    omega

/-- the mask: the place holds a row of the array. -/
theorem word_mask (c j : ℕ) (hc : c < 128) (hj : j < 576) :
    IntOp.cmpi .sge (IntOp.addi (IntOp.subi (IntOp.muli (BitVec.ofNat 32 c) 64#32) 512#32) (BitVec.ofNat 32 j)) 0#32
      = if 512 ≤ 64 * c + j then 1#1 else 0#1 := by
  have e : IntOp.addi (IntOp.subi (IntOp.muli (BitVec.ofNat 32 c) 64#32) 512#32) (BitVec.ofNat 32 j) = BitVec.ofNat 32 (64 * c + j + 4294966784) := by
    apply BitVec.eq_of_toNat_eq
    simp only [IntOp.addi, IntOp.subi, IntOp.muli, BitVec.toNat_add, BitVec.toNat_sub, BitVec.toNat_mul, BitVec.toNat_ofNat]
    omega
  rw [e]
  split_ifs with h
  · word_omega
  · word_omega

theorem ofBits_neg_inf : (FloatOps.ofBits (F := Ideal) .f32 0xFF800000#32 : EReal) = ⊥ := neg_inf_bits

/-- the score of a place. -/
def tsc (x0 x1 : S8192x1024.Idx → EReal) (x3 : S16x257.Idx → EReal) (c : Fin 128) (h : Fin 16) (r : Fin 64) (j : Fin 576) : EReal :=
  if 512 ≤ 64 * c.val + j.val then
    (∑ d : Fin 64, x0 (ix2 ⟨64 * c.val + r.val, by omega⟩ ⟨64 * h.val + d.val, lane_lt h.isLt d.isLt⟩) * bnd x1 (64 * c.val + j.val) ⟨64 * h.val + d.val, lane_lt h.isLt d.isLt⟩) * eighth
      + x3 (ix2 h (gix ((j.val + 12800 - r.val) % 640)))
  else ⊥

theorem v66_eq (x0 x1 : S8192x1024.Idx → EReal) (x3 : S16x257.Idx → EReal) (i : S1x128x16x64x576.Idx) :
    val_main_v66 (F := Ideal) x0 x1 x3 i = tsc x0 x1 x3 (i 1) (i 2) (i 3) (i 4) := by
  have h0 : (i 0).val < 1 := (i 0).isLt
  have h1 : (i 1).val < 128 := (i 1).isLt
  have h2 : (i 2).val < 16 := (i 2).isLt
  have h3 : (i 3).val < 64 := (i 3).isLt
  have h4 : (i 4).val < 576 := (i 4).isLt
  have em : val_main_call3_v1 (F := Ideal) i = if 512 ≤ 64 * (i 1).val + (i 4).val then 1#1 else 0#1 := by
    rw [← word_mask _ _ (i 1).isLt (i 4).isLt]; rfl
  have eb : val_main_call3_v2 (F := Ideal) i = ⊥ := ofBits_neg_inf
  have e8 : val_main_v28 (F := Ideal) i = eighth := rfl
  rw [val_main_v66_apply, em, eb, val_main_v65_apply, val_main_v29_apply, e8, val_main_v64_apply, val_main_v63_apply, v48_eq, val_main_v27_apply]
  unfold tsc
  split_ifs with h
  · show (∑ k : Fin 64, _) * eighth + _ = _
    congr 1
    congr 1
    refine Finset.sum_congr rfl fun k _ => ?_
    rw [v13_eq, val_main_v0_apply]
    refine congrArg₂ (· * ·) (congrArg x0 (funext fun a => Fin.ext ?_)) rfl
    have hk := k.isLt
    match a with
    | ⟨0, _⟩ => show (((((i 0).val * 128 + (i 1).val) * 64 + (i 3).val) * 16 + (i 2).val) * 64 + k.val) / 1024 = 64 * (i 1).val + (i 3).val; omega
    | ⟨1, _⟩ => show (((((i 0).val * 128 + (i 1).val) * 64 + (i 3).val) * 16 + (i 2).val) * 64 + k.val) % 1024 = 64 * (i 2).val + k.val; omega
  · rfl

end Cert.Proof.Ref
-- ==== Proof.Attn.RefVal.lean ====
module
public import proofs.«01_k».proof.Proof.Attn.RefScore
public import proofs.«01_k».proof.Proof.Attn.Softmax

/-! The reference's result at an element: the attention over its arguments, which are real. -/

@[expose] public section
set_option maxRecDepth 16384
noncomputable section
namespace Cert.Proof.Ref
open Cert.ReferenceIdeal Cert.ReferenceIdeal.Gen Idealize.ShloMosaic Idealize.ShloMosaic.TcCoe Idealize.SL.Sem
open Cert.ReferenceIdeal.Read

variable (x0 x1 x2 : S8192x1024.Idx → EReal) (x3 : S16x257.Idx → EReal)

theorem v67_eq (i : S1x128x16x64.Idx) :
    val_main_v67 (F := Ideal) x0 x1 x3 i = mx (tsc x0 x1 x3 (i 1) (i 2) (i 3)) := by
  unfold val_main_v67 mx
  generalize hy : val_main_v66 (F := Ideal) x0 x1 x3 = y
  rw [Host.reduce_eq_fold]
  rw [Shape.ReducesTo.fold_fiber_r5_a4, val_main_cst_11_apply, neg_inf_bits]
  refine congrArg (Finset.fold max ⊥ · _) (funext fun k => ?_)
  rw [← hy, v66_eq]
  rfl

theorem v69_eq (i : S1x128x16x64.Idx) :
    val_main_v69 (F := Ideal) x0 x1 x3 i = mx (tsc x0 x1 x3 (i 1) (i 2) (i 3)) := by
  rw [val_main_v69_apply, v67_eq, val_main_v68_apply, val_main_cst_12_apply, neg_inf_bits]
  exact max_eq_right bot_le

theorem v73_eq (i : S1x128x16x64x576.Idx) :
    val_main_v73 (F := Ideal) x0 x1 x3 i = Ideal.exp (tsc x0 x1 x3 (i 1) (i 2) (i 3) (i 4) - mx (tsc x0 x1 x3 (i 1) (i 2) (i 3))) := by
  rw [val_main_v73_apply, val_main_v72_apply, v66_eq, val_main_v71_apply, val_main_v70_apply, v69_eq]
  rfl

theorem v77_eq (i : S1x128x16x64x576.Idx) :
    val_main_v77 (F := Ideal) x0 x1 x3 i = Ideal.div (Ideal.exp (tsc x0 x1 x3 (i 1) (i 2) (i 3) (i 4) - mx (tsc x0 x1 x3 (i 1) (i 2) (i 3))))
      (∑ k, Ideal.exp (tsc x0 x1 x3 (i 1) (i 2) (i 3) k - mx (tsc x0 x1 x3 (i 1) (i 2) (i 3)))) := by
  rw [val_main_v77_apply, v73_eq, val_main_v76_apply, val_main_v75_apply, val_main_v74_apply]
  refine congrArg (Ideal.div _) ?_
  rw [val_main_cst_13_apply]
  refine (congrArg (· + _) (show (FloatOps.ofBits (F := Ideal) .f32 0x00000000#32 : EReal) = 0 from Ideal.ofBits_zero_f32)).trans ?_
  rw [zero_add]
  refine Finset.sum_congr rfl fun k _ => ?_
  rw [v73_eq]
  rfl

theorem v81_eq (q : Fin 8192) (l : Fin 1024) :
    val_main_v81 (F := Ideal) x0 x1 x2 x3 (ix2 q l) =
      headDiv (tsc x0 x1 x3 ⟨q.val / 64, by omega⟩ ⟨l.val / 64, by omega⟩ ⟨q.val % 64, by omega⟩) (fun j => bnd x2 (64 * (q.val / 64) + j.val) l) := by
  rw [val_main_v81_apply]
  show val_main_v80 (F := Ideal) x0 x1 x2 x3 (ix2 q l) = _
  rw [val_main_v80_apply, val_main_v79_apply, val_main_v78_apply]
  unfold headDiv
  refine Finset.sum_congr rfl fun k _ => ?_
  rw [v26_eq, v13_eq, v77_eq]
  have hq := q.isLt
  have hl := l.isLt
  have e1 : (q.val * 1024 + l.val) / 65536 % 128 = q.val / 64 := by omega
  have e2 : (q.val * 1024 + l.val) / 1024 % 64 = q.val % 64 := by omega
  have e3 : (q.val * 1024 + l.val) / 64 % 16 = l.val / 64 := by omega
  have e4 : (q.val * 1024 + l.val) % 64 = l.val % 64 := by omega
  have f1 : (⟨(q.val * 1024 + l.val) / 65536 % 128, by omega⟩ : Fin 128) = ⟨q.val / 64, by omega⟩ := Fin.ext e1
  have f2 : (⟨(q.val * 1024 + l.val) / 1024 % 64, by omega⟩ : Fin 64) = ⟨q.val % 64, by omega⟩ := Fin.ext e2
  have f3 : (⟨(q.val * 1024 + l.val) / 64 % 16, by omega⟩ : Fin 16) = ⟨l.val / 64, by omega⟩ := Fin.ext e3
  refine congrArg₂ (· * ·) ?_ ?_
  · show bnd x2 (64 * ((q.val * 1024 + l.val) / 65536 % 128) + k.val) ⟨64 * ((q.val * 1024 + l.val) / 64 % 16) + (q.val * 1024 + l.val) % 64, _⟩ = _
    congr 1
    · rw [e1]
    · refine Fin.ext ?_
      show 64 * ((q.val * 1024 + l.val) / 64 % 16) + (q.val * 1024 + l.val) % 64 = l.val
      omega
  · show Ideal.div (Ideal.exp (tsc x0 x1 x3 (⟨(q.val * 1024 + l.val) / 65536 % 128, _⟩ : Fin 128) (⟨(q.val * 1024 + l.val) / 64 % 16, _⟩ : Fin 16) (⟨(q.val * 1024 + l.val) / 1024 % 64, _⟩ : Fin 64) k - mx (tsc x0 x1 x3 (⟨(q.val * 1024 + l.val) / 65536 % 128, _⟩ : Fin 128) (⟨(q.val * 1024 + l.val) / 64 % 16, _⟩ : Fin 16) (⟨(q.val * 1024 + l.val) / 1024 % 64, _⟩ : Fin 64))))
      (∑ k, Ideal.exp (tsc x0 x1 x3 (⟨(q.val * 1024 + l.val) / 65536 % 128, _⟩ : Fin 128) (⟨(q.val * 1024 + l.val) / 64 % 16, _⟩ : Fin 16) (⟨(q.val * 1024 + l.val) / 1024 % 64, _⟩ : Fin 64) k - mx (tsc x0 x1 x3 (⟨(q.val * 1024 + l.val) / 65536 % 128, _⟩ : Fin 128) (⟨(q.val * 1024 + l.val) / 64 % 16, _⟩ : Fin 16) (⟨(q.val * 1024 + l.val) / 1024 % 64, _⟩ : Fin 64)))) = _
    rw [f1, f2, f3]

/-- the score of query `q` and key `k` in head `h`. -/
def rscore (h : Fin 16) (q k : Fin 8192) : EReal :=
  (∑ d : Fin 64, x0 (ix2 q ⟨64 * h.val + d.val, lane_lt h.isLt d.isLt⟩) * eighth * x1 (ix2 k ⟨64 * h.val + d.val, lane_lt h.isLt d.isLt⟩))
    + x3 (ix2 h (gix (dist q.val k.val).val))

theorem eighth_real : ∃ r : ℝ, 0 ≤ r ∧ eighth = (r : EReal) := by
  refine ⟨1 / 8, by norm_num, ?_⟩
  show Ideal.ofBits .f32 0x3E000000#32 = _
  simp [Ideal.ofBits, Ideal.ieee]
  rw [← EReal.coe_mul]
  norm_num

theorem rscore_real (h0 : ∀ i, ∃ r : ℝ, x0 i = r) (h1 : ∀ i, ∃ r : ℝ, x1 i = r) (h3 : ∀ i, ∃ r : ℝ, x3 i = r) (h : Fin 16) (q k : Fin 8192) :
    ∃ r : ℝ, rscore x0 x1 x3 h q k = r := by
  choose f0 e0 using h0
  choose f1 e1 using h1
  choose f3 e3 using h3
  obtain ⟨g, -, eg⟩ := eighth_real
  refine ⟨(∑ d : Fin 64, f0 (ix2 q ⟨64 * h.val + d.val, lane_lt h.isLt d.isLt⟩) * g * f1 (ix2 k ⟨64 * h.val + d.val, lane_lt h.isLt d.isLt⟩)) + f3 (ix2 h (gix (dist q.val k.val).val)), ?_⟩
  unfold rscore
  rw [EReal.coe_add, ← sum_coe, e3]
  congr 1
  refine Finset.sum_congr rfl fun d _ => ?_
  rw [e0, e1, eg, EReal.coe_mul, EReal.coe_mul]

theorem ref_att (h0 : ∀ i, ∃ r : ℝ, x0 i = r) (h1 : ∀ i, ∃ r : ℝ, x1 i = r) (h3 : ∀ i, ∃ r : ℝ, x3 i = r) (q : Fin 8192) (l : Fin 1024) :
    val_main_v81 (F := Ideal) x0 x1 x2 x3 (ix2 q l) =
      att (keys q.val) (rscore x0 x1 x3 ⟨l.val / 64, by omega⟩ q) (fun k => x2 (ix2 k l)) := by
  rw [v81_eq]
  have hq := q.isLt
  have hl := l.isLt
  have sp : Spread (tsc x0 x1 x3 ⟨q.val / 64, by omega⟩ ⟨l.val / 64, by omega⟩ ⟨q.val % 64, by omega⟩) (fun j : Fin 576 => bnd x2 (64 * (q.val / 64) + j.val) l)
      (keys q.val) (rscore x0 x1 x3 ⟨l.val / 64, by omega⟩ q) (fun k => x2 (ix2 k l)) :=
    ⟨fun j => 512 ≤ 64 * (q.val / 64) + j.val, fun j => ⟨64 * (q.val / 64) + j.val - 512, by have := j.isLt; omega⟩,
      fun j hj => by
        have := j.isLt
        refine Finset.mem_filter.2 ⟨Finset.mem_univ _, ?_⟩
        show 64 * (q.val / 64) ≤ 64 * (q.val / 64) + j.val - 512 + 512 ∧ 64 * (q.val / 64) + j.val - 512 < _
        have hj' : 512 ≤ 64 * (q.val / 64) + j.val := hj
        omega,
      fun j j' hj hj' e => by
        have e' : 64 * (q.val / 64) + j.val - 512 = 64 * (q.val / 64) + j'.val - 512 := congrArg Fin.val e
        have a : 512 ≤ 64 * (q.val / 64) + j.val := hj
        have b : 512 ≤ 64 * (q.val / 64) + j'.val := hj'
        exact Fin.ext (by omega),
      fun x hx => by
        have hx' := (Finset.mem_filter.1 hx).2
        have hxl := x.isLt
        refine ⟨⟨x.val + 512 - 64 * (q.val / 64), by omega⟩, ?_, Fin.ext ?_⟩
        · show 512 ≤ 64 * (q.val / 64) + (x.val + 512 - 64 * (q.val / 64)); omega
        · show 64 * (q.val / 64) + (x.val + 512 - 64 * (q.val / 64)) - 512 = x.val; omega,
      fun j hj => by
        have hj' : 512 ≤ 64 * (q.val / 64) + j.val := hj
        have hjl := j.isLt
        obtain ⟨g, hg, eg⟩ := eighth_real
        unfold tsc rscore
        rw [if_pos hj', eg, sum_mul_real _ _ _ hg]
        refine congrArg₂ (· + ·) (Finset.sum_congr rfl fun d _ => ?_) (congrArg (fun n => x3 (ix2 _ (gix n))) ?_)
        · unfold bnd
          rw [dif_pos ⟨hj', by show 64 * (q.val / 64) + j.val < 8704; omega⟩]
          have eq : (⟨64 * (q.val / 64) + q.val % 64, by omega⟩ : Fin 8192) = q := Fin.ext (by show 64 * (q.val / 64) + q.val % 64 = q.val; omega)
          show x0 (ix2 ⟨64 * (q.val / 64) + q.val % 64, _⟩ _) * _ * _ = _
          rw [eq, mul_right_comm]
        · show (j.val + 12800 - q.val % 64) % 640 = (64 * (q.val / 64) + j.val - 512 + 13312 - q.val) % 640
          omega,
      fun j hj => by
        have hj' : 512 ≤ 64 * (q.val / 64) + j.val := hj
        have hjl := j.isLt
        show bnd x2 (64 * (q.val / 64) + j.val) l = _
        unfold bnd
        rw [dif_pos ⟨hj', by omega⟩],
      fun j hj => if_neg hj⟩
  refine sp.headDiv_eq ⟨q, ?_⟩ fun k _ => rscore_real x0 x1 x3 h0 h1 h3 _ q k
  refine Finset.mem_filter.2 ⟨Finset.mem_univ _, ?_⟩
  omega

end Cert.Proof.Ref
-- ==== Proof.Attn.Claims.lean ====
module
public import proofs.«01_k».proof.Proof.Attn.Array
public import proofs.«01_k».proof.Proof.Attn.RefVal
public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import Idealize.ShloMosaic.Lib.Quiescent

/-! The claims about the attention: the runs of the kernel and of the plain mathematics, and their equal results. -/

@[expose] public section
set_option maxRecDepth 16384
noncomputable section
namespace Cert.Proof.Attn
open Idealize.ShloMosaic Idealize.ShloMosaic.TcCoe Idealize.SL.Sem

/-- The shapes the precondition spreads its bound to. -/
theorem preFacts : Cert.Pre_finite.Facts where
  bcast_S_S8192x1024 := by decide
  bcast_S_S16x257 := by decide

/-- A value whose magnitude is below the infinite literal is real. -/
theorem real_of_lt (x : EReal) (h : Ideal.cmp .olt (max x (-x)) (Ideal.ofBits .f32 0x7F800000#32) = 1) :
    ∃ r : ℝ, x = r := by
  have e : Ideal.ofBits .f32 0x7F800000#32 = (⊤ : EReal) := by simp [Ideal.ofBits, Ideal.ieee]
  rw [e, Ideal.cmp_olt_eq_one, max_lt_iff] at h
  have hb : x ≠ ⊥ := fun hx => by rw [hx] at h; exact absurd h.2 (by simp)
  exact ⟨x.toReal, (EReal.coe_toReal h.1.ne hb).symm⟩

/-- What the precondition says of the three arrays it reads. -/
theorem reals [Cert.Pre_finite.Facts] (m : (ℓ : Loc Cert.KernelIdeal.nD Cert.KernelIdeal.τ Cert.KernelIdeal.sig) → Buf (Elt Ideal) ℓ)
    (h : Cert.Pre_KernelIdeal_finite m) (c : Dev Cert.KernelIdeal.nD) :
    (∀ i, ∃ r : ℝ, aq m c i = r) ∧ (∀ i, ∃ r : ℝ, ak m c i = r) ∧ (∀ i, ∃ r : ℝ, at' m c i = r) :=
  ⟨fun i => real_of_lt _ (congrFun (h c).1 i), fun i => real_of_lt _ (congrFun (h c).2.1 i),
    fun i => real_of_lt _ (congrFun (h c).2.2 i)⟩

/-- The reference's run leaves its arguments, and it has no semaphores. -/
theorem frame_r : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- At every element both results are the one attention of the arguments. -/
theorem algebraic [Cert.Pre_finite.Facts] : Cert.algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h3⟩ := reals m hpre c
  refine (Cert.ReferenceIdeal.Read.val_main_v81_eq m' c).trans ?_
  rw [(hagree c).1, (hagree c).2.1, (hagree c).2.2.1, (hagree c).2.2.2]
  funext i
  idx_vars i
  exact (Ref.ref_att (aq m c) (ak m c) (av m c) (at' m c) h0 h1 h3 i0 i1).trans (result_eq m c (ix2 i0 i1)).symm

end Cert.Proof.Attn

end
-- ==== Proof.InProj.Ring.lean ====
module

public import proofs.«01_k».proof.Proof.Gen.InProjIdeal.Frame
public import proofs.«01_k».proof.Proof.Gen.InProjIdeal.Launch
public import proofs.«01_k».proof.Proof.Gen.InProjIdeal.Skeleton
public import proofs.«01_k».proof.Proof.Gen.InProjIdeal.Points
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp

@[expose] public section

/-! The input projection's weight: how the first point brings it into the kept scratch, chunk by chunk through the
two-slot ring, and what one call of the body leaves in its buffers. -/

set_option maxRecDepth 16384

noncomputable section

namespace Cert.Proof.InProj

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## The ring -/

/-- A slot of the ring, squeezed to a chunk's shape. -/
abbrev slot (R : Memref sig .tc .vmem S2x2048x512 .f32) (off : Fin 3 → ℕ) (inb : ∀ a, off a + S1x2048x512.size a ≤ S2x2048x512.size a) :
    View sig .tc .vmem S2048x512 .f32 :=
  ((R.slice (Rect.unit (s := S2x2048x512) off S1x2048x512.size inb) (fun _ => rfl)).squeeze S2048x512 squeezes_S1x2048x512_S2048x512).view

/-- A load of a slot last written through its squeezed view, cast to the chunk's shape, is the chunk written. -/
theorem slot_hit (R : Memref sig .tc .vmem S2x2048x512 .f32) (off : Fin 3 → ℕ)
    (inb : ∀ a, off a + S1x2048x512.size a ≤ S2x2048x512.size a) (g : R.view.ty.Contents (Elt F))
    (X : S2048x512.Idx → Elt F .f32) (h : S1x2048x512.ShapeCasts S2048x512) :
    shapeCast S2048x512 (View.readAt (Elt F) R.view (Rect.unit (s := S2x2048x512) off S1x2048x512.size inb).toLoadRect
      ((slot R off inb).write (Elt F) g X Finset.univ)) h = X := by
  have e : (slot R off inb).write (Elt F) g X Finset.univ
      = (R.view.slice (Rect.unit (s := S2x2048x512) off S1x2048x512.size inb)).write (Elt F) g
          (fun x => X ((Shape.reshapeEquiv squeezes_S1x2048x512_S2048x512.numel_eq).symm x)) Finset.univ :=
    View.write_reshape_univ (R.view.slice (Rect.unit (s := S2x2048x512) off S1x2048x512.size inb)) squeezes_S1x2048x512_S2048x512.numel_eq g X
  rw [e]
  funext j
  refine (View.read_slice_write_emb (v := R.view) (Rect.unit (s := S2x2048x512) off S1x2048x512.size inb) g _ (Finset.mem_univ (Shape.reshapeEquiv h j))).trans ?_
  exact congrArg X (Equiv.symm_apply_apply _ j)

/-- A load of a slot does not see a write to the other one. -/
theorem slot_miss (R : Memref sig .tc .vmem S2x2048x512 .f32) (off off' : Fin 3 → ℕ)
    (inb : ∀ a, off a + S1x2048x512.size a ≤ S2x2048x512.size a) (inb' : ∀ a, off' a + S1x2048x512.size a ≤ S2x2048x512.size a)
    (hne : off 0 ≠ off' 0) (g : R.view.ty.Contents (Elt F)) (X : S2048x512.Idx → Elt F .f32) :
    View.readAt (Elt F) R.view (Rect.unit (s := S2x2048x512) off S1x2048x512.size inb).toLoadRect
        ((slot R off' inb').write (Elt F) g X Finset.univ)
      = View.readAt (Elt F) R.view (Rect.unit (s := S2x2048x512) off S1x2048x512.size inb).toLoadRect g := by
  have e : (slot R off' inb').write (Elt F) g X Finset.univ
      = (R.view.slice (Rect.unit (s := S2x2048x512) off' S1x2048x512.size inb')).write (Elt F) g
          (fun x => X ((Shape.reshapeEquiv squeezes_S1x2048x512_S2048x512.numel_eq).symm x)) Finset.univ :=
    View.write_reshape_univ (R.view.slice (Rect.unit (s := S2x2048x512) off' S1x2048x512.size inb')) squeezes_S1x2048x512_S2048x512.numel_eq g X
  rw [e]
  funext j
  refine View.read_slice_write_of_not_mem (v := R.view) (Rect.unit (s := S2x2048x512) off' S1x2048x512.size inb') g _ _ ?_
  rw [Rect.map_emb_univ]
  intro hm
  obtain ⟨x, hx⟩ := (Rect.unit (s := S2x2048x512) off' S1x2048x512.size inb').exists_idx_of_mem hm
  have h0 := congrArg (fun y : S2x2048x512.Idx => (y 0).val) hx
  have hj : (j 0).val < 1 := (j 0).isLt
  have hx' : (x 0).val < 1 := (x 0).isLt
  have e1 : off' 0 + 1 * (x 0).val = off 0 + 1 * (j 0).val := h0
  omega

/-! ## The chunks and the kept weight -/

/-- The weight as the kernel keeps it: every entry narrowed. -/
def narrowed (w : S2048x5120.Idx → Elt F .f32) : S2048x5120.Idx → Elt F .bf16 :=
  fun y => truncf (s := S2048x5120) .bf16 w bitsLt_bf16_f32 y

/-- The 512 columns of the weight from a place on. -/
abbrev chunk (w : main_arg2.ty.Contents (Elt F)) (off : Fin 2 → ℕ) (inb : ∀ a, off a + S2048x512.size a ≤ S2048x5120.size a) :
    S2048x512.Idx → Elt F .f32 :=
  ReadAs.same.apply (View.read (Elt F) ((Memref.whole main_arg2).slice (Rect.unit (s := S2048x5120) off S2048x512.size inb) (fun _ => rfl)).view w)

section
variable (R : Memref sig .tc .vmem S2x2048x512 .f32) (g : R.view.ty.Contents (Elt F)) (w : main_arg2.ty.Contents (Elt F))

/-! The ring's contents after each of the ten copies. -/

abbrev ring0 : R.view.ty.Contents (Elt F) := (slot R ![0, 0, 0] inb_S2x2048x512_S1x2048x512_0_0_0).write (Elt F) g (chunk w ![0, 0] inb_S2048x5120_S2048x512_0_0) Finset.univ
abbrev ring1 : R.view.ty.Contents (Elt F) := (slot R ![1, 0, 0] inb_S2x2048x512_S1x2048x512_1_0_0).write (Elt F) (ring0 R g w) (chunk w ![0, 512] inb_S2048x5120_S2048x512_0_512) Finset.univ
abbrev ring2 : R.view.ty.Contents (Elt F) := (slot R ![0, 0, 0] inb_S2x2048x512_S1x2048x512_0_0_0).write (Elt F) (ring1 R g w) (chunk w ![0, 1024] inb_S2048x5120_S2048x512_0_1024) Finset.univ
abbrev ring3 : R.view.ty.Contents (Elt F) := (slot R ![1, 0, 0] inb_S2x2048x512_S1x2048x512_1_0_0).write (Elt F) (ring2 R g w) (chunk w ![0, 1536] inb_S2048x5120_S2048x512_0_1536) Finset.univ
abbrev ring4 : R.view.ty.Contents (Elt F) := (slot R ![0, 0, 0] inb_S2x2048x512_S1x2048x512_0_0_0).write (Elt F) (ring3 R g w) (chunk w ![0, 2048] inb_S2048x5120_S2048x512_0_2048) Finset.univ
abbrev ring5 : R.view.ty.Contents (Elt F) := (slot R ![1, 0, 0] inb_S2x2048x512_S1x2048x512_1_0_0).write (Elt F) (ring4 R g w) (chunk w ![0, 2560] inb_S2048x5120_S2048x512_0_2560) Finset.univ
abbrev ring6 : R.view.ty.Contents (Elt F) := (slot R ![0, 0, 0] inb_S2x2048x512_S1x2048x512_0_0_0).write (Elt F) (ring5 R g w) (chunk w ![0, 3072] inb_S2048x5120_S2048x512_0_3072) Finset.univ
abbrev ring7 : R.view.ty.Contents (Elt F) := (slot R ![1, 0, 0] inb_S2x2048x512_S1x2048x512_1_0_0).write (Elt F) (ring6 R g w) (chunk w ![0, 3584] inb_S2048x5120_S2048x512_0_3584) Finset.univ
abbrev ring8 : R.view.ty.Contents (Elt F) := (slot R ![0, 0, 0] inb_S2x2048x512_S1x2048x512_0_0_0).write (Elt F) (ring7 R g w) (chunk w ![0, 4096] inb_S2048x5120_S2048x512_0_4096) Finset.univ
abbrev ring9 : R.view.ty.Contents (Elt F) := (slot R ![1, 0, 0] inb_S2x2048x512_S1x2048x512_1_0_0).write (Elt F) (ring8 R g w) (chunk w ![0, 4608] inb_S2048x5120_S2048x512_0_4608) Finset.univ

/-- What the ten stores put into the kept scratch, the last first. -/
def pieces : List (View.Piece (Elt F) S2048x5120 .bf16) :=
  [⟨Rect.unit (s := S2048x5120) ![0, 4608] S2048x512.size inb_S2048x5120_S2048x512_0_4608,
      k0_pay12 (View.readAt (Elt F) R.view (Rect.unit (s := S2x2048x512) ![1, 0, 0] S1x2048x512.size inb_S2x2048x512_S1x2048x512_1_0_0).toLoadRect (ring9 R g w))⟩,
    ⟨Rect.unit (s := S2048x5120) ![0, 4096] S2048x512.size inb_S2048x5120_S2048x512_0_4096,
      k0_pay11 (View.readAt (Elt F) R.view (Rect.unit (s := S2x2048x512) ![0, 0, 0] S1x2048x512.size inb_S2x2048x512_S1x2048x512_0_0_0).toLoadRect (ring9 R g w))⟩,
    ⟨Rect.unit (s := S2048x5120) ![0, 3584] S2048x512.size inb_S2048x5120_S2048x512_0_3584,
      k0_pay10 (View.readAt (Elt F) R.view (Rect.unit (s := S2x2048x512) ![1, 0, 0] S1x2048x512.size inb_S2x2048x512_S1x2048x512_1_0_0).toLoadRect (ring8 R g w))⟩,
    ⟨Rect.unit (s := S2048x5120) ![0, 3072] S2048x512.size inb_S2048x5120_S2048x512_0_3072,
      k0_pay9 (View.readAt (Elt F) R.view (Rect.unit (s := S2x2048x512) ![0, 0, 0] S1x2048x512.size inb_S2x2048x512_S1x2048x512_0_0_0).toLoadRect (ring7 R g w))⟩,
    ⟨Rect.unit (s := S2048x5120) ![0, 2560] S2048x512.size inb_S2048x5120_S2048x512_0_2560,
      k0_pay8 (View.readAt (Elt F) R.view (Rect.unit (s := S2x2048x512) ![1, 0, 0] S1x2048x512.size inb_S2x2048x512_S1x2048x512_1_0_0).toLoadRect (ring6 R g w))⟩,
    ⟨Rect.unit (s := S2048x5120) ![0, 2048] S2048x512.size inb_S2048x5120_S2048x512_0_2048,
      k0_pay7 (View.readAt (Elt F) R.view (Rect.unit (s := S2x2048x512) ![0, 0, 0] S1x2048x512.size inb_S2x2048x512_S1x2048x512_0_0_0).toLoadRect (ring5 R g w))⟩,
    ⟨Rect.unit (s := S2048x5120) ![0, 1536] S2048x512.size inb_S2048x5120_S2048x512_0_1536,
      k0_pay6 (View.readAt (Elt F) R.view (Rect.unit (s := S2x2048x512) ![1, 0, 0] S1x2048x512.size inb_S2x2048x512_S1x2048x512_1_0_0).toLoadRect (ring4 R g w))⟩,
    ⟨Rect.unit (s := S2048x5120) ![0, 1024] S2048x512.size inb_S2048x5120_S2048x512_0_1024,
      k0_pay5 (View.readAt (Elt F) R.view (Rect.unit (s := S2x2048x512) ![0, 0, 0] S1x2048x512.size inb_S2x2048x512_S1x2048x512_0_0_0).toLoadRect (ring3 R g w))⟩,
    ⟨Rect.unit (s := S2048x5120) ![0, 512] S2048x512.size inb_S2048x5120_S2048x512_0_512,
      k0_pay4 (View.readAt (Elt F) R.view (Rect.unit (s := S2x2048x512) ![1, 0, 0] S1x2048x512.size inb_S2x2048x512_S1x2048x512_1_0_0).toLoadRect (ring2 R g w))⟩,
    ⟨Rect.unit (s := S2048x5120) ![0, 0] S2048x512.size inb_S2048x5120_S2048x512_0_0,
      k0_pay3 (View.readAt (Elt F) R.view (Rect.unit (s := S2x2048x512) ![0, 0, 0] S1x2048x512.size inb_S2x2048x512_S1x2048x512_0_0_0).toLoadRect (ring1 R g w))⟩]

/-- A chunk loaded back, cast, narrowed and cast is the narrowed weight's columns. -/
theorem chunk_narrowed (off : Fin 2 → ℕ) (inb : ∀ a, off a + S2048x512.size a ≤ S2048x5120.size a)
    (v : S1x2048x512.Idx → Elt F .f32) (hv : shapeCast S2048x512 v shapeCasts_S1x2048x512_S2048x512 = chunk w off inb) (x : S2048x512.Idx) :
    shapeCast S2048x512 (truncf (s := S2048x512) .bf16 (shapeCast S2048x512 v shapeCasts_S1x2048x512_S2048x512) bitsLt_bf16_f32) shapeCasts_S2048x512_S2048x512 x
      = narrowed w ((Rect.unit (s := S2048x5120) off S2048x512.size inb).emb x) := by
  rw [hv]
  exact (congrArg (truncf (s := S2048x512) .bf16 (chunk w off inb) bitsLt_bf16_f32) (Shape.reshapeEquiv_self _ x)).trans rfl

/-- Every piece is the narrowed weight on its rectangle. -/
theorem pieces_agree : ∀ p ∈ pieces R g w, ∀ x : p.1.shape.Idx, p.2 x = narrowed w (p.1.emb x) := by
  intro p hp
  unfold pieces at hp
  rcases List.mem_cons.mp hp with rfl | hp
  · exact chunk_narrowed w ![0, 4608] inb_S2048x5120_S2048x512_0_4608 _ (slot_hit R _ _ _ _ _)
  rcases List.mem_cons.mp hp with rfl | hp
  · exact chunk_narrowed w ![0, 4096] inb_S2048x5120_S2048x512_0_4096 _ ((congrArg (fun v => shapeCast S2048x512 v shapeCasts_S1x2048x512_S2048x512) (slot_miss R _ _ _ _ (by decide) _ _)).trans (slot_hit R _ _ _ _ _))
  rcases List.mem_cons.mp hp with rfl | hp
  · exact chunk_narrowed w ![0, 3584] inb_S2048x5120_S2048x512_0_3584 _ ((congrArg (fun v => shapeCast S2048x512 v shapeCasts_S1x2048x512_S2048x512) (slot_miss R _ _ _ _ (by decide) _ _)).trans (slot_hit R _ _ _ _ _))
  rcases List.mem_cons.mp hp with rfl | hp
  · exact chunk_narrowed w ![0, 3072] inb_S2048x5120_S2048x512_0_3072 _ ((congrArg (fun v => shapeCast S2048x512 v shapeCasts_S1x2048x512_S2048x512) (slot_miss R _ _ _ _ (by decide) _ _)).trans (slot_hit R _ _ _ _ _))
  rcases List.mem_cons.mp hp with rfl | hp
  · exact chunk_narrowed w ![0, 2560] inb_S2048x5120_S2048x512_0_2560 _ ((congrArg (fun v => shapeCast S2048x512 v shapeCasts_S1x2048x512_S2048x512) (slot_miss R _ _ _ _ (by decide) _ _)).trans (slot_hit R _ _ _ _ _))
  rcases List.mem_cons.mp hp with rfl | hp
  · exact chunk_narrowed w ![0, 2048] inb_S2048x5120_S2048x512_0_2048 _ ((congrArg (fun v => shapeCast S2048x512 v shapeCasts_S1x2048x512_S2048x512) (slot_miss R _ _ _ _ (by decide) _ _)).trans (slot_hit R _ _ _ _ _))
  rcases List.mem_cons.mp hp with rfl | hp
  · exact chunk_narrowed w ![0, 1536] inb_S2048x5120_S2048x512_0_1536 _ ((congrArg (fun v => shapeCast S2048x512 v shapeCasts_S1x2048x512_S2048x512) (slot_miss R _ _ _ _ (by decide) _ _)).trans (slot_hit R _ _ _ _ _))
  rcases List.mem_cons.mp hp with rfl | hp
  · exact chunk_narrowed w ![0, 1024] inb_S2048x5120_S2048x512_0_1024 _ ((congrArg (fun v => shapeCast S2048x512 v shapeCasts_S1x2048x512_S2048x512) (slot_miss R _ _ _ _ (by decide) _ _)).trans (slot_hit R _ _ _ _ _))
  rcases List.mem_cons.mp hp with rfl | hp
  · exact chunk_narrowed w ![0, 512] inb_S2048x5120_S2048x512_0_512 _ ((congrArg (fun v => shapeCast S2048x512 v shapeCasts_S1x2048x512_S2048x512) (slot_miss R _ _ _ _ (by decide) _ _)).trans (slot_hit R _ _ _ _ _))
  rcases List.mem_cons.mp hp with rfl | hp
  · exact chunk_narrowed w ![0, 0] inb_S2048x5120_S2048x512_0_0 _ ((congrArg (fun v => shapeCast S2048x512 v shapeCasts_S1x2048x512_S2048x512) (slot_miss R _ _ _ _ (by decide) _ _)).trans (slot_hit R _ _ _ _ _))
  exact absurd hp List.not_mem_nil

/-- The ten pieces cover the scratch. -/
theorem pieces_cover (y : S2048x5120.Idx) : ∃ p ∈ pieces R g w, y ∈ p.1.set :=
  View.cover_of_tiledL (pieces R g w) S2048x512.size (by sl_kernel_rfl) y

/-- So the scratch, read after the ten stores, is the narrowed weight, whatever it held. -/
theorem read_pieces (M : View sig .tc .vmem S2048x5120 .bf16) (f : M.ty.Contents (Elt F)) :
    M.read (Elt F) (M.writes (Elt F) f (pieces R g w)) = narrowed w :=
  funext fun y => View.read_writes_apply_of_pieces M f (narrowed w) (pieces R g w) (pieces_agree R g w) y (pieces_cover R g w y)

end

/-- The 1024 columns of the kept weight from a place on. -/
abbrev cols (off : Fin 2 → ℕ) (inb : ∀ a, off a + S2048x1024.size a ≤ S2048x5120.size a) (W : S2048x5120.Idx → Elt F .bf16) :
    S2048x1024.Idx → Elt F .bf16 :=
  fun j => W ((Rect.unit (s := S2048x5120) off S2048x1024.size inb).emb j)

end Cert.Proof.InProj

end
-- ==== Proof.InProj.Body.lean ====
module

public import proofs.«01_k».proof.Proof.InProj.Ring

@[expose] public section

/-! One call of the input projection's body, at the first point and at a later one: what it leaves in its buffers. -/

set_option maxRecDepth 16384

noncomputable section

namespace Cert.Proof.InProj

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The body's branch: the weight is brought in where this holds. -/
abbrev first (i : grid0.Coords) : Prop := (Scalar.cmpi .ne (Scalar.extui (Scalar.cmpi .eq (BitVec.ofNat 32 (i 0).val) 0#32)) 0#32) = 1#1

/-- It holds at point 0 only. -/
theorem first_iff : ∀ t : Fin cfg0.N, first (grid0.coords t) ↔ t.val = 0 :=
  (fun t => by
    have ht : t.val < 32 := Nat.lt_of_lt_of_eq t.isLt N_0
    have e0 : (grid0.coords t 0).val = t.val / 1 % 32 := Pipeline.Grid.coords_val t 0 (by decide) rfl
    simp only [first, e0]
    word_cmp
   : ∀ t : Fin grid0.N, first (grid0.coords t) ↔ t.val = 0)

/-! ## What the five results' blocks hold -/

section
variable (x : Vec F S256x2048 .f32) (g : Vec F S1x2048 .f32) (W : S2048x5120.Idx → Elt F .bf16)

def res0 : S256x1024.Idx → Elt F .f32 := k0_pay14 x g (cols ![0, 0] inb_S2048x5120_S2048x1024_0_0 W)
def res1 : S256x1024.Idx → Elt F .f32 := k0_pay15 x g (cols ![0, 1024] inb_S2048x5120_S2048x1024_0_1024 W)
def res2 : S256x1024.Idx → Elt F .bf16 := k0_pay16 x g (cols ![0, 2048] inb_S2048x5120_S2048x1024_0_2048 W)
def res3 : S256x1024.Idx → Elt F .bf16 := k0_pay1 (k0_pay13 x g) (cols ![0, 3072] inb_S2048x5120_S2048x1024_0_3072 W)
def res4 : S256x1024.Idx → Elt F .bf16 := k0_pay2 (k0_pay13 x g) (cols ![0, 4096] inb_S2048x5120_S2048x1024_0_4096 W)

end

/-- A result's buffer after its one store, which covers it. -/
theorem read_whole {e : EltTy} (M : View sig .tc .vmem S256x1024 e) (f : M.ty.Contents (Elt F)) (inb) (w : S256x1024.Idx → Elt F e) :
    M.read (Elt F) (M.writes (Elt F) f [⟨Rect.unit (s := S256x1024) ![0, 0] S256x1024.size inb, w⟩]) = w :=
  funext fun y => by
    have e : (Rect.unit (s := S256x1024) ![0, 0] S256x1024.size inb).emb y = y := by
      funext a; refine Fin.ext ?_
      have h0 : (![0, 0] : Fin 2 → ℕ) a = 0 := by fin_cases a <;> rfl
      show (![0, 0] : Fin 2 → ℕ) a + 1 * (y a).val = (y a).val
      rw [h0]; omega
    have h := View.read_writes_cons_emb M f (Rect.unit (s := S256x1024) ![0, 0] S256x1024.size inb) w [] y
    rw [e] at h
    exact h

/-- A whole load of a window held at known contents. -/
theorem load_whole {s : Shape} {e : EltTy} (M : Memref sig .tc .vmem s e) (hM : M.IsWhole) (x : Vec F s e) {off : Fin s.rank → ℕ} (inb) :
    View.readAt (Elt F) M.view (Rect.unit (s := s) off s.size inb).toLoadRect (hM.unread x) = x :=
  (View.readAt_full M.view _ inb).trans (hM.read_unread x)

/-- A load of columns of the kept scratch, right after it was filled. -/
theorem load_filled (R : Memref sig .tc .vmem S2x2048x512 .f32) (g : R.view.ty.Contents (Elt F)) (w : main_arg2.ty.Contents (Elt F))
    (M : Memref sig .tc .vmem S2048x5120 .bf16) (off : Fin 2 → ℕ) (inb : ∀ a, off a + S2048x1024.size a ≤ S2048x5120.size a) :
    M.view.readCov (pieces R g w) (Rect.unit (s := S2048x5120) off S2048x1024.size inb).toLoadRect = cols off inb (narrowed w) :=
  funext fun j => congrFun (read_pieces R g w M.view M.view.junk) _

/-- A load of columns of the kept scratch at a later point. -/
theorem load_kept (M : Memref sig .tc .vmem S2048x5120 .bf16) (hM : M.IsWhole) (W : Vec F S2048x5120 .bf16) (off : Fin 2 → ℕ)
    (inb : ∀ a, off a + S2048x1024.size a ≤ S2048x5120.size a) :
    View.readAt (Elt F) M.view (Rect.unit (s := S2048x5120) off S2048x1024.size inb).toLoadRect (hM.unread W) = cols off inb W :=
  funext fun j => congrFun (hM.read_unread W) _

/-- A payload of three arguments at equal arguments. -/
theorem pay3 {α β γ δ : Type} (k : α → β → γ → δ) {a a' : α} {b b' : β} {c c' : γ} (ha : a = a') (hb : b = b') (hc : c = c') : k a b c = k a' b' c' := by
  rw [ha, hb, hc]

/-- An array's buffer, held whole at its contents. -/
abbrev heldWhole (c : Dev nD) {sp : Space} {S : Shape} {e : EltTy} (M : Memref sig .tc sp S e) (f : Buf (Elt F) (M.view.loc (c : Thread nD τ))) : sProp 𝕄 :=
  M.view.loc (c : Thread nD τ) ↦{fullShare} f

/-- A payload of two arguments at equal arguments. -/
theorem pay2 {α β γ : Type} (k : α → β → γ) {a a' : α} {b b' : β} (ha : a = a') (hb : b = b') : k a b = k a' b' := by
  rw [ha, hb]

/-- The normalised block at equal arguments. -/
theorem norm2 {a a' : Vec F S256x2048 .f32} {b b' : Vec F S1x2048 .f32} (ha : a = a') (hb : b = b') : k0_pay13 a b = k0_pay13 a' b' := by
  rw [ha, hb]

/-- The weight's array, held whole. -/
abbrev weight (c : Dev nD) (w : main_arg2.ty.Contents (Elt F)) : sProp 𝕄 :=
  heldWhole c (Memref.whole main_arg2 : Memref sig .tc .hbm S2048x5120 .f32) w

set_option maxHeartbeats 4000000 in set_option sl_exec.dmaWindow true in set_option sl_exec.dmaWindowSet true in
/-- The first point: the weight is brought in, then the block's five results computed. -/
theorem body_first (c : Dev nD) (i : grid0.Coords) (arg1 : Memref sig .tc .vmem S256x2048 .f32) (harg1 : arg1.IsWhole) (arg2 : Memref sig .tc .vmem S1x2048 .f32) (harg2 : arg2.IsWhole) (arg4 : Memref sig .tc .vmem S256x1024 .f32) (harg4 : arg4.IsWhole) (arg5 : Memref sig .tc .vmem S256x1024 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S2048x5120 .bf16) (harg9 : arg9.IsWhole) (arg10 : Memref sig .tc .vmem S2x2048x512 .f32) (harg10 : arg10.IsWhole) (hc : first i)
    (x0 : Vec F S256x2048 .f32) (x1 : Vec F S1x2048 .f32) (w : main_arg2.ty.Contents (Elt F)) (Ws : Waits sig Unit) (K : PUnit → sProp 𝕄) :
    iprop(owns (c : Thread nD τ) arg1 fullShare x0 ∗ owns (c : Thread nD τ) arg2 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (∃ d, owns (c : Thread nD τ) arg10 fullShare d) ∗ semVal ((c : Thread nD τ), SemLoc.dma 13) 0 ∗ semVal ((c : Thread nD τ), SemLoc.dma 14) 0 ∗ weight c w ∗ owes (c : Thread nD τ) 0 Ws
        ∗ (iprop(owns (c : Thread nD τ) arg1 fullShare x0 ∗ owns (c : Thread nD τ) arg2 fullShare x1 ∗ owns (c : Thread nD τ) arg4 fullShare (res0 x0 x1 (narrowed w)) ∗ owns (c : Thread nD τ) arg5 fullShare (res1 x0 x1 (narrowed w)) ∗ owns (c : Thread nD τ) arg6 fullShare (res2 x0 x1 (narrowed w)) ∗ owns (c : Thread nD τ) arg7 fullShare (res3 x0 x1 (narrowed w)) ∗ owns (c : Thread nD τ) arg8 fullShare (res4 x0 x1 (narrowed w))
            ∗ owns (c : Thread nD τ) arg9 fullShare (narrowed w) ∗ (∃ d, owns (c : Thread nD τ) arg10 fullShare d)
            ∗ semVal ((c : Thread nD τ), SemLoc.dma 13) 0 ∗ semVal ((c : Thread nD τ), SemLoc.dma 14) 0 ∗ weight c w ∗ (∃ Ws', owes (c : Thread nD τ) 0 Ws')) -∗ K ⟨⟩))
      ⊢ wp frame (wpE (defs₀ (F := F)) Variants.none c none) Set.univ (cc0_in_proj i arg1 harg1 arg2 harg2 (Memref.whole main_arg2) (Memref.isWhole_whole _) arg4 harg4 arg5 harg5 arg6 harg6 arg7 harg7 arg8 harg8 arg9 harg9 arg10 harg10 cc0_scratch2) K := by
  simp only [cc0_in_proj_eq_skeleton]; unfold cc0_in_proj_skel
  simp only [k0_part7_eq_skeleton, k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%ds0, %fs0, -, HS0⟩, ⟨%ds1, %fs1, -, HS1⟩, Hq0, Hq1, Hh0, HW, Hk⟩
  obtain rfl := harg1.eq_unread hf0; obtain rfl := harg2.eq_unread hf1
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro; exact (read_whole _ _ _ _).trans (pay3 k0_pay14 (load_whole _ harg1 x0 _) (load_whole _ harg2 x1 _) (load_filled _ _ _ _ ![0, 0] inb_S2048x5120_S2048x1024_0_0))
  isplitl [H3]
  · iexists _; isplitr
    swap; · iexact H3
    ipureintro; exact (read_whole _ _ _ _).trans (pay3 k0_pay15 (load_whole _ harg1 x0 _) (load_whole _ harg2 x1 _) (load_filled _ _ _ _ ![0, 1024] inb_S2048x5120_S2048x1024_0_1024))
  isplitl [H4]
  · iexists _; isplitr
    swap; · iexact H4
    ipureintro; exact (read_whole _ _ _ _).trans (pay3 k0_pay16 (load_whole _ harg1 x0 _) (load_whole _ harg2 x1 _) (load_filled _ _ _ _ ![0, 2048] inb_S2048x5120_S2048x1024_0_2048))
  isplitl [H5]
  · iexists _; isplitr
    swap; · iexact H5
    ipureintro; exact (read_whole _ _ _ _).trans (pay2 k0_pay1 (norm2 (load_whole _ harg1 x0 _) (load_whole _ harg2 x1 _)) (load_filled _ _ _ _ ![0, 3072] inb_S2048x5120_S2048x1024_0_3072))
  isplitl [H6]
  · iexists _; isplitr
    swap; · iexact H6
    ipureintro; exact (read_whole _ _ _ _).trans (pay2 k0_pay2 (norm2 (load_whole _ harg1 x0 _) (load_whole _ harg2 x1 _)) (load_filled _ _ _ _ ![0, 4096] inb_S2048x5120_S2048x1024_0_4096))
  isplitl [HS0]
  · iexists _; isplitr
    swap; · iexact HS0
    ipureintro; exact (read_pieces arg10 fs1 w arg9.view _)
  isplitl [HS1]
  · iexists _; iexists _; isplitr
    swap; · iexact HS1
    ipureintro; rfl
  isplitl [Hq0]; · iexact Hq0
  isplitl [Hq1]; · iexact Hq1
  isplitl [Hh0]; · iexact Hh0
  iexists _; iexact HW

set_option maxHeartbeats 4000000 in
/-- A later point: the five results over the weight the scratch keeps. -/
theorem body_later (c : Dev nD) (i : grid0.Coords) (arg1 : Memref sig .tc .vmem S256x2048 .f32) (harg1 : arg1.IsWhole) (arg2 : Memref sig .tc .vmem S1x2048 .f32) (harg2 : arg2.IsWhole) (arg4 : Memref sig .tc .vmem S256x1024 .f32) (harg4 : arg4.IsWhole) (arg5 : Memref sig .tc .vmem S256x1024 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S2048x5120 .bf16) (harg9 : arg9.IsWhole) (arg10 : Memref sig .tc .vmem S2x2048x512 .f32) (harg10 : arg10.IsWhole) (hc : ¬first i)
    (x0 : Vec F S256x2048 .f32) (x1 : Vec F S1x2048 .f32) (w : main_arg2.ty.Contents (Elt F)) (Ws : Waits sig Unit) (K : PUnit → sProp 𝕄) :
    iprop(owns (c : Thread nD τ) arg1 fullShare x0 ∗ owns (c : Thread nD τ) arg2 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare (narrowed w)
        ∗ (∃ d, owns (c : Thread nD τ) arg10 fullShare d) ∗ semVal ((c : Thread nD τ), SemLoc.dma 13) 0 ∗ semVal ((c : Thread nD τ), SemLoc.dma 14) 0 ∗ weight c w ∗ owes (c : Thread nD τ) 0 Ws
        ∗ (iprop(owns (c : Thread nD τ) arg1 fullShare x0 ∗ owns (c : Thread nD τ) arg2 fullShare x1 ∗ owns (c : Thread nD τ) arg4 fullShare (res0 x0 x1 (narrowed w)) ∗ owns (c : Thread nD τ) arg5 fullShare (res1 x0 x1 (narrowed w)) ∗ owns (c : Thread nD τ) arg6 fullShare (res2 x0 x1 (narrowed w)) ∗ owns (c : Thread nD τ) arg7 fullShare (res3 x0 x1 (narrowed w)) ∗ owns (c : Thread nD τ) arg8 fullShare (res4 x0 x1 (narrowed w))
            ∗ owns (c : Thread nD τ) arg9 fullShare (narrowed w) ∗ (∃ d, owns (c : Thread nD τ) arg10 fullShare d)
            ∗ semVal ((c : Thread nD τ), SemLoc.dma 13) 0 ∗ semVal ((c : Thread nD τ), SemLoc.dma 14) 0 ∗ weight c w ∗ (∃ Ws', owes (c : Thread nD τ) 0 Ws')) -∗ K ⟨⟩))
      ⊢ wp frame (wpE (defs₀ (F := F)) Variants.none c none) Set.univ (cc0_in_proj i arg1 harg1 arg2 harg2 (Memref.whole main_arg2) (Memref.isWhole_whole _) arg4 harg4 arg5 harg5 arg6 harg6 arg7 harg7 arg8 harg8 arg9 harg9 arg10 harg10 cc0_scratch2) K := by
  simp only [cc0_in_proj_eq_skeleton]; unfold cc0_in_proj_skel
  simp only [k0_part7_eq_skeleton, k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%fs0, %hfs0, HS0⟩, ⟨%ds1, %fs1, -, HS1⟩, Hq0, Hq1, Hh0, HW, Hk⟩
  obtain rfl := harg1.eq_unread hf0; obtain rfl := harg2.eq_unread hf1; obtain rfl := harg9.eq_unread hfs0
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro; exact (read_whole _ _ _ _).trans (pay3 k0_pay14 (load_whole _ harg1 x0 _) (load_whole _ harg2 x1 _) (load_kept _ harg9 _ ![0, 0] inb_S2048x5120_S2048x1024_0_0))
  isplitl [H3]
  · iexists _; isplitr
    swap; · iexact H3
    ipureintro; exact (read_whole _ _ _ _).trans (pay3 k0_pay15 (load_whole _ harg1 x0 _) (load_whole _ harg2 x1 _) (load_kept _ harg9 _ ![0, 1024] inb_S2048x5120_S2048x1024_0_1024))
  isplitl [H4]
  · iexists _; isplitr
    swap; · iexact H4
    ipureintro; exact (read_whole _ _ _ _).trans (pay3 k0_pay16 (load_whole _ harg1 x0 _) (load_whole _ harg2 x1 _) (load_kept _ harg9 _ ![0, 2048] inb_S2048x5120_S2048x1024_0_2048))
  isplitl [H5]
  · iexists _; isplitr
    swap; · iexact H5
    ipureintro; exact (read_whole _ _ _ _).trans (pay2 k0_pay1 (norm2 (load_whole _ harg1 x0 _) (load_whole _ harg2 x1 _)) (load_kept _ harg9 _ ![0, 3072] inb_S2048x5120_S2048x1024_0_3072))
  isplitl [H6]
  · iexists _; isplitr
    swap; · iexact H6
    ipureintro; exact (read_whole _ _ _ _).trans (pay2 k0_pay2 (norm2 (load_whole _ harg1 x0 _) (load_whole _ harg2 x1 _)) (load_kept _ harg9 _ ![0, 4096] inb_S2048x5120_S2048x1024_0_4096))
  isplitl [HS0]
  · iexists _; isplitr
    swap; · iexact HS0
    ipureintro; exact harg9.read_unread _
  isplitl [HS1]
  · iexists _; iexists _; isplitr
    swap; · iexact HS1
    ipureintro; rfl
  isplitl [Hq0]; · iexact Hq0
  isplitl [Hq1]; · iexact Hq1
  isplitl [Hh0]; · iexact Hh0
  iexists _; iexact HW

end Cert.Proof.InProj

end
-- ==== Proof.InProj.Run.lean ====
module

public import proofs.«01_k».proof.Proof.InProj.Body
public import Idealize.ShloMosaic.Lib.Pipeline.Value

@[expose] public section

/-! The input projection's run over its 32 points: the kept scratch holds the narrowed weight from the first point on,
each point's five blocks are the body's, the arguments and every counter end as they began. -/

set_option maxRecDepth 16384

noncomputable section

namespace Cert.Proof.InProj

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

/-! ## What the region hands the body beside its windows -/

abbrev kept : Memref sig .tc .vmem S2048x5120 .bf16 := Memref.whole cc0_scratch0
abbrev ring : Memref sig .tc .vmem S2x2048x512 .f32 := Memref.whole cc0_scratch1

/-- The two transfer counters the body waits on. -/
abbrev cells : Fin 2 → SemLoc sig := fun j => (![SemLoc.dma 13, SemLoc.dma 14] : Fin 2 → SemLoc sig) j
theorem cells_facts : Pipeline.OwnSemFacts spec0 cells := by decide

theorem cells_eq (c : Dev nD) :
    (Pipeline.ownSems0 (Ix := Unit) (Name := ℕ) (U := Pipeline.UD sig nD τ) (Lvl := ℕ) (Val := Elt F) (τ := τ) cells c : sProp 𝕄)
      = iprop(semVal ((c : Thread nD τ), SemLoc.dma 13) 0 ∗ semVal ((c : Thread nD τ), SemLoc.dma 14) 0) := by
  rw [Pipeline.ownSems0_eq_of_list c cells [0, 1] (by decide) (by decide)]; rfl

/-- The one array the body reads by its own transfers. -/
def read₀ : Finset (Ref sig .tc) := {main_arg2}
theorem read₀_sub : read₀ ⊆ Pipeline.restRefs sig spec0 := by decide

theorem read₀_eq (c : Dev nD) :
    (bigSep read₀ (fun b => ((c : Thread nD τ).loc b) ↦{fullShare} V m c b) : sProp 𝕄) = iprop(weight c (V m c main_arg2)) := by
  rw [BI.bigSep_eq_bigSepL_of_eq [main_arg2] (by decide) (by decide)]; rfl

/-- What the body is handed at the first point, part by part. -/
theorem handed_eq (c : Dev nD) :
    (Pipeline.ΦD cells spec0 read₀ (V m) c : sProp 𝕄)
      = iprop(iprop((∃ d, owns (c : Thread nD τ) kept fullShare d) ∗ (∃ d, owns (c : Thread nD τ) ring fullShare d)) ∗ (∃ r, prngReg c r)
          ∗ iprop(semVal ((c : Thread nD τ), SemLoc.dma 13) 0 ∗ semVal ((c : Thread nD τ), SemLoc.dma 14) 0) ∗ iprop(weight c (V m c main_arg2))) := by
  rw [Pipeline.ΦD_eq, scopedRest0_eq, cells_eq, read₀_eq]; simp only [kept, ring, owns_whole]; try rfl

/-! ## The proof data -/

/-- The weight as kept, off the launch's memory. -/
abbrev wt (c : Dev nD) : S2048x5120.Idx → Elt F .bf16 := narrowed (V m c main_arg2)

/-- Between points: at the start what the launch hands over, later the same with the kept scratch filled. -/
def inv (c : Dev nD) (n : ℕ) : sProp 𝕄 :=
  if n = 0 then Pipeline.ΦD cells spec0 read₀ (V m) c
  else iprop(iprop(owns (c : Thread nD τ) kept fullShare (wt m c) ∗ (∃ d, owns (c : Thread nD τ) ring fullShare d)) ∗ (∃ r, prngReg c r)
          ∗ iprop(semVal ((c : Thread nD τ), SemLoc.dma 13) 0 ∗ semVal ((c : Thread nD τ), SemLoc.dma 14) 0) ∗ iprop(weight c (V m c main_arg2)))

theorem inv_zero (c : Dev nD) (n : ℕ) (h : n = 0) : inv m c n = Pipeline.ΦD cells spec0 read₀ (V m) c := if_pos h

theorem inv_pos (c : Dev nD) (n : ℕ) (h : n ≠ 0) : inv m c n
    = iprop(iprop(owns (c : Thread nD τ) kept fullShare (wt m c) ∗ (∃ d, owns (c : Thread nD τ) ring fullShare d)) ∗ (∃ r, prngReg c r)
          ∗ iprop(semVal ((c : Thread nD τ), SemLoc.dma 13) 0 ∗ semVal ((c : Thread nD τ), SemLoc.dma 14) 0) ∗ iprop(weight c (V m c main_arg2))) := if_neg h

/-- After the body at a point: the inputs' buffers at their blocks, the results' at the body's values. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => res0 (iblk m c 0 t) (iblk m c 1 t) (wt m c)
    | ⟨3, _⟩ => res1 (iblk m c 0 t) (iblk m c 1 t) (wt m c)
    | ⟨4, _⟩ => res2 (iblk m c 0 t) (iblk m c 1 t) (wt m c)
    | ⟨5, _⟩ => res3 (iblk m c 0 t) (iblk m c 1 t) (wt m c)
    | ⟨6, _⟩ => res4 (iblk m c 0 t) (iblk m c 1 t) (wt m c)
  Φ t := inv m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = res0 (iblk m c 0 t) (iblk m c 1 t) (wt m c) := by dsimp only [dats]
theorem after3 (c : Dev nD) (t : Fin cfg0.N) : (dats m 0 c).after 3 t = res1 (iblk m c 0 t) (iblk m c 1 t) (wt m c) := by dsimp only [dats]
theorem after4 (c : Dev nD) (t : Fin cfg0.N) : (dats m 0 c).after 4 t = res2 (iblk m c 0 t) (iblk m c 1 t) (wt m c) := by dsimp only [dats]
theorem after5 (c : Dev nD) (t : Fin cfg0.N) : (dats m 0 c).after 5 t = res3 (iblk m c 0 t) (iblk m c 1 t) (wt m c) := by dsimp only [dats]
theorem after6 (c : Dev nD) (t : Fin cfg0.N) : (dats m 0 c).after 6 t = res4 (iblk m c 0 t) (iblk m c 1 t) (wt m c) := by dsimp only [dats]

theorem before0 (c : Dev nD) (t : Fin cfg0.N) (d) : (dats m 0 c).before 0 t d = iblk m c 0 t := by
  have h := (dats m 0 c).before_in_eq_fetched 0 rfl (fun _ => rfl) (fun _ _ _ => rfl) (fun u => (after0 m c u).trans rfl) t d
  exact h.trans rfl
theorem before1 (c : Dev nD) (t : Fin cfg0.N) (d) : (dats m 0 c).before 1 t d = iblk m c 1 t := by
  have h := (dats m 0 c).before_in_eq_fetched 1 rfl (fun _ => rfl) (fun _ _ _ => rfl) (fun u => (after1 m c u).trans rfl) t d
  exact h.trans rfl

/-! ## The body at a point -/

/-- A window's staging buffer at a point. -/
abbrev stg (w : Fin cfg0.W) (t : Fin cfg0.N) := (cfg0.win w).stage (cfg0.slots t w)

set_option maxHeartbeats 6400000 in
/-- One point, as the region calls the body. -/
theorem point (c : Dev nD) (t : Fin cfg0.N) :
    iprop((dats m 0 c).Φ t.castSucc ∗ (dats m 0 c).owesAt () t.castSucc
        ∗ (∃ d, owns (c : Thread nD τ) (win0_0.stage (cfg0.slots t 0)) fullShare ((dats m 0 c).before 0 t d))
        ∗ (∃ d, owns (c : Thread nD τ) (win0_1.stage (cfg0.slots t 1)) fullShare ((dats m 0 c).before 1 t d))
        ∗ (∃ d, owns (c : Thread nD τ) (win0_2.stage (cfg0.slots t 2)) fullShare ((dats m 0 c).before 2 t d))
        ∗ (∃ d, owns (c : Thread nD τ) (win0_3.stage (cfg0.slots t 3)) fullShare ((dats m 0 c).before 3 t d))
        ∗ (∃ d, owns (c : Thread nD τ) (win0_4.stage (cfg0.slots t 4)) fullShare ((dats m 0 c).before 4 t d))
        ∗ (∃ d, owns (c : Thread nD τ) (win0_5.stage (cfg0.slots t 5)) fullShare ((dats m 0 c).before 5 t d))
        ∗ (∃ d, owns (c : Thread nD τ) (win0_6.stage (cfg0.slots t 6)) fullShare ((dats m 0 c).before 6 t d)))
      ⊢ wp frame (wpE (defs₀ (F := F)) Variants.none c none) Set.univ (bodyAt0 t) (fun _ =>
        iprop((dats m 0 c).Φ t.succ ∗ (dats m 0 c).owesAt () t.succ
          ∗ owns (c : Thread nD τ) (win0_0.stage (cfg0.slots t 0)) fullShare ((dats m 0 c).after 0 t)
          ∗ owns (c : Thread nD τ) (win0_1.stage (cfg0.slots t 1)) fullShare ((dats m 0 c).after 1 t)
          ∗ owns (c : Thread nD τ) (win0_2.stage (cfg0.slots t 2)) fullShare ((dats m 0 c).after 2 t)
          ∗ owns (c : Thread nD τ) (win0_3.stage (cfg0.slots t 3)) fullShare ((dats m 0 c).after 3 t)
          ∗ owns (c : Thread nD τ) (win0_4.stage (cfg0.slots t 4)) fullShare ((dats m 0 c).after 4 t)
          ∗ owns (c : Thread nD τ) (win0_5.stage (cfg0.slots t 5)) fullShare ((dats m 0 c).after 5 t)
          ∗ owns (c : Thread nD τ) (win0_6.stage (cfg0.slots t 6)) fullShare ((dats m 0 c).after 6 t))) := by
  unfold bodyAt0
  simp only [before0, before1]
  rw [show (dats m 0 c).Φ t.succ = inv m c (t.val + 1) from rfl, inv_pos m c _ (Nat.succ_ne_zero _),
    show (dats m 0 c).Φ t.castSucc = inv m c t.val from rfl,
    after0, after1, after2, after3, after4, after5, after6]
  unfold Dat.owesAt Pipeline.owesWithin
  rw [show (dats m 0 c).owed t.castSucc = 0 from rfl, show (dats m 0 c).owed t.succ = 0 from rfl]
  by_cases hz : t.val = 0
  · rw [inv_zero m c _ hz, handed_eq]
    iintro ⟨⟨⟨HS0, HS1⟩, Hg, ⟨Hq0, Hq1⟩, Hh0⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (body_first c (grid0.coords t) _ _ _ _ _ _ _ _ _ _ _ _ _ _ _ _ _ _ ((first_iff t).mpr hz) (iblk m c 0 t) (iblk m c 1 t) (V m c main_arg2) W _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [H6]; · iexists _; iexact H6
    isplitl [HS0]; · iexact HS0
    isplitl [HS1]; · iexact HS1
    isplitl [Hq0]; · iexact Hq0
    isplitl [Hq1]; · iexact Hq1
    isplitl [Hh0]; · iexact Hh0
    isplitl [HW]; · iexact HW
    iintro ⟨H0, H1, H2, H3, H4, H5, H6, HS0, HS1, Hq0, Hq1, Hh0, ⟨%W', HW'⟩⟩
    isplitl [HS0 HS1 Hg Hq0 Hq1 Hh0]
    · isplitl [HS0 HS1]
      · isplitl [HS0]; · iexact HS0
        iexact HS1
      isplitl [Hg]; · iexact Hg
      isplitl [Hq0 Hq1]
      · isplitl [Hq0]; · iexact Hq0
        iexact Hq1
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  · rw [inv_pos m c _ hz]
    iintro ⟨⟨⟨HS0, HS1⟩, Hg, ⟨Hq0, Hq1⟩, Hh0⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (body_later c (grid0.coords t) _ _ _ _ _ _ _ _ _ _ _ _ _ _ _ _ _ _ (fun h => hz ((first_iff t).mp h)) (iblk m c 0 t) (iblk m c 1 t) (V m c main_arg2) W _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [H6]; · iexists _; iexact H6
    isplitl [HS0]; · iexact HS0
    isplitl [HS1]; · iexact HS1
    isplitl [Hq0]; · iexact Hq0
    isplitl [Hq1]; · iexact Hq1
    isplitl [Hh0]; · iexact Hh0
    isplitl [HW]; · iexact HW
    iintro ⟨H0, H1, H2, H3, H4, H5, H6, HS0, HS1, Hq0, Hq1, Hh0, ⟨%W', HW'⟩⟩
    isplitl [HS0 HS1 Hg Hq0 Hq1 Hh0]
    · isplitl [HS0 HS1]
      · isplitl [HS0]; · iexact HS0
        iexact HS1
      isplitl [Hg]; · iexact Hg
      isplitl [Hq0 Hq1]
      · isplitl [Hq0]; · iexact Hq0
        iexact Hq1
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (point m c t) rfl .rfl fun _ => .rfl

theorem enter (c : Dev nD) : Pipeline.ΦD cells spec0 read₀ (V m) c ⊢ (dats m 0 c).Φ 0 := by
  rw [show (dats m 0 c).Φ 0 = inv m c 0 from rfl, inv_zero m c 0 rfl]
  try exact Idealize.SL.BI.Entails.refl _

theorem leave (c : Dev nD) : (dats m 0 c).Φ (Fin.last cfg0.N) ⊢ Pipeline.ΦD cells spec0 read₀ (V m) c := by
  rw [show (dats m 0 c).Φ (Fin.last cfg0.N) = inv m c cfg0.N from rfl, inv_pos m c _ (by have : cfg0.N = 32 := N_0; omega), handed_eq]
  iintro ⟨⟨HS0, HS1⟩, Hg, ⟨Hq0, Hq1⟩, Hh0⟩
  isplitl [HS0 HS1]
  · isplitl [HS0]
    · iexists _; iexact HS0
    iexact HS1
  isplitl [Hg]; · iexact Hg
  isplitl [Hq0 Hq1]
  · isplitl [Hq0]; · iexact Hq0
    iexact Hq1
  iexact Hh0

/-! ## The run -/

/-- The program up to its one region: the host's operation, then the region. -/
theorem toRegion : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
/-- Every run ends; the arrays end at what the proof data says, the counters at zero. -/
theorem run : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 cells defs₀ Variants.none cells_facts read₀ read₀_sub m ρ main
    (hbody := fun c => (obligation m c).loose) (hshare := fun c => (dats m 0 c).share_full fun _ => rfl)
    (howed := fun _ _ => rfl) (V := V m) (hmain := toRegion m) (hA := A_eq m)
    (hin := enter m) (hout := leave m)

/-- The arguments end as they began. -/
theorem args_end (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩

/-- The frame: the arguments end as they began, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨args_end m _ h.1, h.2⟩) (run m ρ)

end Cert.Proof.InProj

end
-- ==== Proof.InProj.Block.lean ====
module

public import proofs.«01_k».proof.Proof.InProj.Run
public import Idealize.ShloMosaic.Lib.Pointwise
public import Idealize.ShloMosaic.Lib.Pipeline.ValueKit

@[expose] public section

/-! The input projection at an element: the scaled row against a column of the weight, exactly. -/

set_option maxRecDepth 16384

noncomputable section

namespace Cert.Proof.InProj

open Cert.InProjIdeal Cert.InProjIdeal.Gen Idealize.ShloMosaic Idealize.ShloMosaic.TcCoe Idealize.SL.Sem

/-- A row's scale: one over the root of its mean square and a little more. -/
def rowScale (x : Fin 2048 → EReal) : EReal :=
  Ideal.rsqrt (Ideal.div (∑ k, x k * x k) (Ideal.ofBits .f32 0x45000000#32) + Ideal.ofBits .f32 0x358637BD#32)

/-- A row, scaled and weighted lane by lane, against a column. -/
def project (x g w : Fin 2048 → EReal) : EReal := ∑ k, x k * rowScale x * g k * w k

section
variable (x : Vec Ideal S256x2048 .f32) (g : Vec Ideal S1x2048 .f32)

theorem normed_apply (r : Fin 256) (k : Fin 2048) : k0_pay13 x g (ix2 r k) = x (ix2 r k) * rowScale (fun k => x (ix2 r k)) * g (ix2 0 k) := by
  unfold k0_pay13 rowScale
  pointwise

theorem pay14_apply (w : Vec Ideal S2048x1024 .bf16) (r : Fin 256) (l : Fin 1024) :
    k0_pay14 x g w (ix2 r l) = project (fun k => x (ix2 r k)) (fun k => g (ix2 0 k)) (fun k => w (ix2 k l)) := by
  unfold k0_pay14 project
  pointwise
  simp only [normed_apply]

theorem pay15_apply (w : Vec Ideal S2048x1024 .bf16) (r : Fin 256) (l : Fin 1024) :
    k0_pay15 x g w (ix2 r l) = project (fun k => x (ix2 r k)) (fun k => g (ix2 0 k)) (fun k => w (ix2 k l)) :=
  pay14_apply x g w r l

theorem pay16_apply (w : Vec Ideal S2048x1024 .bf16) (r : Fin 256) (l : Fin 1024) :
    k0_pay16 x g w (ix2 r l) = project (fun k => x (ix2 r k)) (fun k => g (ix2 0 k)) (fun k => w (ix2 k l)) * Ideal.ofBits .f32 0x3E000000#32 := by
  unfold k0_pay16 project
  pointwise
  simp only [normed_apply]

theorem pay1_apply (w : Vec Ideal S2048x1024 .bf16) (r : Fin 256) (l : Fin 1024) :
    k0_pay1 (k0_pay13 x g) w (ix2 r l) = project (fun k => x (ix2 r k)) (fun k => g (ix2 0 k)) (fun k => w (ix2 k l)) :=
  pay14_apply x g w r l

theorem pay2_apply (w : Vec Ideal S2048x1024 .bf16) (r : Fin 256) (l : Fin 1024) :
    k0_pay2 (k0_pay13 x g) w (ix2 r l) = project (fun k => x (ix2 r k)) (fun k => g (ix2 0 k)) (fun k => w (ix2 k l)) :=
  pay14_apply x g w r l
end

end Cert.Proof.InProj

end
-- ==== Proof.InProj.Array.lean ====
module

public import proofs.«01_k».proof.Proof.InProj.Block

@[expose] public section

/-! The input projection's five result arrays, exactly: each row projected on the result's own columns. -/

set_option maxRecDepth 16384

noncomputable section

namespace Cert.Proof.InProj

open Cert.InProjIdeal Cert.InProjIdeal.Gen Idealize.ShloMosaic Idealize.ShloMosaic.TcCoe Idealize.SL.Sem

variable (m : (ℓ : Loc nD τ sig) → Buf (Elt Ideal) ℓ) (ρ : Dev nD → PrngReg) (c : Dev nD)

/-- The arguments: the layer's input, the norm's weights, the projection's matrix. -/
abbrev ax : S8192x2048.Idx → EReal := m ((c.tc : Thread nD τ).loc main_arg0)
abbrev ag : S2048.Idx → EReal := m ((c.tc : Thread nD τ).loc main_arg1)
abbrev aw : S2048x5120.Idx → EReal := m ((c.tc : Thread nD τ).loc main_arg2)

/-- The projection at a row and a column. -/
def kproj (r : Fin 8192) (l : Fin 5120) : EReal :=
  project (fun k => ax m c (ix2 r k)) (fun k => ag m c (ix1 k)) (fun k => aw m c (ix2 k l))

theorem V_g (k : Fin 2048) : V m c main_v0 (ix2 0 k) = ag m c (ix1 k) := by
  unfold V
  simp only [hostOps0, List.flatten_cons, List.flatten_nil, List.append_nil, List.cons_append, List.nil_append]
  entry_read
  pointwise

theorem at0 : ∀ t : Fin cfg0.N, win0_0.index t = ![t.val, 0] := by decide +kernel
theorem at1 : ∀ t : Fin cfg0.N, win0_1.index t = ![0, 0] := by decide +kernel
theorem at2 : ∀ t : Fin cfg0.N, win0_2.index t = ![t.val, 0] := by decide +kernel
theorem at3 : ∀ t : Fin cfg0.N, win0_3.index t = ![t.val, 0] := by decide +kernel
theorem at4 : ∀ t : Fin cfg0.N, win0_4.index t = ![t.val, 0] := by decide +kernel
theorem at5 : ∀ t : Fin cfg0.N, win0_5.index t = ![t.val, 0] := by decide +kernel
theorem at6 : ∀ t : Fin cfg0.N, win0_6.index t = ![t.val, 0] := by decide +kernel

theorem point_lt (t : Fin cfg0.N) : t.val < 32 := t.isLt

theorem block_x (t : Fin cfg0.N) (r : Fin 256) (k : Fin 2048) :
    (iblk m c 0 t : S256x2048.Idx → EReal) (ix2 r k) = ax m c (ix2 (⟨256 * t.val + r.val, by have := point_lt t; omega⟩ : Fin 8192) k) := by
  refine Eq.trans ?_ (congrFun (V_main_arg0 m c) _)
  blk_ext [iblk, at0 t]

theorem block_g (t : Fin cfg0.N) (k : Fin 2048) : (iblk m c 1 t : S1x2048.Idx → EReal) (ix2 0 k) = ag m c (ix1 k) := by
  refine Eq.trans ?_ (V_g m c k)
  blk_ext [iblk, at1 t]

/-- The kept weight's columns from a place on. -/
theorem cols_wt (off : ℕ) (inb) (k : Fin 2048) (l : Fin 1024) (h : off + l.val < 5120) :
    cols ![0, off] inb (wt m c) (ix2 k l) = aw m c (ix2 k (⟨off + l.val, h⟩ : Fin 5120)) := by
  have e : (Rect.unit (s := S2048x5120) ![0, off] S2048x1024.size inb).emb (ix2 k l) = ix2 k (⟨off + l.val, h⟩ : Fin 5120) := by
    funext a
    refine Fin.ext ?_
    fin_cases a
    · show 0 + 1 * k.val = k.val
      omega
    · show off + 1 * l.val = off + l.val
      omega
  show V m c main_arg2 ((Rect.unit (s := S2048x5120) ![0, off] S2048x1024.size inb).emb (ix2 k l)) = _
  rw [e, V_main_arg2]

/-- A point's rows projected on the columns from a place on. -/
theorem block_proj (t : Fin cfg0.N) (off : ℕ) (inb) (r : Fin 256) (l : Fin 1024) (h : off + l.val < 5120) :
    project (fun k => (iblk m c 0 t : S256x2048.Idx → EReal) (ix2 r k)) (fun k => (iblk m c 1 t : S1x2048.Idx → EReal) (ix2 0 k))
        (fun k => cols ![0, off] inb (wt m c) (ix2 k l))
      = kproj m c ⟨256 * t.val + r.val, by have := point_lt t; omega⟩ ⟨off + l.val, h⟩ := by
  unfold kproj
  simp only [block_x, block_g, cols_wt m c off inb _ l h]

/-! ## The five arrays -/

def arr0 (i : S8192x1024.Idx) : EReal := kproj m c (i 0) ⟨0 + (i 1).val, by have h : (i 1).val < 1024 := (i 1).isLt; omega⟩

theorem res0_apply (t : Fin cfg0.N) (r : Fin 256) (l : Fin 1024) : res0 (iblk m c 0 t) (iblk m c 1 t) (wt m c) (ix2 r l)
    = kproj m c ⟨256 * t.val + r.val, by have := point_lt t; omega⟩ ⟨0 + l.val, by omega⟩ :=
  (pay14_apply (iblk m c 0 t) (iblk m c 1 t) _ r l).trans (block_proj m c t 0 _ r l (by omega))

theorem final0 : (dats m 0 c).arrAt 2 cfg0.N = arr0 m c := by
  refine (dats m 0 c).arrAt_eq_of_covers 2 _ (by decide +kernel) fun t hf y => ?_
  blk_simp
  rw [after2]
  have hy : y = ix2 (⟨(y 0).val, (y 0).isLt⟩ : Fin 256) (⟨(y 1).val, (y 1).isLt⟩ : Fin 1024) := by funext a; fin_cases a <;> rfl
  refine (congrArg (res0 (iblk m c 0 t) (iblk m c 1 t) (wt m c)) hy).trans ((res0_apply m c t _ _).trans ?_)
  have h0 : ((win0_2.blk t).view.emb y 0).val = win0_2.index t (0 : Fin 2) * 256 + 1 * (y 0).val := rfl
  have h1 : ((win0_2.blk t).view.emb y 1).val = win0_2.index t (1 : Fin 2) * 1024 + 1 * (y 1).val := rfl
  have e0 : win0_2.index t (0 : Fin 2) = t.val := congrFun (at2 t) 0
  have e1 : win0_2.index t (1 : Fin 2) = 0 := congrFun (at2 t) 1
  refine congrArg₂ (fun a b => kproj m c a b) (Fin.ext ?_) (Fin.ext ?_)
  · show 256 * t.val + (y 0).val = ((win0_2.blk t).view.emb y 0).val
    omega
  · show 0 + (y 1).val = 0 + ((win0_2.blk t).view.emb y 1).val
    omega

def arr1 (i : S8192x1024.Idx) : EReal := kproj m c (i 0) ⟨1024 + (i 1).val, by have h : (i 1).val < 1024 := (i 1).isLt; omega⟩

theorem res1_apply (t : Fin cfg0.N) (r : Fin 256) (l : Fin 1024) : res1 (iblk m c 0 t) (iblk m c 1 t) (wt m c) (ix2 r l)
    = kproj m c ⟨256 * t.val + r.val, by have := point_lt t; omega⟩ ⟨1024 + l.val, by omega⟩ :=
  (pay15_apply (iblk m c 0 t) (iblk m c 1 t) _ r l).trans (block_proj m c t 1024 _ r l (by omega))

theorem final1 : (dats m 0 c).arrAt 3 cfg0.N = arr1 m c := by
  refine (dats m 0 c).arrAt_eq_of_covers 3 _ (by decide +kernel) fun t hf y => ?_
  blk_simp
  rw [after3]
  have hy : y = ix2 (⟨(y 0).val, (y 0).isLt⟩ : Fin 256) (⟨(y 1).val, (y 1).isLt⟩ : Fin 1024) := by funext a; fin_cases a <;> rfl
  refine (congrArg (res1 (iblk m c 0 t) (iblk m c 1 t) (wt m c)) hy).trans ((res1_apply m c t _ _).trans ?_)
  have h0 : ((win0_3.blk t).view.emb y 0).val = win0_3.index t (0 : Fin 2) * 256 + 1 * (y 0).val := rfl
  have h1 : ((win0_3.blk t).view.emb y 1).val = win0_3.index t (1 : Fin 2) * 1024 + 1 * (y 1).val := rfl
  have e0 : win0_3.index t (0 : Fin 2) = t.val := congrFun (at3 t) 0
  have e1 : win0_3.index t (1 : Fin 2) = 0 := congrFun (at3 t) 1
  refine congrArg₂ (fun a b => kproj m c a b) (Fin.ext ?_) (Fin.ext ?_)
  · show 256 * t.val + (y 0).val = ((win0_3.blk t).view.emb y 0).val
    omega
  · show 1024 + (y 1).val = 1024 + ((win0_3.blk t).view.emb y 1).val
    omega

def arr2 (i : S8192x1024.Idx) : EReal := kproj m c (i 0) ⟨2048 + (i 1).val, by have h : (i 1).val < 1024 := (i 1).isLt; omega⟩ * Ideal.ofBits .f32 0x3E000000#32

theorem res2_apply (t : Fin cfg0.N) (r : Fin 256) (l : Fin 1024) : res2 (iblk m c 0 t) (iblk m c 1 t) (wt m c) (ix2 r l)
    = kproj m c ⟨256 * t.val + r.val, by have := point_lt t; omega⟩ ⟨2048 + l.val, by omega⟩ * Ideal.ofBits .f32 0x3E000000#32 :=
  (pay16_apply (iblk m c 0 t) (iblk m c 1 t) _ r l).trans (congrArg (· * Ideal.ofBits .f32 0x3E000000#32) (block_proj m c t 2048 _ r l (by omega)))

theorem final2 : (dats m 0 c).arrAt 4 cfg0.N = arr2 m c := by
  refine (dats m 0 c).arrAt_eq_of_covers 4 _ (by decide +kernel) fun t hf y => ?_
  blk_simp
  rw [after4]
  have hy : y = ix2 (⟨(y 0).val, (y 0).isLt⟩ : Fin 256) (⟨(y 1).val, (y 1).isLt⟩ : Fin 1024) := by funext a; fin_cases a <;> rfl
  refine (congrArg (res2 (iblk m c 0 t) (iblk m c 1 t) (wt m c)) hy).trans ((res2_apply m c t _ _).trans ?_)
  have h0 : ((win0_4.blk t).view.emb y 0).val = win0_4.index t (0 : Fin 2) * 256 + 1 * (y 0).val := rfl
  have h1 : ((win0_4.blk t).view.emb y 1).val = win0_4.index t (1 : Fin 2) * 1024 + 1 * (y 1).val := rfl
  have e0 : win0_4.index t (0 : Fin 2) = t.val := congrFun (at4 t) 0
  have e1 : win0_4.index t (1 : Fin 2) = 0 := congrFun (at4 t) 1
  refine congrArg₂ (fun a b => kproj m c a b * Ideal.ofBits .f32 0x3E000000#32) (Fin.ext ?_) (Fin.ext ?_)
  · show 256 * t.val + (y 0).val = ((win0_4.blk t).view.emb y 0).val
    omega
  · show 2048 + (y 1).val = 2048 + ((win0_4.blk t).view.emb y 1).val
    omega

def arr3 (i : S8192x1024.Idx) : EReal := kproj m c (i 0) ⟨3072 + (i 1).val, by have h : (i 1).val < 1024 := (i 1).isLt; omega⟩

theorem res3_apply (t : Fin cfg0.N) (r : Fin 256) (l : Fin 1024) : res3 (iblk m c 0 t) (iblk m c 1 t) (wt m c) (ix2 r l)
    = kproj m c ⟨256 * t.val + r.val, by have := point_lt t; omega⟩ ⟨3072 + l.val, by omega⟩ :=
  (pay1_apply (iblk m c 0 t) (iblk m c 1 t) _ r l).trans (block_proj m c t 3072 _ r l (by omega))

theorem final3 : (dats m 0 c).arrAt 5 cfg0.N = arr3 m c := by
  refine (dats m 0 c).arrAt_eq_of_covers 5 _ (by decide +kernel) fun t hf y => ?_
  blk_simp
  rw [after5]
  have hy : y = ix2 (⟨(y 0).val, (y 0).isLt⟩ : Fin 256) (⟨(y 1).val, (y 1).isLt⟩ : Fin 1024) := by funext a; fin_cases a <;> rfl
  refine (congrArg (res3 (iblk m c 0 t) (iblk m c 1 t) (wt m c)) hy).trans ((res3_apply m c t _ _).trans ?_)
  have h0 : ((win0_5.blk t).view.emb y 0).val = win0_5.index t (0 : Fin 2) * 256 + 1 * (y 0).val := rfl
  have h1 : ((win0_5.blk t).view.emb y 1).val = win0_5.index t (1 : Fin 2) * 1024 + 1 * (y 1).val := rfl
  have e0 : win0_5.index t (0 : Fin 2) = t.val := congrFun (at5 t) 0
  have e1 : win0_5.index t (1 : Fin 2) = 0 := congrFun (at5 t) 1
  refine congrArg₂ (fun a b => kproj m c a b) (Fin.ext ?_) (Fin.ext ?_)
  · show 256 * t.val + (y 0).val = ((win0_5.blk t).view.emb y 0).val
    omega
  · show 3072 + (y 1).val = 3072 + ((win0_5.blk t).view.emb y 1).val
    omega

def arr4 (i : S8192x1024.Idx) : EReal := kproj m c (i 0) ⟨4096 + (i 1).val, by have h : (i 1).val < 1024 := (i 1).isLt; omega⟩

theorem res4_apply (t : Fin cfg0.N) (r : Fin 256) (l : Fin 1024) : res4 (iblk m c 0 t) (iblk m c 1 t) (wt m c) (ix2 r l)
    = kproj m c ⟨256 * t.val + r.val, by have := point_lt t; omega⟩ ⟨4096 + l.val, by omega⟩ :=
  (pay2_apply (iblk m c 0 t) (iblk m c 1 t) _ r l).trans (block_proj m c t 4096 _ r l (by omega))

theorem final4 : (dats m 0 c).arrAt 6 cfg0.N = arr4 m c := by
  refine (dats m 0 c).arrAt_eq_of_covers 6 _ (by decide +kernel) fun t hf y => ?_
  blk_simp
  rw [after6]
  have hy : y = ix2 (⟨(y 0).val, (y 0).isLt⟩ : Fin 256) (⟨(y 1).val, (y 1).isLt⟩ : Fin 1024) := by funext a; fin_cases a <;> rfl
  refine (congrArg (res4 (iblk m c 0 t) (iblk m c 1 t) (wt m c)) hy).trans ((res4_apply m c t _ _).trans ?_)
  have h0 : ((win0_6.blk t).view.emb y 0).val = win0_6.index t (0 : Fin 2) * 256 + 1 * (y 0).val := rfl
  have h1 : ((win0_6.blk t).view.emb y 1).val = win0_6.index t (1 : Fin 2) * 1024 + 1 * (y 1).val := rfl
  have e0 : win0_6.index t (0 : Fin 2) = t.val := congrFun (at6 t) 0
  have e1 : win0_6.index t (1 : Fin 2) = 0 := congrFun (at6 t) 1
  refine congrArg₂ (fun a b => kproj m c a b) (Fin.ext ?_) (Fin.ext ?_)
  · show 256 * t.val + (y 0).val = ((win0_6.blk t).view.emb y 0).val
    omega
  · show 4096 + (y 1).val = 4096 + ((win0_6.blk t).view.emb y 1).val
    omega

end Cert.Proof.InProj

end
-- ==== Proof.InProj.RefVal.lean ====
module

public import proofs.«01_k».proof.Proof.InProj.Block
public import proofs.«01_k».proof.Proof.Gen.InProjRefIdeal.Read

@[expose] public section

/-! The reference's projection at an element: the same row against the same column. -/

set_option maxRecDepth 16384

noncomputable section

namespace Cert.Proof.InProj.Ref

open Cert.InProjRefIdeal Cert.InProjRefIdeal.Gen Cert.InProjRefIdeal.Read Idealize.ShloMosaic Idealize.ShloMosaic.TcCoe Idealize.SL.Sem

variable (x : S8192x2048.Idx → EReal) (g : S2048.Idx → EReal) (w : S2048x5120.Idx → EReal)

theorem scale_eq (r : Fin 8192) : val_main_v7 (F := Ideal) x (ix2 r 0) = rowScale (fun k => x (ix2 r k)) := by
  unfold rowScale
  rw [val_main_v7_apply, val_main_v6_apply, val_main_v4_apply, val_main_v2_apply, val_main_v1_apply, val_main_v3_apply, val_main_v5_apply,
    val_main_cst_apply, val_main_cst_0_apply, val_main_cst_1_apply]
  simp only [val_main_v0_apply]
  have z : FloatOps.ofBits (F := Ideal) .f32 0x00000000#32 = (0 : EReal) := by simp
  rw [z, zero_add]
  have e : ∀ k, idx_main_v1 (idx_main_v2 (ix2 r 0)) k = ix2 r k := fun k => by funext a; fin_cases a <;> rfl
  simp only [e]
  rfl

theorem normed_eq (r : Fin 8192) (k : Fin 2048) :
    val_main_v12 (F := Ideal) x g (ix2 r k) = x (ix2 r k) * rowScale (fun k => x (ix2 r k)) * g (ix1 k) := by
  rw [val_main_v12_apply, val_main_v9_apply, val_main_v8_apply, val_main_v11_apply, val_main_v10_apply]
  have e : idx_main_v8 (ix2 r k) = ix2 r 0 := by funext a; fin_cases a <;> rfl
  have e' : idx_main_v10 (idx_main_v11 (ix2 r k)) = ix1 k := by funext a; fin_cases a <;> rfl
  rw [e, e', scale_eq]
  rfl

theorem proj_eq (r : Fin 8192) (l : Fin 5120) :
    val_main_v13 (F := Ideal) x g w (ix2 r l) = project (fun k => x (ix2 r k)) (fun k => g (ix1 k)) (fun k => w (ix2 k l)) := by
  unfold project
  rw [val_main_v13_apply]
  refine Finset.sum_congr rfl fun k _ => ?_
  have e : lidx_main_v13 (ix2 r l) k = ix2 r k := by funext a; fin_cases a <;> rfl
  have e' : ridx_main_v13 (ix2 r l) k = ix2 k l := by funext a; fin_cases a <;> rfl
  rw [e, e', normed_eq]

/-- The five results: the projection's columns from 0, 1024, 2048, 3072 and 4096 on, the third scaled. -/
theorem v14_eq (r : Fin 8192) (l : Fin 1024) : val_main_v14 (F := Ideal) x g w (ix2 r l)
    = project (fun k => x (ix2 r k)) (fun k => g (ix1 k)) (fun k => w (ix2 k ⟨0 + l.val, by omega⟩)) := by
  rw [val_main_v14_apply]
  have e : idx_main_v14 (ix2 r l) = ix2 r ⟨0 + l.val, by omega⟩ := by
    funext a; refine Fin.ext ?_; fin_cases a
    · rfl
    · show l.val = 0 + l.val
      omega
  rw [e, proj_eq]

theorem v15_eq (r : Fin 8192) (l : Fin 1024) : val_main_v15 (F := Ideal) x g w (ix2 r l)
    = project (fun k => x (ix2 r k)) (fun k => g (ix1 k)) (fun k => w (ix2 k ⟨1024 + l.val, by omega⟩)) := by
  rw [val_main_v15_apply]
  have e : idx_main_v15 (ix2 r l) = ix2 r ⟨1024 + l.val, by omega⟩ := by funext a; fin_cases a <;> rfl
  rw [e, proj_eq]

theorem v21_eq (r : Fin 8192) (l : Fin 1024) : val_main_v21 (F := Ideal) x g w (ix2 r l)
    = project (fun k => x (ix2 r k)) (fun k => g (ix1 k)) (fun k => w (ix2 k ⟨2048 + l.val, by omega⟩)) * Ideal.ofBits .f32 0x3E000000#32 := by
  rw [val_main_v21_apply, val_main_v20_apply, val_main_v16_apply, val_main_v19_apply, val_main_cst_2_apply]
  have e : idx_main_v16 (ix2 r l) = ix2 r ⟨2048 + l.val, by omega⟩ := by funext a; fin_cases a <;> rfl
  rw [e, proj_eq]
  rfl

theorem v22_eq (r : Fin 8192) (l : Fin 1024) : val_main_v22 (F := Ideal) x g w (ix2 r l)
    = project (fun k => x (ix2 r k)) (fun k => g (ix1 k)) (fun k => w (ix2 k ⟨3072 + l.val, by omega⟩)) := by
  rw [val_main_v22_apply, val_main_v17_apply]
  have e : idx_main_v17 (ix2 r l) = ix2 r ⟨3072 + l.val, by omega⟩ := by funext a; fin_cases a <;> rfl
  rw [e, proj_eq]
  rfl

theorem v23_eq (r : Fin 8192) (l : Fin 1024) : val_main_v23 (F := Ideal) x g w (ix2 r l)
    = project (fun k => x (ix2 r k)) (fun k => g (ix1 k)) (fun k => w (ix2 k ⟨4096 + l.val, by omega⟩)) := by
  rw [val_main_v23_apply, val_main_v18_apply]
  have e : idx_main_v18 (ix2 r l) = ix2 r ⟨4096 + l.val, by omega⟩ := by funext a; fin_cases a <;> rfl
  rw [e, proj_eq]
  rfl

end Cert.Proof.InProj.Ref

end
-- ==== Proof.InProj.Claims.lean ====
module

public import proofs.«01_k».proof.Proof.InProj.Array
public import proofs.«01_k».proof.Proof.InProj.RefVal
public import proofs.«01_k».proof.Defs
public import proofs.«01_k».proof.Proof.Gen.InProj
public import Idealize.ShloMosaic.Lib.Quiescent

@[expose] public section

/-! The claims about the input projection: the runs of the kernel and of the plain mathematics, and their equal results. -/

set_option maxRecDepth 16384

noncomputable section

namespace Cert.Proof.InProj

open Idealize.ShloMosaic Idealize.ShloMosaic.TcCoe Idealize.SL.Sem

/-- The two programs have one text: their body tables are one. -/
theorem body_same {F : FTy → Type} [FloatOps F] : Cert.InProj.defs₀ (F := F) = Cert.InProjIdeal.defs₀ (F := F) := by
  unfold Cert.InProj.defs₀ Cert.InProjIdeal.defs₀
  refine congrArg Defs.onTc (funext fun l => funext fun x => ?_)
  match l, x with
  | ⟨0, _⟩, (t, s) => rfl

theorem defs_same {F : FTy → Type} [FloatOps F] : Cert.InProj.defs (F := F) = Cert.InProjIdeal.defs (F := F) :=
  congrArg (Pipeline.defs Cert.InProjIdeal.pcfgs) body_same

/-- The run over bit patterns is the one run. -/
theorem frame_bits : Cert.quiescent_InProj (hInProj := Cert.InProj.Gen.facts) := fun m ρ _ => by
  rw [defs_same]
  exact (θ_run Cert.InProjIdeal.defs _ _).mono (fun _ h => h) (frame (F := Bits) m ρ)

theorem frame_ideal : Cert.quiescent_InProjIdeal (hInProjIdeal := Cert.InProjIdeal.Gen.facts) := fun m ρ _ =>
  frame (F := Ideal) m ρ

/-- The reference's run leaves its arguments, and it has no semaphores. -/
theorem frame_ref : Cert.quiescent_InProjRefIdeal (hInProjRefIdeal := Cert.InProjRefIdeal.Gen.facts) := fun m ρ _ =>
  (θ_run Cert.InProjRefIdeal.defs _ _).mono (fun r h => ⟨fun c => (h c).2.2.2.2.2, sem_eq_zero_of_no_sems (by decide) r.2⟩)
    (Cert.InProjRefIdeal.Value.run (F := Ideal) m ρ)

open Cert.InProjIdeal Cert.InProjIdeal.Gen in
/-- The kernel's run at the five arrays. -/
theorem run_arrays (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v1_0) = arr0 m c
      ∧ r.2.mem ((c.tc : Thread nD τ).loc main_v1_1) = arr1 m c
      ∧ r.2.mem ((c.tc : Thread nD τ).loc main_v1_2) = arr2 m c
      ∧ r.2.mem ((c.tc : Thread nD τ).loc main_v1_3) = arr3 m c
      ∧ r.2.mem ((c.tc : Thread nD τ).loc main_v1_4) = arr4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h.1 c).1 2).trans (final0 m c), ((h.1 c).1 3).trans (final1 m c), ((h.1 c).1 4).trans (final2 m c),
      ((h.1 c).1 5).trans (final3 m c), ((h.1 c).1 6).trans (final4 m c), args_end m _ h.1 c⟩) (run m ρ)

/-- At every element the results agree: the projection of the same row on the same column. -/
theorem algebraic : Cert.algebraic_InProjIdeal_InProjRefIdeal (hInProjIdeal := Cert.InProjIdeal.Gen.facts)
    (hInProjRefIdeal := Cert.InProjRefIdeal.Gen.facts) := by
  intro m ρ m' ρ' _ hagree
  refine ⟨arr0 m, arr1 m, arr2 m, arr3 m, arr4 m, run_arrays m ρ, ?_⟩
  refine (θ_run Cert.InProjRefIdeal.defs _ _).mono (fun _ h c => ?_) (Cert.InProjRefIdeal.Value.run (F := Ideal) m' ρ')
  obtain ⟨h0, h1, h2, h3, h4, ha⟩ := h c
  obtain ⟨e0, e1, e2⟩ := hagree c
  refine ⟨(h0.trans (Cert.InProjRefIdeal.Read.val_main_v14_eq _ _ _)).trans ?_, (h1.trans (Cert.InProjRefIdeal.Read.val_main_v15_eq _ _ _)).trans ?_,
    (h2.trans (Cert.InProjRefIdeal.Read.val_main_v21_eq _ _ _)).trans ?_, (h3.trans (Cert.InProjRefIdeal.Read.val_main_v22_eq _ _ _)).trans ?_,
    (h4.trans (Cert.InProjRefIdeal.Read.val_main_v23_eq _ _ _)).trans ?_, ha⟩ <;> rw [e0, e1, e2] <;> funext i <;> idx_vars i
  · exact Ref.v14_eq _ _ _ i0 i1
  · exact Ref.v15_eq _ _ _ i0 i1
  · exact Ref.v21_eq _ _ _ i0 i1
  · exact Ref.v22_eq _ _ _ i0 i1
  · exact Ref.v23_eq _ _ _ i0 i1

end Cert.Proof.InProj

end
-- ==== Proof.OutProj.Ring.lean ====
module

public import proofs.«01_k».proof.Proof.Gen.OutProjIdeal.Frame
public import proofs.«01_k».proof.Proof.Gen.OutProjIdeal.Launch
public import proofs.«01_k».proof.Proof.Gen.OutProjIdeal.Skeleton
public import proofs.«01_k».proof.Proof.Gen.OutProjIdeal.Points
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp

@[expose] public section

/-! The output projection's weight: how the first point brings it into the kept scratch, chunk by chunk through the
two-slot ring, and what one call of the body leaves in its buffers. -/

set_option maxRecDepth 16384

noncomputable section

namespace Cert.Proof.OutProj

open Cert.OutProjIdeal Cert.OutProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## The ring -/

/-- A slot of the ring, squeezed to a chunk's shape. -/
abbrev slot (R : Memref sig .tc .vmem S2x2048x512 .f32) (off : Fin 3 → ℕ) (inb : ∀ a, off a + S1x2048x512.size a ≤ S2x2048x512.size a) :
    View sig .tc .vmem S2048x512 .f32 :=
  ((R.slice (Rect.unit (s := S2x2048x512) off S1x2048x512.size inb) (fun _ => rfl)).squeeze S2048x512 squeezes_S1x2048x512_S2048x512).view

/-- A load of a slot last written through its squeezed view, cast to the chunk's shape, is the chunk written. -/
theorem slot_hit (R : Memref sig .tc .vmem S2x2048x512 .f32) (off : Fin 3 → ℕ)
    (inb : ∀ a, off a + S1x2048x512.size a ≤ S2x2048x512.size a) (g : R.view.ty.Contents (Elt F))
    (X : S2048x512.Idx → Elt F .f32) (h : S1x2048x512.ShapeCasts S2048x512) :
    shapeCast S2048x512 (View.readAt (Elt F) R.view (Rect.unit (s := S2x2048x512) off S1x2048x512.size inb).toLoadRect
      ((slot R off inb).write (Elt F) g X Finset.univ)) h = X := by
  have e : (slot R off inb).write (Elt F) g X Finset.univ
      = (R.view.slice (Rect.unit (s := S2x2048x512) off S1x2048x512.size inb)).write (Elt F) g
          (fun x => X ((Shape.reshapeEquiv squeezes_S1x2048x512_S2048x512.numel_eq).symm x)) Finset.univ :=
    View.write_reshape_univ (R.view.slice (Rect.unit (s := S2x2048x512) off S1x2048x512.size inb)) squeezes_S1x2048x512_S2048x512.numel_eq g X
  rw [e]
  funext j
  refine (View.read_slice_write_emb (v := R.view) (Rect.unit (s := S2x2048x512) off S1x2048x512.size inb) g _ (Finset.mem_univ (Shape.reshapeEquiv h j))).trans ?_
  exact congrArg X (Equiv.symm_apply_apply _ j)

/-- A load of a slot does not see a write to the other one. -/
theorem slot_miss (R : Memref sig .tc .vmem S2x2048x512 .f32) (off off' : Fin 3 → ℕ)
    (inb : ∀ a, off a + S1x2048x512.size a ≤ S2x2048x512.size a) (inb' : ∀ a, off' a + S1x2048x512.size a ≤ S2x2048x512.size a)
    (hne : off 0 ≠ off' 0) (g : R.view.ty.Contents (Elt F)) (X : S2048x512.Idx → Elt F .f32) :
    View.readAt (Elt F) R.view (Rect.unit (s := S2x2048x512) off S1x2048x512.size inb).toLoadRect
        ((slot R off' inb').write (Elt F) g X Finset.univ)
      = View.readAt (Elt F) R.view (Rect.unit (s := S2x2048x512) off S1x2048x512.size inb).toLoadRect g := by
  have e : (slot R off' inb').write (Elt F) g X Finset.univ
      = (R.view.slice (Rect.unit (s := S2x2048x512) off' S1x2048x512.size inb')).write (Elt F) g
          (fun x => X ((Shape.reshapeEquiv squeezes_S1x2048x512_S2048x512.numel_eq).symm x)) Finset.univ :=
    View.write_reshape_univ (R.view.slice (Rect.unit (s := S2x2048x512) off' S1x2048x512.size inb')) squeezes_S1x2048x512_S2048x512.numel_eq g X
  rw [e]
  funext j
  refine View.read_slice_write_of_not_mem (v := R.view) (Rect.unit (s := S2x2048x512) off' S1x2048x512.size inb') g _ _ ?_
  rw [Rect.map_emb_univ]
  intro hm
  obtain ⟨x, hx⟩ := (Rect.unit (s := S2x2048x512) off' S1x2048x512.size inb').exists_idx_of_mem hm
  have h0 := congrArg (fun y : S2x2048x512.Idx => (y 0).val) hx
  have hj : (j 0).val < 1 := (j 0).isLt
  have hx' : (x 0).val < 1 := (x 0).isLt
  have e1 : off' 0 + 1 * (x 0).val = off 0 + 1 * (j 0).val := h0
  omega

/-! ## The chunks and the kept weight -/

/-- The weight as the kernel keeps it: every entry narrowed. -/
def narrowed (w : S2048x2048.Idx → Elt F .f32) : S2048x2048.Idx → Elt F .bf16 :=
  fun y => truncf (s := S2048x2048) .bf16 w bitsLt_bf16_f32 y

/-- The 512 columns of the weight from a place on. -/
abbrev chunk (w : main_arg3.ty.Contents (Elt F)) (off : Fin 2 → ℕ) (inb : ∀ a, off a + S2048x512.size a ≤ S2048x2048.size a) :
    S2048x512.Idx → Elt F .f32 :=
  ReadAs.same.apply (View.read (Elt F) ((Memref.whole main_arg3).slice (Rect.unit (s := S2048x2048) off S2048x512.size inb) (fun _ => rfl)).view w)

section
variable (R : Memref sig .tc .vmem S2x2048x512 .f32) (g : R.view.ty.Contents (Elt F)) (w : main_arg3.ty.Contents (Elt F))

/-! The ring's contents after each of the four copies. -/

abbrev ring0 : R.view.ty.Contents (Elt F) := (slot R ![0, 0, 0] inb_S2x2048x512_S1x2048x512_0_0_0).write (Elt F) g (chunk w ![0, 0] inb_S2048x2048_S2048x512_0_0) Finset.univ
abbrev ring1 : R.view.ty.Contents (Elt F) := (slot R ![1, 0, 0] inb_S2x2048x512_S1x2048x512_1_0_0).write (Elt F) (ring0 R g w) (chunk w ![0, 512] inb_S2048x2048_S2048x512_0_512) Finset.univ
abbrev ring2 : R.view.ty.Contents (Elt F) := (slot R ![0, 0, 0] inb_S2x2048x512_S1x2048x512_0_0_0).write (Elt F) (ring1 R g w) (chunk w ![0, 1024] inb_S2048x2048_S2048x512_0_1024) Finset.univ
abbrev ring3 : R.view.ty.Contents (Elt F) := (slot R ![1, 0, 0] inb_S2x2048x512_S1x2048x512_1_0_0).write (Elt F) (ring2 R g w) (chunk w ![0, 1536] inb_S2048x2048_S2048x512_0_1536) Finset.univ

/-- What the four stores put into the kept scratch, the last first. -/
def pieces : List (View.Piece (Elt F) S2048x2048 .bf16) :=
  [⟨Rect.unit (s := S2048x2048) ![0, 1536] S2048x512.size inb_S2048x2048_S2048x512_0_1536,
      k0_pay5 (View.readAt (Elt F) R.view (Rect.unit (s := S2x2048x512) ![1, 0, 0] S1x2048x512.size inb_S2x2048x512_S1x2048x512_1_0_0).toLoadRect (ring3 R g w))⟩,
    ⟨Rect.unit (s := S2048x2048) ![0, 1024] S2048x512.size inb_S2048x2048_S2048x512_0_1024,
      k0_pay4 (View.readAt (Elt F) R.view (Rect.unit (s := S2x2048x512) ![0, 0, 0] S1x2048x512.size inb_S2x2048x512_S1x2048x512_0_0_0).toLoadRect (ring3 R g w))⟩,
    ⟨Rect.unit (s := S2048x2048) ![0, 512] S2048x512.size inb_S2048x2048_S2048x512_0_512,
      k0_pay3 (View.readAt (Elt F) R.view (Rect.unit (s := S2x2048x512) ![1, 0, 0] S1x2048x512.size inb_S2x2048x512_S1x2048x512_1_0_0).toLoadRect (ring2 R g w))⟩,
    ⟨Rect.unit (s := S2048x2048) ![0, 0] S2048x512.size inb_S2048x2048_S2048x512_0_0,
      k0_pay2 (View.readAt (Elt F) R.view (Rect.unit (s := S2x2048x512) ![0, 0, 0] S1x2048x512.size inb_S2x2048x512_S1x2048x512_0_0_0).toLoadRect (ring1 R g w))⟩]

/-- A chunk loaded back, cast, narrowed and cast is the narrowed weight's columns. -/
theorem chunk_narrowed (off : Fin 2 → ℕ) (inb : ∀ a, off a + S2048x512.size a ≤ S2048x2048.size a)
    (v : S1x2048x512.Idx → Elt F .f32) (hv : shapeCast S2048x512 v shapeCasts_S1x2048x512_S2048x512 = chunk w off inb) (x : S2048x512.Idx) :
    shapeCast S2048x512 (truncf (s := S2048x512) .bf16 (shapeCast S2048x512 v shapeCasts_S1x2048x512_S2048x512) bitsLt_bf16_f32) shapeCasts_S2048x512_S2048x512 x
      = narrowed w ((Rect.unit (s := S2048x2048) off S2048x512.size inb).emb x) := by
  rw [hv]
  exact (congrArg (truncf (s := S2048x512) .bf16 (chunk w off inb) bitsLt_bf16_f32) (Shape.reshapeEquiv_self _ x)).trans rfl

/-- Every piece is the narrowed weight on its rectangle. -/
theorem pieces_agree : ∀ p ∈ pieces R g w, ∀ x : p.1.shape.Idx, p.2 x = narrowed w (p.1.emb x) := by
  intro p hp
  unfold pieces at hp
  rcases List.mem_cons.mp hp with rfl | hp
  · exact chunk_narrowed w ![0, 1536] inb_S2048x2048_S2048x512_0_1536 _ (slot_hit R _ _ _ _ _)
  rcases List.mem_cons.mp hp with rfl | hp
  · exact chunk_narrowed w ![0, 1024] inb_S2048x2048_S2048x512_0_1024 _ ((congrArg (fun v => shapeCast S2048x512 v shapeCasts_S1x2048x512_S2048x512) (slot_miss R _ _ _ _ (by decide) _ _)).trans (slot_hit R _ _ _ _ _))
  rcases List.mem_cons.mp hp with rfl | hp
  · exact chunk_narrowed w ![0, 512] inb_S2048x2048_S2048x512_0_512 _ ((congrArg (fun v => shapeCast S2048x512 v shapeCasts_S1x2048x512_S2048x512) (slot_miss R _ _ _ _ (by decide) _ _)).trans (slot_hit R _ _ _ _ _))
  rcases List.mem_cons.mp hp with rfl | hp
  · exact chunk_narrowed w ![0, 0] inb_S2048x2048_S2048x512_0_0 _ ((congrArg (fun v => shapeCast S2048x512 v shapeCasts_S1x2048x512_S2048x512) (slot_miss R _ _ _ _ (by decide) _ _)).trans (slot_hit R _ _ _ _ _))
  exact absurd hp List.not_mem_nil

/-- The four pieces cover the scratch. -/
theorem pieces_cover (y : S2048x2048.Idx) : ∃ p ∈ pieces R g w, y ∈ p.1.set :=
  View.cover_of_tiledL (pieces R g w) S2048x512.size (by sl_kernel_rfl) y

/-- So the scratch, read after the four stores, is the narrowed weight, whatever it held. -/
theorem read_pieces (M : View sig .tc .vmem S2048x2048 .bf16) (f : M.ty.Contents (Elt F)) :
    M.read (Elt F) (M.writes (Elt F) f (pieces R g w)) = narrowed w :=
  funext fun y => View.read_writes_apply_of_pieces M f (narrowed w) (pieces R g w) (pieces_agree R g w) y (pieces_cover R g w y)

end

/-- The 1024 rows of the kept weight from a place on. -/
abbrev rows (off : Fin 2 → ℕ) (inb : ∀ a, off a + S1024x2048.size a ≤ S2048x2048.size a) (W : S2048x2048.Idx → Elt F .bf16) :
    S1024x2048.Idx → Elt F .bf16 :=
  fun j => W ((Rect.unit (s := S2048x2048) off S1024x2048.size inb).emb j)

end Cert.Proof.OutProj

end
-- ==== Proof.OutProj.Store.lean ====
module

public import proofs.«01_k».proof.Proof.OutProj.Ring
public import Idealize.ShloMosaic.Lib.Pipeline.Value

@[expose] public section

/-! What the output projection's body leaves in its four results' buffers, as the loaded values give it. -/

set_option maxRecDepth 16384

noncomputable section

namespace Cert.Proof.OutProj

open Cert.OutProjIdeal Cert.OutProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The slabs: row `16 r + c` is row `r`'s lanes from `128 c` on -/

/-- The element of the rows a slab element is. -/
def slabAt (y : S8192x128.Idx) : S512x2048.Idx := fun a => match a with
  | ⟨0, _⟩ => (⟨(y 0).val / 16, by have h : (y 0).val < 8192 := (y 0).isLt; omega⟩ : Fin 512)
  | ⟨1, _⟩ => (⟨128 * ((y 0).val % 16) + (y 1).val, by have h : (y 1).val < 128 := (y 1).isLt; omega⟩ : Fin 2048)

/-- The rows laid out as slabs. -/
def slabs (n : S512x2048.Idx → Elt F .f32) (y : S8192x128.Idx) : Elt F .f32 := n (slabAt y)

/-- One stripe of the slabs' buffer: every sixteenth row from `c` on. -/
abbrev stripe (c : ℕ) (inb : ∀ a, S512x128.size a = 0 ∨ (![c, 0] : Fin 2 → Nat) a + (![16, 1] : Fin 2 → Nat) a * (S512x128.size a - 1) < S8192x128.size a) : Rect S8192x128 := ⟨(⟨![c, 0], S512x128.size, ![16, 1], inb⟩ : LoadRect S8192x128), spos_16_1⟩

theorem stripe_agree (n : FVec F S512x2048 .f32) (c o : ℕ) (inb : ∀ a, S512x128.size a = 0 ∨ (![c, 0] : Fin 2 → Nat) a + (![16, 1] : Fin 2 → Nat) a * (S512x128.size a - 1) < S8192x128.size a) (hc : c < 16) (ho : o = 128 * c) (h : S512x2048.Slices ![0, o] S512x128)
    (x : S512x128.Idx) : extractStridedSlice S512x128 ![0, o] n h x = slabs n ((stripe c inb).emb x) := by
  refine extractStridedSlice_apply _ n h x _ fun a => ?_
  have e0 : ((stripe c inb).emb x 0).val = c + 16 * (x 0).val := rfl
  have e1 : ((stripe c inb).emb x 1).val = 0 + 1 * (x 1).val := rfl
  have l1 : (x 1).val < 128 := (x 1).isLt
  fin_cases a
  · show ((stripe c inb).emb x 0).val / 16 = 0 + (x 0).val
    omega
  · show 128 * (((stripe c inb).emb x 0).val % 16) + ((stripe c inb).emb x 1).val = o + (x 1).val
    omega

theorem stripe_covers (c : ℕ) (inb : ∀ a, S512x128.size a = 0 ∨ (![c, 0] : Fin 2 → Nat) a + (![16, 1] : Fin 2 → Nat) a * (S512x128.size a - 1) < S8192x128.size a) (y : S8192x128.Idx) (h : (y 0).val % 16 = c) : y ∈ (stripe c inb).set := by
  refine (LoadRect.mem_set _).mpr fun a => ?_
  have l0 : (y 0).val < 8192 := (y 0).isLt
  fin_cases a
  · refine ⟨(y 0).val / 16, ?_, ?_⟩
    · show (y 0).val / 16 < 512
      omega
    · show (y 0).val = c + 16 * ((y 0).val / 16)
      omega
  · refine ⟨(y 1).val, (y 1).isLt, ?_⟩
    show (y 1).val = 0 + 1 * (y 1).val
    omega

section
variable (v3 : Vec F S512x1024 .bf16) (v4 : Vec F S1024x2048 .bf16) (v6 : Vec F S512x1024 .bf16) (v7 : Vec F S1024x2048 .bf16)
  (v10 : Vec F S512x2048 .f32) (v22 : Vec F S1x2048 .f32)

/-- The sixteen stores, the newest first. -/
abbrev stripes : List (View.Piece (Elt F) S8192x128 .f32) :=
  [⟨⟨(⟨![15, 0], S512x128.size, ![16, 1], inb_S8192x128_S512x128_15_0_s_16_1⟩ : LoadRect S8192x128), spos_16_1⟩, k0_pay23 (k0_pay7 v3 v4 v6 v7 v10 v22)⟩,
    ⟨⟨(⟨![14, 0], S512x128.size, ![16, 1], inb_S8192x128_S512x128_14_0_s_16_1⟩ : LoadRect S8192x128), spos_16_1⟩, k0_pay22 (k0_pay7 v3 v4 v6 v7 v10 v22)⟩,
    ⟨⟨(⟨![13, 0], S512x128.size, ![16, 1], inb_S8192x128_S512x128_13_0_s_16_1⟩ : LoadRect S8192x128), spos_16_1⟩, k0_pay21 (k0_pay7 v3 v4 v6 v7 v10 v22)⟩,
    ⟨⟨(⟨![12, 0], S512x128.size, ![16, 1], inb_S8192x128_S512x128_12_0_s_16_1⟩ : LoadRect S8192x128), spos_16_1⟩, k0_pay20 (k0_pay7 v3 v4 v6 v7 v10 v22)⟩,
    ⟨⟨(⟨![11, 0], S512x128.size, ![16, 1], inb_S8192x128_S512x128_11_0_s_16_1⟩ : LoadRect S8192x128), spos_16_1⟩, k0_pay19 (k0_pay7 v3 v4 v6 v7 v10 v22)⟩,
    ⟨⟨(⟨![10, 0], S512x128.size, ![16, 1], inb_S8192x128_S512x128_10_0_s_16_1⟩ : LoadRect S8192x128), spos_16_1⟩, k0_pay18 (k0_pay7 v3 v4 v6 v7 v10 v22)⟩,
    ⟨⟨(⟨![9, 0], S512x128.size, ![16, 1], inb_S8192x128_S512x128_9_0_s_16_1⟩ : LoadRect S8192x128), spos_16_1⟩, k0_pay17 (k0_pay7 v3 v4 v6 v7 v10 v22)⟩,
    ⟨⟨(⟨![8, 0], S512x128.size, ![16, 1], inb_S8192x128_S512x128_8_0_s_16_1⟩ : LoadRect S8192x128), spos_16_1⟩, k0_pay16 (k0_pay7 v3 v4 v6 v7 v10 v22)⟩,
    ⟨⟨(⟨![7, 0], S512x128.size, ![16, 1], inb_S8192x128_S512x128_7_0_s_16_1⟩ : LoadRect S8192x128), spos_16_1⟩, k0_pay15 (k0_pay7 v3 v4 v6 v7 v10 v22)⟩,
    ⟨⟨(⟨![6, 0], S512x128.size, ![16, 1], inb_S8192x128_S512x128_6_0_s_16_1⟩ : LoadRect S8192x128), spos_16_1⟩, k0_pay14 (k0_pay7 v3 v4 v6 v7 v10 v22)⟩,
    ⟨⟨(⟨![5, 0], S512x128.size, ![16, 1], inb_S8192x128_S512x128_5_0_s_16_1⟩ : LoadRect S8192x128), spos_16_1⟩, k0_pay13 (k0_pay7 v3 v4 v6 v7 v10 v22)⟩,
    ⟨⟨(⟨![4, 0], S512x128.size, ![16, 1], inb_S8192x128_S512x128_4_0_s_16_1⟩ : LoadRect S8192x128), spos_16_1⟩, k0_pay12 (k0_pay7 v3 v4 v6 v7 v10 v22)⟩,
    ⟨⟨(⟨![3, 0], S512x128.size, ![16, 1], inb_S8192x128_S512x128_3_0_s_16_1⟩ : LoadRect S8192x128), spos_16_1⟩, k0_pay11 (k0_pay7 v3 v4 v6 v7 v10 v22)⟩,
    ⟨⟨(⟨![2, 0], S512x128.size, ![16, 1], inb_S8192x128_S512x128_2_0_s_16_1⟩ : LoadRect S8192x128), spos_16_1⟩, k0_pay10 (k0_pay7 v3 v4 v6 v7 v10 v22)⟩,
    ⟨⟨(⟨![1, 0], S512x128.size, ![16, 1], inb_S8192x128_S512x128_1_0_s_16_1⟩ : LoadRect S8192x128), spos_16_1⟩, k0_pay9 v3 v4 v6 v7 v10 v22⟩,
    ⟨⟨(⟨![0, 0], S512x128.size, ![16, 1], inb_S8192x128_S512x128_0_0_s_16_1⟩ : LoadRect S8192x128), spos_16_1⟩, k0_pay8 v3 v4 v6 v7 v10 v22⟩]

theorem stripes_agree : ∀ p ∈ stripes v3 v4 v6 v7 v10 v22, ∀ x : p.1.shape.Idx, p.2 x = slabs (k0_pay7 v3 v4 v6 v7 v10 v22) (p.1.emb x) := by
  intro p hp
  unfold stripes at hp
  rcases List.mem_cons.mp hp with rfl | hp
  · intro x; exact stripe_agree (k0_pay7 v3 v4 v6 v7 v10 v22) 15 1920 inb_S8192x128_S512x128_15_0_s_16_1 (by decide) rfl slices_S512x2048_o0_1920_S512x128 x
  rcases List.mem_cons.mp hp with rfl | hp
  · intro x; exact stripe_agree (k0_pay7 v3 v4 v6 v7 v10 v22) 14 1792 inb_S8192x128_S512x128_14_0_s_16_1 (by decide) rfl slices_S512x2048_o0_1792_S512x128 x
  rcases List.mem_cons.mp hp with rfl | hp
  · intro x; exact stripe_agree (k0_pay7 v3 v4 v6 v7 v10 v22) 13 1664 inb_S8192x128_S512x128_13_0_s_16_1 (by decide) rfl slices_S512x2048_o0_1664_S512x128 x
  rcases List.mem_cons.mp hp with rfl | hp
  · intro x; exact stripe_agree (k0_pay7 v3 v4 v6 v7 v10 v22) 12 1536 inb_S8192x128_S512x128_12_0_s_16_1 (by decide) rfl slices_S512x2048_o0_1536_S512x128 x
  rcases List.mem_cons.mp hp with rfl | hp
  · intro x; exact stripe_agree (k0_pay7 v3 v4 v6 v7 v10 v22) 11 1408 inb_S8192x128_S512x128_11_0_s_16_1 (by decide) rfl slices_S512x2048_o0_1408_S512x128 x
  rcases List.mem_cons.mp hp with rfl | hp
  · intro x; exact stripe_agree (k0_pay7 v3 v4 v6 v7 v10 v22) 10 1280 inb_S8192x128_S512x128_10_0_s_16_1 (by decide) rfl slices_S512x2048_o0_1280_S512x128 x
  rcases List.mem_cons.mp hp with rfl | hp
  · intro x; exact stripe_agree (k0_pay7 v3 v4 v6 v7 v10 v22) 9 1152 inb_S8192x128_S512x128_9_0_s_16_1 (by decide) rfl slices_S512x2048_o0_1152_S512x128 x
  rcases List.mem_cons.mp hp with rfl | hp
  · intro x; exact stripe_agree (k0_pay7 v3 v4 v6 v7 v10 v22) 8 1024 inb_S8192x128_S512x128_8_0_s_16_1 (by decide) rfl slices_S512x2048_o0_1024_S512x128 x
  rcases List.mem_cons.mp hp with rfl | hp
  · intro x; exact stripe_agree (k0_pay7 v3 v4 v6 v7 v10 v22) 7 896 inb_S8192x128_S512x128_7_0_s_16_1 (by decide) rfl slices_S512x2048_o0_896_S512x128 x
  rcases List.mem_cons.mp hp with rfl | hp
  · intro x; exact stripe_agree (k0_pay7 v3 v4 v6 v7 v10 v22) 6 768 inb_S8192x128_S512x128_6_0_s_16_1 (by decide) rfl slices_S512x2048_o0_768_S512x128 x
  rcases List.mem_cons.mp hp with rfl | hp
  · intro x; exact stripe_agree (k0_pay7 v3 v4 v6 v7 v10 v22) 5 640 inb_S8192x128_S512x128_5_0_s_16_1 (by decide) rfl slices_S512x2048_o0_640_S512x128 x
  rcases List.mem_cons.mp hp with rfl | hp
  · intro x; exact stripe_agree (k0_pay7 v3 v4 v6 v7 v10 v22) 4 512 inb_S8192x128_S512x128_4_0_s_16_1 (by decide) rfl slices_S512x2048_o0_512_S512x128 x
  rcases List.mem_cons.mp hp with rfl | hp
  · intro x; exact stripe_agree (k0_pay7 v3 v4 v6 v7 v10 v22) 3 384 inb_S8192x128_S512x128_3_0_s_16_1 (by decide) rfl slices_S512x2048_o0_384_S512x128 x
  rcases List.mem_cons.mp hp with rfl | hp
  · intro x; exact stripe_agree (k0_pay7 v3 v4 v6 v7 v10 v22) 2 256 inb_S8192x128_S512x128_2_0_s_16_1 (by decide) rfl slices_S512x2048_o0_256_S512x128 x
  rcases List.mem_cons.mp hp with rfl | hp
  · intro x; exact stripe_agree (k0_pay7 v3 v4 v6 v7 v10 v22) 1 128 inb_S8192x128_S512x128_1_0_s_16_1 (by decide) rfl slices_S512x2048_o0_128_S512x128 x
  rcases List.mem_cons.mp hp with rfl | hp
  · intro x; exact stripe_agree (k0_pay7 v3 v4 v6 v7 v10 v22) 0 0 inb_S8192x128_S512x128_0_0_s_16_1 (by decide) rfl slices_S512x2048_o0_0_S512x128 x
  exact absurd hp List.not_mem_nil

theorem stripes_cover (y : S8192x128.Idx) : ∃ p ∈ stripes v3 v4 v6 v7 v10 v22, y ∈ p.1.set := by
  have hlt : (y 0).val % 16 < 16 := Nat.mod_lt _ (by decide)
  obtain ⟨c, hc⟩ : ∃ c, (y 0).val % 16 = c := ⟨_, rfl⟩
  rw [hc] at hlt
  match c, hlt, hc with
  | 0, _, hc => exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), stripe_covers 0 _ y hc⟩
  | 1, _, hc => exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), stripe_covers 1 _ y hc⟩
  | 2, _, hc => exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), stripe_covers 2 _ y hc⟩
  | 3, _, hc => exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), stripe_covers 3 _ y hc⟩
  | 4, _, hc => exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), stripe_covers 4 _ y hc⟩
  | 5, _, hc => exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), stripe_covers 5 _ y hc⟩
  | 6, _, hc => exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), stripe_covers 6 _ y hc⟩
  | 7, _, hc => exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), stripe_covers 7 _ y hc⟩
  | 8, _, hc => exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), stripe_covers 8 _ y hc⟩
  | 9, _, hc => exact ⟨_, (List.mem_cons_of_mem _ (List.mem_cons_of_mem _ (List.mem_cons_of_mem _ (List.mem_cons_of_mem _ (List.mem_cons_of_mem _ (List.mem_cons_of_mem _ List.mem_cons_self)))))), stripe_covers 9 _ y hc⟩
  | 10, _, hc => exact ⟨_, (List.mem_cons_of_mem _ (List.mem_cons_of_mem _ (List.mem_cons_of_mem _ (List.mem_cons_of_mem _ (List.mem_cons_of_mem _ List.mem_cons_self))))), stripe_covers 10 _ y hc⟩
  | 11, _, hc => exact ⟨_, (List.mem_cons_of_mem _ (List.mem_cons_of_mem _ (List.mem_cons_of_mem _ (List.mem_cons_of_mem _ List.mem_cons_self)))), stripe_covers 11 _ y hc⟩
  | 12, _, hc => exact ⟨_, (List.mem_cons_of_mem _ (List.mem_cons_of_mem _ (List.mem_cons_of_mem _ List.mem_cons_self))), stripe_covers 12 _ y hc⟩
  | 13, _, hc => exact ⟨_, (List.mem_cons_of_mem _ (List.mem_cons_of_mem _ List.mem_cons_self)), stripe_covers 13 _ y hc⟩
  | 14, _, hc => exact ⟨_, (List.mem_cons_of_mem _ List.mem_cons_self), stripe_covers 14 _ y hc⟩
  | 15, _, hc => exact ⟨_, List.mem_cons_self, stripe_covers 15 _ y hc⟩
  | _ + 16, h, _ => exact absurd h (by omega)

/-- The slabs' buffer after its sixteen stores. -/
theorem read_slabs (M : View sig .tc .vmem S8192x128 .f32) (f : M.ty.Contents (Elt F)) :
    M.read (Elt F) (M.writes (Elt F) f (stripes v3 v4 v6 v7 v10 v22)) = slabs (k0_pay7 v3 v4 v6 v7 v10 v22) :=
  funext fun y => View.read_writes_apply_of_pieces M f _ _ (stripes_agree v3 v4 v6 v7 v10 v22) y (stripes_cover v3 v4 v6 v7 v10 v22 y)

end

/-! ## The two rows of chosen experts -/

/-- A lane of either row. -/
def laneOf (y : S2x512.Idx) : S1x512.Idx := fun a => match a with
  | ⟨0, _⟩ => (⟨0, by decide⟩ : Fin 1)
  | ⟨1, _⟩ => (y 1 : Fin 512)

/-- Two rows, one under the other. -/
def twoRows (p q : S1x512.Idx → Elt F .i32) (y : S2x512.Idx) : Elt F .i32 := if (y 0).val = 0 then p (laneOf y) else q (laneOf y)

/-- The two rows' buffer after its two stores. -/
theorem read_rows (p q : S1x512.Idx → Elt F .i32) (M : View sig .tc .vmem S2x512 .i32) (f : M.ty.Contents (Elt F)) :
    M.read (Elt F) (M.writes (Elt F) f [⟨Rect.unit (s := S2x512) ![1, 0] S1x512.size inb_S2x512_S1x512_1_0, q⟩,
      ⟨Rect.unit (s := S2x512) ![0, 0] S1x512.size inb_S2x512_S1x512_0_0, p⟩]) = twoRows p q := by
  refine funext fun y => View.read_writes_apply_of_pieces M f (twoRows p q) _ ?_ y ?_
  · intro r hr
    have lane : ∀ (o : ℕ) (inb) (x : S1x512.Idx), laneOf ((Rect.unit (s := S2x512) ![o, 0] S1x512.size inb).emb x) = x := fun o inb x => by
      funext a
      refine Fin.ext ?_
      have l0 : (x 0).val < 1 := (x 0).isLt
      fin_cases a
      · show 0 = (x 0).val
        omega
      · show 0 + 1 * (x 1).val = (x 1).val
        omega
    rcases List.mem_cons.mp hr with rfl | hr
    · intro x
      refine Eq.trans ?_ (if_neg (show ¬(1 + 1 * (x 0).val = 0) by omega)).symm
      exact congrArg q (lane 1 inb_S2x512_S1x512_1_0 x).symm
    rcases List.mem_cons.mp hr with rfl | hr
    · intro x
      have l0 : (x 0).val < 1 := (x 0).isLt
      refine Eq.trans ?_ (if_pos (show 0 + 1 * (x 0).val = 0 by omega)).symm
      exact congrArg p (lane 0 inb_S2x512_S1x512_0_0 x).symm
    exact absurd hr List.not_mem_nil
  · exact View.cover_of_tiledL (s := S2x512) _ S1x512.size (by sl_kernel_rfl) y

/-! ## The four results' blocks -/

section
variable (x : Vec F S512x2048 .f32) (co ao : Vec F S512x1024 .bf16) (g : Vec F S1x2048 .f32)
  (W : S2048x2048.Idx → Elt F .bf16)

/-- The kept weight's rows under each mixer's output. -/
abbrev upper : S1024x2048.Idx → Elt F .bf16 := rows ![0, 0] inb_S2048x2048_S1024x2048_0_0 W
abbrev lower : S1024x2048.Idx → Elt F .bf16 := rows ![1024, 0] inb_S2048x2048_S1024x2048_1024_0 W

/-- The rows after the residual, and normalised. -/
def mid : S512x2048.Idx → Elt F .f32 := k0_pay6 co (upper W) ao (lower W) x
def nrm : S512x2048.Idx → Elt F .f32 := k0_pay7 co (upper W) ao (lower W) x g

/-- The two chosen experts' numbers of every row, from the normalised rows. -/
def chosen (n : FVec F S512x2048 .f32) (wr wr' : Vec F S2048x256 .bf16) (br : Vec F S128x1 .f32) : S2x512.Idx → Elt F .i32 :=
  twoRows (k0_pay39 (iota .tc S8x512 32 [0] iota_S8x512_d0_w32) (k0_pay27 n wr wr' br) (k0_pay31 (k0_pay24 n wr wr' br) (k0_pay27 n wr wr' br)))
    (k0_pay40 (iota .tc S8x512 32 [0] iota_S8x512_d0_w32) (k0_pay27 n wr wr' br) (k0_pay31 (k0_pay24 n wr wr' br) (k0_pay27 n wr wr' br)))

/-- Their weights. -/
def gates (n : FVec F S512x2048 .f32) (wr wr' : Vec F S2048x256 .bf16) (br : Vec F S128x1 .f32) : S512x128.Idx → Elt F .f32 :=
  k0_pay1 (k0_pay37 (iota .tc S8x512 32 [0] iota_S8x512_d0_w32) (k0_pay30 (k0_pay28 n wr wr' br) (k0_pay29 (F := F))) (k0_pay31 (k0_pay24 n wr wr' br) (k0_pay27 n wr wr' br)))
    (k0_pay38 (iota .tc S8x512 32 [0] iota_S8x512_d0_w32) (k0_pay30 (k0_pay28 n wr wr' br) (k0_pay29 (F := F))) (k0_pay31 (k0_pay24 n wr wr' br) (k0_pay27 n wr wr' br)))
    k0_pay41 k0_pay42

end

/-- A buffer after its one store, which covers it. -/
theorem read_whole {n k : ℕ} {e : EltTy} (M : View sig .tc .vmem (⟨2, ![n, k]⟩ : Shape) e) (f : M.ty.Contents (Elt F)) (inb) (w : (⟨2, ![n, k]⟩ : Shape).Idx → Elt F e) :
    M.read (Elt F) (M.writes (Elt F) f [⟨Rect.unit (s := (⟨2, ![n, k]⟩ : Shape)) ![0, 0] ![n, k] inb, w⟩]) = w :=
  funext fun y => by
    have e : (Rect.unit (s := (⟨2, ![n, k]⟩ : Shape)) ![0, 0] ![n, k] inb).emb y = y := by
      funext a; refine Fin.ext ?_
      have h0 : (![0, 0] : Fin 2 → ℕ) a = 0 := by fin_cases a <;> rfl
      show (![0, 0] : Fin 2 → ℕ) a + 1 * (y a).val = (y a).val
      rw [h0]; omega
    have h := View.read_writes_cons_emb M f (Rect.unit (s := (⟨2, ![n, k]⟩ : Shape)) ![0, 0] ![n, k] inb) w [] y
    rw [e] at h
    exact h

end Cert.Proof.OutProj

end
-- ==== Proof.OutProj.Body.lean ====
module

public import proofs.«01_k».proof.Proof.OutProj.Store

@[expose] public section

/-! One call of the output projection's body, at the first point and at a later one: what it leaves in its buffers. -/

set_option maxRecDepth 16384

noncomputable section

namespace Cert.Proof.OutProj

open Cert.OutProjIdeal Cert.OutProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The body's branch: the weight is brought in where this holds. -/
abbrev first (i : grid0.Coords) : Prop := (Scalar.cmpi .ne (Scalar.extui (Scalar.cmpi .eq (BitVec.ofNat 32 (i 0).val) 0#32)) 0#32) = 1#1

/-- It holds at point 0 only. -/
theorem first_iff : ∀ t : Fin cfg0.N, first (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    simp only [first, e0]
    word_cmp
   : ∀ t : Fin grid0.N, first (grid0.coords t) ↔ t.val = 0)

/-- A whole load of a window held at known contents. -/
theorem load_whole {s : Shape} {e : EltTy} (M : Memref sig .tc .vmem s e) (hM : M.IsWhole) (x : Vec F s e) {off : Fin s.rank → ℕ} (inb) :
    View.readAt (Elt F) M.view (Rect.unit (s := s) off s.size inb).toLoadRect (hM.unread x) = x :=
  (View.readAt_full M.view _ inb).trans (hM.read_unread x)

/-- A load of rows of the kept scratch, right after it was filled. -/
theorem load_filled (R : Memref sig .tc .vmem S2x2048x512 .f32) (g : R.view.ty.Contents (Elt F)) (w : main_arg3.ty.Contents (Elt F))
    (M : Memref sig .tc .vmem S2048x2048 .bf16) (off : Fin 2 → ℕ) (inb : ∀ a, off a + S1024x2048.size a ≤ S2048x2048.size a) :
    M.view.readCov (pieces R g w) (Rect.unit (s := S2048x2048) off S1024x2048.size inb).toLoadRect = rows off inb (narrowed w) :=
  funext fun j => congrFun (read_pieces R g w M.view M.view.junk) _

/-- A load of rows of the kept scratch at a later point. -/
theorem load_kept (M : Memref sig .tc .vmem S2048x2048 .bf16) (hM : M.IsWhole) (W : Vec F S2048x2048 .bf16) (off : Fin 2 → ℕ)
    (inb : ∀ a, off a + S1024x2048.size a ≤ S2048x2048.size a) :
    View.readAt (Elt F) M.view (Rect.unit (s := S2048x2048) off S1024x2048.size inb).toLoadRect (hM.unread W) = rows off inb W :=
  funext fun j => congrFun (hM.read_unread W) _

/-- A payload of four arguments at equal arguments. -/
theorem pay4 {α β γ δ ω : Type} (k : α → β → γ → δ → ω) {a a' : α} {b b' : β} {c c' : γ} {d d' : δ} (ha : a = a') (hb : b = b') (hc : c = c') (hd : d = d') :
    k a b c d = k a' b' c' d' := by
  rw [ha, hb, hc, hd]

/-- A payload of five arguments at equal arguments. -/
theorem pay5 {α β γ δ ε ω : Type} (k : α → β → γ → δ → ε → ω) {a a' : α} {b b' : β} {c c' : γ} {d d' : δ} {e e' : ε} (ha : a = a') (hb : b = b') (hc : c = c') (hd : d = d') (he : e = e') :
    k a b c d e = k a' b' c' d' e' := by
  rw [ha, hb, hc, hd, he]

/-- A payload of six arguments at equal arguments. -/
theorem pay6 {α β γ δ ε ζ ω : Type} (k : α → β → γ → δ → ε → ζ → ω) {a a' : α} {b b' : β} {c c' : γ} {d d' : δ} {e e' : ε} {f f' : ζ} (ha : a = a') (hb : b = b') (hc : c = c') (hd : d = d') (he : e = e') (hf : f = f') :
    k a b c d e f = k a' b' c' d' e' f' := by
  rw [ha, hb, hc, hd, he, hf]

/-- An array's buffer, held whole at its contents. -/
abbrev heldWhole (c : Dev nD) {sp : Space} {S : Shape} {e : EltTy} (M : Memref sig .tc sp S e) (f : Buf (Elt F) (M.view.loc (c : Thread nD τ))) : sProp 𝕄 :=
  M.view.loc (c : Thread nD τ) ↦{fullShare} f

/-- The weight's array, held whole. -/
abbrev weight (c : Dev nD) (w : main_arg3.ty.Contents (Elt F)) : sProp 𝕄 :=
  heldWhole c (Memref.whole main_arg3 : Memref sig .tc .hbm S2048x2048 .f32) w

set_option maxHeartbeats 8000000 in set_option sl_exec.dmaWindow true in set_option sl_exec.dmaWindowSet true in
/-- The first point: the weight is brought in, then the block's four results computed. -/
theorem body_first (c : Dev nD) (i : grid0.Coords) (arg1 : Memref sig .tc .vmem S512x2048 .f32) (harg1 : arg1.IsWhole) (arg2 : Memref sig .tc .vmem S512x1024 .bf16) (harg2 : arg2.IsWhole) (arg3 : Memref sig .tc .vmem S512x1024 .bf16) (harg3 : arg3.IsWhole) (arg5 : Memref sig .tc .vmem S1x2048 .f32) (harg5 : arg5.IsWhole) (arg6 : Memref sig .tc .vmem S2048x256 .bf16) (harg6 : arg6.IsWhole) (arg7 : Memref sig .tc .vmem S128x1 .f32) (harg7 : arg7.IsWhole) (arg8 : Memref sig .tc .vmem S512x2048 .f32) (harg8 : arg8.IsWhole) (arg9 : Memref sig .tc .vmem S8192x128 .f32) (harg9 : arg9.IsWhole) (arg10 : Memref sig .tc .vmem S2x512 .i32) (harg10 : arg10.IsWhole) (arg11 : Memref sig .tc .vmem S512x128 .f32) (harg11 : arg11.IsWhole) (arg12 : Memref sig .tc .vmem S2048x2048 .bf16) (harg12 : arg12.IsWhole) (arg13 : Memref sig .tc .vmem S2x2048x512 .f32) (harg13 : arg13.IsWhole) (hc : first i)
    (x0 : Vec F S512x2048 .f32) (x1 x2 : Vec F S512x1024 .bf16) (x3 : Vec F S1x2048 .f32) (x4 : Vec F S2048x256 .bf16) (x5 : Vec F S128x1 .f32) (w : main_arg3.ty.Contents (Elt F)) (Ws : Waits sig Unit) (K : PUnit → sProp 𝕄) :
    iprop(owns (c : Thread nD τ) arg1 fullShare x0 ∗ owns (c : Thread nD τ) arg2 fullShare x1 ∗ owns (c : Thread nD τ) arg3 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (∃ d, owns (c : Thread nD τ) arg13 fullShare d) ∗ semVal ((c : Thread nD τ), SemLoc.dma 17) 0 ∗ semVal ((c : Thread nD τ), SemLoc.dma 18) 0 ∗ weight c w ∗ owes (c : Thread nD τ) 0 Ws
        ∗ (iprop(owns (c : Thread nD τ) arg1 fullShare x0 ∗ owns (c : Thread nD τ) arg2 fullShare x1 ∗ owns (c : Thread nD τ) arg3 fullShare x2 ∗ owns (c : Thread nD τ) arg5 fullShare x3 ∗ owns (c : Thread nD τ) arg6 fullShare x4 ∗ owns (c : Thread nD τ) arg7 fullShare x5 ∗ owns (c : Thread nD τ) arg8 fullShare (mid x0 x1 x2 (narrowed w)) ∗ owns (c : Thread nD τ) arg9 fullShare (slabs (nrm x0 x1 x2 x3 (narrowed w))) ∗ owns (c : Thread nD τ) arg10 fullShare (chosen (nrm x0 x1 x2 x3 (narrowed w)) x4 x4 x5) ∗ owns (c : Thread nD τ) arg11 fullShare (gates (nrm x0 x1 x2 x3 (narrowed w)) x4 x4 x5)
            ∗ owns (c : Thread nD τ) arg12 fullShare (narrowed w) ∗ (∃ d, owns (c : Thread nD τ) arg13 fullShare d)
            ∗ semVal ((c : Thread nD τ), SemLoc.dma 17) 0 ∗ semVal ((c : Thread nD τ), SemLoc.dma 18) 0 ∗ weight c w ∗ (∃ Ws', owes (c : Thread nD τ) 0 Ws')) -∗ K ⟨⟩))
      ⊢ wp frame (wpE (defs₀ (F := F)) Variants.none c none) Set.univ (cc0_out_proj_router i arg1 harg1 arg2 harg2 arg3 harg3 (Memref.whole main_arg3) (Memref.isWhole_whole _) arg5 harg5 arg6 harg6 arg7 harg7 arg8 harg8 arg9 harg9 arg10 harg10 arg11 harg11 arg12 harg12 arg13 harg13 cc0_scratch2) K := by
  simp only [cc0_out_proj_router_eq_skeleton]; unfold cc0_out_proj_router_skel
  simp only [k0_part3_eq_skeleton, k0_part1_eq_skeleton, k0_part2_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, Hq0, Hq1, Hh0, HW, Hk⟩
  obtain rfl := harg1.eq_unread hf0; obtain rfl := harg2.eq_unread hf1; obtain rfl := harg3.eq_unread hf2; obtain rfl := harg5.eq_unread hf3; obtain rfl := harg6.eq_unread hf4; obtain rfl := harg7.eq_unread hf5
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro; exact (read_whole _ _ _ _).trans (pay5 k0_pay6 (load_whole _ harg2 x1 _) (load_filled _ _ _ _ ![0, 0] inb_S2048x2048_S1024x2048_0_0) (load_whole _ harg3 x2 _) (load_filled _ _ _ _ ![1024, 0] inb_S2048x2048_S1024x2048_1024_0) (load_whole _ harg1 x0 _))
  isplitl [H7]
  · iexists _; isplitr
    swap; · iexact H7
    ipureintro; exact (read_slabs _ _ _ _ _ _ _ _).trans (congrArg slabs (pay6 k0_pay7 (load_whole _ harg2 x1 _) (load_filled _ _ _ _ ![0, 0] inb_S2048x2048_S1024x2048_0_0) (load_whole _ harg3 x2 _) (load_filled _ _ _ _ ![1024, 0] inb_S2048x2048_S1024x2048_1024_0) (load_whole _ harg1 x0 _) (load_whole _ harg5 x3 _)))
  isplitl [H8]
  · iexists _; isplitr
    swap; · iexact H8
    ipureintro; exact (read_rows _ _ _ _).trans (pay4 chosen (pay6 k0_pay7 (load_whole _ harg2 x1 _) (load_filled _ _ _ _ ![0, 0] inb_S2048x2048_S1024x2048_0_0) (load_whole _ harg3 x2 _) (load_filled _ _ _ _ ![1024, 0] inb_S2048x2048_S1024x2048_1024_0) (load_whole _ harg1 x0 _) (load_whole _ harg5 x3 _)) (load_whole _ harg6 x4 _) (load_whole _ harg6 x4 _) (load_whole _ harg7 x5 _))
  isplitl [H9]
  · iexists _; isplitr
    swap; · iexact H9
    ipureintro; exact (read_whole _ _ _ _).trans (pay4 gates (pay6 k0_pay7 (load_whole _ harg2 x1 _) (load_filled _ _ _ _ ![0, 0] inb_S2048x2048_S1024x2048_0_0) (load_whole _ harg3 x2 _) (load_filled _ _ _ _ ![1024, 0] inb_S2048x2048_S1024x2048_1024_0) (load_whole _ harg1 x0 _) (load_whole _ harg5 x3 _)) (load_whole _ harg6 x4 _) (load_whole _ harg6 x4 _) (load_whole _ harg7 x5 _))
  isplitl [HS0]
  · iexists _; isplitr
    swap; · iexact HS0
    ipureintro; exact (read_pieces arg13 fs1 w arg12.view _)
  isplitl [HS1]
  · iexists _; iexists _; isplitr
    swap; · iexact HS1
    ipureintro; rfl
  isplitl [Hq0]; · iexact Hq0
  isplitl [Hq1]; · iexact Hq1
  isplitl [Hh0]; · iexact Hh0
  iexists _; iexact HW

set_option maxHeartbeats 8000000 in
/-- A later point: the four results over the weight the scratch keeps. -/
theorem body_later (c : Dev nD) (i : grid0.Coords) (arg1 : Memref sig .tc .vmem S512x2048 .f32) (harg1 : arg1.IsWhole) (arg2 : Memref sig .tc .vmem S512x1024 .bf16) (harg2 : arg2.IsWhole) (arg3 : Memref sig .tc .vmem S512x1024 .bf16) (harg3 : arg3.IsWhole) (arg5 : Memref sig .tc .vmem S1x2048 .f32) (harg5 : arg5.IsWhole) (arg6 : Memref sig .tc .vmem S2048x256 .bf16) (harg6 : arg6.IsWhole) (arg7 : Memref sig .tc .vmem S128x1 .f32) (harg7 : arg7.IsWhole) (arg8 : Memref sig .tc .vmem S512x2048 .f32) (harg8 : arg8.IsWhole) (arg9 : Memref sig .tc .vmem S8192x128 .f32) (harg9 : arg9.IsWhole) (arg10 : Memref sig .tc .vmem S2x512 .i32) (harg10 : arg10.IsWhole) (arg11 : Memref sig .tc .vmem S512x128 .f32) (harg11 : arg11.IsWhole) (arg12 : Memref sig .tc .vmem S2048x2048 .bf16) (harg12 : arg12.IsWhole) (arg13 : Memref sig .tc .vmem S2x2048x512 .f32) (harg13 : arg13.IsWhole) (hc : ¬first i)
    (x0 : Vec F S512x2048 .f32) (x1 x2 : Vec F S512x1024 .bf16) (x3 : Vec F S1x2048 .f32) (x4 : Vec F S2048x256 .bf16) (x5 : Vec F S128x1 .f32) (w : main_arg3.ty.Contents (Elt F)) (Ws : Waits sig Unit) (K : PUnit → sProp 𝕄) :
    iprop(owns (c : Thread nD τ) arg1 fullShare x0 ∗ owns (c : Thread nD τ) arg2 fullShare x1 ∗ owns (c : Thread nD τ) arg3 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare (narrowed w)
        ∗ (∃ d, owns (c : Thread nD τ) arg13 fullShare d) ∗ semVal ((c : Thread nD τ), SemLoc.dma 17) 0 ∗ semVal ((c : Thread nD τ), SemLoc.dma 18) 0 ∗ weight c w ∗ owes (c : Thread nD τ) 0 Ws
        ∗ (iprop(owns (c : Thread nD τ) arg1 fullShare x0 ∗ owns (c : Thread nD τ) arg2 fullShare x1 ∗ owns (c : Thread nD τ) arg3 fullShare x2 ∗ owns (c : Thread nD τ) arg5 fullShare x3 ∗ owns (c : Thread nD τ) arg6 fullShare x4 ∗ owns (c : Thread nD τ) arg7 fullShare x5 ∗ owns (c : Thread nD τ) arg8 fullShare (mid x0 x1 x2 (narrowed w)) ∗ owns (c : Thread nD τ) arg9 fullShare (slabs (nrm x0 x1 x2 x3 (narrowed w))) ∗ owns (c : Thread nD τ) arg10 fullShare (chosen (nrm x0 x1 x2 x3 (narrowed w)) x4 x4 x5) ∗ owns (c : Thread nD τ) arg11 fullShare (gates (nrm x0 x1 x2 x3 (narrowed w)) x4 x4 x5)
            ∗ owns (c : Thread nD τ) arg12 fullShare (narrowed w) ∗ (∃ d, owns (c : Thread nD τ) arg13 fullShare d)
            ∗ semVal ((c : Thread nD τ), SemLoc.dma 17) 0 ∗ semVal ((c : Thread nD τ), SemLoc.dma 18) 0 ∗ weight c w ∗ (∃ Ws', owes (c : Thread nD τ) 0 Ws')) -∗ K ⟨⟩))
      ⊢ wp frame (wpE (defs₀ (F := F)) Variants.none c none) Set.univ (cc0_out_proj_router i arg1 harg1 arg2 harg2 arg3 harg3 (Memref.whole main_arg3) (Memref.isWhole_whole _) arg5 harg5 arg6 harg6 arg7 harg7 arg8 harg8 arg9 harg9 arg10 harg10 arg11 harg11 arg12 harg12 arg13 harg13 cc0_scratch2) K := by
  simp only [cc0_out_proj_router_eq_skeleton]; unfold cc0_out_proj_router_skel
  simp only [k0_part3_eq_skeleton, k0_part1_eq_skeleton, k0_part2_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%fs0, %hfs0, HS0⟩, ⟨%ds1, %fs1, -, HS1⟩, Hq0, Hq1, Hh0, HW, Hk⟩
  obtain rfl := harg1.eq_unread hf0; obtain rfl := harg2.eq_unread hf1; obtain rfl := harg3.eq_unread hf2; obtain rfl := harg5.eq_unread hf3; obtain rfl := harg6.eq_unread hf4; obtain rfl := harg7.eq_unread hf5; obtain rfl := harg12.eq_unread hfs0
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro; exact (read_whole _ _ _ _).trans (pay5 k0_pay6 (load_whole _ harg2 x1 _) (load_kept _ harg12 _ ![0, 0] inb_S2048x2048_S1024x2048_0_0) (load_whole _ harg3 x2 _) (load_kept _ harg12 _ ![1024, 0] inb_S2048x2048_S1024x2048_1024_0) (load_whole _ harg1 x0 _))
  isplitl [H7]
  · iexists _; isplitr
    swap; · iexact H7
    ipureintro; exact (read_slabs _ _ _ _ _ _ _ _).trans (congrArg slabs (pay6 k0_pay7 (load_whole _ harg2 x1 _) (load_kept _ harg12 _ ![0, 0] inb_S2048x2048_S1024x2048_0_0) (load_whole _ harg3 x2 _) (load_kept _ harg12 _ ![1024, 0] inb_S2048x2048_S1024x2048_1024_0) (load_whole _ harg1 x0 _) (load_whole _ harg5 x3 _)))
  isplitl [H8]
  · iexists _; isplitr
    swap; · iexact H8
    ipureintro; exact (read_rows _ _ _ _).trans (pay4 chosen (pay6 k0_pay7 (load_whole _ harg2 x1 _) (load_kept _ harg12 _ ![0, 0] inb_S2048x2048_S1024x2048_0_0) (load_whole _ harg3 x2 _) (load_kept _ harg12 _ ![1024, 0] inb_S2048x2048_S1024x2048_1024_0) (load_whole _ harg1 x0 _) (load_whole _ harg5 x3 _)) (load_whole _ harg6 x4 _) (load_whole _ harg6 x4 _) (load_whole _ harg7 x5 _))
  isplitl [H9]
  · iexists _; isplitr
    swap; · iexact H9
    ipureintro; exact (read_whole _ _ _ _).trans (pay4 gates (pay6 k0_pay7 (load_whole _ harg2 x1 _) (load_kept _ harg12 _ ![0, 0] inb_S2048x2048_S1024x2048_0_0) (load_whole _ harg3 x2 _) (load_kept _ harg12 _ ![1024, 0] inb_S2048x2048_S1024x2048_1024_0) (load_whole _ harg1 x0 _) (load_whole _ harg5 x3 _)) (load_whole _ harg6 x4 _) (load_whole _ harg6 x4 _) (load_whole _ harg7 x5 _))
  isplitl [HS0]
  · iexists _; isplitr
    swap; · iexact HS0
    ipureintro; exact harg12.read_unread _
  isplitl [HS1]
  · iexists _; iexists _; isplitr
    swap; · iexact HS1
    ipureintro; rfl
  isplitl [Hq0]; · iexact Hq0
  isplitl [Hq1]; · iexact Hq1
  isplitl [Hh0]; · iexact Hh0
  iexists _; iexact HW

end Cert.Proof.OutProj

end
-- ==== Proof.OutProj.Run.lean ====
module

public import proofs.«01_k».proof.Proof.OutProj.Body
public import Idealize.ShloMosaic.Lib.Pipeline.Value

@[expose] public section

/-! The output projection's run over its 16 points: the kept scratch holds the narrowed weight from the first point on,
each point's four blocks are the body's, the arguments and every counter end as they began. -/

set_option maxRecDepth 16384

noncomputable section

namespace Cert.Proof.OutProj

open Cert.OutProjIdeal Cert.OutProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

/-! ## What the region hands the body beside its windows -/

abbrev kept : Memref sig .tc .vmem S2048x2048 .bf16 := Memref.whole cc0_scratch0
abbrev ring : Memref sig .tc .vmem S2x2048x512 .f32 := Memref.whole cc0_scratch1

/-- The two transfer counters the body waits on. -/
abbrev cells : Fin 2 → SemLoc sig := fun j => (![SemLoc.dma 17, SemLoc.dma 18] : Fin 2 → SemLoc sig) j
theorem cells_facts : Pipeline.OwnSemFacts spec0 cells := by decide

theorem cells_eq (c : Dev nD) :
    (Pipeline.ownSems0 (Ix := Unit) (Name := ℕ) (U := Pipeline.UD sig nD τ) (Lvl := ℕ) (Val := Elt F) (τ := τ) cells c : sProp 𝕄)
      = iprop(semVal ((c : Thread nD τ), SemLoc.dma 17) 0 ∗ semVal ((c : Thread nD τ), SemLoc.dma 18) 0) := by
  rw [Pipeline.ownSems0_eq_of_list c cells [0, 1] (by decide) (by decide)]; rfl

/-- The one array the body reads by its own transfers. -/
def read₀ : Finset (Ref sig .tc) := {main_arg3}
theorem read₀_sub : read₀ ⊆ Pipeline.restRefs sig spec0 := by decide

theorem read₀_eq (c : Dev nD) :
    (bigSep read₀ (fun b => ((c : Thread nD τ).loc b) ↦{fullShare} V m c b) : sProp 𝕄) = iprop(weight c (V m c main_arg3)) := by
  rw [BI.bigSep_eq_bigSepL_of_eq [main_arg3] (by decide) (by decide)]; rfl

/-- What the body is handed at the first point, part by part. -/
theorem handed_eq (c : Dev nD) :
    (Pipeline.ΦD cells spec0 read₀ (V m) c : sProp 𝕄)
      = iprop(iprop((∃ d, owns (c : Thread nD τ) kept fullShare d) ∗ (∃ d, owns (c : Thread nD τ) ring fullShare d)) ∗ (∃ r, prngReg c r)
          ∗ iprop(semVal ((c : Thread nD τ), SemLoc.dma 17) 0 ∗ semVal ((c : Thread nD τ), SemLoc.dma 18) 0) ∗ iprop(weight c (V m c main_arg3))) := by
  rw [Pipeline.ΦD_eq, scopedRest0_eq, cells_eq, read₀_eq]; simp only [kept, ring, owns_whole]; try rfl

/-! ## The proof data -/

/-- The weight as kept, off the launch's memory. -/
abbrev wt (c : Dev nD) : S2048x2048.Idx → Elt F .bf16 := narrowed (V m c main_arg3)

/-- Between points: at the start what the launch hands over, later the same with the kept scratch filled. -/
def inv (c : Dev nD) (n : ℕ) : sProp 𝕄 :=
  if n = 0 then Pipeline.ΦD cells spec0 read₀ (V m) c
  else iprop(iprop(owns (c : Thread nD τ) kept fullShare (wt m c) ∗ (∃ d, owns (c : Thread nD τ) ring fullShare d)) ∗ (∃ r, prngReg c r)
          ∗ iprop(semVal ((c : Thread nD τ), SemLoc.dma 17) 0 ∗ semVal ((c : Thread nD τ), SemLoc.dma 18) 0) ∗ iprop(weight c (V m c main_arg3)))

theorem inv_zero (c : Dev nD) (n : ℕ) (h : n = 0) : inv m c n = Pipeline.ΦD cells spec0 read₀ (V m) c := if_pos h

theorem inv_pos (c : Dev nD) (n : ℕ) (h : n ≠ 0) : inv m c n
    = iprop(iprop(owns (c : Thread nD τ) kept fullShare (wt m c) ∗ (∃ d, owns (c : Thread nD τ) ring fullShare d)) ∗ (∃ r, prngReg c r)
          ∗ iprop(semVal ((c : Thread nD τ), SemLoc.dma 17) 0 ∗ semVal ((c : Thread nD τ), SemLoc.dma 18) 0) ∗ iprop(weight c (V m c main_arg3))) := if_neg h

/-- After the body at a point: the inputs' buffers at their blocks, the results' at the body's values. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => mid (iblk m c 0 t) (iblk m c 1 t) (iblk m c 2 t) (wt m c)
    | ⟨7, _⟩ => slabs (nrm (iblk m c 0 t) (iblk m c 1 t) (iblk m c 2 t) (iblk m c 3 t) (wt m c))
    | ⟨8, _⟩ => chosen (nrm (iblk m c 0 t) (iblk m c 1 t) (iblk m c 2 t) (iblk m c 3 t) (wt m c)) (iblk m c 4 t) (iblk m c 4 t) (iblk m c 5 t)
    | ⟨9, _⟩ => gates (nrm (iblk m c 0 t) (iblk m c 1 t) (iblk m c 2 t) (iblk m c 3 t) (wt m c)) (iblk m c 4 t) (iblk m c 4 t) (iblk m c 5 t)
  Φ t := inv m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = mid (iblk m c 0 t) (iblk m c 1 t) (iblk m c 2 t) (wt m c) := by dsimp only [dats]
theorem after7 (c : Dev nD) (t : Fin cfg0.N) : (dats m 0 c).after 7 t = slabs (nrm (iblk m c 0 t) (iblk m c 1 t) (iblk m c 2 t) (iblk m c 3 t) (wt m c)) := by dsimp only [dats]
theorem after8 (c : Dev nD) (t : Fin cfg0.N) : (dats m 0 c).after 8 t = chosen (nrm (iblk m c 0 t) (iblk m c 1 t) (iblk m c 2 t) (iblk m c 3 t) (wt m c)) (iblk m c 4 t) (iblk m c 4 t) (iblk m c 5 t) := by dsimp only [dats]
theorem after9 (c : Dev nD) (t : Fin cfg0.N) : (dats m 0 c).after 9 t = gates (nrm (iblk m c 0 t) (iblk m c 1 t) (iblk m c 2 t) (iblk m c 3 t) (wt m c)) (iblk m c 4 t) (iblk m c 4 t) (iblk m c 5 t) := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun u => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun u => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun u => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun u => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun u => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun u => by rw [after5]; unfold Dat.blockOf iblk; rw [A_eq]; try rfl) t d).trans
    (by unfold Dat.fetched Dat.blockOf iblk; rw [A_eq]; try rfl)

/-! ## The body at a point -/

/-- A window's staging buffer at a point. -/
abbrev stg (w : Fin cfg0.W) (t : Fin cfg0.N) := (cfg0.win w).stage (cfg0.slots t w)

set_option maxHeartbeats 6400000 in
/-- One point, as the region calls the body. -/
theorem point (c : Dev nD) (t : Fin cfg0.N) :
    iprop((dats m 0 c).Φ t.castSucc ∗ (dats m 0 c).owesAt () t.castSucc
        ∗ (∃ d, owns (c : Thread nD τ) (win0_0.stage (cfg0.slots t 0)) fullShare ((dats m 0 c).before 0 t d))
        ∗ (∃ d, owns (c : Thread nD τ) (win0_1.stage (cfg0.slots t 1)) fullShare ((dats m 0 c).before 1 t d))
        ∗ (∃ d, owns (c : Thread nD τ) (win0_2.stage (cfg0.slots t 2)) fullShare ((dats m 0 c).before 2 t d))
        ∗ (∃ d, owns (c : Thread nD τ) (win0_3.stage (cfg0.slots t 3)) fullShare ((dats m 0 c).before 3 t d))
        ∗ (∃ d, owns (c : Thread nD τ) (win0_4.stage (cfg0.slots t 4)) fullShare ((dats m 0 c).before 4 t d))
        ∗ (∃ d, owns (c : Thread nD τ) (win0_5.stage (cfg0.slots t 5)) fullShare ((dats m 0 c).before 5 t d))
        ∗ (∃ d, owns (c : Thread nD τ) (win0_6.stage (cfg0.slots t 6)) fullShare ((dats m 0 c).before 6 t d))
        ∗ (∃ d, owns (c : Thread nD τ) (win0_7.stage (cfg0.slots t 7)) fullShare ((dats m 0 c).before 7 t d))
        ∗ (∃ d, owns (c : Thread nD τ) (win0_8.stage (cfg0.slots t 8)) fullShare ((dats m 0 c).before 8 t d))
        ∗ (∃ d, owns (c : Thread nD τ) (win0_9.stage (cfg0.slots t 9)) fullShare ((dats m 0 c).before 9 t d)))
      ⊢ wp frame (wpE (defs₀ (F := F)) Variants.none c none) Set.univ (bodyAt0 t) (fun _ =>
        iprop((dats m 0 c).Φ t.succ ∗ (dats m 0 c).owesAt () t.succ
          ∗ owns (c : Thread nD τ) (win0_0.stage (cfg0.slots t 0)) fullShare ((dats m 0 c).after 0 t)
          ∗ owns (c : Thread nD τ) (win0_1.stage (cfg0.slots t 1)) fullShare ((dats m 0 c).after 1 t)
          ∗ owns (c : Thread nD τ) (win0_2.stage (cfg0.slots t 2)) fullShare ((dats m 0 c).after 2 t)
          ∗ owns (c : Thread nD τ) (win0_3.stage (cfg0.slots t 3)) fullShare ((dats m 0 c).after 3 t)
          ∗ owns (c : Thread nD τ) (win0_4.stage (cfg0.slots t 4)) fullShare ((dats m 0 c).after 4 t)
          ∗ owns (c : Thread nD τ) (win0_5.stage (cfg0.slots t 5)) fullShare ((dats m 0 c).after 5 t)
          ∗ owns (c : Thread nD τ) (win0_6.stage (cfg0.slots t 6)) fullShare ((dats m 0 c).after 6 t)
          ∗ owns (c : Thread nD τ) (win0_7.stage (cfg0.slots t 7)) fullShare ((dats m 0 c).after 7 t)
          ∗ owns (c : Thread nD τ) (win0_8.stage (cfg0.slots t 8)) fullShare ((dats m 0 c).after 8 t)
          ∗ owns (c : Thread nD τ) (win0_9.stage (cfg0.slots t 9)) fullShare ((dats m 0 c).after 9 t))) := by
  unfold bodyAt0
  simp only [before0, before1, before2, before3, before4, before5]
  rw [show (dats m 0 c).Φ t.succ = inv m c (t.val + 1) from rfl, inv_pos m c _ (Nat.succ_ne_zero _),
    show (dats m 0 c).Φ t.castSucc = inv m c t.val from rfl,
    after0, after1, after2, after3, after4, after5, after6, after7, after8, after9]
  unfold Dat.owesAt Pipeline.owesWithin
  rw [show (dats m 0 c).owed t.castSucc = 0 from rfl, show (dats m 0 c).owed t.succ = 0 from rfl]
  by_cases hz : t.val = 0
  · rw [inv_zero m c _ hz, handed_eq]
    iintro ⟨⟨⟨HS0, HS1⟩, Hg, ⟨Hq0, Hq1⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_first c (grid0.coords t) _ _ _ _ _ _ _ _ _ _ _ _ _ _ _ _ _ _ _ _ _ _ _ _ ((first_iff t).mpr hz) (iblk m c 0 t) (iblk m c 1 t) (iblk m c 2 t) (iblk m c 3 t) (iblk m c 4 t) (iblk m c 5 t) (V m c main_arg3) W _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [HS0]; · iexact HS0
    isplitl [HS1]; · iexact HS1
    isplitl [Hq0]; · iexact Hq0
    isplitl [Hq1]; · iexact Hq1
    isplitl [Hh0]; · iexact Hh0
    isplitl [HW]; · iexact HW
    iintro ⟨H0, H1, H2, H3, H4, H5, H6, H7, H8, H9, HS0, HS1, Hq0, Hq1, Hh0, ⟨%W', HW'⟩⟩
    isplitl [HS0 HS1 Hg Hq0 Hq1 Hh0]
    · isplitl [HS0 HS1]
      · isplitl [HS0]; · iexact HS0
        iexact HS1
      isplitl [Hg]; · iexact Hg
      isplitl [Hq0 Hq1]
      · isplitl [Hq0]; · iexact Hq0
        iexact Hq1
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [inv_pos m c _ hz]
    iintro ⟨⟨⟨HS0, HS1⟩, Hg, ⟨Hq0, Hq1⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_later c (grid0.coords t) _ _ _ _ _ _ _ _ _ _ _ _ _ _ _ _ _ _ _ _ _ _ _ _ (fun h => hz ((first_iff t).mp h)) (iblk m c 0 t) (iblk m c 1 t) (iblk m c 2 t) (iblk m c 3 t) (iblk m c 4 t) (iblk m c 5 t) (V m c main_arg3) W _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [HS0]; · iexact HS0
    isplitl [HS1]; · iexact HS1
    isplitl [Hq0]; · iexact Hq0
    isplitl [Hq1]; · iexact Hq1
    isplitl [Hh0]; · iexact Hh0
    isplitl [HW]; · iexact HW
    iintro ⟨H0, H1, H2, H3, H4, H5, H6, H7, H8, H9, HS0, HS1, Hq0, Hq1, Hh0, ⟨%W', HW'⟩⟩
    isplitl [HS0 HS1 Hg Hq0 Hq1 Hh0]
    · isplitl [HS0 HS1]
      · isplitl [HS0]; · iexact HS0
        iexact HS1
      isplitl [Hg]; · iexact Hg
      isplitl [Hq0 Hq1]
      · isplitl [Hq0]; · iexact Hq0
        iexact Hq1
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (point m c t) rfl .rfl fun _ => .rfl

theorem enter (c : Dev nD) : Pipeline.ΦD cells spec0 read₀ (V m) c ⊢ (dats m 0 c).Φ 0 := by
  rw [show (dats m 0 c).Φ 0 = inv m c 0 from rfl, inv_zero m c 0 rfl]
  try exact Idealize.SL.BI.Entails.refl _

theorem leave (c : Dev nD) : (dats m 0 c).Φ (Fin.last cfg0.N) ⊢ Pipeline.ΦD cells spec0 read₀ (V m) c := by
  rw [show (dats m 0 c).Φ (Fin.last cfg0.N) = inv m c cfg0.N from rfl, inv_pos m c _ (by have : cfg0.N = 16 := N_0; omega), handed_eq]
  iintro ⟨⟨HS0, HS1⟩, Hg, ⟨Hq0, Hq1⟩, Hh0⟩
  isplitl [HS0 HS1]
  · isplitl [HS0]
    · iexists _; iexact HS0
    iexact HS1
  isplitl [Hg]; · iexact Hg
  isplitl [Hq0 Hq1]
  · isplitl [Hq0]; · iexact Hq0
    iexact Hq1
  iexact Hh0

/-! ## The run -/

/-- The program up to its one region: the host's operations, then the region. -/
theorem toRegion : Pipeline.HMain (Ix := Unit) (Name := ℕ) (U := Pipeline.UD sig nD τ) (Lvl := ℕ) cfgs 0 defs₀ Variants.none m (main (F := F)) (V m) :=
  Pipeline.hmain_prefixes cfgs 0 defs₀ Variants.none m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

set_option backward.isDefEq.respectTransparency.types false in
/-- Every run ends; the arrays end at what the proof data says, the counters at zero. -/
theorem run : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 cells defs₀ Variants.none cells_facts read₀ read₀_sub m ρ main
    (hbody := fun c => (obligation m c).loose) (hshare := fun c => (dats m 0 c).share_full fun _ => rfl)
    (howed := fun _ _ => rfl) (V := V m) (hmain := toRegion m) (hA := A_eq m)
    (hin := enter m) (hout := leave m)

/-- The arguments end as they began. -/
theorem args_end (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c)⟩

/-- The frame: the arguments end as they began, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨args_end m _ h.1, h.2⟩) (run m ρ)

end Cert.Proof.OutProj

end
-- ==== Proof.OutProj.Block.lean ====
module

public import proofs.«01_k».proof.Proof.OutProj.Run
public import proofs.«01_k».proof.Proof.InProj.Block

@[expose] public section

/-! The output projection at an element: the residual and the two mixers' outputs against the weight's rows, exactly, and the norm. -/

set_option maxRecDepth 16384

noncomputable section

namespace Cert.Proof.OutProj

open Cert.OutProjIdeal Cert.OutProjIdeal.Gen Idealize.ShloMosaic Idealize.ShloMosaic.TcCoe Idealize.SL.Sem
open Cert.Proof.InProj (rowScale)

/-- An element and the two mixers' rows against their halves of a column. -/
def mixed (x : EReal) (co ao u l : Fin 1024 → EReal) : EReal := x + (∑ k, co k * u k + ∑ k, ao k * l k)

section
variable (co : Vec Ideal S512x1024 .bf16) (u : Vec Ideal S1024x2048 .bf16) (ao : Vec Ideal S512x1024 .bf16) (l : Vec Ideal S1024x2048 .bf16)
  (x : Vec Ideal S512x2048 .f32) (g : Vec Ideal S1x2048 .f32)

theorem pay6_apply (r : Fin 512) (k : Fin 2048) : k0_pay6 co u ao l x (ix2 r k)
    = mixed (x (ix2 r k)) (fun j => co (ix2 r j)) (fun j => ao (ix2 r j)) (fun j => u (ix2 j k)) (fun j => l (ix2 j k)) := by
  unfold k0_pay6 mixed
  pointwise

theorem pay7_apply (r : Fin 512) (k : Fin 2048) : k0_pay7 co u ao l x g (ix2 r k)
    = k0_pay6 co u ao l x (ix2 r k) * rowScale (fun k => k0_pay6 co u ao l x (ix2 r k)) * g (ix2 0 k) := by
  unfold k0_pay7 rowScale
  generalize k0_pay6 co u ao l x = y
  pointwise
end

end Cert.Proof.OutProj

end
-- ==== Proof.OutProj.Array.lean ====
module

public import proofs.«01_k».proof.Proof.OutProj.Block

@[expose] public section

/-! The output projection's first two result arrays, exactly: the rows after the residual, and the normalised rows as slabs. -/

set_option maxRecDepth 16384

noncomputable section

namespace Cert.Proof.OutProj

open Cert.OutProjIdeal Cert.OutProjIdeal.Gen Idealize.ShloMosaic Idealize.ShloMosaic.TcCoe Idealize.SL.Sem
open Cert.Proof.InProj (rowScale)

/-- The rows after the residual, at a row and a lane. -/
def kmid (x : S8192x2048.Idx → EReal) (co ao : S8192x1024.Idx → EReal) (w : S2048x2048.Idx → EReal) (r : Fin 8192) (k : Fin 2048) : EReal :=
  mixed (x (ix2 r k)) (fun j => co (ix2 r j)) (fun j => ao (ix2 r j)) (fun j => w (ix2 (⟨0 + j.val, by omega⟩ : Fin 2048) k))
    (fun j => w (ix2 (⟨1024 + j.val, by omega⟩ : Fin 2048) k))

/-- The normalised rows, at a row and a lane. -/
def knrm (x : S8192x2048.Idx → EReal) (co ao : S8192x1024.Idx → EReal) (w : S2048x2048.Idx → EReal) (g : S2048.Idx → EReal) (r : Fin 8192)
    (k : Fin 2048) : EReal :=
  kmid x co ao w r k * rowScale (kmid x co ao w r) * g (ix1 k)

variable (m : (ℓ : Loc nD τ sig) → Buf (Elt Ideal) ℓ) (ρ : Dev nD → PrngReg) (c : Dev nD)

/-- The arguments: the layer's input, the two mixers' outputs, the projection's matrix, the norm's weights. -/
abbrev ax : S8192x2048.Idx → EReal := m ((c.tc : Thread nD τ).loc main_arg0)
abbrev aco : S8192x1024.Idx → EReal := m ((c.tc : Thread nD τ).loc main_arg1)
abbrev aao : S8192x1024.Idx → EReal := m ((c.tc : Thread nD τ).loc main_arg2)
abbrev aw : S2048x2048.Idx → EReal := m ((c.tc : Thread nD τ).loc main_arg3)
abbrev ag : S2048.Idx → EReal := m ((c.tc : Thread nD τ).loc main_arg4)

theorem V_g (k : Fin 2048) : V m c main_v13 (ix2 0 k) = ag m c (ix1 k) := by
  unfold V
  simp only [hostOps0, hostOps0_1, hostOps0_2, List.flatten_cons, List.flatten_nil, List.append_nil, List.cons_append, List.nil_append]
  entry_read
  pointwise

theorem at0 : ∀ t : Fin cfg0.N, win0_0.index t = ![t.val, 0] := by decide +kernel
theorem at1 : ∀ t : Fin cfg0.N, win0_1.index t = ![t.val, 0] := by decide +kernel
theorem at2 : ∀ t : Fin cfg0.N, win0_2.index t = ![t.val, 0] := by decide +kernel
theorem at3 : ∀ t : Fin cfg0.N, win0_3.index t = ![0, 0] := by decide +kernel
theorem at6 : ∀ t : Fin cfg0.N, win0_6.index t = ![t.val, 0] := by decide +kernel
theorem at7 : ∀ t : Fin cfg0.N, win0_7.index t = ![t.val, 0] := by decide +kernel

theorem point_lt (t : Fin cfg0.N) : t.val < 16 := t.isLt

/-- A point's row of the arrays. -/
def rowAt (t : Fin cfg0.N) (r : Fin 512) : Fin 8192 := ⟨512 * t.val + r.val, by have := point_lt t; omega⟩

theorem block_x (t : Fin cfg0.N) (r : Fin 512) (k : Fin 2048) :
    (iblk m c 0 t : S512x2048.Idx → EReal) (ix2 r k) = ax m c (ix2 (rowAt t r) k) := by
  refine Eq.trans ?_ (congrFun (V_main_arg0 m c) _)
  unfold rowAt
  blk_ext [iblk, at0 t]

theorem block_co (t : Fin cfg0.N) (r : Fin 512) (k : Fin 1024) :
    (iblk m c 1 t : S512x1024.Idx → EReal) (ix2 r k) = aco m c (ix2 (rowAt t r) k) := by
  refine Eq.trans ?_ (congrFun (V_main_arg1 m c) _)
  unfold rowAt
  blk_ext [iblk, at1 t]

theorem block_ao (t : Fin cfg0.N) (r : Fin 512) (k : Fin 1024) :
    (iblk m c 2 t : S512x1024.Idx → EReal) (ix2 r k) = aao m c (ix2 (rowAt t r) k) := by
  refine Eq.trans ?_ (congrFun (V_main_arg2 m c) _)
  unfold rowAt
  blk_ext [iblk, at2 t]

theorem block_g (t : Fin cfg0.N) (k : Fin 2048) : (iblk m c 3 t : S1x2048.Idx → EReal) (ix2 0 k) = ag m c (ix1 k) := by
  refine Eq.trans ?_ (V_g m c k)
  blk_ext [iblk, at3 t]

/-- The kept weight's rows from a place on. -/
theorem rows_wt (off : ℕ) (inb) (j : Fin 1024) (k : Fin 2048) (h : off + j.val < 2048) :
    rows ![off, 0] inb (wt m c) (ix2 j k) = aw m c (ix2 (⟨off + j.val, h⟩ : Fin 2048) k) := by
  have e : (Rect.unit (s := S2048x2048) ![off, 0] S1024x2048.size inb).emb (ix2 j k) = ix2 (⟨off + j.val, h⟩ : Fin 2048) k := by
    funext a
    refine Fin.ext ?_
    fin_cases a
    · show off + 1 * j.val = off + j.val
      omega
    · show 0 + 1 * k.val = k.val
      omega
  show V m c main_arg3 ((Rect.unit (s := S2048x2048) ![off, 0] S1024x2048.size inb).emb (ix2 j k)) = _
  rw [e, V_main_arg3]

theorem mid_apply (t : Fin cfg0.N) (r : Fin 512) (k : Fin 2048) : k0_pay6 (iblk m c 1 t) (upper (wt m c)) (iblk m c 2 t) (lower (wt m c)) (iblk m c 0 t) (ix2 r k)
    = kmid (ax m c) (aco m c) (aao m c) (aw m c) (rowAt t r) k := by
  rw [pay6_apply]
  unfold kmid
  simp only [block_x, block_co, block_ao]
  have eu : ∀ j : Fin 1024, upper (wt m c) (ix2 j k) = aw m c (ix2 (⟨0 + j.val, by omega⟩ : Fin 2048) k) := fun j => rows_wt m c 0 _ j k (by omega)
  have el : ∀ j : Fin 1024, lower (wt m c) (ix2 j k) = aw m c (ix2 (⟨1024 + j.val, by omega⟩ : Fin 2048) k) := fun j => rows_wt m c 1024 _ j k (by omega)
  simp only [eu, el]

theorem nrm_apply (t : Fin cfg0.N) (r : Fin 512) (k : Fin 2048) :
    nrm (iblk m c 0 t) (iblk m c 1 t) (iblk m c 2 t) (iblk m c 3 t) (wt m c) (ix2 r k)
    = knrm (ax m c) (aco m c) (aao m c) (aw m c) (ag m c) (rowAt t r) k := by
  refine (pay7_apply _ _ _ _ _ _ r k).trans ?_
  unfold knrm
  simp only [mid_apply, block_g]

/-! ## The two arrays -/

def arrX (i : S8192x2048.Idx) : EReal := kmid (ax m c) (aco m c) (aao m c) (aw m c) (i 0) (i 1)

/-- Slab `i` is sixteenth `i % 16` of row `i / 16`. -/
def arrH (i : S131072x128.Idx) : EReal :=
  knrm (ax m c) (aco m c) (aao m c) (aw m c) (ag m c) ⟨(i 0).val / 16, by have h : (i 0).val < 131072 := (i 0).isLt; omega⟩
    ⟨128 * ((i 0).val % 16) + (i 1).val, by have h : (i 1).val < 128 := (i 1).isLt; omega⟩

theorem final6 : (dats m 0 c).arrAt 6 cfg0.N = arrX m c := by
  refine (dats m 0 c).arrAt_eq_of_covers 6 _ (by decide +kernel) fun t hf y => ?_
  blk_simp
  rw [after6]
  have h0 : ((win0_6.blk t).view.emb y 0).val = win0_6.index t (0 : Fin 2) * 512 + 1 * (y 0).val := rfl
  have h1 : ((win0_6.blk t).view.emb y 1).val = win0_6.index t (1 : Fin 2) * 2048 + 1 * (y 1).val := rfl
  have e0 : win0_6.index t (0 : Fin 2) = t.val := congrFun (at6 t) 0
  have e1 : win0_6.index t (1 : Fin 2) = 0 := congrFun (at6 t) 1
  have hy : y = ix2 (⟨(y 0).val, (y 0).isLt⟩ : Fin 512) (⟨(y 1).val, (y 1).isLt⟩ : Fin 2048) := by funext a; fin_cases a <;> rfl
  refine (congrArg (mid (iblk m c 0 t) (iblk m c 1 t) (iblk m c 2 t) (wt m c)) hy).trans ((mid_apply m c t _ _).trans ?_)
  refine congrArg₂ (fun a b => kmid (ax m c) (aco m c) (aao m c) (aw m c) a b) (Fin.ext ?_) (Fin.ext ?_)
  · show 512 * t.val + (y 0).val = ((win0_6.blk t).view.emb y 0).val
    omega
  · show (y 1).val = ((win0_6.blk t).view.emb y 1).val
    omega

theorem final7 : (dats m 0 c).arrAt 7 cfg0.N = arrH m c := by
  refine (dats m 0 c).arrAt_eq_of_covers 7 _ (by decide +kernel) fun t hf y => ?_
  blk_simp
  rw [after7]
  have h0 : ((win0_7.blk t).view.emb y 0).val = win0_7.index t (0 : Fin 2) * 8192 + 1 * (y 0).val := rfl
  have h1 : ((win0_7.blk t).view.emb y 1).val = win0_7.index t (1 : Fin 2) * 128 + 1 * (y 1).val := rfl
  have e0 : win0_7.index t (0 : Fin 2) = t.val := congrFun (at7 t) 0
  have e1 : win0_7.index t (1 : Fin 2) = 0 := congrFun (at7 t) 1
  have l0 : (y 0).val < 8192 := (y 0).isLt
  have l1 : (y 1).val < 128 := (y 1).isLt
  have hy : slabAt y = ix2 (⟨(y 0).val / 16, by omega⟩ : Fin 512) (⟨128 * ((y 0).val % 16) + (y 1).val, by omega⟩ : Fin 2048) := by
    funext a; fin_cases a <;> rfl
  refine (congrArg (nrm (iblk m c 0 t) (iblk m c 1 t) (iblk m c 2 t) (iblk m c 3 t) (wt m c)) hy).trans ((nrm_apply m c t _ _).trans ?_)
  refine congrArg₂ (fun a b => knrm (ax m c) (aco m c) (aao m c) (aw m c) (ag m c) a b) (Fin.ext ?_) (Fin.ext ?_)
  · show 512 * t.val + (y 0).val / 16 = ((win0_7.blk t).view.emb y 0).val / 16
    omega
  · show 128 * ((y 0).val % 16) + (y 1).val = 128 * (((win0_7.blk t).view.emb y 0).val % 16) + ((win0_7.blk t).view.emb y 1).val
    omega

end Cert.Proof.OutProj

end
-- ==== Proof.OutProj.RefVal.lean ====
module

public import proofs.«01_k».proof.Proof.OutProj.Array
public import proofs.«01_k».proof.Proof.Gen.OutProjRefIdeal.Read

@[expose] public section

/-! The reference's rows at an element: the joined row against a column is the two halves' sums, and the same norm. -/

set_option maxRecDepth 16384

noncomputable section

namespace Cert.Proof.OutProj.Ref

open Cert.OutProjRefIdeal Cert.OutProjRefIdeal.Gen Cert.OutProjRefIdeal.Read Idealize.ShloMosaic Idealize.ShloMosaic.TcCoe Idealize.SL.Sem
open Cert.Proof.InProj (rowScale)

variable (x : S8192x2048.Idx → EReal) (co ao : S8192x1024.Idx → EReal) (w : S2048x2048.Idx → EReal) (g : S2048.Idx → EReal)

theorem joined_left (r : Fin 8192) (j : Fin 1024) : val_main_v2 (F := Ideal) co ao (ix2 r (⟨0 + j.val, by omega⟩ : Fin 2048)) = co (ix2 r j) := by
  unfold val_main_v2
  refine (concatenate_pair_apply_left (t := S8192x2048) (s₁ := S8192x1024) (s₂ := S8192x1024) 1 (val_main_v0 (F := Ideal) co) (val_main_v1 (F := Ideal) ao) concatenates_S8192x1024_S8192x1024_S8192x2048_d1 _ rfl (ix2 r j) ?_).trans ?_
  · intro a
    fin_cases a
    · rfl
    · show j.val = 0 + j.val
      omega
  · rfl

theorem joined_right (r : Fin 8192) (j : Fin 1024) : val_main_v2 (F := Ideal) co ao (ix2 r (⟨1024 + j.val, by omega⟩ : Fin 2048)) = ao (ix2 r j) := by
  unfold val_main_v2
  refine (concatenate_pair_apply_right (t := S8192x2048) (s₁ := S8192x1024) (s₂ := S8192x1024) 1 (val_main_v0 (F := Ideal) co) (val_main_v1 (F := Ideal) ao) concatenates_S8192x1024_S8192x1024_S8192x2048_d1 _ rfl rfl (ix2 r j) ?_ ?_).trans ?_
  · intro a ha
    fin_cases a
    · rfl
    · exact absurd rfl ha
  · show j.val + 1024 = 1024 + j.val
    omega
  · rfl

/-- A sum over the joined row is the sums over its halves. -/
theorem sum_halves (f : Fin 2048 → EReal) :
    ∑ k, f k = ∑ j : Fin 1024, f (⟨0 + j.val, by omega⟩ : Fin 2048) + ∑ j : Fin 1024, f (⟨1024 + j.val, by omega⟩ : Fin 2048) := by
  refine (Fin.sum_univ_add (a := 1024) (b := 1024) f).trans (congrArg₂ (· + ·) (Finset.sum_congr rfl fun j _ => congrArg f (Fin.ext ?_)) (Finset.sum_congr rfl fun j _ => congrArg f (Fin.ext ?_)))
  · show j.val = 0 + j.val
    omega
  · rfl

theorem mid_eq (r : Fin 8192) (k : Fin 2048) : val_main_v4 (F := Ideal) x co ao w (ix2 r k) = kmid x co ao w r k := by
  unfold kmid mixed
  rw [val_main_v4_apply, val_main_v3_apply]
  have e : ∀ q, lidx_main_v3 (ix2 r k) q = ix2 r q := fun q => by funext a; fin_cases a <;> rfl
  have e' : ∀ q, ridx_main_v3 (ix2 r k) q = ix2 q k := fun q => by funext a; fin_cases a <;> rfl
  simp only [e, e']
  rw [sum_halves]
  simp only [joined_left, joined_right]
  rfl

theorem scale_eq (r : Fin 8192) : val_main_v12 (F := Ideal) x co ao w (ix2 r 0) = rowScale (kmid x co ao w r) := by
  unfold rowScale
  rw [val_main_v12_apply, val_main_v11_apply, val_main_v9_apply, val_main_v7_apply, val_main_v6_apply, val_main_v8_apply, val_main_v10_apply,
    val_main_cst_apply, val_main_cst_0_apply, val_main_cst_1_apply]
  simp only [val_main_v5_apply]
  have z : FloatOps.ofBits (F := Ideal) .f32 0x00000000#32 = (0 : EReal) := by simp
  rw [z, zero_add]
  have e : ∀ k, idx_main_v6 (idx_main_v7 (ix2 r 0)) k = ix2 r k := fun k => by funext a; fin_cases a <;> rfl
  simp only [e, mid_eq]
  rfl

theorem nrm_eq (r : Fin 8192) (k : Fin 2048) : val_main_v17 (F := Ideal) x co ao w g (ix2 r k) = knrm x co ao w g r k := by
  unfold knrm
  rw [val_main_v17_apply, val_main_v14_apply, val_main_v13_apply, val_main_v16_apply, val_main_v15_apply]
  have e : idx_main_v13 (ix2 r k) = ix2 r 0 := by funext a; fin_cases a <;> rfl
  have e' : idx_main_v15 (idx_main_v16 (ix2 r k)) = ix1 k := by funext a; fin_cases a <;> rfl
  rw [e, e', scale_eq, mid_eq]
  rfl

/-- The slabs: element `(i, l)` is lane `128 (i % 16) + l` of row `i / 16`. -/
theorem slab_eq (i : Fin 131072) (l : Fin 128) : val_main_v18 (F := Ideal) x co ao w g (ix2 i l)
    = knrm x co ao w g (⟨i.val / 16, by omega⟩ : Fin 8192) (⟨128 * (i.val % 16) + l.val, by omega⟩ : Fin 2048) := by
  rw [val_main_v18_apply]
  have e : idx_main_v18 (ix2 i l) = ix2 (⟨i.val / 16, by omega⟩ : Fin 8192) (⟨128 * (i.val % 16) + l.val, by omega⟩ : Fin 2048) := by
    funext a
    refine Fin.ext ?_
    fin_cases a
    · show (i.val * 128 + l.val) / 2048 = i.val / 16
      omega
    · show (i.val * 128 + l.val) % 2048 = 128 * (i.val % 16) + l.val
      omega
  rw [e, nrm_eq]

end Cert.Proof.OutProj.Ref

end
-- ==== Proof.OutProj.Claims.lean ====
module

public import proofs.«01_k».proof.Proof.OutProj.Array
public import proofs.«01_k».proof.Proof.OutProj.RefVal
public import proofs.«01_k».proof.Defs
public import proofs.«01_k».proof.Proof.Gen.OutProj
public import Idealize.ShloMosaic.Lib.Quiescent

@[expose] public section

/-! The claims about the output projection: the runs of the kernel and of the plain mathematics, and their equal results. -/

set_option maxRecDepth 16384

noncomputable section

namespace Cert.Proof.OutProj

open Idealize.ShloMosaic Idealize.ShloMosaic.TcCoe Idealize.SL.Sem

/-- The two programs have one text: their body tables are one. -/
theorem body_same {F : FTy → Type} [FloatOps F] : Cert.OutProj.defs₀ (F := F) = Cert.OutProjIdeal.defs₀ (F := F) := by
  unfold Cert.OutProj.defs₀ Cert.OutProjIdeal.defs₀
  refine congrArg Defs.onTc (funext fun l => funext fun x => ?_)
  match l, x with
  | ⟨0, _⟩, (t, s) => rfl

theorem defs_same {F : FTy → Type} [FloatOps F] : Cert.OutProj.defs (F := F) = Cert.OutProjIdeal.defs (F := F) :=
  congrArg (Pipeline.defs Cert.OutProjIdeal.pcfgs) body_same

/-- The run over bit patterns is the one run. -/
theorem frame_bits : Cert.quiescent_OutProj (hOutProj := Cert.OutProj.Gen.facts) := fun m ρ _ => by
  rw [defs_same]
  exact (θ_run Cert.OutProjIdeal.defs _ _).mono (fun _ h => h) (frame (F := Bits) m ρ)

theorem frame_ideal : Cert.quiescent_OutProjIdeal (hOutProjIdeal := Cert.OutProjIdeal.Gen.facts) := fun m ρ _ =>
  frame (F := Ideal) m ρ

/-- The reference's run leaves its arguments, and it has no semaphores. -/
theorem frame_ref : Cert.quiescent_OutProjRefIdeal (hOutProjRefIdeal := Cert.OutProjRefIdeal.Gen.facts) := fun m ρ _ =>
  (θ_run Cert.OutProjRefIdeal.defs _ _).mono (fun r h => ⟨fun c => (h c).2.2, sem_eq_zero_of_no_sems (by decide) r.2⟩)
    (Cert.OutProjRefIdeal.Value.run (F := Ideal) m ρ)

open Cert.OutProjIdeal Cert.OutProjIdeal.Gen in
/-- The kernel's run at the two arrays. -/
theorem run_arrays (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14_0) = arrX m c
      ∧ r.2.mem ((c.tc : Thread nD τ).loc main_v14_1) = arrH m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨((h.1 c).1 6).trans (final6 m c), ((h.1 c).1 7).trans (final7 m c), args_end m _ h.1 c⟩) (run m ρ)

/-- At every element the results agree: the same row after the residual, and its norm. -/
theorem algebraic : Cert.algebraic_OutProjIdeal_OutProjRefIdeal (hOutProjIdeal := Cert.OutProjIdeal.Gen.facts)
    (hOutProjRefIdeal := Cert.OutProjRefIdeal.Gen.facts) := by
  intro m ρ m' ρ' _ hagree
  refine ⟨arrX m, arrH m, run_arrays m ρ, ?_⟩
  refine (θ_run Cert.OutProjRefIdeal.defs _ _).mono (fun _ h c => ?_) (Cert.OutProjRefIdeal.Value.run (F := Ideal) m' ρ')
  obtain ⟨h0, h1, ha⟩ := h c
  obtain ⟨e0, e1, e2, e3, e4, -⟩ := hagree c
  refine ⟨(h0.trans (Cert.OutProjRefIdeal.Read.val_main_v4_eq _ _ _ _)).trans ?_,
    (h1.trans (Cert.OutProjRefIdeal.Read.val_main_v18_eq _ _ _ _ _)).trans ?_, ha⟩
  · rw [e0, e1, e2, e3]
    funext i
    idx_vars i
    exact Ref.mid_eq _ _ _ _ i0 i1
  · rw [e0, e1, e2, e3, e4]
    funext i
    idx_vars i
    exact Ref.slab_eq _ _ _ _ _ i0 i1

end Cert.Proof.OutProj

end
-- ==== Proof.Router.Rank.lean ====
module

public import proofs.«01_k».proof.Proof.Attn.Softmax
public import Idealize.ShloMosaic.Lib.SortPrefix

@[expose] public section

/-! The first place of a row's greatest entry, and what a stable sort puts at the two first places. -/

noncomputable section

namespace Cert.Proof.Router

open Idealize.ShloMosaic

/-- `i` is the first place at which the row is greatest. -/
structure First {n : ℕ} (x : Fin n → EReal) (i : Fin n) : Prop where
  le : ∀ j, x j ≤ x i
  lt : ∀ j, j < i → x j < x i

theorem First.exists {n : ℕ} (x : Fin (n + 1) → EReal) : ∃ i, First x i := by
  classical
  obtain ⟨k, -, hk⟩ := Finset.exists_max_image (Finset.univ : Finset (Fin (n + 1))) x ⟨0, Finset.mem_univ _⟩
  let s : Finset (Fin (n + 1)) := Finset.univ.filter fun i => ∀ j, x j ≤ x i
  have hs : s.Nonempty := ⟨k, Finset.mem_filter.mpr ⟨Finset.mem_univ _, fun j => hk j (Finset.mem_univ _)⟩⟩
  have hm : ∀ j, x j ≤ x (s.min' hs) := (Finset.mem_filter.mp (s.min'_mem hs)).2
  refine ⟨s.min' hs, hm, fun j hj => lt_of_le_of_ne (hm j) fun e => ?_⟩
  exact absurd (s.min'_le j (Finset.mem_filter.mpr ⟨Finset.mem_univ _, fun q => (hm q).trans e.ge⟩)) (not_le.mpr hj)

theorem First.sup {n : ℕ} {x : Fin n → EReal} {i : Fin n} (h : First x i) : Finset.univ.sup x = x i :=
  le_antisymm (Finset.sup_le fun j _ => h.le j) (Finset.le_sup (Finset.mem_univ i))

/-- The row with one entry taken out. -/
def without {n : ℕ} (x : Fin n → EReal) (i : Fin n) (j : Fin n) : EReal := if j = i then ⊥ else x j

/-- With every entry real, the greatest of the rest is at another place, and is the row's own entry there. -/
theorem First.ne {x : Fin 8 → EReal} {i j : Fin 8} (hx : ∀ k, x k ≠ ⊥) (h : First (without x i) j) : j ≠ i := by
  intro e
  subst e
  obtain ⟨k, hk⟩ : ∃ k : Fin 8, k ≠ j := by
    by_cases h0 : j = 0
    · exact ⟨1, by rw [h0]; decide⟩
    · exact ⟨0, fun q => h0 q.symm⟩
  have := h.le k
  unfold without at this
  rw [if_pos rfl, if_neg hk] at this
  exact hx k (le_bot_iff.mp this)

theorem without_of_ne {n : ℕ} (x : Fin n → EReal) {i j : Fin n} (h : j ≠ i) : without x i j = x j := if_neg h

/-- The first place of a row's greatest entry. -/
def best (x : Fin 8 → EReal) : Fin 8 := (First.exists x).choose

theorem best_first (x : Fin 8 → EReal) : First x (best x) := (First.exists x).choose_spec

/-- The place of the greatest entry of the rest. -/
def next (x : Fin 8 → EReal) : Fin 8 := best (without x (best x))

theorem next_first (x : Fin 8 → EReal) : First (without x (best x)) (next x) := best_first _

/-! ## The router's results at a row, from its logits -/

/-- The group's share among the groups: the largest of eight, softened. -/
def share (G : Fin 8 → EReal) : EReal := Ideal.div 1 (∑ r, Ideal.exp (G r - G (best G)))

/-- The second expert's weight against the first's. -/
def ratio (x : Fin 8 → EReal) : EReal := Ideal.exp (x (next x) - x (best x))

/-- An expert's number, from its group's and its place there. -/
def number (g e : Fin 8) : BitVec 32 := IntOp.addi (IntOp.muli (BitVec.ofNat 32 g.val) 8#32) (BitVec.ofNat 32 e.val)

/-- The two chosen experts of a row with group logits `G` and expert logits `E`. -/
def expertAt (G : Fin 8 → EReal) (E : Fin 8 → Fin 8 → EReal) (b : Fin 2) : BitVec 32 :=
  if b.val = 0 then number (best G) (best (E (best G))) else number (best G) (next (E (best G)))

/-- Their weights, the other lanes zero. -/
def gateAt (G : Fin 8 → EReal) (E : Fin 8 → Fin 8 → EReal) (l : Fin 128) : EReal :=
  if l.val = 0 then Ideal.div (share G) (1 + ratio (E (best G)))
  else if l.val = 1 then Ideal.div (share G * ratio (E (best G))) (1 + ratio (E (best G))) else 0

/-- A row's group logits. -/
def glog (n : Fin 2048 → EReal) (w : (⟨2, ![2048, 8]⟩ : Shape).Idx → EReal) (b : (⟨1, ![8]⟩ : Shape).Idx → EReal) (r : Fin 8) : EReal :=
  ∑ k, n k * w (ix2 k r) + b (ix1 r)

/-- A row's expert logits, by group. -/
def elog (n : Fin 2048 → EReal) (w : (⟨2, ![2048, 64]⟩ : Shape).Idx → EReal) (b : (⟨1, ![64]⟩ : Shape).Idx → EReal) (g e : Fin 8) : EReal :=
  ∑ k, n k * w (ix2 k (⟨8 * g.val + e.val, by omega⟩ : Fin 64)) + b (ix1 (⟨8 * g.val + e.val, by omega⟩ : Fin 64))

/-! ## The stable sort, greatest first -/

theorem insertBefore_same {ι : Type} (B R : ι → ι → Bool) (a : ι) (l : List ι) (h : ∀ b ∈ l, B b a = R b a) :
    insertBefore B a l = insertBefore R a l := by
  induction l with
  | nil => rfl
  | cons b l ih =>
    unfold insertBefore
    rw [h b List.mem_cons_self, ih fun c hc => h c (List.mem_cons_of_mem _ hc)]

/-- Only the comparison of a later place with an earlier one is asked for. -/
theorem stableSort_same {ι : Type} (B R : ι → ι → Bool) (l : List ι) (h : l.Pairwise fun a b => B b a = R b a) :
    stableSort B l = stableSort R l := by
  induction l with
  | nil => rfl
  | cons a l ih =>
    rw [List.pairwise_cons] at h
    unfold stableSort
    rw [ih h.2]
    exact insertBefore_same B R a _ fun b hb => h.1 b ((perm_stableSort R l).mem_iff.mp hb)

/-- Greater first. -/
def above {n : ℕ} (x : Fin n → EReal) (k k' : Fin n) : Bool := decide (x k' < x k)

/-- Greater first, then the earlier place. -/
def ranked {n : ℕ} (x : Fin n → EReal) (k k' : Fin n) : Bool := decide (x k' < x k) || (decide (x k = x k') && decide (k < k'))

theorem get_same {n : ℕ} {l l' : List (Fin n)} (e : l = l') (h : n = l.length) (h' : n = l'.length) (k : Fin n) :
    l.get (k.cast h) = l'.get (k.cast h') := by
  subst e
  rfl

theorem sortedFrom_above {n : ℕ} (x : Fin n → EReal) (k : Fin n) : sortedFrom (above x) k = sortedFrom (ranked x) k := by
  have e : sortPositions n (above x) = sortPositions n (ranked x) := by
    refine stableSort_same _ _ _ ((List.pairwise_lt_finRange n).imp fun {a b} hab => ?_)
    unfold above ranked
    have : ¬ b < a := not_lt.mpr hab.le
    simp [this]
  exact get_same e _ _ k

theorem ranked_total {n : ℕ} (x : Fin n → EReal) : StrictTotalBefore (ranked x) := by
  classical
  have h := StrictTotalBefore.of_key_then_position (fun a b : EReal => decide (b < a)) x (fun a => by simp)
    (fun a b c hab hbc => by
      simp only [decide_eq_true_eq] at hab hbc ⊢
      exact hbc.trans hab)
    (fun a b => by
      simp only [decide_eq_true_eq]
      rcases lt_trichotomy a b with h | h | h
      · exact Or.inr (Or.inr h)
      · exact Or.inr (Or.inl h)
      · exact Or.inl h)
  have e : ranked x = fun k k' : Fin n => decide (x k' < x k) || (decide (x k = x k') && decide (k < k')) := rfl
  rw [e]
  convert h

theorem not_ranked {n : ℕ} {x : Fin n → EReal} {i : Fin n} (h : First x i) (p : Fin n) : ranked x p i = false := by
  unfold ranked
  rcases lt_or_ge p i with hp | hp
  · have h' := h.lt p hp
    simp [not_lt.mpr h'.le, h'.ne]
  · simp [not_lt.mpr (h.le p), not_lt.mpr hp]

/-- The first place of the sort. -/
theorem sorted_first {n : ℕ} (hn : 1 ≤ n) {x : Fin n → EReal} {i : Fin n} (h : First x i) :
    sortedFrom (above x) ⟨0, hn⟩ = i := by
  rw [sortedFrom_above]
  exact (ranked_total x).sortedFrom_eq_of_prefix hn (fun _ : Fin 1 => i) (fun a b _ => Subsingleton.elim a b)
    (fun a b hab => absurd hab (by omega)) (fun _ p _ => not_ranked h p) 0

/-- The two first places of the sort. -/
theorem sorted_two {x : Fin 8 → EReal} {i j : Fin 8} (hx : ∀ k, x k ≠ ⊥) (h : First x i) (h' : First (without x i) j) (r : Fin 2) :
    sortedFrom (above x) (r.castLE (by decide)) = ![i, j] r := by
  have hne : j ≠ i := First.ne hx h'
  rw [sortedFrom_above]
  refine (ranked_total x).sortedFrom_eq_of_prefix (by decide) ![i, j] ?_ ?_ ?_ r
  · intro a b hab
    fin_cases a <;> fin_cases b
    · rfl
    · exact absurd hab.symm hne
    · exact absurd hab hne
    · rfl
  · intro a b hab
    fin_cases a <;> fin_cases b
    · exact absurd hab (by decide)
    · exact not_ranked h j
    · exact absurd hab (by decide)
    · exact absurd hab (by decide)
  · intro a p hp
    fin_cases a
    · exact not_ranked h p
    · have hpi : p ≠ i := fun e => hp 0 e.symm
      have hs := not_ranked h' p
      unfold ranked at hs ⊢
      rw [without_of_ne x hpi, without_of_ne x hne] at hs
      exact hs

/-! ## The least number marked -/

/-- The least of the marked places' numbers, the rest counting as `8`. -/
theorem least_marked (p : Fin 8 → Bool) (i : Fin 8) (hi : p i = true) (hl : ∀ j, j < i → p j = false) :
    (Finset.univ : Finset (Fin 8)).fold IntOp.minsi 2147483647#32 (fun k => if p k = true then BitVec.ofNat 32 k.val else 8#32) = BitVec.ofNat 32 i.val := by
  revert p i
  decide +kernel

end Cert.Proof.Router

end
-- ==== Proof.Router.Block.lean ====
module

public import proofs.«01_k».proof.Proof.Router.Rank
public import proofs.«01_k».proof.Proof.OutProj.Array

@[expose] public section

/-! The router's part of the body at a column: the group, the two experts, and their weights, from the column's logits. -/

set_option maxRecDepth 16384

noncomputable section

namespace Cert.Proof.Router

open Cert.OutProjIdeal Cert.OutProjIdeal.Gen Idealize.ShloMosaic Idealize.ShloMosaic.TcCoe Idealize.SL.Sem

/-- The rows' numbers. -/
abbrev nums : IVec S8x512 32 := iota .tc S8x512 32 [0] iota_S8x512_d0_w32

theorem nums_apply (r : Fin 8) (c : Fin 512) : nums (ix2 r c) = BitVec.ofNat 32 r.val := by
  unfold nums
  pointwise

/-- A column of eight rows. -/
def col (y : FVec Ideal S8x512 .f32) (c : Fin 512) (r : Fin 8) : EReal := y (ix2 r c)

theorem top_apply (y : FVec Ideal S8x512 .f32) (c : Fin 512) : k0_pay32 y (ix2 0 c) = Finset.univ.sup (col y c) := by
  have e : Ideal.ofBits .f32 0xFF800000#32 = (⊥ : EReal) := by simp [Ideal.ofBits, Ideal.ieee]
  unfold k0_pay32 col
  pointwise
  rw [e]
  rfl

theorem first_apply (y : FVec Ideal S8x512 .f32) (c : Fin 512) (i : Fin 8) (h : First (col y c) i) :
    k0_pay33 nums y (ix2 0 c) = BitVec.ofNat 32 i.val := by
  have ht := (top_apply y c).trans h.sup
  unfold k0_pay33
  generalize k0_pay32 y = z at ht
  refine Eq.trans ?_ (least_marked (fun r => decide (y (ix2 r c) = z (ix2 0 c))) i (by simp [ht, col]) fun j hj => ?_)
  · pointwise
    simp only [decide_eq_true_eq]
  · have := (h.lt j hj).ne
    simpa [ht, col] using this

theorem pick_eq {α : Type} (a b : BitVec 32) (x y : α) : Scalar.select (IntOp.cmpi .eq a b) x y = if a = b then x else y := by
  by_cases h : a = b
  · subst h; simp [Scalar.select, IntOp.cmpi]
  · have h' : (a == b) = false := by simpa using h
    show (if BitVec.ofBool (a == b) = 1#1 then x else y) = _
    rw [h', if_neg h]; rfl

theorem same_num : ∀ r i : Fin 8, BitVec.ofNat 32 r.val = BitVec.ofNat 32 i.val ↔ r = i := by decide

/-- The column with its first greatest entry taken out. -/
theorem rest_apply (y : FVec Ideal S8x512 .f32) (c : Fin 512) (i : Fin 8) (h : First (col y c) i) :
    col (k0_pay34 nums y) c = without (col y c) i := by
  have e : Ideal.ofBits .f32 0xFF800000#32 = (⊥ : EReal) := by simp [Ideal.ofBits, Ideal.ieee]
  have hf := first_apply y c i h
  funext r
  unfold col without k0_pay34
  generalize k0_pay33 nums y = z at hf
  have hi := same_num r i
  pointwise
  rw [hf, e, pick_eq]
  simp only [hi]

/-- The group's rows. -/
theorem sel_apply (v : FVec Ideal S128x512 .f32) (z : IVec S1x512 32) (c : Fin 512) (g : Fin 8) (h : z (ix2 0 c) = BitVec.ofNat 32 g.val) (e : Fin 8) :
    k0_pay31 v z (ix2 e c) = v (ix2 (⟨8 + 8 * g.val + e.val, by omega⟩ : Fin 128) c) := by
  unfold k0_pay31
  pointwise
  rw [h]
  simp only [pick_eq]
  have e0 : ∀ a : Fin 8, ∀ b : ℕ, b < 8 → (BitVec.ofNat 32 a.val = BitVec.ofNat 32 b ↔ a.val = b) := by decide
  have hg := g.isLt
  rw [if_congr (e0 g 7 (by decide)) rfl rfl, if_congr (e0 g 6 (by decide)) rfl rfl, if_congr (e0 g 5 (by decide)) rfl rfl,
    if_congr (e0 g 4 (by decide)) rfl rfl, if_congr (e0 g 3 (by decide)) rfl rfl, if_congr (e0 g 2 (by decide)) rfl rfl,
    if_congr (e0 g 1 (by decide)) rfl rfl, if_congr (e0 g 0 (by decide)) rfl rfl]
  have key : ∀ a b : Fin 128, a.val = b.val → v (ix2 a c) = v (ix2 b c) := fun a b h => by rw [Fin.ext h]
  split_ifs
  all_goals first
    | (refine key _ _ ?_; show _ = 8 + 8 * g.val + e.val; dsimp only; omega)
    | (exfalso; omega)

theorem gate_apply (p q : FVec Ideal S1x512 .f32) (c : Fin 512) (l : Fin 128) : k0_pay1 p q k0_pay41 k0_pay42 (ix2 c l)
    = if l.val = 0 then p (ix2 0 c) else if l.val = 1 then q (ix2 0 c) else 0 := by
  have z : Ideal.ofBits .f32 0x00000000#32 = (0 : EReal) := by simp
  unfold k0_pay1 k0_pay41 k0_pay42
  pointwise
  have e0 : ∀ a : Fin 128, (BitVec.ofNat 32 a.val = 0#32 ↔ a.val = 0) ∧ (BitVec.ofNat 32 a.val = 1#32 ↔ a.val = 1) := by decide +kernel
  rw [pick_eq, pick_eq, if_congr (e0 l).1 rfl rfl, if_congr (e0 l).2 rfl rfl]

section
variable (y : FVec Ideal S8x512 .f32) (q : FVec Ideal S1x512 .f32) (z : IVec S1x512 32) (c : Fin 512) (i j : Fin 8)
  (hi : First (col y c) i) (hj : First (without (col y c) i) j)
include hi hj

theorem second_apply : k0_pay33 nums (k0_pay34 nums y) (ix2 0 c) = BitVec.ofNat 32 j.val := by
  refine first_apply (k0_pay34 nums y) c j ?_
  rw [rest_apply y c i hi]
  exact hj

theorem two_apply : k0_pay36 nums y (ix2 0 c) = Ideal.exp (without (col y c) i j - col y c i) := by
  have h1 : k0_pay35 nums y (ix2 0 c) = without (col y c) i j := by
    refine (top_apply (k0_pay34 nums y) c).trans ?_
    rw [rest_apply y c i hi]
    exact hj.sup
  have h2 : k0_pay32 y (ix2 0 c) = col y c i := (top_apply y c).trans hi.sup
  unfold k0_pay36
  pointwise
  rw [h1, h2]

theorem gate1_apply : k0_pay37 nums q y (ix2 0 c)
    = Ideal.div (q (ix2 0 c)) (1 + Ideal.exp (without (col y c) i j - col y c i)) := by
  have h := two_apply y c i j hi hj
  unfold k0_pay37
  pointwise
  rw [h]

theorem gate2_apply : k0_pay38 nums q y (ix2 0 c)
    = Ideal.div (q (ix2 0 c) * Ideal.exp (without (col y c) i j - col y c i)) (1 + Ideal.exp (without (col y c) i j - col y c i)) := by
  have h := two_apply y c i j hi hj
  unfold k0_pay38
  pointwise
  rw [h]

theorem num1_apply : k0_pay39 nums z y (ix2 0 c) = IntOp.addi (IntOp.muli (z (ix2 0 c)) 8#32) (BitVec.ofNat 32 i.val) := by
  have h := first_apply y c i hi
  unfold k0_pay39
  pointwise
  rw [h]

theorem num2_apply : k0_pay40 nums z y (ix2 0 c) = IntOp.addi (IntOp.muli (z (ix2 0 c)) 8#32) (BitVec.ofNat 32 j.val) := by
  have h := second_apply y c i j hi hj
  have e : k0_pay40 nums z y = addi (muli z (broadcast S1x512 8#32)) (k0_pay33 nums (k0_pay34 nums y)) := rfl
  rw [e]
  pointwise
  rw [h]

end

section
variable (n : FVec Ideal S512x2048 .f32) (wr wr' : Vec Ideal S2048x256 .bf16) (br : Vec Ideal S128x1 .f32) (c : Fin 512)

/-- A row of the logits. -/
theorem logit_apply (r : Fin 128) : k0_pay24 n wr wr' br (ix2 r c)
    = (∑ k, n (ix2 c k) * wr (ix2 k (⟨0 + r.val, by omega⟩ : Fin 256)) + ∑ k, n (ix2 c k) * wr (ix2 k (⟨128 + r.val, by omega⟩ : Fin 256)))
      + ∑ k, (n (ix2 c k) - n (ix2 c k)) * wr' (ix2 k (⟨0 + r.val, by omega⟩ : Fin 256)) + br (ix2 r 0) := by
  unfold k0_pay24
  pointwise

theorem group_rows (r : Fin 8) : k0_pay25 n wr wr' br (ix2 r c) = k0_pay24 n wr wr' br (ix2 (⟨0 + r.val, by omega⟩ : Fin 128) c) := by
  unfold k0_pay25
  pointwise

theorem group_sum (g : Fin 8) (h : First (col (k0_pay25 n wr wr' br) c) g) : k0_pay30 (k0_pay28 n wr wr' br) (k0_pay29 (F := Ideal)) (ix2 0 c)
    = Ideal.div 1 (∑ r, Ideal.exp (col (k0_pay25 n wr wr' br) c r - col (k0_pay25 n wr wr' br) c g)) := by
  have ht : k0_pay26 n wr wr' br (ix2 0 c) = col (k0_pay25 n wr wr' br) c g := (top_apply (k0_pay25 n wr wr' br) c).trans h.sup
  unfold k0_pay30 k0_pay28 k0_pay29
  generalize k0_pay26 n wr wr' br = z at ht
  unfold col at ht ⊢
  generalize k0_pay25 n wr wr' br = y at ht ⊢
  pointwise
  rw [ht]
end

end Cert.Proof.Router

end
-- ==== Proof.Router.Host.lean ====
module

public import proofs.«01_k».proof.Proof.Router.Block
public import Idealize.ShloMosaic.Lib.Routing.OpsOne

@[expose] public section

/-! The router's matrix and bias as the call is given them: the two matrices side by side, and what is left of them; and the two biases. -/

set_option maxRecDepth 16384

noncomputable section

namespace Cert.Proof.Router

open Cert.OutProjIdeal Cert.OutProjIdeal.Gen Idealize.ShloMosaic Idealize.ShloMosaic.TcCoe Idealize.SL.Sem

variable (m : (ℓ : Loc nD τ sig) → Buf (Elt Ideal) ℓ) (c : Dev nD)

abbrev awg : S2048x8.Idx → EReal := m ((c.tc : Thread nD τ).loc main_arg5)
abbrev abg : S8.Idx → EReal := m ((c.tc : Thread nD τ).loc main_arg6)
abbrev awe : S2048x64.Idx → EReal := m ((c.tc : Thread nD τ).loc main_arg7)
abbrev abe : S64.Idx → EReal := m ((c.tc : Thread nD τ).loc main_arg8)

/-- The two matrices side by side, the lanes after them zero. -/
def both : FVec Ideal S2048x128 .f32 :=
  pad S2048x128 ![0, 0] ![0, 56] ![0, 0] (concatenate S2048x72 1 [⟨S2048x8, awg m c⟩, ⟨S2048x64, awe m c⟩] concatenates_S2048x8_S2048x64_S2048x72_d1)
    (sitofp (F := Ideal) .f32 (constantI S_ 32 0#32)) pads_S2048x72_S2048x128_000_0560 h_S_

theorem V_both : V m c main_v6
    = concatenate S2048x256 1 [⟨S2048x128, both m c⟩, ⟨S2048x128, subf (both m c) (both m c)⟩] concatenates_S2048x128_S2048x128_S2048x256_d1 := by
  unfold V
  simp only [hostOps0, hostOps0_1, hostOps0_2, List.flatten_cons, List.flatten_nil, List.append_nil, List.cons_append, List.nil_append]
  entry_read
  rfl

theorem V_high (k : Fin 2048) (r : Fin 128) : V m c main_v6 (ix2 k (⟨0 + r.val, by omega⟩ : Fin 256)) = both m c (ix2 k r) := by
  rw [V_both]
  generalize both m c = y
  pointwise

theorem V_low (k : Fin 2048) (r : Fin 128) : V m c main_v6 (ix2 k (⟨128 + r.val, by omega⟩ : Fin 256)) = both m c (ix2 k r) - both m c (ix2 k r) := by
  rw [V_both]
  generalize both m c = y
  pointwise

theorem both_group (k : Fin 2048) (r : Fin 8) : both m c (ix2 k (⟨0 + r.val, by omega⟩ : Fin 128)) = awg m c (ix2 k r) := by
  unfold both
  pointwise
  exact dif_pos (by omega)

theorem both_expert (k : Fin 2048) (r : Fin 64) : both m c (ix2 k (⟨8 + r.val, by omega⟩ : Fin 128)) = awe m c (ix2 k r) := by
  unfold both
  pointwise
  exact dif_pos (by omega)

theorem V_bias : V m c main_v12
    = Host.scatter scatter_S128x1_S2_S72_0_1_01_0 (fun _ b => b) (broadcastInDim S128x1 ![] bcast_S_S128x1 (constant (F := Ideal) S_ .f32 0#32))
      (concatenate S2 0 [⟨S1, broadcastInDim S1 ![] bcast_S_S1 (constantI S_ 32 0#32)⟩, ⟨S1, broadcastInDim S1 ![] bcast_S_S1 (constantI S_ 32 0#32)⟩] concatenates_S1_S1_S2_d0)
      (concatenate S72 0 [⟨S8, abg m c⟩, ⟨S64, abe m c⟩] concatenates_S8_S64_S72_d0) := by
  unfold V
  simp only [hostOps0, hostOps0_1, hostOps0_2, List.flatten_cons, List.flatten_nil, List.append_nil, List.cons_append, List.nil_append]
  entry_read
  rfl

theorem bias_row (r : Fin 72) : V m c main_v12 (ix2 (⟨r.val, by omega⟩ : Fin 128) 0)
    = concatenate S72 0 [⟨S8, abg m c⟩, ⟨S64, abe m c⟩] concatenates_S8_S64_S72_d0 (ix1 r) := by
  have e : (concatenate S2 0 [⟨S1, broadcastInDim S1 ![] bcast_S_S1 (constantI S_ 32 0#32)⟩, ⟨S1, broadcastInDim S1 ![] bcast_S_S1 (constantI S_ 32 0#32)⟩] concatenates_S1_S1_S2_d0) = fun _ => 0#32 := by
    funext q
    idx_vars q
    fin_cases q0 <;> rfl
  rw [V_bias, e, Idealize.ShloMosaic.Routing.scatter_column_signed (R := 128) (C := 1) (U := 72) _ (by decide) rfl rfl rfl]
  have hr := r.isLt
  have e0 : (ix2 (⟨r.val, by omega⟩ : Fin 128) (0 : Fin 1) 0).val = r.val := rfl
  have e1 : (ix2 (⟨r.val, by omega⟩ : Fin 128) (0 : Fin 1) 1).val = 0 := rfl
  have z : (0#32).toInt = 0 := rfl
  rw [if_pos ⟨by rw [e1, z]; rfl, by rw [e0, z]; omega, by rw [e0, z]; push_cast; omega⟩]
  refine congrArg _ (congrArg ix1 (Fin.ext ?_))
  show ((r.val : Int) - (0#32).toInt).toNat % 72 = r.val
  rw [z]
  omega

theorem V_bias_group (r : Fin 8) : V m c main_v12 (ix2 (⟨0 + r.val, by omega⟩ : Fin 128) 0) = abg m c (ix1 r) := by
  refine (congrArg (V m c main_v12) ?_).trans ((bias_row m c ⟨0 + r.val, by omega⟩).trans ?_)
  · rfl
  · pointwise

theorem V_bias_expert (r : Fin 64) : V m c main_v12 (ix2 (⟨8 + r.val, by omega⟩ : Fin 128) 0) = abe m c (ix1 r) := by
  refine (congrArg (V m c main_v12) ?_).trans ((bias_row m c ⟨8 + r.val, by omega⟩).trans ?_)
  · rfl
  · pointwise

end Cert.Proof.Router

end
-- ==== Proof.Router.Real.lean ====
module

public import proofs.«01_k».proof.Proof.Router.Rank
public import proofs.«01_k».proof.Proof.OutProj.Array

@[expose] public section

/-! With real weights of the norm and of the router every number from the normalised rows to the logits is real. -/

noncomputable section

namespace Cert.Proof.Router

open Idealize.ShloMosaic Cert.Proof.InProj Cert.Proof.OutProj

/-- A real number among the extended reals. -/
def IsReal (x : EReal) : Prop := ∃ r : ℝ, x = r

variable {x y : EReal}

theorem IsReal.add (hx : IsReal x) (hy : IsReal y) : IsReal (x + y) := by
  obtain ⟨a, rfl⟩ := hx
  obtain ⟨b, rfl⟩ := hy
  exact ⟨a + b, (EReal.coe_add a b).symm⟩

theorem IsReal.mul (hx : IsReal x) (hy : IsReal y) : IsReal (x * y) := by
  obtain ⟨a, rfl⟩ := hx
  obtain ⟨b, rfl⟩ := hy
  exact ⟨a * b, (EReal.coe_mul a b).symm⟩

theorem IsReal.sum {n : ℕ} {f : Fin n → EReal} (h : ∀ k, IsReal (f k)) : IsReal (∑ k, f k) := by
  choose g hg using h
  exact ⟨∑ k, g k, by rw [← sum_coe]; exact Finset.sum_congr rfl fun k _ => hg k⟩

theorem IsReal.sub_self (hx : IsReal x) : x - x = 0 := by
  obtain ⟨a, rfl⟩ := hx
  rw [← EReal.coe_sub, _root_.sub_self, EReal.coe_zero]

theorem IsReal.ne_bot (hx : IsReal x) : x ≠ ⊥ := by
  obtain ⟨a, rfl⟩ := hx
  exact EReal.coe_ne_bot a

theorem width : Ideal.ofBits .f32 0x45000000#32 = ((2048 : ℝ) : EReal) := by
  simp [Ideal.ofBits, Ideal.ieee]
  norm_num
  rw [← EReal.coe_mul]
  norm_num

theorem little : ∃ r : ℝ, 0 < r ∧ Ideal.ofBits .f32 0x358637BD#32 = (r : EReal) := by
  simp [Ideal.ofBits, Ideal.ieee]
  exact ⟨8796093 * (2 ^ 43)⁻¹, by positivity, (EReal.coe_mul _ _).symm⟩

theorem scale_real {f : Fin 2048 → EReal} (h : ∀ k, IsReal (f k)) : IsReal (rowScale f) := by
  choose g hg using h
  obtain ⟨e, he, hl⟩ := little
  have hs : ∑ k, f k * f k = ((∑ k, g k * g k : ℝ) : EReal) := by
    rw [← sum_coe]
    exact Finset.sum_congr rfl fun k _ => by rw [hg k, EReal.coe_mul]
  have hp : 0 ≤ ∑ k, g k * g k := Finset.sum_nonneg fun k _ => mul_self_nonneg (g k)
  have hq : 0 < (∑ k, g k * g k) * (2048 : ℝ)⁻¹ + e := add_pos_of_nonneg_of_pos (mul_nonneg hp (by norm_num)) he
  unfold rowScale
  rw [hs, hl, width, div_real _ _ (by norm_num), ← EReal.coe_mul, ← EReal.coe_add]
  refine ⟨(Real.sqrt ((∑ k, g k * g k) * (2048 : ℝ)⁻¹ + e))⁻¹, ?_⟩
  show (if _ < 0 then _ else if _ = 0 then _ else _) = _
  rw [if_neg (not_lt.mpr hq.le), if_neg hq.ne']

theorem square_nonneg (x : EReal) : 0 ≤ x * x := by
  induction x using EReal.rec with
  | bot => rw [EReal.bot_mul_bot]; exact le_top
  | top => rw [EReal.top_mul_top]; exact le_top
  | coe a => rw [← EReal.coe_mul]; exact_mod_cast mul_self_nonneg a

theorem square_top (h : ¬ IsReal x) : x * x = ⊤ := by
  induction x using EReal.rec with
  | bot => exact EReal.bot_mul_bot
  | top => exact EReal.top_mul_top
  | coe a => exact absurd ⟨a, rfl⟩ h

/-- A row times its scale is real, also where the row is not: then the scale is 0. -/
theorem row_real (f : Fin 2048 → EReal) (k : Fin 2048) : IsReal (f k * rowScale f) := by
  by_cases h : ∀ k, IsReal (f k)
  · exact (h k).mul (scale_real h)
  obtain ⟨j, hj⟩ := not_forall.mp h
  obtain ⟨e, he, hl⟩ := little
  have hs : ∑ k, f k * f k = ⊤ := top_le_iff.mp
    ((square_top hj).ge.trans (Finset.single_le_sum (f := fun k => f k * f k) (fun k _ => square_nonneg (f k)) (Finset.mem_univ j)))
  have hr : rowScale f = 0 := by
    unfold rowScale
    rw [hs, hl, width, div_real _ _ (by norm_num), EReal.top_mul_coe_of_pos (by norm_num), EReal.top_add_coe]
    rfl
  exact ⟨0, by rw [hr, mul_zero, EReal.coe_zero]⟩

open Cert.OutProjIdeal in
/-- The normalised rows. -/
theorem nrm_real {x : S8192x2048.Idx → EReal} {co ao : S8192x1024.Idx → EReal} {w : S2048x2048.Idx → EReal} {g : S2048.Idx → EReal}
    (hg : ∀ i, IsReal (g i)) (r : Fin 8192) (k : Fin 2048) : IsReal (knrm x co ao w g r k) :=
  (row_real (kmid x co ao w r) k).mul (hg _)

theorem glog_real {n : Fin 2048 → EReal} {w : (⟨2, ![2048, 8]⟩ : Shape).Idx → EReal} {b : (⟨1, ![8]⟩ : Shape).Idx → EReal}
    (hn : ∀ k, IsReal (n k)) (hw : ∀ i, IsReal (w i)) (hb : ∀ i, IsReal (b i)) (r : Fin 8) : IsReal (glog n w b r) :=
  (IsReal.sum fun k => (hn k).mul (hw _)).add (hb _)

theorem elog_real {n : Fin 2048 → EReal} {w : (⟨2, ![2048, 64]⟩ : Shape).Idx → EReal} {b : (⟨1, ![64]⟩ : Shape).Idx → EReal}
    (hn : ∀ k, IsReal (n k)) (hw : ∀ i, IsReal (w i)) (hb : ∀ i, IsReal (b i)) (g e : Fin 8) : IsReal (elog n w b g e) :=
  (IsReal.sum fun k => (hn k).mul (hw _)).add (hb _)

end Cert.Proof.Router

end
-- ==== Proof.Router.Array.lean ====
module

public import proofs.«01_k».proof.Proof.Router.Host
public import proofs.«01_k».proof.Proof.Router.Real

@[expose] public section

/-! The router's two result arrays, exactly: the chosen experts' numbers, and their weights. -/

set_option maxRecDepth 16384

noncomputable section

namespace Cert.Proof.Router

open Cert.OutProjIdeal Cert.OutProjIdeal.Gen Idealize.ShloMosaic Idealize.ShloMosaic.TcCoe Idealize.SL.Sem
open Cert.Proof.OutProj

variable (m : (ℓ : Loc nD τ sig) → Buf (Elt Ideal) ℓ) (ρ : Dev nD → PrngReg) (c : Dev nD)

theorem at4 : ∀ t : Fin cfg0.N, win0_4.index t = ![0, 0] := by decide +kernel
theorem at5 : ∀ t : Fin cfg0.N, win0_5.index t = ![0, 0] := by decide +kernel
theorem at8 : ∀ t : Fin cfg0.N, win0_8.index t = ![0, t.val] := by decide +kernel
theorem at9 : ∀ t : Fin cfg0.N, win0_9.index t = ![t.val, 0] := by decide +kernel

theorem block_wr (t : Fin cfg0.N) (k : Fin 2048) (r : Fin 256) : (iblk m c 4 t : S2048x256.Idx → EReal) (ix2 k r) = V m c main_v6 (ix2 k r) := by
  blk_ext [iblk, at4 t]

theorem block_br (t : Fin cfg0.N) (r : Fin 128) : (iblk m c 5 t : S128x1.Idx → EReal) (ix2 r 0) = V m c main_v12 (ix2 r 0) := by
  blk_ext [iblk, at5 t]

/-- The normalised row. -/
abbrev rowN (R : Fin 8192) : Fin 2048 → EReal := knrm (ax m c) (aco m c) (aao m c) (aw m c) (ag m c) R

/-- A row's group logits and expert logits. -/
abbrev G (R : Fin 8192) : Fin 8 → EReal := glog (rowN m c R) (awg m c) (abg m c)
abbrev E (R : Fin 8192) : Fin 8 → Fin 8 → EReal := elog (rowN m c R) (awe m c) (abe m c)

/-- Every element of the norm's weights and of the router's weights and biases is real. -/
structure Reals : Prop where
  g : ∀ i, IsReal (ag m c i)
  wg : ∀ i, IsReal (awg m c i)
  bg : ∀ i, IsReal (abg m c i)
  we : ∀ i, IsReal (awe m c i)
  be : ∀ i, IsReal (abe m c i)

section
variable {m c} (H : Reals m c)
include H

theorem Reals.row (R : Fin 8192) (k : Fin 2048) : IsReal (rowN m c R k) := nrm_real H.g R k

theorem Reals.expert (R : Fin 8192) (g e : Fin 8) : IsReal (E m c R g e) := elog_real (H.row R) H.we H.be g e
end

/-- The rows the router is given at a point. -/
abbrev nn (t : Fin cfg0.N) : FVec Ideal S512x2048 .f32 := nrm (iblk m c 0 t) (iblk m c 1 t) (iblk m c 2 t) (iblk m c 3 t) (wt m c)

variable {m c} (H : Reals m c)
include H

theorem logit (t : Fin cfg0.N) (s : Fin 512) (r : Fin 128) (hb : ∀ k, IsReal (both m c (ix2 k r))) :
    k0_pay24 (nn m c t) (iblk m c 4 t) (iblk m c 4 t) (iblk m c 5 t) (ix2 r s)
    = ∑ k, rowN m c (rowAt t s) k * both m c (ix2 k r) + V m c main_v12 (ix2 r 0) := by
  have en : ∀ k, nn m c t (ix2 s k) = rowN m c (rowAt t s) k := fun k => nrm_apply m c t s k
  refine (logit_apply (nn m c t) (iblk m c 4 t) (iblk m c 4 t) (iblk m c 5 t) s r).trans ?_
  refine congrArg₂ (· + ·) ?_ (block_br m c t r)
  refine (congrArg₂ (· + ·) (congrArg₂ (· + ·) (Finset.sum_congr rfl fun k _ => ?_) (Finset.sum_eq_zero fun k _ => ?_)) (Finset.sum_eq_zero fun k _ => ?_)).trans
    ((add_zero _).trans (add_zero _))
  · exact congrArg₂ (· * ·) (en k) ((block_wr m c t k _).trans (V_high m c k r))
  · refine (congrArg₂ (· * ·) (en k) (((block_wr m c t k _).trans (V_low m c k r)).trans (hb k).sub_self)).trans (mul_zero _)
  · rw [en k, (H.row _ _).sub_self, zero_mul]

theorem logit_group (t : Fin cfg0.N) (s : Fin 512) :
    col (k0_pay25 (nn m c t) (iblk m c 4 t) (iblk m c 4 t) (iblk m c 5 t)) s = G m c (rowAt t s) := by
  funext r
  refine (group_rows _ _ _ _ _ r).trans ((logit H t s _ fun k => ?_).trans ?_)
  · rw [both_group]
    exact H.wg _
  · exact congrArg₂ (· + ·) (Finset.sum_congr rfl fun k _ => congrArg₂ (· * ·) rfl (both_group m c k r)) (V_bias_group m c r)

theorem logit_expert (t : Fin cfg0.N) (s : Fin 512) (z : IVec S1x512 32) (g : Fin 8) (h : z (ix2 0 s) = BitVec.ofNat 32 g.val) :
    col (k0_pay31 (k0_pay24 (nn m c t) (iblk m c 4 t) (iblk m c 4 t) (iblk m c 5 t)) z) s = E m c (rowAt t s) g := by
  funext e
  have hg := g.isLt
  have he := e.isLt
  have hi : (⟨8 + 8 * g.val + e.val, by omega⟩ : Fin 128) = ⟨8 + (⟨8 * g.val + e.val, by omega⟩ : Fin 64).val, by show 8 + (8 * g.val + e.val) < 128; omega⟩ :=
    Fin.ext (by show 8 + 8 * g.val + e.val = 8 + (8 * g.val + e.val); omega)
  refine (sel_apply _ z s g h e).trans ?_
  rw [hi]
  refine (logit H t s _ fun k => ?_).trans ?_
  · rw [both_expert]
    exact H.we _
  · exact congrArg₂ (· + ·) (Finset.sum_congr rfl fun k _ => congrArg₂ (· * ·) rfl (both_expert m c k ⟨8 * g.val + e.val, by omega⟩)) (V_bias_expert m c ⟨8 * g.val + e.val, by omega⟩)

/-- The group a row is sent to. -/
theorem group_num (t : Fin cfg0.N) (s : Fin 512) :
    k0_pay27 (nn m c t) (iblk m c 4 t) (iblk m c 4 t) (iblk m c 5 t) (ix2 0 s) = BitVec.ofNat 32 (best (G m c (rowAt t s))).val :=
  first_apply (k0_pay25 (nn m c t) (iblk m c 4 t) (iblk m c 4 t) (iblk m c 5 t)) s _ (by rw [logit_group H]; exact best_first _)

theorem group_share (t : Fin cfg0.N) (s : Fin 512) :
    k0_pay30 (k0_pay28 (nn m c t) (iblk m c 4 t) (iblk m c 4 t) (iblk m c 5 t)) (k0_pay29 (F := Ideal)) (ix2 0 s) = share (G m c (rowAt t s)) := by
  refine (group_sum _ _ _ _ s (best (G m c (rowAt t s))) (by rw [logit_group H]; exact best_first _)).trans ?_
  rw [logit_group H]
  rfl

theorem chosen_apply (t : Fin cfg0.N) (b : Fin 2) (s : Fin 512) :
    chosen (nn m c t) (iblk m c 4 t) (iblk m c 4 t) (iblk m c 5 t) (ix2 b s) = expertAt (G m c (rowAt t s)) (E m c (rowAt t s)) b := by
  have hg := group_num H t s
  have he := logit_expert H t s _ _ hg
  have e : laneOf (ix2 b s) = ix2 0 s := by funext a; fin_cases a <;> rfl
  unfold chosen twoRows expertAt number
  rw [e]
  refine if_congr Iff.rfl ?_ ?_
  · refine (num1_apply _ _ s (best (E m c (rowAt t s) (best (G m c (rowAt t s))))) (next (E m c (rowAt t s) (best (G m c (rowAt t s))))) ?_ ?_).trans ?_
    · rw [he]; exact best_first _
    · rw [he]; exact next_first _
    · rw [hg]
  · refine (num2_apply _ _ s (best (E m c (rowAt t s) (best (G m c (rowAt t s))))) (next (E m c (rowAt t s) (best (G m c (rowAt t s))))) ?_ ?_).trans ?_
    · rw [he]; exact best_first _
    · rw [he]; exact next_first _
    · rw [hg]

theorem gates_apply (t : Fin cfg0.N) (s : Fin 512) (l : Fin 128) :
    gates (nn m c t) (iblk m c 4 t) (iblk m c 4 t) (iblk m c 5 t) (ix2 s l) = gateAt (G m c (rowAt t s)) (E m c (rowAt t s)) l := by
  have hg := group_num H t s
  have he := logit_expert H t s _ _ hg
  have hs := group_share H t s
  have hn : without (E m c (rowAt t s) (best (G m c (rowAt t s)))) (best (E m c (rowAt t s) (best (G m c (rowAt t s))))) (next (E m c (rowAt t s) (best (G m c (rowAt t s)))))
      = E m c (rowAt t s) (best (G m c (rowAt t s))) (next (E m c (rowAt t s) (best (G m c (rowAt t s))))) :=
    if_neg (First.ne (fun k => (H.expert _ _ k).ne_bot) (next_first _))
  unfold gates gateAt ratio
  refine (gate_apply _ _ s l).trans (if_congr Iff.rfl ?_ (if_congr Iff.rfl ?_ rfl))
  · refine (gate1_apply _ _ s (best (E m c (rowAt t s) (best (G m c (rowAt t s))))) (next (E m c (rowAt t s) (best (G m c (rowAt t s))))) ?_ ?_).trans ?_
    · rw [he]; exact best_first _
    · rw [he]; exact next_first _
    · rw [he, hn, hs]
  · refine (gate2_apply _ _ s (best (E m c (rowAt t s) (best (G m c (rowAt t s))))) (next (E m c (rowAt t s) (best (G m c (rowAt t s))))) ?_ ?_).trans ?_
    · rw [he]; exact best_first _
    · rw [he]; exact next_first _
    · rw [he, hn, hs]

/-! ## The two arrays -/

omit H in
variable (m c) in
def arrE (i : S2x8192.Idx) : BitVec 32 := expertAt (G m c (i 1)) (E m c (i 1)) (i 0)

omit H in
variable (m c) in
def arrG (i : S8192x128.Idx) : EReal := gateAt (G m c (i 0)) (E m c (i 0)) (i 1)

theorem final8 : (dats m 0 c).arrAt 8 cfg0.N = arrE m c := by
  refine (dats m 0 c).arrAt_eq_of_covers 8 _ (by decide +kernel) fun t hf y => ?_
  blk_simp
  rw [after8]
  have h0 : ((win0_8.blk t).view.emb y 0).val = win0_8.index t (0 : Fin 2) * 2 + 1 * (y 0).val := rfl
  have h1 : ((win0_8.blk t).view.emb y 1).val = win0_8.index t (1 : Fin 2) * 512 + 1 * (y 1).val := rfl
  have e0 : win0_8.index t (0 : Fin 2) = 0 := congrFun (at8 t) 0
  have e1 : win0_8.index t (1 : Fin 2) = t.val := congrFun (at8 t) 1
  have hy : y = ix2 (⟨(y 0).val, (y 0).isLt⟩ : Fin 2) (⟨(y 1).val, (y 1).isLt⟩ : Fin 512) := by funext a; fin_cases a <;> rfl
  refine (congrArg (chosen (nn m c t) (iblk m c 4 t) (iblk m c 4 t) (iblk m c 5 t)) hy).trans ((chosen_apply H t _ _).trans ?_)
  refine congrArg₂ (fun a b => expertAt (G m c a) (E m c a) b) (Fin.ext ?_) (Fin.ext ?_)
  · show 512 * t.val + (y 1).val = ((win0_8.blk t).view.emb y 1).val
    omega
  · show (y 0).val = ((win0_8.blk t).view.emb y 0).val
    omega

theorem final9 : (dats m 0 c).arrAt 9 cfg0.N = arrG m c := by
  refine (dats m 0 c).arrAt_eq_of_covers 9 _ (by decide +kernel) fun t hf y => ?_
  blk_simp
  rw [after9]
  have h0 : ((win0_9.blk t).view.emb y 0).val = win0_9.index t (0 : Fin 2) * 512 + 1 * (y 0).val := rfl
  have h1 : ((win0_9.blk t).view.emb y 1).val = win0_9.index t (1 : Fin 2) * 128 + 1 * (y 1).val := rfl
  have e0 : win0_9.index t (0 : Fin 2) = t.val := congrFun (at9 t) 0
  have e1 : win0_9.index t (1 : Fin 2) = 0 := congrFun (at9 t) 1
  have hy : y = ix2 (⟨(y 0).val, (y 0).isLt⟩ : Fin 512) (⟨(y 1).val, (y 1).isLt⟩ : Fin 128) := by funext a; fin_cases a <;> rfl
  refine (congrArg (gates (nn m c t) (iblk m c 4 t) (iblk m c 4 t) (iblk m c 5 t)) hy).trans ((gates_apply H t _ _).trans ?_)
  refine congrArg₂ (fun a b => gateAt (G m c a) (E m c a) b) (Fin.ext ?_) (Fin.ext ?_)
  · show 512 * t.val + (y 0).val = ((win0_9.blk t).view.emb y 0).val
    omega
  · show (y 1).val = ((win0_9.blk t).view.emb y 1).val
    omega

end Cert.Proof.Router

end
-- ==== Proof.Router.RefOps.lean ====
module

public import proofs.«01_k».proof.Proof.Router.Rank
public import proofs.«01_k».proof.Proof.Gen.RouterRefIdeal.Read

@[expose] public section

/-! The plain mathematics' sorted rows and picked rows, at an element. -/

set_option maxRecDepth 16384

noncomputable section

namespace Cert.Proof.Router.Ref

open Cert.RouterRefIdeal Cert.RouterRefIdeal.Gen Cert.RouterRefIdeal.Read Idealize.ShloMosaic Idealize.ShloMosaic.TcCoe Idealize.SL.Sem

/-- A row of eight. -/
abbrev line (x : S8192x8.Idx → EReal) (r : Fin 8192) : Fin 8 → EReal := fun k => x (ix2 r k)

theorem along_eq (r : Fin 8192) (k0 k : Fin 8) : Shape.Idx.along (s := S8192x8) (ix2 r k0) (1 : Fin 2) k = ix2 r k := by
  unfold Shape.Idx.along
  funext a
  fin_cases a <;> rfl

theorem order_eq (x : S8192x8.Idx → EReal) (r : Fin 8192) (k : Fin 8) :
    (fun k1 k2 : Fin 8 => (Ideal.cmp .ogt (x (Shape.Idx.along (s := S8192x8) (ix2 r k) (1 : Fin 2) k1)) (x (Shape.Idx.along (s := S8192x8) (ix2 r k) (1 : Fin 2) k2)) == 1#1))
      = above (line x r) := by
  funext k1 k2
  rw [along_eq, along_eq, Ideal.cmp_ogt]
  unfold above line
  cases decide (x (ix2 r k2) < x (ix2 r k1)) <;> rfl

/-- The sorted row's entry of a rank. -/
theorem sorted_value (x : S8192x8.Idx → EReal) (r : Fin 8192) (k : Fin 8) :
    (Host.sort2 S8192x8 1 (fun l r => FloatOps.cmpfTotal (F := Ideal) (φ := .f32) .gt l.1 r.1) x (fun i => BitVec.ofNat 32 (i 1).val)).1 (ix2 r k)
      = x (ix2 r (sortedFrom (above (line x r)) k)) := by
  rw [← order_eq x r k]
  exact congrArg x (along_eq r k _)

/-- Its place before the sort. -/
theorem sorted_place (x : S8192x8.Idx → EReal) (r : Fin 8192) (k : Fin 8) :
    (Host.sort2 S8192x8 1 (fun l r => FloatOps.cmpfTotal (F := Ideal) (φ := .f32) .gt l.1 r.1) x (fun i => BitVec.ofNat 32 (i 1).val)).2 (ix2 r k)
      = BitVec.ofNat 32 (sortedFrom (above (line x r)) k).val := by
  rw [← order_eq x r k]
  exact congrArg (fun i : S8192x8.Idx => BitVec.ofNat 32 (i 1).val) (along_eq r k _)

theorem first_index (x : S8192x8.Idx → EReal) (r : Fin 8192) :
    (Host.topK S8192x1 1 (FloatOps.cmpfTotal (F := Ideal) (φ := .f32) .gt) x sliceFits_S8192x8_S8192x1).2 (ix2 r 0) = BitVec.ofNat 32 (best (line x r)).val := by
  have h := sorted_place x r 0
  rw [show (0 : Fin 8) = ⟨0, by decide⟩ from rfl, sorted_first (by decide) (best_first (line x r))] at h
  unfold Host.topK
  pointwise
  exact h

theorem two_value (x : S8192x8.Idx → EReal) (r : Fin 8192) (hx : ∀ k, line x r k ≠ ⊥) (q : Fin 2) :
    (Host.topK S8192x2 1 (FloatOps.cmpfTotal (F := Ideal) (φ := .f32) .gt) x sliceFits_S8192x8_S8192x2).1 (ix2 r q) = line x r (![best (line x r), next (line x r)] q) := by
  have h := sorted_value x r (q.castLE (by decide))
  rw [sorted_two hx (best_first (line x r)) (next_first (line x r)) q] at h
  unfold Host.topK
  pointwise
  exact h

theorem two_index (x : S8192x8.Idx → EReal) (r : Fin 8192) (hx : ∀ k, line x r k ≠ ⊥) (q : Fin 2) :
    (Host.topK S8192x2 1 (FloatOps.cmpfTotal (F := Ideal) (φ := .f32) .gt) x sliceFits_S8192x8_S8192x2).2 (ix2 r q) = BitVec.ofNat 32 (![best (line x r), next (line x r)] q).val := by
  have h := sorted_place x r (q.castLE (by decide))
  rw [sorted_two hx (best_first (line x r)) (next_first (line x r)) q] at h
  unfold Host.topK
  pointwise
  exact h

/-! ## A row picked by number -/

theorem num_toNat : ∀ g : Fin 8, (BitVec.ofNat 32 g.val).toInt.toNat = g.val := by decide

theorem pick_row (x : S8192x8.Idx → EReal) (z : S8192x1x1.Idx → BitVec 32) (r : Fin 8192) (g : Fin 8) (h : z (ix3 r 0 0) = BitVec.ofNat 32 g.val) :
    Host.gather gather_S8192x8_S8192x1x1_S8192x1_n_1_0_0_1_2_11 x z (ix2 r 0) = x (ix2 r g) := by
  have ge := num_toNat g
  unfold Host.gather
  refine congrArg x (funext fun a => Fin.ext ?_)
  show gather_S8192x8_S8192x1x1_S8192x1_n_1_0_0_1_2_11.start (ix2 r 0) z a + gather_S8192x8_S8192x1x1_S8192x1_n_1_0_0_1_2_11.batchCoord (ix2 r 0) a
      + gather_S8192x8_S8192x1x1_S8192x1_n_1_0_0_1_2_11.offCoord (ix2 r 0) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S8192x8_S8192x1x1_S8192x1_n_1_0_0_1_2_11.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S8192x8_S8192x1x1_S8192x1_n_1_0_0_1_2_11.startIndexMap from List.mem_singleton.mpr rfl)]
    have hsi : gather_S8192x8_S8192x1x1_S8192x1_n_1_0_0_1_2_11.siIdx (ix2 r 0) ⟨List.idxOf (1 : Fin 2) gather_S8192x8_S8192x1x1_S8192x1_n_1_0_0_1_2_11.startIndexMap,
        List.idxOf_lt_length_iff.2 (List.mem_singleton.mpr rfl)⟩ = ix3 r 0 0 := by
      funext b; refine Fin.ext ?_
      match b with
      | ⟨0, _⟩ => rfl
      | ⟨1, _⟩ => rfl
      | ⟨2, _⟩ => rfl
    rw [hsi, h, ge]
    show min g.val 7 = g.val
    omega

theorem pick_block (x : S8192x8x8.Idx → EReal) (z : S8192x1x1.Idx → BitVec 32) (r : Fin 8192) (g e : Fin 8) (h : z (ix3 r 0 0) = BitVec.ofNat 32 g.val) :
    Host.gather gather_S8192x8x8_S8192x1x1_S8192x1x8_2_1_0_0_1_2_118 x z (ix3 r 0 e) = x (ix3 r g e) := by
  have ge := num_toNat g
  unfold Host.gather
  refine congrArg x (funext fun a => Fin.ext ?_)
  show gather_S8192x8x8_S8192x1x1_S8192x1x8_2_1_0_0_1_2_118.start (ix3 r 0 e) z a + gather_S8192x8x8_S8192x1x1_S8192x1x8_2_1_0_0_1_2_118.batchCoord (ix3 r 0 e) a
      + gather_S8192x8x8_S8192x1x1_S8192x1x8_2_1_0_0_1_2_118.offCoord (ix3 r 0 e) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gather_S8192x8x8_S8192x1x1_S8192x1x8_2_1_0_0_1_2_118.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S8192x8x8_S8192x1x1_S8192x1x8_2_1_0_0_1_2_118.startIndexMap from List.mem_singleton.mpr rfl)]
    have hsi : gather_S8192x8x8_S8192x1x1_S8192x1x8_2_1_0_0_1_2_118.siIdx (ix3 r 0 e) ⟨List.idxOf (1 : Fin 3) gather_S8192x8x8_S8192x1x1_S8192x1x8_2_1_0_0_1_2_118.startIndexMap,
        List.idxOf_lt_length_iff.2 (List.mem_singleton.mpr rfl)⟩ = ix3 r 0 0 := by
      funext b; refine Fin.ext ?_
      match b with
      | ⟨0, _⟩ => rfl
      | ⟨1, _⟩ => rfl
      | ⟨2, _⟩ => rfl
    rw [hsi, h, ge]
    show min g.val 7 = g.val
    omega
  · rw [GatherDims.batchCoord_eq_zero _ _ _ (fun h => absurd (List.mem_singleton.mp h) (by decide))]
    unfold GatherDims.start GatherDims.offCoord
    rw [dif_neg (show ¬((2 : Fin 3) ∈ gather_S8192x8x8_S8192x1x1_S8192x1x8_2_1_0_0_1_2_118.startIndexMap) from fun h => absurd (List.mem_singleton.mp h) (by decide)),
      dif_pos (show (2 : Fin 3) ∈ gather_S8192x8x8_S8192x1x1_S8192x1x8_2_1_0_0_1_2_118.sKept by decide)]
    simp only [Nat.zero_add]
    rfl

end Cert.Proof.Router.Ref

end
-- ==== Proof.Router.RefVal.lean ====
module

public import proofs.«01_k».proof.Proof.Router.RefOps
public import proofs.«01_k».proof.Proof.Router.Real
public import proofs.«01_k».proof.Proof.OutProj.RefVal

@[expose] public section

/-! The plain mathematics' router at an element: the same experts and the same weights, from the logits. -/

set_option maxRecDepth 16384

noncomputable section

namespace Cert.Proof.Router.Ref

open Cert.RouterRefIdeal Cert.RouterRefIdeal.Gen Cert.RouterRefIdeal.Read Idealize.ShloMosaic Idealize.ShloMosaic.TcCoe Idealize.SL.Sem
open Cert.Proof.OutProj (kmid knrm)

variable (x : S8192x2048.Idx → EReal) (co ao : S8192x1024.Idx → EReal) (w : S2048x2048.Idx → EReal) (g : S2048.Idx → EReal)
  (wg : S2048x8.Idx → EReal) (bg : S8.Idx → EReal) (we : S2048x64.Idx → EReal) (be : S64.Idx → EReal)

abbrev gl (r : Fin 8192) : Fin 8 → EReal := glog (knrm x co ao w g r) wg bg
abbrev el (r : Fin 8192) : Fin 8 → Fin 8 → EReal := elog (knrm x co ao w g r) we be

theorem nrm_eq (r : Fin 8192) (k : Fin 2048) : val_main_v17 (F := Ideal) x co ao w g (ix2 r k) = knrm x co ao w g r k :=
  Cert.Proof.OutProj.Ref.nrm_eq x co ao w g r k

theorem group_logit (r : Fin 8192) (e : Fin 8) : val_main_v21 (F := Ideal) x co ao w g wg bg (ix2 r e) = gl x co ao w g wg bg r e := by
  have el : ∀ k, lidx_main_v18 (ix2 r e) k = ix2 r k := fun k => by funext a; fin_cases a <;> rfl
  have er : ∀ k, ridx_main_v18 (ix2 r e) k = ix2 k e := fun k => by funext a; fin_cases a <;> rfl
  have eb : idx_main_v19 (idx_main_v20 (ix2 r e)) = ix1 e := by funext a; fin_cases a; rfl
  rw [val_main_v21_apply, val_main_v18_apply, val_main_v20_apply, val_main_v19_apply, eb]
  simp only [el, er, nrm_eq]
  rfl

theorem group_line (r : Fin 8192) : line (val_main_v21 (F := Ideal) x co ao w g wg bg) r = gl x co ao w g wg bg r :=
  funext fun e => group_logit x co ao w g wg bg r e

theorem bottom : Ideal.ofBits .f32 0xFF800000#32 = (⊥ : EReal) := by simp [Ideal.ofBits, Ideal.ieee]

theorem group_top (r : Fin 8192) : val_main_v24 (F := Ideal) x co ao w g wg bg (ix1 r) = gl x co ao w g wg bg r (best (gl x co ao w g wg bg r)) := by
  refine Eq.trans ?_ (best_first (gl x co ao w g wg bg r)).sup
  rw [← group_line]
  unfold val_main_v24 val_main_v22 val_main_v23 val_main_cst_3 val_main_cst_2
  generalize val_main_v21 (F := Ideal) x co ao w g wg bg = y
  pointwise
  rw [bottom]
  exact bot_sup_eq _

theorem group_exp (r : Fin 8192) (e : Fin 8) : val_main_v28 (F := Ideal) x co ao w g wg bg (ix2 r e)
    = Ideal.exp (gl x co ao w g wg bg r e - gl x co ao w g wg bg r (best (gl x co ao w g wg bg r))) := by
  rw [← group_top, ← group_logit]
  unfold val_main_v28 val_main_v27 val_main_v26 val_main_v25
  generalize val_main_v24 (F := Ideal) x co ao w g wg bg = z
  generalize val_main_v21 (F := Ideal) x co ao w g wg bg = y
  pointwise

theorem group_part (r : Fin 8192) (e : Fin 8) : val_main_v32 (F := Ideal) x co ao w g wg bg (ix2 r e)
    = Ideal.div (val_main_v28 (F := Ideal) x co ao w g wg bg (ix2 r e)) (∑ k : Fin 8, val_main_v28 (F := Ideal) x co ao w g wg bg (ix2 r k)) := by
  unfold val_main_v32 val_main_v31 val_main_v30 val_main_v29 val_main_cst_4
  generalize val_main_v28 (F := Ideal) x co ao w g wg bg = y
  pointwise

theorem group_index (r : Fin 8192) : val_main_v33 (F := Ideal) x co ao w g wg bg (ix1 r) = BitVec.ofNat 32 (best (gl x co ao w g wg bg r)).val := by
  have e : idx_main_v33 (ix1 r) = ix2 r 0 := by
    funext a
    refine Fin.ext ?_
    fin_cases a
    · show r.val / 1 = r.val
      omega
    · rfl
  rw [val_main_v33_apply, e, ← group_line]
  exact first_index _ r

/-! ## Within range, so nothing is masked -/

theorem not_below : ∀ g : Fin 8, Scalar.select (IntOp.cmpi .slt (BitVec.ofNat 32 g.val) 0#32) (IntOp.addi (BitVec.ofNat 32 g.val) 8#32) (BitVec.ofNat 32 g.val)
    = BitVec.ofNat 32 g.val := by decide

theorem within : ∀ g : Fin 8, (Finset.univ : Finset (Fin 1)).fold IntOp.andi 1#1 (fun _ =>
    IntOp.andi (IntOp.cmpi .sge (BitVec.ofNat 32 g.val) 0#32) (IntOp.cmpi .sle (BitVec.ofNat 32 g.val) 7#32)) = 1#1 := by decide

theorem start0 (r : Fin 8192) : val_main_call0_v5 (F := Ideal) x co ao w g wg bg (ix3 r 0 0) = BitVec.ofNat 32 (best (gl x co ao w g wg bg r)).val := by
  have h := group_index x co ao w g wg bg r
  refine Eq.trans ?_ (not_below (best (gl x co ao w g wg bg r)))
  rw [← h]
  unfold val_main_call0_v5 val_main_call0_v4 val_main_call0_v3 val_main_call0_v2 val_main_call0_v1 val_main_call0_v0 val_main_call0_c val_main_call0_c_0 val_main_v34
  generalize val_main_v33 (F := Ideal) x co ao w g wg bg = y
  pointwise

theorem mask0 (r : Fin 8192) : val_main_call0_v12 (F := Ideal) x co ao w g wg bg (ix2 r 0) = 1#1 := by
  have h := start0 x co ao w g wg bg r
  refine Eq.trans ?_ (within (best (gl x co ao w g wg bg r)))
  rw [← h]
  unfold val_main_call0_v12 val_main_call0_v11 val_main_call0_v10 val_main_call0_v9 val_main_call0_v8 val_main_call0_v7 val_main_call0_v6 val_main_call0_c_1 val_main_call0_c_2 val_main_call0_c_3
  generalize val_main_call0_v5 (F := Ideal) x co ao w g wg bg = y
  pointwise
  refine Finset.fold_congr fun k _ => ?_
  rw [Subsingleton.elim k 0]

theorem start1 (r : Fin 8192) : val_main_call1_v4 (F := Ideal) x co ao w g wg bg (ix3 r 0 0) = BitVec.ofNat 32 (best (gl x co ao w g wg bg r)).val := by
  have h := group_index x co ao w g wg bg r
  refine Eq.trans ?_ (not_below (best (gl x co ao w g wg bg r)))
  rw [← h]
  unfold val_main_call1_v4 val_main_call1_v3 val_main_call1_v2 val_main_call1_v1 val_main_call1_v0 val_main_call1_c val_main_call1_c_0 val_main_v41
  generalize val_main_v33 (F := Ideal) x co ao w g wg bg = y
  pointwise

theorem mask1 (r : Fin 8192) : val_main_call1_v11 (F := Ideal) x co ao w g wg bg (ix2 r 0) = 1#1 := by
  have h := start1 x co ao w g wg bg r
  refine Eq.trans ?_ (within (best (gl x co ao w g wg bg r)))
  rw [← h]
  unfold val_main_call1_v11 val_main_call1_v10 val_main_call1_v9 val_main_call1_v8 val_main_call1_v7 val_main_call1_v6 val_main_call1_v5 val_main_call1_c_1 val_main_call1_c_2 val_main_call1_c_3
  generalize val_main_call1_v4 (F := Ideal) x co ao w g wg bg = y
  pointwise
  refine Finset.fold_congr fun k _ => ?_
  rw [Subsingleton.elim k 0]

theorem select_one {α : Type} (a b : α) : Scalar.select (1#1) a b = a := rfl

/-- The chosen group's expert logits. -/
theorem expert_logit (r : Fin 8192) (q e : Fin 8) : val_main_v40 (F := Ideal) x co ao w g we be (ix3 r q e) = el x co ao w g we be r q e := by
  have ej : idx_main_v40 (ix3 r q e) = ix2 r (⟨8 * q.val + e.val, by omega⟩ : Fin 64) := by
    have hr := r.isLt
    have hq := q.isLt
    have he := e.isLt
    funext a
    refine Fin.ext ?_
    fin_cases a
    · show ((r.val * 8 + q.val) * 8 + e.val) / 64 = r.val
      omega
    · show ((r.val * 8 + q.val) * 8 + e.val) % 64 = 8 * q.val + e.val
      omega
  rw [val_main_v40_apply, ej]
  generalize hj : (⟨8 * q.val + e.val, by omega⟩ : Fin 64) = j
  have el : ∀ k, lidx_main_v36 (ix2 r j) k = ix2 r k := fun k => by funext a; fin_cases a <;> rfl
  have er : ∀ k, ridx_main_v36 (ix2 r j) k = ix2 k j := fun k => by funext a; fin_cases a <;> rfl
  have eb : idx_main_v37 (idx_main_v38 (ix2 r j)) = ix1 j := by funext a; fin_cases a; rfl
  rw [val_main_v39_apply, val_main_v36_apply, val_main_v38_apply, val_main_v37_apply, eb]
  simp only [el, er, nrm_eq]
  rw [← hj]
  rfl

theorem expert_line (r : Fin 8192) : line (val_main_v43 (F := Ideal) x co ao w g wg bg we be) r = el x co ao w g we be r (best (gl x co ao w g wg bg r)) := by
  funext e
  have h := pick_block (val_main_v40 (F := Ideal) x co ao w g we be) _ r _ e (start1 x co ao w g wg bg r)
  have hm := mask1 x co ao w g wg bg r
  rw [expert_logit] at h
  refine Eq.trans ?_ h
  show val_main_v43 (F := Ideal) x co ao w g wg bg we be (ix2 r e) = val_main_call1_v12 (F := Ideal) x co ao w g wg bg we be (ix3 r 0 e)
  unfold val_main_v43 val_main_v42 val_main_call1_v13 val_main_call1_v14 val_main_call1_cst
  generalize val_main_call1_v12 (F := Ideal) x co ao w g wg bg we be = y
  generalize val_main_call1_v11 (F := Ideal) x co ao w g wg bg = z at hm
  pointwise
  rw [hm]
  rfl

section
variable (hg : ∀ r e, IsReal (gl x co ao w g wg bg r e)) (he : ∀ r q e, IsReal (el x co ao w g we be r q e))
include hg

theorem group_share (r : Fin 8192) : val_main_v35 (F := Ideal) x co ao w g wg bg (ix2 r 0) = share (gl x co ao w g wg bg r) := by
  have h := pick_row (val_main_v32 (F := Ideal) x co ao w g wg bg) _ r _ (start0 x co ao w g wg bg r)
  rw [group_part] at h
  simp only [group_exp] at h
  rw [(hg r _).sub_self] at h
  have e1 : Ideal.exp 0 = (1 : EReal) := by
    rw [← EReal.coe_zero, exp_coe, Real.exp_zero, EReal.coe_one]
  rw [e1] at h
  rw [val_main_v35_apply, mask0]
  exact h

theorem share_real (r : Fin 8192) : IsReal (share (gl x co ao w g wg bg r)) := by
  obtain ⟨s, hs, e⟩ := den_real (F := gl x co ao w g wg bg r) Finset.univ_nonempty fun k _ => hg r k
  rw [(best_first (gl x co ao w g wg bg r)).sup] at e
  unfold share
  rw [e, div_real _ _ hs, one_mul]
  exact ⟨_, rfl⟩

end

end Cert.Proof.Router.Ref

end
-- ==== Proof.Router.RefGate.lean ====
module

public import proofs.«01_k».proof.Proof.Router.RefVal

@[expose] public section

/-! The plain mathematics' two results of the router, exactly. -/

set_option maxRecDepth 16384

noncomputable section

namespace Cert.Proof.Router.Ref

open Cert.RouterRefIdeal Cert.RouterRefIdeal.Gen Cert.RouterRefIdeal.Read Idealize.ShloMosaic Idealize.ShloMosaic.TcCoe Idealize.SL.Sem
open Cert.Proof.OutProj (kmid knrm)

variable (x : S8192x2048.Idx → EReal) (co ao : S8192x1024.Idx → EReal) (w : S2048x2048.Idx → EReal) (g : S2048.Idx → EReal)
  (wg : S2048x8.Idx → EReal) (bg : S8.Idx → EReal) (we : S2048x64.Idx → EReal) (be : S64.Idx → EReal)
  (hg : ∀ r e, IsReal (gl x co ao w g wg bg r e)) (he : ∀ r q e, IsReal (el x co ao w g we be r q e))

/-- The chosen group's expert logits. -/
abbrev cl (r : Fin 8192) : Fin 8 → EReal := el x co ao w g we be r (best (gl x co ao w g wg bg r))

section
include he

theorem value_eq (r : Fin 8192) (q : Fin 2) : val_main_values_5 (F := Ideal) x co ao w g wg bg we be (ix2 r q)
    = cl x co ao w g wg bg we be r (![best (cl x co ao w g wg bg we be r), next (cl x co ao w g wg bg we be r)] q) := by
  have hl := expert_line x co ao w g wg bg we be r
  have h := two_value (val_main_v43 (F := Ideal) x co ao w g wg bg we be) r (by rw [hl]; exact fun k => (he _ _ k).ne_bot) q
  rw [hl] at h
  exact h

theorem index_eq (r : Fin 8192) (q : Fin 2) : val_main_indices_6 (F := Ideal) x co ao w g wg bg we be (ix2 r q)
    = BitVec.ofNat 32 (![best (cl x co ao w g wg bg we be r), next (cl x co ao w g wg bg we be r)] q).val := by
  have hl := expert_line x co ao w g wg bg we be r
  have h := two_index (val_main_v43 (F := Ideal) x co ao w g wg bg we be) r (by rw [hl]; exact fun k => (he _ _ k).ne_bot) q
  rw [hl] at h
  exact h

theorem two_top (r : Fin 8192) : val_main_v46 (F := Ideal) x co ao w g wg bg we be (ix1 r) = cl x co ao w g wg bg we be r (best (cl x co ao w g wg bg we be r)) := by
  have h0 := value_eq x co ao w g wg bg we be he r 0
  have h1 := value_eq x co ao w g wg bg we be he r 1
  have hle := (best_first (cl x co ao w g wg bg we be r)).le (next (cl x co ao w g wg bg we be r))
  have hm : max (val_main_values_5 (F := Ideal) x co ao w g wg bg we be (ix2 r 0)) (val_main_values_5 (F := Ideal) x co ao w g wg bg we be (ix2 r 1))
      = cl x co ao w g wg bg we be r (best (cl x co ao w g wg bg we be r)) := by
    rw [h0, h1]
    exact max_eq_left hle
  refine Eq.trans ?_ hm
  unfold val_main_v46 val_main_v45 val_main_v44 val_main_cst_7 val_main_cst_8
  generalize val_main_values_5 (F := Ideal) x co ao w g wg bg we be = y
  pointwise
  rw [bottom]
  have e : (Finset.univ : Finset (Fin 2)).fold max (⊥ : EReal) (fun q => y (ix2 r q)) = max (y (ix2 r 0)) (y (ix2 r 1)) := by
    show Finset.univ.sup (fun q : Fin 2 => y (ix2 r q)) = _
    rw [show (Finset.univ : Finset (Fin 2)) = {0, 1} from rfl, Finset.sup_insert, Finset.sup_singleton]
  rw [e]
  exact bot_sup_eq _

theorem two_exp (r : Fin 8192) (q : Fin 2) : val_main_v50 (F := Ideal) x co ao w g wg bg we be (ix2 r q)
    = if q.val = 0 then 1 else ratio (cl x co ao w g wg bg we be r) := by
  have ht := two_top x co ao w g wg bg we be he r
  have hv := value_eq x co ao w g wg bg we be he r q
  have e : val_main_v50 (F := Ideal) x co ao w g wg bg we be (ix2 r q)
      = Ideal.exp (val_main_values_5 (F := Ideal) x co ao w g wg bg we be (ix2 r q) - val_main_v46 (F := Ideal) x co ao w g wg bg we be (ix1 r)) := by
    unfold val_main_v50 val_main_v49 val_main_v48 val_main_v47
    generalize val_main_v46 (F := Ideal) x co ao w g wg bg we be = z
    generalize val_main_values_5 (F := Ideal) x co ao w g wg bg we be = y
    pointwise
  rw [e, ht, hv]
  fin_cases q
  · have h0 := (he r (best (gl x co ao w g wg bg r)) (best (cl x co ao w g wg bg we be r))).sub_self
    refine (congrArg Ideal.exp h0).trans ?_
    rw [← EReal.coe_zero, exp_coe, Real.exp_zero, EReal.coe_one]
    rfl
  · rfl

theorem ratio_real (r : Fin 8192) : ∃ t : ℝ, 0 < t ∧ ratio (cl x co ao w g wg bg we be r) = (t : EReal) := by
  obtain ⟨a, ha⟩ := he r (best (gl x co ao w g wg bg r)) (next (cl x co ao w g wg bg we be r))
  obtain ⟨b, hb⟩ := he r (best (gl x co ao w g wg bg r)) (best (cl x co ao w g wg bg we be r))
  refine ⟨Real.exp (a - b), Real.exp_pos _, ?_⟩
  refine (congrArg Ideal.exp (congrArg₂ (· - ·) ha hb)).trans ?_
  show Ideal.exp ((a : EReal) - (b : EReal)) = _
  rw [← EReal.coe_sub, exp_coe]

/-- The chosen experts' numbers. -/
theorem experts (b : Fin 2) (r : Fin 8192) : val_main_v62 (F := Ideal) x co ao w g wg bg we be (ix2 b r)
    = expertAt (gl x co ao w g wg bg r) (el x co ao w g we be r) b := by
  have hi := index_eq x co ao w g wg bg we be he r b
  have hn := group_index x co ao w g wg bg r
  have e : val_main_v62 (F := Ideal) x co ao w g wg bg we be (ix2 b r)
      = IntOp.addi (IntOp.muli (val_main_v33 (F := Ideal) x co ao w g wg bg (ix1 r)) 8#32) (val_main_indices_6 (F := Ideal) x co ao w g wg bg we be (ix2 r b)) := by
    unfold val_main_v62 val_main_v61 val_main_v60 val_main_v59 val_main_v58 val_main_v57 val_main_c
    generalize val_main_indices_6 (F := Ideal) x co ao w g wg bg we be = z
    generalize val_main_v33 (F := Ideal) x co ao w g wg bg = y
    pointwise
  rw [e, hi, hn]
  fin_cases b <;> rfl

include hg

/-- Their weights. -/
theorem weights (r : Fin 8192) (l : Fin 128) : val_main_v63 (F := Ideal) x co ao w g wg bg we be (ix2 r l)
    = gateAt (gl x co ao w g wg bg r) (el x co ao w g we be r) l := by
  have e56 : ∀ q : Fin 2, val_main_v56 (F := Ideal) x co ao w g wg bg we be (ix2 r q)
      = Ideal.div (val_main_v50 (F := Ideal) x co ao w g wg bg we be (ix2 r q)) (∑ k : Fin 2, val_main_v50 (F := Ideal) x co ao w g wg bg we be (ix2 r k))
        * val_main_v35 (F := Ideal) x co ao w g wg bg (ix2 r 0) := fun q => by
    unfold val_main_v56 val_main_v55 val_main_v54 val_main_v53 val_main_v52 val_main_v51 val_main_cst_9
    generalize val_main_v50 (F := Ideal) x co ao w g wg bg we be = z
    generalize val_main_v35 (F := Ideal) x co ao w g wg bg = y
    pointwise
  have e63 : val_main_v63 (F := Ideal) x co ao w g wg bg we be (ix2 r l)
      = if h : l.val < 2 then val_main_v56 (F := Ideal) x co ao w g wg bg we be (ix2 r ⟨l.val, h⟩) else 0 := by
    unfold val_main_v63 val_main_call2_v0 val_main_c_10
    generalize val_main_v56 (F := Ideal) x co ao w g wg bg we be = y
    pointwise
    refine dite_congr rfl (fun _ => rfl) fun _ => ?_
    show (((0#32).toInt : ℝ) : EReal) = 0
    simp
  obtain ⟨t, ht, et⟩ := ratio_real x co ao w g wg bg we be he r
  obtain ⟨s, es⟩ := share_real x co ao w g wg bg hg r
  have h1 : (0 : ℝ) < 1 + t := by linarith
  have ed : (1 : EReal) + (t : EReal) = ((1 + t : ℝ) : EReal) := by rw [EReal.coe_add, EReal.coe_one]
  rw [e63]
  unfold gateAt
  simp only [e56, two_exp x co ao w g wg bg we be he, group_share x co ao w g wg bg hg, Fin.sum_univ_two]
  have et' : ratio (el x co ao w g we be r (best (gl x co ao w g wg bg r))) = (t : EReal) := et
  rw [et', es]
  show (if h : l.val < 2 then Ideal.div (if l.val = 0 then 1 else (t : EReal)) (1 + (t : EReal)) * (s : EReal) else 0) = _
  rw [ed]
  by_cases h0 : l.val = 0
  · rw [dif_pos (by omega), if_pos h0, if_pos h0, div_real _ _ h1, div_real _ _ h1, one_mul, mul_comm]
  · by_cases h2 : l.val = 1
    · rw [dif_pos (by omega), if_neg h0, if_neg h0, if_pos h2, div_real _ _ h1, div_real _ _ h1, mul_right_comm, mul_comm (t : EReal)]
    · rw [dif_neg (by omega), if_neg h0, if_neg h2]

end

end Cert.Proof.Router.Ref

end
-- ==== Proof.Router.Claims.lean ====
module

public import proofs.«01_k».proof.Proof.Router.Array
public import proofs.«01_k».proof.Proof.Router.RefGate
public import proofs.«01_k».proof.Proof.Attn.Claims
public import proofs.«01_k».proof.Proof.Gen.Router
public import proofs.«01_k».proof.Proof.Gen.RouterIdeal
public import Idealize.ShloMosaic.Lib.Quiescent

@[expose] public section

/-! The claims about the router: the same run as the output projection's, and the two equal results. -/

set_option maxRecDepth 16384

noncomputable section

namespace Cert.Proof.Router

open Idealize.ShloMosaic Idealize.ShloMosaic.TcCoe Idealize.SL.Sem

/-- The shapes the precondition spreads its bound to. -/
theorem preFacts : Cert.Pre_finite4.Facts where
  bcast_S_S2048 := by decide
  bcast_S_S2048x8 := by decide
  bcast_S_S8 := by decide
  bcast_S_S2048x64 := by decide
  bcast_S_S64 := by decide

/-- The programs have the output projection's text: their body tables are its. -/
theorem body_bits {F : FTy → Type} [FloatOps F] : Cert.Router.defs₀ (F := F) = Cert.OutProjIdeal.defs₀ (F := F) := by
  unfold Cert.Router.defs₀ Cert.OutProjIdeal.defs₀
  refine congrArg Defs.onTc (funext fun l => funext fun x => ?_)
  match l, x with
  | ⟨0, _⟩, (t, s) => rfl

theorem body_ideal {F : FTy → Type} [FloatOps F] : Cert.RouterIdeal.defs₀ (F := F) = Cert.OutProjIdeal.defs₀ (F := F) := by
  unfold Cert.RouterIdeal.defs₀ Cert.OutProjIdeal.defs₀
  refine congrArg Defs.onTc (funext fun l => funext fun x => ?_)
  match l, x with
  | ⟨0, _⟩, (t, s) => rfl

theorem defs_bits {F : FTy → Type} [FloatOps F] : Cert.Router.defs (F := F) = Cert.OutProjIdeal.defs (F := F) :=
  congrArg (Pipeline.defs Cert.OutProjIdeal.pcfgs) body_bits

theorem defs_ideal {F : FTy → Type} [FloatOps F] : Cert.RouterIdeal.defs (F := F) = Cert.OutProjIdeal.defs (F := F) :=
  congrArg (Pipeline.defs Cert.OutProjIdeal.pcfgs) body_ideal

theorem frame_bits : Cert.quiescent_Router (hRouter := Cert.Router.Gen.facts) := fun m ρ _ => by
  rw [defs_bits]
  exact (θ_run Cert.OutProjIdeal.defs _ _).mono (fun _ h => h) (OutProj.frame (F := Bits) m ρ)

theorem frame_ideal : Cert.quiescent_RouterIdeal (hRouterIdeal := Cert.RouterIdeal.Gen.facts) := fun m ρ _ => by
  rw [defs_ideal]
  exact (θ_run Cert.OutProjIdeal.defs _ _).mono (fun _ h => h) (OutProj.frame (F := Ideal) m ρ)

/-- The reference's run leaves its arguments, and it has no semaphores. -/
theorem frame_ref : Cert.quiescent_RouterRefIdeal (hRouterRefIdeal := Cert.RouterRefIdeal.Gen.facts) := fun m ρ _ =>
  (θ_run Cert.RouterRefIdeal.defs _ _).mono (fun r h => ⟨fun c => (h c).2.2, sem_eq_zero_of_no_sems (by decide) r.2⟩)
    (Cert.RouterRefIdeal.Value.run (F := Ideal) m ρ)

/-- What the precondition says of the five arguments that it reads. -/
theorem reals [Cert.Pre_finite4.Facts] (m : (ℓ : Loc Cert.RouterIdeal.nD Cert.RouterIdeal.τ Cert.RouterIdeal.sig) → Buf (Elt Ideal) ℓ)
    (h : Cert.Pre_RouterIdeal_finite4 m) (c : Dev Cert.RouterIdeal.nD) : Reals m c := by
  obtain ⟨h0, h1, h2, h3, h4⟩ := h c
  exact ⟨fun i => Attn.real_of_lt _ (congrFun h0 i), fun i => Attn.real_of_lt _ (congrFun h1 i),
    fun i => Attn.real_of_lt _ (congrFun h2 i), fun i => Attn.real_of_lt _ (congrFun h3 i),
    fun i => Attn.real_of_lt _ (congrFun h4 i)⟩

section
variable {m : (ℓ : Loc Cert.OutProjIdeal.nD Cert.OutProjIdeal.τ Cert.OutProjIdeal.sig) → Buf (Elt Ideal) ℓ} {c : Dev Cert.OutProjIdeal.nD}
  (H : Reals m c)
include H

/-- The plain mathematics' experts are the array's. -/
theorem plainE : Cert.RouterRefIdeal.Read.val_main_v62 (F := Ideal) (OutProj.ax m c) (OutProj.aco m c) (OutProj.aao m c) (OutProj.aw m c)
    (OutProj.ag m c) (awg m c) (abg m c) (awe m c) (abe m c) = arrE m c := by
  funext i
  idx_vars i
  exact Ref.experts _ _ _ _ _ _ _ _ _ H.expert i0 i1

/-- The plain mathematics' weights are the array's. -/
theorem plainG : Cert.RouterRefIdeal.Read.val_main_v63 (F := Ideal) (OutProj.ax m c) (OutProj.aco m c) (OutProj.aao m c) (OutProj.aw m c)
    (OutProj.ag m c) (awg m c) (abg m c) (awe m c) (abe m c) = arrG m c := by
  funext i
  idx_vars i
  exact Ref.weights _ _ _ _ _ _ _ _ _ (fun r e => glog_real (H.row r) H.wg H.bg e) H.expert i0 i1
end

set_option maxHeartbeats 2000000 in
/-- At every element the results agree: the same two experts, and the same weights. -/
theorem algebraic [Cert.Pre_finite4.Facts] : Cert.algebraic_RouterIdeal_RouterRefIdeal_pre_finite4 (hRouterIdeal := Cert.RouterIdeal.Gen.facts)
    (hRouterRefIdeal := Cert.RouterRefIdeal.Gen.facts) := by
  intro m ρ m' ρ' hpre hagree
  have H := reals m hpre
  refine ⟨arrE m, arrG m, ?_, ?_⟩
  · rw [defs_ideal]
    exact (θ_run Cert.OutProjIdeal.defs _ _).mono (fun _ h c => ⟨((h.1 c).1 8).trans (final8 (H c)), ((h.1 c).1 9).trans (final9 (H c)),
      OutProj.args_end m _ h.1 c⟩) (OutProj.run (F := Ideal) m ρ)
  refine (θ_run Cert.RouterRefIdeal.defs _ _).mono (fun _ h c => ?_) (Cert.RouterRefIdeal.Value.run (F := Ideal) m' ρ')
  obtain ⟨h0, h1, ha⟩ := h c
  obtain ⟨e0, e1, e2, e3, e4, e5, e6, e7, e8⟩ := hagree c
  have a0 : StableHlo.launchContents m' c (Proc.devRef .tc Cert.RouterRefIdeal.main_arg0) = OutProj.ax m c := e0
  have a1 : StableHlo.launchContents m' c (Proc.devRef .tc Cert.RouterRefIdeal.main_arg1) = OutProj.aco m c := e1
  have a2 : StableHlo.launchContents m' c (Proc.devRef .tc Cert.RouterRefIdeal.main_arg2) = OutProj.aao m c := e2
  have a3 : StableHlo.launchContents m' c (Proc.devRef .tc Cert.RouterRefIdeal.main_arg3) = OutProj.aw m c := e3
  have a4 : StableHlo.launchContents m' c (Proc.devRef .tc Cert.RouterRefIdeal.main_arg4) = OutProj.ag m c := e4
  have a5 : StableHlo.launchContents m' c (Proc.devRef .tc Cert.RouterRefIdeal.main_arg5) = awg m c := e5
  have a6 : StableHlo.launchContents m' c (Proc.devRef .tc Cert.RouterRefIdeal.main_arg6) = abg m c := e6
  have a7 : StableHlo.launchContents m' c (Proc.devRef .tc Cert.RouterRefIdeal.main_arg7) = awe m c := e7
  have a8 : StableHlo.launchContents m' c (Proc.devRef .tc Cert.RouterRefIdeal.main_arg8) = abe m c := e8
  refine ⟨(h0.trans (Cert.RouterRefIdeal.Read.val_main_v62_eq (StableHlo.launchContents m' c))).trans ?_,
    (h1.trans (Cert.RouterRefIdeal.Read.val_main_v63_eq (StableHlo.launchContents m' c))).trans ?_, ha⟩
  · rw [a0, a1, a2, a3, a4, a5, a6, a7, a8]
    exact plainE (H c)
  · rw [a0, a1, a2, a3, a4, a5, a6, a7, a8]
    exact plainG (H c)

end Cert.Proof.Router

end
-- ==== Proof.lean ====
/- The certificate: the attention of the layer, its input projection, its output projection and its router, as their
   kernels compute them, against the same in plain mathematics. The work is in Proof/Attn, Proof/InProj, Proof/OutProj
   and Proof/Router. -/
module

public import proofs.«01_k».proof.Defs
public import proofs.«01_k».proof.Proof.Attn.Claims
public import proofs.«01_k».proof.Proof.InProj.Claims
public import proofs.«01_k».proof.Proof.OutProj.Claims
public import proofs.«01_k».proof.Proof.Router.Claims
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.Router
public import proofs.«01_k».proof.Proof.Gen.RouterIdeal
public import proofs.«01_k».proof.Proof.Gen.RouterRefIdeal
public import proofs.«01_k».proof.Proof.Gen.RouterRefIdeal.Run
public import proofs.«01_k».proof.Proof.Gen.RouterRefIdeal.Read

@[expose] public section

noncomputable section

namespace Cert.Proof

/-- Everything claimed: the runs, the named mask, and the equal results. -/
theorem claim : Cert.Claim :=
  ⟨Cert.Kernel.Gen.facts, Cert.KernelIdeal.Gen.facts, Cert.ReferenceIdeal.Gen.facts, Cert.InProj.Gen.facts,
    Cert.InProjIdeal.Gen.facts, Cert.InProjRefIdeal.Gen.facts, Cert.OutProj.Gen.facts, Cert.OutProjIdeal.Gen.facts,
    Cert.OutProjRefIdeal.Gen.facts, Cert.Router.Gen.facts, Cert.RouterIdeal.Gen.facts, Cert.RouterRefIdeal.Gen.facts,
    Attn.preFacts, Router.preFacts,
    fun m ρ _ => Cert.Kernel.Gen.frame m ρ, fun m ρ _ => Cert.KernelIdeal.Gen.frame m ρ,
    fun m ρ _ => Cert.KernelIdeal.Gen.frame m ρ, Attn.frame_r, fun m ρ _ => Attn.frame_r m ρ trivial,
    InProj.frame_bits, InProj.frame_ideal, InProj.frame_ref,
    OutProj.frame_bits, OutProj.frame_ideal, OutProj.frame_ref,
    Router.frame_bits, Router.frame_ideal, fun m ρ _ => Router.frame_ideal m ρ trivial, Router.frame_ref,
    fun m ρ _ => Router.frame_ref m ρ trivial,
    Idealize.ShloMosaic.IdealRules.named_const.statement Cert.KernelIdeal.κ "mask" .f32 0xF149F2CA#32 ⊥ rfl,
    @Attn.algebraic Attn.preFacts, trivial, InProj.algebraic, trivial, OutProj.algebraic,
    trivial, @Router.algebraic Router.preFacts⟩

end Cert.Proof

end
